-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7)
      ∧ r.2.mem ((c.tc : Thread Cert.Kernel26.nD Cert.Kernel26.τ).loc Cert.Kernel26.main_arg8) = m ((c.tc : Thread Cert.Kernel26.nD Cert.Kernel26.τ).loc Cert.Kernel26.main_arg8)
      ∧ r.2.mem ((c.tc : Thread Cert.Kernel26.nD Cert.Kernel26.τ).loc Cert.Kernel26.main_arg9) = m ((c.tc : Thread Cert.Kernel26.nD Cert.Kernel26.τ).loc Cert.Kernel26.main_arg9)
      ∧ r.2.mem ((c.tc : Thread Cert.Kernel26.nD Cert.Kernel26.τ).loc Cert.Kernel26.main_arg10) = m ((c.tc : Thread Cert.Kernel26.nD Cert.Kernel26.τ).loc Cert.Kernel26.main_arg10)
      ∧ r.2.mem ((c.tc : Thread Cert.Kernel26.nD Cert.Kernel26.τ).loc Cert.Kernel26.main_arg11) = m ((c.tc : Thread Cert.Kernel26.nD Cert.Kernel26.τ).loc Cert.Kernel26.main_arg11))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
      ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
      ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9)
      ∧ r.2.mem ((c.tc : Thread Cert.Kernel26Ideal.nD Cert.Kernel26Ideal.τ).loc Cert.Kernel26Ideal.main_arg10) = m ((c.tc : Thread Cert.Kernel26Ideal.nD Cert.Kernel26Ideal.τ).loc Cert.Kernel26Ideal.main_arg10)
      ∧ r.2.mem ((c.tc : Thread Cert.Kernel26Ideal.nD Cert.Kernel26Ideal.τ).loc Cert.Kernel26Ideal.main_arg11) = m ((c.tc : Thread Cert.Kernel26Ideal.nD Cert.Kernel26Ideal.τ).loc Cert.Kernel26Ideal.main_arg11))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8)
      ∧ r.2.mem ((c.tc : Thread Cert.Reference26Ideal.nD Cert.Reference26Ideal.τ).loc Cert.Reference26Ideal.main_arg9) = m ((c.tc : Thread Cert.Reference26Ideal.nD Cert.Reference26Ideal.τ).loc Cert.Reference26Ideal.main_arg9)
      ∧ r.2.mem ((c.tc : Thread Cert.Reference26Ideal.nD Cert.Reference26Ideal.τ).loc Cert.Reference26Ideal.main_arg10) = m ((c.tc : Thread Cert.Reference26Ideal.nD Cert.Reference26Ideal.τ).loc Cert.Reference26Ideal.main_arg10)
      ∧ r.2.mem ((c.tc : Thread Cert.Reference26Ideal.nD Cert.Reference26Ideal.τ).loc Cert.Reference26Ideal.main_arg11) = m ((c.tc : Thread Cert.Reference26Ideal.nD Cert.Reference26Ideal.τ).loc Cert.Reference26Ideal.main_arg11))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)) (v3 : (c : Dev Cert.Kernel19Ideal.nD) → Buf (Elt Ideal) ((c.tc : Thread Cert.Kernel19Ideal.nD Cert.Kernel19Ideal.τ).loc Cert.Kernel19Ideal.main_v4_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_v4_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v9) = v2 c
          ∧ r.2.mem ((c.tc : Thread Cert.Reference19Ideal.nD Cert.Reference19Ideal.τ).loc Cert.Reference19Ideal.main_v15) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v2_0)) (v1 : (c : Dev Cert.Kernel20Ideal.nD) → Buf (Elt Ideal) ((c.tc : Thread Cert.Kernel20Ideal.nD Cert.Kernel20Ideal.τ).loc Cert.Kernel20Ideal.main_v2_1)) (v2 : (c : Dev Cert.Kernel20Ideal.nD) → Buf (Elt Ideal) ((c.tc : Thread Cert.Kernel20Ideal.nD Cert.Kernel20Ideal.τ).loc Cert.Kernel20Ideal.main_v2_2)) (v3 : (c : Dev Cert.Kernel20Ideal.nD) → Buf (Elt Ideal) ((c.tc : Thread Cert.Kernel20Ideal.nD Cert.Kernel20Ideal.τ).loc Cert.Kernel20Ideal.main_v2_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2_0) = v0 c
          ∧ r.2.mem ((c.tc : Thread Cert.Kernel20Ideal.nD Cert.Kernel20Ideal.τ).loc Cert.Kernel20Ideal.main_v2_1) = v1 c
          ∧ r.2.mem ((c.tc : Thread Cert.Kernel20Ideal.nD Cert.Kernel20Ideal.τ).loc Cert.Kernel20Ideal.main_v2_2) = v2 c
          ∧ r.2.mem ((c.tc : Thread Cert.Kernel20Ideal.nD Cert.Kernel20Ideal.τ).loc Cert.Kernel20Ideal.main_v2_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)) (v3 : (c : Dev Cert.Kernel22Ideal.nD) → Buf (Elt Ideal) ((c.tc : Thread Cert.Kernel22Ideal.nD Cert.Kernel22Ideal.τ).loc Cert.Kernel22Ideal.main_v4_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_v4_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_v28) = v1 c
          ∧ r.2.mem ((c.tc : Thread Cert.Reference22Ideal.nD Cert.Reference22Ideal.τ).loc Cert.Reference22Ideal.main_v9) = v2 c
          ∧ r.2.mem ((c.tc : Thread Cert.Reference22Ideal.nD Cert.Reference22Ideal.τ).loc Cert.Reference22Ideal.main_v15) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)) (v3 : (c : Dev Cert.Kernel23Ideal.nD) → Buf (Elt Ideal) ((c.tc : Thread Cert.Kernel23Ideal.nD Cert.Kernel23Ideal.τ).loc Cert.Kernel23Ideal.main_v4_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_v4_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_v28) = v1 c
          ∧ r.2.mem ((c.tc : Thread Cert.Reference23Ideal.nD Cert.Reference23Ideal.τ).loc Cert.Reference23Ideal.main_v9) = v2 c
          ∧ r.2.mem ((c.tc : Thread Cert.Reference23Ideal.nD Cert.Reference23Ideal.τ).loc Cert.Reference23Ideal.main_v15) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)) (v3 : (c : Dev Cert.Kernel24Ideal.nD) → Buf (Elt Ideal) ((c.tc : Thread Cert.Kernel24Ideal.nD Cert.Kernel24Ideal.τ).loc Cert.Kernel24Ideal.main_v4_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_v4_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v9) = v2 c
          ∧ r.2.mem ((c.tc : Thread Cert.Reference24Ideal.nD Cert.Reference24Ideal.τ).loc Cert.Reference24Ideal.main_v15) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)
      ∧ m' ((c.tc : Thread Cert.Reference26Ideal.nD Cert.Reference26Ideal.τ).loc Cert.Reference26Ideal.main_arg8) = m ((c.tc : Thread Cert.Kernel26Ideal.nD Cert.Kernel26Ideal.τ).loc Cert.Kernel26Ideal.main_arg8)
      ∧ m' ((c.tc : Thread Cert.Reference26Ideal.nD Cert.Reference26Ideal.τ).loc Cert.Reference26Ideal.main_arg9) = m ((c.tc : Thread Cert.Kernel26Ideal.nD Cert.Kernel26Ideal.τ).loc Cert.Kernel26Ideal.main_arg9)
      ∧ m' ((c.tc : Thread Cert.Reference26Ideal.nD Cert.Reference26Ideal.τ).loc Cert.Reference26Ideal.main_arg10) = m ((c.tc : Thread Cert.Kernel26Ideal.nD Cert.Kernel26Ideal.τ).loc Cert.Kernel26Ideal.main_arg10)
      ∧ m' ((c.tc : Thread Cert.Reference26Ideal.nD Cert.Reference26Ideal.τ).loc Cert.Reference26Ideal.main_arg11) = m ((c.tc : Thread Cert.Kernel26Ideal.nD Cert.Kernel26Ideal.τ).loc Cert.Kernel26Ideal.main_arg11)) →
    ∃ (v0 : (c : Dev Cert.Kernel26Ideal.nD) → Buf (Elt Ideal) ((c.tc : Thread Cert.Kernel26Ideal.nD Cert.Kernel26Ideal.τ).loc Cert.Kernel26Ideal.main_v21_0)) (v1 : (c : Dev Cert.Kernel26Ideal.nD) → Buf (Elt Ideal) ((c.tc : Thread Cert.Kernel26Ideal.nD Cert.Kernel26Ideal.τ).loc Cert.Kernel26Ideal.main_v21_1)) (v2 : (c : Dev Cert.Kernel26Ideal.nD) → Buf (Elt Ideal) ((c.tc : Thread Cert.Kernel26Ideal.nD Cert.Kernel26Ideal.τ).loc Cert.Kernel26Ideal.main_v21_2)) (v3 : (c : Dev Cert.Kernel26Ideal.nD) → Buf (Elt Ideal) ((c.tc : Thread Cert.Kernel26Ideal.nD Cert.Kernel26Ideal.τ).loc Cert.Kernel26Ideal.main_v21_3)) (v4 : (c : Dev Cert.Kernel26Ideal.nD) → Buf (Elt Ideal) ((c.tc : Thread Cert.Kernel26Ideal.nD Cert.Kernel26Ideal.τ).loc Cert.Kernel26Ideal.main_v21_4)) (v5 : (c : Dev Cert.Kernel26Ideal.nD) → Buf (Elt Ideal) ((c.tc : Thread Cert.Kernel26Ideal.nD Cert.Kernel26Ideal.τ).loc Cert.Kernel26Ideal.main_v21_5)) (v6 : (c : Dev Cert.Kernel26Ideal.nD) → Buf (Elt Ideal) ((c.tc : Thread Cert.Kernel26Ideal.nD Cert.Kernel26Ideal.τ).loc Cert.Kernel26Ideal.main_v21_6)) (v7 : (c : Dev Cert.Kernel26Ideal.nD) → Buf (Elt Ideal) ((c.tc : Thread Cert.Kernel26Ideal.nD Cert.Kernel26Ideal.τ).loc Cert.Kernel26Ideal.main_v21_7)) (v8 : (c : Dev Cert.Kernel26Ideal.nD) → Buf (Elt Ideal) ((c.tc : Thread Cert.Kernel26Ideal.nD Cert.Kernel26Ideal.τ).loc Cert.Kernel26Ideal.main_v21_8)) (v9 : (c : Dev Cert.Kernel26Ideal.nD) → Buf (Elt Ideal) ((c.tc : Thread Cert.Kernel26Ideal.nD Cert.Kernel26Ideal.τ).loc Cert.Kernel26Ideal.main_v21_9)) (v10 : (c : Dev Cert.Kernel26Ideal.nD) → Buf (Elt Ideal) ((c.tc : Thread Cert.Kernel26Ideal.nD Cert.Kernel26Ideal.τ).loc Cert.Kernel26Ideal.main_v21_10)) (v11 : (c : Dev Cert.Kernel26Ideal.nD) → Buf (Elt Ideal) ((c.tc : Thread Cert.Kernel26Ideal.nD Cert.Kernel26Ideal.τ).loc Cert.Kernel26Ideal.main_v21_11)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v21_0) = v0 c
          ∧ r.2.mem ((c.tc : Thread Cert.Kernel26Ideal.nD Cert.Kernel26Ideal.τ).loc Cert.Kernel26Ideal.main_v21_1) = v1 c
          ∧ r.2.mem ((c.tc : Thread Cert.Kernel26Ideal.nD Cert.Kernel26Ideal.τ).loc Cert.Kernel26Ideal.main_v21_2) = v2 c
          ∧ r.2.mem ((c.tc : Thread Cert.Kernel26Ideal.nD Cert.Kernel26Ideal.τ).loc Cert.Kernel26Ideal.main_v21_3) = v3 c
          ∧ r.2.mem ((c.tc : Thread Cert.Kernel26Ideal.nD Cert.Kernel26Ideal.τ).loc Cert.Kernel26Ideal.main_v21_4) = v4 c
          ∧ r.2.mem ((c.tc : Thread Cert.Kernel26Ideal.nD Cert.Kernel26Ideal.τ).loc Cert.Kernel26Ideal.main_v21_5) = v5 c
          ∧ r.2.mem ((c.tc : Thread Cert.Kernel26Ideal.nD Cert.Kernel26Ideal.τ).loc Cert.Kernel26Ideal.main_v21_6) = v6 c
          ∧ r.2.mem ((c.tc : Thread Cert.Kernel26Ideal.nD Cert.Kernel26Ideal.τ).loc Cert.Kernel26Ideal.main_v21_7) = v7 c
          ∧ r.2.mem ((c.tc : Thread Cert.Kernel26Ideal.nD Cert.Kernel26Ideal.τ).loc Cert.Kernel26Ideal.main_v21_8) = v8 c
          ∧ r.2.mem ((c.tc : Thread Cert.Kernel26Ideal.nD Cert.Kernel26Ideal.τ).loc Cert.Kernel26Ideal.main_v21_9) = v9 c
          ∧ r.2.mem ((c.tc : Thread Cert.Kernel26Ideal.nD Cert.Kernel26Ideal.τ).loc Cert.Kernel26Ideal.main_v21_10) = v10 c
          ∧ r.2.mem ((c.tc : Thread Cert.Kernel26Ideal.nD Cert.Kernel26Ideal.τ).loc Cert.Kernel26Ideal.main_v21_11) = v11 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
          ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
          ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9)
          ∧ r.2.mem ((c.tc : Thread Cert.Kernel26Ideal.nD Cert.Kernel26Ideal.τ).loc Cert.Kernel26Ideal.main_arg10) = m ((c.tc : Thread Cert.Kernel26Ideal.nD Cert.Kernel26Ideal.τ).loc Cert.Kernel26Ideal.main_arg10)
          ∧ r.2.mem ((c.tc : Thread Cert.Kernel26Ideal.nD Cert.Kernel26Ideal.τ).loc Cert.Kernel26Ideal.main_arg11) = m ((c.tc : Thread Cert.Kernel26Ideal.nD Cert.Kernel26Ideal.τ).loc Cert.Kernel26Ideal.main_arg11))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v30) = v1 c
          ∧ r.2.mem ((c.tc : Thread Cert.Reference26Ideal.nD Cert.Reference26Ideal.τ).loc Cert.Reference26Ideal.main_v11) = v2 c
          ∧ r.2.mem ((c.tc : Thread Cert.Reference26Ideal.nD Cert.Reference26Ideal.τ).loc Cert.Reference26Ideal.main_v17) = v3 c
          ∧ r.2.mem ((c.tc : Thread Cert.Reference26Ideal.nD Cert.Reference26Ideal.τ).loc Cert.Reference26Ideal.main_v31) = v4 c
          ∧ r.2.mem ((c.tc : Thread Cert.Reference26Ideal.nD Cert.Reference26Ideal.τ).loc Cert.Reference26Ideal.main_v61) = v5 c
          ∧ r.2.mem ((c.tc : Thread Cert.Reference26Ideal.nD Cert.Reference26Ideal.τ).loc Cert.Reference26Ideal.main_v42) = v6 c
          ∧ r.2.mem ((c.tc : Thread Cert.Reference26Ideal.nD Cert.Reference26Ideal.τ).loc Cert.Reference26Ideal.main_v48) = v7 c
          ∧ r.2.mem ((c.tc : Thread Cert.Reference26Ideal.nD Cert.Reference26Ideal.τ).loc Cert.Reference26Ideal.main_v62) = v8 c
          ∧ r.2.mem ((c.tc : Thread Cert.Reference26Ideal.nD Cert.Reference26Ideal.τ).loc Cert.Reference26Ideal.main_v92) = v9 c
          ∧ r.2.mem ((c.tc : Thread Cert.Reference26Ideal.nD Cert.Reference26Ideal.τ).loc Cert.Reference26Ideal.main_v73) = v10 c
          ∧ r.2.mem ((c.tc : Thread Cert.Reference26Ideal.nD Cert.Reference26Ideal.τ).loc Cert.Reference26Ideal.main_v79) = v11 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7)
          ∧ r.2.mem ((c.tc : Thread Cert.Reference26Ideal.nD Cert.Reference26Ideal.τ).loc Cert.Reference26Ideal.main_arg8) = m' ((c.tc : Thread Cert.Reference26Ideal.nD Cert.Reference26Ideal.τ).loc Cert.Reference26Ideal.main_arg8)
          ∧ r.2.mem ((c.tc : Thread Cert.Reference26Ideal.nD Cert.Reference26Ideal.τ).loc Cert.Reference26Ideal.main_arg9) = m' ((c.tc : Thread Cert.Reference26Ideal.nD Cert.Reference26Ideal.τ).loc Cert.Reference26Ideal.main_arg9)
          ∧ r.2.mem ((c.tc : Thread Cert.Reference26Ideal.nD Cert.Reference26Ideal.τ).loc Cert.Reference26Ideal.main_arg10) = m' ((c.tc : Thread Cert.Reference26Ideal.nD Cert.Reference26Ideal.τ).loc Cert.Reference26Ideal.main_arg10)
          ∧ r.2.mem ((c.tc : Thread Cert.Reference26Ideal.nD Cert.Reference26Ideal.τ).loc Cert.Reference26Ideal.main_arg11) = m' ((c.tc : Thread Cert.Reference26Ideal.nD Cert.Reference26Ideal.τ).loc Cert.Reference26Ideal.main_arg11))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v13) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v22) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v4)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v53) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Kernel.lean ====
abbrev S4096x10368 : Shape := ⟨2, ![4096, 10368]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S1x1024 : Shape := ⟨2, ![1, 1024]⟩
abbrev S1024x128 : Shape := ⟨2, ![1024, 128]⟩
abbrev S128x8 : Shape := ⟨2, ![128, 8]⟩
abbrev S4096x2048 : Shape := ⟨2, ![4096, 2048]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩

abbrev nBuf : Space → Nat
  | .hbm => 15
  | .vmem => 14
  | .smem => 0
  | _ => 0

abbrev bufTy : (tb : Table) → Fin (tcTables nBuf tb) → BufTy
  | .hbm, ⟨0, _⟩ => ⟨S4096x10368, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1024x128, .f32⟩
  | .hbm, ⟨9, _⟩ => ⟨S128x8, .f32⟩
  | .hbm, ⟨10, _⟩ => ⟨S4096x2048, .bf16⟩
  | .hbm, ⟨11, _⟩ => ⟨S1x1024, .f32⟩
  | .hbm, ⟨12, _⟩ => ⟨S1x1024, .f32⟩
  | .hbm, ⟨13, _⟩ => ⟨S1024x128, .f32⟩
  | .hbm, ⟨14, _⟩ => ⟨S128x8, .f32⟩
  | .local _ .vmem, ⟨0, _⟩ => ⟨S128x2048, .f32⟩
  | .local _ .vmem, ⟨1, _⟩ => ⟨S128x2048, .f32⟩
  | .local _ .vmem, ⟨2, _⟩ => ⟨S1x1024, .f32⟩
  | .local _ .vmem, ⟨3, _⟩ => ⟨S1x1024, .f32⟩
  | .local _ .vmem, ⟨4, _⟩ => ⟨S1024x128, .f32⟩
  | .local _ .vmem, ⟨5, _⟩ => ⟨S128x8, .f32⟩
  | .local _ .vmem, ⟨6, _⟩ => ⟨S128x1024, .f32⟩
  | .local _ .vmem, ⟨7, _⟩ => ⟨S128x1024, .f32⟩
  | .local _ .vmem, ⟨8, _⟩ => ⟨S128x2048, .bf16⟩
  | .local _ .vmem, ⟨9, _⟩ => ⟨S128x2048, .bf16⟩
  | .local _ .vmem, ⟨10, _⟩ => ⟨S1x1024, .f32⟩
  | .local _ .vmem, ⟨11, _⟩ => ⟨S1x1024, .f32⟩
  | .local _ .vmem, ⟨12, _⟩ => ⟨S1024x128, .f32⟩
  | .local _ .vmem, ⟨13, _⟩ => ⟨S128x8, .f32⟩
  | _, _ => ⟨S4096x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x10368 : Shape := ⟨2, ![4096, 10368]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S4096x2048 : Shape := ⟨2, ![4096, 2048]⟩
abbrev S1x4096x2048 : Shape := ⟨3, ![1, 4096, 2048]⟩
abbrev S_ : Shape := ⟨0, ![]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S8x1x32x128x128 : Shape := ⟨5, ![8, 1, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x128x8 : Shape := ⟨3, ![1, 128, 8]⟩
abbrev S1x1024 : Shape := ⟨2, ![1, 1024]⟩
abbrev S4096 : Shape := ⟨1, ![4096]⟩
abbrev S1024x128 : Shape := ⟨2, ![1024, 128]⟩

abbrev nBuf : Space → Nat
  | .hbm => 183
  | .vmem => 0
  | .smem => 0
  | _ => 0

abbrev hbmTy0_0 (i : Nat) : BufTy := match i % 128 with
  | 0 => ⟨S4096x10368, .f32⟩
  | 1 => ⟨S1024, .f32⟩
  | 2 => ⟨S1024, .f32⟩
  | 3 => ⟨S8x128x128, .f32⟩
  | 4 => ⟨S8x128, .f32⟩
  | 5 => ⟨S4096x1024, .f32⟩
  | 6 => ⟨S4096x2048, .f32⟩
  | 7 => ⟨S1x4096x2048, .f32⟩
  | 8 => ⟨S1x4096x2048, .f32⟩
  | 9 => ⟨S1x4096x2048, .f32⟩
  | 10 => ⟨S1x4096x2048, .f32⟩
  | 11 => ⟨S_, .f32⟩
  | 12 => ⟨S1x4096x2048, .f32⟩
  | 13 => ⟨S1x4096x2048, .f32⟩
  | 14 => ⟨S_, .f32⟩
  | 15 => ⟨S1x4096x2048, .f32⟩
  | 16 => ⟨S1x4096x2048, .f32⟩
  | 17 => ⟨S1x4096x2048, .f32⟩
  | 18 => ⟨S_, .f32⟩
  | 19 => ⟨S1x4096x2048, .f32⟩
  | 20 => ⟨S1x4096x2048, .f32⟩
  | 21 => ⟨S1x4096x2048, .f32⟩
  | 22 => ⟨S_, .f32⟩
  | 23 => ⟨S1x4096x2048, .f32⟩
  | 24 => ⟨S1x4096x2048, .f32⟩
  | 25 => ⟨S_, .f32⟩
  | 26 => ⟨S1x4096x2048, .f32⟩
  | 27 => ⟨S1x4096x2048, .f32⟩
  | 28 => ⟨S1x4096x2048, .f32⟩
  | 29 => ⟨S_, .f32⟩
  | 30 => ⟨S1x4096x2048, .f32⟩
  | 31 => ⟨S1x4096x2048, .f32⟩
  | 32 => ⟨S_, .f32⟩
  | 33 => ⟨S1x4096x2048, .f32⟩
  | 34 => ⟨S1x4096x2048, .f32⟩
  | 35 => ⟨S1x4096x2048, .f32⟩
  | 36 => ⟨S1x4096x1024, .f32⟩
  | 37 => ⟨S1x4096x1024, .f32⟩
  | 38 => ⟨S_, .f32⟩
  | 39 => ⟨S1x4096, .f32⟩
  | 40 => ⟨S1x4096x1, .f32⟩
  | 41 => ⟨S_, .f32⟩
  | 42 => ⟨S1x4096x1, .f32⟩
  | 43 => ⟨S1x4096x1, .f32⟩
  | 44 => ⟨S1x4096x1024, .f32⟩
  | 45 => ⟨S1x4096x1024, .f32⟩
  | 46 => ⟨S1x4096x1024, .f32⟩
  | 47 => ⟨S_, .f32⟩
  | 48 => ⟨S1x4096, .f32⟩
  | 49 => ⟨S1x4096x1, .f32⟩
  | 50 => ⟨S_, .f32⟩
  | 51 => ⟨S1x4096x1, .f32⟩
  | 52 => ⟨S1x4096x1, .f32⟩
  | 53 => ⟨S_, .f32⟩
  | 54 => ⟨S1x4096x1, .f32⟩
  | 55 => ⟨S1x4096x1, .f32⟩
  | 56 => ⟨S1x4096x1, .f32⟩
  | 57 => ⟨S1x4096x1, .f32⟩
  | 58 => ⟨S_, .f32⟩
  | 59 => ⟨S1x4096x1, .f32⟩
  | 60 => ⟨S1x4096x1, .f32⟩
  | 61 => ⟨S1x4096x1024, .f32⟩
  | 62 => ⟨S1x4096x1024, .f32⟩
  | 63 => ⟨S1x1x1024, .f32⟩
  | 64 => ⟨S1x4096x1024, .f32⟩
  | 65 => ⟨S1x4096x1024, .f32⟩
  | 66 => ⟨S1x1x1024, .f32⟩
  | 67 => ⟨S1x4096x1024, .f32⟩
  | 68 => ⟨S1x4096x1024, .f32⟩
  | 69 => ⟨S1x32x128x8x128, .f32⟩
  | 70 => ⟨S_, .i1⟩
  | 71 => ⟨S128x128, .i1⟩
  | 72 => ⟨S128x128, .i32⟩
  | 73 => ⟨S_, .i32⟩
  | 74 => ⟨S128x128, .i32⟩
  | 75 => ⟨S128x128, .i32⟩
  | 76 => ⟨S128x128, .i32⟩
  | 77 => ⟨S128x128, .i1⟩
  | 78 => ⟨S_, .i1⟩
  | 79 => ⟨S128x128, .i1⟩
  | 80 => ⟨S128x128, .i1⟩
  | 81 => ⟨S_, .i32⟩
  | 82 => ⟨S_, .f32⟩
  | 83 => ⟨S8x128x128, .i1⟩
  | 84 => ⟨S8x128x128, .f32⟩
  | 85 => ⟨S8x128x128, .f32⟩
  | 86 => ⟨S_, .f32⟩
  | 87 => ⟨S8x128x128, .f32⟩
  | 88 => ⟨S8x1x32x128x128, .f32⟩
  | 89 => ⟨S1x32x128x8x128, .f32⟩
  | 90 => ⟨S128x8, .f32⟩
  | 91 => ⟨S128x8x1, .f32⟩
  | 92 => ⟨S1x1x128x8x1, .f32⟩
  | 93 => ⟨S1x32x128x8x128, .f32⟩
  | 94 => ⟨S1x32x128x8x128, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x4096x1024, .f32⟩
  | 100 => ⟨S1x32x128x8x128, .f32⟩
  | 101 => ⟨S_, .f32⟩
  | 102 => ⟨S1x128x8, .f32⟩
  | 103 => ⟨S1x1x128x8x1, .f32⟩
  | 104 => ⟨S_, .f32⟩
  | 105 => ⟨S128x8, .f32⟩
  | 106 => ⟨S128x8x1, .f32⟩
  | 107 => ⟨S_, .f32⟩
  | 108 => ⟨S128x8, .f32⟩
  | 109 => ⟨S8x128, .f32⟩
  | 110 => ⟨S8x1x32x128x128, .f32⟩
  | 111 => ⟨S8x128x128, .f32⟩
  | 112 => ⟨S8x1x32x128x128, .f32⟩
  | 113 => ⟨S1x32x128x8x128, .f32⟩
  | 114 => ⟨S_, .f32⟩
  | 115 => ⟨S8x128x128, .f32⟩
  | 116 => ⟨S8x128x128, .f32⟩
  | 117 => ⟨S1x4096x1024, .f32⟩
  | 118 => ⟨S_, .f32⟩
  | 119 => ⟨S1x1024, .f32⟩
  | 120 => ⟨S1x1x1024, .f32⟩
  | 121 => ⟨S_, .f32⟩
  | 122 => ⟨S1024, .f32⟩
  | 123 => ⟨S1x4096x1024, .f32⟩
  | 124 => ⟨S_, .f32⟩
  | 125 => ⟨S1x1024, .f32⟩
  | 126 => ⟨S1x1x1024, .f32⟩
  | 127 => ⟨S1x4096x1024, .f32⟩
  | _ => ⟨S4096x10368, .f32⟩

abbrev hbmTy0_1 (i : Nat) : BufTy := match i % 128 with
  | 0 => ⟨S1x4096x1024, .f32⟩
  | 1 => ⟨S_, .f32⟩
  | 2 => ⟨S1024, .f32⟩
  | 3 => ⟨S1x4096x1024, .f32⟩
  | 4 => ⟨S_, .f32⟩
  | 5 => ⟨S1x4096, .f32⟩
  | 6 => ⟨S1x4096x1, .f32⟩
  | 7 => ⟨S1x4096x1024, .f32⟩
  | 8 => ⟨S1x4096x1024, .f32⟩
  | 9 => ⟨S1x4096x1, .f32⟩
  | 10 => ⟨S_, .f32⟩
  | 11 => ⟨S1x4096x1, .f32⟩
  | 12 => ⟨S1x4096x1, .f32⟩
  | 13 => ⟨S_, .f32⟩
  | 14 => ⟨S4096, .f32⟩
  | 15 => ⟨S1x4096, .f32⟩
  | 16 => ⟨S1x4096x1024, .f32⟩
  | 17 => ⟨S1x4096x1024, .f32⟩
  | 18 => ⟨S1x4096x1024, .f32⟩
  | 19 => ⟨S1x4096x1024, .f32⟩
  | 20 => ⟨S1x4096x1024, .f32⟩
  | 21 => ⟨S1x4096x1024, .f32⟩
  | 22 => ⟨S_, .f32⟩
  | 23 => ⟨S1x4096, .f32⟩
  | 24 => ⟨S1x4096x1, .f32⟩
  | 25 => ⟨S_, .f32⟩
  | 26 => ⟨S1x4096x1, .f32⟩
  | 27 => ⟨S1x4096x1, .f32⟩
  | 28 => ⟨S_, .f32⟩
  | 29 => ⟨S4096, .f32⟩
  | 30 => ⟨S1x4096, .f32⟩
  | 31 => ⟨S1x4096x1024, .f32⟩
  | 32 => ⟨S1x4096x1024, .f32⟩
  | 33 => ⟨S1x4096x2048, .f32⟩
  | 34 => ⟨S1x4096x2048, .f32⟩
  | 35 => ⟨S1x4096x2048, .f32⟩
  | 36 => ⟨S_, .f32⟩
  | 37 => ⟨S1x4096x2048, .f32⟩
  | 38 => ⟨S1x4096x2048, .f32⟩
  | 39 => ⟨S1x4096x2048, .f32⟩
  | 40 => ⟨S_, .f32⟩
  | 41 => ⟨S1x4096x2048, .f32⟩
  | 42 => ⟨S1x4096x2048, .f32⟩
  | 43 => ⟨S1x4096x2048, .f32⟩
  | 44 => ⟨S_, .f32⟩
  | 45 => ⟨S1x4096x2048, .f32⟩
  | 46 => ⟨S1x4096x2048, .f32⟩
  | 47 => ⟨S1x4096x2048, .f32⟩
  | 48 => ⟨S1x4096x2048, .f32⟩
  | 49 => ⟨S4096x2048, .f32⟩
  | 50 => ⟨S4096x2048, .bf16⟩
  | 51 => ⟨S1x1024, .f32⟩
  | 52 => ⟨S1x1024, .f32⟩
  | 53 => ⟨S1024x128, .f32⟩
  | 54 => ⟨S128x8, .f32⟩
  | _ => ⟨S4096x10368, .f32⟩

abbrev hbmTy (i : Nat) : BufTy := match i / 128 with
  | 0 => hbmTy0_0 i
  | 1 => hbmTy0_1 i
  | _ => ⟨S4096x10368, .f32⟩

abbrev bufTy : (tb : Table) → Fin (tcTables nBuf tb) → BufTy
  | .hbm, ⟨i, _⟩ => hbmTy i
  | _, _ => ⟨S4096x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c : Ref sig .tc := ⟨.hbm, 70, rfl⟩
abbrev main_v51 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_0 : Ref sig .tc := ⟨.hbm, 78, rfl⟩
abbrev main_call0_v5 : Ref sig .tc := ⟨.hbm, 79, rfl⟩
abbrev main_v52 : Ref sig .tc := ⟨.hbm, 80, rfl⟩
abbrev main_c_12 : Ref sig .tc := ⟨.hbm, 81, rfl⟩
abbrev main_call1_v0 : Ref sig .tc := ⟨.hbm, 82, rfl⟩
abbrev main_v53_1 : Ref sig .tc := ⟨.hbm, 83, rfl⟩
abbrev main_call1_v2 : Ref sig .tc := ⟨.hbm, 84, rfl⟩
abbrev main_v53_0 : Ref sig .tc := ⟨.hbm, 85, rfl⟩
abbrev main_call1_cst : Ref sig .tc := ⟨.hbm, 86, rfl⟩
abbrev main_v53_2 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_cst_15 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_call2_cst : Ref sig .tc := ⟨.hbm, 114, rfl⟩
abbrev main_call2_v0 : Ref sig .tc := ⟨.hbm, 115, rfl⟩
abbrev main_v77 : Ref sig .tc := ⟨.hbm, 116, rfl⟩
abbrev main_v78 : Ref sig .tc := ⟨.hbm, 117, rfl⟩
abbrev main_cst_16 : Ref sig .tc := ⟨.hbm, 118, rfl⟩
abbrev main_v79 : Ref sig .tc := ⟨.hbm, 119, rfl⟩
abbrev main_v80 : Ref sig .tc := ⟨.hbm, 120, rfl⟩
abbrev main_cst_17 : Ref sig .tc := ⟨.hbm, 121, rfl⟩
abbrev main_v81 : Ref sig .tc := ⟨.hbm, 122, rfl⟩
abbrev main_v82 : Ref sig .tc := ⟨.hbm, 123, rfl⟩
abbrev main_cst_18 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_19 : Ref sig .tc := ⟨.hbm, 129, rfl⟩
abbrev main_v87 : Ref sig .tc := ⟨.hbm, 130, rfl⟩
abbrev main_v88 : Ref sig .tc := ⟨.hbm, 131, rfl⟩
abbrev main_cst_20 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_21 : Ref sig .tc := ⟨.hbm, 138, rfl⟩
abbrev main_v94 : Ref sig .tc := ⟨.hbm, 139, rfl⟩
abbrev main_v95 : Ref sig .tc := ⟨.hbm, 140, rfl⟩
abbrev main_cst_22 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_cst_24 : Ref sig .tc := ⟨.hbm, 153, rfl⟩
abbrev main_v106 : Ref sig .tc := ⟨.hbm, 154, rfl⟩
abbrev main_v107 : Ref sig .tc := ⟨.hbm, 155, rfl⟩
abbrev main_cst_25 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_26 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_27 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_28 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .f32⟩
  | .hbm, ⟨3, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S1024x4096, .bf16⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S10256x1024 : Shape := ⟨2, ![10256, 1024]⟩
abbrev S1024x1024 : Shape := ⟨2, ![1024, 1024]⟩
abbrev S2048x1024 : Shape := ⟨2, ![2048, 1024]⟩
abbrev S16x1024 : Shape := ⟨2, ![16, 1024]⟩
abbrev S3072x1024 : Shape := ⟨2, ![3072, 1024]⟩
abbrev S_ : Shape := ⟨0, ![]⟩
abbrev S112x1024 : Shape := ⟨2, ![112, 1024]⟩
abbrev S10368x1024 : Shape := ⟨2, ![10368, 1024]⟩
abbrev S4096x10368 : Shape := ⟨2, ![4096, 10368]⟩
abbrev S1152x1024 : Shape := ⟨2, ![1152, 1024]⟩
abbrev S2048x1152 : Shape := ⟨2, ![2048, 1152]⟩

abbrev nBuf : Space → Nat
  | .hbm => 11
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S10256x1024, .bf16⟩
  | .hbm, ⟨2, _⟩ => ⟨S4096x1024, .bf16⟩
  | .hbm, ⟨3, _⟩ => ⟨S1024x1024, .bf16⟩
  | .hbm, ⟨4, _⟩ => ⟨S2048x1024, .bf16⟩
  | .hbm, ⟨5, _⟩ => ⟨S16x1024, .bf16⟩
  | .hbm, ⟨6, _⟩ => ⟨S3072x1024, .bf16⟩
  | .hbm, ⟨7, _⟩ => ⟨S_, .bf16⟩
  | .hbm, ⟨8, _⟩ => ⟨S112x1024, .bf16⟩
  | .hbm, ⟨9, _⟩ => ⟨S10368x1024, .bf16⟩
  | .hbm, ⟨10, _⟩ => ⟨S4096x10368, .f32⟩
  | .local _ .vmem, ⟨0, _⟩ => ⟨S2048x1024, .bf16⟩
  | .local _ .vmem, ⟨1, _⟩ => ⟨S2048x1024, .bf16⟩
  | .local _ .vmem, ⟨2, _⟩ => ⟨S1152x1024, .bf16⟩
  | .local _ .vmem, ⟨3, _⟩ => ⟨S1152x1024, .bf16⟩
  | .local _ .vmem, ⟨4, _⟩ => ⟨S2048x1152, .f32⟩
  | .local _ .vmem, ⟨5, _⟩ => ⟨S2048x1152, .f32⟩
  | .local _ .vmem, ⟨6, _⟩ => ⟨S2048x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S10256x1024 : Shape := ⟨2, ![10256, 1024]⟩
abbrev S1024x10256 : Shape := ⟨2, ![1024, 10256]⟩
abbrev S4096x10256 : Shape := ⟨2, ![4096, 10256]⟩
abbrev S4096x2048 : Shape := ⟨2, ![4096, 2048]⟩
abbrev S4096x16 : Shape := ⟨2, ![4096, 16]⟩
abbrev S4096x3072 : Shape := ⟨2, ![4096, 3072]⟩
abbrev S_ : Shape := ⟨0, ![]⟩
abbrev S4096x112 : Shape := ⟨2, ![4096, 112]⟩
abbrev S4096x10368 : Shape := ⟨2, ![4096, 10368]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S10256x1024, .bf16⟩
  | .hbm, ⟨2, _⟩ => ⟨S4096x1024, .f32⟩
  | .hbm, ⟨3, _⟩ => ⟨S1024x10256, .bf16⟩
  | .hbm, ⟨4, _⟩ => ⟨S1024x10256, .f32⟩
  | .hbm, ⟨5, _⟩ => ⟨S4096x10256, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x2048, .f32⟩
  | .hbm, ⟨10, _⟩ => ⟨S4096x16, .f32⟩
  | .hbm, ⟨11, _⟩ => ⟨S4096x3072, .f32⟩
  | .hbm, ⟨12, _⟩ => ⟨S_, .f32⟩
  | .hbm, ⟨13, _⟩ => ⟨S4096x112, .f32⟩
  | .hbm, ⟨14, _⟩ => ⟨S4096x10368, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel7.lean ====
abbrev S4096x1024 : Shape := ⟨2, ![4096, 1024]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .bf16⟩
  | .hbm, ⟨4, _⟩ => ⟨S1024x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel9.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x4096 : Shape := ⟨2, ![4096, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel17.lean ====
abbrev S4096x2048 : Shape := ⟨2, ![4096, 2048]⟩
abbrev S4096x1024 : Shape := ⟨2, ![4096, 1024]⟩
abbrev S4096x3072 : Shape := ⟨2, ![4096, 3072]⟩
abbrev S4096x128 : Shape := ⟨2, ![4096, 128]⟩
abbrev S10368x1024 : Shape := ⟨2, ![10368, 1024]⟩
abbrev S128x1024 : Shape := ⟨2, ![128, 1024]⟩
abbrev S1024x1024 : Shape := ⟨2, ![1024, 1024]⟩
abbrev S1024x128 : Shape := ⟨2, ![1024, 128]⟩

abbrev nBuf : Space → Nat
  | .hbm => 10
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x2048, .bf16⟩
  | .hbm, ⟨4, _⟩ => ⟨S4096x3072, .bf16⟩
  | .hbm, ⟨5, _⟩ => ⟨S4096x1024, .bf16⟩
  | .hbm, ⟨6, _⟩ => ⟨S4096x128, .bf16⟩
  | .hbm, ⟨7, _⟩ => ⟨S10368x1024, .bf16⟩
  | .hbm, ⟨8, _⟩ => ⟨S128x1024, .bf16⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x128, .bf16⟩
  | .local _ .vmem, ⟨13, _⟩ => ⟨S1024x128, .bf16⟩
  | .local _ .vmem, ⟨14, _⟩ => ⟨S1024x1024, .bf16⟩
  | .local _ .vmem, ⟨15, _⟩ => ⟨S1024x1024, .bf16⟩
  | .local _ .vmem, ⟨16, _⟩ => ⟨S128x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 11], ![false, false]⟩

def k0_cond9 (i : grid0.Coords) : BitVec 1 :=
  let arg1 : BitVec 32 := BitVec.ofNat 32 (i 1).val
  let c10_i32_15 : BitVec 32 := 10#32
  let v38 : BitVec 1 := Scalar.cmpi .eq arg1 c10_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let v1 : BitVec 32 := Scalar.extui v0
  let v2 : BitVec 32 := Scalar.addi arg0 v1
  let c3_i32 : BitVec 32 := 3#32
  let v3 : BitVec 32 := Scalar.minsi v2 c3_i32
  let c0_i32 : BitVec 32 := 0#32
  let v4 : BitVec 32 := Scalar.subi arg1 c0_i32
  let c0_i32_0 : BitVec 32 := 0#32
  let c1_i32 : BitVec 32 := 1#32
  let v5 : BitVec 32 := Scalar.maxsi c0_i32_0 v4
  let v6 : BitVec 32 := Scalar.minsi c1_i32 v5
  let c0_i32_1 : BitVec 32 := 0#32
  let v7 : BitVec 32 := Scalar.select v0 c0_i32_1 v6
  let c0_i32_2 : BitVec 32 := 0#32
  ![v3.toNat, v7.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg1 c3_i32
  let v1 : BitVec 32 := Scalar.extui v0
  let v2 : BitVec 32 := Scalar.addi arg0 v1
  let c3_i32_0 : BitVec 32 := 3#32
  let v3 : BitVec 32 := Scalar.minsi v2 c3_i32_0
  let c2_i32 : BitVec 32 := 2#32
  let v4 : BitVec 32 := Scalar.subi arg1 c2_i32
  let c0_i32 : BitVec 32 := 0#32
  let c0_i32_1 : BitVec 32 := 0#32
  let v5 : BitVec 32 := Scalar.maxsi c0_i32 v4
  let v6 : BitVec 32 := Scalar.minsi c0_i32_1 v5
  let c0_i32_2 : BitVec 32 := 0#32
  let v7 : BitVec 32 := Scalar.select v0 c0_i32_2 v6
  let c0_i32_3 : BitVec 32 := 0#32
  ![v3.toNat, v7.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi arg0 v1
  let c3_i32 : BitVec 32 := 3#32
  let v3 : BitVec 32 := Scalar.minsi v2 c3_i32
  let c3_i32_0 : BitVec 32 := 3#32
  let v4 : BitVec 32 := Scalar.subi arg1 c3_i32_0
  let c0_i32 : BitVec 32 := 0#32
  let c0_i32_1 : BitVec 32 := 0#32
  let v5 : BitVec 32 := Scalar.maxsi c0_i32 v4
  let v6 : BitVec 32 := Scalar.minsi c0_i32_1 v5
  let c0_i32_2 : BitVec 32 := 0#32
  let v7 : BitVec 32 := Scalar.select v0 c0_i32_2 v6
  let c0_i32_3 : BitVec 32 := 0#32
  ![v3.toNat, v7.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg1 c6_i32
  let v1 : BitVec 32 := Scalar.extui v0
  let v2 : BitVec 32 := Scalar.addi arg0 v1
  let c3_i32 : BitVec 32 := 3#32
  let v3 : BitVec 32 := Scalar.minsi v2 c3_i32
  let c4_i32 : BitVec 32 := 4#32
  let v4 : BitVec 32 := Scalar.subi arg1 c4_i32
  let c0_i32 : BitVec 32 := 0#32
  let c1_i32 : BitVec 32 := 1#32
  let v5 : BitVec 32 := Scalar.maxsi c0_i32 v4
  let v6 : BitVec 32 := Scalar.minsi c1_i32 v5
  let c0_i32_0 : BitVec 32 := 0#32
  let v7 : BitVec 32 := Scalar.select v0 c0_i32_0 v6
  let c0_i32_1 : BitVec 32 := 0#32
  ![v3.toNat, v7.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .sge arg1 c9_i32
  let v1 : BitVec 32 := Scalar.extui v0
  let v2 : BitVec 32 := Scalar.addi arg0 v1
  let c3_i32 : BitVec 32 := 3#32
  let v3 : BitVec 32 := Scalar.minsi v2 c3_i32
  let c6_i32 : BitVec 32 := 6#32
  let v4 : BitVec 32 := Scalar.subi arg1 c6_i32
  let c0_i32 : BitVec 32 := 0#32
  let c2_i32 : BitVec 32 := 2#32
  let v5 : BitVec 32 := Scalar.maxsi c0_i32 v4
  let v6 : BitVec 32 := Scalar.minsi c2_i32 v5
  let c0_i32_0 : BitVec 32 := 0#32
  let v7 : BitVec 32 := Scalar.select v0 c0_i32_0 v6
  let c0_i32_1 : BitVec 32 := 0#32
  ![v3.toNat, v7.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .sge arg1 c10_i32
  let v1 : BitVec 32 := Scalar.extui v0
  let v2 : BitVec 32 := Scalar.addi arg0 v1
  let c3_i32 : BitVec 32 := 3#32
  let v3 : BitVec 32 := Scalar.minsi v2 c3_i32
  let c9_i32 : BitVec 32 := 9#32
  let v4 : BitVec 32 := Scalar.subi arg1 c9_i32
  let c0_i32 : BitVec 32 := 0#32
  let c0_i32_0 : BitVec 32 := 0#32
  let v5 : BitVec 32 := Scalar.maxsi c0_i32 v4
  let v6 : BitVec 32 := Scalar.minsi c0_i32_0 v5
  let c0_i32_1 : BitVec 32 := 0#32
  let v7 : BitVec 32 := Scalar.select v0 c0_i32_1 v6
  let c0_i32_2 : BitVec 32 := 0#32
  ![v3.toNat, v7.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .sge arg1 c11_i32
  let v1 : BitVec 32 := Scalar.extui v0
  let v2 : BitVec 32 := Scalar.addi arg0 v1
  let c3_i32 : BitVec 32 := 3#32
  let v3 : BitVec 32 := Scalar.minsi v2 c3_i32
  let c10_i32 : BitVec 32 := 10#32
  let v4 : BitVec 32 := Scalar.subi arg1 c10_i32
  let c0_i32 : BitVec 32 := 0#32
  let c0_i32_0 : BitVec 32 := 0#32
  let v5 : BitVec 32 := Scalar.maxsi c0_i32 v4
  let v6 : BitVec 32 := Scalar.minsi c0_i32_0 v5
  let c0_i32_1 : BitVec 32 := 0#32
  let v7 : BitVec 32 := Scalar.select v0 c0_i32_1 v6
  let c0_i32_2 : BitVec 32 := 0#32
  ![v3.toNat, v7.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference17Ideal.lean ====
abbrev S4096x2048 : Shape := ⟨2, ![4096, 2048]⟩
abbrev S4096x1024 : Shape := ⟨2, ![4096, 1024]⟩
abbrev S4096x3072 : Shape := ⟨2, ![4096, 3072]⟩
abbrev S4096x128 : Shape := ⟨2, ![4096, 128]⟩
abbrev S10368x1024 : Shape := ⟨2, ![10368, 1024]⟩
abbrev S4096x10368 : Shape := ⟨2, ![4096, 10368]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x2048, .bf16⟩
  | .hbm, ⟨4, _⟩ => ⟨S4096x3072, .bf16⟩
  | .hbm, ⟨5, _⟩ => ⟨S4096x1024, .bf16⟩
  | .hbm, ⟨6, _⟩ => ⟨S4096x128, .bf16⟩
  | .hbm, ⟨7, _⟩ => ⟨S10368x1024, .bf16⟩
  | .hbm, ⟨8, _⟩ => ⟨S4096x10368, .bf16⟩
  | .hbm, ⟨9, _⟩ => ⟨S4096x10368, .f32⟩
  | .hbm, ⟨10, _⟩ => ⟨S_, .f32⟩
  | .hbm, ⟨11, _⟩ => ⟨S4096x1024, .f32⟩
  | .hbm, ⟨12, _⟩ => ⟨S10368x1024, .f32⟩
  | .hbm, ⟨13, _⟩ => ⟨S4096x10368, .f32⟩
  | .hbm, ⟨14, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel19.lean ====
abbrev S512x1024 : Shape := ⟨2, ![512, 1024]⟩
abbrev S2x1024x512 : Shape := ⟨3, ![2, 1024, 512]⟩
abbrev S1024x512 : Shape := ⟨2, ![1024, 512]⟩
abbrev S1x1024x512 : Shape := ⟨3, ![1, 1024, 512]⟩
abbrev S1x128x512 : Shape := ⟨3, ![1, 128, 512]⟩
abbrev S128x512 : Shape := ⟨2, ![128, 512]⟩

abbrev nBuf : Space → Nat
  | .hbm => 13
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S1024x512, .f32⟩
  | .hbm, ⟨6, _⟩ => ⟨S1x1024x512, .f32⟩
  | .hbm, ⟨7, _⟩ => ⟨S1024x512, .f32⟩
  | .hbm, ⟨8, _⟩ => ⟨S1x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S512x1024 : Shape := ⟨2, ![512, 1024]⟩
abbrev S2x1024x512 : Shape := ⟨3, ![2, 1024, 512]⟩
abbrev S1024x512 : Shape := ⟨2, ![1024, 512]⟩
abbrev S1x1024x512 : Shape := ⟨3, ![1, 1024, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S1024x512, .f32⟩
  | .hbm, ⟨6, _⟩ => ⟨S1024x512, .f32⟩
  | .hbm, ⟨7, _⟩ => ⟨S1x1024x512, .f32⟩
  | .hbm, ⟨8, _⟩ => ⟨S1x1024x512, .f32⟩
  | .hbm, ⟨9, _⟩ => ⟨S2x1024x512, .f32⟩
  | .hbm, ⟨10, _⟩ => ⟨S_, .f32⟩
  | .hbm, ⟨11, _⟩ => ⟨S2x1024x512, .f32⟩
  | .hbm, ⟨12, _⟩ => ⟨S2x1024x512, .f32⟩
  | .hbm, ⟨13, _⟩ => ⟨S_, .f32⟩
  | .hbm, ⟨14, _⟩ => ⟨S2x1024x512, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S_, .f32⟩
  | .hbm, ⟨29, _⟩ => ⟨S2x1024x512, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel20.lean ====
abbrev S512x1024 : Shape := ⟨2, ![512, 1024]⟩
abbrev S2x512x1024 : Shape := ⟨3, ![2, 512, 1024]⟩
abbrev S1x512x1024 : Shape := ⟨3, ![1, 512, 1024]⟩
abbrev S1x128x1024 : Shape := ⟨3, ![1, 128, 1024]⟩
abbrev S128x1024 : Shape := ⟨2, ![128, 1024]⟩

abbrev nBuf : Space → Nat
  | .hbm => 11
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S1x512x1024, .f32⟩
  | .hbm, ⟨6, _⟩ => ⟨S1x512x1024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S512x1024 : Shape := ⟨2, ![512, 1024]⟩
abbrev S2x512x1024 : Shape := ⟨3, ![2, 512, 1024]⟩
abbrev S1x512x1024 : Shape := ⟨3, ![1, 512, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S1x512x1024, .f32⟩
  | .hbm, ⟨6, _⟩ => ⟨S1x512x1024, .f32⟩
  | .hbm, ⟨7, _⟩ => ⟨S2x512x1024, .f32⟩
  | .hbm, ⟨8, _⟩ => ⟨S_, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S2x512x1024, .f32⟩
  | .hbm, ⟨23, _⟩ => ⟨S_, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S2x512x1024, .f32⟩
  | .hbm, ⟨38, _⟩ => ⟨S_, .f32⟩
  | .hbm, ⟨39, _⟩ => ⟨S2x512x1024, .f32⟩
  | .hbm, ⟨40, _⟩ => ⟨S2x512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel22.lean ====
abbrev S6x128 : Shape := ⟨2, ![6, 128]⟩
abbrev S2x3x128 : Shape := ⟨3, ![2, 3, 128]⟩
abbrev S1x6x128 : Shape := ⟨3, ![1, 6, 128]⟩

abbrev nBuf : Space → Nat
  | .hbm => 12
  | .vmem => 8
  | .smem => 0
  | _ => 0

abbrev bufTy : (tb : Table) → Fin (tcTables nBuf tb) → BufTy
  | .hbm, ⟨0, _⟩ => ⟨S6x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S1x6x128, .f32⟩
  | .hbm, ⟨5, _⟩ => ⟨S1x6x128, .f32⟩
  | .hbm, ⟨6, _⟩ => ⟨S1x6x128, .f32⟩
  | .hbm, ⟨7, _⟩ => ⟨S1x6x128, .f32⟩
  | .hbm, ⟨8, _⟩ => ⟨S1x6x128, .f32⟩
  | .hbm, ⟨9, _⟩ => ⟨S1x6x128, .f32⟩
  | .hbm, ⟨10, _⟩ => ⟨S1x6x128, .f32⟩
  | .hbm, ⟨11, _⟩ => ⟨S1x6x128, .f32⟩
  | .local _ .vmem, ⟨0, _⟩ => ⟨S1x6x128, .f32⟩
  | .local _ .vmem, ⟨1, _⟩ => ⟨S1x6x128, .f32⟩
  | .local _ .vmem, ⟨2, _⟩ => ⟨S1x6x128, .f32⟩
  | .local _ .vmem, ⟨3, _⟩ => ⟨S1x6x128, .f32⟩
  | .local _ .vmem, ⟨4, _⟩ => ⟨S1x6x128, .f32⟩
  | .local _ .vmem, ⟨5, _⟩ => ⟨S1x6x128, .f32⟩
  | .local _ .vmem, ⟨6, _⟩ => ⟨S1x6x128, .f32⟩
  | .local _ .vmem, ⟨7, _⟩ => ⟨S1x6x128, .f32⟩
  | _, _ => ⟨S6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference22Ideal.lean ====
abbrev S6x128 : Shape := ⟨2, ![6, 128]⟩
abbrev S2x3x128 : Shape := ⟨3, ![2, 3, 128]⟩
abbrev S1x6x128 : Shape := ⟨3, ![1, 6, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S6x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S1x6x128, .f32⟩
  | .hbm, ⟨5, _⟩ => ⟨S1x6x128, .f32⟩
  | .hbm, ⟨6, _⟩ => ⟨S1x6x128, .f32⟩
  | .hbm, ⟨7, _⟩ => ⟨S1x6x128, .f32⟩
  | .hbm, ⟨8, _⟩ => ⟨S1x6x128, .f32⟩
  | .hbm, ⟨9, _⟩ => ⟨S_, .f32⟩
  | .hbm, ⟨10, _⟩ => ⟨S1x6x128, .f32⟩
  | .hbm, ⟨11, _⟩ => ⟨S1x6x128, .f32⟩
  | .hbm, ⟨12, _⟩ => ⟨S_, .f32⟩
  | .hbm, ⟨13, _⟩ => ⟨S1x6x128, .f32⟩
  | .hbm, ⟨14, _⟩ => ⟨S1x6x128, .f32⟩
  | .hbm, ⟨15, _⟩ => ⟨S1x6x128, .f32⟩
  | .hbm, ⟨16, _⟩ => ⟨S_, .f32⟩
  | .hbm, ⟨17, _⟩ => ⟨S1x6x128, .f32⟩
  | .hbm, ⟨18, _⟩ => ⟨S1x6x128, .f32⟩
  | .hbm, ⟨19, _⟩ => ⟨S1x6x128, .f32⟩
  | .hbm, ⟨20, _⟩ => ⟨S_, .f32⟩
  | .hbm, ⟨21, _⟩ => ⟨S1x6x128, .f32⟩
  | .hbm, ⟨22, _⟩ => ⟨S1x6x128, .f32⟩
  | .hbm, ⟨23, _⟩ => ⟨S1x6x128, .f32⟩
  | .hbm, ⟨24, _⟩ => ⟨S_, .f32⟩
  | .hbm, ⟨25, _⟩ => ⟨S1x6x128, .f32⟩
  | .hbm, ⟨26, _⟩ => ⟨S1x6x128, .f32⟩
  | .hbm, ⟨27, _⟩ => ⟨S_, .f32⟩
  | .hbm, ⟨28, _⟩ => ⟨S1x6x128, .f32⟩
  | .hbm, ⟨29, _⟩ => ⟨S1x6x128, .f32⟩
  | .hbm, ⟨30, _⟩ => ⟨S1x6x128, .f32⟩
  | .hbm, ⟨31, _⟩ => ⟨S_, .f32⟩
  | .hbm, ⟨32, _⟩ => ⟨S1x6x128, .f32⟩
  | .hbm, ⟨33, _⟩ => ⟨S1x6x128, .f32⟩
  | .hbm, ⟨34, _⟩ => ⟨S1x6x128, .f32⟩
  | .hbm, ⟨35, _⟩ => ⟨S_, .f32⟩
  | .hbm, ⟨36, _⟩ => ⟨S1x6x128, .f32⟩
  | .hbm, ⟨37, _⟩ => ⟨S1x6x128, .f32⟩
  | .hbm, ⟨38, _⟩ => ⟨S1x6x128, .f32⟩
  | .hbm, ⟨39, _⟩ => ⟨S_, .f32⟩
  | .hbm, ⟨40, _⟩ => ⟨S1x6x128, .f32⟩
  | .hbm, ⟨41, _⟩ => ⟨S1x6x128, .f32⟩
  | _, _ => ⟨S6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel23.lean ====
abbrev S8x128 : Shape := ⟨2, ![8, 128]⟩
abbrev S2x4x128 : Shape := ⟨3, ![2, 4, 128]⟩
abbrev S1x8x128 : Shape := ⟨3, ![1, 8, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S1x8x128, .f32⟩
  | .hbm, ⟨5, _⟩ => ⟨S1x8x128, .f32⟩
  | .hbm, ⟨6, _⟩ => ⟨S1x8x128, .f32⟩
  | .hbm, ⟨7, _⟩ => ⟨S1x8x128, .f32⟩
  | .hbm, ⟨8, _⟩ => ⟨S1x8x128, .f32⟩
  | .hbm, ⟨9, _⟩ => ⟨S1x8x128, .f32⟩
  | .hbm, ⟨10, _⟩ => ⟨S1x8x128, .f32⟩
  | .hbm, ⟨11, _⟩ => ⟨S1x8x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference23Ideal.lean ====
abbrev S8x128 : Shape := ⟨2, ![8, 128]⟩
abbrev S2x4x128 : Shape := ⟨3, ![2, 4, 128]⟩
abbrev S1x8x128 : Shape := ⟨3, ![1, 8, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S1x8x128, .f32⟩
  | .hbm, ⟨5, _⟩ => ⟨S1x8x128, .f32⟩
  | .hbm, ⟨6, _⟩ => ⟨S1x8x128, .f32⟩
  | .hbm, ⟨7, _⟩ => ⟨S1x8x128, .f32⟩
  | .hbm, ⟨8, _⟩ => ⟨S1x8x128, .f32⟩
  | .hbm, ⟨9, _⟩ => ⟨S_, .f32⟩
  | .hbm, ⟨10, _⟩ => ⟨S1x8x128, .f32⟩
  | .hbm, ⟨11, _⟩ => ⟨S1x8x128, .f32⟩
  | .hbm, ⟨12, _⟩ => ⟨S_, .f32⟩
  | .hbm, ⟨13, _⟩ => ⟨S1x8x128, .f32⟩
  | .hbm, ⟨14, _⟩ => ⟨S1x8x128, .f32⟩
  | .hbm, ⟨15, _⟩ => ⟨S1x8x128, .f32⟩
  | .hbm, ⟨16, _⟩ => ⟨S_, .f32⟩
  | .hbm, ⟨17, _⟩ => ⟨S1x8x128, .f32⟩
  | .hbm, ⟨18, _⟩ => ⟨S1x8x128, .f32⟩
  | .hbm, ⟨19, _⟩ => ⟨S1x8x128, .f32⟩
  | .hbm, ⟨20, _⟩ => ⟨S_, .f32⟩
  | .hbm, ⟨21, _⟩ => ⟨S1x8x128, .f32⟩
  | .hbm, ⟨22, _⟩ => ⟨S1x8x128, .f32⟩
  | .hbm, ⟨23, _⟩ => ⟨S1x8x128, .f32⟩
  | .hbm, ⟨24, _⟩ => ⟨S_, .f32⟩
  | .hbm, ⟨25, _⟩ => ⟨S1x8x128, .f32⟩
  | .hbm, ⟨26, _⟩ => ⟨S1x8x128, .f32⟩
  | .hbm, ⟨27, _⟩ => ⟨S_, .f32⟩
  | .hbm, ⟨28, _⟩ => ⟨S1x8x128, .f32⟩
  | .hbm, ⟨29, _⟩ => ⟨S1x8x128, .f32⟩
  | .hbm, ⟨30, _⟩ => ⟨S1x8x128, .f32⟩
  | .hbm, ⟨31, _⟩ => ⟨S_, .f32⟩
  | .hbm, ⟨32, _⟩ => ⟨S1x8x128, .f32⟩
  | .hbm, ⟨33, _⟩ => ⟨S1x8x128, .f32⟩
  | .hbm, ⟨34, _⟩ => ⟨S1x8x128, .f32⟩
  | .hbm, ⟨35, _⟩ => ⟨S_, .f32⟩
  | .hbm, ⟨36, _⟩ => ⟨S1x8x128, .f32⟩
  | .hbm, ⟨37, _⟩ => ⟨S1x8x128, .f32⟩
  | .hbm, ⟨38, _⟩ => ⟨S1x8x128, .f32⟩
  | .hbm, ⟨39, _⟩ => ⟨S_, .f32⟩
  | .hbm, ⟨40, _⟩ => ⟨S1x8x128, .f32⟩
  | .hbm, ⟨41, _⟩ => ⟨S1x8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel24.lean ====
abbrev S8x256 : Shape := ⟨2, ![8, 256]⟩
abbrev S2x4x256 : Shape := ⟨3, ![2, 4, 256]⟩
abbrev S1x8x256 : Shape := ⟨3, ![1, 8, 256]⟩

abbrev nBuf : Space → Nat
  | .hbm => 12
  | .vmem => 8
  | .smem => 0
  | _ => 0

abbrev bufTy : (tb : Table) → Fin (tcTables nBuf tb) → BufTy
  | .hbm, ⟨0, _⟩ => ⟨S8x256, .f32⟩
  | .hbm, ⟨1, _⟩ => ⟨S2x4x256, .f32⟩
  | .hbm, ⟨2, _⟩ => ⟨S2x4x256, .f32⟩
  | .hbm, ⟨3, _⟩ => ⟨S2x4x256, .f32⟩
  | .hbm, ⟨4, _⟩ => ⟨S1x8x256, .f32⟩
  | .hbm, ⟨5, _⟩ => ⟨S1x8x256, .f32⟩
  | .hbm, ⟨6, _⟩ => ⟨S1x8x256, .f32⟩
  | .hbm, ⟨7, _⟩ => ⟨S1x8x256, .f32⟩
  | .hbm, ⟨8, _⟩ => ⟨S1x8x256, .f32⟩
  | .hbm, ⟨9, _⟩ => ⟨S1x8x256, .f32⟩
  | .hbm, ⟨10, _⟩ => ⟨S1x8x256, .f32⟩
  | .hbm, ⟨11, _⟩ => ⟨S1x8x256, .f32⟩
  | .local _ .vmem, ⟨0, _⟩ => ⟨S1x8x256, .f32⟩
  | .local _ .vmem, ⟨1, _⟩ => ⟨S1x8x256, .f32⟩
  | .local _ .vmem, ⟨2, _⟩ => ⟨S1x8x256, .f32⟩
  | .local _ .vmem, ⟨3, _⟩ => ⟨S1x8x256, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference24Ideal.lean ====
abbrev S8x256 : Shape := ⟨2, ![8, 256]⟩
abbrev S2x4x256 : Shape := ⟨3, ![2, 4, 256]⟩
abbrev S1x8x256 : Shape := ⟨3, ![1, 8, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S2x4x256, .f32⟩
  | .hbm, ⟨2, _⟩ => ⟨S2x4x256, .f32⟩
  | .hbm, ⟨3, _⟩ => ⟨S2x4x256, .f32⟩
  | .hbm, ⟨4, _⟩ => ⟨S1x8x256, .f32⟩
  | .hbm, ⟨5, _⟩ => ⟨S1x8x256, .f32⟩
  | .hbm, ⟨6, _⟩ => ⟨S1x8x256, .f32⟩
  | .hbm, ⟨7, _⟩ => ⟨S1x8x256, .f32⟩
  | .hbm, ⟨8, _⟩ => ⟨S1x8x256, .f32⟩
  | .hbm, ⟨9, _⟩ => ⟨S_, .f32⟩
  | .hbm, ⟨10, _⟩ => ⟨S1x8x256, .f32⟩
  | .hbm, ⟨11, _⟩ => ⟨S1x8x256, .f32⟩
  | .hbm, ⟨12, _⟩ => ⟨S_, .f32⟩
  | .hbm, ⟨13, _⟩ => ⟨S1x8x256, .f32⟩
  | .hbm, ⟨14, _⟩ => ⟨S1x8x256, .f32⟩
  | .hbm, ⟨15, _⟩ => ⟨S1x8x256, .f32⟩
  | .hbm, ⟨16, _⟩ => ⟨S_, .f32⟩
  | .hbm, ⟨17, _⟩ => ⟨S1x8x256, .f32⟩
  | .hbm, ⟨18, _⟩ => ⟨S1x8x256, .f32⟩
  | .hbm, ⟨19, _⟩ => ⟨S1x8x256, .f32⟩
  | .hbm, ⟨20, _⟩ => ⟨S_, .f32⟩
  | .hbm, ⟨21, _⟩ => ⟨S1x8x256, .f32⟩
  | .hbm, ⟨22, _⟩ => ⟨S1x8x256, .f32⟩
  | .hbm, ⟨23, _⟩ => ⟨S1x8x256, .f32⟩
  | .hbm, ⟨24, _⟩ => ⟨S_, .f32⟩
  | .hbm, ⟨25, _⟩ => ⟨S1x8x256, .f32⟩
  | .hbm, ⟨26, _⟩ => ⟨S1x8x256, .f32⟩
  | .hbm, ⟨27, _⟩ => ⟨S_, .f32⟩
  | .hbm, ⟨28, _⟩ => ⟨S1x8x256, .f32⟩
  | .hbm, ⟨29, _⟩ => ⟨S1x8x256, .f32⟩
  | .hbm, ⟨30, _⟩ => ⟨S1x8x256, .f32⟩
  | .hbm, ⟨31, _⟩ => ⟨S_, .f32⟩
  | .hbm, ⟨32, _⟩ => ⟨S1x8x256, .f32⟩
  | .hbm, ⟨33, _⟩ => ⟨S1x8x256, .f32⟩
  | .hbm, ⟨34, _⟩ => ⟨S1x8x256, .f32⟩
  | .hbm, ⟨35, _⟩ => ⟨S_, .f32⟩
  | .hbm, ⟨36, _⟩ => ⟨S1x8x256, .f32⟩
  | .hbm, ⟨37, _⟩ => ⟨S1x8x256, .f32⟩
  | .hbm, ⟨38, _⟩ => ⟨S1x8x256, .f32⟩
  | .hbm, ⟨39, _⟩ => ⟨S_, .f32⟩
  | .hbm, ⟨40, _⟩ => ⟨S1x8x256, .f32⟩
  | .hbm, ⟨41, _⟩ => ⟨S1x8x256, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel26.lean ====
abbrev S8x256x128 : Shape := ⟨3, ![8, 256, 128]⟩
abbrev S2x8x128x128 : Shape := ⟨4, ![2, 8, 128, 128]⟩
abbrev S2048x128 : Shape := ⟨2, ![2048, 128]⟩
abbrev S1x2048x128 : Shape := ⟨3, ![1, 2048, 128]⟩
abbrev S1x128x128 : Shape := ⟨3, ![1, 128, 128]⟩
abbrev S128x128 : Shape := ⟨2, ![128, 128]⟩

abbrev nBuf : Space → Nat
  | .hbm => 45
  | .vmem => 48
  | .smem => 0
  | _ => 0

abbrev bufTy : (tb : Table) → Fin (tcTables nBuf tb) → BufTy
  | .hbm, ⟨0, _⟩ => ⟨S8x256x128, .f32⟩
  | .hbm, ⟨1, _⟩ => ⟨S8x256x128, .f32⟩
  | .hbm, ⟨2, _⟩ => ⟨S8x256x128, .f32⟩
  | .hbm, ⟨3, _⟩ => ⟨S2x8x128x128, .f32⟩
  | .hbm, ⟨4, _⟩ => ⟨S2x8x128x128, .f32⟩
  | .hbm, ⟨5, _⟩ => ⟨S2x8x128x128, .f32⟩
  | .hbm, ⟨6, _⟩ => ⟨S2x8x128x128, .f32⟩
  | .hbm, ⟨7, _⟩ => ⟨S2x8x128x128, .f32⟩
  | .hbm, ⟨8, _⟩ => ⟨S2x8x128x128, .f32⟩
  | .hbm, ⟨9, _⟩ => ⟨S2x8x128x128, .f32⟩
  | .hbm, ⟨10, _⟩ => ⟨S2x8x128x128, .f32⟩
  | .hbm, ⟨11, _⟩ => ⟨S2x8x128x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S1x2048x128, .f32⟩
  | .hbm, ⟨22, _⟩ => ⟨S1x2048x128, .f32⟩
  | .hbm, ⟨23, _⟩ => ⟨S1x2048x128, .f32⟩
  | .hbm, ⟨24, _⟩ => ⟨S1x2048x128, .f32⟩
  | .hbm, ⟨25, _⟩ => ⟨S1x2048x128, .f32⟩
  | .hbm, ⟨26, _⟩ => ⟨S1x2048x128, .f32⟩
  | .hbm, ⟨27, _⟩ => ⟨S1x2048x128, .f32⟩
  | .hbm, ⟨28, _⟩ => ⟨S1x2048x128, .f32⟩
  | .hbm, ⟨29, _⟩ => ⟨S1x2048x128, .f32⟩
  | .hbm, ⟨30, _⟩ => ⟨S1x2048x128, .f32⟩
  | .hbm, ⟨31, _⟩ => ⟨S1x2048x128, .f32⟩
  | .hbm, ⟨32, _⟩ => ⟨S1x2048x128, .f32⟩
  | .hbm, ⟨33, _⟩ => ⟨S1x2048x128, .f32⟩
  | .hbm, ⟨34, _⟩ => ⟨S1x2048x128, .f32⟩
  | .hbm, ⟨35, _⟩ => ⟨S1x2048x128, .f32⟩
  | .hbm, ⟨36, _⟩ => ⟨S1x2048x128, .f32⟩
  | .hbm, ⟨37, _⟩ => ⟨S1x2048x128, .f32⟩
  | .hbm, ⟨38, _⟩ => ⟨S1x2048x128, .f32⟩
  | .hbm, ⟨39, _⟩ => ⟨S1x2048x128, .f32⟩
  | .hbm, ⟨40, _⟩ => ⟨S1x2048x128, .f32⟩
  | .hbm, ⟨41, _⟩ => ⟨S1x2048x128, .f32⟩
  | .hbm, ⟨42, _⟩ => ⟨S1x2048x128, .f32⟩
  | .hbm, ⟨43, _⟩ => ⟨S1x2048x128, .f32⟩
  | .hbm, ⟨44, _⟩ => ⟨S1x2048x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | .local _ .vmem, ⟨26, _⟩ => ⟨S1x128x128, .f32⟩
  | .local _ .vmem, ⟨27, _⟩ => ⟨S1x128x128, .f32⟩
  | .local _ .vmem, ⟨28, _⟩ => ⟨S1x128x128, .f32⟩
  | .local _ .vmem, ⟨29, _⟩ => ⟨S1x128x128, .f32⟩
  | .local _ .vmem, ⟨30, _⟩ => ⟨S1x128x128, .f32⟩
  | .local _ .vmem, ⟨31, _⟩ => ⟨S1x128x128, .f32⟩
  | .local _ .vmem, ⟨32, _⟩ => ⟨S1x128x128, .f32⟩
  | .local _ .vmem, ⟨33, _⟩ => ⟨S1x128x128, .f32⟩
  | .local _ .vmem, ⟨34, _⟩ => ⟨S1x128x128, .f32⟩
  | .local _ .vmem, ⟨35, _⟩ => ⟨S1x128x128, .f32⟩
  | .local _ .vmem, ⟨36, _⟩ => ⟨S1x128x128, .f32⟩
  | .local _ .vmem, ⟨37, _⟩ => ⟨S1x128x128, .f32⟩
  | .local _ .vmem, ⟨38, _⟩ => ⟨S1x128x128, .f32⟩
  | .local _ .vmem, ⟨39, _⟩ => ⟨S1x128x128, .f32⟩
  | .local _ .vmem, ⟨40, _⟩ => ⟨S1x128x128, .f32⟩
  | .local _ .vmem, ⟨41, _⟩ => ⟨S1x128x128, .f32⟩
  | .local _ .vmem, ⟨42, _⟩ => ⟨S1x128x128, .f32⟩
  | .local _ .vmem, ⟨43, _⟩ => ⟨S1x128x128, .f32⟩
  | .local _ .vmem, ⟨44, _⟩ => ⟨S1x128x128, .f32⟩
  | .local _ .vmem, ⟨45, _⟩ => ⟨S1x128x128, .f32⟩
  | .local _ .vmem, ⟨46, _⟩ => ⟨S1x128x128, .f32⟩
  | .local _ .vmem, ⟨47, _⟩ => ⟨S1x128x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev main_v21_5 : Ref sig .tc := ⟨.hbm, 38, rfl⟩
abbrev main_v21_6 : Ref sig .tc := ⟨.hbm, 39, rfl⟩
abbrev main_v21_7 : Ref sig .tc := ⟨.hbm, 40, rfl⟩
abbrev main_v21_8 : Ref sig .tc := ⟨.hbm, 41, rfl⟩
abbrev main_v21_9 : Ref sig .tc := ⟨.hbm, 42, rfl⟩
abbrev main_v21_10 : Ref sig .tc := ⟨.hbm, 43, rfl⟩
abbrev main_v21_11 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x128x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Reference26Ideal.lean ====
abbrev S8x256x128 : Shape := ⟨3, ![8, 256, 128]⟩
abbrev S2x8x128x128 : Shape := ⟨4, ![2, 8, 128, 128]⟩
abbrev S1x2048x128 : Shape := ⟨3, ![1, 2048, 128]⟩
abbrev S2048x128 : Shape := ⟨2, ![2048, 128]⟩
abbrev S_ : Shape := ⟨0, ![]⟩

abbrev nBuf : Space → Nat
  | .hbm => 132
  | .vmem => 0
  | .smem => 0
  | _ => 0

abbrev hbmTy0_0 (i : Nat) : BufTy := match i % 128 with
  | 0 => ⟨S8x256x128, .f32⟩
  | 1 => ⟨S8x256x128, .f32⟩
  | 2 => ⟨S8x256x128, .f32⟩
  | 3 => ⟨S2x8x128x128, .f32⟩
  | 4 => ⟨S2x8x128x128, .f32⟩
  | 5 => ⟨S2x8x128x128, .f32⟩
  | 6 => ⟨S2x8x128x128, .f32⟩
  | 7 => ⟨S2x8x128x128, .f32⟩
  | 8 => ⟨S2x8x128x128, .f32⟩
  | 9 => ⟨S2x8x128x128, .f32⟩
  | 10 => ⟨S2x8x128x128, .f32⟩
  | 11 => ⟨S2x8x128x128, .f32⟩
  | 12 => ⟨S1x2048x128, .f32⟩
  | 13 => ⟨S2048x128, .f32⟩
  | 14 => ⟨S1x2048x128, .f32⟩
  | 15 => ⟨S2048x128, .f32⟩
  | 16 => ⟨S1x2048x128, .f32⟩
  | 17 => ⟨S2048x128, .f32⟩
  | 18 => ⟨S1x2048x128, .f32⟩
  | 19 => ⟨S_, .f32⟩
  | 20 => ⟨S1x2048x128, .f32⟩
  | 21 => ⟨S1x2048x128, .f32⟩
  | 22 => ⟨S_, .f32⟩
  | 23 => ⟨S1x2048x128, .f32⟩
  | 24 => ⟨S1x2048x128, .f32⟩
  | 25 => ⟨S1x2048x128, .f32⟩
  | 26 => ⟨S_, .f32⟩
  | 27 => ⟨S1x2048x128, .f32⟩
  | 28 => ⟨S1x2048x128, .f32⟩
  | 29 => ⟨S1x2048x128, .f32⟩
  | 30 => ⟨S_, .f32⟩
  | 31 => ⟨S1x2048x128, .f32⟩
  | 32 => ⟨S1x2048x128, .f32⟩
  | 33 => ⟨S1x2048x128, .f32⟩
  | 34 => ⟨S_, .f32⟩
  | 35 => ⟨S1x2048x128, .f32⟩
  | 36 => ⟨S1x2048x128, .f32⟩
  | 37 => ⟨S_, .f32⟩
  | 38 => ⟨S1x2048x128, .f32⟩
  | 39 => ⟨S1x2048x128, .f32⟩
  | 40 => ⟨S1x2048x128, .f32⟩
  | 41 => ⟨S_, .f32⟩
  | 42 => ⟨S1x2048x128, .f32⟩
  | 43 => ⟨S1x2048x128, .f32⟩
  | 44 => ⟨S1x2048x128, .f32⟩
  | 45 => ⟨S_, .f32⟩
  | 46 => ⟨S1x2048x128, .f32⟩
  | 47 => ⟨S1x2048x128, .f32⟩
  | 48 => ⟨S1x2048x128, .f32⟩
  | 49 => ⟨S_, .f32⟩
  | 50 => ⟨S1x2048x128, .f32⟩
  | 51 => ⟨S1x2048x128, .f32⟩
  | 52 => ⟨S1x2048x128, .f32⟩
  | 53 => ⟨S2048x128, .f32⟩
  | 54 => ⟨S1x2048x128, .f32⟩
  | 55 => ⟨S2048x128, .f32⟩
  | 56 => ⟨S1x2048x128, .f32⟩
  | 57 => ⟨S2048x128, .f32⟩
  | 58 => ⟨S1x2048x128, .f32⟩
  | 59 => ⟨S_, .f32⟩
  | 60 => ⟨S1x2048x128, .f32⟩
  | 61 => ⟨S1x2048x128, .f32⟩
  | 62 => ⟨S_, .f32⟩
  | 63 => ⟨S1x2048x128, .f32⟩
  | 64 => ⟨S1x2048x128, .f32⟩
  | 65 => ⟨S1x2048x128, .f32⟩
  | 66 => ⟨S_, .f32⟩
  | 67 => ⟨S1x2048x128, .f32⟩
  | 68 => ⟨S1x2048x128, .f32⟩
  | 69 => ⟨S1x2048x128, .f32⟩
  | 70 => ⟨S_, .f32⟩
  | 71 => ⟨S1x2048x128, .f32⟩
  | 72 => ⟨S1x2048x128, .f32⟩
  | 73 => ⟨S1x2048x128, .f32⟩
  | 74 => ⟨S_, .f32⟩
  | 75 => ⟨S1x2048x128, .f32⟩
  | 76 => ⟨S1x2048x128, .f32⟩
  | 77 => ⟨S_, .f32⟩
  | 78 => ⟨S1x2048x128, .f32⟩
  | 79 => ⟨S1x2048x128, .f32⟩
  | 80 => ⟨S1x2048x128, .f32⟩
  | 81 => ⟨S_, .f32⟩
  | 82 => ⟨S1x2048x128, .f32⟩
  | 83 => ⟨S1x2048x128, .f32⟩
  | 84 => ⟨S1x2048x128, .f32⟩
  | 85 => ⟨S_, .f32⟩
  | 86 => ⟨S1x2048x128, .f32⟩
  | 87 => ⟨S1x2048x128, .f32⟩
  | 88 => ⟨S1x2048x128, .f32⟩
  | 89 => ⟨S_, .f32⟩
  | 90 => ⟨S1x2048x128, .f32⟩
  | 91 => ⟨S1x2048x128, .f32⟩
  | 92 => ⟨S1x2048x128, .f32⟩
  | 93 => ⟨S2048x128, .f32⟩
  | 94 => ⟨S1x2048x128, .f32⟩
  | 95 => ⟨S2048x128, .f32⟩
  | 96 => ⟨S1x2048x128, .f32⟩
  | 97 => ⟨S2048x128, .f32⟩
  | 98 => ⟨S1x2048x128, .f32⟩
  | 99 => ⟨S_, .f32⟩
  | 100 => ⟨S1x2048x128, .f32⟩
  | 101 => ⟨S1x2048x128, .f32⟩
  | 102 => ⟨S_, .f32⟩
  | 103 => ⟨S1x2048x128, .f32⟩
  | 104 => ⟨S1x2048x128, .f32⟩
  | 105 => ⟨S1x2048x128, .f32⟩
  | 106 => ⟨S_, .f32⟩
  | 107 => ⟨S1x2048x128, .f32⟩
  | 108 => ⟨S1x2048x128, .f32⟩
  | 109 => ⟨S1x2048x128, .f32⟩
  | 110 => ⟨S_, .f32⟩
  | 111 => ⟨S1x2048x128, .f32⟩
  | 112 => ⟨S1x2048x128, .f32⟩
  | 113 => ⟨S1x2048x128, .f32⟩
  | 114 => ⟨S_, .f32⟩
  | 115 => ⟨S1x2048x128, .f32⟩
  | 116 => ⟨S1x2048x128, .f32⟩
  | 117 => ⟨S_, .f32⟩
  | 118 => ⟨S1x2048x128, .f32⟩
  | 119 => ⟨S1x2048x128, .f32⟩
  | 120 => ⟨S1x2048x128, .f32⟩
  | 121 => ⟨S_, .f32⟩
  | 122 => ⟨S1x2048x128, .f32⟩
  | 123 => ⟨S1x2048x128, .f32⟩
  | 124 => ⟨S1x2048x128, .f32⟩
  | 125 => ⟨S_, .f32⟩
  | 126 => ⟨S1x2048x128, .f32⟩
  | 127 => ⟨S1x2048x128, .f32⟩
  | _ => ⟨S8x256x128, .f32⟩

abbrev hbmTy0_1 (i : Nat) : BufTy := match i % 128 with
  | 0 => ⟨S1x2048x128, .f32⟩
  | 1 => ⟨S_, .f32⟩
  | 2 => ⟨S1x2048x128, .f32⟩
  | 3 => ⟨S1x2048x128, .f32⟩
  | _ => ⟨S8x256x128, .f32⟩

abbrev hbmTy (i : Nat) : BufTy := match i / 128 with
  | 0 => hbmTy0_0 i
  | 1 => hbmTy0_1 i
  | _ => ⟨S8x256x128, .f32⟩

abbrev bufTy : (tb : Table) → Fin (tcTables nBuf tb) → BufTy
  | .hbm, ⟨i, _⟩ => hbmTy i
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_cst_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_15 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_cst_18 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_19 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_20 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_21 : Ref sig .tc := ⟨.hbm, 114, rfl⟩
abbrev main_v80 : Ref sig .tc := ⟨.hbm, 115, rfl⟩
abbrev main_v81 : Ref sig .tc := ⟨.hbm, 116, rfl⟩
abbrev main_cst_22 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_23 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_24 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_25 : Ref sig .tc := ⟨.hbm, 129, rfl⟩
abbrev main_v91 : Ref sig .tc := ⟨.hbm, 130, rfl⟩
abbrev main_v92 : Ref sig .tc := ⟨.hbm, 131, rfl⟩

abbrev nD : Nat := 1
abbrev τ : Topo := Topo.v7x

variable {F : FTy → Type} [FloatOps F]
-- ==== Kernel27.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel28.lean ====
abbrev S4096x1024 : Shape := ⟨2, ![4096, 1024]⟩
abbrev S4096x10368 : Shape := ⟨2, ![4096, 10368]⟩
abbrev S3x1024 : Shape := ⟨2, ![3, 1024]⟩
abbrev S512x1024 : Shape := ⟨2, ![512, 1024]⟩
abbrev S512x3072 : Shape := ⟨2, ![512, 3072]⟩
abbrev S1024 : Shape := ⟨1, ![1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x10368, .f32⟩
  | .hbm, ⟨4, _⟩ => ⟨S3x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x3072, .f32⟩
  | .local _ .vmem, ⟨7, _⟩ => ⟨S512x3072, .f32⟩
  | .local _ .vmem, ⟨8, _⟩ => ⟨S3x1024, .f32⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference28Ideal.lean ====
abbrev S4096x1024 : Shape := ⟨2, ![4096, 1024]⟩
abbrev S4096x10368 : Shape := ⟨2, ![4096, 10368]⟩
abbrev S3x1024 : Shape := ⟨2, ![3, 1024]⟩
abbrev S4096x3072 : Shape := ⟨2, ![4096, 3072]⟩
abbrev S4096x3x1024 : Shape := ⟨3, ![4096, 3, 1024]⟩
abbrev S1x3x1024 : Shape := ⟨3, ![1, 3, 1024]⟩
abbrev S_ : Shape := ⟨0, ![]⟩
abbrev S4096x1x1024 : Shape := ⟨3, ![4096, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x10368, .f32⟩
  | .hbm, ⟨4, _⟩ => ⟨S3x1024, .f32⟩
  | .hbm, ⟨5, _⟩ => ⟨S4096x3072, .f32⟩
  | .hbm, ⟨6, _⟩ => ⟨S4096x3x1024, .f32⟩
  | .hbm, ⟨7, _⟩ => ⟨S1x3x1024, .f32⟩
  | .hbm, ⟨8, _⟩ => ⟨S4096x3x1024, .f32⟩
  | .hbm, ⟨9, _⟩ => ⟨S4096x3x1024, .f32⟩
  | .hbm, ⟨10, _⟩ => ⟨S4096x3x1024, .f32⟩
  | .hbm, ⟨11, _⟩ => ⟨S4096x3x1024, .f32⟩
  | .hbm, ⟨12, _⟩ => ⟨S_, .f32⟩
  | .hbm, ⟨13, _⟩ => ⟨S4096x3x1024, .f32⟩
  | .hbm, ⟨14, _⟩ => ⟨S4096x3x1024, .f32⟩
  | .hbm, ⟨15, _⟩ => ⟨S_, .f32⟩
  | .hbm, ⟨16, _⟩ => ⟨S4096x3x1024, .f32⟩
  | .hbm, ⟨17, _⟩ => ⟨S4096x3x1024, .f32⟩
  | .hbm, ⟨18, _⟩ => ⟨S4096x1x1024, .f32⟩
  | .hbm, ⟨19, _⟩ => ⟨S4096x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel29.lean ====
abbrev S4096x10368 : Shape := ⟨2, ![4096, 10368]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S1024x128 : Shape := ⟨2, ![1024, 128]⟩
abbrev S128x8 : Shape := ⟨2, ![128, 8]⟩
abbrev S4096x1024 : Shape := ⟨2, ![4096, 1024]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩

abbrev nBuf : Space → Nat
  | .hbm => 10
  | .vmem => 8
  | .smem => 0
  | _ => 0

abbrev bufTy : (tb : Table) → Fin (tcTables nBuf tb) → BufTy
  | .hbm, ⟨0, _⟩ => ⟨S4096x10368, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S1024x128, .f32⟩
  | .hbm, ⟨8, _⟩ => ⟨S128x8, .f32⟩
  | .hbm, ⟨9, _⟩ => ⟨S4096x1024, .bf16⟩
  | .local _ .vmem, ⟨0, _⟩ => ⟨S128x2048, .f32⟩
  | .local _ .vmem, ⟨1, _⟩ => ⟨S128x2048, .f32⟩
  | .local _ .vmem, ⟨2, _⟩ => ⟨S1x1024, .f32⟩
  | .local _ .vmem, ⟨3, _⟩ => ⟨S1x1024, .f32⟩
  | .local _ .vmem, ⟨4, _⟩ => ⟨S1024x128, .f32⟩
  | .local _ .vmem, ⟨5, _⟩ => ⟨S128x8, .f32⟩
  | .local _ .vmem, ⟨6, _⟩ => ⟨S128x1024, .bf16⟩
  | .local _ .vmem, ⟨7, _⟩ => ⟨S128x1024, .bf16⟩
  | _, _ => ⟨S4096x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference29Ideal.lean ====
abbrev S4096x10368 : Shape := ⟨2, ![4096, 10368]⟩
abbrev S1024 : Shape := ⟨1, ![1024]⟩
abbrev S8x128x128 : Shape := ⟨3, ![8, 128, 128]⟩
abbrev S8x128 : Shape := ⟨2, ![8, 128]⟩
abbrev S4096x2048 : Shape := ⟨2, ![4096, 2048]⟩
abbrev S1x4096x2048 : Shape := ⟨3, ![1, 4096, 2048]⟩
abbrev S_ : Shape := ⟨0, ![]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S8x1x32x128x128 : Shape := ⟨5, ![8, 1, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4096x1024 : Shape := ⟨2, ![4096, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x10368, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S4096x2048, .f32⟩
  | .hbm, ⟨6, _⟩ => ⟨S1x4096x2048, .f32⟩
  | .hbm, ⟨7, _⟩ => ⟨S1x4096x2048, .f32⟩
  | .hbm, ⟨8, _⟩ => ⟨S1x4096x2048, .f32⟩
  | .hbm, ⟨9, _⟩ => ⟨S_, .f32⟩
  | .hbm, ⟨10, _⟩ => ⟨S1x4096x2048, .f32⟩
  | .hbm, ⟨11, _⟩ => ⟨S1x4096x2048, .f32⟩
  | .hbm, ⟨12, _⟩ => ⟨S1x4096x2048, .f32⟩
  | .hbm, ⟨13, _⟩ => ⟨S_, .f32⟩
  | .hbm, ⟨14, _⟩ => ⟨S1x4096x2048, .f32⟩
  | .hbm, ⟨15, _⟩ => ⟨S1x4096x2048, .f32⟩
  | .hbm, ⟨16, _⟩ => ⟨S1x4096x2048, .f32⟩
  | .hbm, ⟨17, _⟩ => ⟨S_, .f32⟩
  | .hbm, ⟨18, _⟩ => ⟨S1x4096x2048, .f32⟩
  | .hbm, ⟨19, _⟩ => ⟨S1x4096x2048, .f32⟩
  | .hbm, ⟨20, _⟩ => ⟨S_, .f32⟩
  | .hbm, ⟨21, _⟩ => ⟨S1x4096x2048, .f32⟩
  | .hbm, ⟨22, _⟩ => ⟨S1x4096x2048, .f32⟩
  | .hbm, ⟨23, _⟩ => ⟨S1x4096x2048, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4096, .f32⟩
  | .hbm, ⟨28, _⟩ => ⟨S1x4096x1, .f32⟩
  | .hbm, ⟨29, _⟩ => ⟨S_, .f32⟩
  | .hbm, ⟨30, _⟩ => ⟨S1x4096x1, .f32⟩
  | .hbm, ⟨31, _⟩ => ⟨S1x4096x1, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1x4096, .f32⟩
  | .hbm, ⟨37, _⟩ => ⟨S1x4096x1, .f32⟩
  | .hbm, ⟨38, _⟩ => ⟨S_, .f32⟩
  | .hbm, ⟨39, _⟩ => ⟨S1x4096x1, .f32⟩
  | .hbm, ⟨40, _⟩ => ⟨S1x4096x1, .f32⟩
  | .hbm, ⟨41, _⟩ => ⟨S_, .f32⟩
  | .hbm, ⟨42, _⟩ => ⟨S1x4096x1, .f32⟩
  | .hbm, ⟨43, _⟩ => ⟨S1x4096x1, .f32⟩
  | .hbm, ⟨44, _⟩ => ⟨S1x4096x1, .f32⟩
  | .hbm, ⟨45, _⟩ => ⟨S1x4096x1024, .f32⟩
  | .hbm, ⟨46, _⟩ => ⟨S1x4096x1024, .f32⟩
  | .hbm, ⟨47, _⟩ => ⟨S1x1x1024, .f32⟩
  | .hbm, ⟨48, _⟩ => ⟨S1x4096x1024, .f32⟩
  | .hbm, ⟨49, _⟩ => ⟨S1x4096x1024, .f32⟩
  | .hbm, ⟨50, _⟩ => ⟨S1x1x1024, .f32⟩
  | .hbm, ⟨51, _⟩ => ⟨S1x4096x1024, .f32⟩
  | .hbm, ⟨52, _⟩ => ⟨S1x4096x1024, .f32⟩
  | .hbm, ⟨53, _⟩ => ⟨S1x32x128x8x128, .f32⟩
  | .hbm, ⟨54, _⟩ => ⟨S_, .i1⟩
  | .hbm, ⟨55, _⟩ => ⟨S128x128, .i1⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i32⟩
  | .hbm, ⟨60, _⟩ => ⟨S128x128, .i32⟩
  | .hbm, ⟨61, _⟩ => ⟨S128x128, .i1⟩
  | .hbm, ⟨62, _⟩ => ⟨S_, .i1⟩
  | .hbm, ⟨63, _⟩ => ⟨S128x128, .i1⟩
  | .hbm, ⟨64, _⟩ => ⟨S128x128, .i1⟩
  | .hbm, ⟨65, _⟩ => ⟨S_, .i32⟩
  | .hbm, ⟨66, _⟩ => ⟨S_, .f32⟩
  | .hbm, ⟨67, _⟩ => ⟨S8x128x128, .i1⟩
  | .hbm, ⟨68, _⟩ => ⟨S8x128x128, .f32⟩
  | .hbm, ⟨69, _⟩ => ⟨S8x128x128, .f32⟩
  | .hbm, ⟨70, _⟩ => ⟨S8x1x32x128x128, .f32⟩
  | .hbm, ⟨71, _⟩ => ⟨S1x32x128x8x128, .f32⟩
  | .hbm, ⟨72, _⟩ => ⟨S128x8, .f32⟩
  | .hbm, ⟨73, _⟩ => ⟨S128x8x1, .f32⟩
  | .hbm, ⟨74, _⟩ => ⟨S1x1x128x8x1, .f32⟩
  | .hbm, ⟨75, _⟩ => ⟨S1x32x128x8x128, .f32⟩
  | .hbm, ⟨76, _⟩ => ⟨S1x32x128x8x128, .f32⟩
  | .hbm, ⟨77, _⟩ => ⟨S1x4096x1024, .f32⟩
  | .hbm, ⟨78, _⟩ => ⟨S1x4096x1024, .f32⟩
  | .hbm, ⟨79, _⟩ => ⟨S4096x1024, .f32⟩
  | .hbm, ⟨80, _⟩ => ⟨S4096x1024, .bf16⟩
  | _, _ => ⟨S4096x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_v40 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_0 : Ref sig .tc := ⟨.hbm, 62, rfl⟩
abbrev main_call0_v5 : Ref sig .tc := ⟨.hbm, 63, rfl⟩
abbrev main_v41 : Ref sig .tc := ⟨.hbm, 64, rfl⟩
abbrev main_c_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]
-- ==== Proof.Spec.lean ====
/- The mathematics of one chunk of 128 tokens of the gated mixer and of its derivative, as functions of extended reals:
   nothing here mentions a program. Both the kernel's blocks and the reference's arrays are read as these functions. -/
module

public import Idealize.ShloMosaic.PureOps.Ideal
public import Idealize.ShloMosaic.Lib.ValueIdx

@[expose] public section

noncomputable section

namespace Cert.Gmlp

open Idealize.ShloMosaic

/-- The value of a 32-bit float word. -/
abbrev cst (w : BitVec 32) : EReal := Ideal.ofBits .f32 w

/-! ## The activation at one element -/

/-- The hyperbolic tangent inside the activation. -/
def gth (z : EReal) : EReal := Ideal.tanh (cst 0x3F4C422A#32 * (z + cst 0x3D372713#32 * (z * (z * z))))
/-- Three times the square. -/
def gsq (z : EReal) : EReal := cst 0x40400000#32 * (z * z)
/-- The derivative of the hyperbolic tangent. -/
def gdt (z : EReal) : EReal := (1 + gth z) * (1 - gth z)
/-- The activation's factor: half of one plus the tangent. -/
def ghf (z : EReal) : EReal := cst 0x3F000000#32 * (1 + gth z)
/-- The activation. -/
def gel (z : EReal) : EReal := z * ghf z
/-- The part of the activation's derivative that comes through the tangent. -/
def gbk (z e : EReal) : EReal := cst 0x3F4C422A#32 * (cst 0x3F000000#32 * (z * e) * gdt z)
/-- The activation's derivative applied to a cotangent. -/
def gback (z e : EReal) : EReal := e * ghf z + gbk z e + cst 0x3D372713#32 * gbk z e * gsq z

/-! ## The normalisation of one row -/

/-- A row's mean. -/
def mean (v : Fin 1024 → EReal) : EReal := Ideal.div (∑ d, v d) (cst 0x44800000#32)
/-- A row less its mean. -/
def cen (v : Fin 1024 → EReal) (d : Fin 1024) : EReal := v d - mean v
/-- A row's variance and the small constant. -/
def vare (v : Fin 1024 → EReal) : EReal := Ideal.div (∑ d, cen v d * cen v d) (cst 0x44800000#32) + cst 0x358637BD#32
/-- The reciprocal of a row's deviation. -/
def rsd (v : Fin 1024 → EReal) : EReal := Ideal.rsqrt (vare v)
/-- The derivative of the reciprocal of the root. -/
def rsc (v : Fin 1024 → EReal) : EReal := cst 0xBF000000#32 * Ideal.div (rsd v) (vare v)
/-- The normalised row. -/
def nrm (v : Fin 1024 → EReal) (d : Fin 1024) : EReal := cen v d * rsd v
/-- The normalised row, scaled and shifted. -/
def aff (v g b : Fin 1024 → EReal) (d : Fin 1024) : EReal := nrm v d * g d + b d
/-- The part of a cotangent that comes through the variance. -/
def lnq (v e : Fin 1024 → EReal) : EReal := Ideal.div ((∑ d, cen v d * e d) * rsc v) (cst 0x44800000#32)
/-- The cotangent of the centred row. -/
def lnm (v e : Fin 1024 → EReal) (d : Fin 1024) : EReal := e d * rsd v + cen v d * lnq v e + lnq v e * cen v d
/-- The cotangent of the row. -/
def lnback (v e : Fin 1024 → EReal) (d : Fin 1024) : EReal :=
  lnm v e d + Ideal.div (∑ d, -(lnm v e d)) (cst 0x44800000#32)

/-! ## Columns -/

/-- Column `e` of group `k`. -/
def col (k : Fin 8) (e : Fin 128) : Fin 1024 := ⟨k.val * 128 + e.val, by omega⟩
/-- The group of a column. -/
def grp (d : Fin 1024) : Fin 8 := ⟨d.val / 128, by omega⟩
/-- A column's place in its group. -/
def lane (d : Fin 1024) : Fin 128 := ⟨d.val % 128, by omega⟩
/-- The first half's columns. -/
def lo (d : Fin 1024) : Fin 2048 := ⟨d.val, by omega⟩
/-- The second half's columns. -/
def hi (d : Fin 1024) : Fin 2048 := ⟨1024 + d.val, by omega⟩

@[simp] theorem grp_col (k : Fin 8) (e : Fin 128) : grp (col k e) = k := Fin.ext (by simp only [grp, col]; omega)
@[simp] theorem lane_col (k : Fin 8) (e : Fin 128) : lane (col k e) = e := Fin.ext (by simp only [lane, col]; omega)
@[simp] theorem col_grp (d : Fin 1024) : col (grp d) (lane d) = d := Fin.ext (by simp only [grp, lane, col]; omega)
/-- Every column is a group's. -/
theorem exists_col (d : Fin 1024) : ∃ k e, d = col k e := ⟨grp d, lane d, (col_grp d).symm⟩

/-! ## One chunk -/

section chunk

variable (z : Fin 128 → Fin 2048 → EReal) (g b : Fin 1024 → EReal) (w : Fin 8 → Fin 128 → Fin 128 → EReal)
  (bs : Fin 8 → Fin 128 → EReal) (ct : Fin 128 → Fin 1024 → EReal)

/-- The gate. -/
def gu (t : Fin 128) (d : Fin 1024) : EReal := gel (z t (lo d))
/-- The mixed half, before its normalisation. -/
def gv (t : Fin 128) (d : Fin 1024) : EReal := gel (z t (hi d))
/-- The mixed half, normalised. -/
def vn (t : Fin 128) (d : Fin 1024) : EReal := aff (gv z t) g b d
/-- The mixing matrix, causal. -/
def wm (k : Fin 8) (t s : Fin 128) : EReal := if s.val ≤ t.val then w k t s else 0
/-- The mixture of a chunk's tokens. -/
def mix (k : Fin 8) (t e : Fin 128) : EReal := ∑ s, wm w k t s * vn z g b s (col k e) + bs k t
/-- The mixture's cotangent. -/
def dmix (t : Fin 128) (d : Fin 1024) : EReal := gu z t d * ct t d
/-- The gate's cotangent. -/
def du (t : Fin 128) (d : Fin 1024) : EReal := ct t d * mix z g b w bs (grp d) t (lane d)
/-- The normalised half's cotangent. -/
def dvn (s : Fin 128) (d : Fin 1024) : EReal := ∑ t, wm w (grp d) t s * dmix z ct t d
/-- The chunk's part of the mixing matrix's gradient. -/
def dws (k : Fin 8) (t s : Fin 128) : EReal :=
  if s.val ≤ t.val then ∑ e, dmix z ct t (col k e) * vn z g b s (col k e) else 0
/-- The chunk's part of the mixing offset's gradient. -/
def dbs (k : Fin 8) (t : Fin 128) : EReal := ∑ e, dmix z ct t (col k e)
/-- The chunk's part of the scale's gradient. -/
def dg (d : Fin 1024) : EReal := ∑ s, nrm (gv z s) d * dvn z w ct s d
/-- The chunk's part of the shift's gradient. -/
def db (d : Fin 1024) : EReal := ∑ s, dvn z w ct s d
/-- The cotangent of the mixed half. -/
def dv (s : Fin 128) (d : Fin 1024) : EReal := lnback (gv z s) (fun d => dvn z w ct s d * g d) d
/-- The chunk's cotangent. -/
def dz (t : Fin 128) (j : Fin 2048) : EReal :=
  gback (z t j) (if h : j.val < 1024 then du z g b w bs ct t ⟨j.val, h⟩ else dv z g w ct t ⟨j.val - 1024, by omega⟩)

end chunk

end Cert.Gmlp

end
-- ==== Proof.Inputs.lean ====
/- The arguments, chunk by chunk: the sequence of 4096 tokens is 32 chunks of 128. -/
module

public import proofs.«01_k».proof.Proof.Spec
public import Idealize.ShloMosaic.Lib.Pointwise

@[expose] public section

noncomputable section

namespace Cert.Gmlp

open Idealize.ShloMosaic

/-- Token i of chunk p. -/
def tok (p : Fin 32) (i : Fin 128) : Fin 4096 := ⟨128 * p.val + i.val, by omega⟩

/-- Chunk p of the projection's first 2048 columns. -/
def zin (a : Vec Ideal ⟨2, ![4096, 10368]⟩ .f32) (p : Fin 32) (i : Fin 128) (j : Fin 2048) : EReal := a (ix2 (tok p i) ⟨j.val, by omega⟩)
/-- A vector of 1024 by its index. -/
def vin (a : Vec Ideal ⟨1, ![1024]⟩ .f32) (d : Fin 1024) : EReal := a (ix1 d)
/-- The mixing weights by group, target token and source token. -/
def win (a : Vec Ideal ⟨3, ![8, 128, 128]⟩ .f32) (k : Fin 8) (t s : Fin 128) : EReal := a (ix3 k t s)
/-- The mixing offsets by group and token. -/
def bin (a : Vec Ideal ⟨2, ![8, 128]⟩ .f32) (k : Fin 8) (t : Fin 128) : EReal := a (ix2 k t)
/-- Chunk p of the cotangent. -/
def cin (a : Vec Ideal ⟨2, ![4096, 1024]⟩ .f32) (p : Fin 32) (i : Fin 128) (d : Fin 1024) : EReal := a (ix2 (tok p i) d)

/-- Every token is a chunk's. -/
theorem exists_tok (n : Fin 4096) : ∃ p i, n = tok p i :=
  ⟨⟨n.val / 128, by omega⟩, ⟨n.val % 128, by omega⟩, Fin.ext (by simp only [tok]; omega)⟩

/-- A sum over the tokens is the sum over the chunks of the sums over their tokens. -/
theorem sum_tok (f : Fin 4096 → EReal) : ∑ n, f n = ∑ p : Fin 32, ∑ i : Fin 128, f (tok p i) := by
  rw [← Fintype.sum_prod_type']
  refine (Fintype.sum_equiv (finProdFinEquiv (m := 32) (n := 128)) _ _ fun x => congrArg f (Fin.ext ?_)).symm
  simp only [tok, finProdFinEquiv_apply_val]
  omega

end Cert.Gmlp

end
-- ==== Proof.BodyRow.lean ====
/- The kernel's first values of one block, at exact arithmetic: the activation and the normalisation, element by element. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Value

open Cert.KernelIdeal Cert.KernelIdeal.Gen Cert.Gmlp Idealize.ShloMosaic

/-- A block of tokens as a function of its two coordinates. -/
abbrev cur {a b : ℕ} (x : (⟨2, ![a, b]⟩ : Shape).Idx → EReal) : Fin a → Fin b → EReal := fun i j => x (ix2 i j)

/-- The number the row's mean divides by. -/
abbrev n1024 : Ideal .f32 := Ideal.ofBits .f32 0x44800000#32

section
variable (x0 : Vec Ideal S128x2048 .f32) (t : Fin 128)

theorem pay10_at (j : Fin 2048) : k0_pay10 (F := Ideal) x0 (ix2 t j) = gsq (x0 (ix2 t j)) := by
  pointwise [k0_pay10, gsq, cst]
theorem pay11_at (j : Fin 2048) : k0_pay11 (F := Ideal) x0 (ix2 t j) = gth (x0 (ix2 t j)) := by
  pointwise [k0_pay11, gth, cst]
theorem pay12_at (j : Fin 2048) : k0_pay12 (F := Ideal) x0 (ix2 t j) = gdt (x0 (ix2 t j)) := by
  pointwise [k0_pay12, gdt, pay11_at]
theorem pay13_at (j : Fin 2048) : k0_pay13 (F := Ideal) x0 (ix2 t j) = ghf (x0 (ix2 t j)) := by
  pointwise [k0_pay13, ghf, pay11_at]
theorem pay14_at (j : Fin 2048) : k0_pay14 (F := Ideal) x0 (ix2 t j) = gel (x0 (ix2 t j)) := by
  pointwise [k0_pay14, gel, pay13_at]
theorem pay15_at (d : Fin 1024) : k0_pay15 (F := Ideal) x0 (ix2 t d) = gu (cur x0) t d := by
  pointwise [k0_pay15, gu, pay14_at, lo]
theorem pay16_at (d : Fin 1024) : k0_pay16 (F := Ideal) x0 (ix2 t d) = gv (cur x0) t d := by
  pointwise [k0_pay16, gv, pay14_at, hi]
theorem pay17_at : k0_pay17 (F := Ideal) x0 (ix2 t 0) = ∑ d, gv (cur x0) t d := by
  pointwise [k0_pay17, pay16_at]
theorem pay18_at (d : Fin 1024) :
    k0_pay18 (F := Ideal) (k0_pay16 x0) (k0_pay17 x0) n1024 (ix2 t d) = cen (gv (cur x0) t) d := by
  pointwise [k0_pay18, pay16_at, pay17_at, cen, mean, n1024]
theorem pay19_at :
    k0_pay19 (F := Ideal) (k0_pay16 x0) (k0_pay17 x0) n1024 (ix2 t 0) = vare (gv (cur x0) t) := by
  pointwise [k0_pay19, pay18_at, vare]
theorem pay20_at :
    k0_pay20 (F := Ideal) (k0_pay16 x0) (k0_pay17 x0) n1024 (ix2 t 0) = rsd (gv (cur x0) t) := by
  pointwise [k0_pay20, pay19_at, rsd]
theorem pay21_at :
    k0_pay21 (F := Ideal) (k0_pay16 x0) (k0_pay17 x0) n1024 (ix2 t 0) = rsc (gv (cur x0) t) := by
  pointwise [k0_pay21, pay19_at, pay20_at, rsc]
theorem pay22_at (d : Fin 1024) :
    k0_pay22 (F := Ideal) (k0_pay16 x0) (k0_pay17 x0) n1024 (ix2 t d) = nrm (gv (cur x0) t) d := by
  pointwise [k0_pay22, pay18_at, pay20_at, nrm]
theorem pay23_at (x1 x2 : Vec Ideal S1x1024 .f32) (d : Fin 1024) :
    k0_pay23 (F := Ideal) (k0_pay6 x1) (k0_pay7 x2) (k0_pay16 x0) (k0_pay17 x0) n1024 (ix2 t d)
      = vn (cur x0) (cur x1 0) (cur x2 0) t d := by
  pointwise [k0_pay23, pay22_at, k0_pay6, k0_pay7, vn, aff]

end

end Cert.KernelIdeal.Value

end
-- ==== Proof.BodyGroups.lean ====
/- The groups of one block: the causal mixing matrices, the mixtures and their cotangents, each read at an index as the chunk's
   mathematics. There are eight groups, and the program treats each by operations of its own. -/
module

public import proofs.«01_k».proof.Proof.BodyRow

@[expose] public section

set_option maxRecDepth 16384

noncomputable section

namespace Cert.KernelIdeal.Value

open Cert.KernelIdeal Cert.KernelIdeal.Gen Cert.Gmlp Idealize.ShloMosaic

/-- The mixing matrices stacked by rows, as a function of the group. -/
abbrev wf (x : Vec Ideal S1024x128 .f32) : Fin 8 → Fin 128 → Fin 128 → EReal := fun k t s => x (ix2 (col k t) s)
/-- The mixing offsets, tokens by groups, as a function of the group. -/
abbrev bf (x : Vec Ideal S128x8 .f32) : Fin 8 → Fin 128 → EReal := fun k t => x (ix2 t k)

/-- The comparison of two tokens' numbers. -/
theorem cmp_ge : ∀ t s : Fin 128, IntOp.cmpi .sge (BitVec.ofNat 32 t.val) (BitVec.ofNat 32 s.val) = if s.val ≤ t.val then 1#1 else 0#1 := by
  decide +kernel
/-- The comparison of two groups' numbers. -/
theorem cmp_eq : ∀ x k : Fin 8, IntOp.cmpi .eq (BitVec.ofNat 32 x.val) (BitVec.ofNat 32 k.val) = if x = k then 1#1 else 0#1 := by
  decide +kernel
/-- A causal choice. -/
theorem sel_ge (t s : Fin 128) (a b : EReal) :
    Scalar.select (IntOp.cmpi .sge (BitVec.ofNat 32 t.val) (BitVec.ofNat 32 s.val)) a b = if s.val ≤ t.val then a else b := by
  rw [cmp_ge]; by_cases h : s.val ≤ t.val <;> simp [h, Scalar.select]
/-- A choice by group. -/
theorem sel_eq (x k : Fin 8) (a b : EReal) :
    Scalar.select (IntOp.cmpi .eq (BitVec.ofNat 32 x.val) (BitVec.ofNat 32 k.val)) a b = if x = k then a else b := by
  rw [cmp_eq]; by_cases h : x = k <;> simp [h, Scalar.select]
/-- The sum over the groups that keeps one. -/
theorem sum_sel (k : Fin 8) (c : BitVec 32) (hc : c = BitVec.ofNat 32 k.val) (f : Fin 8 → EReal) :
    (∑ x : Fin 8, Scalar.select (IntOp.cmpi .eq (BitVec.ofNat 32 x.val) c) (f x) 0) = f k := by
  subst hc; simp only [sel_eq]; rw [Finset.sum_ite_eq' Finset.univ k f, if_pos (Finset.mem_univ _)]

variable (x0 : Vec Ideal S128x2048 .f32) (x1 x2 : Vec Ideal S1x1024 .f32) (x3 : Vec Ideal S1024x128 .f32)
  (x4 : Vec Ideal S128x8 .f32) (x5 : Vec Ideal S128x1024 .f32) (t s e : Fin 128)

theorem w0_at : k0_pay40 (F := Ideal) x3 (ix2 t s) = wm (wf x3) 0 t s := by
  pointwise [k0_pay40, k0_pay24, wm, sel_ge, wf, col]
theorem v0_at : k0_pay32 (F := Ideal) x1 x2 (k0_pay16 x0) (k0_pay17 x0) n1024 (ix2 s e) = vn (cur x0) (cur x1 0) (cur x2 0) s (col 0 e) := by
  rw [← pay23_at]; pointwise [k0_pay32, col, k0_pay6, k0_pay7]
theorem d0_at : k0_pay67 (F := Ideal) (k0_pay15 x0) x5 (ix2 t e) = dmix (cur x0) (cur x5) t (col 0 e) := by
  pointwise [k0_pay67, k0_pay65, pay15_at, dmix, col]
theorem bsel0_at : (∑ x : Fin 8, Scalar.select (IntOp.cmpi .eq (BitVec.ofNat 32 x.val) 0#32) (x4 (ix2 t x)) 0) = bf x4 0 t :=
  sum_sel 0 _ rfl _
theorem w1_at : k0_pay45 (F := Ideal) k0_pay24 (k0_pay25 x3) (ix2 t s) = wm (wf x3) 1 t s := by
  pointwise [k0_pay45, k0_pay25, k0_pay24, wm, sel_ge, wf, col]
theorem v1_at : k0_pay33 (F := Ideal) x1 x2 (k0_pay16 x0) (k0_pay17 x0) n1024 (ix2 s e) = vn (cur x0) (cur x1 0) (cur x2 0) s (col 1 e) := by
  rw [← pay23_at]; pointwise [k0_pay33, col, k0_pay6, k0_pay7]
theorem d1_at : k0_pay68 (F := Ideal) (k0_pay15 x0) x5 (ix2 t e) = dmix (cur x0) (cur x5) t (col 1 e) := by
  pointwise [k0_pay68, k0_pay65, pay15_at, dmix, col]
theorem bsel1_at : (∑ x : Fin 8, Scalar.select (IntOp.cmpi .eq (BitVec.ofNat 32 x.val) 1#32) (x4 (ix2 t x)) 0) = bf x4 1 t :=
  sum_sel 1 _ rfl _
theorem w2_at : k0_pay48 (F := Ideal) k0_pay24 (k0_pay26 x3) (ix2 t s) = wm (wf x3) 2 t s := by
  pointwise [k0_pay48, k0_pay26, k0_pay24, wm, sel_ge, wf, col]
theorem v2_at : k0_pay34 (F := Ideal) x1 x2 (k0_pay16 x0) (k0_pay17 x0) n1024 (ix2 s e) = vn (cur x0) (cur x1 0) (cur x2 0) s (col 2 e) := by
  rw [← pay23_at]; pointwise [k0_pay34, col, k0_pay6, k0_pay7]
theorem d2_at : k0_pay69 (F := Ideal) (k0_pay15 x0) x5 (ix2 t e) = dmix (cur x0) (cur x5) t (col 2 e) := by
  pointwise [k0_pay69, k0_pay65, pay15_at, dmix, col]
theorem bsel2_at : (∑ x : Fin 8, Scalar.select (IntOp.cmpi .eq (BitVec.ofNat 32 x.val) 2#32) (x4 (ix2 t x)) 0) = bf x4 2 t :=
  sum_sel 2 _ rfl _
theorem w3_at : k0_pay51 (F := Ideal) k0_pay24 (k0_pay27 x3) (ix2 t s) = wm (wf x3) 3 t s := by
  pointwise [k0_pay51, k0_pay27, k0_pay24, wm, sel_ge, wf, col]
theorem v3_at : k0_pay35 (F := Ideal) x1 x2 (k0_pay16 x0) (k0_pay17 x0) n1024 (ix2 s e) = vn (cur x0) (cur x1 0) (cur x2 0) s (col 3 e) := by
  rw [← pay23_at]; pointwise [k0_pay35, col, k0_pay6, k0_pay7]
theorem d3_at : k0_pay70 (F := Ideal) (k0_pay15 x0) x5 (ix2 t e) = dmix (cur x0) (cur x5) t (col 3 e) := by
  pointwise [k0_pay70, k0_pay65, pay15_at, dmix, col]
theorem bsel3_at : (∑ x : Fin 8, Scalar.select (IntOp.cmpi .eq (BitVec.ofNat 32 x.val) 3#32) (x4 (ix2 t x)) 0) = bf x4 3 t :=
  sum_sel 3 _ rfl _
theorem w4_at : k0_pay54 (F := Ideal) k0_pay24 (k0_pay28 x3) (ix2 t s) = wm (wf x3) 4 t s := by
  pointwise [k0_pay54, k0_pay28, k0_pay24, wm, sel_ge, wf, col]
theorem v4_at : k0_pay36 (F := Ideal) x1 x2 (k0_pay16 x0) (k0_pay17 x0) n1024 (ix2 s e) = vn (cur x0) (cur x1 0) (cur x2 0) s (col 4 e) := by
  rw [← pay23_at]; pointwise [k0_pay36, col, k0_pay6, k0_pay7]
theorem d4_at : k0_pay71 (F := Ideal) (k0_pay15 x0) x5 (ix2 t e) = dmix (cur x0) (cur x5) t (col 4 e) := by
  pointwise [k0_pay71, k0_pay65, pay15_at, dmix, col]
theorem bsel4_at : (∑ x : Fin 8, Scalar.select (IntOp.cmpi .eq (BitVec.ofNat 32 x.val) 4#32) (x4 (ix2 t x)) 0) = bf x4 4 t :=
  sum_sel 4 _ rfl _
theorem w5_at : k0_pay57 (F := Ideal) k0_pay24 (k0_pay29 x3) (ix2 t s) = wm (wf x3) 5 t s := by
  pointwise [k0_pay57, k0_pay29, k0_pay24, wm, sel_ge, wf, col]
theorem v5_at : k0_pay37 (F := Ideal) x1 x2 (k0_pay16 x0) (k0_pay17 x0) n1024 (ix2 s e) = vn (cur x0) (cur x1 0) (cur x2 0) s (col 5 e) := by
  rw [← pay23_at]; pointwise [k0_pay37, col, k0_pay6, k0_pay7]
theorem d5_at : k0_pay72 (F := Ideal) (k0_pay15 x0) x5 (ix2 t e) = dmix (cur x0) (cur x5) t (col 5 e) := by
  pointwise [k0_pay72, k0_pay65, pay15_at, dmix, col]
theorem bsel5_at : (∑ x : Fin 8, Scalar.select (IntOp.cmpi .eq (BitVec.ofNat 32 x.val) 5#32) (x4 (ix2 t x)) 0) = bf x4 5 t :=
  sum_sel 5 _ rfl _
theorem w6_at : k0_pay60 (F := Ideal) k0_pay24 (k0_pay30 x3) (ix2 t s) = wm (wf x3) 6 t s := by
  pointwise [k0_pay60, k0_pay30, k0_pay24, wm, sel_ge, wf, col]
theorem v6_at : k0_pay38 (F := Ideal) x1 x2 (k0_pay16 x0) (k0_pay17 x0) n1024 (ix2 s e) = vn (cur x0) (cur x1 0) (cur x2 0) s (col 6 e) := by
  rw [← pay23_at]; pointwise [k0_pay38, col, k0_pay6, k0_pay7]
theorem d6_at : k0_pay73 (F := Ideal) (k0_pay15 x0) x5 (ix2 t e) = dmix (cur x0) (cur x5) t (col 6 e) := by
  pointwise [k0_pay73, k0_pay65, pay15_at, dmix, col]
theorem bsel6_at : (∑ x : Fin 8, Scalar.select (IntOp.cmpi .eq (BitVec.ofNat 32 x.val) 6#32) (x4 (ix2 t x)) 0) = bf x4 6 t :=
  sum_sel 6 _ rfl _
theorem w7_at : k0_pay63 (F := Ideal) k0_pay24 (k0_pay31 x3) (ix2 t s) = wm (wf x3) 7 t s := by
  pointwise [k0_pay63, k0_pay31, k0_pay24, wm, sel_ge, wf, col]
theorem v7_at : k0_pay39 (F := Ideal) x1 x2 (k0_pay16 x0) (k0_pay17 x0) n1024 (ix2 s e) = vn (cur x0) (cur x1 0) (cur x2 0) s (col 7 e) := by
  rw [← pay23_at]; pointwise [k0_pay39, col, k0_pay6, k0_pay7]
theorem d7_at : k0_pay74 (F := Ideal) (k0_pay15 x0) x5 (ix2 t e) = dmix (cur x0) (cur x5) t (col 7 e) := by
  pointwise [k0_pay74, k0_pay65, pay15_at, dmix, col]
theorem bsel7_at : (∑ x : Fin 8, Scalar.select (IntOp.cmpi .eq (BitVec.ofNat 32 x.val) 7#32) (x4 (ix2 t x)) 0) = bf x4 7 t :=
  sum_sel 7 _ rfl _

end Cert.KernelIdeal.Value

end
-- ==== Proof.Blocks.lean ====
/- What each window's block holds, in terms of the program's arguments. The grid runs through the sequence's chunks
   from the last to the first, so the point t works on chunk 31 - t. -/
module

public import proofs.«01_k».proof.Proof.Inputs
public import proofs.«01_k».proof.Proof.BodyRow
public import proofs.«01_k».proof.Proof.BodyGroups
public import proofs.«01_k».proof.Proof.Gen.KernelIdeal.Frame
public import Idealize.ShloMosaic.Lib.Pointwise
public import Idealize.ShloMosaic.Lib.Claim
public import Idealize.ShloMosaic.Lib.Pipeline.Value

@[expose] public section

set_option maxRecDepth 16384

noncomputable section

namespace Cert.KernelIdeal.Value

open Cert.KernelIdeal Cert.KernelIdeal.Gen Cert.Gmlp Idealize.ShloMosaic Idealize.ShloMosaic.TcCoe

variable (m : (ℓ : Loc nD τ sig) → Buf (Elt Ideal) ℓ) (c : Dev nD)

/-- The chunk that point t works on. -/
def chk (t : Fin cfg0.N) : Fin 32 := ⟨31 - t.val, by omega⟩

theorem ix0_0 : ∀ t : Fin cfg0.N, win0_0.index t 0 = 31 - t.val ∧ win0_0.index t 1 = 0 := by
  show ∀ t : Fin grid0.N, _
  decide +kernel
theorem ix0_5 : ∀ t : Fin cfg0.N, win0_5.index t 0 = 31 - t.val ∧ win0_5.index t 1 = 0 := by
  show ∀ t : Fin grid0.N, _
  decide +kernel
theorem ix0_6 : ∀ t : Fin cfg0.N, win0_6.index t 0 = 31 - t.val ∧ win0_6.index t 1 = 0 := by
  show ∀ t : Fin grid0.N, _
  decide +kernel

theorem V0 : V m c main_v0 = (shapeCast S1x1024 (m ((c : Thread nD τ).loc main_arg1) : Vec Ideal S1024 .f32) shapeCasts_S1024_S1x1024 : Vec Ideal S1x1024 .f32) := by
  show StableHlo.after hostOps0 _ (Proc.devRef .tc main_v0) = _
  after_results
  rfl
theorem V1 : V m c main_v1 = (shapeCast S1x1024 (m ((c : Thread nD τ).loc main_arg2) : Vec Ideal S1024 .f32) shapeCasts_S1024_S1x1024 : Vec Ideal S1x1024 .f32) := by
  show StableHlo.after hostOps0 _ (Proc.devRef .tc main_v1) = _
  after_results
  rfl
theorem V2 : V m c main_v2 = (shapeCast S1024x128 (m ((c : Thread nD τ).loc main_arg3) : Vec Ideal S8x128x128 .f32) shapeCasts_S8x128x128_S1024x128 : Vec Ideal S1024x128 .f32) := by
  show StableHlo.after hostOps0 _ (Proc.devRef .tc main_v2) = _
  after_results
  rfl
theorem V3 : V m c main_v3 = (transpose S128x8 [1, 0] (m ((c : Thread nD τ).loc main_arg4) : Vec Ideal S8x128 .f32) transposes_S8x128_S128x8_1_0 : Vec Ideal S128x8 .f32) := by
  show StableHlo.after hostOps0 _ (Proc.devRef .tc main_v3) = _
  after_results

/-- The projection's block at a point: its chunk. -/
theorem blk0 (t : Fin cfg0.N) : cur (X0_0 m c t) = zin (m ((c : Thread nD τ).loc main_arg0)) (chk t) := by
  funext i j
  have hi := ix0_0 t
  show X0_0 m c t (ix2 i j) = _
  unfold X0_0 Pipeline.Window.fill
  rw [dif_pos (moved0_0 t (ix2 i j))]
  unfold iblk
  rw [View.read_apply]
  show V m c main_arg0 _ = _
  rw [V_main_arg0]
  unfold zin
  congr 1
  funext a
  apply Fin.ext
  match a with
  | ⟨0, _⟩ => show win0_0.index t 0 * 128 + 1 * i.val = 128 * (31 - t.val) + i.val; rw [hi.1]; omega
  | ⟨1, _⟩ => show win0_0.index t 1 * 2048 + 1 * j.val = j.val; rw [hi.2]; omega

/-- The cotangent's block at a point: its chunk. -/
theorem blk5 (t : Fin cfg0.N) : cur (iblk m c 5 t : Vec Ideal S128x1024 .f32) = cin (m ((c : Thread nD τ).loc main_arg5)) (chk t) := by
  funext i j
  have hi := ix0_5 t
  show (iblk m c 5 t : Vec Ideal S128x1024 .f32) (ix2 i j) = _
  unfold iblk
  rw [View.read_apply]
  show V m c main_arg5 _ = _
  rw [V_main_arg5]
  unfold cin
  congr 1
  funext a
  apply Fin.ext
  match a with
  | ⟨0, _⟩ => show win0_5.index t 0 * 128 + 1 * i.val = 128 * (31 - t.val) + i.val; rw [hi.1]; omega
  | ⟨1, _⟩ => show win0_5.index t 1 * 1024 + 1 * j.val = j.val; rw [hi.2]; omega

/-- A window on a whole array reads the array. -/
theorem blk1_V (t : Fin cfg0.N) : (iblk m c 1 t : Vec Ideal S1x1024 .f32) = V m c main_v0 := by
  have hz' : (fun a => win0_1.index t a * main_v0.ty.shape.size a) = fun _ => 0 := funext fun a => by fin_cases a <;> rfl
  exact Memref.read_access_unit_zero (Elt Ideal) main_v0 hz' (fun a => by rw [congrFun hz' a]; simp) (V m c main_v0)
theorem blk2_V (t : Fin cfg0.N) : (iblk m c 2 t : Vec Ideal S1x1024 .f32) = V m c main_v1 := by
  have hz' : (fun a => win0_2.index t a * main_v1.ty.shape.size a) = fun _ => 0 := funext fun a => by fin_cases a <;> rfl
  exact Memref.read_access_unit_zero (Elt Ideal) main_v1 hz' (fun a => by rw [congrFun hz' a]; simp) (V m c main_v1)
theorem blk3_V (t : Fin cfg0.N) : (iblk m c 3 t : Vec Ideal S1024x128 .f32) = V m c main_v2 := by
  have hz' : (fun a => win0_3.index t a * main_v2.ty.shape.size a) = fun _ => 0 := funext fun a => by fin_cases a <;> rfl
  exact Memref.read_access_unit_zero (Elt Ideal) main_v2 hz' (fun a => by rw [congrFun hz' a]; simp) (V m c main_v2)
theorem blk4_V (t : Fin cfg0.N) : (iblk m c 4 t : Vec Ideal S128x8 .f32) = V m c main_v3 := by
  have hz' : (fun a => win0_4.index t a * main_v3.ty.shape.size a) = fun _ => 0 := funext fun a => by fin_cases a <;> rfl
  exact Memref.read_access_unit_zero (Elt Ideal) main_v3 hz' (fun a => by rw [congrFun hz' a]; simp) (V m c main_v3)

/-- A row is the vector it was reshaped from. -/
theorem row_at (x : Vec Ideal S1024 .f32) : cur (shapeCast S1x1024 x shapeCasts_S1024_S1x1024 : Vec Ideal S1x1024 .f32) 0 = vin x := by
  funext d
  show (shapeCast S1x1024 x shapeCasts_S1024_S1x1024 : Vec Ideal S1x1024 .f32) (ix2 0 d) = x (ix1 d)
  pointwise
/-- The weights laid out by rows, read back by group. -/
theorem w_at (x : Vec Ideal S8x128x128 .f32) : wf (shapeCast S1024x128 x shapeCasts_S8x128x128_S1024x128 : Vec Ideal S1024x128 .f32) = win x := by
  funext k t s
  show (shapeCast S1024x128 x shapeCasts_S8x128x128_S1024x128 : Vec Ideal S1024x128 .f32) (ix2 (col k t) s) = x (ix3 k t s)
  refine shapeCast_apply _ _ _ _ (by rw [Shape.rowMajor_val_three, Shape.rowMajor_val_two]; dsimp [col]; try omega)
/-- The transposed offsets, read back by group. -/
theorem b_at (x : Vec Ideal S8x128 .f32) : bf (transpose S128x8 [1, 0] x transposes_S8x128_S128x8_1_0 : Vec Ideal S128x8 .f32) = bin x := by
  funext k t
  show (transpose S128x8 [1, 0] x transposes_S8x128_S128x8_1_0 : Vec Ideal S128x8 .f32) (ix2 t k) = x (ix2 k t)
  pointwise

theorem blk1 (t : Fin cfg0.N) : cur (iblk m c 1 t : Vec Ideal S1x1024 .f32) 0 = vin (m ((c : Thread nD τ).loc main_arg1)) := by
  rw [blk1_V, V0, row_at]
theorem blk2 (t : Fin cfg0.N) : cur (iblk m c 2 t : Vec Ideal S1x1024 .f32) 0 = vin (m ((c : Thread nD τ).loc main_arg2)) := by
  rw [blk2_V, V1, row_at]
theorem blk3 (t : Fin cfg0.N) : wf (iblk m c 3 t : Vec Ideal S1024x128 .f32) = win (m ((c : Thread nD τ).loc main_arg3)) := by
  rw [blk3_V, V2, w_at]
theorem blk4 (t : Fin cfg0.N) : bf (iblk m c 4 t : Vec Ideal S128x8 .f32) = bin (m ((c : Thread nD τ).loc main_arg4)) := by
  rw [blk4_V, V3, b_at]

end Cert.KernelIdeal.Value

end
-- ==== Proof.BodyMix.lean ====
/- The products of one block, group by group: the mixtures, the cotangents of the normalised half and the parts of the mixing
   matrices' gradient. -/
module

public import proofs.«01_k».proof.Proof.BodyGroups

@[expose] public section

set_option maxRecDepth 16384

noncomputable section

namespace Cert.KernelIdeal.Value

open Cert.KernelIdeal Cert.KernelIdeal.Gen Cert.Gmlp Idealize.ShloMosaic

variable (x0 : Vec Ideal S128x2048 .f32) (x1 x2 : Vec Ideal S1x1024 .f32) (x3 : Vec Ideal S1024x128 .f32)
  (x4 : Vec Ideal S128x8 .f32) (x5 : Vec Ideal S128x1024 .f32) (t s e : Fin 128)

theorem mix0_at : k0_pay44 (F := Ideal) (k0_pay41 x1 x2 x3 (k0_pay16 x0) (k0_pay17 x0) n1024) (k0_pay43 x4) (ix2 t e)
    = mix (cur x0) (cur x1 0) (cur x2 0) (wf x3) (bf x4) 0 t e := by
  pointwise [k0_pay44, k0_pay41, k0_pay43, k0_pay42, w0_at, v0_at, mix]
  exact congrArg₂ (· + ·) rfl (bsel0_at x4 t)
theorem mix1_at : k0_pay47 (F := Ideal) x4 k0_pay24 (k0_pay25 x3) (k0_pay33 x1 x2 (k0_pay16 x0) (k0_pay17 x0) n1024) (ix2 t e)
    = mix (cur x0) (cur x1 0) (cur x2 0) (wf x3) (bf x4) 1 t e := by
  pointwise [k0_pay47, k0_pay46, w1_at, v1_at, mix]
  exact congrArg₂ (· + ·) rfl (bsel1_at x4 t)
theorem dvn1_at : k0_pay99 (F := Ideal) (k0_pay45 k0_pay24 (k0_pay25 x3)) (k0_pay68 (k0_pay15 x0) x5) (ix2 s e) = dvn (cur x0) (wf x3) (cur x5) s (col 1 e) := by
  pointwise [k0_pay99, k0_pay98, w1_at, d1_at, dvn, grp_col]
theorem dws1_at : k0_pay100 (F := Ideal) k0_pay24 (k0_pay33 x1 x2 (k0_pay16 x0) (k0_pay17 x0) n1024) (k0_pay68 (k0_pay15 x0) x5) (ix2 t s)
    = dws (cur x0) (cur x1 0) (cur x2 0) (cur x5) 1 t s := by
  pointwise [k0_pay100, k0_pay98, k0_pay24, v1_at, d1_at, dws, sel_ge]
theorem mix2_at : k0_pay50 (F := Ideal) x4 k0_pay24 (k0_pay26 x3) (k0_pay34 x1 x2 (k0_pay16 x0) (k0_pay17 x0) n1024) (ix2 t e)
    = mix (cur x0) (cur x1 0) (cur x2 0) (wf x3) (bf x4) 2 t e := by
  pointwise [k0_pay50, k0_pay49, w2_at, v2_at, mix]
  exact congrArg₂ (· + ·) rfl (bsel2_at x4 t)
theorem dvn2_at : k0_pay95 (F := Ideal) (k0_pay48 k0_pay24 (k0_pay26 x3)) (k0_pay69 (k0_pay15 x0) x5) (ix2 s e) = dvn (cur x0) (wf x3) (cur x5) s (col 2 e) := by
  pointwise [k0_pay95, k0_pay94, w2_at, d2_at, dvn, grp_col]
theorem dws2_at : k0_pay96 (F := Ideal) k0_pay24 (k0_pay34 x1 x2 (k0_pay16 x0) (k0_pay17 x0) n1024) (k0_pay69 (k0_pay15 x0) x5) (ix2 t s)
    = dws (cur x0) (cur x1 0) (cur x2 0) (cur x5) 2 t s := by
  pointwise [k0_pay96, k0_pay94, k0_pay24, v2_at, d2_at, dws, sel_ge]
theorem mix3_at : k0_pay53 (F := Ideal) x4 k0_pay24 (k0_pay27 x3) (k0_pay35 x1 x2 (k0_pay16 x0) (k0_pay17 x0) n1024) (ix2 t e)
    = mix (cur x0) (cur x1 0) (cur x2 0) (wf x3) (bf x4) 3 t e := by
  pointwise [k0_pay53, k0_pay52, w3_at, v3_at, mix]
  exact congrArg₂ (· + ·) rfl (bsel3_at x4 t)
theorem dvn3_at : k0_pay92 (F := Ideal) (k0_pay51 k0_pay24 (k0_pay27 x3)) (k0_pay70 (k0_pay15 x0) x5) (ix2 s e) = dvn (cur x0) (wf x3) (cur x5) s (col 3 e) := by
  pointwise [k0_pay92, k0_pay91, w3_at, d3_at, dvn, grp_col]
theorem dws3_at : k0_pay93 (F := Ideal) k0_pay24 (k0_pay35 x1 x2 (k0_pay16 x0) (k0_pay17 x0) n1024) (k0_pay70 (k0_pay15 x0) x5) (ix2 t s)
    = dws (cur x0) (cur x1 0) (cur x2 0) (cur x5) 3 t s := by
  pointwise [k0_pay93, k0_pay91, k0_pay24, v3_at, d3_at, dws, sel_ge]
theorem mix4_at : k0_pay56 (F := Ideal) x4 k0_pay24 (k0_pay28 x3) (k0_pay36 x1 x2 (k0_pay16 x0) (k0_pay17 x0) n1024) (ix2 t e)
    = mix (cur x0) (cur x1 0) (cur x2 0) (wf x3) (bf x4) 4 t e := by
  pointwise [k0_pay56, k0_pay55, w4_at, v4_at, mix]
  exact congrArg₂ (· + ·) rfl (bsel4_at x4 t)
theorem dvn4_at : k0_pay88 (F := Ideal) (k0_pay54 k0_pay24 (k0_pay28 x3)) (k0_pay71 (k0_pay15 x0) x5) (ix2 s e) = dvn (cur x0) (wf x3) (cur x5) s (col 4 e) := by
  pointwise [k0_pay88, k0_pay87, w4_at, d4_at, dvn, grp_col]
theorem dws4_at : k0_pay89 (F := Ideal) k0_pay24 (k0_pay36 x1 x2 (k0_pay16 x0) (k0_pay17 x0) n1024) (k0_pay71 (k0_pay15 x0) x5) (ix2 t s)
    = dws (cur x0) (cur x1 0) (cur x2 0) (cur x5) 4 t s := by
  pointwise [k0_pay89, k0_pay87, k0_pay24, v4_at, d4_at, dws, sel_ge]
theorem mix5_at : k0_pay59 (F := Ideal) x4 k0_pay24 (k0_pay29 x3) (k0_pay37 x1 x2 (k0_pay16 x0) (k0_pay17 x0) n1024) (ix2 t e)
    = mix (cur x0) (cur x1 0) (cur x2 0) (wf x3) (bf x4) 5 t e := by
  pointwise [k0_pay59, k0_pay58, w5_at, v5_at, mix]
  exact congrArg₂ (· + ·) rfl (bsel5_at x4 t)
theorem dvn5_at : k0_pay84 (F := Ideal) (k0_pay57 k0_pay24 (k0_pay29 x3)) (k0_pay72 (k0_pay15 x0) x5) (ix2 s e) = dvn (cur x0) (wf x3) (cur x5) s (col 5 e) := by
  pointwise [k0_pay84, k0_pay83, w5_at, d5_at, dvn, grp_col]
theorem dws5_at : k0_pay85 (F := Ideal) k0_pay24 (k0_pay37 x1 x2 (k0_pay16 x0) (k0_pay17 x0) n1024) (k0_pay72 (k0_pay15 x0) x5) (ix2 t s)
    = dws (cur x0) (cur x1 0) (cur x2 0) (cur x5) 5 t s := by
  pointwise [k0_pay85, k0_pay83, k0_pay24, v5_at, d5_at, dws, sel_ge]
theorem mix6_at : k0_pay62 (F := Ideal) x4 k0_pay24 (k0_pay30 x3) (k0_pay38 x1 x2 (k0_pay16 x0) (k0_pay17 x0) n1024) (ix2 t e)
    = mix (cur x0) (cur x1 0) (cur x2 0) (wf x3) (bf x4) 6 t e := by
  pointwise [k0_pay62, k0_pay61, w6_at, v6_at, mix]
  exact congrArg₂ (· + ·) rfl (bsel6_at x4 t)
theorem dvn6_at : k0_pay81 (F := Ideal) (k0_pay60 k0_pay24 (k0_pay30 x3)) (k0_pay73 (k0_pay15 x0) x5) (ix2 s e) = dvn (cur x0) (wf x3) (cur x5) s (col 6 e) := by
  pointwise [k0_pay81, k0_pay80, w6_at, d6_at, dvn, grp_col]
theorem dws6_at : k0_pay82 (F := Ideal) k0_pay24 (k0_pay38 x1 x2 (k0_pay16 x0) (k0_pay17 x0) n1024) (k0_pay73 (k0_pay15 x0) x5) (ix2 t s)
    = dws (cur x0) (cur x1 0) (cur x2 0) (cur x5) 6 t s := by
  pointwise [k0_pay82, k0_pay80, k0_pay24, v6_at, d6_at, dws, sel_ge]
theorem dvn7_at : k0_pay77 (F := Ideal) (k0_pay15 x0) (k0_pay63 k0_pay24 (k0_pay31 x3)) x5 (ix2 s e) = dvn (cur x0) (wf x3) (cur x5) s (col 7 e) := by
  pointwise [k0_pay77, k0_pay76, w7_at, d7_at, dvn, grp_col]
theorem dws7_at : k0_pay78 (F := Ideal) (k0_pay15 x0) k0_pay24 (k0_pay39 x1 x2 (k0_pay16 x0) (k0_pay17 x0) n1024) x5 (ix2 t s)
    = dws (cur x0) (cur x1 0) (cur x2 0) (cur x5) 7 t s := by
  pointwise [k0_pay78, k0_pay76, k0_pay24, v7_at, d7_at, dws, sel_ge]

end Cert.KernelIdeal.Value

end
-- ==== Proof.BodyCat.lean ====
/- The concatenations of eight groups, at a column of one of them: for any operands. -/
module

public import proofs.«01_k».proof.Proof.BodyGroups

@[expose] public section

set_option maxRecDepth 16384

noncomputable section

namespace Cert.KernelIdeal.Value

open Cert.KernelIdeal Cert.KernelIdeal.Gen Cert.Gmlp Idealize.ShloMosaic

variable (v11 : Vec Ideal S128x8 .f32) (m : IVec S128x128 1) (a b p0 p1 p2 p3 p4 p5 p6 p7 : Vec Ideal S128x128 .f32)
  (ct : Vec Ideal S128x1024 .f32) (t s e : Fin 128)

theorem catc0 : concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S128x1024_d1 (ix2 t (col 0 e)) = p0 (ix2 t e) := by
  pointwise
  have hk : (col 0 e).val = 0 * 128 + e.val := rfl
  rw [dif_pos (by omega)]
  exact congrArg (fun e' => p0 (ix2 t e')) (Fin.ext (by dsimp only; omega) : _ = e)
theorem catr0 : concatenate S1024x128 0 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S1024x128_d0 (ix2 (col 0 e) s) = p0 (ix2 e s) := by
  pointwise
  have hk : (col 0 e).val = 0 * 128 + e.val := rfl
  rw [dif_pos (by omega)]
  exact congrArg (fun e' => p0 (ix2 e' s)) (Fin.ext (by dsimp only; omega) : _ = e)
theorem catc1 : concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S128x1024_d1 (ix2 t (col 1 e)) = p1 (ix2 t e) := by
  pointwise
  have hk : (col 1 e).val = 1 * 128 + e.val := rfl
  rw [dif_neg (by omega), dif_pos (by omega)]
  exact congrArg (fun e' => p1 (ix2 t e')) (Fin.ext (by dsimp only; omega) : _ = e)
theorem catr1 : concatenate S1024x128 0 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S1024x128_d0 (ix2 (col 1 e) s) = p1 (ix2 e s) := by
  pointwise
  have hk : (col 1 e).val = 1 * 128 + e.val := rfl
  rw [dif_neg (by omega), dif_pos (by omega)]
  exact congrArg (fun e' => p1 (ix2 e' s)) (Fin.ext (by dsimp only; omega) : _ = e)
theorem catc2 : concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S128x1024_d1 (ix2 t (col 2 e)) = p2 (ix2 t e) := by
  pointwise
  have hk : (col 2 e).val = 2 * 128 + e.val := rfl
  rw [dif_neg (by omega), dif_neg (by omega), dif_pos (by omega)]
  exact congrArg (fun e' => p2 (ix2 t e')) (Fin.ext (by dsimp only; omega) : _ = e)
theorem catr2 : concatenate S1024x128 0 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S1024x128_d0 (ix2 (col 2 e) s) = p2 (ix2 e s) := by
  pointwise
  have hk : (col 2 e).val = 2 * 128 + e.val := rfl
  rw [dif_neg (by omega), dif_neg (by omega), dif_pos (by omega)]
  exact congrArg (fun e' => p2 (ix2 e' s)) (Fin.ext (by dsimp only; omega) : _ = e)
theorem catc3 : concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S128x1024_d1 (ix2 t (col 3 e)) = p3 (ix2 t e) := by
  pointwise
  have hk : (col 3 e).val = 3 * 128 + e.val := rfl
  rw [dif_neg (by omega), dif_neg (by omega), dif_neg (by omega), dif_pos (by omega)]
  exact congrArg (fun e' => p3 (ix2 t e')) (Fin.ext (by dsimp only; omega) : _ = e)
theorem catr3 : concatenate S1024x128 0 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S1024x128_d0 (ix2 (col 3 e) s) = p3 (ix2 e s) := by
  pointwise
  have hk : (col 3 e).val = 3 * 128 + e.val := rfl
  rw [dif_neg (by omega), dif_neg (by omega), dif_neg (by omega), dif_pos (by omega)]
  exact congrArg (fun e' => p3 (ix2 e' s)) (Fin.ext (by dsimp only; omega) : _ = e)
theorem catc4 : concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S128x1024_d1 (ix2 t (col 4 e)) = p4 (ix2 t e) := by
  pointwise
  have hk : (col 4 e).val = 4 * 128 + e.val := rfl
  rw [dif_neg (by omega), dif_neg (by omega), dif_neg (by omega), dif_neg (by omega), dif_pos (by omega)]
  exact congrArg (fun e' => p4 (ix2 t e')) (Fin.ext (by dsimp only; omega) : _ = e)
theorem catr4 : concatenate S1024x128 0 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S1024x128_d0 (ix2 (col 4 e) s) = p4 (ix2 e s) := by
  pointwise
  have hk : (col 4 e).val = 4 * 128 + e.val := rfl
  rw [dif_neg (by omega), dif_neg (by omega), dif_neg (by omega), dif_neg (by omega), dif_pos (by omega)]
  exact congrArg (fun e' => p4 (ix2 e' s)) (Fin.ext (by dsimp only; omega) : _ = e)
theorem catc5 : concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S128x1024_d1 (ix2 t (col 5 e)) = p5 (ix2 t e) := by
  pointwise
  have hk : (col 5 e).val = 5 * 128 + e.val := rfl
  rw [dif_neg (by omega), dif_neg (by omega), dif_neg (by omega), dif_neg (by omega), dif_neg (by omega), dif_pos (by omega)]
  exact congrArg (fun e' => p5 (ix2 t e')) (Fin.ext (by dsimp only; omega) : _ = e)
theorem catr5 : concatenate S1024x128 0 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S1024x128_d0 (ix2 (col 5 e) s) = p5 (ix2 e s) := by
  pointwise
  have hk : (col 5 e).val = 5 * 128 + e.val := rfl
  rw [dif_neg (by omega), dif_neg (by omega), dif_neg (by omega), dif_neg (by omega), dif_neg (by omega), dif_pos (by omega)]
  exact congrArg (fun e' => p5 (ix2 e' s)) (Fin.ext (by dsimp only; omega) : _ = e)
theorem catc6 : concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S128x1024_d1 (ix2 t (col 6 e)) = p6 (ix2 t e) := by
  pointwise
  have hk : (col 6 e).val = 6 * 128 + e.val := rfl
  rw [dif_neg (by omega), dif_neg (by omega), dif_neg (by omega), dif_neg (by omega), dif_neg (by omega), dif_neg (by omega), dif_pos (by omega)]
  exact congrArg (fun e' => p6 (ix2 t e')) (Fin.ext (by dsimp only; omega) : _ = e)
theorem catr6 : concatenate S1024x128 0 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S1024x128_d0 (ix2 (col 6 e) s) = p6 (ix2 e s) := by
  pointwise
  have hk : (col 6 e).val = 6 * 128 + e.val := rfl
  rw [dif_neg (by omega), dif_neg (by omega), dif_neg (by omega), dif_neg (by omega), dif_neg (by omega), dif_neg (by omega), dif_pos (by omega)]
  exact congrArg (fun e' => p6 (ix2 e' s)) (Fin.ext (by dsimp only; omega) : _ = e)
theorem catc7 : concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S128x1024_d1 (ix2 t (col 7 e)) = p7 (ix2 t e) := by
  pointwise
  have hk : (col 7 e).val = 7 * 128 + e.val := rfl
  rw [dif_neg (by omega), dif_neg (by omega), dif_neg (by omega), dif_neg (by omega), dif_neg (by omega), dif_neg (by omega), dif_neg (by omega)]
  exact congrArg (fun e' => p7 (ix2 t e')) (Fin.ext (by dsimp only; omega) : _ = e)
theorem catr7 : concatenate S1024x128 0 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S1024x128_d0 (ix2 (col 7 e) s) = p7 (ix2 e s) := by
  pointwise
  have hk : (col 7 e).val = 7 * 128 + e.val := rfl
  rw [dif_neg (by omega), dif_neg (by omega), dif_neg (by omega), dif_neg (by omega), dif_neg (by omega), dif_neg (by omega), dif_neg (by omega)]
  exact congrArg (fun e' => p7 (ix2 e' s)) (Fin.ext (by dsimp only; omega) : _ = e)
theorem cat104_0 : k0_pay104 (F := Ideal) a b p7 p6 p5 p4 p3 p2 p1 (ix2 s (col 0 e)) = ∑ x, a (ix2 x s) * b (ix2 x e) := by
  unfold k0_pay104
  exact (catc0 ..).trans (by pointwise [k0_pay103])
theorem cat66_0 : k0_pay66 (F := Ideal) v11 b p0 p1 p2 p3 p4 p5 p6 a ct (ix2 t (col 0 e))
    = ct (ix2 t (col 0 e)) * (p0 (ix2 t e)) := by
  unfold k0_pay66
  refine congrArg₂ (· * ·) rfl ((catc0 ..))
theorem cat105_0 : k0_pay105 (F := Ideal) m a b p7 p6 p5 p4 p3 p2 p1 (ix2 (col 0 e) s) = Scalar.select (m (ix2 e s)) (∑ x, b (ix2 e x) * a (ix2 s x)) 0 := by
  unfold k0_pay105
  exact (catr0 ..).trans (by pointwise [k0_pay103])
theorem cat104_1 : k0_pay104 (F := Ideal) a b p7 p6 p5 p4 p3 p2 p1 (ix2 s (col 1 e)) = p1 (ix2 s e) := by
  unfold k0_pay104
  exact (catc1 ..)
theorem cat66_1 : k0_pay66 (F := Ideal) v11 b p0 p1 p2 p3 p4 p5 p6 a ct (ix2 t (col 1 e))
    = ct (ix2 t (col 1 e)) * (p1 (ix2 t e)) := by
  unfold k0_pay66
  refine congrArg₂ (· * ·) rfl ((catc1 ..))
theorem cat105_1 : k0_pay105 (F := Ideal) m a b p7 p6 p5 p4 p3 p2 p1 (ix2 (col 1 e) s) = p1 (ix2 e s) := by
  unfold k0_pay105
  exact (catr1 ..)
theorem cat104_2 : k0_pay104 (F := Ideal) a b p7 p6 p5 p4 p3 p2 p1 (ix2 s (col 2 e)) = p2 (ix2 s e) := by
  unfold k0_pay104
  exact (catc2 ..)
theorem cat66_2 : k0_pay66 (F := Ideal) v11 b p0 p1 p2 p3 p4 p5 p6 a ct (ix2 t (col 2 e))
    = ct (ix2 t (col 2 e)) * (p2 (ix2 t e)) := by
  unfold k0_pay66
  refine congrArg₂ (· * ·) rfl ((catc2 ..))
theorem cat105_2 : k0_pay105 (F := Ideal) m a b p7 p6 p5 p4 p3 p2 p1 (ix2 (col 2 e) s) = p2 (ix2 e s) := by
  unfold k0_pay105
  exact (catr2 ..)
theorem cat104_3 : k0_pay104 (F := Ideal) a b p7 p6 p5 p4 p3 p2 p1 (ix2 s (col 3 e)) = p3 (ix2 s e) := by
  unfold k0_pay104
  exact (catc3 ..)
theorem cat66_3 : k0_pay66 (F := Ideal) v11 b p0 p1 p2 p3 p4 p5 p6 a ct (ix2 t (col 3 e))
    = ct (ix2 t (col 3 e)) * (p3 (ix2 t e)) := by
  unfold k0_pay66
  refine congrArg₂ (· * ·) rfl ((catc3 ..))
theorem cat105_3 : k0_pay105 (F := Ideal) m a b p7 p6 p5 p4 p3 p2 p1 (ix2 (col 3 e) s) = p3 (ix2 e s) := by
  unfold k0_pay105
  exact (catr3 ..)
theorem cat104_4 : k0_pay104 (F := Ideal) a b p7 p6 p5 p4 p3 p2 p1 (ix2 s (col 4 e)) = p4 (ix2 s e) := by
  unfold k0_pay104
  exact (catc4 ..)
theorem cat66_4 : k0_pay66 (F := Ideal) v11 b p0 p1 p2 p3 p4 p5 p6 a ct (ix2 t (col 4 e))
    = ct (ix2 t (col 4 e)) * (p4 (ix2 t e)) := by
  unfold k0_pay66
  refine congrArg₂ (· * ·) rfl ((catc4 ..))
theorem cat105_4 : k0_pay105 (F := Ideal) m a b p7 p6 p5 p4 p3 p2 p1 (ix2 (col 4 e) s) = p4 (ix2 e s) := by
  unfold k0_pay105
  exact (catr4 ..)
theorem cat104_5 : k0_pay104 (F := Ideal) a b p7 p6 p5 p4 p3 p2 p1 (ix2 s (col 5 e)) = p5 (ix2 s e) := by
  unfold k0_pay104
  exact (catc5 ..)
theorem cat66_5 : k0_pay66 (F := Ideal) v11 b p0 p1 p2 p3 p4 p5 p6 a ct (ix2 t (col 5 e))
    = ct (ix2 t (col 5 e)) * (p5 (ix2 t e)) := by
  unfold k0_pay66
  refine congrArg₂ (· * ·) rfl ((catc5 ..))
theorem cat105_5 : k0_pay105 (F := Ideal) m a b p7 p6 p5 p4 p3 p2 p1 (ix2 (col 5 e) s) = p5 (ix2 e s) := by
  unfold k0_pay105
  exact (catr5 ..)
theorem cat104_6 : k0_pay104 (F := Ideal) a b p7 p6 p5 p4 p3 p2 p1 (ix2 s (col 6 e)) = p6 (ix2 s e) := by
  unfold k0_pay104
  exact (catc6 ..)
theorem cat66_6 : k0_pay66 (F := Ideal) v11 b p0 p1 p2 p3 p4 p5 p6 a ct (ix2 t (col 6 e))
    = ct (ix2 t (col 6 e)) * (p6 (ix2 t e)) := by
  unfold k0_pay66
  refine congrArg₂ (· * ·) rfl ((catc6 ..))
theorem cat105_6 : k0_pay105 (F := Ideal) m a b p7 p6 p5 p4 p3 p2 p1 (ix2 (col 6 e) s) = p6 (ix2 e s) := by
  unfold k0_pay105
  exact (catr6 ..)
theorem cat104_7 : k0_pay104 (F := Ideal) a b p7 p6 p5 p4 p3 p2 p1 (ix2 s (col 7 e)) = p7 (ix2 s e) := by
  unfold k0_pay104
  exact (catc7 ..)
theorem cat66_7 : k0_pay66 (F := Ideal) v11 b p0 p1 p2 p3 p4 p5 p6 a ct (ix2 t (col 7 e))
    = ct (ix2 t (col 7 e)) * ((∑ x, a (ix2 t x) * b (ix2 x e)) + v11 (ix2 t 7)) := by
  unfold k0_pay66
  refine congrArg₂ (· * ·) rfl ((catc7 ..).trans ?_)
  pointwise [k0_pay64]
  exact congrArg₂ (· + ·) rfl (sum_sel 7 _ rfl _)
theorem cat105_7 : k0_pay105 (F := Ideal) m a b p7 p6 p5 p4 p3 p2 p1 (ix2 (col 7 e) s) = p7 (ix2 e s) := by
  unfold k0_pay105
  exact (catr7 ..)

end Cert.KernelIdeal.Value

end
-- ==== Proof.BodyOut.lean ====
/- The cotangents of one block put together from their groups: what the block leaves of the mixture's half, of the gate's half and
   of the mixing matrices' gradient, each read at an index. -/
module

public import proofs.«01_k».proof.Proof.BodyMix
public import proofs.«01_k».proof.Proof.BodyCat

@[expose] public section

set_option maxRecDepth 16384

noncomputable section

namespace Cert.KernelIdeal.Value

open Cert.KernelIdeal Cert.KernelIdeal.Gen Cert.Gmlp Idealize.ShloMosaic

variable (x0 : Vec Ideal S128x2048 .f32) (x1 x2 : Vec Ideal S1x1024 .f32) (x3 : Vec Ideal S1024x128 .f32)
  (x4 : Vec Ideal S128x8 .f32) (x5 : Vec Ideal S128x1024 .f32) (t s e : Fin 128) (d : Fin 1024)

/-- The normalised half's cotangent, from its groups. -/
def kdvn : Vec Ideal S128x1024 .f32 := k0_pay104 (k0_pay40 x3) (k0_pay67 (k0_pay15 x0) x5) (k0_pay77 (k0_pay15 x0) (k0_pay63 k0_pay24 (k0_pay31 x3)) x5) (k0_pay81 (k0_pay60 k0_pay24 (k0_pay30 x3)) (k0_pay73 (k0_pay15 x0) x5)) (k0_pay84 (k0_pay57 k0_pay24 (k0_pay29 x3)) (k0_pay72 (k0_pay15 x0) x5)) (k0_pay88 (k0_pay54 k0_pay24 (k0_pay28 x3)) (k0_pay71 (k0_pay15 x0) x5)) (k0_pay92 (k0_pay51 k0_pay24 (k0_pay27 x3)) (k0_pay70 (k0_pay15 x0) x5)) (k0_pay95 (k0_pay48 k0_pay24 (k0_pay26 x3)) (k0_pay69 (k0_pay15 x0) x5)) (k0_pay99 (k0_pay45 k0_pay24 (k0_pay25 x3)) (k0_pay68 (k0_pay15 x0) x5))
/-- The gate's cotangent. -/
def kdu : Vec Ideal S128x1024 .f32 := k0_pay66 x4 (k0_pay39 x1 x2 (k0_pay16 x0) (k0_pay17 x0) n1024) (k0_pay44 (k0_pay41 x1 x2 x3 (k0_pay16 x0) (k0_pay17 x0) n1024) (k0_pay43 x4)) (k0_pay47 x4 k0_pay24 (k0_pay25 x3) (k0_pay33 x1 x2 (k0_pay16 x0) (k0_pay17 x0) n1024)) (k0_pay50 x4 k0_pay24 (k0_pay26 x3) (k0_pay34 x1 x2 (k0_pay16 x0) (k0_pay17 x0) n1024)) (k0_pay53 x4 k0_pay24 (k0_pay27 x3) (k0_pay35 x1 x2 (k0_pay16 x0) (k0_pay17 x0) n1024)) (k0_pay56 x4 k0_pay24 (k0_pay28 x3) (k0_pay36 x1 x2 (k0_pay16 x0) (k0_pay17 x0) n1024)) (k0_pay59 x4 k0_pay24 (k0_pay29 x3) (k0_pay37 x1 x2 (k0_pay16 x0) (k0_pay17 x0) n1024)) (k0_pay62 x4 k0_pay24 (k0_pay30 x3) (k0_pay38 x1 x2 (k0_pay16 x0) (k0_pay17 x0) n1024)) (k0_pay63 k0_pay24 (k0_pay31 x3)) x5
/-- The mixing matrices' gradient of the block. -/
def kdw : Vec Ideal S1024x128 .f32 := k0_pay105 k0_pay24 (k0_pay32 x1 x2 (k0_pay16 x0) (k0_pay17 x0) n1024) (k0_pay67 (k0_pay15 x0) x5) (k0_pay78 (k0_pay15 x0) k0_pay24 (k0_pay39 x1 x2 (k0_pay16 x0) (k0_pay17 x0) n1024) x5) (k0_pay82 k0_pay24 (k0_pay38 x1 x2 (k0_pay16 x0) (k0_pay17 x0) n1024) (k0_pay73 (k0_pay15 x0) x5)) (k0_pay85 k0_pay24 (k0_pay37 x1 x2 (k0_pay16 x0) (k0_pay17 x0) n1024) (k0_pay72 (k0_pay15 x0) x5)) (k0_pay89 k0_pay24 (k0_pay36 x1 x2 (k0_pay16 x0) (k0_pay17 x0) n1024) (k0_pay71 (k0_pay15 x0) x5)) (k0_pay93 k0_pay24 (k0_pay35 x1 x2 (k0_pay16 x0) (k0_pay17 x0) n1024) (k0_pay70 (k0_pay15 x0) x5)) (k0_pay96 k0_pay24 (k0_pay34 x1 x2 (k0_pay16 x0) (k0_pay17 x0) n1024) (k0_pay69 (k0_pay15 x0) x5)) (k0_pay100 k0_pay24 (k0_pay33 x1 x2 (k0_pay16 x0) (k0_pay17 x0) n1024) (k0_pay68 (k0_pay15 x0) x5))

theorem kdvn_col0 : kdvn x0 x3 x5 (ix2 s (col 0 e)) = dvn (cur x0) (wf x3) (cur x5) s (col 0 e) :=
  (cat104_0 ..).trans (by simp only [w0_at, d0_at, dvn, grp_col])
theorem kdu_col0 : kdu x0 x1 x2 x3 x4 x5 (ix2 t (col 0 e))
    = du (cur x0) (cur x1 0) (cur x2 0) (wf x3) (bf x4) (cur x5) t (col 0 e) :=
  (cat66_0 ..).trans (by rw [du, grp_col, lane_col]; exact congrArg₂ (· * ·) rfl (mix0_at x0 x1 x2 x3 x4 t e))
theorem kdw_col0 : kdw x0 x1 x2 x5 (ix2 (col 0 e) s) = dws (cur x0) (cur x1 0) (cur x2 0) (cur x5) 0 e s :=
  (cat105_0 ..).trans (by simp only [v0_at, d0_at, dws]; pointwise [k0_pay24, sel_ge])
theorem kdvn_col1 : kdvn x0 x3 x5 (ix2 s (col 1 e)) = dvn (cur x0) (wf x3) (cur x5) s (col 1 e) :=
  (cat104_1 ..).trans (dvn1_at x0 x3 x5 s e)
theorem kdu_col1 : kdu x0 x1 x2 x3 x4 x5 (ix2 t (col 1 e))
    = du (cur x0) (cur x1 0) (cur x2 0) (wf x3) (bf x4) (cur x5) t (col 1 e) :=
  (cat66_1 ..).trans (by rw [du, grp_col, lane_col]; exact congrArg₂ (· * ·) rfl (mix1_at x0 x1 x2 x3 x4 t e))
theorem kdw_col1 : kdw x0 x1 x2 x5 (ix2 (col 1 e) s) = dws (cur x0) (cur x1 0) (cur x2 0) (cur x5) 1 e s :=
  (cat105_1 ..).trans (dws1_at x0 x1 x2 x5 e s)
theorem kdvn_col2 : kdvn x0 x3 x5 (ix2 s (col 2 e)) = dvn (cur x0) (wf x3) (cur x5) s (col 2 e) :=
  (cat104_2 ..).trans (dvn2_at x0 x3 x5 s e)
theorem kdu_col2 : kdu x0 x1 x2 x3 x4 x5 (ix2 t (col 2 e))
    = du (cur x0) (cur x1 0) (cur x2 0) (wf x3) (bf x4) (cur x5) t (col 2 e) :=
  (cat66_2 ..).trans (by rw [du, grp_col, lane_col]; exact congrArg₂ (· * ·) rfl (mix2_at x0 x1 x2 x3 x4 t e))
theorem kdw_col2 : kdw x0 x1 x2 x5 (ix2 (col 2 e) s) = dws (cur x0) (cur x1 0) (cur x2 0) (cur x5) 2 e s :=
  (cat105_2 ..).trans (dws2_at x0 x1 x2 x5 e s)
theorem kdvn_col3 : kdvn x0 x3 x5 (ix2 s (col 3 e)) = dvn (cur x0) (wf x3) (cur x5) s (col 3 e) :=
  (cat104_3 ..).trans (dvn3_at x0 x3 x5 s e)
theorem kdu_col3 : kdu x0 x1 x2 x3 x4 x5 (ix2 t (col 3 e))
    = du (cur x0) (cur x1 0) (cur x2 0) (wf x3) (bf x4) (cur x5) t (col 3 e) :=
  (cat66_3 ..).trans (by rw [du, grp_col, lane_col]; exact congrArg₂ (· * ·) rfl (mix3_at x0 x1 x2 x3 x4 t e))
theorem kdw_col3 : kdw x0 x1 x2 x5 (ix2 (col 3 e) s) = dws (cur x0) (cur x1 0) (cur x2 0) (cur x5) 3 e s :=
  (cat105_3 ..).trans (dws3_at x0 x1 x2 x5 e s)
theorem kdvn_col4 : kdvn x0 x3 x5 (ix2 s (col 4 e)) = dvn (cur x0) (wf x3) (cur x5) s (col 4 e) :=
  (cat104_4 ..).trans (dvn4_at x0 x3 x5 s e)
theorem kdu_col4 : kdu x0 x1 x2 x3 x4 x5 (ix2 t (col 4 e))
    = du (cur x0) (cur x1 0) (cur x2 0) (wf x3) (bf x4) (cur x5) t (col 4 e) :=
  (cat66_4 ..).trans (by rw [du, grp_col, lane_col]; exact congrArg₂ (· * ·) rfl (mix4_at x0 x1 x2 x3 x4 t e))
theorem kdw_col4 : kdw x0 x1 x2 x5 (ix2 (col 4 e) s) = dws (cur x0) (cur x1 0) (cur x2 0) (cur x5) 4 e s :=
  (cat105_4 ..).trans (dws4_at x0 x1 x2 x5 e s)
theorem kdvn_col5 : kdvn x0 x3 x5 (ix2 s (col 5 e)) = dvn (cur x0) (wf x3) (cur x5) s (col 5 e) :=
  (cat104_5 ..).trans (dvn5_at x0 x3 x5 s e)
theorem kdu_col5 : kdu x0 x1 x2 x3 x4 x5 (ix2 t (col 5 e))
    = du (cur x0) (cur x1 0) (cur x2 0) (wf x3) (bf x4) (cur x5) t (col 5 e) :=
  (cat66_5 ..).trans (by rw [du, grp_col, lane_col]; exact congrArg₂ (· * ·) rfl (mix5_at x0 x1 x2 x3 x4 t e))
theorem kdw_col5 : kdw x0 x1 x2 x5 (ix2 (col 5 e) s) = dws (cur x0) (cur x1 0) (cur x2 0) (cur x5) 5 e s :=
  (cat105_5 ..).trans (dws5_at x0 x1 x2 x5 e s)
theorem kdvn_col6 : kdvn x0 x3 x5 (ix2 s (col 6 e)) = dvn (cur x0) (wf x3) (cur x5) s (col 6 e) :=
  (cat104_6 ..).trans (dvn6_at x0 x3 x5 s e)
theorem kdu_col6 : kdu x0 x1 x2 x3 x4 x5 (ix2 t (col 6 e))
    = du (cur x0) (cur x1 0) (cur x2 0) (wf x3) (bf x4) (cur x5) t (col 6 e) :=
  (cat66_6 ..).trans (by rw [du, grp_col, lane_col]; exact congrArg₂ (· * ·) rfl (mix6_at x0 x1 x2 x3 x4 t e))
theorem kdw_col6 : kdw x0 x1 x2 x5 (ix2 (col 6 e) s) = dws (cur x0) (cur x1 0) (cur x2 0) (cur x5) 6 e s :=
  (cat105_6 ..).trans (dws6_at x0 x1 x2 x5 e s)
theorem kdvn_col7 : kdvn x0 x3 x5 (ix2 s (col 7 e)) = dvn (cur x0) (wf x3) (cur x5) s (col 7 e) :=
  (cat104_7 ..).trans (dvn7_at x0 x3 x5 s e)
theorem kdu_col7 : kdu x0 x1 x2 x3 x4 x5 (ix2 t (col 7 e))
    = du (cur x0) (cur x1 0) (cur x2 0) (wf x3) (bf x4) (cur x5) t (col 7 e) :=
  (cat66_7 ..).trans (by rw [du, grp_col, lane_col]; exact congrArg₂ (· * ·) rfl (by simp only [w7_at, v7_at, mix]))
theorem kdw_col7 : kdw x0 x1 x2 x5 (ix2 (col 7 e) s) = dws (cur x0) (cur x1 0) (cur x2 0) (cur x5) 7 e s :=
  (cat105_7 ..).trans (dws7_at x0 x1 x2 x5 e s)
theorem kdvn_at : kdvn x0 x3 x5 (ix2 s d) = dvn (cur x0) (wf x3) (cur x5) s d := by
  obtain ⟨k, e, rfl⟩ := exists_col d
  match k with
  | 0 => exact kdvn_col0 ..
  | 1 => exact kdvn_col1 ..
  | 2 => exact kdvn_col2 ..
  | 3 => exact kdvn_col3 ..
  | 4 => exact kdvn_col4 ..
  | 5 => exact kdvn_col5 ..
  | 6 => exact kdvn_col6 ..
  | 7 => exact kdvn_col7 ..
theorem kdu_at : kdu x0 x1 x2 x3 x4 x5 (ix2 t d) = du (cur x0) (cur x1 0) (cur x2 0) (wf x3) (bf x4) (cur x5) t d := by
  obtain ⟨k, e, rfl⟩ := exists_col d
  match k with
  | 0 => exact kdu_col0 ..
  | 1 => exact kdu_col1 ..
  | 2 => exact kdu_col2 ..
  | 3 => exact kdu_col3 ..
  | 4 => exact kdu_col4 ..
  | 5 => exact kdu_col5 ..
  | 6 => exact kdu_col6 ..
  | 7 => exact kdu_col7 ..
theorem kdw_at : kdw x0 x1 x2 x5 (ix2 d s) = dws (cur x0) (cur x1 0) (cur x2 0) (cur x5) (grp d) (lane d) s := by
  obtain ⟨k, e, rfl⟩ := exists_col d
  rw [grp_col, lane_col]
  match k with
  | 0 => exact kdw_col0 ..
  | 1 => exact kdw_col1 ..
  | 2 => exact kdw_col2 ..
  | 3 => exact kdw_col3 ..
  | 4 => exact kdw_col4 ..
  | 5 => exact kdw_col5 ..
  | 6 => exact kdw_col6 ..
  | 7 => exact kdw_col7 ..

end Cert.KernelIdeal.Value

end
-- ==== Proof.BodyEnd.lean ====
/- What one block leaves, read at an index: the cotangent it writes and its parts of the four parameters' gradients. -/
module

public import proofs.«01_k».proof.Proof.BodyOut

@[expose] public section

set_option maxRecDepth 16384

noncomputable section

namespace Cert.KernelIdeal.Value

open Cert.KernelIdeal Cert.KernelIdeal.Gen Cert.Gmlp Idealize.ShloMosaic

section generic

variable (v5 : Vec Ideal S1x1024 .f32) (v40 : Vec Ideal S128x1024 .f32) (v48 v51 : Vec Ideal S128x1 .f32)
  (a b p1 p2 p3 p4 p5 p6 p7 : Vec Ideal S128x128 .f32) (s : Fin 128) (d : Fin 1024)

/-- The normalisation's derivative, for any operands. -/
theorem pay108_at (v : Fin 1024 → EReal) (e : Fin 1024 → EReal)
    (he : ∀ d, k0_pay104 (F := Ideal) a b p7 p6 p5 p4 p3 p2 p1 (ix2 s d) * v5 (ix2 0 d) = e d)
    (h40 : ∀ d, v40 (ix2 s d) = cen v d) (h48 : v48 (ix2 s 0) = rsd v) (h51 : v51 (ix2 s 0) = rsc v) :
    k0_pay108 (F := Ideal) v5 v40 v48 v51 a b p7 p6 p5 p4 p3 p2 p1 (ix2 s d) = lnback v e d := by
  pointwise [k0_pay108, he, h40, h48, lnback, lnm, lnq]
  simp only [Fin.sum_univ_one, h51, zero_sub]

/-- The activation's derivative over the two halves, for any operands. -/
theorem pay109_at (x0 v16 v27 v31 : Vec Ideal S128x2048 .f32) (u v : Vec Ideal S128x1024 .f32) (t : Fin 128) (j : Fin 2048)
    (h16 : v16 (ix2 t j) = gsq (x0 (ix2 t j))) (h27 : v27 (ix2 t j) = gdt (x0 (ix2 t j))) (h31 : v31 (ix2 t j) = ghf (x0 (ix2 t j))) :
    k0_pay109 (F := Ideal) x0 v16 v27 v31 u v (ix2 t j)
      = gback (x0 (ix2 t j)) (if h : j.val < 1024 then u (ix2 t ⟨j.val, h⟩) else v (ix2 t ⟨j.val - 1024, by omega⟩)) := by
  pointwise [k0_pay109, h16, h27, h31, gback, gbk]

end generic

variable (x0 : Vec Ideal S128x2048 .f32) (x1 x2 : Vec Ideal S1x1024 .f32) (x3 : Vec Ideal S1024x128 .f32)
  (x4 : Vec Ideal S128x8 .f32) (x5 : Vec Ideal S128x1024 .f32) (t s e : Fin 128) (d : Fin 1024)

/-- The mixed half's cotangent. -/
def kdv : Vec Ideal S128x1024 .f32 := k0_pay108 x1 (k0_pay18 (k0_pay16 x0) (k0_pay17 x0) n1024) (k0_pay20 (k0_pay16 x0) (k0_pay17 x0) n1024) (k0_pay21 (k0_pay16 x0) (k0_pay17 x0) n1024) (k0_pay40 x3) (k0_pay67 (k0_pay15 x0) x5) (k0_pay77 (k0_pay15 x0) (k0_pay63 k0_pay24 (k0_pay31 x3)) x5) (k0_pay81 (k0_pay60 k0_pay24 (k0_pay30 x3)) (k0_pay73 (k0_pay15 x0) x5)) (k0_pay84 (k0_pay57 k0_pay24 (k0_pay29 x3)) (k0_pay72 (k0_pay15 x0) x5)) (k0_pay88 (k0_pay54 k0_pay24 (k0_pay28 x3)) (k0_pay71 (k0_pay15 x0) x5)) (k0_pay92 (k0_pay51 k0_pay24 (k0_pay27 x3)) (k0_pay70 (k0_pay15 x0) x5)) (k0_pay95 (k0_pay48 k0_pay24 (k0_pay26 x3)) (k0_pay69 (k0_pay15 x0) x5)) (k0_pay99 (k0_pay45 k0_pay24 (k0_pay25 x3)) (k0_pay68 (k0_pay15 x0) x5))
/-- The block's cotangent. -/
def kdz : Vec Ideal S128x2048 .bf16 :=
  k0_pay109 x0 (k0_pay10 x0) (k0_pay12 x0) (k0_pay13 x0) (kdu x0 x1 x2 x3 x4 x5) (kdv x0 x1 x3 x5)
/-- The block's part of the scale's gradient. -/
def kdg : Vec Ideal S1x1024 .f32 := k0_pay107 (k0_pay22 (k0_pay16 x0) (k0_pay17 x0) n1024) (k0_pay40 x3) (k0_pay67 (k0_pay15 x0) x5) (k0_pay77 (k0_pay15 x0) (k0_pay63 k0_pay24 (k0_pay31 x3)) x5) (k0_pay81 (k0_pay60 k0_pay24 (k0_pay30 x3)) (k0_pay73 (k0_pay15 x0) x5)) (k0_pay84 (k0_pay57 k0_pay24 (k0_pay29 x3)) (k0_pay72 (k0_pay15 x0) x5)) (k0_pay88 (k0_pay54 k0_pay24 (k0_pay28 x3)) (k0_pay71 (k0_pay15 x0) x5)) (k0_pay92 (k0_pay51 k0_pay24 (k0_pay27 x3)) (k0_pay70 (k0_pay15 x0) x5)) (k0_pay95 (k0_pay48 k0_pay24 (k0_pay26 x3)) (k0_pay69 (k0_pay15 x0) x5)) (k0_pay99 (k0_pay45 k0_pay24 (k0_pay25 x3)) (k0_pay68 (k0_pay15 x0) x5))
/-- The block's part of the shift's gradient. -/
def kdb : Vec Ideal S1x1024 .f32 := k0_pay106 (k0_pay40 x3) (k0_pay67 (k0_pay15 x0) x5) (k0_pay77 (k0_pay15 x0) (k0_pay63 k0_pay24 (k0_pay31 x3)) x5) (k0_pay81 (k0_pay60 k0_pay24 (k0_pay30 x3)) (k0_pay73 (k0_pay15 x0) x5)) (k0_pay84 (k0_pay57 k0_pay24 (k0_pay29 x3)) (k0_pay72 (k0_pay15 x0) x5)) (k0_pay88 (k0_pay54 k0_pay24 (k0_pay28 x3)) (k0_pay71 (k0_pay15 x0) x5)) (k0_pay92 (k0_pay51 k0_pay24 (k0_pay27 x3)) (k0_pay70 (k0_pay15 x0) x5)) (k0_pay95 (k0_pay48 k0_pay24 (k0_pay26 x3)) (k0_pay69 (k0_pay15 x0) x5)) (k0_pay99 (k0_pay45 k0_pay24 (k0_pay25 x3)) (k0_pay68 (k0_pay15 x0) x5))
/-- The block's part of the mixing offsets' gradient. -/
def kds : Vec Ideal S128x8 .f32 := k0_pay102 k0_pay42 (k0_pay97 k0_pay46 k0_pay49 k0_pay52 (k0_pay68 (k0_pay15 x0) x5) (k0_pay69 (k0_pay15 x0) x5) (k0_pay86 k0_pay55 k0_pay58 (k0_pay71 (k0_pay15 x0) x5) (k0_pay72 (k0_pay15 x0) x5) (k0_pay75 (k0_pay15 x0) x5) (k0_pay79 (k0_pay15 x0) k0_pay61 x5)) (k0_pay90 (k0_pay70 (k0_pay15 x0) x5))) (k0_pay101 (k0_pay67 (k0_pay15 x0) x5))

theorem kdv_at : kdv x0 x1 x3 x5 (ix2 s d) = dv (cur x0) (cur x1 0) (wf x3) (cur x5) s d :=
  pay108_at _ _ _ _ _ _ _ _ _ _ _ _ _ s d (gv (cur x0) s) _
    (fun d => congrArg (· * x1 (ix2 0 d)) (kdvn_at x0 x3 x5 s d)) (fun d => pay18_at x0 s d) (pay20_at x0 s) (pay21_at x0 s)

theorem kdz_at (j : Fin 2048) : kdz x0 x1 x2 x3 x4 x5 (ix2 t j)
    = dz (cur x0) (cur x1 0) (cur x2 0) (wf x3) (bf x4) (cur x5) t j := by
  unfold kdz
  rw [pay109_at x0 _ _ _ _ _ t j (pay10_at ..) (pay12_at ..) (pay13_at ..)]
  simp only [kdu_at, kdv_at, dz]

theorem kdg_at : kdg x0 x3 x5 (ix2 0 d) = dg (cur x0) (wf x3) (cur x5) d := by
  have h : ∀ s, k0_pay104 (k0_pay40 x3) (k0_pay67 (k0_pay15 x0) x5) (k0_pay77 (k0_pay15 x0) (k0_pay63 k0_pay24 (k0_pay31 x3)) x5) (k0_pay81 (k0_pay60 k0_pay24 (k0_pay30 x3)) (k0_pay73 (k0_pay15 x0) x5)) (k0_pay84 (k0_pay57 k0_pay24 (k0_pay29 x3)) (k0_pay72 (k0_pay15 x0) x5)) (k0_pay88 (k0_pay54 k0_pay24 (k0_pay28 x3)) (k0_pay71 (k0_pay15 x0) x5)) (k0_pay92 (k0_pay51 k0_pay24 (k0_pay27 x3)) (k0_pay70 (k0_pay15 x0) x5)) (k0_pay95 (k0_pay48 k0_pay24 (k0_pay26 x3)) (k0_pay69 (k0_pay15 x0) x5)) (k0_pay99 (k0_pay45 k0_pay24 (k0_pay25 x3)) (k0_pay68 (k0_pay15 x0) x5)) (ix2 s d) = dvn (cur x0) (wf x3) (cur x5) s d := fun s => kdvn_at x0 x3 x5 s d
  unfold kdg
  pointwise [k0_pay107, h, pay22_at, dg]

theorem kdb_at : kdb x0 x3 x5 (ix2 0 d) = db (cur x0) (wf x3) (cur x5) d := by
  have h : ∀ s, k0_pay104 (k0_pay40 x3) (k0_pay67 (k0_pay15 x0) x5) (k0_pay77 (k0_pay15 x0) (k0_pay63 k0_pay24 (k0_pay31 x3)) x5) (k0_pay81 (k0_pay60 k0_pay24 (k0_pay30 x3)) (k0_pay73 (k0_pay15 x0) x5)) (k0_pay84 (k0_pay57 k0_pay24 (k0_pay29 x3)) (k0_pay72 (k0_pay15 x0) x5)) (k0_pay88 (k0_pay54 k0_pay24 (k0_pay28 x3)) (k0_pay71 (k0_pay15 x0) x5)) (k0_pay92 (k0_pay51 k0_pay24 (k0_pay27 x3)) (k0_pay70 (k0_pay15 x0) x5)) (k0_pay95 (k0_pay48 k0_pay24 (k0_pay26 x3)) (k0_pay69 (k0_pay15 x0) x5)) (k0_pay99 (k0_pay45 k0_pay24 (k0_pay25 x3)) (k0_pay68 (k0_pay15 x0) x5)) (ix2 s d) = dvn (cur x0) (wf x3) (cur x5) s d := fun s => kdvn_at x0 x3 x5 s d
  unfold kdb
  pointwise [k0_pay106, h, db]

theorem kds_0 : kds x0 x5 (ix2 t 0) = dbs (cur x0) (cur x5) 0 t := by
  unfold kds
  pointwise [k0_pay102, k0_pay97, k0_pay86, k0_pay75, k0_pay79, k0_pay90, k0_pay101, k0_pay42, k0_pay46, k0_pay49, k0_pay52, k0_pay55,
    k0_pay58, k0_pay61, k0_pay64, dbs]
  simp only [show IntOp.cmpi .eq 0#32 1#32 = 0#1 from by decide, show IntOp.cmpi .eq 0#32 2#32 = 0#1 from by decide, show IntOp.cmpi .eq 0#32 3#32 = 0#1 from by decide, show IntOp.cmpi .eq 0#32 4#32 = 0#1 from by decide, show IntOp.cmpi .eq 0#32 5#32 = 0#1 from by decide, show IntOp.cmpi .eq 0#32 6#32 = 0#1 from by decide, show IntOp.cmpi .eq 0#32 7#32 = 0#1 from by decide, Scalar.select]
  simp [d0_at]
theorem kds_1 : kds x0 x5 (ix2 t 1) = dbs (cur x0) (cur x5) 1 t := by
  unfold kds
  pointwise [k0_pay102, k0_pay97, k0_pay86, k0_pay75, k0_pay79, k0_pay90, k0_pay101, k0_pay42, k0_pay46, k0_pay49, k0_pay52, k0_pay55,
    k0_pay58, k0_pay61, k0_pay64, dbs]
  simp only [show IntOp.cmpi .eq 1#32 0#32 = 0#1 from by decide, show IntOp.cmpi .eq 1#32 2#32 = 0#1 from by decide, show IntOp.cmpi .eq 1#32 3#32 = 0#1 from by decide, show IntOp.cmpi .eq 1#32 4#32 = 0#1 from by decide, show IntOp.cmpi .eq 1#32 5#32 = 0#1 from by decide, show IntOp.cmpi .eq 1#32 6#32 = 0#1 from by decide, show IntOp.cmpi .eq 1#32 7#32 = 0#1 from by decide, Scalar.select]
  simp [d1_at]
theorem kds_2 : kds x0 x5 (ix2 t 2) = dbs (cur x0) (cur x5) 2 t := by
  unfold kds
  pointwise [k0_pay102, k0_pay97, k0_pay86, k0_pay75, k0_pay79, k0_pay90, k0_pay101, k0_pay42, k0_pay46, k0_pay49, k0_pay52, k0_pay55,
    k0_pay58, k0_pay61, k0_pay64, dbs]
  simp only [show IntOp.cmpi .eq 2#32 0#32 = 0#1 from by decide, show IntOp.cmpi .eq 2#32 1#32 = 0#1 from by decide, show IntOp.cmpi .eq 2#32 3#32 = 0#1 from by decide, show IntOp.cmpi .eq 2#32 4#32 = 0#1 from by decide, show IntOp.cmpi .eq 2#32 5#32 = 0#1 from by decide, show IntOp.cmpi .eq 2#32 6#32 = 0#1 from by decide, show IntOp.cmpi .eq 2#32 7#32 = 0#1 from by decide, Scalar.select]
  simp [d2_at]
theorem kds_3 : kds x0 x5 (ix2 t 3) = dbs (cur x0) (cur x5) 3 t := by
  unfold kds
  pointwise [k0_pay102, k0_pay97, k0_pay86, k0_pay75, k0_pay79, k0_pay90, k0_pay101, k0_pay42, k0_pay46, k0_pay49, k0_pay52, k0_pay55,
    k0_pay58, k0_pay61, k0_pay64, dbs]
  simp only [show IntOp.cmpi .eq 3#32 0#32 = 0#1 from by decide, show IntOp.cmpi .eq 3#32 1#32 = 0#1 from by decide, show IntOp.cmpi .eq 3#32 2#32 = 0#1 from by decide, show IntOp.cmpi .eq 3#32 4#32 = 0#1 from by decide, show IntOp.cmpi .eq 3#32 5#32 = 0#1 from by decide, show IntOp.cmpi .eq 3#32 6#32 = 0#1 from by decide, show IntOp.cmpi .eq 3#32 7#32 = 0#1 from by decide, Scalar.select]
  simp [d3_at]
theorem kds_4 : kds x0 x5 (ix2 t 4) = dbs (cur x0) (cur x5) 4 t := by
  unfold kds
  pointwise [k0_pay102, k0_pay97, k0_pay86, k0_pay75, k0_pay79, k0_pay90, k0_pay101, k0_pay42, k0_pay46, k0_pay49, k0_pay52, k0_pay55,
    k0_pay58, k0_pay61, k0_pay64, dbs]
  simp only [show IntOp.cmpi .eq 4#32 0#32 = 0#1 from by decide, show IntOp.cmpi .eq 4#32 1#32 = 0#1 from by decide, show IntOp.cmpi .eq 4#32 2#32 = 0#1 from by decide, show IntOp.cmpi .eq 4#32 3#32 = 0#1 from by decide, show IntOp.cmpi .eq 4#32 5#32 = 0#1 from by decide, show IntOp.cmpi .eq 4#32 6#32 = 0#1 from by decide, show IntOp.cmpi .eq 4#32 7#32 = 0#1 from by decide, Scalar.select]
  simp [d4_at]
theorem kds_5 : kds x0 x5 (ix2 t 5) = dbs (cur x0) (cur x5) 5 t := by
  unfold kds
  pointwise [k0_pay102, k0_pay97, k0_pay86, k0_pay75, k0_pay79, k0_pay90, k0_pay101, k0_pay42, k0_pay46, k0_pay49, k0_pay52, k0_pay55,
    k0_pay58, k0_pay61, k0_pay64, dbs]
  simp only [show IntOp.cmpi .eq 5#32 0#32 = 0#1 from by decide, show IntOp.cmpi .eq 5#32 1#32 = 0#1 from by decide, show IntOp.cmpi .eq 5#32 2#32 = 0#1 from by decide, show IntOp.cmpi .eq 5#32 3#32 = 0#1 from by decide, show IntOp.cmpi .eq 5#32 4#32 = 0#1 from by decide, show IntOp.cmpi .eq 5#32 6#32 = 0#1 from by decide, show IntOp.cmpi .eq 5#32 7#32 = 0#1 from by decide, Scalar.select]
  simp [d5_at]
theorem kds_6 : kds x0 x5 (ix2 t 6) = dbs (cur x0) (cur x5) 6 t := by
  unfold kds
  pointwise [k0_pay102, k0_pay97, k0_pay86, k0_pay75, k0_pay79, k0_pay90, k0_pay101, k0_pay42, k0_pay46, k0_pay49, k0_pay52, k0_pay55,
    k0_pay58, k0_pay61, k0_pay64, dbs]
  simp only [show IntOp.cmpi .eq 6#32 0#32 = 0#1 from by decide, show IntOp.cmpi .eq 6#32 1#32 = 0#1 from by decide, show IntOp.cmpi .eq 6#32 2#32 = 0#1 from by decide, show IntOp.cmpi .eq 6#32 3#32 = 0#1 from by decide, show IntOp.cmpi .eq 6#32 4#32 = 0#1 from by decide, show IntOp.cmpi .eq 6#32 5#32 = 0#1 from by decide, show IntOp.cmpi .eq 6#32 7#32 = 0#1 from by decide, Scalar.select]
  simp [d6_at]
theorem kds_7 : kds x0 x5 (ix2 t 7) = dbs (cur x0) (cur x5) 7 t := by
  unfold kds
  pointwise [k0_pay102, k0_pay97, k0_pay86, k0_pay75, k0_pay79, k0_pay90, k0_pay101, k0_pay42, k0_pay46, k0_pay49, k0_pay52, k0_pay55,
    k0_pay58, k0_pay61, k0_pay64, dbs]
  simp only [show IntOp.cmpi .eq 7#32 0#32 = 0#1 from by decide, show IntOp.cmpi .eq 7#32 1#32 = 0#1 from by decide, show IntOp.cmpi .eq 7#32 2#32 = 0#1 from by decide, show IntOp.cmpi .eq 7#32 3#32 = 0#1 from by decide, show IntOp.cmpi .eq 7#32 4#32 = 0#1 from by decide, show IntOp.cmpi .eq 7#32 5#32 = 0#1 from by decide, show IntOp.cmpi .eq 7#32 6#32 = 0#1 from by decide, Scalar.select]
  simp [d7_at]
/-- The block's part of the mixing offsets' gradient at any group. -/
theorem kds_at (k : Fin 8) : kds x0 x5 (ix2 t k) = dbs (cur x0) (cur x5) k t :=
  match k with
  | 0 => kds_0 ..
  | 1 => kds_1 ..
  | 2 => kds_2 ..
  | 3 => kds_3 ..
  | 4 => kds_4 ..
  | 5 => kds_5 ..
  | 6 => kds_6 ..
  | 7 => kds_7 ..

end Cert.KernelIdeal.Value

end
-- ==== Proof.CaseB.lean ====
/- What a later grid point leaves in each output's buffer: the block's own value, added to what was there. -/
module

public import proofs.«01_k».proof.Proof.BodyEnd
public import proofs.«01_k».proof.Proof.Gen.KernelIdeal.Frame
public import Idealize.ShloMosaic.Lib.Pipeline.Value

@[expose] public section

set_option maxRecDepth 16384

noncomputable section

namespace Cert.KernelIdeal.Value

open Cert.KernelIdeal Cert.KernelIdeal.Gen kernelRun0_B Cert.Gmlp Idealize.ShloMosaic Idealize.ShloMosaic.TcCoe

theorem hz : (![0, 0] : Fin 2 → Nat) = fun _ => 0 := funext fun a => by fin_cases a <;> rfl

variable (c : Dev nD) (i : grid0.Coords) (a1 : Memref sig .tc .vmem S128x2048 .f32) (h1 : a1.IsWhole) (a2 : Memref sig .tc .vmem S1x1024 .f32) (h2 : a2.IsWhole) (a3 : Memref sig .tc .vmem S1x1024 .f32) (h3 : a3.IsWhole) (a4 : Memref sig .tc .vmem S1024x128 .f32) (h4 : a4.IsWhole) (a5 : Memref sig .tc .vmem S128x8 .f32) (h5 : a5.IsWhole) (a6 : Memref sig .tc .vmem S128x1024 .f32) (h6 : a6.IsWhole) (a7 : Memref sig .tc .vmem S128x2048 .bf16) (h7 : a7.IsWhole) (a8 : Memref sig .tc .vmem S1x1024 .f32) (h8 : a8.IsWhole) (a9 : Memref sig .tc .vmem S1x1024 .f32) (h9 : a9.IsWhole) (a10 : Memref sig .tc .vmem S1024x128 .f32) (h10 : a10.IsWhole) (a11 : Memref sig .tc .vmem S128x8 .f32) (h11 : a11.IsWhole)
  (x0 : Vec Ideal S128x2048 .f32) (x1 x2 : Vec Ideal S1x1024 .f32) (x3 : Vec Ideal S1024x128 .f32) (x4 : Vec Ideal S128x8 .f32)
  (x5 : Vec Ideal S128x1024 .f32) (xo7 xo8 : Vec Ideal S1x1024 .f32) (xo9 : Vec Ideal S1024x128 .f32) (xo10 : Vec Ideal S128x8 .f32)

/-- Each output's buffer. -/
theorem outB (hc : ¬cond0_0 i) :
    (out0_B_6 c i a1 h1 a2 h2 a3 h3 a4 h4 a5 h5 a6 h6 a7 h7 a8 h8 a9 h9 a10 h10 a11 h11 hc x0 x1 x2 x3 x4 x5 xo7 xo8 xo9 xo10 = kdz x0 x1 x2 x3 x4 x5)
    ∧ (out0_B_7 c i a1 h1 a2 h2 a3 h3 a4 h4 a5 h5 a6 h6 a7 h7 a8 h8 a9 h9 a10 h10 a11 h11 hc x0 x1 x2 x3 x4 x5 xo7 xo8 xo9 xo10 = (addf (F := Ideal) (φ := .f32) xo7 (kdg x0 x3 x5) : FVec Ideal S1x1024 .f32))
    ∧ (out0_B_8 c i a1 h1 a2 h2 a3 h3 a4 h4 a5 h5 a6 h6 a7 h7 a8 h8 a9 h9 a10 h10 a11 h11 hc x0 x1 x2 x3 x4 x5 xo7 xo8 xo9 xo10 = (addf (F := Ideal) (φ := .f32) xo8 (kdb x0 x3 x5) : FVec Ideal S1x1024 .f32))
    ∧ (out0_B_9 c i a1 h1 a2 h2 a3 h3 a4 h4 a5 h5 a6 h6 a7 h7 a8 h8 a9 h9 a10 h10 a11 h11 hc x0 x1 x2 x3 x4 x5 xo7 xo8 xo9 xo10 = (addf (F := Ideal) (φ := .f32) xo9 (kdw x0 x1 x2 x5) : FVec Ideal S1024x128 .f32))
    ∧ (out0_B_10 c i a1 h1 a2 h2 a3 h3 a4 h4 a5 h5 a6 h6 a7 h7 a8 h8 a9 h9 a10 h10 a11 h11 hc x0 x1 x2 x3 x4 x5 xo7 xo8 xo9 xo10 = (addf (F := Ideal) (φ := .f32) xo10 (kds x0 x5) : FVec Ideal S128x8 .f32)) := by
  unfold out0_B_6 out0_B_7 out0_B_8 out0_B_9 out0_B_10
  refine ⟨(View.read_writes_eq_canon _ _ _ (by intro y; apply cover0_B_6)).trans ?_, (View.read_writes_eq_canon _ _ _ (by intro y; apply cover0_B_7)).trans ?_, (View.read_writes_eq_canon _ _ _ (by intro y; apply cover0_B_8)).trans ?_, (View.read_writes_eq_canon _ _ _ (by intro y; apply cover0_B_9)).trans ?_, (View.read_writes_eq_canon _ _ _ (by intro y; apply cover0_B_10)).trans ?_⟩
  all_goals
    unfold kernelRun0_B
    dsimp only
    rw [View.canon_unit_zero hz]
    simp only [View.readAt_eq_ld, h1.read_unread, h2.read_unread, h3.read_unread, h4.read_unread, h5.read_unread, h6.read_unread, h8.read_unread, h9.read_unread, h10.read_unread, h11.read_unread, View.ld_unit_zero (S := S128x2048) hz, View.ld_unit_zero (S := S1x1024) hz, View.ld_unit_zero (S := S1024x128) hz, View.ld_unit_zero (S := S128x8) hz, View.ld_unit_zero (S := S128x1024) hz, sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.r_43, sl.r_44, sl.r_45, sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.r_76, sl.r_77, sl.r_78, sl.r_79, sl.r_80]
  · simp only [k0_pay6, k0_pay7, k0_pay8, k0_pay9, shapeCast_self]
    rfl
  · unfold k0_pay110
    simp only [k0_pay6, k0_pay7, k0_pay8, k0_pay9, shapeCast_self]
    rfl
  · unfold k0_pay111
    simp only [k0_pay6, k0_pay7, k0_pay8, k0_pay9, shapeCast_self]
    rfl
  · unfold k0_pay112
    simp only [k0_pay6, k0_pay7, k0_pay8, k0_pay9, shapeCast_self]
    rfl
  · unfold k0_pay1 k0_pay113
    simp only [k0_pay6, k0_pay7, k0_pay8, k0_pay9, shapeCast_self]
    rfl

end Cert.KernelIdeal.Value

end
-- ==== Proof.CaseA.lean ====
/- What the first grid point leaves in each output's buffer: the block's own value over the stored zeros. -/
module

public import proofs.«01_k».proof.Proof.CaseB
public import proofs.«01_k».proof.Proof.Gen.KernelIdeal.Frame
public import Idealize.ShloMosaic.Lib.Pipeline.Value

@[expose] public section

set_option maxRecDepth 16384

noncomputable section

namespace Cert.KernelIdeal.Value

open Cert.KernelIdeal Cert.KernelIdeal.Gen kernelRun0_A Cert.Gmlp Idealize.ShloMosaic Idealize.ShloMosaic.TcCoe

variable (c : Dev nD) (i : grid0.Coords) (a1 : Memref sig .tc .vmem S128x2048 .f32) (h1 : a1.IsWhole) (a2 : Memref sig .tc .vmem S1x1024 .f32) (h2 : a2.IsWhole) (a3 : Memref sig .tc .vmem S1x1024 .f32) (h3 : a3.IsWhole) (a4 : Memref sig .tc .vmem S1024x128 .f32) (h4 : a4.IsWhole) (a5 : Memref sig .tc .vmem S128x8 .f32) (h5 : a5.IsWhole) (a6 : Memref sig .tc .vmem S128x1024 .f32) (h6 : a6.IsWhole) (a7 : Memref sig .tc .vmem S128x2048 .bf16) (h7 : a7.IsWhole) (a8 : Memref sig .tc .vmem S1x1024 .f32) (h8 : a8.IsWhole) (a9 : Memref sig .tc .vmem S1x1024 .f32) (h9 : a9.IsWhole) (a10 : Memref sig .tc .vmem S1024x128 .f32) (h10 : a10.IsWhole) (a11 : Memref sig .tc .vmem S128x8 .f32) (h11 : a11.IsWhole)
  (x0 : Vec Ideal S128x2048 .f32) (x1 x2 : Vec Ideal S1x1024 .f32) (x3 : Vec Ideal S1024x128 .f32) (x4 : Vec Ideal S128x8 .f32)
  (x5 : Vec Ideal S128x1024 .f32)

/-- Each output's buffer. -/
theorem outA (hc : cond0_0 i) :
    (out0_A_6 c i a1 h1 a2 h2 a3 h3 a4 h4 a5 h5 a6 h6 a7 h7 a8 h8 a9 h9 a10 h10 a11 h11 hc x0 x1 x2 x3 x4 x5 = kdz x0 x1 x2 x3 x4 x5)
    ∧ (out0_A_7 c i a1 h1 a2 h2 a3 h3 a4 h4 a5 h5 a6 h6 a7 h7 a8 h8 a9 h9 a10 h10 a11 h11 hc x0 x1 x2 x3 x4 x5 = (addf (F := Ideal) (φ := .f32) (broadcast S1x1024 (Scalar.ofBits .f32 0x00000000#32)) (kdg x0 x3 x5) : FVec Ideal S1x1024 .f32))
    ∧ (out0_A_8 c i a1 h1 a2 h2 a3 h3 a4 h4 a5 h5 a6 h6 a7 h7 a8 h8 a9 h9 a10 h10 a11 h11 hc x0 x1 x2 x3 x4 x5 = (addf (F := Ideal) (φ := .f32) (broadcast S1x1024 (Scalar.ofBits .f32 0x00000000#32)) (kdb x0 x3 x5) : FVec Ideal S1x1024 .f32))
    ∧ (out0_A_9 c i a1 h1 a2 h2 a3 h3 a4 h4 a5 h5 a6 h6 a7 h7 a8 h8 a9 h9 a10 h10 a11 h11 hc x0 x1 x2 x3 x4 x5 = (addf (F := Ideal) (φ := .f32) (broadcast S1024x128 (Scalar.ofBits .f32 0x00000000#32)) (kdw x0 x1 x2 x5) : FVec Ideal S1024x128 .f32))
    ∧ (out0_A_10 c i a1 h1 a2 h2 a3 h3 a4 h4 a5 h5 a6 h6 a7 h7 a8 h8 a9 h9 a10 h10 a11 h11 hc x0 x1 x2 x3 x4 x5 = (addf (F := Ideal) (φ := .f32) (broadcast S128x8 (Scalar.ofBits .f32 0x00000000#32)) (kds x0 x5) : FVec Ideal S128x8 .f32)) := by
  unfold out0_A_6 out0_A_7 out0_A_8 out0_A_9 out0_A_10
  refine ⟨(View.read_writes_eq_canon _ _ _ (by intro y; apply cover0_A_6)).trans ?_, (View.read_writes_eq_canon _ _ _ (by intro y; apply cover0_A_7)).trans ?_, (View.read_writes_eq_canon _ _ _ (by intro y; apply cover0_A_8)).trans ?_, (View.read_writes_eq_canon _ _ _ (by intro y; apply cover0_A_9)).trans ?_, (View.read_writes_eq_canon _ _ _ (by intro y; apply cover0_A_10)).trans ?_⟩
  all_goals
    unfold kernelRun0_A
    dsimp only
    first | rw [View.canon_unit_zero hz] | rw [View.canon_cons_unit_zero (S := S1x1024) hz] | rw [View.canon_cons_unit_zero (S := S1024x128) hz] | rw [View.canon_cons_unit_zero (S := S128x8) hz]
    simp only [View.readAt_eq_ld, h1.read_unread, h2.read_unread, h3.read_unread, h4.read_unread, h5.read_unread, h6.read_unread, View.ld_unit_zero (S := S128x2048) hz, View.ld_unit_zero (S := S1x1024) hz, View.ld_unit_zero (S := S1024x128) hz, View.ld_unit_zero (S := S128x8) hz, View.ld_unit_zero (S := S128x1024) hz, sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.r_43, sl.r_44, sl.r_45, sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.r_76, sl.r_77, sl.r_78, sl.r_79, sl.r_80]
  · simp only [k0_pay6, k0_pay7, k0_pay8, k0_pay9, shapeCast_self]
    rfl
  · unfold sl.v369 sl.H7_1
    rw [View.readCov_unit_zero (S := S1x1024) _ hz]
    unfold k0_pay2 k0_pay110
    simp only [k0_pay6, k0_pay7, k0_pay8, k0_pay9, shapeCast_self]
    rfl
  · unfold sl.v373 sl.H8_1
    rw [View.readCov_unit_zero (S := S1x1024) _ hz]
    unfold k0_pay3 k0_pay111
    simp only [k0_pay6, k0_pay7, k0_pay8, k0_pay9, shapeCast_self]
    rfl
  · unfold sl.v377 sl.H9_1
    rw [View.readCov_unit_zero (S := S1024x128) _ hz]
    unfold k0_pay4 k0_pay112
    simp only [k0_pay6, k0_pay7, k0_pay8, k0_pay9, shapeCast_self]
    rfl
  · unfold sl.v381 sl.H10_1
    rw [View.readCov_unit_zero (S := S128x8) _ hz]
    unfold k0_pay5 k0_pay1 k0_pay113
    simp only [k0_pay6, k0_pay7, k0_pay8, k0_pay9, shapeCast_self]
    rfl

end Cert.KernelIdeal.Value

end
-- ==== Proof.Chain.lean ====
/- What each output array holds at the end: the chunks of the projection's gradient, and the sums over all chunks of the
   parameters' gradients. -/
module

public import proofs.«01_k».proof.Proof.Blocks
public import proofs.«01_k».proof.Proof.CaseA
public import proofs.«01_k».proof.Proof.Gen.KernelIdeal.Value

@[expose] public section

set_option maxRecDepth 16384

noncomputable section

namespace Cert.KernelIdeal.Value

open Cert.KernelIdeal Cert.KernelIdeal.Gen Cert.Gmlp Idealize.ShloMosaic Idealize.ShloMosaic.TcCoe

variable (m : (ℓ : Loc nD τ sig) → Buf (Elt Ideal) ℓ) (c : Dev nD)

/-- A sum built point by point from zero is the sum over all chunks. -/
theorem run_sum (f : Fin 32 → EReal) (s : ∀ n, n < cfg0.N → EReal) (h0 : ∀ h, s 0 h = 0 + f (chk ⟨0, h⟩))
    (hs : ∀ n h, s (n + 1) h = s n (Nat.lt_of_succ_lt h) + f (chk ⟨n + 1, h⟩)) (t : Fin cfg0.N) (ht : t.val = 31) :
    s t.val t.isLt = ∑ p, f p := by
  have key : ∀ n h, s n h = ∑ q ∈ Finset.range (n + 1), f ⟨31 - q, by omega⟩ := by
    intro n
    induction n with
    | zero => intro h; rw [h0, zero_add, Finset.sum_range_one]; rfl
    | succ n ih => intro h; rw [hs, ih, Finset.sum_range_succ _ (n + 1)]; rfl
  rw [key, ht, Finset.sum_range, ← Equiv.sum_comp Fin.revPerm f]
  exact Finset.sum_congr rfl fun q _ => congrArg f (Fin.ext (by simp [Fin.revPerm, Fin.rev]))

theorem N32 : cfg0.N = 32 := N_0

theorem notA (n : Nat) (h : n + 1 < cfg0.N) : ¬(⟨n + 1, h⟩ : Fin cfg0.N).val % 32 = 0 := by
  have := N32
  dsimp only
  omega

/-- The output block of the projection's gradient at a point. -/
theorem out6 (t : Fin cfg0.N) : (outsAt0 m c t.val t.isLt).1
    = kdz (X0_0 m c t) (iblk m c 1 t) (iblk m c 2 t) (iblk m c 3 t) (iblk m c 4 t) (iblk m c 5 t) := by
  by_cases h : t.val % 32 = 0
  · rw [outsAt0_A m c t h]
    dsimp only
    rw [(outA ..).1]
  · rw [outsAt0_B m c t h]
    dsimp only
    rw [(outB ..).1]

theorem zero7 (h : 0 < cfg0.N) : (outsAt0 m c 0 h).2.1
    = (addf (F := Ideal) (φ := .f32) (broadcast S1x1024 (Scalar.ofBits .f32 0x00000000#32)) (kdg (X0_0 m c ⟨0, h⟩) (iblk m c 3 ⟨0, h⟩) (iblk m c 5 ⟨0, h⟩)) : FVec Ideal S1x1024 .f32) :=
by
  have e := congrArg (·.2.1) (outsAt0_A m c ⟨0, h⟩ rfl)
  dsimp only at e
  rw [(outA ..).2.1] at e
  exact e
theorem succ7 (n : Nat) (h : n + 1 < cfg0.N) : (outsAt0 m c (n + 1) h).2.1
    = (addf (F := Ideal) (φ := .f32) (outsAt0 m c n (Nat.lt_of_succ_lt h)).2.1 (kdg (X0_0 m c ⟨n + 1, h⟩) (iblk m c 3 ⟨n + 1, h⟩) (iblk m c 5 ⟨n + 1, h⟩)) : FVec Ideal S1x1024 .f32) :=
by
  have e := congrArg (·.2.1) (outsAt0_B m c ⟨n + 1, h⟩ (notA n h))
  dsimp only at e
  rw [(outB ..).2.1] at e
  exact e
theorem zero8 (h : 0 < cfg0.N) : (outsAt0 m c 0 h).2.2.1
    = (addf (F := Ideal) (φ := .f32) (broadcast S1x1024 (Scalar.ofBits .f32 0x00000000#32)) (kdb (X0_0 m c ⟨0, h⟩) (iblk m c 3 ⟨0, h⟩) (iblk m c 5 ⟨0, h⟩)) : FVec Ideal S1x1024 .f32) :=
by
  have e := congrArg (·.2.2.1) (outsAt0_A m c ⟨0, h⟩ rfl)
  dsimp only at e
  rw [(outA ..).2.2.1] at e
  exact e
theorem succ8 (n : Nat) (h : n + 1 < cfg0.N) : (outsAt0 m c (n + 1) h).2.2.1
    = (addf (F := Ideal) (φ := .f32) (outsAt0 m c n (Nat.lt_of_succ_lt h)).2.2.1 (kdb (X0_0 m c ⟨n + 1, h⟩) (iblk m c 3 ⟨n + 1, h⟩) (iblk m c 5 ⟨n + 1, h⟩)) : FVec Ideal S1x1024 .f32) :=
by
  have e := congrArg (·.2.2.1) (outsAt0_B m c ⟨n + 1, h⟩ (notA n h))
  dsimp only at e
  rw [(outB ..).2.2.1] at e
  exact e
theorem zero9 (h : 0 < cfg0.N) : (outsAt0 m c 0 h).2.2.2.1
    = (addf (F := Ideal) (φ := .f32) (broadcast S1024x128 (Scalar.ofBits .f32 0x00000000#32)) (kdw (X0_0 m c ⟨0, h⟩) (iblk m c 1 ⟨0, h⟩) (iblk m c 2 ⟨0, h⟩) (iblk m c 5 ⟨0, h⟩)) : FVec Ideal S1024x128 .f32) :=
by
  have e := congrArg (·.2.2.2.1) (outsAt0_A m c ⟨0, h⟩ rfl)
  dsimp only at e
  rw [(outA ..).2.2.2.1] at e
  exact e
theorem succ9 (n : Nat) (h : n + 1 < cfg0.N) : (outsAt0 m c (n + 1) h).2.2.2.1
    = (addf (F := Ideal) (φ := .f32) (outsAt0 m c n (Nat.lt_of_succ_lt h)).2.2.2.1 (kdw (X0_0 m c ⟨n + 1, h⟩) (iblk m c 1 ⟨n + 1, h⟩) (iblk m c 2 ⟨n + 1, h⟩) (iblk m c 5 ⟨n + 1, h⟩)) : FVec Ideal S1024x128 .f32) :=
by
  have e := congrArg (·.2.2.2.1) (outsAt0_B m c ⟨n + 1, h⟩ (notA n h))
  dsimp only at e
  rw [(outB ..).2.2.2.1] at e
  exact e
theorem zero10 (h : 0 < cfg0.N) : (outsAt0 m c 0 h).2.2.2.2
    = (addf (F := Ideal) (φ := .f32) (broadcast S128x8 (Scalar.ofBits .f32 0x00000000#32)) (kds (X0_0 m c ⟨0, h⟩) (iblk m c 5 ⟨0, h⟩)) : FVec Ideal S128x8 .f32) :=
by
  have e := congrArg (·.2.2.2.2) (outsAt0_A m c ⟨0, h⟩ rfl)
  dsimp only at e
  rw [(outA ..).2.2.2.2] at e
  exact e
theorem succ10 (n : Nat) (h : n + 1 < cfg0.N) : (outsAt0 m c (n + 1) h).2.2.2.2
    = (addf (F := Ideal) (φ := .f32) (outsAt0 m c n (Nat.lt_of_succ_lt h)).2.2.2.2 (kds (X0_0 m c ⟨n + 1, h⟩) (iblk m c 5 ⟨n + 1, h⟩)) : FVec Ideal S128x8 .f32) :=
by
  have e := congrArg (·.2.2.2.2) (outsAt0_B m c ⟨n + 1, h⟩ (notA n h))
  dsimp only at e
  rw [(outB ..).2.2.2.2] at e
  exact e

/-- A point's part is its chunk's part. -/
theorem pt7 (t : Fin cfg0.N) (d : Fin 1024) : kdg (X0_0 m c t) (iblk m c 3 t) (iblk m c 5 t) (ix2 (0 : Fin 1) d)
    = dg (zin (m ((c : Thread nD τ).loc main_arg0)) (chk t)) (win (m ((c : Thread nD τ).loc main_arg3))) (cin (m ((c : Thread nD τ).loc main_arg5)) (chk t)) d := by
  rw [kdg_at]
  simp only [blk0, blk1, blk2, blk3, blk4, blk5]

/-- The gradient of the scale of the normalisation after the last point. -/
theorem tot7 (d : Fin 1024) (t' : Fin cfg0.N) (ht : t'.val = 31) : (outsAt0 m c t'.val t'.isLt).2.1 (ix2 (0 : Fin 1) d)
    = ∑ p, dg (zin (m ((c : Thread nD τ).loc main_arg0)) p) (win (m ((c : Thread nD τ).loc main_arg3))) (cin (m ((c : Thread nD τ).loc main_arg5)) p) d := by
  refine run_sum (fun p => dg (zin (m ((c : Thread nD τ).loc main_arg0)) p) (win (m ((c : Thread nD τ).loc main_arg3))) (cin (m ((c : Thread nD τ).loc main_arg5)) p) d)
    (fun n h => (outsAt0 m c n h).2.1 (ix2 (0 : Fin 1) d)) (fun h => ?_) (fun n h => ?_) t' ht
  · exact (congrFun (zero7 m c h) _).trans (congrArg₂ (· + ·) Ideal.ofBits_zero_f32 (pt7 m c ⟨0, h⟩ d))
  · exact (congrFun (succ7 m c n h) _).trans (congrArg₂ (· + ·) rfl (pt7 m c ⟨n + 1, h⟩ d))

/-- A point's part is its chunk's part. -/
theorem pt8 (t : Fin cfg0.N) (d : Fin 1024) : kdb (X0_0 m c t) (iblk m c 3 t) (iblk m c 5 t) (ix2 (0 : Fin 1) d)
    = db (zin (m ((c : Thread nD τ).loc main_arg0)) (chk t)) (win (m ((c : Thread nD τ).loc main_arg3))) (cin (m ((c : Thread nD τ).loc main_arg5)) (chk t)) d := by
  rw [kdb_at]
  simp only [blk0, blk1, blk2, blk3, blk4, blk5]

/-- The gradient of the offset of the normalisation after the last point. -/
theorem tot8 (d : Fin 1024) (t' : Fin cfg0.N) (ht : t'.val = 31) : (outsAt0 m c t'.val t'.isLt).2.2.1 (ix2 (0 : Fin 1) d)
    = ∑ p, db (zin (m ((c : Thread nD τ).loc main_arg0)) p) (win (m ((c : Thread nD τ).loc main_arg3))) (cin (m ((c : Thread nD τ).loc main_arg5)) p) d := by
  refine run_sum (fun p => db (zin (m ((c : Thread nD τ).loc main_arg0)) p) (win (m ((c : Thread nD τ).loc main_arg3))) (cin (m ((c : Thread nD τ).loc main_arg5)) p) d)
    (fun n h => (outsAt0 m c n h).2.2.1 (ix2 (0 : Fin 1) d)) (fun h => ?_) (fun n h => ?_) t' ht
  · exact (congrFun (zero8 m c h) _).trans (congrArg₂ (· + ·) Ideal.ofBits_zero_f32 (pt8 m c ⟨0, h⟩ d))
  · exact (congrFun (succ8 m c n h) _).trans (congrArg₂ (· + ·) rfl (pt8 m c ⟨n + 1, h⟩ d))

/-- A point's part is its chunk's part. -/
theorem pt9 (t : Fin cfg0.N) (d : Fin 1024) (s : Fin 128) : kdw (X0_0 m c t) (iblk m c 1 t) (iblk m c 2 t) (iblk m c 5 t) (ix2 d s)
    = dws (zin (m ((c : Thread nD τ).loc main_arg0)) (chk t)) (vin (m ((c : Thread nD τ).loc main_arg1))) (vin (m ((c : Thread nD τ).loc main_arg2))) (cin (m ((c : Thread nD τ).loc main_arg5)) (chk t)) (grp d) (lane d) s := by
  rw [kdw_at]
  simp only [blk0, blk1, blk2, blk3, blk4, blk5]

/-- The gradient of the mixing weights after the last point. -/
theorem tot9 (d : Fin 1024) (s : Fin 128) (t' : Fin cfg0.N) (ht : t'.val = 31) : (outsAt0 m c t'.val t'.isLt).2.2.2.1 (ix2 d s)
    = ∑ p, dws (zin (m ((c : Thread nD τ).loc main_arg0)) p) (vin (m ((c : Thread nD τ).loc main_arg1))) (vin (m ((c : Thread nD τ).loc main_arg2))) (cin (m ((c : Thread nD τ).loc main_arg5)) p) (grp d) (lane d) s := by
  refine run_sum (fun p => dws (zin (m ((c : Thread nD τ).loc main_arg0)) p) (vin (m ((c : Thread nD τ).loc main_arg1))) (vin (m ((c : Thread nD τ).loc main_arg2))) (cin (m ((c : Thread nD τ).loc main_arg5)) p) (grp d) (lane d) s)
    (fun n h => (outsAt0 m c n h).2.2.2.1 (ix2 d s)) (fun h => ?_) (fun n h => ?_) t' ht
  · exact (congrFun (zero9 m c h) _).trans (congrArg₂ (· + ·) Ideal.ofBits_zero_f32 (pt9 m c ⟨0, h⟩ d s))
  · exact (congrFun (succ9 m c n h) _).trans (congrArg₂ (· + ·) rfl (pt9 m c ⟨n + 1, h⟩ d s))

/-- A point's part is its chunk's part. -/
theorem pt10 (t : Fin cfg0.N) (i : Fin 128) (k : Fin 8) : kds (X0_0 m c t) (iblk m c 5 t) (ix2 i k)
    = dbs (zin (m ((c : Thread nD τ).loc main_arg0)) (chk t)) (cin (m ((c : Thread nD τ).loc main_arg5)) (chk t)) k i := by
  rw [kds_at]
  simp only [blk0, blk1, blk2, blk3, blk4, blk5]

/-- The gradient of the mixing offsets after the last point. -/
theorem tot10 (t : Fin 128) (k : Fin 8) (t' : Fin cfg0.N) (ht : t'.val = 31) : (outsAt0 m c t'.val t'.isLt).2.2.2.2 (ix2 t k)
    = ∑ p, dbs (zin (m ((c : Thread nD τ).loc main_arg0)) p) (cin (m ((c : Thread nD τ).loc main_arg5)) p) k t := by
  refine run_sum (fun p => dbs (zin (m ((c : Thread nD τ).loc main_arg0)) p) (cin (m ((c : Thread nD τ).loc main_arg5)) p) k t)
    (fun n h => (outsAt0 m c n h).2.2.2.2 (ix2 t k)) (fun h => ?_) (fun n h => ?_) t' ht
  · exact (congrFun (zero10 m c h) _).trans (congrArg₂ (· + ·) Ideal.ofBits_zero_f32 (pt10 m c ⟨0, h⟩ t k))
  · exact (congrFun (succ10 m c n h) _).trans (congrArg₂ (· + ·) rfl (pt10 m c ⟨n + 1, h⟩ t k))

end Cert.KernelIdeal.Value

end
-- ==== Proof.Final.lean ====
/- The kernel's five results at every index, after every run. -/
module

public import proofs.«01_k».proof.Proof.Chain

@[expose] public section

set_option maxRecDepth 16384

noncomputable section

namespace Cert.KernelIdeal.Value

open Cert.KernelIdeal Cert.KernelIdeal.Gen Cert.Gmlp Idealize.ShloMosaic Idealize.ShloMosaic.TcCoe

variable (m : (ℓ : Loc nD τ sig) → Buf (Elt Ideal) ℓ) (c : Dev nD)

/-- The point that works on chunk p. -/
def ptOf (p : Fin 32) : Fin cfg0.N := ⟨31 - p.val, by have := N32; omega⟩

theorem chk_ptOf (p : Fin 32) : chk (ptOf p) = p := Fin.ext (by simp only [chk, ptOf]; omega)

/-- The gradient of the projection at a token and a column: its chunk's value. -/
theorem fin6 (p : Fin 32) (i : Fin 128) (j : Fin 2048) :
    ((dats m 0 c).arrAt 6 cfg0.N : Vec Ideal S4096x2048 .bf16) (ix2 (tok p i) j)
      = dz (zin (m ((c : Thread nD τ).loc main_arg0)) p) (vin (m ((c : Thread nD τ).loc main_arg1))) (vin (m ((c : Thread nD τ).loc main_arg2)))
          (win (m ((c : Thread nD τ).loc main_arg3))) (bin (m ((c : Thread nD τ).loc main_arg4))) (cin (m ((c : Thread nD τ).loc main_arg5)) p) i j := by
  have hi := ix0_6 (ptOf p)
  have e := congrFun (blocks6 m c (ptOf p) (flush0_6 _)) (ix2 i j)
  rw [flushed6, View.read_apply] at e
  have hx : ((cfg0.win 6).blk (ptOf p)).view.emb (ix2 i j) = (ix2 (tok p i) j : S4096x2048.Idx) := by
    funext a
    apply Fin.ext
    match a with
    | ⟨0, _⟩ => show win0_6.index (ptOf p) 0 * 128 + 1 * i.val = 128 * p.val + i.val; rw [hi.1]; show (31 - (31 - p.val)) * 128 + 1 * i.val = _; omega
    | ⟨1, _⟩ => show win0_6.index (ptOf p) 1 * 2048 + 1 * j.val = j.val; rw [hi.2]; omega
  rw [hx] at e
  refine e.trans ?_
  show (outsAt0 m c (ptOf p).val (ptOf p).isLt).1 (ix2 i j) = _
  rw [out6, kdz_at]
  simp only [blk0, blk1, blk2, blk3, blk4, blk5, chk_ptOf]

/-- The last point. -/
theorem exists_last : ∃ t : Fin cfg0.N, t.val = 31 := ⟨⟨31, by have := N32; omega⟩, rfl⟩

/-- The array of output window 7 ends as the last point left it. -/
theorem arr7 (G : Vec Ideal S1x1024 .f32) (hG : ∀ t : Fin cfg0.N, t.val = 31 → (outsAt0 m c t.val t.isLt).2.1 = G) :
    ((dats m 0 c).arrAt 7 cfg0.N : Vec Ideal S1x1024 .f32) = G := by
  obtain ⟨l, hl⟩ := exists_last
  refine (dats m 0 c).arrAt_eq_of_cover 7 G (fun t hf => ?_) fun i => ⟨l, (flush0_7 l).mpr (by rw [hl]), ?_⟩
  · have h31 : t.val = 31 := by have := (flush0_7 t).mp hf; have := t.isLt; have := N32; omega
    rw [flushed7, hG t h31]
    have hz' : (fun a => win0_7.index t a * main_v4_1.ty.shape.size a) = fun _ => 0 := funext fun a => by fin_cases a <;> rfl
    exact (Memref.read_access_unit_zero (Elt Ideal) main_v4_1 hz' (fun a => by rw [congrFun hz' a]; simp) G).symm
  · show i ∈ ((View.whole main_v4_1).slice (win0_7.rect l)).set
    rw [View.set_slice_whole, Rect.mem_set_unit]
    intro a
    have h0 : (i 0 : Nat) < 1 := (i 0).isLt
    have h1 : (i 1 : Nat) < 1024 := (i 1).isLt
    match a with
    | ⟨0, _⟩ => show 0 * 1 ≤ (i 0 : Nat) ∧ (i 0 : Nat) < 0 * 1 + 1; omega
    | ⟨1, _⟩ => show 0 * 1024 ≤ (i 1 : Nat) ∧ (i 1 : Nat) < 0 * 1024 + 1024; omega

/-- The gradient of the scale of the normalisation: the sum of the chunks' parts. -/
theorem fin7 (d : Fin 1024) : ((dats m 0 c).arrAt 7 cfg0.N : Vec Ideal S1x1024 .f32) (ix2 (0 : Fin 1) d)
    = ∑ p, dg (zin (m ((c : Thread nD τ).loc main_arg0)) p) (win (m ((c : Thread nD τ).loc main_arg3))) (cin (m ((c : Thread nD τ).loc main_arg5)) p) d := by
  obtain ⟨l, hl⟩ := exists_last
  rw [arr7 m c (outsAt0 m c l.val l.isLt).2.1 fun t ht => by rw [show t = l from Fin.ext (ht.trans hl.symm)]]
  exact tot7 m c d l hl

/-- The array of output window 8 ends as the last point left it. -/
theorem arr8 (G : Vec Ideal S1x1024 .f32) (hG : ∀ t : Fin cfg0.N, t.val = 31 → (outsAt0 m c t.val t.isLt).2.2.1 = G) :
    ((dats m 0 c).arrAt 8 cfg0.N : Vec Ideal S1x1024 .f32) = G := by
  obtain ⟨l, hl⟩ := exists_last
  refine (dats m 0 c).arrAt_eq_of_cover 8 G (fun t hf => ?_) fun i => ⟨l, (flush0_8 l).mpr (by rw [hl]), ?_⟩
  · have h31 : t.val = 31 := by have := (flush0_8 t).mp hf; have := t.isLt; have := N32; omega
    rw [flushed8, hG t h31]
    have hz' : (fun a => win0_8.index t a * main_v4_2.ty.shape.size a) = fun _ => 0 := funext fun a => by fin_cases a <;> rfl
    exact (Memref.read_access_unit_zero (Elt Ideal) main_v4_2 hz' (fun a => by rw [congrFun hz' a]; simp) G).symm
  · show i ∈ ((View.whole main_v4_2).slice (win0_8.rect l)).set
    rw [View.set_slice_whole, Rect.mem_set_unit]
    intro a
    have h0 : (i 0 : Nat) < 1 := (i 0).isLt
    have h1 : (i 1 : Nat) < 1024 := (i 1).isLt
    match a with
    | ⟨0, _⟩ => show 0 * 1 ≤ (i 0 : Nat) ∧ (i 0 : Nat) < 0 * 1 + 1; omega
    | ⟨1, _⟩ => show 0 * 1024 ≤ (i 1 : Nat) ∧ (i 1 : Nat) < 0 * 1024 + 1024; omega

/-- The gradient of the offset of the normalisation: the sum of the chunks' parts. -/
theorem fin8 (d : Fin 1024) : ((dats m 0 c).arrAt 8 cfg0.N : Vec Ideal S1x1024 .f32) (ix2 (0 : Fin 1) d)
    = ∑ p, db (zin (m ((c : Thread nD τ).loc main_arg0)) p) (win (m ((c : Thread nD τ).loc main_arg3))) (cin (m ((c : Thread nD τ).loc main_arg5)) p) d := by
  obtain ⟨l, hl⟩ := exists_last
  rw [arr8 m c (outsAt0 m c l.val l.isLt).2.2.1 fun t ht => by rw [show t = l from Fin.ext (ht.trans hl.symm)]]
  exact tot8 m c d l hl

/-- The array of output window 9 ends as the last point left it. -/
theorem arr9 (G : Vec Ideal S1024x128 .f32) (hG : ∀ t : Fin cfg0.N, t.val = 31 → (outsAt0 m c t.val t.isLt).2.2.2.1 = G) :
    ((dats m 0 c).arrAt 9 cfg0.N : Vec Ideal S1024x128 .f32) = G := by
  obtain ⟨l, hl⟩ := exists_last
  refine (dats m 0 c).arrAt_eq_of_cover 9 G (fun t hf => ?_) fun i => ⟨l, (flush0_9 l).mpr (by rw [hl]), ?_⟩
  · have h31 : t.val = 31 := by have := (flush0_9 t).mp hf; have := t.isLt; have := N32; omega
    rw [flushed9, hG t h31]
    have hz' : (fun a => win0_9.index t a * main_v4_3.ty.shape.size a) = fun _ => 0 := funext fun a => by fin_cases a <;> rfl
    exact (Memref.read_access_unit_zero (Elt Ideal) main_v4_3 hz' (fun a => by rw [congrFun hz' a]; simp) G).symm
  · show i ∈ ((View.whole main_v4_3).slice (win0_9.rect l)).set
    rw [View.set_slice_whole, Rect.mem_set_unit]
    intro a
    have h0 : (i 0 : Nat) < 1024 := (i 0).isLt
    have h1 : (i 1 : Nat) < 128 := (i 1).isLt
    match a with
    | ⟨0, _⟩ => show 0 * 1024 ≤ (i 0 : Nat) ∧ (i 0 : Nat) < 0 * 1024 + 1024; omega
    | ⟨1, _⟩ => show 0 * 128 ≤ (i 1 : Nat) ∧ (i 1 : Nat) < 0 * 128 + 128; omega

/-- The gradient of the mixing weights: the sum of the chunks' parts. -/
theorem fin9 (d : Fin 1024) (s : Fin 128) : ((dats m 0 c).arrAt 9 cfg0.N : Vec Ideal S1024x128 .f32) (ix2 d s)
    = ∑ p, dws (zin (m ((c : Thread nD τ).loc main_arg0)) p) (vin (m ((c : Thread nD τ).loc main_arg1))) (vin (m ((c : Thread nD τ).loc main_arg2))) (cin (m ((c : Thread nD τ).loc main_arg5)) p) (grp d) (lane d) s := by
  obtain ⟨l, hl⟩ := exists_last
  rw [arr9 m c (outsAt0 m c l.val l.isLt).2.2.2.1 fun t ht => by rw [show t = l from Fin.ext (ht.trans hl.symm)]]
  exact tot9 m c d s l hl

/-- The array of output window 10 ends as the last point left it. -/
theorem arr10 (G : Vec Ideal S128x8 .f32) (hG : ∀ t : Fin cfg0.N, t.val = 31 → (outsAt0 m c t.val t.isLt).2.2.2.2 = G) :
    ((dats m 0 c).arrAt 10 cfg0.N : Vec Ideal S128x8 .f32) = G := by
  obtain ⟨l, hl⟩ := exists_last
  refine (dats m 0 c).arrAt_eq_of_cover 10 G (fun t hf => ?_) fun i => ⟨l, (flush0_10 l).mpr (by rw [hl]), ?_⟩
  · have h31 : t.val = 31 := by have := (flush0_10 t).mp hf; have := t.isLt; have := N32; omega
    rw [flushed10, hG t h31]
    have hz' : (fun a => win0_10.index t a * main_v4_4.ty.shape.size a) = fun _ => 0 := funext fun a => by fin_cases a <;> rfl
    exact (Memref.read_access_unit_zero (Elt Ideal) main_v4_4 hz' (fun a => by rw [congrFun hz' a]; simp) G).symm
  · show i ∈ ((View.whole main_v4_4).slice (win0_10.rect l)).set
    rw [View.set_slice_whole, Rect.mem_set_unit]
    intro a
    have h0 : (i 0 : Nat) < 128 := (i 0).isLt
    have h1 : (i 1 : Nat) < 8 := (i 1).isLt
    match a with
    | ⟨0, _⟩ => show 0 * 128 ≤ (i 0 : Nat) ∧ (i 0 : Nat) < 0 * 128 + 128; omega
    | ⟨1, _⟩ => show 0 * 8 ≤ (i 1 : Nat) ∧ (i 1 : Nat) < 0 * 8 + 8; omega

/-- The gradient of the mixing offsets: the sum of the chunks' parts. -/
theorem fin10 (t : Fin 128) (k : Fin 8) : ((dats m 0 c).arrAt 10 cfg0.N : Vec Ideal S128x8 .f32) (ix2 t k)
    = ∑ p, dbs (zin (m ((c : Thread nD τ).loc main_arg0)) p) (cin (m ((c : Thread nD τ).loc main_arg5)) p) k t := by
  obtain ⟨l, hl⟩ := exists_last
  rw [arr10 m c (outsAt0 m c l.val l.isLt).2.2.2.2 fun t ht => by rw [show t = l from Fin.ext (ht.trans hl.symm)]]
  exact tot10 m c t k l hl

end Cert.KernelIdeal.Value

end
-- ==== Proof.RefGelu.lean ====
/- The reference's activation, read at a token and a column. -/
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.Value

open Cert.ReferenceIdeal Cert.ReferenceIdeal.Gen Cert.ReferenceIdeal.Read Cert.Gmlp Idealize.ShloMosaic Idealize.ShloMosaic.TcCoe

variable (x0 : Vec Ideal S4096x10368 .f32) (n : Fin 4096) (j : Fin 2048) (d : Fin 1024)

/-- The projection's first 2048 columns at a token. -/
def zr (j : Fin 2048) : EReal := x0 (ix2 n ⟨j.val, by omega⟩)
/-- The mixed half's activation at a token. -/
def vr (d : Fin 1024) : EReal := gel (zr x0 n (hi d))

theorem r1 : val_main_v1 (F := Ideal) x0 (ix3 0 n j) = zr x0 n j := by
  pointwise [val_main_v1, val_main_v0, zr]
theorem r6 : val_main_v6 (F := Ideal) x0 (ix3 0 n j) = gsq (zr x0 n j) := by
  pointwise [val_main_v6, val_main_v5, val_main_v4, val_main_cst, r1, gsq]
theorem r12 : val_main_v12 (F := Ideal) x0 (ix3 0 n j) = gth (zr x0 n j) := by
  pointwise [val_main_v12, val_main_v11, val_main_v10, val_main_v9, val_main_v8, val_main_v7, val_main_v3, val_main_v2, val_main_cst_0,
    val_main_cst_1, r1, gth]
  rw [mul_comm (zr x0 n j * zr x0 n j)]
theorem r17 : val_main_v17 (F := Ideal) x0 (ix3 0 n j) = gdt (zr x0 n j) := by
  pointwise [val_main_v17, val_main_v16, val_main_v15, val_main_v14, val_main_v13, val_main_cst_2, val_main_cst_3, r12, gdt]
theorem r21 : val_main_v21 (F := Ideal) x0 (ix3 0 n j) = ghf (zr x0 n j) := by
  pointwise [val_main_v21, val_main_v20, val_main_v19, val_main_v18, val_main_cst_4, val_main_cst_5, r12, ghf]
theorem r22 : val_main_v22 (F := Ideal) x0 (ix3 0 n j) = gel (zr x0 n j) := by
  pointwise [val_main_v22, r1, r21, gel]
theorem r23 : val_main_v23 (F := Ideal) x0 (ix3 0 n d) = gel (zr x0 n (lo d)) := by
  pointwise [val_main_v23]
  exact r22 x0 n (lo d)
theorem r24 : val_main_v24 (F := Ideal) x0 (ix3 0 n d) = vr x0 n d := by
  pointwise [val_main_v24]
  exact r22 x0 n (hi d)

end Cert.ReferenceIdeal.Value

end
-- ==== Proof.RefNorm.lean ====
/- The reference's normalisation and its mixture, read at a token and a column. -/
module

public import proofs.«01_k».proof.Proof.RefGelu

@[expose] public section

set_option maxRecDepth 16384

noncomputable section

namespace Cert.ReferenceIdeal.Value

open Cert.ReferenceIdeal Cert.ReferenceIdeal.Gen Cert.ReferenceIdeal.Read Cert.Gmlp Idealize.ShloMosaic Idealize.ShloMosaic.TcCoe

variable (x0 : Vec Ideal S4096x10368 .f32) (x1 x2 : Vec Ideal S1024 .f32) (n : Fin 4096) (d : Fin 1024)

theorem r28 : val_main_v28 (F := Ideal) x0 (ix3 0 n 0) = mean (vr x0 n) := by
  pointwise [val_main_v28, val_main_v27, val_main_v26, val_main_v25, val_main_cst_6, val_main_cst_7, r24, mean]
theorem r30 : val_main_v30 (F := Ideal) x0 (ix3 0 n d) = cen (vr x0 n) d := by
  pointwise [val_main_v30, val_main_v29, r24, r28, cen]
theorem r37 : val_main_v37 (F := Ideal) x0 (ix3 0 n 0) = vare (vr x0 n) := by
  pointwise [val_main_v37, val_main_v36, val_main_v35, val_main_v34, val_main_v33, val_main_v32, val_main_v31, val_main_cst_8, val_main_cst_9,
    val_main_cst_10, r30, vare]
theorem r38 : val_main_v38 (F := Ideal) x0 (ix3 0 n 0) = rsd (vr x0 n) := by
  pointwise [val_main_v38, r37, rsd]
theorem r41 : val_main_v41 (F := Ideal) x0 (ix3 0 n 0) = rsc (vr x0 n) := by
  pointwise [val_main_v41, val_main_v40, val_main_v39, val_main_cst_11, r37, r38, rsc]
theorem r43 : val_main_v43 (F := Ideal) x0 (ix3 0 n d) = nrm (vr x0 n) d := by
  pointwise [val_main_v43, val_main_v42, r30, r38, nrm]
theorem r49 : val_main_v49 (F := Ideal) x0 x1 x2 (ix3 0 n d) = aff (vr x0 n) (fun d => x1 (ix1 d)) (fun d => x2 (ix1 d)) d := by
  pointwise [val_main_v49, val_main_v48, val_main_v47, val_main_v46, val_main_v45, val_main_v44, r43, aff]

end Cert.ReferenceIdeal.Value

end
-- ==== Proof.RefMix.lean ====
/- The reference's mixture and its cotangents, read at a chunk's token and a column. -/
module

public import proofs.«01_k».proof.Proof.RefNorm
public import proofs.«01_k».proof.Proof.Inputs

@[expose] public section

set_option maxRecDepth 16384

noncomputable section

namespace Cert.ReferenceIdeal.Value

open Cert.ReferenceIdeal Cert.ReferenceIdeal.Gen Cert.ReferenceIdeal.Read Cert.Gmlp Idealize.ShloMosaic Idealize.ShloMosaic.TcCoe

variable (x0 : Vec Ideal S4096x10368 .f32) (x1 x2 : Vec Ideal S1024 .f32) (x3 : Vec Ideal S8x128x128 .f32) (x4 : Vec Ideal S8x128 .f32)
  (x5 : Vec Ideal S4096x1024 .f32) (p : Fin 32) (t s e : Fin 128) (k : Fin 8) (d : Fin 1024)

theorem r50 : val_main_v50 (F := Ideal) x0 x1 x2 (ix5 0 p s k e) = vn (zin x0 p) (vin x1) (vin x2) s (col k e) := by
  unfold val_main_v50
  refine (shapeCast_apply _ _ _ (ix3 0 (tok p s) (col k e)) ?_).trans (r49 x0 x1 x2 (tok p s) (col k e))
  rw [Shape.rowMajor_val_three, Shape.rowMajor_val_five]
  dsimp [tok, col]
  omega
theorem cmp_low : ∀ t s : Fin 128, IntOp.cmpi .sge (IntOp.addi (BitVec.ofNat 32 t.val) 0#32) (BitVec.ofNat 32 s.val) = if s.val ≤ t.val then 1#1 else 0#1 := by
  decide +kernel
theorem r53b : val_main_v53_1 (F := Ideal) (ix3 k t s) = if s.val ≤ t.val then 1#1 else 0#1 := by
  pointwise [val_main_v53_1, val_main_v52, val_main_v51, val_main_c, val_main_call0_v0, val_main_call0_v1, val_main_call0_v2, val_main_call0_v3, val_main_call0_v4, val_main_call0_v5, val_main_call0_c, val_main_call0_c_0]
  rw [cmp_low]
  by_cases h : s.val ≤ t.val <;> simp [h, Scalar.select]
theorem r53 : val_main_v53_0 (F := Ideal) x3 (ix3 k t s) = wm (win x3) k t s := by
  pointwise [val_main_v53_0, r53b, val_main_call1_v2, val_main_call1_v0, val_main_c_12]
  have h0 : (FloatOps.sitofp FTy.f32 0#32 : Ideal FTy.f32) = 0 := by show (((0#32 : BitVec 32).toInt : ℝ) : EReal) = 0; simp
  rw [h0]
  unfold wm win
  by_cases h : s.val ≤ t.val <;> simp [h, Scalar.select]
theorem r61 : val_main_v61 (F := Ideal) x0 x1 x2 x3 x4 (ix3 0 (tok p t) (col k e)) = mix (zin x0 p) (vin x1) (vin x2) (win x3) (bin x4) k t e := by
  unfold val_main_v61
  refine (shapeCast_apply _ _ _ (ix5 0 p t k e) ?_).trans ?_
  · rw [Shape.rowMajor_val_three, Shape.rowMajor_val_five]
    dsimp [tok, col]
    omega
  · pointwise [val_main_v60, val_main_v59, val_main_v58, val_main_v57, val_main_v56, val_main_v55, val_main_v54, r50, r53, mix, bin]
    exact congrArg₂ (· + ·) (Finset.sum_congr rfl fun s _ => mul_comm _ _) rfl
theorem r64 : val_main_v64 (F := Ideal) x0 x5 (ix3 0 (tok p t) d) = dmix (zin x0 p) (cin x5 p) t d := by
  pointwise [val_main_v64, val_main_v63, r23, dmix, gu, cin]
  rfl
theorem r65 : val_main_v65 (F := Ideal) x0 x1 x2 x3 x4 x5 (ix3 0 (tok p t) d) = du (zin x0 p) (vin x1) (vin x2) (win x3) (bin x4) (cin x5 p) t d := by
  obtain ⟨k, e, rfl⟩ := exists_col d
  pointwise [val_main_v65, val_main_v63, r61, du, cin, grp_col, lane_col]
theorem r66 : val_main_v66 (F := Ideal) x0 x5 (ix5 0 p t k e) = dmix (zin x0 p) (cin x5 p) t (col k e) := by
  unfold val_main_v66
  refine (shapeCast_apply _ _ _ (ix3 0 (tok p t) (col k e)) ?_).trans (r64 ..)
  rw [Shape.rowMajor_val_three, Shape.rowMajor_val_five]
  dsimp [tok, col]
  omega
theorem r78 : val_main_v78 (F := Ideal) x0 x3 x5 (ix3 0 (tok p s) d) = dvn (zin x0 p) (win x3) (cin x5 p) s d := by
  obtain ⟨k, e, rfl⟩ := exists_col d
  unfold val_main_v78
  refine (shapeCast_apply _ _ _ (ix5 0 p s k e) ?_).trans ?_
  · rw [Shape.rowMajor_val_three, Shape.rowMajor_val_five]
    dsimp [tok, col]
    omega
  · pointwise [val_main_v76, val_main_v75, val_main_v73, r66, r53, dvn, grp_col]
    exact Finset.sum_congr rfl fun s _ => mul_comm _ _
theorem r86 : val_main_v86 (F := Ideal) x0 x1 x3 x5 (ix3 0 (tok p s) d) = dvn (zin x0 p) (win x3) (cin x5 p) s d * vin x1 d := by
  pointwise [val_main_v86, val_main_v85, val_main_v44, r78, vin]
theorem r95 : val_main_v95 (F := Ideal) x0 x1 x3 x5 (ix3 0 (tok p s) 0) = lnq (gv (zin x0 p) s) (fun d => dvn (zin x0 p) (win x3) (cin x5 p) s d * vin x1 d) := by
  pointwise [val_main_v95, val_main_v94, val_main_v93, val_main_v90, val_main_v89, val_main_v88, val_main_cst_20, val_main_cst_21, r86, r41, r30, lnq]
  rfl

end Cert.ReferenceIdeal.Value

end
-- ==== Proof.RefSum.lean ====
/- The reference's sums: over several axes at once, and over all tokens. -/
module

public import proofs.«01_k».proof.Proof.RefMix

@[expose] public section

set_option maxRecDepth 16384

noncomputable section

namespace Cert.ReferenceIdeal.Value

open Cert.ReferenceIdeal Cert.ReferenceIdeal.Gen Cert.ReferenceIdeal.Read Cert.Gmlp Idealize.ShloMosaic Idealize.ShloMosaic.TcCoe

variable (x0 : Vec Ideal S4096x10368 .f32) (x1 x2 : Vec Ideal S1024 .f32) (x3 : Vec Ideal S8x128x128 .f32) (x4 : Vec Ideal S8x128 .f32)
  (x5 : Vec Ideal S4096x1024 .f32) (p : Fin 32) (t s e : Fin 128) (k : Fin 8) (d : Fin 1024)

/-- A sum over several axes, read at an index, is the sum over any enumeration of the indices that reduce to it. -/
theorem reduce_at {S T : Shape} {axes : List (Fin S.rank)} (h : S.ReducesTo axes T) (x : S.Idx → EReal) (init : EReal) (j : T.Idx)
    {κ : Type} [Fintype κ] (e : κ → S.Idx) (r : S.Idx → κ) (hr : ∀ q, r (e q) = q) (hd : ∀ q, h.drop (e q) = j)
    (hs : ∀ i, h.drop i = j → e (r i) = i) : Ideal.hostReduceAdd h x init j = init + ∑ q, x (e q) := by
  unfold Ideal.hostReduceAdd
  refine congrArg (init + ·) (Finset.sum_nbij' r e (fun _ _ => Finset.mem_univ _) (fun q _ => ?_) (fun i hi => ?_) (fun q _ => hr q) fun i hi => ?_)
  · exact Finset.mem_filter.mpr ⟨Finset.mem_univ _, hd q⟩
  · exact hs i (Finset.mem_filter.mp hi).2
  · exact congrArg x (hs i (Finset.mem_filter.mp hi).2).symm

theorem red67 (x : S1x32x128x8x128.Idx → EReal) (init : EReal) (k : Fin 8) (t : Fin 128) :
    Ideal.hostReduceAdd reducesTo_S1x32x128x8x128_S1x128x8_d1_4 x init (ix3 0 t k) = init + ∑ p : Fin 32, ∑ e : Fin 128, x (ix5 0 p t k e) := by
  rw [← Fintype.sum_prod_type']
  refine reduce_at _ x init _ (κ := Fin 32 × Fin 128) (fun q => ix5 0 q.1 t k q.2) (fun i => (i 1, i 4)) (fun q => rfl) (fun q => ?_) fun i hi => ?_
  · funext a; match a with | ⟨0, _⟩ => rfl | ⟨1, _⟩ => rfl | ⟨2, _⟩ => rfl
  · have h1 := congrArg Fin.val (congrFun hi 1)
    have h2 := congrArg Fin.val (congrFun hi 2)
    funext a
    match a with
    | ⟨0, _⟩ => exact Subsingleton.elim (α := Fin 1) _ _
    | ⟨1, _⟩ => rfl
    | ⟨2, _⟩ => exact Fin.ext h1.symm
    | ⟨3, _⟩ => exact Fin.ext h2.symm
    | ⟨4, _⟩ => rfl
theorem red69 (x : S1x1x128x8x1.Idx → EReal) (init : EReal) (k : Fin 8) (t : Fin 128) :
    Ideal.hostReduceAdd reducesTo_S1x1x128x8x1_S128x8_d0_1_4 x init (ix2 t k) = init + x (ix5 0 0 t k 0) := by
  refine (reduce_at _ x init _ (κ := Unit) (fun q => ix5 0 0 t k 0) (fun i => ()) (fun q => rfl) (fun q => ?_) fun i hi => ?_).trans (by simp)
  · funext a; match a with | ⟨0, _⟩ => rfl | ⟨1, _⟩ => rfl
  · have h1 := congrArg Fin.val (congrFun hi 0)
    have h2 := congrArg Fin.val (congrFun hi 1)
    funext a
    match a with
    | ⟨0, _⟩ => exact Subsingleton.elim (α := Fin 1) _ _
    | ⟨1, _⟩ => exact Subsingleton.elim (α := Fin 1) _ _
    | ⟨2, _⟩ => exact Fin.ext h1.symm
    | ⟨3, _⟩ => exact Fin.ext h2.symm
    | ⟨4, _⟩ => exact Subsingleton.elim (α := Fin 1) _ _
theorem red81 (x : S1x1x1024.Idx → EReal) (init : EReal) :
    Ideal.hostReduceAdd reducesTo_S1x1x1024_S1024_d0_1 x init (ix1 d) = init + x (ix3 0 0 d) := by
  refine (reduce_at _ x init _ (κ := Unit) (fun q => ix3 0 0 d) (fun i => ()) (fun q => rfl) (fun q => ?_) fun i hi => ?_).trans (by simp)
  · funext a; match a with | ⟨0, _⟩ => rfl
  · have h1 := congrArg Fin.val (congrFun hi 0)
    funext a
    match a with
    | ⟨0, _⟩ => exact Subsingleton.elim (α := Fin 1) _ _
    | ⟨1, _⟩ => exact Subsingleton.elim (α := Fin 1) _ _
    | ⟨2, _⟩ => exact Fin.ext h1.symm
theorem red96 (x : S1x4096x1.Idx → EReal) (init : EReal) (n : Fin 4096) :
    Ideal.hostReduceAdd reducesTo_S1x4096x1_S4096_d0_2 x init (ix1 n) = init + x (ix3 0 n 0) := by
  refine (reduce_at _ x init _ (κ := Unit) (fun q => ix3 0 n 0) (fun i => ()) (fun q => rfl) (fun q => ?_) fun i hi => ?_).trans (by simp)
  · funext a; match a with | ⟨0, _⟩ => rfl
  · have h1 := congrArg Fin.val (congrFun hi 0)
    funext a
    match a with
    | ⟨0, _⟩ => exact Subsingleton.elim (α := Fin 1) _ _
    | ⟨1, _⟩ => exact Fin.ext h1.symm
    | ⟨2, _⟩ => exact Subsingleton.elim (α := Fin 1) _ _

theorem r67 : val_main_v67 (F := Ideal) x0 x5 (ix3 0 t k) = ∑ p, dbs (zin x0 p) (cin x5 p) k t := by
  unfold val_main_v67
  simp only [Host.reduceAdd, Ideal.hostReduceAdd_def, red67, r66, dbs]
  exact (congrArg (· + _) Ideal.ofBits_zero_f32).trans (zero_add _)
theorem r130 : val_main_v130 (F := Ideal) x0 x5 (ix2 t k) = ∑ p, dbs (zin x0 p) (cin x5 p) k t := by
  pointwise [val_main_v130, val_main_v72, val_main_v71, val_main_v70, val_main_cst_15]
  unfold val_main_v69
  simp only [Host.reduceAdd, Ideal.hostReduceAdd_def, red69]
  have e : val_main_v68 (F := Ideal) x0 x5 (ix5 0 0 t k 0) = val_main_v67 (F := Ideal) x0 x5 (ix3 0 t k) := by
    pointwise [val_main_v68]
  rw [e, r67]
  have h0 : val_main_cst_14 (F := Ideal) (Shape.Idx.first h_S_) = 0 := Ideal.ofBits_zero_f32
  simp [h0]
theorem r127 : val_main_v127 (F := Ideal) x0 x3 x5 (ix2 0 d) = ∑ p, dg (zin x0 p) (win x3) (cin x5 p) d := by
  have e : val_main_v127 (F := Ideal) x0 x3 x5 (ix2 0 d) = val_main_v87 (F := Ideal) x0 x3 x5 (ix1 d) := by
    pointwise [val_main_v127]
  have e' : val_main_v84 (F := Ideal) x0 x3 x5 (ix3 0 0 d) = ∑ n : Fin 4096, val_main_v82 (F := Ideal) x0 x3 x5 (ix3 0 n d) := by
    pointwise [val_main_v84, val_main_v83, val_main_cst_18]
  have h0 : val_main_cst_19 (F := Ideal) (Shape.Idx.first h_S_) = 0 := Ideal.ofBits_zero_f32
  rw [e]
  unfold val_main_v87
  simp only [Host.reduceAdd, Ideal.hostReduceAdd_def, red81]
  rw [e', h0, zero_add, sum_tok]
  refine Finset.sum_congr rfl fun p _ => Finset.sum_congr rfl fun s _ => ?_
  pointwise [val_main_v82, r43, r78]
  rfl
theorem r128 : val_main_v128 (F := Ideal) x0 x3 x5 (ix2 0 d) = ∑ p, db (zin x0 p) (win x3) (cin x5 p) d := by
  have e : val_main_v128 (F := Ideal) x0 x3 x5 (ix2 0 d) = val_main_v81 (F := Ideal) x0 x3 x5 (ix1 d) := by
    pointwise [val_main_v128]
  have e' : val_main_v80 (F := Ideal) x0 x3 x5 (ix3 0 0 d) = ∑ n : Fin 4096, val_main_v78 (F := Ideal) x0 x3 x5 (ix3 0 n d) := by
    pointwise [val_main_v80, val_main_v79, val_main_cst_16]
  have h0 : val_main_cst_17 (F := Ideal) (Shape.Idx.first h_S_) = 0 := Ideal.ofBits_zero_f32
  rw [e]
  unfold val_main_v81
  simp only [Host.reduceAdd, Ideal.hostReduceAdd_def, red81]
  rw [e', h0, zero_add, sum_tok]
  exact Finset.sum_congr rfl fun p _ => Finset.sum_congr rfl fun s _ => r78 ..
theorem con_rank : dot_S8x1x32x128x128_S1x32x128x8x128_S8x128x128_123_014_4_2_0_3.contr.rank = 3 := by decide
theorem con_size : ∀ a, dot_S8x1x32x128x128_S1x32x128x8x128_S8x128x128_123_014_4_2_0_3.contr.size a = ![1, 32, 128] (a.cast con_rank) := by decide
/-- The contraction's index: a chunk and a column of the group. -/
def con (q : Fin 32 × Fin 128) : dot_S8x1x32x128x128_S1x32x128x8x128_S8x128x128_123_014_4_2_0_3.contr.Idx :=
  fun a => ⟨![0, q.1.val, q.2.val] (a.cast con_rank), by
    rw [con_size]
    generalize a.cast con_rank = b
    match b with
    | 0 => exact Nat.one_pos
    | 1 => exact q.1.isLt
    | 2 => exact q.2.isLt⟩
/-- Every index of the contraction is one. -/
def conEquiv : Fin 32 × Fin 128 ≃ dot_S8x1x32x128x128_S1x32x128x8x128_S8x128x128_123_014_4_2_0_3.contr.Idx where
  toFun := con
  invFun q := ((q ⟨1, by decide⟩).cast (con_size ⟨1, by decide⟩), (q ⟨2, by decide⟩).cast (con_size ⟨2, by decide⟩))
  left_inv _ := rfl
  right_inv q := by
    funext a
    match a with
    | ⟨0, h⟩ =>
      have h1 : (q ⟨0, h⟩).val < 1 := ((q ⟨0, h⟩).cast (con_size ⟨0, h⟩)).isLt
      exact Fin.ext (show 0 = (q ⟨0, h⟩).val by omega)
    | ⟨1, _⟩ => exact Fin.ext rfl
    | ⟨2, _⟩ => exact Fin.ext rfl
theorem con_l (q : Fin 32 × Fin 128) : dot_S8x1x32x128x128_S1x32x128x8x128_S8x128x128_123_014_4_2_0_3.lhsIdx (ix3 k t s) (con q) = ix5 k 0 q.1 q.2 t := by
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl
theorem con_r (q : Fin 32 × Fin 128) : dot_S8x1x32x128x128_S1x32x128x8x128_S8x128x128_123_014_4_2_0_3.rhsIdx (ix3 k t s) (con q) = ix5 0 q.1 s k q.2 := by
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl
theorem r74 : val_main_v74 (F := Ideal) x0 x1 x2 x5 (ix3 k t s)
    = ∑ p : Fin 32, ∑ e : Fin 128, dmix (zin x0 p) (cin x5 p) t (col k e) * vn (zin x0 p) (vin x1) (vin x2) s (col k e) := by
  pointwise [val_main_v74]
  unfold Ideal.matmul
  rw [zero_add, ← Fintype.sum_prod_type', ← Equiv.sum_comp conEquiv]
  refine Finset.sum_congr rfl fun q _ => ?_
  show val_main_v73 (F := Ideal) x0 x5 (_root_.Idealize.ShloMosaic.DotDims.lhsIdx _ (ix3 k t s) (con q)) * val_main_v50 (F := Ideal) x0 x1 x2 (_root_.Idealize.ShloMosaic.DotDims.rhsIdx _ (ix3 k t s) (con q)) = _
  rw [con_l, con_r, r50]
  pointwise [val_main_v73, r66]
theorem r129 : val_main_v129 (F := Ideal) x0 x1 x2 x5 (ix2 (col k t) s) = ∑ p, dws (zin x0 p) (vin x1) (vin x2) (cin x5 p) k t s := by
  unfold val_main_v129
  refine (shapeCast_apply _ _ _ (ix3 k t s) ?_).trans ?_
  · rw [Shape.rowMajor_val_three, Shape.rowMajor_val_two]
    dsimp [col]
  · pointwise [val_main_v77, r53b, val_main_call2_v0, val_main_call2_cst, r74, dws]
    by_cases h : s.val ≤ t.val <;> simp [h, Scalar.select]

end Cert.ReferenceIdeal.Value

end
-- ==== Proof.RefEnd.lean ====
/- The reference's gradient of the projection, read at a chunk's token and a column. -/
module

public import proofs.«01_k».proof.Proof.RefSum

@[expose] public section

set_option maxRecDepth 16384

noncomputable section

namespace Cert.ReferenceIdeal.Value

open Cert.ReferenceIdeal Cert.ReferenceIdeal.Gen Cert.ReferenceIdeal.Read Cert.Gmlp Idealize.ShloMosaic Idealize.ShloMosaic.TcCoe

variable (x0 : Vec Ideal S4096x10368 .f32) (x1 x2 : Vec Ideal S1024 .f32) (x3 : Vec Ideal S8x128x128 .f32) (x4 : Vec Ideal S8x128 .f32)
  (x5 : Vec Ideal S4096x1024 .f32) (p : Fin 32) (t s e : Fin 128) (k : Fin 8) (d : Fin 1024)

/-- The scaled cotangent of the normalised half, at a token. -/
abbrev er (x0 : Vec Ideal S4096x10368 .f32) (x1 : Vec Ideal S1024 .f32) (x3 : Vec Ideal S8x128x128 .f32) (x5 : Vec Ideal S4096x1024 .f32)
    (p : Fin 32) (s : Fin 128) (d : Fin 1024) : EReal := dvn (zin x0 p) (win x3) (cin x5 p) s d * vin x1 d

theorem r98 : val_main_v98 (F := Ideal) x0 x1 x3 x5 (ix3 0 (tok p s) d) = lnq (gv (zin x0 p) s) (er x0 x1 x3 x5 p s) := by
  pointwise [val_main_v98, val_main_v97]
  unfold val_main_v96
  simp only [Host.reduceAdd, Ideal.hostReduceAdd_def, red96, r95]
  have h0 : val_main_cst_22 (F := Ideal) (Shape.Idx.first h_S_) = 0 := Ideal.ofBits_zero_f32
  rw [h0, zero_add]
theorem r102 : val_main_v102 (F := Ideal) x0 x1 x3 x5 (ix3 0 (tok p s) d) = lnm (gv (zin x0 p) s) (er x0 x1 x3 x5 p s) d := by
  pointwise [val_main_v102, val_main_v101, val_main_v100, val_main_v99, val_main_v92, val_main_v91, r98, r86, r38, r30, lnm]
  rfl
theorem r111 : val_main_v111 (F := Ideal) x0 x1 x3 x5 (ix3 0 (tok p s) d) = dv (zin x0 p) (vin x1) (win x3) (cin x5 p) s d := by
  have e : val_main_v107 (F := Ideal) x0 x1 x3 x5 (ix3 0 (tok p s) 0) = Ideal.div (∑ d, -(lnm (gv (zin x0 p) s) (er x0 x1 x3 x5 p s) d)) (cst 0x44800000#32) := by
    pointwise [val_main_v107, val_main_v106, val_main_v105, val_main_v104, val_main_v103, val_main_cst_23, val_main_cst_24, r102]
  pointwise [val_main_v111, val_main_v110, val_main_v109, r102]
  unfold val_main_v108
  simp only [Host.reduceAdd, Ideal.hostReduceAdd_def, red96, e]
  have h0 : val_main_cst_25 (F := Ideal) (Shape.Idx.first h_S_) = 0 := Ideal.ofBits_zero_f32
  rw [h0, zero_add]
  rfl
/-- The two halves side by side, read at a column. -/
theorem cat_at (a b : Vec Ideal S1x4096x1024 .f32) (n : Fin 4096) (j : Fin 2048) :
    (concatenate S1x4096x2048 2 [⟨S1x4096x1024, a⟩, ⟨S1x4096x1024, b⟩] concatenates_S1x4096x1024_S1x4096x1024_S1x4096x2048_d2 : Vec Ideal S1x4096x2048 .f32) (ix3 0 n j)
      = if h : j.val < 1024 then a (ix3 0 n ⟨j.val, h⟩) else b (ix3 0 n ⟨j.val - 1024, by omega⟩) := by
  pointwise
theorem r112 (j : Fin 2048) : val_main_v112 (F := Ideal) x0 x1 x2 x3 x4 x5 (ix3 0 (tok p t) j)
    = if h : j.val < 1024 then du (zin x0 p) (vin x1) (vin x2) (win x3) (bin x4) (cin x5 p) t ⟨j.val, h⟩
      else dv (zin x0 p) (vin x1) (win x3) (cin x5 p) t ⟨j.val - 1024, by omega⟩ := by
  unfold val_main_v112
  rw [cat_at]
  simp only [r65, r111]
theorem r126 (j : Fin 2048) : val_main_v126 (F := Ideal) x0 x1 x2 x3 x4 x5 (ix2 (tok p t) j)
    = dz (zin x0 p) (vin x1) (vin x2) (win x3) (bin x4) (cin x5 p) t j := by
  pointwise [val_main_v126, val_main_v125, val_main_v124, val_main_v123, val_main_v122, val_main_v121, val_main_v120, val_main_v119, val_main_v118,
    val_main_v117, val_main_v116, val_main_v115, val_main_v114, val_main_v113, val_main_cst_26, val_main_cst_27, val_main_cst_28, r1, r6, r17, r21, r112]
  rfl

end Cert.ReferenceIdeal.Value

end
-- ==== Proof.Gmlp.lean ====
/- The claim on the gated mixer's gradients: the call and the reference end with the same five arrays. -/
module

public import proofs.«01_k».proof.Defs
public import proofs.«01_k».proof.Proof.Final
public import proofs.«01_k».proof.Proof.RefEnd

@[expose] public section

set_option maxRecDepth 16384

noncomputable section

namespace Cert.KernelIdeal.Value

open Idealize.ShloMosaic Idealize.ShloMosaic.StableHlo Idealize.ShloMosaic.Pipeline Idealize.SL.Sem Cert.KernelIdeal Cert.KernelIdeal.Gen Cert.Gmlp Cert.ReferenceIdeal.Read

variable (m : (ℓ : Loc nD τ sig) → Buf (Elt Ideal) ℓ) (c : Dev nD)

/-- The call's array 1 (the projection's gradient) is the reference's. -/
theorem same6 : ((dats m 0 c).arrAt 6 cfg0.N : Vec Ideal S4096x2048 .bf16) = val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext j
  obtain ⟨n, j, rfl⟩ : ∃ a b, j = ix2 a b := ⟨_, _, eq_ix2 j⟩
  obtain ⟨p, i, rfl⟩ := exists_tok n
  rw [fin6]
  exact (Cert.ReferenceIdeal.Value.r126 _ _ _ _ _ _ p i j).symm

/-- The call's array 2 (the norm's scale's gradient) is the reference's. -/
theorem same7 : ((dats m 0 c).arrAt 7 cfg0.N : Vec Ideal S1x1024 .f32) = val_main_v127 (F := Ideal) (m ((c.tc : Thread nD τ).loc main_arg0)) (m ((c.tc : Thread nD τ).loc main_arg3)) (m ((c.tc : Thread nD τ).loc main_arg5)) := by
  funext j
  obtain ⟨z, d, rfl⟩ : ∃ a b, j = ix2 a b := ⟨_, _, eq_ix2 j⟩
  obtain rfl : z = 0 := Subsingleton.elim (α := Fin 1) _ _
  rw [fin7]
  exact (Cert.ReferenceIdeal.Value.r127 (x0 := (m ((c.tc : Thread nD τ).loc main_arg0))) (x3 := (m ((c.tc : Thread nD τ).loc main_arg3))) (x5 := (m ((c.tc : Thread nD τ).loc main_arg5))) (d := d)).symm

/-- The call's array 3 (the norm's offset's gradient) is the reference's. -/
theorem same8 : ((dats m 0 c).arrAt 8 cfg0.N : Vec Ideal S1x1024 .f32) = val_main_v128 (F := Ideal) (m ((c.tc : Thread nD τ).loc main_arg0)) (m ((c.tc : Thread nD τ).loc main_arg3)) (m ((c.tc : Thread nD τ).loc main_arg5)) := by
  funext j
  obtain ⟨z, d, rfl⟩ : ∃ a b, j = ix2 a b := ⟨_, _, eq_ix2 j⟩
  obtain rfl : z = 0 := Subsingleton.elim (α := Fin 1) _ _
  rw [fin8]
  exact (Cert.ReferenceIdeal.Value.r128 (x0 := (m ((c.tc : Thread nD τ).loc main_arg0))) (x3 := (m ((c.tc : Thread nD τ).loc main_arg3))) (x5 := (m ((c.tc : Thread nD τ).loc main_arg5))) (d := d)).symm

/-- The call's array 4 (the mixing weights' gradient) is the reference's. -/
theorem same9 : ((dats m 0 c).arrAt 9 cfg0.N : Vec Ideal S1024x128 .f32) = val_main_v129 (F := Ideal) (m ((c.tc : Thread nD τ).loc main_arg0)) (m ((c.tc : Thread nD τ).loc main_arg1)) (m ((c.tc : Thread nD τ).loc main_arg2)) (m ((c.tc : Thread nD τ).loc main_arg5)) := by
  funext j
  obtain ⟨d, s, rfl⟩ : ∃ a b, j = ix2 a b := ⟨_, _, eq_ix2 j⟩
  obtain ⟨k, t, rfl⟩ := exists_col d
  rw [fin9, grp_col, lane_col]
  exact (Cert.ReferenceIdeal.Value.r129 (x0 := (m ((c.tc : Thread nD τ).loc main_arg0))) (x1 := (m ((c.tc : Thread nD τ).loc main_arg1))) (x2 := (m ((c.tc : Thread nD τ).loc main_arg2))) (x5 := (m ((c.tc : Thread nD τ).loc main_arg5))) (k := k) (t := t) (s := s)).symm

/-- The call's array 5 (the mixing offsets' gradient) is the reference's. -/
theorem same10 : ((dats m 0 c).arrAt 10 cfg0.N : Vec Ideal S128x8 .f32) = val_main_v130 (F := Ideal) (m ((c.tc : Thread nD τ).loc main_arg0)) (m ((c.tc : Thread nD τ).loc main_arg5)) := by
  funext j
  obtain ⟨t, k, rfl⟩ : ∃ a b, j = ix2 a b := ⟨_, _, eq_ix2 j⟩
  rw [fin10]
  exact (Cert.ReferenceIdeal.Value.r130 (x0 := (m ((c.tc : Thread nD τ).loc main_arg0))) (x5 := (m ((c.tc : Thread nD τ).loc main_arg5))) (k := k) (t := t)).symm

end Cert.KernelIdeal.Value

namespace Cert.Proof

open Idealize.ShloMosaic Idealize.ShloMosaic.StableHlo Idealize.SL.Sem

/-- The reference's frame: its run leaves the arguments, and it declares no counter. -/
theorem gmlp_reference_frame : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- Both programs end with the same five arrays over the extended reals. -/
theorem gmlp_same : Cert.algebraic_KernelIdeal_ReferenceIdeal (hKernelIdeal := Cert.KernelIdeal.Gen.facts) (hReferenceIdeal := Cert.ReferenceIdeal.Gen.facts) := by
  intro m ρ m' ρ' _ hag
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks m ρ, ?_⟩
  refine (θ_run Cert.ReferenceIdeal.defs _ _).mono ?_ (Cert.ReferenceIdeal.Value.run (F := Ideal) m' ρ')
  intro r h c
  obtain ⟨e0, e1, e2, e3, e4, e5⟩ := hag c
  obtain ⟨h0, h1, h2, h3, h4, hk⟩ := h c
  refine ⟨h0.trans ?_, h1.trans ?_, h2.trans ?_, h3.trans ?_, h4.trans ?_, hk⟩
  · rw [Cert.ReferenceIdeal.Read.val_main_v126_eq]
    repeat rw [launchContents_devRef]
    rw [e0, e1, e2, e3, e4, e5]
    exact (Cert.KernelIdeal.Value.same6 m c).symm
  · rw [Cert.ReferenceIdeal.Read.val_main_v127_eq]
    repeat rw [launchContents_devRef]
    rw [e0, e3, e5]
    exact (Cert.KernelIdeal.Value.same7 m c).symm
  · rw [Cert.ReferenceIdeal.Read.val_main_v128_eq]
    repeat rw [launchContents_devRef]
    rw [e0, e3, e5]
    exact (Cert.KernelIdeal.Value.same8 m c).symm
  · rw [Cert.ReferenceIdeal.Read.val_main_v129_eq]
    repeat rw [launchContents_devRef]
    rw [e0, e1, e2, e5]
    exact (Cert.KernelIdeal.Value.same9 m c).symm
  · rw [Cert.ReferenceIdeal.Read.val_main_v130_eq]
    repeat rw [launchContents_devRef]
    rw [e0, e5]
    exact (Cert.KernelIdeal.Value.same10 m c).symm

end Cert.Proof

end
-- ==== Proof.Sums.lean ====
/- Sums over the extended reals that a product cut along its summed axis needs. -/
module

public import Idealize.ShloMosaic.Lib.Pointwise
public import Idealize.ShloMosaic.Lib.IdealHost
public import Mathlib.Data.EReal.Operations
public import Mathlib.Algebra.BigOperators.Fin

@[expose] public section

namespace Cert.Sums

/-- Place e of the piece a of 1024 of an axis of 4096. -/
def at4 (a : Fin 4) (e : Fin 1024) : Fin 4096 := ⟨1024 * a.val + e.val, by omega⟩

/-- A sum over 4096 is the sum of its four pieces. -/
theorem sum_four (f : Fin 4096 → EReal) :
    ((∑ e, f (at4 0 e) + ∑ e, f (at4 1 e)) + ∑ e, f (at4 2 e)) + ∑ e, f (at4 3 e) = ∑ e, f e := by
  rw [← Fin.sum_univ_four fun a => ∑ e, f (at4 a e), ← Fintype.sum_prod_type']
  refine Fintype.sum_equiv (finProdFinEquiv (m := 4) (n := 1024)) _ _ fun x => congrArg f (Fin.ext ?_)
  show 1024 * x.1.val + x.2.val = x.2.val + 1024 * x.1.val
  omega

/-- Twice a value is the value added to itself. -/
theorem two_mul_eq (x : EReal) : (2 : EReal) * x = x + x := by
  induction x with
  | bot => rw [EReal.mul_bot_of_pos (by norm_num)]; rfl
  | top => rw [EReal.mul_top_of_pos (by norm_num)]; rfl
  | coe r => rw [show (2 : EReal) = ((2 : ℝ) : EReal) from rfl, ← EReal.coe_mul, ← EReal.coe_add, two_mul]

/-- The derivative of a square, written as a product with twice the value and as the sum of the two factors' parts. -/
theorem mul_two_mul (g u : EReal) : g * (2 * u) = g * u + u * g := by
  rw [mul_left_comm, two_mul_eq, mul_comm u g]

/-- The constant two. -/
theorem ofBits_two : Idealize.ShloMosaic.Ideal.ofBits .f32 0x40000000#32 = 2 := by
  rw [show (2 : EReal) = ((2 : ℝ) : EReal) from rfl]
  simp [Idealize.ShloMosaic.Ideal.ofBits, Idealize.ShloMosaic.Ideal.ieee, -EReal.coe_mul]
  norm_num

end Cert.Sums

end
-- ==== Proof.Mul2.lean ====
/- The gradient of the activation of the feed-forward part. -/
module

public import proofs.«01_k».proof.Proof.Sums
public import proofs.«01_k».proof.Proof.Gen.Kernel2Ideal.Value
public import Idealize.ShloMosaic.Lib.Pointwise
public import Idealize.ShloMosaic.Lib.Claim
public import Idealize.ShloMosaic.Lib.Pipeline.Value

@[expose] public section

set_option maxRecDepth 16384

noncomputable section

namespace Cert.Kernel2Ideal.Value

open Cert.Kernel2Ideal Cert.Kernel2Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .f32 := iblk m c 0 t
/-- Operand 0 as the launch finds it. -/
def A0 : Vec Ideal S4096x1024 .f32 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S4096x1024 .bf16 := m ((c : Thread nD τ).loc main_arg1)
/-- The block of operand 2 at a grid point. -/
def X2 (t : Fin cfg0.N) : Vec Ideal S1024x1024 .f32 := iblk m c 2 t
/-- Operand 2 as the launch finds it. -/
def A2 : Vec Ideal S4096x4096 .f32 := m ((c : Thread nD τ).loc main_arg2)
theorem ix_0 : ∀ t : Fin cfg0.N, win0_0.index t 0 = t.val / 4 ∧ win0_0.index t 1 = 0 := by
  show ∀ t : Fin grid0.N, _
  decide +kernel
theorem ix_1 : ∀ t : Fin cfg0.N, win0_1.index t 0 = t.val % 4 ∧ win0_1.index t 1 = 0 := by
  show ∀ t : Fin grid0.N, _
  decide +kernel
theorem ix_2 : ∀ t : Fin cfg0.N, win0_2.index t 0 = t.val / 4 ∧ win0_2.index t 1 = t.val % 4 := by
  show ∀ t : Fin grid0.N, _
  decide +kernel
theorem ix_3 : ∀ t : Fin cfg0.N, win0_3.index t 0 = t.val / 4 ∧ win0_3.index t 1 = t.val % 4 := by
  show ∀ t : Fin grid0.N, _
  decide +kernel
/-- The block of operand 0 read in the operand. -/
theorem blk_0 (t : Fin cfg0.N) (p : Fin 1024) (q : Fin 1024) (i : Fin 4096) (j : Fin 1024)
    (hi : i.val = (t.val / 4) * 1024 + p.val) (hj : j.val = (0) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 4096) (j : Fin 1024)
    (hi : i.val = (t.val % 4) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- The block of operand 2 read in the operand. -/
theorem blk_2 (t : Fin cfg0.N) (p : Fin 1024) (q : Fin 1024) (i : Fin 4096) (j : Fin 4096)
    (hi : i.val = (t.val / 4) * 1024 + p.val) (hj : j.val = (t.val % 4) * 1024 + q.val) : X2 m c t (ix2 p q) = A2 m c (ix2 i j) := by
  have h := ix_2 t
  unfold X2 A2 iblk
  rw [View.read_apply]
  show V m c main_arg2 _ = _
  rw [V_main_arg2]
  congr 1
  funext a
  apply Fin.ext
  match a with
  | ⟨0, _⟩ => show win0_2.index t 0 * 1024 + 1 * p.val = i.val; rw [h.1, hi]; omega
  | ⟨1, _⟩ => show win0_2.index t 1 * 1024 + 1 * q.val = j.val; rw [h.2, hj]; omega
/-- One product of two blocks, added to what was there. -/
theorem mul_at (z : Vec Ideal S1024x1024 .f32) (x0 : Vec Ideal S1024x1024 .f32) (x1 : Vec Ideal S1024x1024 .bf16) (p : Fin 1024) (q : Fin 1024) :
    k0_pay2 (F := Ideal) z x0 x1 (ix2 p q) = z (ix2 p q) + ∑ e : Fin 1024, x0 (ix2 p e) * x1 (ix2 q e) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x1024 .f32) (b : Vec Ideal S4096x1024 .bf16) (i : Fin 4096) (j : Fin 4096) : EReal :=
  ∑ e : Fin 1024, a (ix2 i e) * b (ix2 j e)
/-- What a grid point leaves in output 0. -/
theorem out_3 (t : Fin cfg0.N) : (outsAt0 m c t) = k0_pay3 (F := Ideal) (k0_pay2 (F := Ideal) (k0_pay1 (F := Ideal)) (X0 m c t) (X1 m c t)) (X2 m c t) := by
  unfold outsAt0
  try dsimp only
  unfold out0_A_3
  rw [View.read_writes_eq_canon]
  on_goal 2 => intro y; apply cover0_A_3
  unfold kernelRun0_A
  dsimp only
  rw [View.canon_unit_zero (S := S1024x1024) hz]
  simp only [View.readAt_eq_ld, (hs0_0 t).read_unread, (hs0_1 t).read_unread, (hs0_2 t).read_unread, View.ld_unit_zero (S := S1024x1024) hz]
  unfold kernelRun0_A.sl.v15
  unfold kernelRun0_A.sl.HS0_2
  rw [View.readCov_cons_toLoadRect]
  simp only [View.readAt_eq_ld, (hs0_0 t).read_unread, (hs0_1 t).read_unread, (hs0_2 t).read_unread, View.ld_unit_zero (S := S1024x1024) hz]
  unfold kernelRun0_A.sl.v3 kernelRun0_A.sl.HS0_1
  rw [View.readCov_unit_zero (S := S1024x1024) _ hz]
  rfl
/-- The product of the blocks at a grid point, read in the operands. -/
theorem acc (t : Fin cfg0.N) (p : Fin 1024) (q : Fin 1024) (i : Fin 4096) (j : Fin 4096) (hi : i.val = (t.val / 4) * 1024 + p.val) (hj : j.val = (t.val % 4) * 1024 + q.val) :
    k0_pay2 (F := Ideal) (k0_pay1 (F := Ideal)) (X0 m c t) (X1 m c t) (ix2 p q) = prod (A0 m c) (A1 m c) i j := by
  rw [mul_at, zero_at, zero_add]
  refine Finset.sum_congr rfl fun e _ => ?_
  congr 1
  · exact blk_0 m c t _ _ _ _ (by first | omega | (dsimp only; omega)) (by first | omega | (dsimp only; omega))
  · exact blk_1 m c t _ _ _ _ (by first | omega | (dsimp only; omega)) (by first | omega | (dsimp only; omega))
/-- The product times twice the saved activation. -/
theorem epi_at (v x : Vec Ideal S1024x1024 .f32) (p q : Fin 1024) : k0_pay3 (F := Ideal) v x (ix2 p q) = v (ix2 p q) * (2 * x (ix2 p q)) := by
  pointwise [k0_pay3]
  rw [ofBits_two]
/-- Result 0 as an array of the operands. -/
def res_3 (a : Vec Ideal S4096x1024 .f32) (b : Vec Ideal S4096x1024 .bf16) (c : Vec Ideal S4096x4096 .f32) : Vec Ideal S4096x4096 .bf16 := fun x => prod a b (x 0) (x 1) * (2 * c (ix2 (x 0) (x 1)))
/-- A grid point's block of result 0. -/
theorem val_3 (t : Fin cfg0.N) (p : Fin 1024) (q : Fin 1024) (i : Fin 4096) (j : Fin 4096) (hi : i.val = (t.val / 4) * 1024 + p.val) (hj : j.val = (t.val % 4) * 1024 + q.val) :
    (outsAt0 m c t) (ix2 p q) = res_3 (A0 m c) (A1 m c) (A2 m c) (ix2 i j) := by
  rw [out_3 m c t]
  rw [epi_at, acc m c t p q i j hi hj, blk_2 m c t p q i j hi hj]
  rfl
/-- Result 0 after the run. -/
theorem arr_3 : ((dats m 0 c).arrAt 3 cfg0.N : Vec Ideal S4096x4096 .bf16) = res_3 (A0 m c) (A1 m c) (A2 m c) := by
  refine (dats m 0 c).arrAt_eq_of_cover 3 (res_3 (A0 m c) (A1 m c) (A2 m c)) (fun t hf => ?_) fun i => ?_
  · rw [flushed3]
    funext y
    have h := ix_3 t
    have hy0 : (y 0).val < 1024 := (y 0).isLt
    have hy1 : (y 1).val < 1024 := (y 1).isLt
    have hN : t.val < 16 := lt_of_lt_of_eq t.isLt (show cfg0.N = 16 from N_0)
    have e : ((cfg0.win 3).blk t).view.emb y = (ix2 ⟨(t.val / 4) * 1024 + (y 0).val, by omega⟩ ⟨(t.val % 4) * 1024 + (y 1).val, by omega⟩ : S4096x4096.Idx) := by
      funext a
      apply Fin.ext
      match a with
      | ⟨0, _⟩ => show win0_3.index t 0 * 1024 + 1 * (y 0).val = (t.val / 4) * 1024 + (y 0).val; rw [h.1]; omega
      | ⟨1, _⟩ => show win0_3.index t 1 * 1024 + 1 * (y 1).val = (t.val % 4) * 1024 + (y 1).val; rw [h.2]; omega
    have ex : (cfg0.win 3).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t) ((cfg0.win 3).xinj (grid0.coords t) y) = res_3 (A0 m c) (A1 m c) (A2 m c) (((cfg0.win 3).blk t).view.emb y)
    rw [e, ex]
    exact val_3 m c t _ _ _ _ rfl rfl
  · have h0 : (i 0 : Nat) < 4096 := (i 0).isLt
    have h1 : (i 1 : Nat) < 4096 := (i 1).isLt
    obtain ⟨t, ht⟩ : ∃ t : Fin cfg0.N, t.val = (i 0 : Nat) / 1024 * 4 + (i 1 : Nat) / 1024 :=
      ⟨⟨(i 0 : Nat) / 1024 * 4 + (i 1 : Nat) / 1024, lt_of_lt_of_eq (by omega) (show 16 = cfg0.N from N_0.symm)⟩, rfl⟩
    have h := ix_3 t
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [h.1]; omega
    | ⟨1, _⟩ => show win0_3.index t 1 * 1024 ≤ (i 1 : Nat) ∧ (i 1 : Nat) < win0_3.index t 1 * 1024 + 1024; rw [h.2]; omega

end Cert.Kernel2Ideal.Value

end
-- ==== Proof.Same2.lean ====
/- The gradient of the activation of the feed-forward part. Both programs end with the same arrays over the extended reals. -/
module

public import proofs.«01_k».proof.Defs
public import proofs.«01_k».proof.Proof.Mul2
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.Claim
public import Idealize.ShloMosaic.Adequacy

@[expose] public section

set_option maxRecDepth 16384

noncomputable section

namespace Cert.Reference2Ideal.Value

open Cert.Reference2Ideal Cert.Reference2Ideal.Read Cert.Kernel2Ideal.Value Cert.Sums Idealize.ShloMosaic

/-- The reference's result 0. -/
theorem ref_3 (x0 : (⟨S4096x1024, .f32⟩ : BufTy).Contents (Elt Ideal)) (x1 : (⟨S4096x1024, .bf16⟩ : BufTy).Contents (Elt Ideal)) (x2 : (⟨S4096x4096, .f32⟩ : BufTy).Contents (Elt Ideal)) : val_main_v7 (F := Ideal) x0 x1 x2 = Cert.Kernel2Ideal.Value.res_3 x0 x1 x2 := by
  funext x
  rw [eq_ix2 x]
  pointwise [val_main_v0, val_main_v1, val_main_v2, val_main_v3, val_main_v4, val_main_v5, val_main_v6, val_main_v7, res_3, prod]
  rw [mul_two_mul, add_comm]

end Cert.Reference2Ideal.Value

namespace Cert.Proof

open Idealize.ShloMosaic Idealize.ShloMosaic.StableHlo Idealize.SL.Sem

/-- The frame of this reference: its run leaves the arguments, and it declares no counter. -/
theorem d_act_reference_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The call and its reference end with the same arrays over the extended reals. -/
theorem d_act_same : Cert.algebraic_Kernel2Ideal_Reference2Ideal (hKernel2Ideal := Cert.Kernel2Ideal.Gen.facts) (hReference2Ideal := Cert.Reference2Ideal.Gen.facts) := by
  intro m ρ m' ρ' _ hag
  refine ⟨fun c => (Cert.Kernel2Ideal.Gen.dats m 0 c).arrAt 3 Cert.Kernel2Ideal.cfg0.N,
    Cert.Kernel2Ideal.Value.run_blocks m ρ, ?_⟩
  refine (θ_run Cert.Reference2Ideal.defs _ _).mono ?_ (Cert.Reference2Ideal.Value.run (F := Ideal) m' ρ')
  intro r h c
  obtain ⟨e0, e1, e2⟩ := hag c
  obtain ⟨h0, hk⟩ := h c
  refine ⟨h0.trans ?_, hk⟩
  · rw [Cert.Reference2Ideal.Read.val_main_v7_eq]
    repeat rw [launchContents_devRef]
    rw [e0, e1, e2, Cert.Reference2Ideal.Value.ref_3]
    exact (Cert.Kernel2Ideal.Value.arr_3 m c).symm

end Cert.Proof

end
-- ==== Proof.Mul3.lean ====
/- The gradient of the second weight of the feed-forward part. -/
module

public import proofs.«01_k».proof.Proof.Sums
public import proofs.«01_k».proof.Proof.Gen.Kernel3Ideal.Value
public import Idealize.ShloMosaic.Lib.Pointwise
public import Idealize.ShloMosaic.Lib.Claim
public import Idealize.ShloMosaic.Lib.Pipeline.Value

@[expose] public section

set_option maxRecDepth 16384

noncomputable section

namespace Cert.Kernel3Ideal.Value

open Cert.Kernel3Ideal Cert.Kernel3Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .bf16 := iblk m c 0 t
/-- Operand 0 as the launch finds it. -/
def A0 : Vec Ideal S4096x4096 .bf16 := m ((c : Thread nD τ).loc main_arg0)
/-- The block of operand 1 at a grid point. -/
def X1 (t : Fin cfg0.N) : Vec Ideal S1024x1024 .f32 := iblk m c 1 t
/-- Operand 1 as the launch finds it. -/
def A1 : Vec Ideal S4096x1024 .f32 := m ((c : Thread nD τ).loc main_arg1)
theorem ix_0 : ∀ t : Fin cfg0.N, win0_0.index t 0 = t.val % 4 ∧ win0_0.index t 1 = t.val / 4 := by
  show ∀ t : Fin grid0.N, _
  decide +kernel
theorem ix_1 : ∀ t : Fin cfg0.N, win0_1.index t 0 = t.val % 4 ∧ win0_1.index t 1 = 0 := by
  show ∀ t : Fin grid0.N, _
  decide +kernel
theorem ix_2 : ∀ t : Fin cfg0.N, win0_2.index t 0 = t.val / 4 ∧ win0_2.index t 1 = 0 := by
  show ∀ t : Fin grid0.N, _
  decide +kernel
/-- The block of operand 0 read in the operand. -/
theorem blk_0 (t : Fin cfg0.N) (p : Fin 1024) (q : Fin 1024) (i : Fin 4096) (j : Fin 4096)
    (hi : i.val = (t.val % 4) * 1024 + p.val) (hj : j.val = (t.val / 4) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 4096) (j : Fin 1024)
    (hi : i.val = (t.val % 4) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- One product of two blocks, added to what was there. -/
theorem mul_at (z : Vec Ideal S1024x1024 .f32) (x0 : Vec Ideal S1024x1024 .bf16) (x1 : Vec Ideal S1024x1024 .f32) (p : Fin 1024) (q : Fin 1024) :
    k0_pay2 (F := Ideal) z x0 x1 (ix2 p q) = z (ix2 p q) + ∑ e : Fin 1024, x0 (ix2 e p) * x1 (ix2 e q) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x4096 .bf16) (b : Vec Ideal S4096x1024 .f32) (i : Fin 4096) (j : Fin 1024) : EReal :=
  ∑ e : Fin 4096, a (ix2 e i) * b (ix2 e j)
/-- What a point of case A leaves in the running sum. -/
theorem sc_A (t : Fin cfg0.N) (h0 : t.val % 4 = 0) (h1 : ¬t.val % 4 = 3) :
    (outsAt0 m c t.val t.isLt).2 = k0_pay2 (F := Ideal) (k0_pay1 (F := Ideal)) (X0 m c t) (X1 m c t) := by
  rw [outsAt0_A m c t h0 h1]
  dsimp only
  unfold sout0_A_0
  rw [View.read_writes_eq_canon]
  on_goal 2 => intro y; apply scover0_A_0
  unfold kernelRun0_A
  dsimp only
  rw [View.canon_cons_unit_zero (S := S1024x1024) hz]
  simp only [View.readAt_eq_ld, (hs0_0 t).read_unread, (hs0_1 t).read_unread, View.ld_unit_zero (S := S1024x1024) hz]
  unfold kernelRun0_A.sl.v3 kernelRun0_A.sl.HS0_1
  rw [View.readCov_unit_zero (S := S1024x1024) _ hz]
  rfl
/-- What a point of case B leaves in the running sum. -/
theorem sc_B (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (X0 m c t) (X1 m c t) := by
  rw [outsAt0_B m c t h0 h1]
  dsimp only
  unfold sout0_B_0
  rw [View.read_writes_eq_canon]
  on_goal 2 => intro y; apply scover0_B_0
  unfold kernelRun0_B
  dsimp only
  rw [View.canon_unit_zero (S := S1024x1024) hz]
  simp only [View.readAt_eq_ld, (hs0_0 t).read_unread, (hs0_1 t).read_unread, View.ld_unit_zero (S := S1024x1024) hz]
  refine congrArg (fun z => k0_pay2 (F := Ideal) z (X0 m c t) (X1 m c t)) ?_
  exact Memref.IsWhole.read_unread (Memref.isWhole_whole _) _
/-- What a run's last point leaves in output 0. -/
theorem out_2 (t : Fin cfg0.N) (h0 : ¬t.val % 4 = 0) (h1 : t.val % 4 = 3) :
    (outsAt0 m c t.val t.isLt).1 = (k0_pay2 (F := Ideal) (outsAt0 m c (t.val - 1) (Nat.lt_of_le_of_lt (Nat.sub_le _ _) t.isLt)).2 (X0 m c t) (X1 m c t)) := by
  rw [outsAt0_C m c t h0 h1]
  dsimp only
  unfold out0_C_2
  rw [View.read_writes_eq_canon]
  on_goal 2 => intro y; apply cover0_C_2
  unfold kernelRun0_C
  dsimp only
  rw [View.canon_unit_zero (S := S1024x1024) hz]
  try simp only [View.readAt_eq_ld, (hs0_0 t).read_unread, (hs0_1 t).read_unread, View.ld_unit_zero (S := S1024x1024) hz]
  unfold kernelRun0_C.sl.v15 kernelRun0_C.sl.HS0_1
  rw [View.readCov_unit_zero (S := S1024x1024) _ hz]
  simp only [View.readAt_eq_ld, (hs0_0 t).read_unread, (hs0_1 t).read_unread, View.ld_unit_zero (S := S1024x1024) hz]
  exact congrArg (fun z => (k0_pay2 (F := Ideal) z (X0 m c t) (X1 m c t))) (Memref.IsWhole.read_unread (Memref.isWhole_whole _) _)
/-- One term of the product of the two operands. -/
def term (i : Fin 4096) (j : Fin 1024) (e : Fin 4096) : EReal := A0 m c (ix2 e i) * A1 m c (ix2 e j)
/-- A point's own product, read in the operands. -/
theorem part (t : Fin cfg0.N) (p : Fin 1024) (q : Fin 1024) (i : Fin 4096) (j : Fin 1024) (hi : i.val = (t.val / 4) * 1024 + p.val)
    (hj : j.val = (0) * 1024 + q.val) (k : Fin 4) (hk : k.val = t.val % 4) :
    ∑ e : Fin 1024, X0 m c t (ix2 e p) * X1 m c t (ix2 e q) = ∑ e, term m c i j (at4 k e) := by
  unfold term
  refine Finset.sum_congr rfl fun e _ => ?_
  congr 1
  · exact blk_0 m c t _ _ _ _ (by first | omega | (dsimp only [at4]; omega)) (by first | omega | (dsimp only [at4]; omega))
  · exact blk_1 m c t _ _ _ _ (by first | omega | (dsimp only [at4]; omega)) (by first | omega | (dsimp only [at4]; omega))
/-- The running sum before a run's last point: the first three pieces. -/
theorem before (t : Fin cfg0.N) (h : t.val % 4 = 3) (p : Fin 1024) (q : Fin 1024) (i : Fin 4096) (j : Fin 1024) (hi : i.val = (t.val / 4) * 1024 + p.val)
    (hj : j.val = (0) * 1024 + q.val) :
    k0_pay2 (F := Ideal) (outsAt0 m c (t.val - 1) (Nat.lt_of_le_of_lt (Nat.sub_le _ _) t.isLt)).2 (X0 m c t) (X1 m c t) (ix2 p q) = prod (A0 m c) (A1 m c) i j := by
  have ht : t.val < cfg0.N := t.isLt
  have e1 := sc_B m c ⟨t.val - 1, by omega⟩ (by first | omega | (dsimp only; omega)) (by first | omega | (dsimp only; omega))
  have e2 := sc_B m c ⟨t.val - 1 - 1, by omega⟩ (by first | omega | (dsimp only; omega)) (by first | omega | (dsimp only; omega))
  have e3 := sc_A m c ⟨t.val - 1 - 1 - 1, by omega⟩ (by first | omega | (dsimp only; omega)) (by first | omega | (dsimp only; omega))
  dsimp only at e1 e2 e3
  rw [e1, e2, e3]
  simp only [mul_at, zero_at]
  rw [part m c t p q i j hi hj 3 h.symm, part m c ⟨t.val - 1, _⟩ p q i j (by first | omega | (dsimp only; omega)) (by first | omega | (dsimp only; omega)) 2 (by first | omega | (dsimp only; omega)),
    part m c ⟨t.val - 1 - 1, _⟩ p q i j (by first | omega | (dsimp only; omega)) (by first | omega | (dsimp only; omega)) 1 (by first | omega | (dsimp only; omega)),
    part m c ⟨t.val - 1 - 1 - 1, _⟩ p q i j (by first | omega | (dsimp only; omega)) (by first | omega | (dsimp only; omega)) 0 (by first | omega | (dsimp only; omega)), zero_add]
  exact sum_four (term m c i j)
/-- Result 0 as an array of the operands. -/
def res_2 (a : Vec Ideal S4096x4096 .bf16) (b : Vec Ideal S4096x1024 .f32) : Vec Ideal S4096x1024 .f32 := fun x => prod a b (x 0) (x 1)
/-- A grid point's block of result 0. -/
theorem val_2 (t : Fin cfg0.N) (ht : t.val % 4 = 3) (p : Fin 1024) (q : Fin 1024) (i : Fin 4096) (j : Fin 1024) (hi : i.val = (t.val / 4) * 1024 + p.val) (hj : j.val = (0) * 1024 + q.val) :
    (outsAt0 m c t.val t.isLt).1 (ix2 p q) = res_2 (A0 m c) (A1 m c) (ix2 i j) := by
  rw [out_2 m c t (by omega) ht]
  exact before m c t ht p q i j hi hj
/-- Result 0 after the run. -/
theorem arr_2 : ((dats m 0 c).arrAt 2 cfg0.N : Vec Ideal S4096x1024 .f32) = res_2 (A0 m c) (A1 m c) := by
  refine (dats m 0 c).arrAt_eq_of_cover 2 (res_2 (A0 m c) (A1 m c)) (fun t hf => ?_) fun i => ?_
  · rw [flushed2]
    funext y
    have h := ix_2 t
    have hy0 : (y 0).val < 1024 := (y 0).isLt
    have hy1 : (y 1).val < 1024 := (y 1).isLt
    have hN : t.val < 16 := lt_of_lt_of_eq t.isLt (show cfg0.N = 16 from N_0)
    have e : ((cfg0.win 2).blk t).view.emb y = (ix2 ⟨(t.val / 4) * 1024 + (y 0).val, by omega⟩ ⟨(0) * 1024 + (y 1).val, by omega⟩ : S4096x1024.Idx) := by
      funext a
      apply Fin.ext
      match a with
      | ⟨0, _⟩ => show win0_2.index t 0 * 1024 + 1 * (y 0).val = (t.val / 4) * 1024 + (y 0).val; rw [h.1]; omega
      | ⟨1, _⟩ => show win0_2.index t 1 * 1024 + 1 * (y 1).val = (0) * 1024 + (y 1).val; rw [h.2]; omega
    have ex : (cfg0.win 2).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t.val t.isLt).1 ((cfg0.win 2).xinj (grid0.coords t) y) = res_2 (A0 m c) (A1 m c) (((cfg0.win 2).blk t).view.emb y)
    rw [e, ex]
    exact val_2 m c t ((flush0_2 t).mp hf) _ _ _ _ rfl rfl
  · have h0 : (i 0 : Nat) < 4096 := (i 0).isLt
    have h1 : (i 1 : Nat) < 1024 := (i 1).isLt
    exact (covered_iff2 i).2 (by omega)

end Cert.Kernel3Ideal.Value

end
-- ==== Proof.Same3.lean ====
/- The gradient of the second weight of the feed-forward part. Both programs end with the same arrays over the extended reals. -/
module

public import proofs.«01_k».proof.Defs
public import proofs.«01_k».proof.Proof.Mul3
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.Claim
public import Idealize.ShloMosaic.Adequacy

@[expose] public section

set_option maxRecDepth 16384

noncomputable section

namespace Cert.Reference3Ideal.Value

open Cert.Reference3Ideal Cert.Reference3Ideal.Read Cert.Kernel3Ideal.Value Cert.Sums Idealize.ShloMosaic

/-- The reference's result 0. -/
theorem ref_2 (x0 : (⟨S4096x4096, .bf16⟩ : BufTy).Contents (Elt Ideal)) (x1 : (⟨S4096x1024, .f32⟩ : BufTy).Contents (Elt Ideal)) : val_main_v4 (F := Ideal) x0 x1 = Cert.Kernel3Ideal.Value.res_2 x0 x1 := by
  funext x
  rw [eq_ix2 x]
  pointwise [val_main_cst, val_main_v0, val_main_v1, val_main_v2, val_main_v3, val_main_v4, res_2, prod]
  exact Finset.sum_congr rfl fun e _ => mul_comm _ _

end Cert.Reference3Ideal.Value

namespace Cert.Proof

open Idealize.ShloMosaic Idealize.ShloMosaic.StableHlo Idealize.SL.Sem

/-- The frame of this reference: its run leaves the arguments, and it declares no counter. -/
theorem dw_mlp_down_reference_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The call and its reference end with the same arrays over the extended reals. -/
theorem dw_mlp_down_same : Cert.algebraic_Kernel3Ideal_Reference3Ideal (hKernel3Ideal := Cert.Kernel3Ideal.Gen.facts) (hReference3Ideal := Cert.Reference3Ideal.Gen.facts) := by
  intro m ρ m' ρ' _ hag
  refine ⟨fun c => (Cert.Kernel3Ideal.Gen.dats m 0 c).arrAt 2 Cert.Kernel3Ideal.cfg0.N,
    Cert.Kernel3Ideal.Value.run_blocks m ρ, ?_⟩
  refine (θ_run Cert.Reference3Ideal.defs _ _).mono ?_ (Cert.Reference3Ideal.Value.run (F := Ideal) m' ρ')
  intro r h c
  obtain ⟨e0, e1⟩ := hag c
  obtain ⟨h0, hk⟩ := h c
  refine ⟨h0.trans ?_, hk⟩
  · rw [Cert.Reference3Ideal.Read.val_main_v4_eq]
    repeat rw [launchContents_devRef]
    rw [e0, e1, Cert.Reference3Ideal.Value.ref_2]
    exact (Cert.Kernel3Ideal.Value.arr_2 m c).symm

end Cert.Proof

end
-- ==== Proof.Mul4.lean ====
/- The gradient of the first weight of the feed-forward part. -/
module

public import proofs.«01_k».proof.Proof.Sums
public import proofs.«01_k».proof.Proof.Gen.Kernel4Ideal.Value
public import Idealize.ShloMosaic.Lib.Pointwise
public import Idealize.ShloMosaic.Lib.Claim
public import Idealize.ShloMosaic.Lib.Pipeline.Value

@[expose] public section

set_option maxRecDepth 16384

noncomputable section

namespace Cert.Kernel4Ideal.Value

open Cert.Kernel4Ideal Cert.Kernel4Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .bf16 := iblk m c 0 t
/-- Operand 0 as the launch finds it. -/
def A0 : Vec Ideal S4096x4096 .bf16 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S4096x1024 .bf16 := m ((c : Thread nD τ).loc main_arg1)
theorem ix_0 : ∀ t : Fin cfg0.N, win0_0.index t 0 = t.val % 4 ∧ win0_0.index t 1 = t.val / 4 := by
  show ∀ t : Fin grid0.N, _
  decide +kernel
theorem ix_1 : ∀ t : Fin cfg0.N, win0_1.index t 0 = t.val % 4 ∧ win0_1.index t 1 = 0 := by
  show ∀ t : Fin grid0.N, _
  decide +kernel
theorem ix_2 : ∀ t : Fin cfg0.N, win0_2.index t 0 = t.val / 4 ∧ win0_2.index t 1 = 0 := by
  show ∀ t : Fin grid0.N, _
  decide +kernel
/-- The block of operand 0 read in the operand. -/
theorem blk_0 (t : Fin cfg0.N) (p : Fin 1024) (q : Fin 1024) (i : Fin 4096) (j : Fin 4096)
    (hi : i.val = (t.val % 4) * 1024 + p.val) (hj : j.val = (t.val / 4) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 4096) (j : Fin 1024)
    (hi : i.val = (t.val % 4) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- One product of two blocks, added to what was there. -/
theorem mul_at (z : Vec Ideal S1024x1024 .f32) (x0 : Vec Ideal S1024x1024 .bf16) (x1 : Vec Ideal S1024x1024 .bf16) (p : Fin 1024) (q : Fin 1024) :
    k0_pay2 (F := Ideal) z x0 x1 (ix2 p q) = z (ix2 p q) + ∑ e : Fin 1024, x0 (ix2 e p) * x1 (ix2 e q) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x4096 .bf16) (b : Vec Ideal S4096x1024 .bf16) (i : Fin 4096) (j : Fin 1024) : EReal :=
  ∑ e : Fin 4096, a (ix2 e i) * b (ix2 e j)
/-- What a point of case A leaves in the running sum. -/
theorem sc_A (t : Fin cfg0.N) (h0 : t.val % 4 = 0) (h1 : ¬t.val % 4 = 3) :
    (outsAt0 m c t.val t.isLt).2 = k0_pay2 (F := Ideal) (k0_pay1 (F := Ideal)) (X0 m c t) (X1 m c t) := by
  rw [outsAt0_A m c t h0 h1]
  dsimp only
  unfold sout0_A_0
  rw [View.read_writes_eq_canon]
  on_goal 2 => intro y; apply scover0_A_0
  unfold kernelRun0_A
  dsimp only
  rw [View.canon_cons_unit_zero (S := S1024x1024) hz]
  simp only [View.readAt_eq_ld, (hs0_0 t).read_unread, (hs0_1 t).read_unread, View.ld_unit_zero (S := S1024x1024) hz]
  unfold kernelRun0_A.sl.v3 kernelRun0_A.sl.HS0_1
  rw [View.readCov_unit_zero (S := S1024x1024) _ hz]
  rfl
/-- What a point of case B leaves in the running sum. -/
theorem sc_B (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (X0 m c t) (X1 m c t) := by
  rw [outsAt0_B m c t h0 h1]
  dsimp only
  unfold sout0_B_0
  rw [View.read_writes_eq_canon]
  on_goal 2 => intro y; apply scover0_B_0
  unfold kernelRun0_B
  dsimp only
  rw [View.canon_unit_zero (S := S1024x1024) hz]
  simp only [View.readAt_eq_ld, (hs0_0 t).read_unread, (hs0_1 t).read_unread, View.ld_unit_zero (S := S1024x1024) hz]
  refine congrArg (fun z => k0_pay2 (F := Ideal) z (X0 m c t) (X1 m c t)) ?_
  exact Memref.IsWhole.read_unread (Memref.isWhole_whole _) _
/-- What a run's last point leaves in output 0. -/
theorem out_2 (t : Fin cfg0.N) (h0 : ¬t.val % 4 = 0) (h1 : t.val % 4 = 3) :
    (outsAt0 m c t.val t.isLt).1 = (k0_pay2 (F := Ideal) (outsAt0 m c (t.val - 1) (Nat.lt_of_le_of_lt (Nat.sub_le _ _) t.isLt)).2 (X0 m c t) (X1 m c t)) := by
  rw [outsAt0_C m c t h0 h1]
  dsimp only
  unfold out0_C_2
  rw [View.read_writes_eq_canon]
  on_goal 2 => intro y; apply cover0_C_2
  unfold kernelRun0_C
  dsimp only
  rw [View.canon_unit_zero (S := S1024x1024) hz]
  try simp only [View.readAt_eq_ld, (hs0_0 t).read_unread, (hs0_1 t).read_unread, View.ld_unit_zero (S := S1024x1024) hz]
  unfold kernelRun0_C.sl.v14 kernelRun0_C.sl.HS0_1
  rw [View.readCov_unit_zero (S := S1024x1024) _ hz]
  simp only [View.readAt_eq_ld, (hs0_0 t).read_unread, (hs0_1 t).read_unread, View.ld_unit_zero (S := S1024x1024) hz]
  exact congrArg (fun z => (k0_pay2 (F := Ideal) z (X0 m c t) (X1 m c t))) (Memref.IsWhole.read_unread (Memref.isWhole_whole _) _)
/-- One term of the product of the two operands. -/
def term (i : Fin 4096) (j : Fin 1024) (e : Fin 4096) : EReal := A0 m c (ix2 e i) * A1 m c (ix2 e j)
/-- A point's own product, read in the operands. -/
theorem part (t : Fin cfg0.N) (p : Fin 1024) (q : Fin 1024) (i : Fin 4096) (j : Fin 1024) (hi : i.val = (t.val / 4) * 1024 + p.val)
    (hj : j.val = (0) * 1024 + q.val) (k : Fin 4) (hk : k.val = t.val % 4) :
    ∑ e : Fin 1024, X0 m c t (ix2 e p) * X1 m c t (ix2 e q) = ∑ e, term m c i j (at4 k e) := by
  unfold term
  refine Finset.sum_congr rfl fun e _ => ?_
  congr 1
  · exact blk_0 m c t _ _ _ _ (by first | omega | (dsimp only [at4]; omega)) (by first | omega | (dsimp only [at4]; omega))
  · exact blk_1 m c t _ _ _ _ (by first | omega | (dsimp only [at4]; omega)) (by first | omega | (dsimp only [at4]; omega))
/-- The running sum before a run's last point: the first three pieces. -/
theorem before (t : Fin cfg0.N) (h : t.val % 4 = 3) (p : Fin 1024) (q : Fin 1024) (i : Fin 4096) (j : Fin 1024) (hi : i.val = (t.val / 4) * 1024 + p.val)
    (hj : j.val = (0) * 1024 + q.val) :
    k0_pay2 (F := Ideal) (outsAt0 m c (t.val - 1) (Nat.lt_of_le_of_lt (Nat.sub_le _ _) t.isLt)).2 (X0 m c t) (X1 m c t) (ix2 p q) = prod (A0 m c) (A1 m c) i j := by
  have ht : t.val < cfg0.N := t.isLt
  have e1 := sc_B m c ⟨t.val - 1, by omega⟩ (by first | omega | (dsimp only; omega)) (by first | omega | (dsimp only; omega))
  have e2 := sc_B m c ⟨t.val - 1 - 1, by omega⟩ (by first | omega | (dsimp only; omega)) (by first | omega | (dsimp only; omega))
  have e3 := sc_A m c ⟨t.val - 1 - 1 - 1, by omega⟩ (by first | omega | (dsimp only; omega)) (by first | omega | (dsimp only; omega))
  dsimp only at e1 e2 e3
  rw [e1, e2, e3]
  simp only [mul_at, zero_at]
  rw [part m c t p q i j hi hj 3 h.symm, part m c ⟨t.val - 1, _⟩ p q i j (by first | omega | (dsimp only; omega)) (by first | omega | (dsimp only; omega)) 2 (by first | omega | (dsimp only; omega)),
    part m c ⟨t.val - 1 - 1, _⟩ p q i j (by first | omega | (dsimp only; omega)) (by first | omega | (dsimp only; omega)) 1 (by first | omega | (dsimp only; omega)),
    part m c ⟨t.val - 1 - 1 - 1, _⟩ p q i j (by first | omega | (dsimp only; omega)) (by first | omega | (dsimp only; omega)) 0 (by first | omega | (dsimp only; omega)), zero_add]
  exact sum_four (term m c i j)
/-- Result 0 as an array of the operands. -/
def res_2 (a : Vec Ideal S4096x4096 .bf16) (b : Vec Ideal S4096x1024 .bf16) : Vec Ideal S4096x1024 .f32 := fun x => prod a b (x 0) (x 1)
/-- A grid point's block of result 0. -/
theorem val_2 (t : Fin cfg0.N) (ht : t.val % 4 = 3) (p : Fin 1024) (q : Fin 1024) (i : Fin 4096) (j : Fin 1024) (hi : i.val = (t.val / 4) * 1024 + p.val) (hj : j.val = (0) * 1024 + q.val) :
    (outsAt0 m c t.val t.isLt).1 (ix2 p q) = res_2 (A0 m c) (A1 m c) (ix2 i j) := by
  rw [out_2 m c t (by omega) ht]
  exact before m c t ht p q i j hi hj
/-- Result 0 after the run. -/
theorem arr_2 : ((dats m 0 c).arrAt 2 cfg0.N : Vec Ideal S4096x1024 .f32) = res_2 (A0 m c) (A1 m c) := by
  refine (dats m 0 c).arrAt_eq_of_cover 2 (res_2 (A0 m c) (A1 m c)) (fun t hf => ?_) fun i => ?_
  · rw [flushed2]
    funext y
    have h := ix_2 t
    have hy0 : (y 0).val < 1024 := (y 0).isLt
    have hy1 : (y 1).val < 1024 := (y 1).isLt
    have hN : t.val < 16 := lt_of_lt_of_eq t.isLt (show cfg0.N = 16 from N_0)
    have e : ((cfg0.win 2).blk t).view.emb y = (ix2 ⟨(t.val / 4) * 1024 + (y 0).val, by omega⟩ ⟨(0) * 1024 + (y 1).val, by omega⟩ : S4096x1024.Idx) := by
      funext a
      apply Fin.ext
      match a with
      | ⟨0, _⟩ => show win0_2.index t 0 * 1024 + 1 * (y 0).val = (t.val / 4) * 1024 + (y 0).val; rw [h.1]; omega
      | ⟨1, _⟩ => show win0_2.index t 1 * 1024 + 1 * (y 1).val = (0) * 1024 + (y 1).val; rw [h.2]; omega
    have ex : (cfg0.win 2).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t.val t.isLt).1 ((cfg0.win 2).xinj (grid0.coords t) y) = res_2 (A0 m c) (A1 m c) (((cfg0.win 2).blk t).view.emb y)
    rw [e, ex]
    exact val_2 m c t ((flush0_2 t).mp hf) _ _ _ _ rfl rfl
  · have h0 : (i 0 : Nat) < 4096 := (i 0).isLt
    have h1 : (i 1 : Nat) < 1024 := (i 1).isLt
    exact (covered_iff2 i).2 (by omega)

end Cert.Kernel4Ideal.Value

end
-- ==== Proof.Same4.lean ====
/- The gradient of the first weight of the feed-forward part. Both programs end with the same arrays over the extended reals. -/
module

public import proofs.«01_k».proof.Defs
public import proofs.«01_k».proof.Proof.Mul4
public import proofs.«01_k».proof.Proof.Gen.Reference4Ideal
public import proofs.«01_k».proof.Proof.Gen.Reference4Ideal.Run
public import proofs.«01_k».proof.Proof.Gen.Reference4Ideal.Read
public import Idealize.ShloMosaic.Lib.Pointwise
public import Idealize.ShloMosaic.Lib.Claim
public import Idealize.ShloMosaic.Adequacy

@[expose] public section

set_option maxRecDepth 16384

noncomputable section

namespace Cert.Reference4Ideal.Value

open Cert.Reference4Ideal Cert.Reference4Ideal.Read Cert.Kernel4Ideal.Value Cert.Sums Idealize.ShloMosaic

/-- The reference's result 0. -/
theorem ref_2 (x0 : (⟨S4096x4096, .bf16⟩ : BufTy).Contents (Elt Ideal)) (x1 : (⟨S4096x1024, .bf16⟩ : BufTy).Contents (Elt Ideal)) : val_main_v6 (F := Ideal) x0 x1 = Cert.Kernel4Ideal.Value.res_2 x0 x1 := by
  funext x
  rw [eq_ix2 x]
  pointwise [val_main_cst, val_main_v0, val_main_v1, val_main_v2, val_main_v3, val_main_v4, val_main_v5, val_main_v6, res_2, prod]

end Cert.Reference4Ideal.Value

namespace Cert.Proof

open Idealize.ShloMosaic Idealize.ShloMosaic.StableHlo Idealize.SL.Sem

/-- The frame of this reference: its run leaves the arguments, and it declares no counter. -/
theorem dw_mlp_up_reference_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The call and its reference end with the same arrays over the extended reals. -/
theorem dw_mlp_up_same : Cert.algebraic_Kernel4Ideal_Reference4Ideal (hKernel4Ideal := Cert.Kernel4Ideal.Gen.facts) (hReference4Ideal := Cert.Reference4Ideal.Gen.facts) := by
  intro m ρ m' ρ' _ hag
  refine ⟨fun c => (Cert.Kernel4Ideal.Gen.dats m 0 c).arrAt 2 Cert.Kernel4Ideal.cfg0.N,
    Cert.Kernel4Ideal.Value.run_blocks m ρ, ?_⟩
  refine (θ_run Cert.Reference4Ideal.defs _ _).mono ?_ (Cert.Reference4Ideal.Value.run (F := Ideal) m' ρ')
  intro r h c
  obtain ⟨e0, e1⟩ := hag c
  obtain ⟨h0, hk⟩ := h c
  refine ⟨h0.trans ?_, hk⟩
  · rw [Cert.Reference4Ideal.Read.val_main_v6_eq]
    repeat rw [launchContents_devRef]
    rw [e0, e1, Cert.Reference4Ideal.Value.ref_2]
    exact (Cert.Kernel4Ideal.Value.arr_2 m c).symm

end Cert.Proof

end
-- ==== Proof.Mul5.lean ====
/- The gradient of the normalised input of the feed-forward part. -/
module

public import proofs.«01_k».proof.Proof.Sums
public import proofs.«01_k».proof.Proof.Gen.Kernel5Ideal.Value
public import Idealize.ShloMosaic.Lib.Pointwise
public import Idealize.ShloMosaic.Lib.Claim
public import Idealize.ShloMosaic.Lib.Pipeline.Value

@[expose] public section

set_option maxRecDepth 16384

noncomputable section

namespace Cert.Kernel5Ideal.Value

open Cert.Kernel5Ideal Cert.Kernel5Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .bf16 := iblk m c 0 t
/-- Operand 0 as the launch finds it. -/
def A0 : Vec Ideal S4096x4096 .bf16 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S4096x1024 .bf16 := m ((c : Thread nD τ).loc main_arg1)
theorem ix_0 : ∀ t : Fin cfg0.N, win0_0.index t 0 = t.val / 4 ∧ win0_0.index t 1 = t.val % 4 := by
  show ∀ t : Fin grid0.N, _
  decide +kernel
theorem ix_1 : ∀ t : Fin cfg0.N, win0_1.index t 0 = t.val % 4 ∧ win0_1.index t 1 = 0 := by
  show ∀ t : Fin grid0.N, _
  decide +kernel
theorem ix_2 : ∀ t : Fin cfg0.N, win0_2.index t 0 = t.val / 4 ∧ win0_2.index t 1 = 0 := by
  show ∀ t : Fin grid0.N, _
  decide +kernel
/-- The block of operand 0 read in the operand. -/
theorem blk_0 (t : Fin cfg0.N) (p : Fin 1024) (q : Fin 1024) (i : Fin 4096) (j : Fin 4096)
    (hi : i.val = (t.val / 4) * 1024 + p.val) (hj : j.val = (t.val % 4) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 4096) (j : Fin 1024)
    (hi : i.val = (t.val % 4) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- One product of two blocks, added to what was there. -/
theorem mul_at (z : Vec Ideal S1024x1024 .f32) (x0 : Vec Ideal S1024x1024 .bf16) (x1 : Vec Ideal S1024x1024 .bf16) (p : Fin 1024) (q : Fin 1024) :
    k0_pay2 (F := Ideal) z x0 x1 (ix2 p q) = z (ix2 p q) + ∑ e : Fin 1024, x0 (ix2 p e) * x1 (ix2 e q) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x4096 .bf16) (b : Vec Ideal S4096x1024 .bf16) (i : Fin 4096) (j : Fin 1024) : EReal :=
  ∑ e : Fin 4096, a (ix2 i e) * b (ix2 e j)
/-- What a point of case A leaves in the running sum. -/
theorem sc_A (t : Fin cfg0.N) (h0 : t.val % 4 = 0) (h1 : ¬t.val % 4 = 3) :
    (outsAt0 m c t.val t.isLt).2 = k0_pay2 (F := Ideal) (k0_pay1 (F := Ideal)) (X0 m c t) (X1 m c t) := by
  rw [outsAt0_A m c t h0 h1]
  dsimp only
  unfold sout0_A_0
  rw [View.read_writes_eq_canon]
  on_goal 2 => intro y; apply scover0_A_0
  unfold kernelRun0_A
  dsimp only
  rw [View.canon_cons_unit_zero (S := S1024x1024) hz]
  simp only [View.readAt_eq_ld, (hs0_0 t).read_unread, (hs0_1 t).read_unread, View.ld_unit_zero (S := S1024x1024) hz]
  unfold kernelRun0_A.sl.v3 kernelRun0_A.sl.HS0_1
  rw [View.readCov_unit_zero (S := S1024x1024) _ hz]
  rfl
/-- What a point of case B leaves in the running sum. -/
theorem sc_B (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (X0 m c t) (X1 m c t) := by
  rw [outsAt0_B m c t h0 h1]
  dsimp only
  unfold sout0_B_0
  rw [View.read_writes_eq_canon]
  on_goal 2 => intro y; apply scover0_B_0
  unfold kernelRun0_B
  dsimp only
  rw [View.canon_unit_zero (S := S1024x1024) hz]
  simp only [View.readAt_eq_ld, (hs0_0 t).read_unread, (hs0_1 t).read_unread, View.ld_unit_zero (S := S1024x1024) hz]
  refine congrArg (fun z => k0_pay2 (F := Ideal) z (X0 m c t) (X1 m c t)) ?_
  exact Memref.IsWhole.read_unread (Memref.isWhole_whole _) _
/-- What a run's last point leaves in output 0. -/
theorem out_2 (t : Fin cfg0.N) (h0 : ¬t.val % 4 = 0) (h1 : t.val % 4 = 3) :
    (outsAt0 m c t.val t.isLt).1 = (k0_pay2 (F := Ideal) (outsAt0 m c (t.val - 1) (Nat.lt_of_le_of_lt (Nat.sub_le _ _) t.isLt)).2 (X0 m c t) (X1 m c t)) := by
  rw [outsAt0_C m c t h0 h1]
  dsimp only
  unfold out0_C_2
  rw [View.read_writes_eq_canon]
  on_goal 2 => intro y; apply cover0_C_2
  unfold kernelRun0_C
  dsimp only
  rw [View.canon_unit_zero (S := S1024x1024) hz]
  try simp only [View.readAt_eq_ld, (hs0_0 t).read_unread, (hs0_1 t).read_unread, View.ld_unit_zero (S := S1024x1024) hz]
  unfold kernelRun0_C.sl.v14 kernelRun0_C.sl.HS0_1
  rw [View.readCov_unit_zero (S := S1024x1024) _ hz]
  simp only [View.readAt_eq_ld, (hs0_0 t).read_unread, (hs0_1 t).read_unread, View.ld_unit_zero (S := S1024x1024) hz]
  exact congrArg (fun z => (k0_pay2 (F := Ideal) z (X0 m c t) (X1 m c t))) (Memref.IsWhole.read_unread (Memref.isWhole_whole _) _)
/-- One term of the product of the two operands. -/
def term (i : Fin 4096) (j : Fin 1024) (e : Fin 4096) : EReal := A0 m c (ix2 i e) * A1 m c (ix2 e j)
/-- A point's own product, read in the operands. -/
theorem part (t : Fin cfg0.N) (p : Fin 1024) (q : Fin 1024) (i : Fin 4096) (j : Fin 1024) (hi : i.val = (t.val / 4) * 1024 + p.val)
    (hj : j.val = (0) * 1024 + q.val) (k : Fin 4) (hk : k.val = t.val % 4) :
    ∑ e : Fin 1024, X0 m c t (ix2 p e) * X1 m c t (ix2 e q) = ∑ e, term m c i j (at4 k e) := by
  unfold term
  refine Finset.sum_congr rfl fun e _ => ?_
  congr 1
  · exact blk_0 m c t _ _ _ _ (by first | omega | (dsimp only [at4]; omega)) (by first | omega | (dsimp only [at4]; omega))
  · exact blk_1 m c t _ _ _ _ (by first | omega | (dsimp only [at4]; omega)) (by first | omega | (dsimp only [at4]; omega))
/-- The running sum before a run's last point: the first three pieces. -/
theorem before (t : Fin cfg0.N) (h : t.val % 4 = 3) (p : Fin 1024) (q : Fin 1024) (i : Fin 4096) (j : Fin 1024) (hi : i.val = (t.val / 4) * 1024 + p.val)
    (hj : j.val = (0) * 1024 + q.val) :
    k0_pay2 (F := Ideal) (outsAt0 m c (t.val - 1) (Nat.lt_of_le_of_lt (Nat.sub_le _ _) t.isLt)).2 (X0 m c t) (X1 m c t) (ix2 p q) = prod (A0 m c) (A1 m c) i j := by
  have ht : t.val < cfg0.N := t.isLt
  have e1 := sc_B m c ⟨t.val - 1, by omega⟩ (by first | omega | (dsimp only; omega)) (by first | omega | (dsimp only; omega))
  have e2 := sc_B m c ⟨t.val - 1 - 1, by omega⟩ (by first | omega | (dsimp only; omega)) (by first | omega | (dsimp only; omega))
  have e3 := sc_A m c ⟨t.val - 1 - 1 - 1, by omega⟩ (by first | omega | (dsimp only; omega)) (by first | omega | (dsimp only; omega))
  dsimp only at e1 e2 e3
  rw [e1, e2, e3]
  simp only [mul_at, zero_at]
  rw [part m c t p q i j hi hj 3 h.symm, part m c ⟨t.val - 1, _⟩ p q i j (by first | omega | (dsimp only; omega)) (by first | omega | (dsimp only; omega)) 2 (by first | omega | (dsimp only; omega)),
    part m c ⟨t.val - 1 - 1, _⟩ p q i j (by first | omega | (dsimp only; omega)) (by first | omega | (dsimp only; omega)) 1 (by first | omega | (dsimp only; omega)),
    part m c ⟨t.val - 1 - 1 - 1, _⟩ p q i j (by first | omega | (dsimp only; omega)) (by first | omega | (dsimp only; omega)) 0 (by first | omega | (dsimp only; omega)), zero_add]
  exact sum_four (term m c i j)
/-- Result 0 as an array of the operands. -/
def res_2 (a : Vec Ideal S4096x4096 .bf16) (b : Vec Ideal S4096x1024 .bf16) : Vec Ideal S4096x1024 .f32 := fun x => prod a b (x 0) (x 1)
/-- A grid point's block of result 0. -/
theorem val_2 (t : Fin cfg0.N) (ht : t.val % 4 = 3) (p : Fin 1024) (q : Fin 1024) (i : Fin 4096) (j : Fin 1024) (hi : i.val = (t.val / 4) * 1024 + p.val) (hj : j.val = (0) * 1024 + q.val) :
    (outsAt0 m c t.val t.isLt).1 (ix2 p q) = res_2 (A0 m c) (A1 m c) (ix2 i j) := by
  rw [out_2 m c t (by omega) ht]
  exact before m c t ht p q i j hi hj
/-- Result 0 after the run. -/
theorem arr_2 : ((dats m 0 c).arrAt 2 cfg0.N : Vec Ideal S4096x1024 .f32) = res_2 (A0 m c) (A1 m c) := by
  refine (dats m 0 c).arrAt_eq_of_cover 2 (res_2 (A0 m c) (A1 m c)) (fun t hf => ?_) fun i => ?_
  · rw [flushed2]
    funext y
    have h := ix_2 t
    have hy0 : (y 0).val < 1024 := (y 0).isLt
    have hy1 : (y 1).val < 1024 := (y 1).isLt
    have hN : t.val < 16 := lt_of_lt_of_eq t.isLt (show cfg0.N = 16 from N_0)
    have e : ((cfg0.win 2).blk t).view.emb y = (ix2 ⟨(t.val / 4) * 1024 + (y 0).val, by omega⟩ ⟨(0) * 1024 + (y 1).val, by omega⟩ : S4096x1024.Idx) := by
      funext a
      apply Fin.ext
      match a with
      | ⟨0, _⟩ => show win0_2.index t 0 * 1024 + 1 * (y 0).val = (t.val / 4) * 1024 + (y 0).val; rw [h.1]; omega
      | ⟨1, _⟩ => show win0_2.index t 1 * 1024 + 1 * (y 1).val = (0) * 1024 + (y 1).val; rw [h.2]; omega
    have ex : (cfg0.win 2).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t.val t.isLt).1 ((cfg0.win 2).xinj (grid0.coords t) y) = res_2 (A0 m c) (A1 m c) (((cfg0.win 2).blk t).view.emb y)
    rw [e, ex]
    exact val_2 m c t ((flush0_2 t).mp hf) _ _ _ _ rfl rfl
  · have h0 : (i 0 : Nat) < 4096 := (i 0).isLt
    have h1 : (i 1 : Nat) < 1024 := (i 1).isLt
    exact (covered_iff2 i).2 (by omega)

end Cert.Kernel5Ideal.Value

end
-- ==== Proof.Same5.lean ====
/- The gradient of the normalised input of the feed-forward part. Both programs end with the same arrays over the extended reals. -/
module

public import proofs.«01_k».proof.Defs
public import proofs.«01_k».proof.Proof.Mul5
public import proofs.«01_k».proof.Proof.Gen.Reference5Ideal
public import proofs.«01_k».proof.Proof.Gen.Reference5Ideal.Run
public import proofs.«01_k».proof.Proof.Gen.Reference5Ideal.Read
public import Idealize.ShloMosaic.Lib.Pointwise
public import Idealize.ShloMosaic.Lib.Claim
public import Idealize.ShloMosaic.Adequacy

@[expose] public section

set_option maxRecDepth 16384

noncomputable section

namespace Cert.Reference5Ideal.Value

open Cert.Reference5Ideal Cert.Reference5Ideal.Read Cert.Kernel5Ideal.Value Cert.Sums Idealize.ShloMosaic

/-- The reference's result 0. -/
theorem ref_2 (x0 : (⟨S4096x4096, .bf16⟩ : BufTy).Contents (Elt Ideal)) (x1 : (⟨S4096x1024, .bf16⟩ : BufTy).Contents (Elt Ideal)) : val_main_v5 (F := Ideal) x0 x1 = Cert.Kernel5Ideal.Value.res_2 x0 x1 := by
  funext x
  rw [eq_ix2 x]
  pointwise [val_main_cst, val_main_v0, val_main_v1, val_main_v2, val_main_v3, val_main_v4, val_main_v5, res_2, prod]

end Cert.Reference5Ideal.Value

namespace Cert.Proof

open Idealize.ShloMosaic Idealize.ShloMosaic.StableHlo Idealize.SL.Sem

/-- The frame of this reference: its run leaves the arguments, and it declares no counter. -/
theorem d_hn2_reference_frame : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The call and its reference end with the same arrays over the extended reals. -/
theorem d_hn2_same : Cert.algebraic_Kernel5Ideal_Reference5Ideal (hKernel5Ideal := Cert.Kernel5Ideal.Gen.facts) (hReference5Ideal := Cert.Reference5Ideal.Gen.facts) := by
  intro m ρ m' ρ' _ hag
  refine ⟨fun c => (Cert.Kernel5Ideal.Gen.dats m 0 c).arrAt 2 Cert.Kernel5Ideal.cfg0.N,
    Cert.Kernel5Ideal.Value.run_blocks m ρ, ?_⟩
  refine (θ_run Cert.Reference5Ideal.defs _ _).mono ?_ (Cert.Reference5Ideal.Value.run (F := Ideal) m' ρ')
  intro r h c
  obtain ⟨e0, e1⟩ := hag c
  obtain ⟨h0, hk⟩ := h c
  refine ⟨h0.trans ?_, hk⟩
  · rw [Cert.Reference5Ideal.Read.val_main_v5_eq]
    repeat rw [launchContents_devRef]
    rw [e0, e1, Cert.Reference5Ideal.Value.ref_2]
    exact (Cert.Kernel5Ideal.Value.arr_2 m c).symm

end Cert.Proof

end
-- ==== Proof.Mul6.lean ====
/- The first product of the mixing part, its weight reordered. -/
module

public import proofs.«01_k».proof.Proof.Sums
public import proofs.«01_k».proof.Proof.Gen.Kernel6Ideal.Value
public import Idealize.ShloMosaic.Lib.Pointwise
public import Idealize.ShloMosaic.Lib.Claim
public import Idealize.ShloMosaic.Lib.Pipeline.Value

@[expose] public section

set_option maxRecDepth 16384

noncomputable section

namespace Cert.Kernel6Ideal.Value

open Cert.Kernel6Ideal Cert.Kernel6Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The weight's rows in the order the call reads them, and the rows of zeros that fill its last tile. -/
def reord (w : Vec Ideal S10256x1024 .bf16) : Vec Ideal S10368x1024 .bf16 :=
  concatenate S10368x1024 0 [⟨S4096x1024, (extractStridedSlice S4096x1024 ![0, 0] w slices_S10256x1024_S4096x1024_0_0 : Vec Ideal S4096x1024 .bf16)⟩, ⟨S2048x1024, (extractStridedSlice S2048x1024 ![5120, 0] w slices_S10256x1024_S2048x1024_5120_0 : Vec Ideal S2048x1024 .bf16)⟩, ⟨S3072x1024, (extractStridedSlice S3072x1024 ![7184, 0] w slices_S10256x1024_S3072x1024_7184_0 : Vec Ideal S3072x1024 .bf16)⟩, ⟨S1024x1024, (extractStridedSlice S1024x1024 ![4096, 0] w slices_S10256x1024_S1024x1024_4096_0 : Vec Ideal S1024x1024 .bf16)⟩, ⟨S16x1024, (extractStridedSlice S16x1024 ![7168, 0] w slices_S10256x1024_S16x1024_7168_0 : Vec Ideal S16x1024 .bf16)⟩, ⟨S112x1024, (broadcastInDim S112x1024 ![] bcast_S_S112x1024 (constant (F := Ideal) S_ .bf16 0x0000#16) : Vec Ideal S112x1024 .bf16)⟩] concatenates_S4096x1024_S2048x1024_S3072x1024_S1024x1024_S16x1024_S112x1024_S10368x1024_d0
/-- The launch orders the weight's rows. -/
theorem V_reord : V m c main_v6 = reord (m ((c : Thread nD τ).loc main_arg1)) := by
  unfold reord
  show StableHlo.after hostOps0 _ (Proc.devRef .tc main_v6) = _
  after_results
  rfl
/-- The block of operand 0 at a grid point. -/
def X0 (t : Fin cfg0.N) : Vec Ideal S2048x1024 .bf16 := iblk m c 0 t
/-- Operand 0 as the launch finds it. -/
def A0 : Vec Ideal S4096x1024 .bf16 := m ((c : Thread nD τ).loc main_arg0)
/-- The block of operand 1 at a grid point. -/
def X1 (t : Fin cfg0.N) : Vec Ideal S1152x1024 .bf16 := iblk m c 1 t
/-- Operand 1 as the launch finds it. -/
def A1 : Vec Ideal S10368x1024 .bf16 := reord (m ((c : Thread nD τ).loc main_arg1))
theorem ix_0 : ∀ t : Fin cfg0.N, win0_0.index t 0 = t.val / 9 ∧ win0_0.index t 1 = 0 := by
  show ∀ t : Fin grid0.N, _
  decide +kernel
theorem ix_1 : ∀ t : Fin cfg0.N, win0_1.index t 0 = t.val % 9 ∧ win0_1.index t 1 = 0 := by
  show ∀ t : Fin grid0.N, _
  decide +kernel
theorem ix_2 : ∀ t : Fin cfg0.N, win0_2.index t 0 = t.val / 9 ∧ win0_2.index t 1 = t.val % 9 := by
  show ∀ t : Fin grid0.N, _
  decide +kernel
/-- The block of operand 0 read in the operand. -/
theorem blk_0 (t : Fin cfg0.N) (p : Fin 2048) (q : Fin 1024) (i : Fin 4096) (j : Fin 1024)
    (hi : i.val = (t.val / 9) * 2048 + p.val) (hj : j.val = (0) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 2048 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1152) (q : Fin 1024) (i : Fin 10368) (j : Fin 1024)
    (hi : i.val = (t.val % 9) * 1152 + p.val) (hj : j.val = (0) * 1024 + q.val) : X1 m c t (ix2 p q) = A1 m c (ix2 i j) := by
  have h := ix_1 t
  unfold X1 A1 iblk
  rw [View.read_apply]
  show V m c main_v6 _ = _
  rw [V_reord]
  congr 1
  funext a
  apply Fin.ext
  match a with
  | ⟨0, _⟩ => show win0_1.index t 0 * 1152 + 1 * p.val = i.val; rw [h.1, hi]; omega
  | ⟨1, _⟩ => show win0_1.index t 1 * 1024 + 1 * q.val = j.val; rw [h.2, hj]; omega
/-- One product of two blocks, added to what was there. -/
theorem mul_at (z : Vec Ideal S2048x1152 .f32) (x0 : Vec Ideal S2048x1024 .bf16) (x1 : Vec Ideal S1152x1024 .bf16) (p : Fin 2048) (q : Fin 1152) :
    k0_pay2 (F := Ideal) z x0 x1 (ix2 p q) = z (ix2 p q) + ∑ e : Fin 1024, x0 (ix2 p e) * x1 (ix2 q e) := by
  pointwise [k0_pay2]
/-- The sum starts from zero. -/
theorem zero_at (p : Fin 2048) (q : Fin 1152) : k0_pay1 (F := Ideal) (ix2 p q) = (0 : EReal) := by
  pointwise [k0_pay1]
/-- The product of the two operands at a row and a column. -/
def prod (a : Vec Ideal S4096x1024 .bf16) (b : Vec Ideal S10368x1024 .bf16) (i : Fin 4096) (j : Fin 10368) : EReal :=
  ∑ e : Fin 1024, a (ix2 i e) * b (ix2 j e)
/-- What a grid point leaves in output 0. -/
theorem out_2 (t : Fin cfg0.N) : (outsAt0 m c t) = (k0_pay2 (F := Ideal) (k0_pay1 (F := Ideal)) (X0 m c t) (X1 m c t)) := by
  unfold outsAt0
  try dsimp only
  unfold out0_A_2
  rw [View.read_writes_eq_canon]
  on_goal 2 => intro y; apply cover0_A_2
  unfold kernelRun0_A
  dsimp only
  rw [View.canon_unit_zero (S := S2048x1152) hz]
  try simp only [View.readAt_eq_ld, (hs0_0 t).read_unread, (hs0_1 t).read_unread, View.ld_unit_zero (S := S1152x1024) hz, View.ld_unit_zero (S := S2048x1024) hz, View.ld_unit_zero (S := S2048x1152) hz]
  unfold kernelRun0_A.sl.v15
  unfold kernelRun0_A.sl.HS0_2
  rw [View.readCov_cons_toLoadRect]
  simp only [View.readAt_eq_ld, (hs0_0 t).read_unread, (hs0_1 t).read_unread, View.ld_unit_zero (S := S1152x1024) hz, View.ld_unit_zero (S := S2048x1024) hz, View.ld_unit_zero (S := S2048x1152) hz]
  unfold kernelRun0_A.sl.v3 kernelRun0_A.sl.HS0_1
  rw [View.readCov_unit_zero (S := S2048x1152) _ hz]
  rfl
/-- The product of the blocks at a grid point, read in the operands. -/
theorem acc (t : Fin cfg0.N) (p : Fin 2048) (q : Fin 1152) (i : Fin 4096) (j : Fin 10368) (hi : i.val = (t.val / 9) * 2048 + p.val) (hj : j.val = (t.val % 9) * 1152 + q.val) :
    k0_pay2 (F := Ideal) (k0_pay1 (F := Ideal)) (X0 m c t) (X1 m c t) (ix2 p q) = prod (A0 m c) (A1 m c) i j := by
  rw [mul_at, zero_at, zero_add]
  refine Finset.sum_congr rfl fun e _ => ?_
  congr 1
  · exact blk_0 m c t _ _ _ _ (by first | omega | (dsimp only; omega)) (by first | omega | (dsimp only; omega))
  · exact blk_1 m c t _ _ _ _ (by first | omega | (dsimp only; omega)) (by first | omega | (dsimp only; omega))
/-- Result 0 as an array of the operands. -/
def res_2 (a : Vec Ideal S4096x1024 .bf16) (b : Vec Ideal S10368x1024 .bf16) : Vec Ideal S4096x10368 .f32 := fun x => prod a b (x 0) (x 1)
/-- A grid point's block of result 0. -/
theorem val_2 (t : Fin cfg0.N) (p : Fin 2048) (q : Fin 1152) (i : Fin 4096) (j : Fin 10368) (hi : i.val = (t.val / 9) * 2048 + p.val) (hj : j.val = (t.val % 9) * 1152 + q.val) :
    (outsAt0 m c t) (ix2 p q) = res_2 (A0 m c) (A1 m c) (ix2 i j) := by
  rw [out_2 m c t]
  exact acc m c t p q i j hi hj
/-- Result 0 after the run. -/
theorem arr_2 : ((dats m 0 c).arrAt 2 cfg0.N : Vec Ideal S4096x10368 .f32) = res_2 (A0 m c) (A1 m c) := by
  refine (dats m 0 c).arrAt_eq_of_cover 2 (res_2 (A0 m c) (A1 m c)) (fun t hf => ?_) fun i => ?_
  · rw [flushed2]
    funext y
    have h := ix_2 t
    have hy0 : (y 0).val < 2048 := (y 0).isLt
    have hy1 : (y 1).val < 1152 := (y 1).isLt
    have hN : t.val < 18 := lt_of_lt_of_eq t.isLt (show cfg0.N = 18 from N_0)
    have e : ((cfg0.win 2).blk t).view.emb y = (ix2 ⟨(t.val / 9) * 2048 + (y 0).val, by omega⟩ ⟨(t.val % 9) * 1152 + (y 1).val, by omega⟩ : S4096x10368.Idx) := by
      funext a
      apply Fin.ext
      match a with
      | ⟨0, _⟩ => show win0_2.index t 0 * 2048 + 1 * (y 0).val = (t.val / 9) * 2048 + (y 0).val; rw [h.1]; omega
      | ⟨1, _⟩ => show win0_2.index t 1 * 1152 + 1 * (y 1).val = (t.val % 9) * 1152 + (y 1).val; rw [h.2]; omega
    have ex : (cfg0.win 2).xinj (grid0.coords t) y = (ix2 ⟨(y 0).val, hy0⟩ ⟨(y 1).val, hy1⟩ : S2048x1152.Idx) := by
      funext a
      match a with
      | ⟨0, _⟩ => rfl
      | ⟨1, _⟩ => rfl
    show (outsAt0 m c t) ((cfg0.win 2).xinj (grid0.coords t) y) = res_2 (A0 m c) (A1 m c) (((cfg0.win 2).blk t).view.emb y)
    rw [e, ex]
    exact val_2 m c t _ _ _ _ rfl rfl
  · have h0 : (i 0 : Nat) < 4096 := (i 0).isLt
    have h1 : (i 1 : Nat) < 10368 := (i 1).isLt
    obtain ⟨t, ht⟩ : ∃ t : Fin cfg0.N, t.val = (i 0 : Nat) / 2048 * 9 + (i 1 : Nat) / 1152 :=
      ⟨⟨(i 0 : Nat) / 2048 * 9 + (i 1 : Nat) / 1152, lt_of_lt_of_eq (by omega) (show 18 = cfg0.N from N_0.symm)⟩, rfl⟩
    have h := ix_2 t
    refine ⟨t, flush0_2 t, ?_⟩
    show i ∈ ((View.whole main_v7).slice (win0_2.rect t)).set
    rw [View.set_slice_whole, Rect.mem_set_unit]
    intro a
    match a with
    | ⟨0, _⟩ => show win0_2.index t 0 * 2048 ≤ (i 0 : Nat) ∧ (i 0 : Nat) < win0_2.index t 0 * 2048 + 2048; rw [h.1]; omega
    | ⟨1, _⟩ => show win0_2.index t 1 * 1152 ≤ (i 1 : Nat) ∧ (i 1 : Nat) < win0_2.index t 1 * 1152 + 1152; rw [h.2]; omega

end Cert.Kernel6Ideal.Value

end
-- ==== Proof.Same6.lean ====
/- The first product of the mixing part, its weight reordered. Both programs end with the same arrays over the extended reals. -/
module

public import proofs.«01_k».proof.Defs
public import proofs.«01_k».proof.Proof.Mul6
public import proofs.«01_k».proof.Proof.Gen.Reference6Ideal
public import proofs.«01_k».proof.Proof.Gen.Reference6Ideal.Run
public import proofs.«01_k».proof.Proof.Gen.Reference6Ideal.Read
public import Idealize.ShloMosaic.Lib.Pointwise
public import Idealize.ShloMosaic.Lib.Claim
public import Idealize.ShloMosaic.Adequacy

@[expose] public section

set_option maxRecDepth 16384

noncomputable section

namespace Cert.Reference6Ideal.Value

open Cert.Reference6Ideal Cert.Reference6Ideal.Read Cert.Kernel6Ideal.Value Cert.Sums Idealize.ShloMosaic

/-- The reference's result 0. -/
theorem ref_2 (x0 : (⟨S4096x1024, .bf16⟩ : BufTy).Contents (Elt Ideal)) (x1 : (⟨S10256x1024, .bf16⟩ : BufTy).Contents (Elt Ideal)) : val_main_v11 (F := Ideal) x0 x1 = Cert.Kernel6Ideal.Value.res_2 x0 (Cert.Kernel6Ideal.Value.reord x1) := by
  funext x
  rw [eq_ix2 x]
  pointwise [val_main_v0, val_main_v1, val_main_v2, val_main_v3, val_main_v4, val_main_v5, val_main_v6, val_main_v7, val_main_v8, val_main_v9, val_main_cst, val_main_v10, val_main_v11, res_2, prod, reord]
  have hx : (x 1).val < 10368 := (x 1).isLt
  by_cases h0 : (x 1).val < 2048
  · rw [dif_pos (by omega)]
    refine Finset.sum_congr rfl fun e _ => congrArg (x0 (ix2 (x 0) e) * ·) ?_
    rw [dif_pos (by omega)]
    try exact congrArg (fun z => x1 (ix2 z e)) (Fin.ext (by first | omega | (dsimp only; omega)))
  by_cases h1 : (x 1).val < 4096
  · rw [dif_neg (by omega), dif_pos (by omega)]
    refine Finset.sum_congr rfl fun e _ => congrArg (x0 (ix2 (x 0) e) * ·) ?_
    rw [dif_pos (by omega)]
    try exact congrArg (fun z => x1 (ix2 z e)) (Fin.ext (by first | omega | (dsimp only; omega)))
  by_cases h2 : (x 1).val < 6144
  · rw [dif_neg (by omega), dif_neg (by omega), dif_pos (by omega)]
    refine Finset.sum_congr rfl fun e _ => congrArg (x0 (ix2 (x 0) e) * ·) ?_
    rw [dif_neg (by omega), dif_pos (by omega)]
    try exact congrArg (fun z => x1 (ix2 z e)) (Fin.ext (by first | omega | (dsimp only; omega)))
  by_cases h3 : (x 1).val < 9216
  · rw [dif_neg (by omega), dif_neg (by omega), dif_neg (by omega), dif_pos (by omega)]
    refine Finset.sum_congr rfl fun e _ => congrArg (x0 (ix2 (x 0) e) * ·) ?_
    rw [dif_neg (by omega), dif_neg (by omega), dif_pos (by omega)]
    try exact congrArg (fun z => x1 (ix2 z e)) (Fin.ext (by first | omega | (dsimp only; omega)))
  by_cases h4 : (x 1).val < 10240
  · rw [dif_neg (by omega), dif_neg (by omega), dif_neg (by omega), dif_neg (by omega), dif_pos (by omega)]
    refine Finset.sum_congr rfl fun e _ => congrArg (x0 (ix2 (x 0) e) * ·) ?_
    rw [dif_neg (by omega), dif_neg (by omega), dif_neg (by omega), dif_pos (by omega)]
    try exact congrArg (fun z => x1 (ix2 z e)) (Fin.ext (by first | omega | (dsimp only; omega)))
  by_cases h5 : (x 1).val < 10256
  · rw [dif_neg (by omega), dif_neg (by omega), dif_neg (by omega), dif_neg (by omega), dif_neg (by omega), dif_pos (by omega)]
    refine Finset.sum_congr rfl fun e _ => congrArg (x0 (ix2 (x 0) e) * ·) ?_
    rw [dif_neg (by omega), dif_neg (by omega), dif_neg (by omega), dif_neg (by omega), dif_pos (by omega)]
    try exact congrArg (fun z => x1 (ix2 z e)) (Fin.ext (by first | omega | (dsimp only; omega)))
  rw [dif_neg (by omega), dif_neg (by omega), dif_neg (by omega), dif_neg (by omega), dif_neg (by omega), dif_neg (by omega)]
  refine (Finset.sum_eq_zero fun e _ => ?_).symm
  rw [dif_neg (by omega), dif_neg (by omega), dif_neg (by omega), dif_neg (by omega), dif_neg (by omega), mul_zero]

end Cert.Reference6Ideal.Value

namespace Cert.Proof

open Idealize.ShloMosaic Idealize.ShloMosaic.StableHlo Idealize.SL.Sem

/-- The frame of this reference: its run leaves the arguments, and it declares no counter. -/
theorem in_proj_reference_frame : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The call and its reference end with the same arrays over the extended reals. -/
theorem in_proj_same : Cert.algebraic_Kernel6Ideal_Reference6Ideal (hKernel6Ideal := Cert.Kernel6Ideal.Gen.facts) (hReference6Ideal := Cert.Reference6Ideal.Gen.facts) := by
  intro m ρ m' ρ' _ hag
  refine ⟨fun c => (Cert.Kernel6Ideal.Gen.dats m 0 c).arrAt 2 Cert.Kernel6Ideal.cfg0.N,
    Cert.Kernel6Ideal.Value.run_blocks m ρ, ?_⟩
  refine (θ_run Cert.Reference6Ideal.defs _ _).mono ?_ (Cert.Reference6Ideal.Value.run (F := Ideal) m' ρ')
  intro r h c
  obtain ⟨e0, e1⟩ := hag c
  obtain ⟨h0, hk⟩ := h c
  refine ⟨h0.trans ?_, hk⟩
  · rw [Cert.Reference6Ideal.Read.val_main_v11_eq]
    repeat rw [launchContents_devRef]
    rw [e0, e1, Cert.Reference6Ideal.Value.ref_2]
    exact (Cert.Kernel6Ideal.Value.arr_2 m c).symm

end Cert.Proof

end
-- ==== Proof.Mul7.lean ====
/- The first product of the feed-forward part and its activation. -/
module

public import proofs.«01_k».proof.Proof.Sums
public import proofs.«01_k».proof.Proof.Gen.Kernel7Ideal.Value
public import Idealize.ShloMosaic.Lib.Pointwise
public import Idealize.ShloMosaic.Lib.Claim
public import Idealize.ShloMosaic.Lib.Pipeline.Value

@[expose] public section

set_option maxRecDepth 16384

noncomputable section

namespace Cert.Kernel7Ideal.Value

open Cert.Kernel7Ideal Cert.Kernel7Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S2048x1024 .bf16 := iblk m c 0 t
/-- Operand 0 as the launch finds it. -/
def A0 : Vec Ideal S4096x1024 .bf16 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S4096x1024 .bf16 := m ((c : Thread nD τ).loc main_arg1)
theorem ix_0 : ∀ t : Fin cfg0.N, win0_0.index t 0 = t.val / 4 ∧ win0_0.index t 1 = 0 := by
  show ∀ t : Fin grid0.N, _
  decide +kernel
theorem ix_1 : ∀ t : Fin cfg0.N, win0_1.index t 0 = t.val % 4 ∧ win0_1.index t 1 = 0 := by
  show ∀ t : Fin grid0.N, _
  decide +kernel
theorem ix_2 : ∀ t : Fin cfg0.N, win0_2.index t 0 = t.val / 4 ∧ win0_2.index t 1 = t.val % 4 := by
  show ∀ t : Fin grid0.N, _
  decide +kernel
theorem ix_3 : ∀ t : Fin cfg0.N, win0_3.index t 0 = t.val / 4 ∧ win0_3.index t 1 = t.val % 4 := by
  show ∀ t : Fin grid0.N, _
  decide +kernel
/-- The block of operand 0 read in the operand. -/
theorem blk_0 (t : Fin cfg0.N) (p : Fin 2048) (q : Fin 1024) (i : Fin 4096) (j : Fin 1024)
    (hi : i.val = (t.val / 4) * 2048 + p.val) (hj : j.val = (0) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 2048 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 4096) (j : Fin 1024)
    (hi : i.val = (t.val % 4) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- One product of two blocks, added to what was there. -/
theorem mul_at (z : Vec Ideal S2048x1024 .f32) (x0 : Vec Ideal S2048x1024 .bf16) (x1 : Vec Ideal S1024x1024 .bf16) (p : Fin 2048) (q : Fin 1024) :
    k0_pay2 (F := Ideal) z x0 x1 (ix2 p q) = z (ix2 p q) + ∑ e : Fin 1024, x0 (ix2 p e) * x1 (ix2 q e) := by
  pointwise [k0_pay2]
/-- The sum starts from zero. -/
theorem zero_at (p : Fin 2048) (q : Fin 1024) : k0_pay1 (F := Ideal) (ix2 p q) = (0 : EReal) := by
  pointwise [k0_pay1]
/-- The product of the two operands at a row and a column. -/
def prod (a : Vec Ideal S4096x1024 .bf16) (b : Vec Ideal S4096x1024 .bf16) (i : Fin 4096) (j : Fin 4096) : EReal :=
  ∑ e : Fin 1024, a (ix2 i e) * b (ix2 j e)
/-- What a grid point leaves in output 0. -/
theorem out_2 (t : Fin cfg0.N) : (outsAt0 m c t).1 = k0_pay3 (F := Ideal) (k0_pay2 (F := Ideal) (k0_pay1 (F := Ideal)) (X0 m c t) (X1 m c t)) := by
  unfold outsAt0
  try dsimp only
  unfold out0_A_2
  rw [View.read_writes_eq_canon]
  on_goal 2 => intro y; apply cover0_A_2
  unfold kernelRun0_A
  dsimp only
  rw [View.canon_unit_zero (S := S2048x1024) hz]
  try simp only [View.readAt_eq_ld, (hs0_0 t).read_unread, (hs0_1 t).read_unread, View.ld_unit_zero (S := S1024x1024) hz, View.ld_unit_zero (S := S2048x1024) hz]
  unfold kernelRun0_A.sl.v14
  unfold kernelRun0_A.sl.HS0_2
  rw [View.readCov_cons_toLoadRect]
  simp only [View.readAt_eq_ld, (hs0_0 t).read_unread, (hs0_1 t).read_unread, View.ld_unit_zero (S := S1024x1024) hz, View.ld_unit_zero (S := S2048x1024) hz]
  unfold kernelRun0_A.sl.v3 kernelRun0_A.sl.HS0_1
  rw [View.readCov_unit_zero (S := S2048x1024) _ hz]
  rfl
/-- What a grid point leaves in output 1. -/
theorem out_3 (t : Fin cfg0.N) : (outsAt0 m c t).2 = k0_pay4 (F := Ideal) (k0_pay2 (F := Ideal) (k0_pay1 (F := Ideal)) (X0 m c t) (X1 m c t)) := by
  unfold outsAt0
  try dsimp only
  unfold out0_A_3
  rw [View.read_writes_eq_canon]
  on_goal 2 => intro y; apply cover0_A_3
  unfold kernelRun0_A
  dsimp only
  rw [View.canon_unit_zero (S := S2048x1024) hz]
  try simp only [View.readAt_eq_ld, (hs0_0 t).read_unread, (hs0_1 t).read_unread, View.ld_unit_zero (S := S1024x1024) hz, View.ld_unit_zero (S := S2048x1024) hz]
  unfold kernelRun0_A.sl.v14
  unfold kernelRun0_A.sl.HS0_2
  rw [View.readCov_cons_toLoadRect]
  simp only [View.readAt_eq_ld, (hs0_0 t).read_unread, (hs0_1 t).read_unread, View.ld_unit_zero (S := S1024x1024) hz, View.ld_unit_zero (S := S2048x1024) hz]
  unfold kernelRun0_A.sl.v3 kernelRun0_A.sl.HS0_1
  rw [View.readCov_unit_zero (S := S2048x1024) _ hz]
  rfl
/-- The product of the blocks at a grid point, read in the operands. -/
theorem acc (t : Fin cfg0.N) (p : Fin 2048) (q : Fin 1024) (i : Fin 4096) (j : Fin 4096) (hi : i.val = (t.val / 4) * 2048 + p.val) (hj : j.val = (t.val % 4) * 1024 + q.val) :
    k0_pay2 (F := Ideal) (k0_pay1 (F := Ideal)) (X0 m c t) (X1 m c t) (ix2 p q) = prod (A0 m c) (A1 m c) i j := by
  rw [mul_at, zero_at, zero_add]
  refine Finset.sum_congr rfl fun e _ => ?_
  congr 1
  · exact blk_0 m c t _ _ _ _ (by first | omega | (dsimp only; omega)) (by first | omega | (dsimp only; omega))
  · exact blk_1 m c t _ _ _ _ (by first | omega | (dsimp only; omega)) (by first | omega | (dsimp only; omega))
/-- The positive part. -/
theorem relu_at (v : Vec Ideal S2048x1024 .f32) (p : Fin 2048) (q : Fin 1024) : k0_pay3 (F := Ideal) v (ix2 p q) = max (v (ix2 p q)) 0 := by
  pointwise [k0_pay3]
/-- Result 0 as an array of the operands. -/
def res_2 (a : Vec Ideal S4096x1024 .bf16) (b : Vec Ideal S4096x1024 .bf16) : Vec Ideal S4096x4096 .f32 := fun x => max (prod a b (x 0) (x 1)) 0
/-- A grid point's block of result 0. -/
theorem val_2 (t : Fin cfg0.N) (p : Fin 2048) (q : Fin 1024) (i : Fin 4096) (j : Fin 4096) (hi : i.val = (t.val / 4) * 2048 + p.val) (hj : j.val = (t.val % 4) * 1024 + q.val) :
    (outsAt0 m c t).1 (ix2 p q) = res_2 (A0 m c) (A1 m c) (ix2 i j) := by
  rw [out_2 m c t]
  rw [relu_at, acc m c t p q i j hi hj]
  rfl
/-- Result 0 after the run. -/
theorem arr_2 : ((dats m 0 c).arrAt 2 cfg0.N : Vec Ideal S4096x4096 .f32) = res_2 (A0 m c) (A1 m c) := by
  refine (dats m 0 c).arrAt_eq_of_cover 2 (res_2 (A0 m c) (A1 m c)) (fun t hf => ?_) fun i => ?_
  · rw [flushed2]
    funext y
    have h := ix_2 t
    have hy0 : (y 0).val < 2048 := (y 0).isLt
    have hy1 : (y 1).val < 1024 := (y 1).isLt
    have hN : t.val < 8 := lt_of_lt_of_eq t.isLt (show cfg0.N = 8 from N_0)
    have e : ((cfg0.win 2).blk t).view.emb y = (ix2 ⟨(t.val / 4) * 2048 + (y 0).val, by omega⟩ ⟨(t.val % 4) * 1024 + (y 1).val, by omega⟩ : S4096x4096.Idx) := by
      funext a
      apply Fin.ext
      match a with
      | ⟨0, _⟩ => show win0_2.index t 0 * 2048 + 1 * (y 0).val = (t.val / 4) * 2048 + (y 0).val; rw [h.1]; omega
      | ⟨1, _⟩ => show win0_2.index t 1 * 1024 + 1 * (y 1).val = (t.val % 4) * 1024 + (y 1).val; rw [h.2]; omega
    have ex : (cfg0.win 2).xinj (grid0.coords t) y = (ix2 ⟨(y 0).val, hy0⟩ ⟨(y 1).val, hy1⟩ : S2048x1024.Idx) := by
      funext a
      match a with
      | ⟨0, _⟩ => rfl
      | ⟨1, _⟩ => rfl
    show (outsAt0 m c t).1 ((cfg0.win 2).xinj (grid0.coords t) y) = res_2 (A0 m c) (A1 m c) (((cfg0.win 2).blk t).view.emb y)
    rw [e, ex]
    exact val_2 m c t _ _ _ _ rfl rfl
  · have h0 : (i 0 : Nat) < 4096 := (i 0).isLt
    have h1 : (i 1 : Nat) < 4096 := (i 1).isLt
    obtain ⟨t, ht⟩ : ∃ t : Fin cfg0.N, t.val = (i 0 : Nat) / 2048 * 4 + (i 1 : Nat) / 1024 :=
      ⟨⟨(i 0 : Nat) / 2048 * 4 + (i 1 : Nat) / 1024, lt_of_lt_of_eq (by omega) (show 8 = cfg0.N from N_0.symm)⟩, rfl⟩
    have h := ix_2 t
    refine ⟨t, flush0_2 t, ?_⟩
    show i ∈ ((View.whole main_v0_0).slice (win0_2.rect t)).set
    rw [View.set_slice_whole, Rect.mem_set_unit]
    intro a
    match a with
    | ⟨0, _⟩ => show win0_2.index t 0 * 2048 ≤ (i 0 : Nat) ∧ (i 0 : Nat) < win0_2.index t 0 * 2048 + 2048; rw [h.1]; omega
    | ⟨1, _⟩ => show win0_2.index t 1 * 1024 ≤ (i 1 : Nat) ∧ (i 1 : Nat) < win0_2.index t 1 * 1024 + 1024; rw [h.2]; omega
/-- The positive part's square. -/
theorem sq_at (v : Vec Ideal S2048x1024 .f32) (p : Fin 2048) (q : Fin 1024) : k0_pay4 (F := Ideal) v (ix2 p q) = max (v (ix2 p q)) 0 * max (v (ix2 p q)) 0 := by
  pointwise [k0_pay4, k0_pay3]
/-- Result 1 as an array of the operands. -/
def res_3 (a : Vec Ideal S4096x1024 .bf16) (b : Vec Ideal S4096x1024 .bf16) : Vec Ideal S4096x4096 .bf16 := fun x => max (prod a b (x 0) (x 1)) 0 * max (prod a b (x 0) (x 1)) 0
/-- A grid point's block of result 1. -/
theorem val_3 (t : Fin cfg0.N) (p : Fin 2048) (q : Fin 1024) (i : Fin 4096) (j : Fin 4096) (hi : i.val = (t.val / 4) * 2048 + p.val) (hj : j.val = (t.val % 4) * 1024 + q.val) :
    (outsAt0 m c t).2 (ix2 p q) = res_3 (A0 m c) (A1 m c) (ix2 i j) := by
  rw [out_3 m c t]
  rw [sq_at, acc m c t p q i j hi hj]
  rfl
/-- Result 1 after the run. -/
theorem arr_3 : ((dats m 0 c).arrAt 3 cfg0.N : Vec Ideal S4096x4096 .bf16) = res_3 (A0 m c) (A1 m c) := by
  refine (dats m 0 c).arrAt_eq_of_cover 3 (res_3 (A0 m c) (A1 m c)) (fun t hf => ?_) fun i => ?_
  · rw [flushed3]
    funext y
    have h := ix_3 t
    have hy0 : (y 0).val < 2048 := (y 0).isLt
    have hy1 : (y 1).val < 1024 := (y 1).isLt
    have hN : t.val < 8 := lt_of_lt_of_eq t.isLt (show cfg0.N = 8 from N_0)
    have e : ((cfg0.win 3).blk t).view.emb y = (ix2 ⟨(t.val / 4) * 2048 + (y 0).val, by omega⟩ ⟨(t.val % 4) * 1024 + (y 1).val, by omega⟩ : S4096x4096.Idx) := by
      funext a
      apply Fin.ext
      match a with
      | ⟨0, _⟩ => show win0_3.index t 0 * 2048 + 1 * (y 0).val = (t.val / 4) * 2048 + (y 0).val; rw [h.1]; omega
      | ⟨1, _⟩ => show win0_3.index t 1 * 1024 + 1 * (y 1).val = (t.val % 4) * 1024 + (y 1).val; rw [h.2]; omega
    have ex : (cfg0.win 3).xinj (grid0.coords t) y = (ix2 ⟨(y 0).val, hy0⟩ ⟨(y 1).val, hy1⟩ : S2048x1024.Idx) := by
      funext a
      match a with
      | ⟨0, _⟩ => rfl
      | ⟨1, _⟩ => rfl
    show (outsAt0 m c t).2 ((cfg0.win 3).xinj (grid0.coords t) y) = res_3 (A0 m c) (A1 m c) (((cfg0.win 3).blk t).view.emb y)
    rw [e, ex]
    exact val_3 m c t _ _ _ _ rfl rfl
  · have h0 : (i 0 : Nat) < 4096 := (i 0).isLt
    have h1 : (i 1 : Nat) < 4096 := (i 1).isLt
    obtain ⟨t, ht⟩ : ∃ t : Fin cfg0.N, t.val = (i 0 : Nat) / 2048 * 4 + (i 1 : Nat) / 1024 :=
      ⟨⟨(i 0 : Nat) / 2048 * 4 + (i 1 : Nat) / 1024, lt_of_lt_of_eq (by omega) (show 8 = cfg0.N from N_0.symm)⟩, rfl⟩
    have h := ix_3 t
    refine ⟨t, flush0_3 t, ?_⟩
    show i ∈ ((View.whole main_v0_1).slice (win0_3.rect t)).set
    rw [View.set_slice_whole, Rect.mem_set_unit]
    intro a
    match a with
    | ⟨0, _⟩ => show win0_3.index t 0 * 2048 ≤ (i 0 : Nat) ∧ (i 0 : Nat) < win0_3.index t 0 * 2048 + 2048; rw [h.1]; omega
    | ⟨1, _⟩ => show win0_3.index t 1 * 1024 ≤ (i 1 : Nat) ∧ (i 1 : Nat) < win0_3.index t 1 * 1024 + 1024; rw [h.2]; omega

end Cert.Kernel7Ideal.Value

end
-- ==== Proof.Same7.lean ====
/- The first product of the feed-forward part and its activation. Both programs end with the same arrays over the extended reals. -/
module

public import proofs.«01_k».proof.Defs
public import proofs.«01_k».proof.Proof.Mul7
public import proofs.«01_k».proof.Proof.Gen.Reference7Ideal
public import proofs.«01_k».proof.Proof.Gen.Reference7Ideal.Run
public import proofs.«01_k».proof.Proof.Gen.Reference7Ideal.Read
public import Idealize.ShloMosaic.Lib.Pointwise
public import Idealize.ShloMosaic.Lib.Claim
public import Idealize.ShloMosaic.Adequacy

@[expose] public section

set_option maxRecDepth 16384

noncomputable section

namespace Cert.Reference7Ideal.Value

open Cert.Reference7Ideal Cert.Reference7Ideal.Read Cert.Kernel7Ideal.Value Cert.Sums Idealize.ShloMosaic

/-- The reference's result 0. -/
theorem ref_2 (x0 x1 : (⟨S4096x1024, .bf16⟩ : BufTy).Contents (Elt Ideal)) : val_main_v4 (F := Ideal) x0 x1 = Cert.Kernel7Ideal.Value.res_2 x0 x1 := by
  funext x
  rw [eq_ix2 x]
  pointwise [val_main_v0, val_main_v1, val_main_v2, val_main_v3, val_main_call0_cst, val_main_call0_v0, val_main_v4, val_main_v5, val_main_v6, res_2, prod]
/-- The reference's result 1. -/
theorem ref_3 (x0 x1 : (⟨S4096x1024, .bf16⟩ : BufTy).Contents (Elt Ideal)) : val_main_v6 (F := Ideal) x0 x1 = Cert.Kernel7Ideal.Value.res_3 x0 x1 := by
  funext x
  rw [eq_ix2 x]
  pointwise [val_main_v0, val_main_v1, val_main_v2, val_main_v3, val_main_call0_cst, val_main_call0_v0, val_main_v4, val_main_v5, val_main_v6, res_3, prod]

end Cert.Reference7Ideal.Value

namespace Cert.Proof

open Idealize.ShloMosaic Idealize.ShloMosaic.StableHlo Idealize.SL.Sem

/-- The frame of this reference: its run leaves the arguments, and it declares no counter. -/
theorem mlp_up_reference_frame : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The call and its reference end with the same arrays over the extended reals. -/
theorem mlp_up_same : Cert.algebraic_Kernel7Ideal_Reference7Ideal (hKernel7Ideal := Cert.Kernel7Ideal.Gen.facts) (hReference7Ideal := Cert.Reference7Ideal.Gen.facts) := by
  intro m ρ m' ρ' _ hag
  refine ⟨fun c => (Cert.Kernel7Ideal.Gen.dats m 0 c).arrAt 2 Cert.Kernel7Ideal.cfg0.N, fun c => (Cert.Kernel7Ideal.Gen.dats m 0 c).arrAt 3 Cert.Kernel7Ideal.cfg0.N,
    Cert.Kernel7Ideal.Value.run_blocks m ρ, ?_⟩
  refine (θ_run Cert.Reference7Ideal.defs _ _).mono ?_ (Cert.Reference7Ideal.Value.run (F := Ideal) m' ρ')
  intro r h c
  obtain ⟨e0, e1⟩ := hag c
  obtain ⟨h0, h1, hk⟩ := h c
  refine ⟨h0.trans ?_, h1.trans ?_, hk⟩
  · rw [Cert.Reference7Ideal.Read.val_main_v4_eq]
    repeat rw [launchContents_devRef]
    rw [e0, e1, Cert.Reference7Ideal.Value.ref_2]
    exact (Cert.Kernel7Ideal.Value.arr_2 m c).symm
  · rw [Cert.Reference7Ideal.Read.val_main_v6_eq]
    repeat rw [launchContents_devRef]
    rw [e0, e1, Cert.Reference7Ideal.Value.ref_3]
    exact (Cert.Kernel7Ideal.Value.arr_3 m c).symm

end Cert.Proof

end
-- ==== Proof.Mul8.lean ====
/- The second product of the feed-forward part, its residual and the next norm. -/
module

public import proofs.«01_k».proof.Proof.Sums
public import proofs.«01_k».proof.Proof.Gen.Kernel8Ideal.Value
public import Idealize.ShloMosaic.Lib.Pointwise
public import Idealize.ShloMosaic.Lib.Claim
public import Idealize.ShloMosaic.Lib.Pipeline.Value

@[expose] public section

set_option maxRecDepth 16384

noncomputable section

namespace Cert.Kernel8Ideal.Value

open Cert.Kernel8Ideal Cert.Kernel8Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .bf16 := iblk m c 0 t
/-- Operand 0 as the launch finds it. -/
def A0 : Vec Ideal S4096x4096 .bf16 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S4096x1024 .bf16 := m ((c : Thread nD τ).loc main_arg1)
/-- The block of operand 2 at a grid point. -/
def X2 (t : Fin cfg0.N) : Vec Ideal S1024x1024 .f32 := iblk m c 2 t
/-- Operand 2 as the launch finds it. -/
def A2 : Vec Ideal S4096x1024 .f32 := m ((c : Thread nD τ).loc main_arg2)
/-- Operand 3, one row, as a grid point finds it. -/
def X3 (t : Fin cfg0.N) : Vec Ideal S1x1024 .f32 := iblk m c 3 t
/-- Operand 3 as the call is given it. -/
def A3 : Vec Ideal S1024 .f32 := m ((c : Thread nD τ).loc main_arg3)
/-- The launch's row is the argument laid out. -/
theorem V_row : V m c main_v0 = (shapeCast S1x1024 (A3 m c) shapeCasts_S1024_S1x1024 : Vec Ideal S1x1024 .f32) := by
  unfold A3
  show StableHlo.after hostOps0 _ (Proc.devRef .tc main_v0) = _
  after_results
  rfl
theorem ix_3 : ∀ t : Fin cfg0.N, win0_3.index t 0 = 0 ∧ win0_3.index t 1 = 0 := by
  show ∀ t : Fin grid0.N, _
  decide +kernel
/-- The row read in the argument. -/
theorem blk_3 (t : Fin cfg0.N) (q : Fin 1024) : X3 m c t (ix2 0 q) = A3 m c (ix1 q) := by
  have h := ix_3 t
  unfold X3 iblk
  rw [View.read_apply]
  show V m c main_v0 _ = _
  rw [V_row]
  refine (congrArg (shapeCast S1x1024 (A3 m c) shapeCasts_S1024_S1x1024 : Vec Ideal S1x1024 .f32) (?_ : _ = ix2 0 q)).trans ?_
  · funext a
    apply Fin.ext
    match a with
    | ⟨0, _⟩ => show win0_3.index t 0 * 1 + 1 * 0 = 0; rw [h.1]
    | ⟨1, _⟩ => show win0_3.index t 1 * 1024 + 1 * q.val = q.val; rw [h.2]; omega
  pointwise
theorem ix_0 : ∀ t : Fin cfg0.N, win0_0.index t 0 = t.val / 4 ∧ win0_0.index t 1 = t.val % 4 := by
  show ∀ t : Fin grid0.N, _
  decide +kernel
theorem ix_1 : ∀ t : Fin cfg0.N, win0_1.index t 0 = t.val % 4 ∧ win0_1.index t 1 = 0 := by
  show ∀ t : Fin grid0.N, _
  decide +kernel
theorem ix_2 : ∀ t : Fin cfg0.N, win0_2.index t 0 = t.val / 4 ∧ win0_2.index t 1 = 0 := by
  show ∀ t : Fin grid0.N, _
  decide +kernel
theorem ix_4 : ∀ t : Fin cfg0.N, win0_4.index t 0 = t.val / 4 ∧ win0_4.index t 1 = 0 := by
  show ∀ t : Fin grid0.N, _
  decide +kernel
theorem ix_5 : ∀ t : Fin cfg0.N, win0_5.index t 0 = t.val / 4 ∧ win0_5.index t 1 = 0 := by
  show ∀ t : Fin grid0.N, _
  decide +kernel
/-- The block of operand 0 read in the operand. -/
theorem blk_0 (t : Fin cfg0.N) (p : Fin 1024) (q : Fin 1024) (i : Fin 4096) (j : Fin 4096)
    (hi : i.val = (t.val / 4) * 1024 + p.val) (hj : j.val = (t.val % 4) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 4096) (j : Fin 1024)
    (hi : i.val = (t.val % 4) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- The block of operand 2 read in the operand. -/
theorem blk_2 (t : Fin cfg0.N) (p : Fin 1024) (q : Fin 1024) (i : Fin 4096) (j : Fin 1024)
    (hi : i.val = (t.val / 4) * 1024 + p.val) (hj : j.val = (0) * 1024 + q.val) : X2 m c t (ix2 p q) = A2 m c (ix2 i j) := by
  have h := ix_2 t
  unfold X2 A2 iblk
  rw [View.read_apply]
  show V m c main_arg2 _ = _
  rw [V_main_arg2]
  congr 1
  funext a
  apply Fin.ext
  match a with
  | ⟨0, _⟩ => show win0_2.index t 0 * 1024 + 1 * p.val = i.val; rw [h.1, hi]; omega
  | ⟨1, _⟩ => show win0_2.index t 1 * 1024 + 1 * q.val = j.val; rw [h.2, hj]; omega
/-- One product of two blocks, added to what was there. -/
theorem mul_at (z : Vec Ideal S1024x1024 .f32) (x0 : Vec Ideal S1024x1024 .bf16) (x1 : Vec Ideal S1024x1024 .bf16) (p : Fin 1024) (q : Fin 1024) :
    k0_pay2 (F := Ideal) z x0 x1 (ix2 p q) = z (ix2 p q) + ∑ e : Fin 1024, x0 (ix2 p e) * x1 (ix2 e q) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x4096 .bf16) (b : Vec Ideal S4096x1024 .bf16) (i : Fin 4096) (j : Fin 1024) : EReal :=
  ∑ e : Fin 4096, a (ix2 i e) * b (ix2 e j)
/-- What a point of case A leaves in the running sum. -/
theorem sc_A (t : Fin cfg0.N) (h0 : t.val % 4 = 0) (h1 : ¬t.val % 4 = 3) :
    (outsAt0 m c t.val t.isLt).2.2 = k0_pay2 (F := Ideal) (k0_pay1 (F := Ideal)) (X0 m c t) (X1 m c t) := by
  rw [outsAt0_A m c t h0 h1]
  dsimp only
  unfold sout0_A_0
  rw [View.read_writes_eq_canon]
  on_goal 2 => intro y; apply scover0_A_0
  unfold kernelRun0_A
  dsimp only
  rw [View.canon_cons_unit_zero (S := S1024x1024) hz]
  simp only [View.readAt_eq_ld, (hs0_0 t).read_unread, (hs0_1 t).read_unread, (hs0_2 t).read_unread, (hs0_3 t).read_unread, View.ld_unit_zero (S := S1024x1024) hz, View.ld_unit_zero (S := S1x1024) hz]
  unfold kernelRun0_A.sl.v3 kernelRun0_A.sl.HS0_1
  rw [View.readCov_unit_zero (S := S1024x1024) _ hz]
  rfl
/-- What a point of case B leaves in the running sum. -/
theorem sc_B (t : Fin cfg0.N) (h0 : ¬t.val % 4 = 0) (h1 : ¬t.val % 4 = 3) :
    (outsAt0 m c t.val t.isLt).2.2 = k0_pay2 (F := Ideal) (outsAt0 m c (t.val - 1) (Nat.lt_of_le_of_lt (Nat.sub_le _ _) t.isLt)).2.2 (X0 m c t) (X1 m c t) := by
  rw [outsAt0_B m c t h0 h1]
  dsimp only
  unfold sout0_B_0
  rw [View.read_writes_eq_canon]
  on_goal 2 => intro y; apply scover0_B_0
  unfold kernelRun0_B
  dsimp only
  rw [View.canon_unit_zero (S := S1024x1024) hz]
  simp only [View.readAt_eq_ld, (hs0_0 t).read_unread, (hs0_1 t).read_unread, (hs0_2 t).read_unread, (hs0_3 t).read_unread, View.ld_unit_zero (S := S1024x1024) hz, View.ld_unit_zero (S := S1x1024) hz]
  refine congrArg (fun z => k0_pay2 (F := Ideal) z (X0 m c t) (X1 m c t)) ?_
  exact Memref.IsWhole.read_unread (Memref.isWhole_whole _) _
/-- What a run's last point leaves in output 0. -/
theorem out_4 (t : Fin cfg0.N) (h0 : ¬t.val % 4 = 0) (h1 : t.val % 4 = 3) :
    (outsAt0 m c t.val t.isLt).1 = k0_pay3 (F := Ideal) (k0_pay2 (F := Ideal) (outsAt0 m c (t.val - 1) (Nat.lt_of_le_of_lt (Nat.sub_le _ _) t.isLt)).2.2 (X0 m c t) (X1 m c t)) (X2 m c t) := by
  rw [outsAt0_C m c t h0 h1]
  dsimp only
  unfold out0_C_4
  rw [View.read_writes_eq_canon]
  on_goal 2 => intro y; apply cover0_C_4
  unfold kernelRun0_C
  dsimp only
  rw [View.canon_unit_zero (S := S1024x1024) hz]
  try simp only [View.readAt_eq_ld, (hs0_0 t).read_unread, (hs0_1 t).read_unread, (hs0_2 t).read_unread, (hs0_3 t).read_unread, View.ld_unit_zero (S := S1024x1024) hz, View.ld_unit_zero (S := S1x1024) hz]
  unfold kernelRun0_C.sl.v14 kernelRun0_C.sl.HS0_1
  rw [View.readCov_unit_zero (S := S1024x1024) _ hz]
  simp only [View.readAt_eq_ld, (hs0_0 t).read_unread, (hs0_1 t).read_unread, (hs0_2 t).read_unread, (hs0_3 t).read_unread, View.ld_unit_zero (S := S1024x1024) hz, View.ld_unit_zero (S := S1x1024) hz]
  exact congrArg (fun z => k0_pay3 (F := Ideal) (k0_pay2 (F := Ideal) z (X0 m c t) (X1 m c t)) (X2 m c t)) (Memref.IsWhole.read_unread (Memref.isWhole_whole _) _)
/-- What a run's last point leaves in output 1. -/
theorem out_5 (t : Fin cfg0.N) (h0 : ¬t.val % 4 = 0) (h1 : t.val % 4 = 3) :
    (outsAt0 m c t.val t.isLt).2.1 = k0_pay4 (F := Ideal) (k0_pay2 (F := Ideal) (outsAt0 m c (t.val - 1) (Nat.lt_of_le_of_lt (Nat.sub_le _ _) t.isLt)).2.2 (X0 m c t) (X1 m c t)) (X2 m c t) (X3 m c t) := by
  rw [outsAt0_C m c t h0 h1]
  dsimp only
  unfold out0_C_5
  rw [View.read_writes_eq_canon]
  on_goal 2 => intro y; apply cover0_C_5
  unfold kernelRun0_C
  dsimp only
  rw [View.canon_unit_zero (S := S1024x1024) hz]
  try simp only [View.readAt_eq_ld, (hs0_0 t).read_unread, (hs0_1 t).read_unread, (hs0_2 t).read_unread, (hs0_3 t).read_unread, View.ld_unit_zero (S := S1024x1024) hz, View.ld_unit_zero (S := S1x1024) hz]
  unfold kernelRun0_C.sl.v14 kernelRun0_C.sl.HS0_1
  rw [View.readCov_unit_zero (S := S1024x1024) _ hz]
  simp only [View.readAt_eq_ld, (hs0_0 t).read_unread, (hs0_1 t).read_unread, (hs0_2 t).read_unread, (hs0_3 t).read_unread, View.ld_unit_zero (S := S1024x1024) hz, View.ld_unit_zero (S := S1x1024) hz]
  exact congrArg (fun z => k0_pay4 (F := Ideal) (k0_pay2 (F := Ideal) z (X0 m c t) (X1 m c t)) (X2 m c t) (X3 m c t)) (Memref.IsWhole.read_unread (Memref.isWhole_whole _) _)
/-- One term of the product of the two operands. -/
def term (i : Fin 4096) (j : Fin 1024) (e : Fin 4096) : EReal := A0 m c (ix2 i e) * A1 m c (ix2 e j)
/-- A point's own product, read in the operands. -/
theorem part (t : Fin cfg0.N) (p : Fin 1024) (q : Fin 1024) (i : Fin 4096) (j : Fin 1024) (hi : i.val = (t.val / 4) * 1024 + p.val)
    (hj : j.val = (0) * 1024 + q.val) (k : Fin 4) (hk : k.val = t.val % 4) :
    ∑ e : Fin 1024, X0 m c t (ix2 p e) * X1 m c t (ix2 e q) = ∑ e, term m c i j (at4 k e) := by
  unfold term
  refine Finset.sum_congr rfl fun e _ => ?_
  congr 1
  · exact blk_0 m c t _ _ _ _ (by first | omega | (dsimp only [at4]; omega)) (by first | omega | (dsimp only [at4]; omega))
  · exact blk_1 m c t _ _ _ _ (by first | omega | (dsimp only [at4]; omega)) (by first | omega | (dsimp only [at4]; omega))
/-- The running sum before a run's last point: the first three pieces. -/
theorem before (t : Fin cfg0.N) (h : t.val % 4 = 3) (p : Fin 1024) (q : Fin 1024) (i : Fin 4096) (j : Fin 1024) (hi : i.val = (t.val / 4) * 1024 + p.val)
    (hj : j.val = (0) * 1024 + q.val) :
    k0_pay2 (F := Ideal) (outsAt0 m c (t.val - 1) (Nat.lt_of_le_of_lt (Nat.sub_le _ _) t.isLt)).2.2 (X0 m c t) (X1 m c t) (ix2 p q) = prod (A0 m c) (A1 m c) i j := by
  have ht : t.val < cfg0.N := t.isLt
  have e1 := sc_B m c ⟨t.val - 1, by omega⟩ (by first | omega | (dsimp only; omega)) (by first | omega | (dsimp only; omega))
  have e2 := sc_B m c ⟨t.val - 1 - 1, by omega⟩ (by first | omega | (dsimp only; omega)) (by first | omega | (dsimp only; omega))
  have e3 := sc_A m c ⟨t.val - 1 - 1 - 1, by omega⟩ (by first | omega | (dsimp only; omega)) (by first | omega | (dsimp only; omega))
  dsimp only at e1 e2 e3
  rw [e1, e2, e3]
  simp only [mul_at, zero_at]
  rw [part m c t p q i j hi hj 3 h.symm, part m c ⟨t.val - 1, _⟩ p q i j (by first | omega | (dsimp only; omega)) (by first | omega | (dsimp only; omega)) 2 (by first | omega | (dsimp only; omega)),
    part m c ⟨t.val - 1 - 1, _⟩ p q i j (by first | omega | (dsimp only; omega)) (by first | omega | (dsimp only; omega)) 1 (by first | omega | (dsimp only; omega)),
    part m c ⟨t.val - 1 - 1 - 1, _⟩ p q i j (by first | omega | (dsimp only; omega)) (by first | omega | (dsimp only; omega)) 0 (by first | omega | (dsimp only; omega)), zero_add]
  exact sum_four (term m c i j)
/-- The product and the residual. -/
theorem epi_at (v x : Vec Ideal S1024x1024 .f32) (p q : Fin 1024) : k0_pay3 (F := Ideal) v x (ix2 p q) = v (ix2 p q) + x (ix2 p q) := by
  pointwise [k0_pay3]
/-- Result 0 as an array of the operands. -/
def res_4 (a : Vec Ideal S4096x4096 .bf16) (b : Vec Ideal S4096x1024 .bf16) (c : Vec Ideal S4096x1024 .f32) : Vec Ideal S4096x1024 .f32 := fun x => c (ix2 (x 0) (x 1)) + prod a b (x 0) (x 1)
/-- A grid point's block of result 0. -/
theorem val_4 (t : Fin cfg0.N) (ht : t.val % 4 = 3) (p : Fin 1024) (q : Fin 1024) (i : Fin 4096) (j : Fin 1024) (hi : i.val = (t.val / 4) * 1024 + p.val) (hj : j.val = (0) * 1024 + q.val) :
    (outsAt0 m c t.val t.isLt).1 (ix2 p q) = res_4 (A0 m c) (A1 m c) (A2 m c) (ix2 i j) := by
  rw [out_4 m c t (by omega) ht]
  rw [epi_at, before m c t ht p q i j hi hj, blk_2 m c t p q i j hi hj, add_comm]
  rfl
/-- Result 0 after the run. -/
theorem arr_4 : ((dats m 0 c).arrAt 4 cfg0.N : Vec Ideal S4096x1024 .f32) = res_4 (A0 m c) (A1 m c) (A2 m c) := by
  refine (dats m 0 c).arrAt_eq_of_cover 4 (res_4 (A0 m c) (A1 m c) (A2 m c)) (fun t hf => ?_) fun i => ?_
  · rw [flushed4]
    funext y
    have h := ix_4 t
    have hy0 : (y 0).val < 1024 := (y 0).isLt
    have hy1 : (y 1).val < 1024 := (y 1).isLt
    have hN : t.val < 16 := lt_of_lt_of_eq t.isLt (show cfg0.N = 16 from N_0)
    have e : ((cfg0.win 4).blk t).view.emb y = (ix2 ⟨(t.val / 4) * 1024 + (y 0).val, by omega⟩ ⟨(0) * 1024 + (y 1).val, by omega⟩ : S4096x1024.Idx) := by
      funext a
      apply Fin.ext
      match a with
      | ⟨0, _⟩ => show win0_4.index t 0 * 1024 + 1 * (y 0).val = (t.val / 4) * 1024 + (y 0).val; rw [h.1]; omega
      | ⟨1, _⟩ => show win0_4.index t 1 * 1024 + 1 * (y 1).val = (0) * 1024 + (y 1).val; rw [h.2]; omega
    have ex : (cfg0.win 4).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t.val t.isLt).1 ((cfg0.win 4).xinj (grid0.coords t) y) = res_4 (A0 m c) (A1 m c) (A2 m c) (((cfg0.win 4).blk t).view.emb y)
    rw [e, ex]
    exact val_4 m c t ((flush0_4 t).mp hf) _ _ _ _ rfl rfl
  · have h0 : (i 0 : Nat) < 4096 := (i 0).isLt
    have h1 : (i 1 : Nat) < 1024 := (i 1).isLt
    exact (covered_iff4 i).2 (by omega)
/-- A row over its root mean square, each entry times a gain. -/
def rmsn (s g : Fin 1024 → EReal) (j : Fin 1024) : EReal :=
  s j * Ideal.rsqrt (Ideal.div (∑ k, s k * s k) (Ideal.ofBits .f32 0x44800000#32) + Ideal.ofBits .f32 0x358637BD#32) * g j
/-- The normalised sum of the product and the residual. -/
theorem nrm_at (v x : Vec Ideal S1024x1024 .f32) (g : Vec Ideal S1x1024 .f32) (p q : Fin 1024) :
    k0_pay4 (F := Ideal) v x g (ix2 p q) = rmsn (fun k => v (ix2 p k) + x (ix2 p k)) (fun k => g (ix2 0 k)) q := by
  pointwise [k0_pay4, k0_pay3, rmsn]
/-- Result 1 as an array of the operands. -/
def res_5 (a : Vec Ideal S4096x4096 .bf16) (b : Vec Ideal S4096x1024 .bf16) (c : Vec Ideal S4096x1024 .f32) (d : Vec Ideal S1024 .f32) : Vec Ideal S4096x1024 .bf16 := fun x => rmsn (fun k => c (ix2 (x 0) k) + prod a b (x 0) k) (fun k => d (ix1 k)) (x 1)
/-- A grid point's block of result 1. -/
theorem val_5 (t : Fin cfg0.N) (ht : t.val % 4 = 3) (p : Fin 1024) (q : Fin 1024) (i : Fin 4096) (j : Fin 1024) (hi : i.val = (t.val / 4) * 1024 + p.val) (hj : j.val = (0) * 1024 + q.val) :
    (outsAt0 m c t.val t.isLt).2.1 (ix2 p q) = res_5 (A0 m c) (A1 m c) (A2 m c) (A3 m c) (ix2 i j) := by
  rw [out_5 m c t (by omega) ht]
  have ej : j = q := Fin.ext (by omega)
  subst ej
  rw [nrm_at]
  refine congrArg₂ (fun s g => rmsn s g j) (funext fun d => ?_) (funext fun d => blk_3 m c t d)
  rw [before m c t ht p d i d hi (by omega), blk_2 m c t p d i d hi (by omega), add_comm]
  rfl
/-- Result 1 after the run. -/
theorem arr_5 : ((dats m 0 c).arrAt 5 cfg0.N : Vec Ideal S4096x1024 .bf16) = res_5 (A0 m c) (A1 m c) (A2 m c) (A3 m c) := by
  refine (dats m 0 c).arrAt_eq_of_cover 5 (res_5 (A0 m c) (A1 m c) (A2 m c) (A3 m c)) (fun t hf => ?_) fun i => ?_
  · rw [flushed5]
    funext y
    have h := ix_5 t
    have hy0 : (y 0).val < 1024 := (y 0).isLt
    have hy1 : (y 1).val < 1024 := (y 1).isLt
    have hN : t.val < 16 := lt_of_lt_of_eq t.isLt (show cfg0.N = 16 from N_0)
    have e : ((cfg0.win 5).blk t).view.emb y = (ix2 ⟨(t.val / 4) * 1024 + (y 0).val, by omega⟩ ⟨(0) * 1024 + (y 1).val, by omega⟩ : S4096x1024.Idx) := by
      funext a
      apply Fin.ext
      match a with
      | ⟨0, _⟩ => show win0_5.index t 0 * 1024 + 1 * (y 0).val = (t.val / 4) * 1024 + (y 0).val; rw [h.1]; omega
      | ⟨1, _⟩ => show win0_5.index t 1 * 1024 + 1 * (y 1).val = (0) * 1024 + (y 1).val; rw [h.2]; omega
    have ex : (cfg0.win 5).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t.val t.isLt).2.1 ((cfg0.win 5).xinj (grid0.coords t) y) = res_5 (A0 m c) (A1 m c) (A2 m c) (A3 m c) (((cfg0.win 5).blk t).view.emb y)
    rw [e, ex]
    exact val_5 m c t ((flush0_5 t).mp hf) _ _ _ _ rfl rfl
  · have h0 : (i 0 : Nat) < 4096 := (i 0).isLt
    have h1 : (i 1 : Nat) < 1024 := (i 1).isLt
    exact (covered_iff5 i).2 (by omega)

end Cert.Kernel8Ideal.Value

end
-- ==== Proof.Same8.lean ====
/- The second product of the feed-forward part, its residual and the next norm. Both programs end with the same arrays over the extended reals. -/
module

public import proofs.«01_k».proof.Defs
public import proofs.«01_k».proof.Proof.Mul8
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Claim
public import Idealize.ShloMosaic.Adequacy

@[expose] public section

set_option maxRecDepth 16384

noncomputable section

namespace Cert.Reference8Ideal.Value

open Cert.Reference8Ideal Cert.Reference8Ideal.Read Cert.Kernel8Ideal.Value Cert.Sums Idealize.ShloMosaic

/-- The reference's result 0. -/
theorem ref_4 (x0 : (⟨S4096x4096, .bf16⟩ : BufTy).Contents (Elt Ideal)) (x1 : (⟨S4096x1024, .bf16⟩ : BufTy).Contents (Elt Ideal)) (x2 : (⟨S4096x1024, .f32⟩ : BufTy).Contents (Elt Ideal)) : val_main_v3 (F := Ideal) x0 x1 x2 = Cert.Kernel8Ideal.Value.res_4 x0 x1 x2 := by
  funext x
  rw [eq_ix2 x]
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, res_4, prod]
/-- The reference's result 1. -/
theorem ref_5 (x0 : (⟨S4096x4096, .bf16⟩ : BufTy).Contents (Elt Ideal)) (x1 : (⟨S4096x1024, .bf16⟩ : BufTy).Contents (Elt Ideal)) (x2 : (⟨S4096x1024, .f32⟩ : BufTy).Contents (Elt Ideal)) (x3 : (⟨S1024, .f32⟩ : BufTy).Contents (Elt Ideal)) : val_main_v17 (F := Ideal) x0 x1 x2 x3 = Cert.Kernel8Ideal.Value.res_5 x0 x1 x2 x3 := by
  funext x
  rw [eq_ix2 x]
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, res_5, prod, rmsn]

end Cert.Reference8Ideal.Value

namespace Cert.Proof

open Idealize.ShloMosaic Idealize.ShloMosaic.StableHlo Idealize.SL.Sem

/-- The frame of this reference: its run leaves the arguments, and it declares no counter. -/
theorem mlp_down_reference_frame : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The call and its reference end with the same arrays over the extended reals. -/
theorem mlp_down_same : Cert.algebraic_Kernel8Ideal_Reference8Ideal (hKernel8Ideal := Cert.Kernel8Ideal.Gen.facts) (hReference8Ideal := Cert.Reference8Ideal.Gen.facts) := by
  intro m ρ m' ρ' _ hag
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N,
    Cert.Kernel8Ideal.Value.run_blocks m ρ, ?_⟩
  refine (θ_run Cert.Reference8Ideal.defs _ _).mono ?_ (Cert.Reference8Ideal.Value.run (F := Ideal) m' ρ')
  intro r h c
  obtain ⟨e0, e1, e2, e3⟩ := hag c
  obtain ⟨h0, h1, hk⟩ := h c
  refine ⟨h0.trans ?_, h1.trans ?_, hk⟩
  · rw [Cert.Reference8Ideal.Read.val_main_v3_eq]
    repeat rw [launchContents_devRef]
    rw [e0, e1, e2, Cert.Reference8Ideal.Value.ref_4]
    exact (Cert.Kernel8Ideal.Value.arr_4 m c).symm
  · rw [Cert.Reference8Ideal.Read.val_main_v17_eq]
    repeat rw [launchContents_devRef]
    rw [e0, e1, e2, e3, Cert.Reference8Ideal.Value.ref_5]
    exact (Cert.Kernel8Ideal.Value.arr_5 m c).symm

end Cert.Proof

end
-- ==== Proof.Mul9.lean ====
/- The second product of the last feed-forward part and its residual. -/
module

public import proofs.«01_k».proof.Proof.Sums
public import proofs.«01_k».proof.Proof.Gen.Kernel9Ideal.Value
public import Idealize.ShloMosaic.Lib.Pointwise
public import Idealize.ShloMosaic.Lib.Claim
public import Idealize.ShloMosaic.Lib.Pipeline.Value

@[expose] public section

set_option maxRecDepth 16384

noncomputable section

namespace Cert.Kernel9Ideal.Value

open Cert.Kernel9Ideal Cert.Kernel9Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .bf16 := iblk m c 0 t
/-- Operand 0 as the launch finds it. -/
def A0 : Vec Ideal S4096x4096 .bf16 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S4096x1024 .bf16 := m ((c : Thread nD τ).loc main_arg1)
/-- The block of operand 2 at a grid point. -/
def X2 (t : Fin cfg0.N) : Vec Ideal S1024x1024 .f32 := iblk m c 2 t
/-- Operand 2 as the launch finds it. -/
def A2 : Vec Ideal S4096x1024 .f32 := m ((c : Thread nD τ).loc main_arg2)
theorem ix_0 : ∀ t : Fin cfg0.N, win0_0.index t 0 = t.val / 4 ∧ win0_0.index t 1 = t.val % 4 := by
  show ∀ t : Fin grid0.N, _
  decide +kernel
theorem ix_1 : ∀ t : Fin cfg0.N, win0_1.index t 0 = t.val % 4 ∧ win0_1.index t 1 = 0 := by
  show ∀ t : Fin grid0.N, _
  decide +kernel
theorem ix_2 : ∀ t : Fin cfg0.N, win0_2.index t 0 = t.val / 4 ∧ win0_2.index t 1 = 0 := by
  show ∀ t : Fin grid0.N, _
  decide +kernel
theorem ix_3 : ∀ t : Fin cfg0.N, win0_3.index t 0 = t.val / 4 ∧ win0_3.index t 1 = 0 := by
  show ∀ t : Fin grid0.N, _
  decide +kernel
/-- The block of operand 0 read in the operand. -/
theorem blk_0 (t : Fin cfg0.N) (p : Fin 1024) (q : Fin 1024) (i : Fin 4096) (j : Fin 4096)
    (hi : i.val = (t.val / 4) * 1024 + p.val) (hj : j.val = (t.val % 4) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 4096) (j : Fin 1024)
    (hi : i.val = (t.val % 4) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- The block of operand 2 read in the operand. -/
theorem blk_2 (t : Fin cfg0.N) (p : Fin 1024) (q : Fin 1024) (i : Fin 4096) (j : Fin 1024)
    (hi : i.val = (t.val / 4) * 1024 + p.val) (hj : j.val = (0) * 1024 + q.val) : X2 m c t (ix2 p q) = A2 m c (ix2 i j) := by
  have h := ix_2 t
  unfold X2 A2 iblk
  rw [View.read_apply]
  show V m c main_arg2 _ = _
  rw [V_main_arg2]
  congr 1
  funext a
  apply Fin.ext
  match a with
  | ⟨0, _⟩ => show win0_2.index t 0 * 1024 + 1 * p.val = i.val; rw [h.1, hi]; omega
  | ⟨1, _⟩ => show win0_2.index t 1 * 1024 + 1 * q.val = j.val; rw [h.2, hj]; omega
/-- One product of two blocks, added to what was there. -/
theorem mul_at (z : Vec Ideal S1024x1024 .f32) (x0 : Vec Ideal S1024x1024 .bf16) (x1 : Vec Ideal S1024x1024 .bf16) (p : Fin 1024) (q : Fin 1024) :
    k0_pay2 (F := Ideal) z x0 x1 (ix2 p q) = z (ix2 p q) + ∑ e : Fin 1024, x0 (ix2 p e) * x1 (ix2 e q) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x4096 .bf16) (b : Vec Ideal S4096x1024 .bf16) (i : Fin 4096) (j : Fin 1024) : EReal :=
  ∑ e : Fin 4096, a (ix2 i e) * b (ix2 e j)
/-- What a point of case A leaves in the running sum. -/
theorem sc_A (t : Fin cfg0.N) (h0 : t.val % 4 = 0) (h1 : ¬t.val % 4 = 3) :
    (outsAt0 m c t.val t.isLt).2 = k0_pay2 (F := Ideal) (k0_pay1 (F := Ideal)) (X0 m c t) (X1 m c t) := by
  rw [outsAt0_A m c t h0 h1]
  dsimp only
  unfold sout0_A_0
  rw [View.read_writes_eq_canon]
  on_goal 2 => intro y; apply scover0_A_0
  unfold kernelRun0_A
  dsimp only
  rw [View.canon_cons_unit_zero (S := S1024x1024) hz]
  simp only [View.readAt_eq_ld, (hs0_0 t).read_unread, (hs0_1 t).read_unread, (hs0_2 t).read_unread, View.ld_unit_zero (S := S1024x1024) hz]
  unfold kernelRun0_A.sl.v3 kernelRun0_A.sl.HS0_1
  rw [View.readCov_unit_zero (S := S1024x1024) _ hz]
  rfl
/-- What a point of case B leaves in the running sum. -/
theorem sc_B (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (X0 m c t) (X1 m c t) := by
  rw [outsAt0_B m c t h0 h1]
  dsimp only
  unfold sout0_B_0
  rw [View.read_writes_eq_canon]
  on_goal 2 => intro y; apply scover0_B_0
  unfold kernelRun0_B
  dsimp only
  rw [View.canon_unit_zero (S := S1024x1024) hz]
  simp only [View.readAt_eq_ld, (hs0_0 t).read_unread, (hs0_1 t).read_unread, (hs0_2 t).read_unread, View.ld_unit_zero (S := S1024x1024) hz]
  refine congrArg (fun z => k0_pay2 (F := Ideal) z (X0 m c t) (X1 m c t)) ?_
  exact Memref.IsWhole.read_unread (Memref.isWhole_whole _) _
/-- What a run's last point leaves in output 0. -/
theorem out_3 (t : Fin cfg0.N) (h0 : ¬t.val % 4 = 0) (h1 : t.val % 4 = 3) :
    (outsAt0 m c t.val t.isLt).1 = k0_pay3 (F := Ideal) (k0_pay2 (F := Ideal) (outsAt0 m c (t.val - 1) (Nat.lt_of_le_of_lt (Nat.sub_le _ _) t.isLt)).2 (X0 m c t) (X1 m c t)) (X2 m c t) := by
  rw [outsAt0_C m c t h0 h1]
  dsimp only
  unfold out0_C_3
  rw [View.read_writes_eq_canon]
  on_goal 2 => intro y; apply cover0_C_3
  unfold kernelRun0_C
  dsimp only
  rw [View.canon_unit_zero (S := S1024x1024) hz]
  try simp only [View.readAt_eq_ld, (hs0_0 t).read_unread, (hs0_1 t).read_unread, (hs0_2 t).read_unread, View.ld_unit_zero (S := S1024x1024) hz]
  unfold kernelRun0_C.sl.v14 kernelRun0_C.sl.HS0_1
  rw [View.readCov_unit_zero (S := S1024x1024) _ hz]
  simp only [View.readAt_eq_ld, (hs0_0 t).read_unread, (hs0_1 t).read_unread, (hs0_2 t).read_unread, View.ld_unit_zero (S := S1024x1024) hz]
  exact congrArg (fun z => k0_pay3 (F := Ideal) (k0_pay2 (F := Ideal) z (X0 m c t) (X1 m c t)) (X2 m c t)) (Memref.IsWhole.read_unread (Memref.isWhole_whole _) _)
/-- One term of the product of the two operands. -/
def term (i : Fin 4096) (j : Fin 1024) (e : Fin 4096) : EReal := A0 m c (ix2 i e) * A1 m c (ix2 e j)
/-- A point's own product, read in the operands. -/
theorem part (t : Fin cfg0.N) (p : Fin 1024) (q : Fin 1024) (i : Fin 4096) (j : Fin 1024) (hi : i.val = (t.val / 4) * 1024 + p.val)
    (hj : j.val = (0) * 1024 + q.val) (k : Fin 4) (hk : k.val = t.val % 4) :
    ∑ e : Fin 1024, X0 m c t (ix2 p e) * X1 m c t (ix2 e q) = ∑ e, term m c i j (at4 k e) := by
  unfold term
  refine Finset.sum_congr rfl fun e _ => ?_
  congr 1
  · exact blk_0 m c t _ _ _ _ (by first | omega | (dsimp only [at4]; omega)) (by first | omega | (dsimp only [at4]; omega))
  · exact blk_1 m c t _ _ _ _ (by first | omega | (dsimp only [at4]; omega)) (by first | omega | (dsimp only [at4]; omega))
/-- The running sum before a run's last point: the first three pieces. -/
theorem before (t : Fin cfg0.N) (h : t.val % 4 = 3) (p : Fin 1024) (q : Fin 1024) (i : Fin 4096) (j : Fin 1024) (hi : i.val = (t.val / 4) * 1024 + p.val)
    (hj : j.val = (0) * 1024 + q.val) :
    k0_pay2 (F := Ideal) (outsAt0 m c (t.val - 1) (Nat.lt_of_le_of_lt (Nat.sub_le _ _) t.isLt)).2 (X0 m c t) (X1 m c t) (ix2 p q) = prod (A0 m c) (A1 m c) i j := by
  have ht : t.val < cfg0.N := t.isLt
  have e1 := sc_B m c ⟨t.val - 1, by omega⟩ (by first | omega | (dsimp only; omega)) (by first | omega | (dsimp only; omega))
  have e2 := sc_B m c ⟨t.val - 1 - 1, by omega⟩ (by first | omega | (dsimp only; omega)) (by first | omega | (dsimp only; omega))
  have e3 := sc_A m c ⟨t.val - 1 - 1 - 1, by omega⟩ (by first | omega | (dsimp only; omega)) (by first | omega | (dsimp only; omega))
  dsimp only at e1 e2 e3
  rw [e1, e2, e3]
  simp only [mul_at, zero_at]
  rw [part m c t p q i j hi hj 3 h.symm, part m c ⟨t.val - 1, _⟩ p q i j (by first | omega | (dsimp only; omega)) (by first | omega | (dsimp only; omega)) 2 (by first | omega | (dsimp only; omega)),
    part m c ⟨t.val - 1 - 1, _⟩ p q i j (by first | omega | (dsimp only; omega)) (by first | omega | (dsimp only; omega)) 1 (by first | omega | (dsimp only; omega)),
    part m c ⟨t.val - 1 - 1 - 1, _⟩ p q i j (by first | omega | (dsimp only; omega)) (by first | omega | (dsimp only; omega)) 0 (by first | omega | (dsimp only; omega)), zero_add]
  exact sum_four (term m c i j)
/-- The product and the residual. -/
theorem epi_at (v x : Vec Ideal S1024x1024 .f32) (p q : Fin 1024) : k0_pay3 (F := Ideal) v x (ix2 p q) = v (ix2 p q) + x (ix2 p q) := by
  pointwise [k0_pay3]
/-- Result 0 as an array of the operands. -/
def res_3 (a : Vec Ideal S4096x4096 .bf16) (b : Vec Ideal S4096x1024 .bf16) (c : Vec Ideal S4096x1024 .f32) : Vec Ideal S4096x1024 .f32 := fun x => prod a b (x 0) (x 1) + c (ix2 (x 0) (x 1))
/-- A grid point's block of result 0. -/
theorem val_3 (t : Fin cfg0.N) (ht : t.val % 4 = 3) (p : Fin 1024) (q : Fin 1024) (i : Fin 4096) (j : Fin 1024) (hi : i.val = (t.val / 4) * 1024 + p.val) (hj : j.val = (0) * 1024 + q.val) :
    (outsAt0 m c t.val t.isLt).1 (ix2 p q) = res_3 (A0 m c) (A1 m c) (A2 m c) (ix2 i j) := by
  rw [out_3 m c t (by omega) ht]
  rw [epi_at, before m c t ht p q i j hi hj, blk_2 m c t p q i j hi hj]
  rfl
/-- Result 0 after the run. -/
theorem arr_3 : ((dats m 0 c).arrAt 3 cfg0.N : Vec Ideal S4096x1024 .f32) = res_3 (A0 m c) (A1 m c) (A2 m c) := by
  refine (dats m 0 c).arrAt_eq_of_cover 3 (res_3 (A0 m c) (A1 m c) (A2 m c)) (fun t hf => ?_) fun i => ?_
  · rw [flushed3]
    funext y
    have h := ix_3 t
    have hy0 : (y 0).val < 1024 := (y 0).isLt
    have hy1 : (y 1).val < 1024 := (y 1).isLt
    have hN : t.val < 16 := lt_of_lt_of_eq t.isLt (show cfg0.N = 16 from N_0)
    have e : ((cfg0.win 3).blk t).view.emb y = (ix2 ⟨(t.val / 4) * 1024 + (y 0).val, by omega⟩ ⟨(0) * 1024 + (y 1).val, by omega⟩ : S4096x1024.Idx) := by
      funext a
      apply Fin.ext
      match a with
      | ⟨0, _⟩ => show win0_3.index t 0 * 1024 + 1 * (y 0).val = (t.val / 4) * 1024 + (y 0).val; rw [h.1]; omega
      | ⟨1, _⟩ => show win0_3.index t 1 * 1024 + 1 * (y 1).val = (0) * 1024 + (y 1).val; rw [h.2]; omega
    have ex : (cfg0.win 3).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t.val t.isLt).1 ((cfg0.win 3).xinj (grid0.coords t) y) = res_3 (A0 m c) (A1 m c) (A2 m c) (((cfg0.win 3).blk t).view.emb y)
    rw [e, ex]
    exact val_3 m c t ((flush0_3 t).mp hf) _ _ _ _ rfl rfl
  · have h0 : (i 0 : Nat) < 4096 := (i 0).isLt
    have h1 : (i 1 : Nat) < 1024 := (i 1).isLt
    exact (covered_iff3 i).2 (by omega)

end Cert.Kernel9Ideal.Value

end
-- ==== Proof.Same9.lean ====
/- The second product of the last feed-forward part and its residual. Both programs end with the same arrays over the extended reals. -/
module

public import proofs.«01_k».proof.Defs
public import proofs.«01_k».proof.Proof.Mul9
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.Claim
public import Idealize.ShloMosaic.Adequacy

@[expose] public section

set_option maxRecDepth 16384

noncomputable section

namespace Cert.Reference9Ideal.Value

open Cert.Reference9Ideal Cert.Reference9Ideal.Read Cert.Kernel9Ideal.Value Cert.Sums Idealize.ShloMosaic

/-- The reference's result 0. -/
theorem ref_3 (x0 : (⟨S4096x4096, .bf16⟩ : BufTy).Contents (Elt Ideal)) (x1 : (⟨S4096x1024, .bf16⟩ : BufTy).Contents (Elt Ideal)) (x2 : (⟨S4096x1024, .f32⟩ : BufTy).Contents (Elt Ideal)) : val_main_v3 (F := Ideal) x0 x1 x2 = Cert.Kernel9Ideal.Value.res_3 x0 x1 x2 := by
  funext x
  rw [eq_ix2 x]
  pointwise [val_main_v0, val_main_v1, val_main_v2, val_main_v3, res_3, prod]
  rw [add_comm]

end Cert.Reference9Ideal.Value

namespace Cert.Proof

open Idealize.ShloMosaic Idealize.ShloMosaic.StableHlo Idealize.SL.Sem

/-- The frame of this reference: its run leaves the arguments, and it declares no counter. -/
theorem mlp_down_last_reference_frame : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The call and its reference end with the same arrays over the extended reals. -/
theorem mlp_down_last_same : Cert.algebraic_Kernel9Ideal_Reference9Ideal (hKernel9Ideal := Cert.Kernel9Ideal.Gen.facts) (hReference9Ideal := Cert.Reference9Ideal.Gen.facts) := by
  intro m ρ m' ρ' _ hag
  refine ⟨fun c => (Cert.Kernel9Ideal.Gen.dats m 0 c).arrAt 3 Cert.Kernel9Ideal.cfg0.N,
    Cert.Kernel9Ideal.Value.run_blocks m ρ, ?_⟩
  refine (θ_run Cert.Reference9Ideal.defs _ _).mono ?_ (Cert.Reference9Ideal.Value.run (F := Ideal) m' ρ')
  intro r h c
  obtain ⟨e0, e1, e2⟩ := hag c
  obtain ⟨h0, hk⟩ := h c
  refine ⟨h0.trans ?_, hk⟩
  · rw [Cert.Reference9Ideal.Read.val_main_v3_eq]
    repeat rw [launchContents_devRef]
    rw [e0, e1, e2, Cert.Reference9Ideal.Value.ref_3]
    exact (Cert.Kernel9Ideal.Value.arr_3 m c).symm

end Cert.Proof

end
-- ==== Proof.Mul10.lean ====
/- The projection of one branch. -/
module

public import proofs.«01_k».proof.Proof.Sums
public import proofs.«01_k».proof.Proof.Gen.Kernel10Ideal.Value
public import Idealize.ShloMosaic.Lib.Pointwise
public import Idealize.ShloMosaic.Lib.Claim
public import Idealize.ShloMosaic.Lib.Pipeline.Value

@[expose] public section

set_option maxRecDepth 16384

noncomputable section

namespace Cert.Kernel10Ideal.Value

open Cert.Kernel10Ideal Cert.Kernel10Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .bf16 := iblk m c 0 t
/-- Operand 0 as the launch finds it. -/
def A0 : Vec Ideal S4096x1024 .bf16 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S1024x1024 .bf16 := m ((c : Thread nD τ).loc main_arg1)
theorem ix_0 : ∀ t : Fin cfg0.N, win0_0.index t 0 = t.val ∧ win0_0.index t 1 = 0 := by
  show ∀ t : Fin grid0.N, _
  decide +kernel
theorem ix_1 : ∀ t : Fin cfg0.N, win0_1.index t 0 = 0 ∧ win0_1.index t 1 = 0 := by
  show ∀ t : Fin grid0.N, _
  decide +kernel
theorem ix_2 : ∀ t : Fin cfg0.N, win0_2.index t 0 = t.val ∧ win0_2.index t 1 = 0 := by
  show ∀ t : Fin grid0.N, _
  decide +kernel
/-- The block of operand 0 read in the operand. -/
theorem blk_0 (t : Fin cfg0.N) (p : Fin 1024) (q : Fin 1024) (i : Fin 4096) (j : Fin 1024)
    (hi : i.val = (t.val) * 1024 + p.val) (hj : j.val = (0) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 1024) (j : Fin 1024)
    (hi : i.val = (0) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- One product of two blocks, added to what was there. -/
theorem mul_at (z : Vec Ideal S1024x1024 .f32) (x0 : Vec Ideal S1024x1024 .bf16) (x1 : Vec Ideal S1024x1024 .bf16) (p : Fin 1024) (q : Fin 1024) :
    k0_pay2 (F := Ideal) z x0 x1 (ix2 p q) = z (ix2 p q) + ∑ e : Fin 1024, x0 (ix2 p e) * x1 (ix2 e q) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x1024 .bf16) (b : Vec Ideal S1024x1024 .bf16) (i : Fin 4096) (j : Fin 1024) : EReal :=
  ∑ e : Fin 1024, a (ix2 i e) * b (ix2 e j)
/-- What a grid point leaves in output 0. -/
theorem out_2 (t : Fin cfg0.N) : (outsAt0 m c t) = (k0_pay2 (F := Ideal) (k0_pay1 (F := Ideal)) (X0 m c t) (X1 m c t)) := by
  unfold outsAt0
  try dsimp only
  unfold out0_A_2
  rw [View.read_writes_eq_canon]
  on_goal 2 => intro y; apply cover0_A_2
  unfold kernelRun0_A
  dsimp only
  rw [View.canon_unit_zero (S := S1024x1024) hz]
  try simp only [View.readAt_eq_ld, (hs0_0 t).read_unread, (hs0_1 t).read_unread, View.ld_unit_zero (S := S1024x1024) hz]
  unfold kernelRun0_A.sl.v14
  unfold kernelRun0_A.sl.HS0_2
  rw [View.readCov_cons_toLoadRect]
  simp only [View.readAt_eq_ld, (hs0_0 t).read_unread, (hs0_1 t).read_unread, View.ld_unit_zero (S := S1024x1024) hz]
  unfold kernelRun0_A.sl.v3 kernelRun0_A.sl.HS0_1
  rw [View.readCov_unit_zero (S := S1024x1024) _ hz]
  rfl
/-- The product of the blocks at a grid point, read in the operands. -/
theorem acc (t : Fin cfg0.N) (p : Fin 1024) (q : Fin 1024) (i : Fin 4096) (j : Fin 1024) (hi : i.val = (t.val) * 1024 + p.val) (hj : j.val = (0) * 1024 + q.val) :
    k0_pay2 (F := Ideal) (k0_pay1 (F := Ideal)) (X0 m c t) (X1 m c t) (ix2 p q) = prod (A0 m c) (A1 m c) i j := by
  rw [mul_at, zero_at, zero_add]
  refine Finset.sum_congr rfl fun e _ => ?_
  congr 1
  · exact blk_0 m c t _ _ _ _ (by first | omega | (dsimp only; omega)) (by first | omega | (dsimp only; omega))
  · exact blk_1 m c t _ _ _ _ (by first | omega | (dsimp only; omega)) (by first | omega | (dsimp only; omega))
/-- Result 0 as an array of the operands. -/
def res_2 (a : Vec Ideal S4096x1024 .bf16) (b : Vec Ideal S1024x1024 .bf16) : Vec Ideal S4096x1024 .f32 := fun x => prod a b (x 0) (x 1)
/-- A grid point's block of result 0. -/
theorem val_2 (t : Fin cfg0.N) (p : Fin 1024) (q : Fin 1024) (i : Fin 4096) (j : Fin 1024) (hi : i.val = (t.val) * 1024 + p.val) (hj : j.val = (0) * 1024 + q.val) :
    (outsAt0 m c t) (ix2 p q) = res_2 (A0 m c) (A1 m c) (ix2 i j) := by
  rw [out_2 m c t]
  exact acc m c t p q i j hi hj
/-- Result 0 after the run. -/
theorem arr_2 : ((dats m 0 c).arrAt 2 cfg0.N : Vec Ideal S4096x1024 .f32) = res_2 (A0 m c) (A1 m c) := by
  refine (dats m 0 c).arrAt_eq_of_cover 2 (res_2 (A0 m c) (A1 m c)) (fun t hf => ?_) fun i => ?_
  · rw [flushed2]
    funext y
    have h := ix_2 t
    have hy0 : (y 0).val < 1024 := (y 0).isLt
    have hy1 : (y 1).val < 1024 := (y 1).isLt
    have hN : t.val < 4 := lt_of_lt_of_eq t.isLt (show cfg0.N = 4 from N_0)
    have e : ((cfg0.win 2).blk t).view.emb y = (ix2 ⟨(t.val) * 1024 + (y 0).val, by omega⟩ ⟨(0) * 1024 + (y 1).val, by omega⟩ : S4096x1024.Idx) := by
      funext a
      apply Fin.ext
      match a with
      | ⟨0, _⟩ => show win0_2.index t 0 * 1024 + 1 * (y 0).val = (t.val) * 1024 + (y 0).val; rw [h.1]; omega
      | ⟨1, _⟩ => show win0_2.index t 1 * 1024 + 1 * (y 1).val = (0) * 1024 + (y 1).val; rw [h.2]; omega
    have ex : (cfg0.win 2).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t) ((cfg0.win 2).xinj (grid0.coords t) y) = res_2 (A0 m c) (A1 m c) (((cfg0.win 2).blk t).view.emb y)
    rw [e, ex]
    exact val_2 m c t _ _ _ _ rfl rfl
  · have h0 : (i 0 : Nat) < 4096 := (i 0).isLt
    have h1 : (i 1 : Nat) < 1024 := (i 1).isLt
    obtain ⟨t, ht⟩ : ∃ t : Fin cfg0.N, t.val = (i 0 : Nat) / 1024 * 1 + (i 1 : Nat) / 1024 :=
      ⟨⟨(i 0 : Nat) / 1024 * 1 + (i 1 : Nat) / 1024, lt_of_lt_of_eq (by omega) (show 4 = cfg0.N from N_0.symm)⟩, rfl⟩
    have h := ix_2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [h.1]; omega
    | ⟨1, _⟩ => show win0_2.index t 1 * 1024 ≤ (i 1 : Nat) ∧ (i 1 : Nat) < win0_2.index t 1 * 1024 + 1024; rw [h.2]; omega

end Cert.Kernel10Ideal.Value

end
-- ==== Proof.Same10.lean ====
/- The projection of one branch. Both programs end with the same arrays over the extended reals. -/
module

public import proofs.«01_k».proof.Defs
public import proofs.«01_k».proof.Proof.Mul10
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Claim
public import Idealize.ShloMosaic.Adequacy

@[expose] public section

set_option maxRecDepth 16384

noncomputable section

namespace Cert.Reference10Ideal.Value

open Cert.Reference10Ideal Cert.Reference10Ideal.Read Cert.Kernel10Ideal.Value Cert.Sums Idealize.ShloMosaic

/-- The reference's result 0. -/
theorem ref_2 (x0 : (⟨S4096x1024, .bf16⟩ : BufTy).Contents (Elt Ideal)) (x1 : (⟨S1024x1024, .bf16⟩ : BufTy).Contents (Elt Ideal)) : val_main_v2 (F := Ideal) x0 x1 = Cert.Kernel10Ideal.Value.res_2 x0 x1 := by
  funext x
  rw [eq_ix2 x]
  pointwise [val_main_v0, val_main_v1, val_main_v2, res_2, prod]

end Cert.Reference10Ideal.Value

namespace Cert.Proof

open Idealize.ShloMosaic Idealize.ShloMosaic.StableHlo Idealize.SL.Sem

/-- The frame of this reference: its run leaves the arguments, and it declares no counter. -/
theorem branch_reference_frame : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The call and its reference end with the same arrays over the extended reals. -/
theorem branch_same : Cert.algebraic_Kernel10Ideal_Reference10Ideal (hKernel10Ideal := Cert.Kernel10Ideal.Gen.facts) (hReference10Ideal := Cert.Reference10Ideal.Gen.facts) := by
  intro m ρ m' ρ' _ hag
  refine ⟨fun c => (Cert.Kernel10Ideal.Gen.dats m 0 c).arrAt 2 Cert.Kernel10Ideal.cfg0.N,
    Cert.Kernel10Ideal.Value.run_blocks m ρ, ?_⟩
  refine (θ_run Cert.Reference10Ideal.defs _ _).mono ?_ (Cert.Reference10Ideal.Value.run (F := Ideal) m' ρ')
  intro r h c
  obtain ⟨e0, e1⟩ := hag c
  obtain ⟨h0, hk⟩ := h c
  refine ⟨h0.trans ?_, hk⟩
  · rw [Cert.Reference10Ideal.Read.val_main_v2_eq]
    repeat rw [launchContents_devRef]
    rw [e0, e1, Cert.Reference10Ideal.Value.ref_2]
    exact (Cert.Kernel10Ideal.Value.arr_2 m c).symm

end Cert.Proof

end
-- ==== Proof.Mul11.lean ====
/- The gradient of the weight of one branch. -/
module

public import proofs.«01_k».proof.Proof.Sums
public import proofs.«01_k».proof.Proof.Gen.Kernel11Ideal.Value
public import Idealize.ShloMosaic.Lib.Pointwise
public import Idealize.ShloMosaic.Lib.Claim
public import Idealize.ShloMosaic.Lib.Pipeline.Value

@[expose] public section

set_option maxRecDepth 16384

noncomputable section

namespace Cert.Kernel11Ideal.Value

open Cert.Kernel11Ideal Cert.Kernel11Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .bf16 := iblk m c 0 t
/-- Operand 0 as the launch finds it. -/
def A0 : Vec Ideal S4096x1024 .bf16 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S4096x1024 .bf16 := m ((c : Thread nD τ).loc main_arg1)
theorem ix_0 : ∀ t : Fin cfg0.N, win0_0.index t 0 = t.val % 4 ∧ win0_0.index t 1 = 0 := by
  show ∀ t : Fin grid0.N, _
  decide +kernel
theorem ix_1 : ∀ t : Fin cfg0.N, win0_1.index t 0 = t.val % 4 ∧ win0_1.index t 1 = 0 := by
  show ∀ t : Fin grid0.N, _
  decide +kernel
theorem ix_2 : ∀ t : Fin cfg0.N, win0_2.index t 0 = 0 ∧ win0_2.index t 1 = 0 := by
  show ∀ t : Fin grid0.N, _
  decide +kernel
/-- The block of operand 0 read in the operand. -/
theorem blk_0 (t : Fin cfg0.N) (p : Fin 1024) (q : Fin 1024) (i : Fin 4096) (j : Fin 1024)
    (hi : i.val = (t.val % 4) * 1024 + p.val) (hj : j.val = (0) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 4096) (j : Fin 1024)
    (hi : i.val = (t.val % 4) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- One product of two blocks, added to what was there. -/
theorem mul_at (z : Vec Ideal S1024x1024 .f32) (x0 : Vec Ideal S1024x1024 .bf16) (x1 : Vec Ideal S1024x1024 .bf16) (p : Fin 1024) (q : Fin 1024) :
    k0_pay2 (F := Ideal) z x0 x1 (ix2 p q) = z (ix2 p q) + ∑ e : Fin 1024, x0 (ix2 e p) * x1 (ix2 e q) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x1024 .bf16) (b : Vec Ideal S4096x1024 .bf16) (i : Fin 1024) (j : Fin 1024) : EReal :=
  ∑ e : Fin 4096, a (ix2 e i) * b (ix2 e j)
/-- What a point of case A leaves in the running sum. -/
theorem sc_A (t : Fin cfg0.N) (h0 : t.val % 4 = 0) (h1 : ¬t.val % 4 = 3) :
    (outsAt0 m c t.val t.isLt).2 = k0_pay2 (F := Ideal) (k0_pay1 (F := Ideal)) (X0 m c t) (X1 m c t) := by
  rw [outsAt0_A m c t h0 h1]
  dsimp only
  unfold sout0_A_0
  rw [View.read_writes_eq_canon]
  on_goal 2 => intro y; apply scover0_A_0
  unfold kernelRun0_A
  dsimp only
  rw [View.canon_cons_unit_zero (S := S1024x1024) hz]
  simp only [View.readAt_eq_ld, (hs0_0 t).read_unread, (hs0_1 t).read_unread, View.ld_unit_zero (S := S1024x1024) hz]
  unfold kernelRun0_A.sl.v3 kernelRun0_A.sl.HS0_1
  rw [View.readCov_unit_zero (S := S1024x1024) _ hz]
  rfl
/-- What a point of case B leaves in the running sum. -/
theorem sc_B (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (X0 m c t) (X1 m c t) := by
  rw [outsAt0_B m c t h0 h1]
  dsimp only
  unfold sout0_B_0
  rw [View.read_writes_eq_canon]
  on_goal 2 => intro y; apply scover0_B_0
  unfold kernelRun0_B
  dsimp only
  rw [View.canon_unit_zero (S := S1024x1024) hz]
  simp only [View.readAt_eq_ld, (hs0_0 t).read_unread, (hs0_1 t).read_unread, View.ld_unit_zero (S := S1024x1024) hz]
  refine congrArg (fun z => k0_pay2 (F := Ideal) z (X0 m c t) (X1 m c t)) ?_
  exact Memref.IsWhole.read_unread (Memref.isWhole_whole _) _
/-- What a run's last point leaves in output 0. -/
theorem out_2 (t : Fin cfg0.N) (h0 : ¬t.val % 4 = 0) (h1 : t.val % 4 = 3) :
    (outsAt0 m c t.val t.isLt).1 = (k0_pay2 (F := Ideal) (outsAt0 m c (t.val - 1) (Nat.lt_of_le_of_lt (Nat.sub_le _ _) t.isLt)).2 (X0 m c t) (X1 m c t)) := by
  rw [outsAt0_C m c t h0 h1]
  dsimp only
  unfold out0_C_2
  rw [View.read_writes_eq_canon]
  on_goal 2 => intro y; apply cover0_C_2
  unfold kernelRun0_C
  dsimp only
  rw [View.canon_unit_zero (S := S1024x1024) hz]
  try simp only [View.readAt_eq_ld, (hs0_0 t).read_unread, (hs0_1 t).read_unread, View.ld_unit_zero (S := S1024x1024) hz]
  unfold kernelRun0_C.sl.v14 kernelRun0_C.sl.HS0_1
  rw [View.readCov_unit_zero (S := S1024x1024) _ hz]
  simp only [View.readAt_eq_ld, (hs0_0 t).read_unread, (hs0_1 t).read_unread, View.ld_unit_zero (S := S1024x1024) hz]
  exact congrArg (fun z => (k0_pay2 (F := Ideal) z (X0 m c t) (X1 m c t))) (Memref.IsWhole.read_unread (Memref.isWhole_whole _) _)
/-- One term of the product of the two operands. -/
def term (i : Fin 1024) (j : Fin 1024) (e : Fin 4096) : EReal := A0 m c (ix2 e i) * A1 m c (ix2 e j)
/-- A point's own product, read in the operands. -/
theorem part (t : Fin cfg0.N) (p : Fin 1024) (q : Fin 1024) (i : Fin 1024) (j : Fin 1024) (hi : i.val = (0) * 1024 + p.val)
    (hj : j.val = (0) * 1024 + q.val) (k : Fin 4) (hk : k.val = t.val % 4) :
    ∑ e : Fin 1024, X0 m c t (ix2 e p) * X1 m c t (ix2 e q) = ∑ e, term m c i j (at4 k e) := by
  unfold term
  refine Finset.sum_congr rfl fun e _ => ?_
  congr 1
  · exact blk_0 m c t _ _ _ _ (by first | omega | (dsimp only [at4]; omega)) (by first | omega | (dsimp only [at4]; omega))
  · exact blk_1 m c t _ _ _ _ (by first | omega | (dsimp only [at4]; omega)) (by first | omega | (dsimp only [at4]; omega))
/-- The running sum before a run's last point: the first three pieces. -/
theorem before (t : Fin cfg0.N) (h : t.val % 4 = 3) (p : Fin 1024) (q : Fin 1024) (i : Fin 1024) (j : Fin 1024) (hi : i.val = (0) * 1024 + p.val)
    (hj : j.val = (0) * 1024 + q.val) :
    k0_pay2 (F := Ideal) (outsAt0 m c (t.val - 1) (Nat.lt_of_le_of_lt (Nat.sub_le _ _) t.isLt)).2 (X0 m c t) (X1 m c t) (ix2 p q) = prod (A0 m c) (A1 m c) i j := by
  have ht : t.val < cfg0.N := t.isLt
  have e1 := sc_B m c ⟨t.val - 1, by omega⟩ (by first | omega | (dsimp only; omega)) (by first | omega | (dsimp only; omega))
  have e2 := sc_B m c ⟨t.val - 1 - 1, by omega⟩ (by first | omega | (dsimp only; omega)) (by first | omega | (dsimp only; omega))
  have e3 := sc_A m c ⟨t.val - 1 - 1 - 1, by omega⟩ (by first | omega | (dsimp only; omega)) (by first | omega | (dsimp only; omega))
  dsimp only at e1 e2 e3
  rw [e1, e2, e3]
  simp only [mul_at, zero_at]
  rw [part m c t p q i j hi hj 3 h.symm, part m c ⟨t.val - 1, _⟩ p q i j (by first | omega | (dsimp only; omega)) (by first | omega | (dsimp only; omega)) 2 (by first | omega | (dsimp only; omega)),
    part m c ⟨t.val - 1 - 1, _⟩ p q i j (by first | omega | (dsimp only; omega)) (by first | omega | (dsimp only; omega)) 1 (by first | omega | (dsimp only; omega)),
    part m c ⟨t.val - 1 - 1 - 1, _⟩ p q i j (by first | omega | (dsimp only; omega)) (by first | omega | (dsimp only; omega)) 0 (by first | omega | (dsimp only; omega)), zero_add]
  exact sum_four (term m c i j)
/-- Result 0 as an array of the operands. -/
def res_2 (a : Vec Ideal S4096x1024 .bf16) (b : Vec Ideal S4096x1024 .bf16) : Vec Ideal S1024x1024 .f32 := fun x => prod a b (x 0) (x 1)
/-- A grid point's block of result 0. -/
theorem val_2 (t : Fin cfg0.N) (ht : t.val % 4 = 3) (p : Fin 1024) (q : Fin 1024) (i : Fin 1024) (j : Fin 1024) (hi : i.val = (0) * 1024 + p.val) (hj : j.val = (0) * 1024 + q.val) :
    (outsAt0 m c t.val t.isLt).1 (ix2 p q) = res_2 (A0 m c) (A1 m c) (ix2 i j) := by
  rw [out_2 m c t (by omega) ht]
  exact before m c t ht p q i j hi hj
/-- Result 0 after the run. -/
theorem arr_2 : ((dats m 0 c).arrAt 2 cfg0.N : Vec Ideal S1024x1024 .f32) = res_2 (A0 m c) (A1 m c) := by
  refine (dats m 0 c).arrAt_eq_of_cover 2 (res_2 (A0 m c) (A1 m c)) (fun t hf => ?_) fun i => ?_
  · rw [flushed2]
    funext y
    have h := ix_2 t
    have hy0 : (y 0).val < 1024 := (y 0).isLt
    have hy1 : (y 1).val < 1024 := (y 1).isLt
    have hN : t.val < 4 := lt_of_lt_of_eq t.isLt (show cfg0.N = 4 from N_0)
    have e : ((cfg0.win 2).blk t).view.emb y = (ix2 ⟨(0) * 1024 + (y 0).val, by omega⟩ ⟨(0) * 1024 + (y 1).val, by omega⟩ : S1024x1024.Idx) := by
      funext a
      apply Fin.ext
      match a with
      | ⟨0, _⟩ => show win0_2.index t 0 * 1024 + 1 * (y 0).val = (0) * 1024 + (y 0).val; rw [h.1]; omega
      | ⟨1, _⟩ => show win0_2.index t 1 * 1024 + 1 * (y 1).val = (0) * 1024 + (y 1).val; rw [h.2]; omega
    have ex : (cfg0.win 2).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t.val t.isLt).1 ((cfg0.win 2).xinj (grid0.coords t) y) = res_2 (A0 m c) (A1 m c) (((cfg0.win 2).blk t).view.emb y)
    rw [e, ex]
    exact val_2 m c t ((flush0_2 t).mp hf) _ _ _ _ rfl rfl
  · have h0 : (i 0 : Nat) < 1024 := (i 0).isLt
    have h1 : (i 1 : Nat) < 1024 := (i 1).isLt
    exact (covered_iff2 i).2 (by omega)

end Cert.Kernel11Ideal.Value

end
-- ==== Proof.Same11.lean ====
/- The gradient of the weight of one branch. Both programs end with the same arrays over the extended reals. -/
module

public import proofs.«01_k».proof.Defs
public import proofs.«01_k».proof.Proof.Mul11
public import proofs.«01_k».proof.Proof.Gen.Reference11Ideal
public import proofs.«01_k».proof.Proof.Gen.Reference11Ideal.Run
public import proofs.«01_k».proof.Proof.Gen.Reference11Ideal.Read
public import Idealize.ShloMosaic.Lib.Pointwise
public import Idealize.ShloMosaic.Lib.Claim
public import Idealize.ShloMosaic.Adequacy

@[expose] public section

set_option maxRecDepth 16384

noncomputable section

namespace Cert.Reference11Ideal.Value

open Cert.Reference11Ideal Cert.Reference11Ideal.Read Cert.Kernel11Ideal.Value Cert.Sums Idealize.ShloMosaic

/-- The reference's result 0. -/
theorem ref_2 (x0 x1 : (⟨S4096x1024, .bf16⟩ : BufTy).Contents (Elt Ideal)) : val_main_v5 (F := Ideal) x0 x1 = Cert.Kernel11Ideal.Value.res_2 x0 x1 := by
  funext x
  rw [eq_ix2 x]
  pointwise [val_main_cst, val_main_v0, val_main_v1, val_main_v2, val_main_v3, val_main_v4, val_main_v5, res_2, prod]
  exact Finset.sum_congr rfl fun e _ => mul_comm _ _

end Cert.Reference11Ideal.Value

namespace Cert.Proof

open Idealize.ShloMosaic Idealize.ShloMosaic.StableHlo Idealize.SL.Sem

/-- The frame of this reference: its run leaves the arguments, and it declares no counter. -/
theorem dw_branch_reference_frame : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The call and its reference end with the same arrays over the extended reals. -/
theorem dw_branch_same : Cert.algebraic_Kernel11Ideal_Reference11Ideal (hKernel11Ideal := Cert.Kernel11Ideal.Gen.facts) (hReference11Ideal := Cert.Reference11Ideal.Gen.facts) := by
  intro m ρ m' ρ' _ hag
  refine ⟨fun c => (Cert.Kernel11Ideal.Gen.dats m 0 c).arrAt 2 Cert.Kernel11Ideal.cfg0.N,
    Cert.Kernel11Ideal.Value.run_blocks m ρ, ?_⟩
  refine (θ_run Cert.Reference11Ideal.defs _ _).mono ?_ (Cert.Reference11Ideal.Value.run (F := Ideal) m' ρ')
  intro r h c
  obtain ⟨e0, e1⟩ := hag c
  obtain ⟨h0, hk⟩ := h c
  refine ⟨h0.trans ?_, hk⟩
  · rw [Cert.Reference11Ideal.Read.val_main_v5_eq]
    repeat rw [launchContents_devRef]
    rw [e0, e1, Cert.Reference11Ideal.Value.ref_2]
    exact (Cert.Kernel11Ideal.Value.arr_2 m c).symm

end Cert.Proof

end
-- ==== Proof.Mul12.lean ====
/- The gradient of the output of one branch. -/
module

public import proofs.«01_k».proof.Proof.Sums
public import proofs.«01_k».proof.Proof.Gen.Kernel12Ideal.Value
public import Idealize.ShloMosaic.Lib.Pointwise
public import Idealize.ShloMosaic.Lib.Claim
public import Idealize.ShloMosaic.Lib.Pipeline.Value

@[expose] public section

set_option maxRecDepth 16384

noncomputable section

namespace Cert.Kernel12Ideal.Value

open Cert.Kernel12Ideal Cert.Kernel12Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .bf16 := iblk m c 0 t
/-- Operand 0 as the launch finds it. -/
def A0 : Vec Ideal S4096x1024 .bf16 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S1024x1024 .bf16 := m ((c : Thread nD τ).loc main_arg1)
theorem ix_0 : ∀ t : Fin cfg0.N, win0_0.index t 0 = t.val ∧ win0_0.index t 1 = 0 := by
  show ∀ t : Fin grid0.N, _
  decide +kernel
theorem ix_1 : ∀ t : Fin cfg0.N, win0_1.index t 0 = 0 ∧ win0_1.index t 1 = 0 := by
  show ∀ t : Fin grid0.N, _
  decide +kernel
theorem ix_2 : ∀ t : Fin cfg0.N, win0_2.index t 0 = t.val ∧ win0_2.index t 1 = 0 := by
  show ∀ t : Fin grid0.N, _
  decide +kernel
/-- The block of operand 0 read in the operand. -/
theorem blk_0 (t : Fin cfg0.N) (p : Fin 1024) (q : Fin 1024) (i : Fin 4096) (j : Fin 1024)
    (hi : i.val = (t.val) * 1024 + p.val) (hj : j.val = (0) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 1024) (j : Fin 1024)
    (hi : i.val = (0) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- One product of two blocks, added to what was there. -/
theorem mul_at (z : Vec Ideal S1024x1024 .f32) (x0 : Vec Ideal S1024x1024 .bf16) (x1 : Vec Ideal S1024x1024 .bf16) (p : Fin 1024) (q : Fin 1024) :
    k0_pay2 (F := Ideal) z x0 x1 (ix2 p q) = z (ix2 p q) + ∑ e : Fin 1024, x0 (ix2 p e) * x1 (ix2 q e) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x1024 .bf16) (b : Vec Ideal S1024x1024 .bf16) (i : Fin 4096) (j : Fin 1024) : EReal :=
  ∑ e : Fin 1024, a (ix2 i e) * b (ix2 j e)
/-- What a grid point leaves in output 0. -/
theorem out_2 (t : Fin cfg0.N) : (outsAt0 m c t) = (k0_pay2 (F := Ideal) (k0_pay1 (F := Ideal)) (X0 m c t) (X1 m c t)) := by
  unfold outsAt0
  try dsimp only
  unfold out0_A_2
  rw [View.read_writes_eq_canon]
  on_goal 2 => intro y; apply cover0_A_2
  unfold kernelRun0_A
  dsimp only
  rw [View.canon_unit_zero (S := S1024x1024) hz]
  try simp only [View.readAt_eq_ld, (hs0_0 t).read_unread, (hs0_1 t).read_unread, View.ld_unit_zero (S := S1024x1024) hz]
  unfold kernelRun0_A.sl.v14
  unfold kernelRun0_A.sl.HS0_2
  rw [View.readCov_cons_toLoadRect]
  simp only [View.readAt_eq_ld, (hs0_0 t).read_unread, (hs0_1 t).read_unread, View.ld_unit_zero (S := S1024x1024) hz]
  unfold kernelRun0_A.sl.v3 kernelRun0_A.sl.HS0_1
  rw [View.readCov_unit_zero (S := S1024x1024) _ hz]
  rfl
/-- The product of the blocks at a grid point, read in the operands. -/
theorem acc (t : Fin cfg0.N) (p : Fin 1024) (q : Fin 1024) (i : Fin 4096) (j : Fin 1024) (hi : i.val = (t.val) * 1024 + p.val) (hj : j.val = (0) * 1024 + q.val) :
    k0_pay2 (F := Ideal) (k0_pay1 (F := Ideal)) (X0 m c t) (X1 m c t) (ix2 p q) = prod (A0 m c) (A1 m c) i j := by
  rw [mul_at, zero_at, zero_add]
  refine Finset.sum_congr rfl fun e _ => ?_
  congr 1
  · exact blk_0 m c t _ _ _ _ (by first | omega | (dsimp only; omega)) (by first | omega | (dsimp only; omega))
  · exact blk_1 m c t _ _ _ _ (by first | omega | (dsimp only; omega)) (by first | omega | (dsimp only; omega))
/-- Result 0 as an array of the operands. -/
def res_2 (a : Vec Ideal S4096x1024 .bf16) (b : Vec Ideal S1024x1024 .bf16) : Vec Ideal S4096x1024 .f32 := fun x => prod a b (x 0) (x 1)
/-- A grid point's block of result 0. -/
theorem val_2 (t : Fin cfg0.N) (p : Fin 1024) (q : Fin 1024) (i : Fin 4096) (j : Fin 1024) (hi : i.val = (t.val) * 1024 + p.val) (hj : j.val = (0) * 1024 + q.val) :
    (outsAt0 m c t) (ix2 p q) = res_2 (A0 m c) (A1 m c) (ix2 i j) := by
  rw [out_2 m c t]
  exact acc m c t p q i j hi hj
/-- Result 0 after the run. -/
theorem arr_2 : ((dats m 0 c).arrAt 2 cfg0.N : Vec Ideal S4096x1024 .f32) = res_2 (A0 m c) (A1 m c) := by
  refine (dats m 0 c).arrAt_eq_of_cover 2 (res_2 (A0 m c) (A1 m c)) (fun t hf => ?_) fun i => ?_
  · rw [flushed2]
    funext y
    have h := ix_2 t
    have hy0 : (y 0).val < 1024 := (y 0).isLt
    have hy1 : (y 1).val < 1024 := (y 1).isLt
    have hN : t.val < 4 := lt_of_lt_of_eq t.isLt (show cfg0.N = 4 from N_0)
    have e : ((cfg0.win 2).blk t).view.emb y = (ix2 ⟨(t.val) * 1024 + (y 0).val, by omega⟩ ⟨(0) * 1024 + (y 1).val, by omega⟩ : S4096x1024.Idx) := by
      funext a
      apply Fin.ext
      match a with
      | ⟨0, _⟩ => show win0_2.index t 0 * 1024 + 1 * (y 0).val = (t.val) * 1024 + (y 0).val; rw [h.1]; omega
      | ⟨1, _⟩ => show win0_2.index t 1 * 1024 + 1 * (y 1).val = (0) * 1024 + (y 1).val; rw [h.2]; omega
    have ex : (cfg0.win 2).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t) ((cfg0.win 2).xinj (grid0.coords t) y) = res_2 (A0 m c) (A1 m c) (((cfg0.win 2).blk t).view.emb y)
    rw [e, ex]
    exact val_2 m c t _ _ _ _ rfl rfl
  · have h0 : (i 0 : Nat) < 4096 := (i 0).isLt
    have h1 : (i 1 : Nat) < 1024 := (i 1).isLt
    obtain ⟨t, ht⟩ : ∃ t : Fin cfg0.N, t.val = (i 0 : Nat) / 1024 * 1 + (i 1 : Nat) / 1024 :=
      ⟨⟨(i 0 : Nat) / 1024 * 1 + (i 1 : Nat) / 1024, lt_of_lt_of_eq (by omega) (show 4 = cfg0.N from N_0.symm)⟩, rfl⟩
    have h := ix_2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [h.1]; omega
    | ⟨1, _⟩ => show win0_2.index t 1 * 1024 ≤ (i 1 : Nat) ∧ (i 1 : Nat) < win0_2.index t 1 * 1024 + 1024; rw [h.2]; omega

end Cert.Kernel12Ideal.Value

end
-- ==== Proof.Same12.lean ====
/- The gradient of the output of one branch. Both programs end with the same arrays over the extended reals. -/
module

public import proofs.«01_k».proof.Defs
public import proofs.«01_k».proof.Proof.Mul12
public import proofs.«01_k».proof.Proof.Gen.Reference12Ideal
public import proofs.«01_k».proof.Proof.Gen.Reference12Ideal.Run
public import proofs.«01_k».proof.Proof.Gen.Reference12Ideal.Read
public import Idealize.ShloMosaic.Lib.Pointwise
public import Idealize.ShloMosaic.Lib.Claim
public import Idealize.ShloMosaic.Adequacy

@[expose] public section

set_option maxRecDepth 16384

noncomputable section

namespace Cert.Reference12Ideal.Value

open Cert.Reference12Ideal Cert.Reference12Ideal.Read Cert.Kernel12Ideal.Value Cert.Sums Idealize.ShloMosaic

/-- The reference's result 0. -/
theorem ref_2 (x0 : (⟨S4096x1024, .bf16⟩ : BufTy).Contents (Elt Ideal)) (x1 : (⟨S1024x1024, .bf16⟩ : BufTy).Contents (Elt Ideal)) : val_main_v4 (F := Ideal) x0 x1 = Cert.Kernel12Ideal.Value.res_2 x0 x1 := by
  funext x
  rw [eq_ix2 x]
  pointwise [val_main_cst, val_main_v0, val_main_v1, val_main_v2, val_main_v3, val_main_v4, res_2, prod]

end Cert.Reference12Ideal.Value

namespace Cert.Proof

open Idealize.ShloMosaic Idealize.ShloMosaic.StableHlo Idealize.SL.Sem

/-- The frame of this reference: its run leaves the arguments, and it declares no counter. -/
theorem d_y_reference_frame : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- The call and its reference end with the same arrays over the extended reals. -/
theorem d_y_same : Cert.algebraic_Kernel12Ideal_Reference12Ideal (hKernel12Ideal := Cert.Kernel12Ideal.Gen.facts) (hReference12Ideal := Cert.Reference12Ideal.Gen.facts) := by
  intro m ρ m' ρ' _ hag
  refine ⟨fun c => (Cert.Kernel12Ideal.Gen.dats m 0 c).arrAt 2 Cert.Kernel12Ideal.cfg0.N,
    Cert.Kernel12Ideal.Value.run_blocks m ρ, ?_⟩
  refine (θ_run Cert.Reference12Ideal.defs _ _).mono ?_ (Cert.Reference12Ideal.Value.run (F := Ideal) m' ρ')
  intro r h c
  obtain ⟨e0, e1⟩ := hag c
  obtain ⟨h0, hk⟩ := h c
  refine ⟨h0.trans ?_, hk⟩
  · rw [Cert.Reference12Ideal.Read.val_main_v4_eq]
    repeat rw [launchContents_devRef]
    rw [e0, e1, Cert.Reference12Ideal.Value.ref_2]
    exact (Cert.Kernel12Ideal.Value.arr_2 m c).symm

end Cert.Proof

end
-- ==== Proof.Mul13.lean ====
/- The gradient of the merged branches. -/
module

public import proofs.«01_k».proof.Proof.Sums
public import proofs.«01_k».proof.Proof.Gen.Kernel13Ideal.Value
public import Idealize.ShloMosaic.Lib.Pointwise
public import Idealize.ShloMosaic.Lib.Claim
public import Idealize.ShloMosaic.Lib.Pipeline.Value

@[expose] public section

set_option maxRecDepth 16384

noncomputable section

namespace Cert.Kernel13Ideal.Value

open Cert.Kernel13Ideal Cert.Kernel13Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .f32 := iblk m c 0 t
/-- Operand 0 as the launch finds it. -/
def A0 : Vec Ideal S4096x1024 .f32 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S1024x1024 .bf16 := m ((c : Thread nD τ).loc main_arg1)
theorem ix_0 : ∀ t : Fin cfg0.N, win0_0.index t 0 = t.val ∧ win0_0.index t 1 = 0 := by
  show ∀ t : Fin grid0.N, _
  decide +kernel
theorem ix_1 : ∀ t : Fin cfg0.N, win0_1.index t 0 = 0 ∧ win0_1.index t 1 = 0 := by
  show ∀ t : Fin grid0.N, _
  decide +kernel
theorem ix_2 : ∀ t : Fin cfg0.N, win0_2.index t 0 = t.val ∧ win0_2.index t 1 = 0 := by
  show ∀ t : Fin grid0.N, _
  decide +kernel
/-- The block of operand 0 read in the operand. -/
theorem blk_0 (t : Fin cfg0.N) (p : Fin 1024) (q : Fin 1024) (i : Fin 4096) (j : Fin 1024)
    (hi : i.val = (t.val) * 1024 + p.val) (hj : j.val = (0) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 1024) (j : Fin 1024)
    (hi : i.val = (0) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- One product of two blocks, added to what was there. -/
theorem mul_at (z : Vec Ideal S1024x1024 .f32) (x0 : Vec Ideal S1024x1024 .f32) (x1 : Vec Ideal S1024x1024 .bf16) (p : Fin 1024) (q : Fin 1024) :
    k0_pay2 (F := Ideal) z x0 x1 (ix2 p q) = z (ix2 p q) + ∑ e : Fin 1024, x0 (ix2 p e) * x1 (ix2 q e) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x1024 .f32) (b : Vec Ideal S1024x1024 .bf16) (i : Fin 4096) (j : Fin 1024) : EReal :=
  ∑ e : Fin 1024, a (ix2 i e) * b (ix2 j e)
/-- What a grid point leaves in output 0. -/
theorem out_2 (t : Fin cfg0.N) : (outsAt0 m c t) = (k0_pay2 (F := Ideal) (k0_pay1 (F := Ideal)) (X0 m c t) (X1 m c t)) := by
  unfold outsAt0
  try dsimp only
  unfold out0_A_2
  rw [View.read_writes_eq_canon]
  on_goal 2 => intro y; apply cover0_A_2
  unfold kernelRun0_A
  dsimp only
  rw [View.canon_unit_zero (S := S1024x1024) hz]
  try simp only [View.readAt_eq_ld, (hs0_0 t).read_unread, (hs0_1 t).read_unread, View.ld_unit_zero (S := S1024x1024) hz]
  unfold kernelRun0_A.sl.v15
  unfold kernelRun0_A.sl.HS0_2
  rw [View.readCov_cons_toLoadRect]
  simp only [View.readAt_eq_ld, (hs0_0 t).read_unread, (hs0_1 t).read_unread, View.ld_unit_zero (S := S1024x1024) hz]
  unfold kernelRun0_A.sl.v3 kernelRun0_A.sl.HS0_1
  rw [View.readCov_unit_zero (S := S1024x1024) _ hz]
  rfl
/-- The product of the blocks at a grid point, read in the operands. -/
theorem acc (t : Fin cfg0.N) (p : Fin 1024) (q : Fin 1024) (i : Fin 4096) (j : Fin 1024) (hi : i.val = (t.val) * 1024 + p.val) (hj : j.val = (0) * 1024 + q.val) :
    k0_pay2 (F := Ideal) (k0_pay1 (F := Ideal)) (X0 m c t) (X1 m c t) (ix2 p q) = prod (A0 m c) (A1 m c) i j := by
  rw [mul_at, zero_at, zero_add]
  refine Finset.sum_congr rfl fun e _ => ?_
  congr 1
  · exact blk_0 m c t _ _ _ _ (by first | omega | (dsimp only; omega)) (by first | omega | (dsimp only; omega))
  · exact blk_1 m c t _ _ _ _ (by first | omega | (dsimp only; omega)) (by first | omega | (dsimp only; omega))
/-- Result 0 as an array of the operands. -/
def res_2 (a : Vec Ideal S4096x1024 .f32) (b : Vec Ideal S1024x1024 .bf16) : Vec Ideal S4096x1024 .f32 := fun x => prod a b (x 0) (x 1)
/-- A grid point's block of result 0. -/
theorem val_2 (t : Fin cfg0.N) (p : Fin 1024) (q : Fin 1024) (i : Fin 4096) (j : Fin 1024) (hi : i.val = (t.val) * 1024 + p.val) (hj : j.val = (0) * 1024 + q.val) :
    (outsAt0 m c t) (ix2 p q) = res_2 (A0 m c) (A1 m c) (ix2 i j) := by
  rw [out_2 m c t]
  exact acc m c t p q i j hi hj
/-- Result 0 after the run. -/
theorem arr_2 : ((dats m 0 c).arrAt 2 cfg0.N : Vec Ideal S4096x1024 .f32) = res_2 (A0 m c) (A1 m c) := by
  refine (dats m 0 c).arrAt_eq_of_cover 2 (res_2 (A0 m c) (A1 m c)) (fun t hf => ?_) fun i => ?_
  · rw [flushed2]
    funext y
    have h := ix_2 t
    have hy0 : (y 0).val < 1024 := (y 0).isLt
    have hy1 : (y 1).val < 1024 := (y 1).isLt
    have hN : t.val < 4 := lt_of_lt_of_eq t.isLt (show cfg0.N = 4 from N_0)
    have e : ((cfg0.win 2).blk t).view.emb y = (ix2 ⟨(t.val) * 1024 + (y 0).val, by omega⟩ ⟨(0) * 1024 + (y 1).val, by omega⟩ : S4096x1024.Idx) := by
      funext a
      apply Fin.ext
      match a with
      | ⟨0, _⟩ => show win0_2.index t 0 * 1024 + 1 * (y 0).val = (t.val) * 1024 + (y 0).val; rw [h.1]; omega
      | ⟨1, _⟩ => show win0_2.index t 1 * 1024 + 1 * (y 1).val = (0) * 1024 + (y 1).val; rw [h.2]; omega
    have ex : (cfg0.win 2).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t) ((cfg0.win 2).xinj (grid0.coords t) y) = res_2 (A0 m c) (A1 m c) (((cfg0.win 2).blk t).view.emb y)
    rw [e, ex]
    exact val_2 m c t _ _ _ _ rfl rfl
  · have h0 : (i 0 : Nat) < 4096 := (i 0).isLt
    have h1 : (i 1 : Nat) < 1024 := (i 1).isLt
    obtain ⟨t, ht⟩ : ∃ t : Fin cfg0.N, t.val = (i 0 : Nat) / 1024 * 1 + (i 1 : Nat) / 1024 :=
      ⟨⟨(i 0 : Nat) / 1024 * 1 + (i 1 : Nat) / 1024, lt_of_lt_of_eq (by omega) (show 4 = cfg0.N from N_0.symm)⟩, rfl⟩
    have h := ix_2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [h.1]; omega
    | ⟨1, _⟩ => show win0_2.index t 1 * 1024 ≤ (i 1 : Nat) ∧ (i 1 : Nat) < win0_2.index t 1 * 1024 + 1024; rw [h.2]; omega

end Cert.Kernel13Ideal.Value

end
-- ==== Proof.Same13.lean ====
/- The gradient of the merged branches. Both programs end with the same arrays over the extended reals. -/
module

public import proofs.«01_k».proof.Defs
public import proofs.«01_k».proof.Proof.Mul13
public import proofs.«01_k».proof.Proof.Gen.Reference13Ideal
public import proofs.«01_k».proof.Proof.Gen.Reference13Ideal.Run
public import proofs.«01_k».proof.Proof.Gen.Reference13Ideal.Read
public import Idealize.ShloMosaic.Lib.Pointwise
public import Idealize.ShloMosaic.Lib.Claim
public import Idealize.ShloMosaic.Adequacy

@[expose] public section

set_option maxRecDepth 16384

noncomputable section

namespace Cert.Reference13Ideal.Value

open Cert.Reference13Ideal Cert.Reference13Ideal.Read Cert.Kernel13Ideal.Value Cert.Sums Idealize.ShloMosaic

/-- The reference's result 0. -/
theorem ref_2 (x0 : (⟨S4096x1024, .f32⟩ : BufTy).Contents (Elt Ideal)) (x1 : (⟨S1024x1024, .bf16⟩ : BufTy).Contents (Elt Ideal)) : val_main_v3 (F := Ideal) x0 x1 = Cert.Kernel13Ideal.Value.res_2 x0 x1 := by
  funext x
  rw [eq_ix2 x]
  pointwise [val_main_cst, val_main_v0, val_main_v1, val_main_v2, val_main_v3, res_2, prod]

end Cert.Reference13Ideal.Value

namespace Cert.Proof

open Idealize.ShloMosaic Idealize.ShloMosaic.StableHlo Idealize.SL.Sem

/-- The frame of this reference: its run leaves the arguments, and it declares no counter. -/
theorem d_merged_reference_frame : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

/-- The call and its reference end with the same arrays over the extended reals. -/
theorem d_merged_same : Cert.algebraic_Kernel13Ideal_Reference13Ideal (hKernel13Ideal := Cert.Kernel13Ideal.Gen.facts) (hReference13Ideal := Cert.Reference13Ideal.Gen.facts) := by
  intro m ρ m' ρ' _ hag
  refine ⟨fun c => (Cert.Kernel13Ideal.Gen.dats m 0 c).arrAt 2 Cert.Kernel13Ideal.cfg0.N,
    Cert.Kernel13Ideal.Value.run_blocks m ρ, ?_⟩
  refine (θ_run Cert.Reference13Ideal.defs _ _).mono ?_ (Cert.Reference13Ideal.Value.run (F := Ideal) m' ρ')
  intro r h c
  obtain ⟨e0, e1⟩ := hag c
  obtain ⟨h0, hk⟩ := h c
  refine ⟨h0.trans ?_, hk⟩
  · rw [Cert.Reference13Ideal.Read.val_main_v3_eq]
    repeat rw [launchContents_devRef]
    rw [e0, e1, Cert.Reference13Ideal.Value.ref_2]
    exact (Cert.Kernel13Ideal.Value.arr_2 m c).symm

end Cert.Proof

end
-- ==== Proof.Mul14.lean ====
/- The gradient of the output weight. -/
module

public import proofs.«01_k».proof.Proof.Sums
public import proofs.«01_k».proof.Proof.Gen.Kernel14Ideal.Value
public import Idealize.ShloMosaic.Lib.Pointwise
public import Idealize.ShloMosaic.Lib.Claim
public import Idealize.ShloMosaic.Lib.Pipeline.Value

@[expose] public section

set_option maxRecDepth 16384

noncomputable section

namespace Cert.Kernel14Ideal.Value

open Cert.Kernel14Ideal Cert.Kernel14Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .bf16 := iblk m c 0 t
/-- Operand 0 as the launch finds it. -/
def A0 : Vec Ideal S4096x1024 .bf16 := m ((c : Thread nD τ).loc main_arg0)
/-- The block of operand 1 at a grid point. -/
def X1 (t : Fin cfg0.N) : Vec Ideal S1024x1024 .f32 := iblk m c 1 t
/-- Operand 1 as the launch finds it. -/
def A1 : Vec Ideal S4096x1024 .f32 := m ((c : Thread nD τ).loc main_arg1)
theorem ix_0 : ∀ t : Fin cfg0.N, win0_0.index t 0 = t.val % 4 ∧ win0_0.index t 1 = 0 := by
  show ∀ t : Fin grid0.N, _
  decide +kernel
theorem ix_1 : ∀ t : Fin cfg0.N, win0_1.index t 0 = t.val % 4 ∧ win0_1.index t 1 = 0 := by
  show ∀ t : Fin grid0.N, _
  decide +kernel
theorem ix_2 : ∀ t : Fin cfg0.N, win0_2.index t 0 = 0 ∧ win0_2.index t 1 = 0 := by
  show ∀ t : Fin grid0.N, _
  decide +kernel
/-- The block of operand 0 read in the operand. -/
theorem blk_0 (t : Fin cfg0.N) (p : Fin 1024) (q : Fin 1024) (i : Fin 4096) (j : Fin 1024)
    (hi : i.val = (t.val % 4) * 1024 + p.val) (hj : j.val = (0) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 4096) (j : Fin 1024)
    (hi : i.val = (t.val % 4) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- One product of two blocks, added to what was there. -/
theorem mul_at (z : Vec Ideal S1024x1024 .f32) (x0 : Vec Ideal S1024x1024 .bf16) (x1 : Vec Ideal S1024x1024 .f32) (p : Fin 1024) (q : Fin 1024) :
    k0_pay2 (F := Ideal) z x0 x1 (ix2 p q) = z (ix2 p q) + ∑ e : Fin 1024, x0 (ix2 e p) * x1 (ix2 e q) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x1024 .bf16) (b : Vec Ideal S4096x1024 .f32) (i : Fin 1024) (j : Fin 1024) : EReal :=
  ∑ e : Fin 4096, a (ix2 e i) * b (ix2 e j)
/-- What a point of case A leaves in the running sum. -/
theorem sc_A (t : Fin cfg0.N) (h0 : t.val % 4 = 0) (h1 : ¬t.val % 4 = 3) :
    (outsAt0 m c t.val t.isLt).2 = k0_pay2 (F := Ideal) (k0_pay1 (F := Ideal)) (X0 m c t) (X1 m c t) := by
  rw [outsAt0_A m c t h0 h1]
  dsimp only
  unfold sout0_A_0
  rw [View.read_writes_eq_canon]
  on_goal 2 => intro y; apply scover0_A_0
  unfold kernelRun0_A
  dsimp only
  rw [View.canon_cons_unit_zero (S := S1024x1024) hz]
  simp only [View.readAt_eq_ld, (hs0_0 t).read_unread, (hs0_1 t).read_unread, View.ld_unit_zero (S := S1024x1024) hz]
  unfold kernelRun0_A.sl.v3 kernelRun0_A.sl.HS0_1
  rw [View.readCov_unit_zero (S := S1024x1024) _ hz]
  rfl
/-- What a point of case B leaves in the running sum. -/
theorem sc_B (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (X0 m c t) (X1 m c t) := by
  rw [outsAt0_B m c t h0 h1]
  dsimp only
  unfold sout0_B_0
  rw [View.read_writes_eq_canon]
  on_goal 2 => intro y; apply scover0_B_0
  unfold kernelRun0_B
  dsimp only
  rw [View.canon_unit_zero (S := S1024x1024) hz]
  simp only [View.readAt_eq_ld, (hs0_0 t).read_unread, (hs0_1 t).read_unread, View.ld_unit_zero (S := S1024x1024) hz]
  refine congrArg (fun z => k0_pay2 (F := Ideal) z (X0 m c t) (X1 m c t)) ?_
  exact Memref.IsWhole.read_unread (Memref.isWhole_whole _) _
/-- What a run's last point leaves in output 0. -/
theorem out_2 (t : Fin cfg0.N) (h0 : ¬t.val % 4 = 0) (h1 : t.val % 4 = 3) :
    (outsAt0 m c t.val t.isLt).1 = (k0_pay2 (F := Ideal) (outsAt0 m c (t.val - 1) (Nat.lt_of_le_of_lt (Nat.sub_le _ _) t.isLt)).2 (X0 m c t) (X1 m c t)) := by
  rw [outsAt0_C m c t h0 h1]
  dsimp only
  unfold out0_C_2
  rw [View.read_writes_eq_canon]
  on_goal 2 => intro y; apply cover0_C_2
  unfold kernelRun0_C
  dsimp only
  rw [View.canon_unit_zero (S := S1024x1024) hz]
  try simp only [View.readAt_eq_ld, (hs0_0 t).read_unread, (hs0_1 t).read_unread, View.ld_unit_zero (S := S1024x1024) hz]
  unfold kernelRun0_C.sl.v15 kernelRun0_C.sl.HS0_1
  rw [View.readCov_unit_zero (S := S1024x1024) _ hz]
  simp only [View.readAt_eq_ld, (hs0_0 t).read_unread, (hs0_1 t).read_unread, View.ld_unit_zero (S := S1024x1024) hz]
  exact congrArg (fun z => (k0_pay2 (F := Ideal) z (X0 m c t) (X1 m c t))) (Memref.IsWhole.read_unread (Memref.isWhole_whole _) _)
/-- One term of the product of the two operands. -/
def term (i : Fin 1024) (j : Fin 1024) (e : Fin 4096) : EReal := A0 m c (ix2 e i) * A1 m c (ix2 e j)
/-- A point's own product, read in the operands. -/
theorem part (t : Fin cfg0.N) (p : Fin 1024) (q : Fin 1024) (i : Fin 1024) (j : Fin 1024) (hi : i.val = (0) * 1024 + p.val)
    (hj : j.val = (0) * 1024 + q.val) (k : Fin 4) (hk : k.val = t.val % 4) :
    ∑ e : Fin 1024, X0 m c t (ix2 e p) * X1 m c t (ix2 e q) = ∑ e, term m c i j (at4 k e) := by
  unfold term
  refine Finset.sum_congr rfl fun e _ => ?_
  congr 1
  · exact blk_0 m c t _ _ _ _ (by first | omega | (dsimp only [at4]; omega)) (by first | omega | (dsimp only [at4]; omega))
  · exact blk_1 m c t _ _ _ _ (by first | omega | (dsimp only [at4]; omega)) (by first | omega | (dsimp only [at4]; omega))
/-- The running sum before a run's last point: the first three pieces. -/
theorem before (t : Fin cfg0.N) (h : t.val % 4 = 3) (p : Fin 1024) (q : Fin 1024) (i : Fin 1024) (j : Fin 1024) (hi : i.val = (0) * 1024 + p.val)
    (hj : j.val = (0) * 1024 + q.val) :
    k0_pay2 (F := Ideal) (outsAt0 m c (t.val - 1) (Nat.lt_of_le_of_lt (Nat.sub_le _ _) t.isLt)).2 (X0 m c t) (X1 m c t) (ix2 p q) = prod (A0 m c) (A1 m c) i j := by
  have ht : t.val < cfg0.N := t.isLt
  have e1 := sc_B m c ⟨t.val - 1, by omega⟩ (by first | omega | (dsimp only; omega)) (by first | omega | (dsimp only; omega))
  have e2 := sc_B m c ⟨t.val - 1 - 1, by omega⟩ (by first | omega | (dsimp only; omega)) (by first | omega | (dsimp only; omega))
  have e3 := sc_A m c ⟨t.val - 1 - 1 - 1, by omega⟩ (by first | omega | (dsimp only; omega)) (by first | omega | (dsimp only; omega))
  dsimp only at e1 e2 e3
  rw [e1, e2, e3]
  simp only [mul_at, zero_at]
  rw [part m c t p q i j hi hj 3 h.symm, part m c ⟨t.val - 1, _⟩ p q i j (by first | omega | (dsimp only; omega)) (by first | omega | (dsimp only; omega)) 2 (by first | omega | (dsimp only; omega)),
    part m c ⟨t.val - 1 - 1, _⟩ p q i j (by first | omega | (dsimp only; omega)) (by first | omega | (dsimp only; omega)) 1 (by first | omega | (dsimp only; omega)),
    part m c ⟨t.val - 1 - 1 - 1, _⟩ p q i j (by first | omega | (dsimp only; omega)) (by first | omega | (dsimp only; omega)) 0 (by first | omega | (dsimp only; omega)), zero_add]
  exact sum_four (term m c i j)
/-- Result 0 as an array of the operands. -/
def res_2 (a : Vec Ideal S4096x1024 .bf16) (b : Vec Ideal S4096x1024 .f32) : Vec Ideal S1024x1024 .f32 := fun x => prod a b (x 0) (x 1)
/-- A grid point's block of result 0. -/
theorem val_2 (t : Fin cfg0.N) (ht : t.val % 4 = 3) (p : Fin 1024) (q : Fin 1024) (i : Fin 1024) (j : Fin 1024) (hi : i.val = (0) * 1024 + p.val) (hj : j.val = (0) * 1024 + q.val) :
    (outsAt0 m c t.val t.isLt).1 (ix2 p q) = res_2 (A0 m c) (A1 m c) (ix2 i j) := by
  rw [out_2 m c t (by omega) ht]
  exact before m c t ht p q i j hi hj
/-- Result 0 after the run. -/
theorem arr_2 : ((dats m 0 c).arrAt 2 cfg0.N : Vec Ideal S1024x1024 .f32) = res_2 (A0 m c) (A1 m c) := by
  refine (dats m 0 c).arrAt_eq_of_cover 2 (res_2 (A0 m c) (A1 m c)) (fun t hf => ?_) fun i => ?_
  · rw [flushed2]
    funext y
    have h := ix_2 t
    have hy0 : (y 0).val < 1024 := (y 0).isLt
    have hy1 : (y 1).val < 1024 := (y 1).isLt
    have hN : t.val < 4 := lt_of_lt_of_eq t.isLt (show cfg0.N = 4 from N_0)
    have e : ((cfg0.win 2).blk t).view.emb y = (ix2 ⟨(0) * 1024 + (y 0).val, by omega⟩ ⟨(0) * 1024 + (y 1).val, by omega⟩ : S1024x1024.Idx) := by
      funext a
      apply Fin.ext
      match a with
      | ⟨0, _⟩ => show win0_2.index t 0 * 1024 + 1 * (y 0).val = (0) * 1024 + (y 0).val; rw [h.1]; omega
      | ⟨1, _⟩ => show win0_2.index t 1 * 1024 + 1 * (y 1).val = (0) * 1024 + (y 1).val; rw [h.2]; omega
    have ex : (cfg0.win 2).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t.val t.isLt).1 ((cfg0.win 2).xinj (grid0.coords t) y) = res_2 (A0 m c) (A1 m c) (((cfg0.win 2).blk t).view.emb y)
    rw [e, ex]
    exact val_2 m c t ((flush0_2 t).mp hf) _ _ _ _ rfl rfl
  · have h0 : (i 0 : Nat) < 1024 := (i 0).isLt
    have h1 : (i 1 : Nat) < 1024 := (i 1).isLt
    exact (covered_iff2 i).2 (by omega)

end Cert.Kernel14Ideal.Value

end
-- ==== Proof.Same14.lean ====
/- The gradient of the output weight. Both programs end with the same arrays over the extended reals. -/
module

public import proofs.«01_k».proof.Defs
public import proofs.«01_k».proof.Proof.Mul14
public import proofs.«01_k».proof.Proof.Gen.Reference14Ideal
public import proofs.«01_k».proof.Proof.Gen.Reference14Ideal.Run
public import proofs.«01_k».proof.Proof.Gen.Reference14Ideal.Read
public import Idealize.ShloMosaic.Lib.Pointwise
public import Idealize.ShloMosaic.Lib.Claim
public import Idealize.ShloMosaic.Adequacy

@[expose] public section

set_option maxRecDepth 16384

noncomputable section

namespace Cert.Reference14Ideal.Value

open Cert.Reference14Ideal Cert.Reference14Ideal.Read Cert.Kernel14Ideal.Value Cert.Sums Idealize.ShloMosaic

/-- The reference's result 0. -/
theorem ref_2 (x0 : (⟨S4096x1024, .bf16⟩ : BufTy).Contents (Elt Ideal)) (x1 : (⟨S4096x1024, .f32⟩ : BufTy).Contents (Elt Ideal)) : val_main_v4 (F := Ideal) x0 x1 = Cert.Kernel14Ideal.Value.res_2 x0 x1 := by
  funext x
  rw [eq_ix2 x]
  pointwise [val_main_cst, val_main_v0, val_main_v1, val_main_v2, val_main_v3, val_main_v4, res_2, prod]
  exact Finset.sum_congr rfl fun e _ => mul_comm _ _

end Cert.Reference14Ideal.Value

namespace Cert.Proof

open Idealize.ShloMosaic Idealize.ShloMosaic.StableHlo Idealize.SL.Sem

/-- The frame of this reference: its run leaves the arguments, and it declares no counter. -/
theorem dw_out_reference_frame : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

/-- The call and its reference end with the same arrays over the extended reals. -/
theorem dw_out_same : Cert.algebraic_Kernel14Ideal_Reference14Ideal (hKernel14Ideal := Cert.Kernel14Ideal.Gen.facts) (hReference14Ideal := Cert.Reference14Ideal.Gen.facts) := by
  intro m ρ m' ρ' _ hag
  refine ⟨fun c => (Cert.Kernel14Ideal.Gen.dats m 0 c).arrAt 2 Cert.Kernel14Ideal.cfg0.N,
    Cert.Kernel14Ideal.Value.run_blocks m ρ, ?_⟩
  refine (θ_run Cert.Reference14Ideal.defs _ _).mono ?_ (Cert.Reference14Ideal.Value.run (F := Ideal) m' ρ')
  intro r h c
  obtain ⟨e0, e1⟩ := hag c
  obtain ⟨h0, hk⟩ := h c
  refine ⟨h0.trans ?_, hk⟩
  · rw [Cert.Reference14Ideal.Read.val_main_v4_eq]
    repeat rw [launchContents_devRef]
    rw [e0, e1, Cert.Reference14Ideal.Value.ref_2]
    exact (Cert.Kernel14Ideal.Value.arr_2 m c).symm

end Cert.Proof

end
-- ==== Proof.Mul15.lean ====
/- The projection of the merged branches, its residual and the next norm. -/
module

public import proofs.«01_k».proof.Proof.Sums
public import proofs.«01_k».proof.Proof.Gen.Kernel15Ideal.Value
public import Idealize.ShloMosaic.Lib.Pointwise
public import Idealize.ShloMosaic.Lib.Claim
public import Idealize.ShloMosaic.Lib.Pipeline.Value

@[expose] public section

set_option maxRecDepth 16384

noncomputable section

namespace Cert.Kernel15Ideal.Value

open Cert.Kernel15Ideal Cert.Kernel15Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of operand 0 at a grid point. -/
def X0 (t : Fin cfg0.N) : Vec Ideal S1024x1024 .bf16 := iblk m c 0 t
/-- Operand 0 as the launch finds it. -/
def A0 : Vec Ideal S4096x1024 .bf16 := m ((c : Thread nD τ).loc main_arg0)
/-- The block of operand 1 at a grid point. -/
def X1 (t : Fin cfg0.N) : Vec Ideal S1024x1024 .bf16 := iblk m c 1 t
/-- Operand 1 as the launch finds it. -/
def A1 : Vec Ideal S1024x1024 .bf16 := m ((c : Thread nD τ).loc main_arg1)
/-- The block of operand 2 at a grid point. -/
def X2 (t : Fin cfg0.N) : Vec Ideal S1024x1024 .f32 := iblk m c 2 t
/-- Operand 2 as the launch finds it. -/
def A2 : Vec Ideal S4096x1024 .f32 := m ((c : Thread nD τ).loc main_arg2)
/-- Operand 3, one row, as a grid point finds it. -/
def X3 (t : Fin cfg0.N) : Vec Ideal S1x1024 .f32 := iblk m c 3 t
/-- Operand 3 as the call is given it. -/
def A3 : Vec Ideal S1024 .f32 := m ((c : Thread nD τ).loc main_arg3)
/-- The launch's row is the argument laid out. -/
theorem V_row : V m c main_v0 = (shapeCast S1x1024 (A3 m c) shapeCasts_S1024_S1x1024 : Vec Ideal S1x1024 .f32) := by
  unfold A3
  show StableHlo.after hostOps0 _ (Proc.devRef .tc main_v0) = _
  after_results
  rfl
theorem ix_3 : ∀ t : Fin cfg0.N, win0_3.index t 0 = 0 ∧ win0_3.index t 1 = 0 := by
  show ∀ t : Fin grid0.N, _
  decide +kernel
/-- The row read in the argument. -/
theorem blk_3 (t : Fin cfg0.N) (q : Fin 1024) : X3 m c t (ix2 0 q) = A3 m c (ix1 q) := by
  have h := ix_3 t
  unfold X3 iblk
  rw [View.read_apply]
  show V m c main_v0 _ = _
  rw [V_row]
  refine (congrArg (shapeCast S1x1024 (A3 m c) shapeCasts_S1024_S1x1024 : Vec Ideal S1x1024 .f32) (?_ : _ = ix2 0 q)).trans ?_
  · funext a
    apply Fin.ext
    match a with
    | ⟨0, _⟩ => show win0_3.index t 0 * 1 + 1 * 0 = 0; rw [h.1]
    | ⟨1, _⟩ => show win0_3.index t 1 * 1024 + 1 * q.val = q.val; rw [h.2]; omega
  pointwise
theorem ix_0 : ∀ t : Fin cfg0.N, win0_0.index t 0 = t.val ∧ win0_0.index t 1 = 0 := by
  show ∀ t : Fin grid0.N, _
  decide +kernel
theorem ix_1 : ∀ t : Fin cfg0.N, win0_1.index t 0 = 0 ∧ win0_1.index t 1 = 0 := by
  show ∀ t : Fin grid0.N, _
  decide +kernel
theorem ix_2 : ∀ t : Fin cfg0.N, win0_2.index t 0 = t.val ∧ win0_2.index t 1 = 0 := by
  show ∀ t : Fin grid0.N, _
  decide +kernel
theorem ix_4 : ∀ t : Fin cfg0.N, win0_4.index t 0 = t.val ∧ win0_4.index t 1 = 0 := by
  show ∀ t : Fin grid0.N, _
  decide +kernel
theorem ix_5 : ∀ t : Fin cfg0.N, win0_5.index t 0 = t.val ∧ win0_5.index t 1 = 0 := by
  show ∀ t : Fin grid0.N, _
  decide +kernel
/-- The block of operand 0 read in the operand. -/
theorem blk_0 (t : Fin cfg0.N) (p : Fin 1024) (q : Fin 1024) (i : Fin 4096) (j : Fin 1024)
    (hi : i.val = (t.val) * 1024 + p.val) (hj : j.val = (0) * 1024 + q.val) : X0 m c t (ix2 p q) = A0 m c (ix2 i j) := by
  have h := ix_0 t
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of operand 1 read in the operand. -/
theorem blk_1 (t : Fin cfg0.N) (p : Fin 1024) (q : Fin 1024) (i : Fin 1024) (j : Fin 1024)
    (hi : i.val = (0) * 1024 + p.val) (hj : j.val = (0) * 1024 + q.val) : X1 m c t (ix2 p q) = A1 m c (ix2 i j) := by
  have h := ix_1 t
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- The block of operand 2 read in the operand. -/
theorem blk_2 (t : Fin cfg0.N) (p : Fin 1024) (q : Fin 1024) (i : Fin 4096) (j : Fin 1024)
    (hi : i.val = (t.val) * 1024 + p.val) (hj : j.val = (0) * 1024 + q.val) : X2 m c t (ix2 p q) = A2 m c (ix2 i j) := by
  have h := ix_2 t
  unfold X2 A2 iblk
  rw [View.read_apply]
  show V m c main_arg2 _ = _
  rw [V_main_arg2]
  congr 1
  funext a
  apply Fin.ext
  match a with
  | ⟨0, _⟩ => show win0_2.index t 0 * 1024 + 1 * p.val = i.val; rw [h.1, hi]; omega
  | ⟨1, _⟩ => show win0_2.index t 1 * 1024 + 1 * q.val = j.val; rw [h.2, hj]; omega
/-- One product of two blocks, added to what was there. -/
theorem mul_at (z : Vec Ideal S1024x1024 .f32) (x0 : Vec Ideal S1024x1024 .bf16) (x1 : Vec Ideal S1024x1024 .bf16) (p : Fin 1024) (q : Fin 1024) :
    k0_pay2 (F := Ideal) z x0 x1 (ix2 p q) = z (ix2 p q) + ∑ e : Fin 1024, x0 (ix2 p e) * x1 (ix2 e q) := by
  pointwise [k0_pay2]
/-- The sum starts from zero. -/
theorem zero_at (p : Fin 1024) (q : Fin 1024) : k0_pay1 (F := Ideal) (ix2 p q) = (0 : EReal) := by
  pointwise [k0_pay1]
/-- The product of the two operands at a row and a column. -/
def prod (a : Vec Ideal S4096x1024 .bf16) (b : Vec Ideal S1024x1024 .bf16) (i : Fin 4096) (j : Fin 1024) : EReal :=
  ∑ e : Fin 1024, a (ix2 i e) * b (ix2 e j)
/-- What a grid point leaves in output 0. -/
theorem out_4 (t : Fin cfg0.N) : (outsAt0 m c t).1 = k0_pay3 (F := Ideal) (k0_pay2 (F := Ideal) (k0_pay1 (F := Ideal)) (X0 m c t) (X1 m c t)) (X2 m c t) := by
  unfold outsAt0
  try dsimp only
  unfold out0_A_4
  rw [View.read_writes_eq_canon]
  on_goal 2 => intro y; apply cover0_A_4
  unfold kernelRun0_A
  dsimp only
  rw [View.canon_unit_zero (S := S1024x1024) hz]
  try simp only [View.readAt_eq_ld, (hs0_0 t).read_unread, (hs0_1 t).read_unread, (hs0_2 t).read_unread, (hs0_3 t).read_unread, View.ld_unit_zero (S := S1024x1024) hz, View.ld_unit_zero (S := S1x1024) hz]
  unfold kernelRun0_A.sl.v14
  unfold kernelRun0_A.sl.HS0_2
  rw [View.readCov_cons_toLoadRect]
  simp only [View.readAt_eq_ld, (hs0_0 t).read_unread, (hs0_1 t).read_unread, (hs0_2 t).read_unread, (hs0_3 t).read_unread, View.ld_unit_zero (S := S1024x1024) hz, View.ld_unit_zero (S := S1x1024) hz]
  unfold kernelRun0_A.sl.v3 kernelRun0_A.sl.HS0_1
  rw [View.readCov_unit_zero (S := S1024x1024) _ hz]
  rfl
/-- What a grid point leaves in output 1. -/
theorem out_5 (t : Fin cfg0.N) : (outsAt0 m c t).2 = k0_pay4 (F := Ideal) (k0_pay2 (F := Ideal) (k0_pay1 (F := Ideal)) (X0 m c t) (X1 m c t)) (X2 m c t) (X3 m c t) := by
  unfold outsAt0
  try dsimp only
  unfold out0_A_5
  rw [View.read_writes_eq_canon]
  on_goal 2 => intro y; apply cover0_A_5
  unfold kernelRun0_A
  dsimp only
  rw [View.canon_unit_zero (S := S1024x1024) hz]
  try simp only [View.readAt_eq_ld, (hs0_0 t).read_unread, (hs0_1 t).read_unread, (hs0_2 t).read_unread, (hs0_3 t).read_unread, View.ld_unit_zero (S := S1024x1024) hz, View.ld_unit_zero (S := S1x1024) hz]
  unfold kernelRun0_A.sl.v14
  unfold kernelRun0_A.sl.HS0_2
  rw [View.readCov_cons_toLoadRect]
  simp only [View.readAt_eq_ld, (hs0_0 t).read_unread, (hs0_1 t).read_unread, (hs0_2 t).read_unread, (hs0_3 t).read_unread, View.ld_unit_zero (S := S1024x1024) hz, View.ld_unit_zero (S := S1x1024) hz]
  unfold kernelRun0_A.sl.v3 kernelRun0_A.sl.HS0_1
  rw [View.readCov_unit_zero (S := S1024x1024) _ hz]
  rfl
/-- The product of the blocks at a grid point, read in the operands. -/
theorem acc (t : Fin cfg0.N) (p : Fin 1024) (q : Fin 1024) (i : Fin 4096) (j : Fin 1024) (hi : i.val = (t.val) * 1024 + p.val) (hj : j.val = (0) * 1024 + q.val) :
    k0_pay2 (F := Ideal) (k0_pay1 (F := Ideal)) (X0 m c t) (X1 m c t) (ix2 p q) = prod (A0 m c) (A1 m c) i j := by
  rw [mul_at, zero_at, zero_add]
  refine Finset.sum_congr rfl fun e _ => ?_
  congr 1
  · exact blk_0 m c t _ _ _ _ (by first | omega | (dsimp only; omega)) (by first | omega | (dsimp only; omega))
  · exact blk_1 m c t _ _ _ _ (by first | omega | (dsimp only; omega)) (by first | omega | (dsimp only; omega))
/-- The product and the residual. -/
theorem epi_at (v x : Vec Ideal S1024x1024 .f32) (p q : Fin 1024) : k0_pay3 (F := Ideal) v x (ix2 p q) = v (ix2 p q) + x (ix2 p q) := by
  pointwise [k0_pay3]
/-- Result 0 as an array of the operands. -/
def res_4 (a : Vec Ideal S4096x1024 .bf16) (b : Vec Ideal S1024x1024 .bf16) (c : Vec Ideal S4096x1024 .f32) : Vec Ideal S4096x1024 .f32 := fun x => c (ix2 (x 0) (x 1)) + prod a b (x 0) (x 1)
/-- A grid point's block of result 0. -/
theorem val_4 (t : Fin cfg0.N) (p : Fin 1024) (q : Fin 1024) (i : Fin 4096) (j : Fin 1024) (hi : i.val = (t.val) * 1024 + p.val) (hj : j.val = (0) * 1024 + q.val) :
    (outsAt0 m c t).1 (ix2 p q) = res_4 (A0 m c) (A1 m c) (A2 m c) (ix2 i j) := by
  rw [out_4 m c t]
  rw [epi_at, acc m c t p q i j hi hj, blk_2 m c t p q i j hi hj, add_comm]
  rfl
/-- Result 0 after the run. -/
theorem arr_4 : ((dats m 0 c).arrAt 4 cfg0.N : Vec Ideal S4096x1024 .f32) = res_4 (A0 m c) (A1 m c) (A2 m c) := by
  refine (dats m 0 c).arrAt_eq_of_cover 4 (res_4 (A0 m c) (A1 m c) (A2 m c)) (fun t hf => ?_) fun i => ?_
  · rw [flushed4]
    funext y
    have h := ix_4 t
    have hy0 : (y 0).val < 1024 := (y 0).isLt
    have hy1 : (y 1).val < 1024 := (y 1).isLt
    have hN : t.val < 4 := lt_of_lt_of_eq t.isLt (show cfg0.N = 4 from N_0)
    have e : ((cfg0.win 4).blk t).view.emb y = (ix2 ⟨(t.val) * 1024 + (y 0).val, by omega⟩ ⟨(0) * 1024 + (y 1).val, by omega⟩ : S4096x1024.Idx) := by
      funext a
      apply Fin.ext
      match a with
      | ⟨0, _⟩ => show win0_4.index t 0 * 1024 + 1 * (y 0).val = (t.val) * 1024 + (y 0).val; rw [h.1]; omega
      | ⟨1, _⟩ => show win0_4.index t 1 * 1024 + 1 * (y 1).val = (0) * 1024 + (y 1).val; rw [h.2]; omega
    have ex : (cfg0.win 4).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t).1 ((cfg0.win 4).xinj (grid0.coords t) y) = res_4 (A0 m c) (A1 m c) (A2 m c) (((cfg0.win 4).blk t).view.emb y)
    rw [e, ex]
    exact val_4 m c t _ _ _ _ rfl rfl
  · have h0 : (i 0 : Nat) < 4096 := (i 0).isLt
    have h1 : (i 1 : Nat) < 1024 := (i 1).isLt
    obtain ⟨t, ht⟩ : ∃ t : Fin cfg0.N, t.val = (i 0 : Nat) / 1024 * 1 + (i 1 : Nat) / 1024 :=
      ⟨⟨(i 0 : Nat) / 1024 * 1 + (i 1 : Nat) / 1024, lt_of_lt_of_eq (by omega) (show 4 = cfg0.N from N_0.symm)⟩, rfl⟩
    have h := ix_4 t
    refine ⟨t, flush0_4 t, ?_⟩
    show i ∈ ((View.whole main_v1_0).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024; rw [h.1]; omega
    | ⟨1, _⟩ => show win0_4.index t 1 * 1024 ≤ (i 1 : Nat) ∧ (i 1 : Nat) < win0_4.index t 1 * 1024 + 1024; rw [h.2]; omega
/-- A row over its root mean square, each entry times a gain. -/
def rmsn (s g : Fin 1024 → EReal) (j : Fin 1024) : EReal :=
  s j * Ideal.rsqrt (Ideal.div (∑ k, s k * s k) (Ideal.ofBits .f32 0x44800000#32) + Ideal.ofBits .f32 0x358637BD#32) * g j
/-- The normalised sum of the product and the residual. -/
theorem nrm_at (v x : Vec Ideal S1024x1024 .f32) (g : Vec Ideal S1x1024 .f32) (p q : Fin 1024) :
    k0_pay4 (F := Ideal) v x g (ix2 p q) = rmsn (fun k => v (ix2 p k) + x (ix2 p k)) (fun k => g (ix2 0 k)) q := by
  pointwise [k0_pay4, k0_pay3, rmsn]
/-- Result 1 as an array of the operands. -/
def res_5 (a : Vec Ideal S4096x1024 .bf16) (b : Vec Ideal S1024x1024 .bf16) (c : Vec Ideal S4096x1024 .f32) (d : Vec Ideal S1024 .f32) : Vec Ideal S4096x1024 .bf16 := fun x => rmsn (fun k => c (ix2 (x 0) k) + prod a b (x 0) k) (fun k => d (ix1 k)) (x 1)
/-- A grid point's block of result 1. -/
theorem val_5 (t : Fin cfg0.N) (p : Fin 1024) (q : Fin 1024) (i : Fin 4096) (j : Fin 1024) (hi : i.val = (t.val) * 1024 + p.val) (hj : j.val = (0) * 1024 + q.val) :
    (outsAt0 m c t).2 (ix2 p q) = res_5 (A0 m c) (A1 m c) (A2 m c) (A3 m c) (ix2 i j) := by
  rw [out_5 m c t]
  have ej : j = q := Fin.ext (by omega)
  subst ej
  rw [nrm_at]
  refine congrArg₂ (fun s g => rmsn s g j) (funext fun d => ?_) (funext fun d => blk_3 m c t d)
  rw [acc m c t p d i d hi (by omega), blk_2 m c t p d i d hi (by omega), add_comm]
  rfl
/-- Result 1 after the run. -/
theorem arr_5 : ((dats m 0 c).arrAt 5 cfg0.N : Vec Ideal S4096x1024 .bf16) = res_5 (A0 m c) (A1 m c) (A2 m c) (A3 m c) := by
  refine (dats m 0 c).arrAt_eq_of_cover 5 (res_5 (A0 m c) (A1 m c) (A2 m c) (A3 m c)) (fun t hf => ?_) fun i => ?_
  · rw [flushed5]
    funext y
    have h := ix_5 t
    have hy0 : (y 0).val < 1024 := (y 0).isLt
    have hy1 : (y 1).val < 1024 := (y 1).isLt
    have hN : t.val < 4 := lt_of_lt_of_eq t.isLt (show cfg0.N = 4 from N_0)
    have e : ((cfg0.win 5).blk t).view.emb y = (ix2 ⟨(t.val) * 1024 + (y 0).val, by omega⟩ ⟨(0) * 1024 + (y 1).val, by omega⟩ : S4096x1024.Idx) := by
      funext a
      apply Fin.ext
      match a with
      | ⟨0, _⟩ => show win0_5.index t 0 * 1024 + 1 * (y 0).val = (t.val) * 1024 + (y 0).val; rw [h.1]; omega
      | ⟨1, _⟩ => show win0_5.index t 1 * 1024 + 1 * (y 1).val = (0) * 1024 + (y 1).val; rw [h.2]; omega
    have ex : (cfg0.win 5).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t).2 ((cfg0.win 5).xinj (grid0.coords t) y) = res_5 (A0 m c) (A1 m c) (A2 m c) (A3 m c) (((cfg0.win 5).blk t).view.emb y)
    rw [e, ex]
    exact val_5 m c t _ _ _ _ rfl rfl
  · have h0 : (i 0 : Nat) < 4096 := (i 0).isLt
    have h1 : (i 1 : Nat) < 1024 := (i 1).isLt
    obtain ⟨t, ht⟩ : ∃ t : Fin cfg0.N, t.val = (i 0 : Nat) / 1024 * 1 + (i 1 : Nat) / 1024 :=
      ⟨⟨(i 0 : Nat) / 1024 * 1 + (i 1 : Nat) / 1024, lt_of_lt_of_eq (by omega) (show 4 = cfg0.N from N_0.symm)⟩, rfl⟩
    have h := ix_5 t
    refine ⟨t, flush0_5 t, ?_⟩
    show i ∈ ((View.whole main_v1_1).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024; rw [h.1]; omega
    | ⟨1, _⟩ => show win0_5.index t 1 * 1024 ≤ (i 1 : Nat) ∧ (i 1 : Nat) < win0_5.index t 1 * 1024 + 1024; rw [h.2]; omega

end Cert.Kernel15Ideal.Value

end
-- ==== Proof.Same15.lean ====
/- The projection of the merged branches, its residual and the next norm. Both programs end with the same arrays over the extended reals. -/
module

public import proofs.«01_k».proof.Defs
public import proofs.«01_k».proof.Proof.Mul15
public import proofs.«01_k».proof.Proof.Gen.Reference15Ideal
public import proofs.«01_k».proof.Proof.Gen.Reference15Ideal.Run
public import proofs.«01_k».proof.Proof.Gen.Reference15Ideal.Read
public import Idealize.ShloMosaic.Lib.Pointwise
public import Idealize.ShloMosaic.Lib.Claim
public import Idealize.ShloMosaic.Adequacy

@[expose] public section

set_option maxRecDepth 16384

noncomputable section

namespace Cert.Reference15Ideal.Value

open Cert.Reference15Ideal Cert.Reference15Ideal.Read Cert.Kernel15Ideal.Value Cert.Sums Idealize.ShloMosaic

/-- The reference's result 0. -/
theorem ref_4 (x0 : (⟨S4096x1024, .bf16⟩ : BufTy).Contents (Elt Ideal)) (x1 : (⟨S1024x1024, .bf16⟩ : BufTy).Contents (Elt Ideal)) (x2 : (⟨S4096x1024, .f32⟩ : BufTy).Contents (Elt Ideal)) : val_main_v3 (F := Ideal) x0 x1 x2 = Cert.Kernel15Ideal.Value.res_4 x0 x1 x2 := by
  funext x
  rw [eq_ix2 x]
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, res_4, prod]
/-- The reference's result 1. -/
theorem ref_5 (x0 : (⟨S4096x1024, .bf16⟩ : BufTy).Contents (Elt Ideal)) (x1 : (⟨S1024x1024, .bf16⟩ : BufTy).Contents (Elt Ideal)) (x2 : (⟨S4096x1024, .f32⟩ : BufTy).Contents (Elt Ideal)) (x3 : (⟨S1024, .f32⟩ : BufTy).Contents (Elt Ideal)) : val_main_v17 (F := Ideal) x0 x1 x2 x3 = Cert.Kernel15Ideal.Value.res_5 x0 x1 x2 x3 := by
  funext x
  rw [eq_ix2 x]
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, res_5, prod, rmsn]

end Cert.Reference15Ideal.Value

namespace Cert.Proof

open Idealize.ShloMosaic Idealize.ShloMosaic.StableHlo Idealize.SL.Sem

/-- The frame of this reference: its run leaves the arguments, and it declares no counter. -/
theorem out_proj_reference_frame : Cert.quiescent_Reference15Ideal (hReference15Ideal := Cert.Reference15Ideal.Gen.facts) := fun m ρ _ =>
  (θ_run Cert.Reference15Ideal.defs _ _).mono (fun r h => ⟨fun c => (h c).2.2, sem_eq_zero_of_no_sems (by decide) r.2⟩)
    (Cert.Reference15Ideal.Value.run (F := Ideal) m ρ)

/-- The call and its reference end with the same arrays over the extended reals. -/
theorem out_proj_same : Cert.algebraic_Kernel15Ideal_Reference15Ideal (hKernel15Ideal := Cert.Kernel15Ideal.Gen.facts) (hReference15Ideal := Cert.Reference15Ideal.Gen.facts) := by
  intro m ρ m' ρ' _ hag
  refine ⟨fun c => (Cert.Kernel15Ideal.Gen.dats m 0 c).arrAt 4 Cert.Kernel15Ideal.cfg0.N, fun c => (Cert.Kernel15Ideal.Gen.dats m 0 c).arrAt 5 Cert.Kernel15Ideal.cfg0.N,
    Cert.Kernel15Ideal.Value.run_blocks m ρ, ?_⟩
  refine (θ_run Cert.Reference15Ideal.defs _ _).mono ?_ (Cert.Reference15Ideal.Value.run (F := Ideal) m' ρ')
  intro r h c
  obtain ⟨e0, e1, e2, e3⟩ := hag c
  obtain ⟨h0, h1, hk⟩ := h c
  refine ⟨h0.trans ?_, h1.trans ?_, hk⟩
  · rw [Cert.Reference15Ideal.Read.val_main_v3_eq]
    repeat rw [launchContents_devRef]
    rw [e0, e1, e2, Cert.Reference15Ideal.Value.ref_4]
    exact (Cert.Kernel15Ideal.Value.arr_4 m c).symm
  · rw [Cert.Reference15Ideal.Read.val_main_v17_eq]
    repeat rw [launchContents_devRef]
    rw [e0, e1, e2, e3, Cert.Reference15Ideal.Value.ref_5]
    exact (Cert.Kernel15Ideal.Value.arr_5 m c).symm

end Cert.Proof

end
-- ==== Proof.Mul17.lean ====
/- The gradient of the normalised input of the mixing part: a product whose left operand lies in seven pieces. -/
module

public import proofs.«01_k».proof.Proof.Sums
public import proofs.«01_k».proof.Proof.Gen.Kernel17Ideal.Frame
public import Idealize.ShloMosaic.Lib.Pointwise
public import Idealize.ShloMosaic.Lib.Claim
public import Idealize.ShloMosaic.Lib.Pipeline.Value

@[expose] public section

set_option maxRecDepth 16384

noncomputable section

namespace Cert.Kernel17Ideal.Value

open Cert.Kernel17Ideal Cert.Kernel17Ideal.Gen Cert.Sums Idealize.ShloMosaic Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The block of piece 0 at a grid point. -/
def X0 (t : Fin cfg0.N) : Vec Ideal S1024x1024 .bf16 := iblk m c 0 t
/-- Piece 0. -/
def A0 : Vec Ideal S4096x2048 .bf16 := m ((c : Thread nD τ).loc main_arg0)
theorem ix_0 : ∀ t : Fin cfg0.N, 0 ≤ t.val % 11 ∧ t.val % 11 < 2 → win0_0.index t 0 = t.val / 11 ∧ win0_0.index t 1 = t.val % 11 - 0 := by
  show ∀ t : Fin grid0.N, _
  decide +kernel
/-- The block of piece 0 read in the piece, at its own steps. -/
theorem blk_0 (t : Fin cfg0.N) (ht : 0 ≤ t.val % 11 ∧ t.val % 11 < 2) (p : Fin 1024) (q : Fin 1024) (i : Fin 4096) (j : Fin 2048)
    (hi : i.val = t.val / 11 * 1024 + p.val) (hj : j.val = (t.val % 11 - 0) * 1024 + q.val) : X0 m c t (ix2 p q) = A0 m c (ix2 i j) := by
  have h := ix_0 t ht
  unfold X0 A0 iblk
  rw [View.read_apply]
  show V m c main_arg0 _ = _
  rw [V_main_arg0]
  congr 1
  funext a
  apply Fin.ext
  match a with
  | ⟨0, _⟩ => show win0_0.index t 0 * 1024 + 1 * p.val = i.val; rw [h.1, hi]; omega
  | ⟨1, _⟩ => show win0_0.index t 1 * 1024 + 1 * q.val = j.val; rw [h.2, hj]; omega
/-- The block of piece 1 at a grid point. -/
def X1 (t : Fin cfg0.N) : Vec Ideal S1024x1024 .bf16 := iblk m c 1 t
/-- Piece 1. -/
def A1 : Vec Ideal S4096x1024 .bf16 := m ((c : Thread nD τ).loc main_arg1)
theorem ix_1 : ∀ t : Fin cfg0.N, 2 ≤ t.val % 11 ∧ t.val % 11 < 3 → win0_1.index t 0 = t.val / 11 ∧ win0_1.index t 1 = t.val % 11 - 2 := by
  show ∀ t : Fin grid0.N, _
  decide +kernel
/-- The block of piece 1 read in the piece, at its own steps. -/
theorem blk_1 (t : Fin cfg0.N) (ht : 2 ≤ t.val % 11 ∧ t.val % 11 < 3) (p : Fin 1024) (q : Fin 1024) (i : Fin 4096) (j : Fin 1024)
    (hi : i.val = t.val / 11 * 1024 + p.val) (hj : j.val = (t.val % 11 - 2) * 1024 + q.val) : X1 m c t (ix2 p q) = A1 m c (ix2 i j) := by
  have h := ix_1 t ht
  unfold X1 A1 iblk
  rw [View.read_apply]
  show V m c main_arg1 _ = _
  rw [V_main_arg1]
  congr 1
  funext a
  apply Fin.ext
  match a with
  | ⟨0, _⟩ => show win0_1.index t 0 * 1024 + 1 * p.val = i.val; rw [h.1, hi]; omega
  | ⟨1, _⟩ => show win0_1.index t 1 * 1024 + 1 * q.val = j.val; rw [h.2, hj]; omega
/-- The block of piece 2 at a grid point. -/
def X2 (t : Fin cfg0.N) : Vec Ideal S1024x1024 .bf16 := iblk m c 2 t
/-- Piece 2. -/
def A2 : Vec Ideal S4096x1024 .bf16 := m ((c : Thread nD τ).loc main_arg2)
theorem ix_2 : ∀ t : Fin cfg0.N, 3 ≤ t.val % 11 ∧ t.val % 11 < 4 → win0_2.index t 0 = t.val / 11 ∧ win0_2.index t 1 = t.val % 11 - 3 := by
  show ∀ t : Fin grid0.N, _
  decide +kernel
/-- The block of piece 2 read in the piece, at its own steps. -/
theorem blk_2 (t : Fin cfg0.N) (ht : 3 ≤ t.val % 11 ∧ t.val % 11 < 4) (p : Fin 1024) (q : Fin 1024) (i : Fin 4096) (j : Fin 1024)
    (hi : i.val = t.val / 11 * 1024 + p.val) (hj : j.val = (t.val % 11 - 3) * 1024 + q.val) : X2 m c t (ix2 p q) = A2 m c (ix2 i j) := by
  have h := ix_2 t ht
  unfold X2 A2 iblk
  rw [View.read_apply]
  show V m c main_arg2 _ = _
  rw [V_main_arg2]
  congr 1
  funext a
  apply Fin.ext
  match a with
  | ⟨0, _⟩ => show win0_2.index t 0 * 1024 + 1 * p.val = i.val; rw [h.1, hi]; omega
  | ⟨1, _⟩ => show win0_2.index t 1 * 1024 + 1 * q.val = j.val; rw [h.2, hj]; omega
/-- The block of piece 3 at a grid point. -/
def X3 (t : Fin cfg0.N) : Vec Ideal S1024x1024 .bf16 := iblk m c 3 t
/-- Piece 3. -/
def A3 : Vec Ideal S4096x2048 .bf16 := m ((c : Thread nD τ).loc main_arg3)
theorem ix_3 : ∀ t : Fin cfg0.N, 4 ≤ t.val % 11 ∧ t.val % 11 < 6 → win0_3.index t 0 = t.val / 11 ∧ win0_3.index t 1 = t.val % 11 - 4 := by
  show ∀ t : Fin grid0.N, _
  decide +kernel
/-- The block of piece 3 read in the piece, at its own steps. -/
theorem blk_3 (t : Fin cfg0.N) (ht : 4 ≤ t.val % 11 ∧ t.val % 11 < 6) (p : Fin 1024) (q : Fin 1024) (i : Fin 4096) (j : Fin 2048)
    (hi : i.val = t.val / 11 * 1024 + p.val) (hj : j.val = (t.val % 11 - 4) * 1024 + q.val) : X3 m c t (ix2 p q) = A3 m c (ix2 i j) := by
  have h := ix_3 t ht
  unfold X3 A3 iblk
  rw [View.read_apply]
  show V m c main_arg3 _ = _
  rw [V_main_arg3]
  congr 1
  funext a
  apply Fin.ext
  match a with
  | ⟨0, _⟩ => show win0_3.index t 0 * 1024 + 1 * p.val = i.val; rw [h.1, hi]; omega
  | ⟨1, _⟩ => show win0_3.index t 1 * 1024 + 1 * q.val = j.val; rw [h.2, hj]; omega
/-- The block of piece 4 at a grid point. -/
def X4 (t : Fin cfg0.N) : Vec Ideal S1024x1024 .bf16 := iblk m c 4 t
/-- Piece 4. -/
def A4 : Vec Ideal S4096x3072 .bf16 := m ((c : Thread nD τ).loc main_arg4)
theorem ix_4 : ∀ t : Fin cfg0.N, 6 ≤ t.val % 11 ∧ t.val % 11 < 9 → win0_4.index t 0 = t.val / 11 ∧ win0_4.index t 1 = t.val % 11 - 6 := by
  show ∀ t : Fin grid0.N, _
  decide +kernel
/-- The block of piece 4 read in the piece, at its own steps. -/
theorem blk_4 (t : Fin cfg0.N) (ht : 6 ≤ t.val % 11 ∧ t.val % 11 < 9) (p : Fin 1024) (q : Fin 1024) (i : Fin 4096) (j : Fin 3072)
    (hi : i.val = t.val / 11 * 1024 + p.val) (hj : j.val = (t.val % 11 - 6) * 1024 + q.val) : X4 m c t (ix2 p q) = A4 m c (ix2 i j) := by
  have h := ix_4 t ht
  unfold X4 A4 iblk
  rw [View.read_apply]
  show V m c main_arg4 _ = _
  rw [V_main_arg4]
  congr 1
  funext a
  apply Fin.ext
  match a with
  | ⟨0, _⟩ => show win0_4.index t 0 * 1024 + 1 * p.val = i.val; rw [h.1, hi]; omega
  | ⟨1, _⟩ => show win0_4.index t 1 * 1024 + 1 * q.val = j.val; rw [h.2, hj]; omega
/-- The block of piece 5 at a grid point. -/
def X5 (t : Fin cfg0.N) : Vec Ideal S1024x1024 .bf16 := iblk m c 5 t
/-- Piece 5. -/
def A5 : Vec Ideal S4096x1024 .bf16 := m ((c : Thread nD τ).loc main_arg5)
theorem ix_5 : ∀ t : Fin cfg0.N, 9 ≤ t.val % 11 ∧ t.val % 11 < 10 → win0_5.index t 0 = t.val / 11 ∧ win0_5.index t 1 = t.val % 11 - 9 := by
  show ∀ t : Fin grid0.N, _
  decide +kernel
/-- The block of piece 5 read in the piece, at its own steps. -/
theorem blk_5 (t : Fin cfg0.N) (ht : 9 ≤ t.val % 11 ∧ t.val % 11 < 10) (p : Fin 1024) (q : Fin 1024) (i : Fin 4096) (j : Fin 1024)
    (hi : i.val = t.val / 11 * 1024 + p.val) (hj : j.val = (t.val % 11 - 9) * 1024 + q.val) : X5 m c t (ix2 p q) = A5 m c (ix2 i j) := by
  have h := ix_5 t ht
  unfold X5 A5 iblk
  rw [View.read_apply]
  show V m c main_arg5 _ = _
  rw [V_main_arg5]
  congr 1
  funext a
  apply Fin.ext
  match a with
  | ⟨0, _⟩ => show win0_5.index t 0 * 1024 + 1 * p.val = i.val; rw [h.1, hi]; omega
  | ⟨1, _⟩ => show win0_5.index t 1 * 1024 + 1 * q.val = j.val; rw [h.2, hj]; omega
/-- The block of piece 6 at a grid point. -/
def X6 (t : Fin cfg0.N) : Vec Ideal S1024x128 .bf16 := iblk m c 6 t
/-- Piece 6. -/
def A6 : Vec Ideal S4096x128 .bf16 := m ((c : Thread nD τ).loc main_arg6)
theorem ix_6 : ∀ t : Fin cfg0.N, 10 ≤ t.val % 11 ∧ t.val % 11 < 11 → win0_6.index t 0 = t.val / 11 ∧ win0_6.index t 1 = t.val % 11 - 10 := by
  show ∀ t : Fin grid0.N, _
  decide +kernel
/-- The block of piece 6 read in the piece, at its own steps. -/
theorem blk_6 (t : Fin cfg0.N) (ht : 10 ≤ t.val % 11 ∧ t.val % 11 < 11) (p : Fin 1024) (q : Fin 128) (i : Fin 4096) (j : Fin 128)
    (hi : i.val = t.val / 11 * 1024 + p.val) (hj : j.val = (t.val % 11 - 10) * 128 + q.val) : X6 m c t (ix2 p q) = A6 m c (ix2 i j) := by
  have h := ix_6 t ht
  unfold X6 A6 iblk
  rw [View.read_apply]
  show V m c main_arg6 _ = _
  rw [V_main_arg6]
  congr 1
  funext a
  apply Fin.ext
  match a with
  | ⟨0, _⟩ => show win0_6.index t 0 * 1024 + 1 * p.val = i.val; rw [h.1, hi]; omega
  | ⟨1, _⟩ => show win0_6.index t 1 * 128 + 1 * q.val = j.val; rw [h.2, hj]; omega
/-- The block of the weight at a grid point. -/
def X7 (t : Fin cfg0.N) : Vec Ideal S1024x1024 .bf16 := X0_7 m c t
/-- The weight. -/
def A7 : Vec Ideal S10368x1024 .bf16 := m ((c : Thread nD τ).loc main_arg7)
theorem ix_7 : ∀ t : Fin cfg0.N, t.val % 11 < 10 → win0_7.index t 0 = t.val % 11 ∧ win0_7.index t 1 = 0 := by
  show ∀ t : Fin grid0.N, _
  decide +kernel
/-- The block of the weight read in the weight. -/
theorem blk_7 (t : Fin cfg0.N) (ht : t.val % 11 < 10) (p q : Fin 1024) (i : Fin 10368) (j : Fin 1024)
    (hi : i.val = t.val % 11 * 1024 + p.val) (hj : j.val = q.val) : X7 m c t (ix2 p q) = A7 m c (ix2 i j) := by
  have h := ix_7 t ht
  unfold X7 A7 X0_7 Pipeline.Window.fill
  rw [dif_pos (moved0_7 t _)]
  unfold iblk
  rw [View.read_apply]
  show V m c main_arg7 _ = _
  rw [V_main_arg7]
  congr 1
  funext a
  apply Fin.ext
  match a with
  | ⟨0, _⟩ => show win0_7.index t 0 * 1024 + 1 * p.val = i.val; rw [h.1, hi]; omega
  | ⟨1, _⟩ => show win0_7.index t 1 * 1024 + 1 * q.val = j.val; rw [h.2, hj]; omega
/-- The weight's last rows as a grid point finds them. -/
def X8 (t : Fin cfg0.N) : Vec Ideal S128x1024 .bf16 := iblk m c 8 t
theorem ix_8 : ∀ t : Fin cfg0.N, win0_8.index t 0 = 0 ∧ win0_8.index t 1 = 0 := by
  show ∀ t : Fin grid0.N, _
  decide +kernel
/-- The launch cuts the last rows off the weight. -/
theorem V_tail : V m c main_v0 = (extractStridedSlice S128x1024 ![10240, 0] (A7 m c) slices_S10368x1024_S128x1024_10240_0 : Vec Ideal S128x1024 .bf16) := by
  unfold A7
  show StableHlo.after hostOps0 _ (Proc.devRef .tc main_v0) = _
  after_results
/-- The last rows read in the weight. -/
theorem blk_8 (t : Fin cfg0.N) (p : Fin 128) (q : Fin 1024) (i : Fin 10368) (hi : i.val = 10240 + p.val) : X8 m c t (ix2 p q) = A7 m c (ix2 i q) := by
  have h := ix_8 t
  unfold X8 iblk
  rw [View.read_apply]
  show V m c main_v0 _ = _
  rw [V_tail]
  refine congrArg (A7 m c) ?_
  funext a
  apply Fin.ext
  match a with
  | ⟨0, _⟩ => show 10240 + (win0_8.index t 0 * 128 + 1 * p.val) = i.val; rw [h.1, hi]; omega
  | ⟨1, _⟩ => show 0 + (win0_8.index t 1 * 1024 + 1 * q.val) = q.val; rw [h.2]; omega
/-- The sum starts from zero. -/
theorem zero_at (p q : Fin 1024) : k0_pay3 (F := Ideal) (ix2 p q) = (0 : EReal) := by
  pointwise [k0_pay3]
/-- One product of two blocks, added to what was there. -/
theorem mul_4 (z : Vec Ideal S1024x1024 .f32) (x b : Vec Ideal S1024x1024 .bf16) (p q : Fin 1024) :
    k0_pay4 (F := Ideal) b z x (ix2 p q) = z (ix2 p q) + ∑ e : Fin 1024, x (ix2 p e) * b (ix2 e q) := by
  pointwise [k0_pay4]
/-- One product of two blocks, added to what was there. -/
theorem mul_5 (z : Vec Ideal S1024x1024 .f32) (x b : Vec Ideal S1024x1024 .bf16) (p q : Fin 1024) :
    k0_pay5 (F := Ideal) b z x (ix2 p q) = z (ix2 p q) + ∑ e : Fin 1024, x (ix2 p e) * b (ix2 e q) := by
  pointwise [k0_pay5]
/-- One product of two blocks, added to what was there. -/
theorem mul_6 (z : Vec Ideal S1024x1024 .f32) (x b : Vec Ideal S1024x1024 .bf16) (p q : Fin 1024) :
    k0_pay6 (F := Ideal) b z x (ix2 p q) = z (ix2 p q) + ∑ e : Fin 1024, x (ix2 p e) * b (ix2 e q) := by
  pointwise [k0_pay6]
/-- One product of two blocks, added to what was there. -/
theorem mul_7 (z : Vec Ideal S1024x1024 .f32) (x b : Vec Ideal S1024x1024 .bf16) (p q : Fin 1024) :
    k0_pay7 (F := Ideal) b z x (ix2 p q) = z (ix2 p q) + ∑ e : Fin 1024, x (ix2 p e) * b (ix2 e q) := by
  pointwise [k0_pay7]
/-- One product of two blocks, added to what was there. -/
theorem mul_8 (z : Vec Ideal S1024x1024 .f32) (x b : Vec Ideal S1024x1024 .bf16) (p q : Fin 1024) :
    k0_pay8 (F := Ideal) b z x (ix2 p q) = z (ix2 p q) + ∑ e : Fin 1024, x (ix2 p e) * b (ix2 e q) := by
  pointwise [k0_pay8]
/-- One product of two blocks, added to what was there. -/
theorem mul_1 (z : Vec Ideal S1024x1024 .f32) (x b : Vec Ideal S1024x1024 .bf16) (p q : Fin 1024) :
    k0_pay1 (F := Ideal) b z x (ix2 p q) = z (ix2 p q) + ∑ e : Fin 1024, x (ix2 p e) * b (ix2 e q) := by
  pointwise [k0_pay1]
/-- The last product, of the short piece. -/
theorem mul_2 (z : Vec Ideal S1024x1024 .f32) (x : Vec Ideal S1024x128 .bf16) (b : Vec Ideal S128x1024 .bf16) (p q : Fin 1024) :
    k0_pay2 (F := Ideal) b z x (ix2 p q) = z (ix2 p q) + ∑ e : Fin 128, x (ix2 p e) * b (ix2 e q) := by
  pointwise [k0_pay2]
/-- A row of the seven pieces laid side by side. -/
def cat (a : Vec Ideal S4096x2048 .bf16) (b : Vec Ideal S4096x1024 .bf16) (c : Vec Ideal S4096x1024 .bf16) (d : Vec Ideal S4096x2048 .bf16) (e : Vec Ideal S4096x3072 .bf16) (f : Vec Ideal S4096x1024 .bf16) (g : Vec Ideal S4096x128 .bf16) (i : Fin 4096) (n : Fin 10368) : EReal :=
  if h0 : n.val < 2048 then a (ix2 i ⟨n.val, h0⟩)
  else if h1 : n.val - 2048 < 1024 then b (ix2 i ⟨n.val - 2048, h1⟩)
  else if h2 : n.val - 2048 - 1024 < 1024 then c (ix2 i ⟨n.val - 2048 - 1024, h2⟩)
  else if h3 : n.val - 2048 - 1024 - 1024 < 2048 then d (ix2 i ⟨n.val - 2048 - 1024 - 1024, h3⟩)
  else if h4 : n.val - 2048 - 1024 - 1024 - 2048 < 3072 then e (ix2 i ⟨n.val - 2048 - 1024 - 1024 - 2048, h4⟩)
  else if h5 : n.val - 2048 - 1024 - 1024 - 2048 - 3072 < 1024 then f (ix2 i ⟨n.val - 2048 - 1024 - 1024 - 2048 - 3072, h5⟩)
  else g (ix2 i ⟨n.val - 2048 - 1024 - 1024 - 2048 - 3072 - 1024, by omega⟩)
theorem cat_0 (a : Vec Ideal S4096x2048 .bf16) (b : Vec Ideal S4096x1024 .bf16) (c' : Vec Ideal S4096x1024 .bf16) (d' : Vec Ideal S4096x2048 .bf16) (e : Vec Ideal S4096x3072 .bf16) (f : Vec Ideal S4096x1024 .bf16) (g : Vec Ideal S4096x128 .bf16) (i : Fin 4096) (n : Fin 10368) (d : Fin 2048) (hn : n.val = 0 + d.val) : cat a b c' d' e f g i n = a (ix2 i d) := by
  unfold cat
  rw [dif_pos (by omega)]
  exact congrArg (fun z => a (ix2 i z)) (Fin.ext (by first | omega | (dsimp only; omega)))
theorem cat_1 (a : Vec Ideal S4096x2048 .bf16) (b : Vec Ideal S4096x1024 .bf16) (c' : Vec Ideal S4096x1024 .bf16) (d' : Vec Ideal S4096x2048 .bf16) (e : Vec Ideal S4096x3072 .bf16) (f : Vec Ideal S4096x1024 .bf16) (g : Vec Ideal S4096x128 .bf16) (i : Fin 4096) (n : Fin 10368) (d : Fin 1024) (hn : n.val = 2048 + d.val) : cat a b c' d' e f g i n = b (ix2 i d) := by
  unfold cat
  rw [dif_neg (by omega), dif_pos (by omega)]
  exact congrArg (fun z => b (ix2 i z)) (Fin.ext (by first | omega | (dsimp only; omega)))
theorem cat_2 (a : Vec Ideal S4096x2048 .bf16) (b : Vec Ideal S4096x1024 .bf16) (c' : Vec Ideal S4096x1024 .bf16) (d' : Vec Ideal S4096x2048 .bf16) (e : Vec Ideal S4096x3072 .bf16) (f : Vec Ideal S4096x1024 .bf16) (g : Vec Ideal S4096x128 .bf16) (i : Fin 4096) (n : Fin 10368) (d : Fin 1024) (hn : n.val = 3072 + d.val) : cat a b c' d' e f g i n = c' (ix2 i d) := by
  unfold cat
  rw [dif_neg (by omega), dif_neg (by omega), dif_pos (by omega)]
  exact congrArg (fun z => c' (ix2 i z)) (Fin.ext (by first | omega | (dsimp only; omega)))
theorem cat_3 (a : Vec Ideal S4096x2048 .bf16) (b : Vec Ideal S4096x1024 .bf16) (c' : Vec Ideal S4096x1024 .bf16) (d' : Vec Ideal S4096x2048 .bf16) (e : Vec Ideal S4096x3072 .bf16) (f : Vec Ideal S4096x1024 .bf16) (g : Vec Ideal S4096x128 .bf16) (i : Fin 4096) (n : Fin 10368) (d : Fin 2048) (hn : n.val = 4096 + d.val) : cat a b c' d' e f g i n = d' (ix2 i d) := by
  unfold cat
  rw [dif_neg (by omega), dif_neg (by omega), dif_neg (by omega), dif_pos (by omega)]
  exact congrArg (fun z => d' (ix2 i z)) (Fin.ext (by first | omega | (dsimp only; omega)))
theorem cat_4 (a : Vec Ideal S4096x2048 .bf16) (b : Vec Ideal S4096x1024 .bf16) (c' : Vec Ideal S4096x1024 .bf16) (d' : Vec Ideal S4096x2048 .bf16) (e : Vec Ideal S4096x3072 .bf16) (f : Vec Ideal S4096x1024 .bf16) (g : Vec Ideal S4096x128 .bf16) (i : Fin 4096) (n : Fin 10368) (d : Fin 3072) (hn : n.val = 6144 + d.val) : cat a b c' d' e f g i n = e (ix2 i d) := by
  unfold cat
  rw [dif_neg (by omega), dif_neg (by omega), dif_neg (by omega), dif_neg (by omega), dif_pos (by omega)]
  exact congrArg (fun z => e (ix2 i z)) (Fin.ext (by first | omega | (dsimp only; omega)))
theorem cat_5 (a : Vec Ideal S4096x2048 .bf16) (b : Vec Ideal S4096x1024 .bf16) (c' : Vec Ideal S4096x1024 .bf16) (d' : Vec Ideal S4096x2048 .bf16) (e : Vec Ideal S4096x3072 .bf16) (f : Vec Ideal S4096x1024 .bf16) (g : Vec Ideal S4096x128 .bf16) (i : Fin 4096) (n : Fin 10368) (d : Fin 1024) (hn : n.val = 9216 + d.val) : cat a b c' d' e f g i n = f (ix2 i d) := by
  unfold cat
  rw [dif_neg (by omega), dif_neg (by omega), dif_neg (by omega), dif_neg (by omega), dif_neg (by omega), dif_pos (by omega)]
  exact congrArg (fun z => f (ix2 i z)) (Fin.ext (by first | omega | (dsimp only; omega)))
theorem cat_6 (a : Vec Ideal S4096x2048 .bf16) (b : Vec Ideal S4096x1024 .bf16) (c' : Vec Ideal S4096x1024 .bf16) (d' : Vec Ideal S4096x2048 .bf16) (e : Vec Ideal S4096x3072 .bf16) (f : Vec Ideal S4096x1024 .bf16) (g : Vec Ideal S4096x128 .bf16) (i : Fin 4096) (n : Fin 10368) (d : Fin 128) (hn : n.val = 10240 + d.val) : cat a b c' d' e f g i n = g (ix2 i d) := by
  unfold cat
  rw [dif_neg (by omega), dif_neg (by omega), dif_neg (by omega), dif_neg (by omega), dif_neg (by omega), dif_neg (by omega)]
  exact congrArg (fun z => g (ix2 i z)) (Fin.ext (by first | omega | (dsimp only; omega)))
/-- One term of the product, zero past the operands' ends. -/
def term (i : Fin 4096) (j : Fin 1024) (n : ℕ) : EReal := if h : n < 10368 then cat (A0 m c) (A1 m c) (A2 m c) (A3 m c) (A4 m c) (A5 m c) (A6 m c) i ⟨n, h⟩ * A7 m c (ix2 ⟨n, h⟩ j) else 0
theorem term_of (i : Fin 4096) (j : Fin 1024) (n : Fin 10368) : term m c i j n.val = cat (A0 m c) (A1 m c) (A2 m c) (A3 m c) (A4 m c) (A5 m c) (A6 m c) i n * A7 m c (ix2 n j) := dif_pos n.isLt
/-- What a point of case A leaves in the running sum. -/
theorem sc_A (t : Fin cfg0.N) (ht : t.val % 11 = 0) :
    (outsAt0 m c t.val t.isLt).2 = k0_pay4 (F := Ideal) (X7 m c t) (k0_pay3 (F := Ideal)) (X0 m c t) := by
  rw [outsAt0_A m c t (by omega) (by omega) (by omega) (by omega) (by omega) (by omega) (by omega) (by omega) (by omega)]
  dsimp only
  unfold sout0_A_0
  rw [View.read_writes_eq_canon]
  on_goal 2 => intro y; apply scover0_A_0
  unfold kernelRun0_A
  dsimp only
  rw [View.canon_cons_unit_zero (S := S1024x1024) hz]
  simp only [View.readAt_eq_ld, (hs0_0 t).read_unread, (hs0_7 t).read_unread, View.ld_unit_zero (S := S1024x1024) hz]
  unfold kernelRun0_A.sl.v42 kernelRun0_A.sl.HS0_1
  rw [View.readCov_unit_zero (S := S1024x1024) _ hz]
  rfl
/-- What a point of case B leaves in the running sum. -/
theorem sc_B (t : Fin cfg0.N) (ht : t.val % 11 = 1) :
    (outsAt0 m c t.val t.isLt).2 = k0_pay4 (F := Ideal) (X7 m c t) (outsAt0 m c (t.val - 1) (Nat.lt_of_le_of_lt (Nat.sub_le _ _) t.isLt)).2 (X0 m c t) := by
  rw [outsAt0_B m c t (by omega) (by omega) (by omega) (by omega) (by omega) (by omega) (by omega) (by omega) (by omega)]
  dsimp only
  unfold sout0_B_0
  rw [View.read_writes_eq_canon]
  on_goal 2 => intro y; apply scover0_B_0
  unfold kernelRun0_B
  dsimp only
  rw [View.canon_unit_zero (S := S1024x1024) hz]
  simp only [View.readAt_eq_ld, (hs0_0 t).read_unread, (hs0_7 t).read_unread, View.ld_unit_zero (S := S1024x1024) hz]
  refine congrArg (fun z => k0_pay4 (F := Ideal) (X7 m c t) z (X0 m c t)) ?_
  exact Memref.IsWhole.read_unread (Memref.isWhole_whole _) _
/-- What a point of case C leaves in the running sum. -/
theorem sc_C (t : Fin cfg0.N) (ht : t.val % 11 = 2) :
    (outsAt0 m c t.val t.isLt).2 = k0_pay5 (F := Ideal) (X7 m c t) (outsAt0 m c (t.val - 1) (Nat.lt_of_le_of_lt (Nat.sub_le _ _) t.isLt)).2 (X1 m c t) := by
  rw [outsAt0_C m c t (by omega) (by omega) (by omega) (by omega) (by omega) (by omega) (by omega) (by omega) (by omega)]
  dsimp only
  unfold sout0_C_0
  rw [View.read_writes_eq_canon]
  on_goal 2 => intro y; apply scover0_C_0
  unfold kernelRun0_C
  dsimp only
  rw [View.canon_unit_zero (S := S1024x1024) hz]
  simp only [View.readAt_eq_ld, (hs0_1 t).read_unread, (hs0_7 t).read_unread, View.ld_unit_zero (S := S1024x1024) hz]
  refine congrArg (fun z => k0_pay5 (F := Ideal) (X7 m c t) z (X1 m c t)) ?_
  exact Memref.IsWhole.read_unread (Memref.isWhole_whole _) _
/-- What a point of case D leaves in the running sum. -/
theorem sc_D (t : Fin cfg0.N) (ht : t.val % 11 = 3) :
    (outsAt0 m c t.val t.isLt).2 = k0_pay6 (F := Ideal) (X7 m c t) (outsAt0 m c (t.val - 1) (Nat.lt_of_le_of_lt (Nat.sub_le _ _) t.isLt)).2 (X2 m c t) := by
  rw [outsAt0_D m c t (by omega) (by omega) (by omega) (by omega) (by omega) (by omega) (by omega) (by omega) (by omega)]
  dsimp only
  unfold sout0_D_0
  rw [View.read_writes_eq_canon]
  on_goal 2 => intro y; apply scover0_D_0
  unfold kernelRun0_D
  dsimp only
  rw [View.canon_unit_zero (S := S1024x1024) hz]
  simp only [View.readAt_eq_ld, (hs0_2 t).read_unread, (hs0_7 t).read_unread, View.ld_unit_zero (S := S1024x1024) hz]
  refine congrArg (fun z => k0_pay6 (F := Ideal) (X7 m c t) z (X2 m c t)) ?_
  exact Memref.IsWhole.read_unread (Memref.isWhole_whole _) _
/-- What a point of case E leaves in the running sum. -/
theorem sc_E (t : Fin cfg0.N) (ht : 4 ≤ t.val % 11 ∧ t.val % 11 ≤ 5) :
    (outsAt0 m c t.val t.isLt).2 = k0_pay7 (F := Ideal) (X7 m c t) (outsAt0 m c (t.val - 1) (Nat.lt_of_le_of_lt (Nat.sub_le _ _) t.isLt)).2 (X3 m c t) := by
  rw [outsAt0_E m c t (by omega) (by omega) (by omega) (by omega) (by omega) (by omega) (by omega) (by omega) (by omega)]
  dsimp only
  unfold sout0_E_0
  rw [View.read_writes_eq_canon]
  on_goal 2 => intro y; apply scover0_E_0
  unfold kernelRun0_E
  dsimp only
  rw [View.canon_unit_zero (S := S1024x1024) hz]
  simp only [View.readAt_eq_ld, (hs0_3 t).read_unread, (hs0_7 t).read_unread, View.ld_unit_zero (S := S1024x1024) hz]
  refine congrArg (fun z => k0_pay7 (F := Ideal) (X7 m c t) z (X3 m c t)) ?_
  exact Memref.IsWhole.read_unread (Memref.isWhole_whole _) _
/-- What a point of case F leaves in the running sum. -/
theorem sc_F (t : Fin cfg0.N) (ht : 6 ≤ t.val % 11 ∧ t.val % 11 ≤ 8) :
    (outsAt0 m c t.val t.isLt).2 = k0_pay8 (F := Ideal) (X7 m c t) (outsAt0 m c (t.val - 1) (Nat.lt_of_le_of_lt (Nat.sub_le _ _) t.isLt)).2 (X4 m c t) := by
  rw [outsAt0_F m c t (by omega) (by omega) (by omega) (by omega) (by omega) (by omega) (by omega) (by omega) (by omega)]
  dsimp only
  unfold sout0_F_0
  rw [View.read_writes_eq_canon]
  on_goal 2 => intro y; apply scover0_F_0
  unfold kernelRun0_F
  dsimp only
  rw [View.canon_unit_zero (S := S1024x1024) hz]
  simp only [View.readAt_eq_ld, (hs0_4 t).read_unread, (hs0_7 t).read_unread, View.ld_unit_zero (S := S1024x1024) hz]
  refine congrArg (fun z => k0_pay8 (F := Ideal) (X7 m c t) z (X4 m c t)) ?_
  exact Memref.IsWhole.read_unread (Memref.isWhole_whole _) _
/-- What a point of case G leaves in the running sum. -/
theorem sc_G (t : Fin cfg0.N) (ht : t.val % 11 = 9) :
    (outsAt0 m c t.val t.isLt).2 = k0_pay1 (F := Ideal) (X7 m c t) (outsAt0 m c (t.val - 1) (Nat.lt_of_le_of_lt (Nat.sub_le _ _) t.isLt)).2 (X5 m c t) := by
  rw [outsAt0_G m c t (by omega) (by omega) (by omega) (by omega) (by omega) (by omega) (by omega) (by omega) (by omega)]
  dsimp only
  unfold sout0_G_0
  rw [View.read_writes_eq_canon]
  on_goal 2 => intro y; apply scover0_G_0
  unfold kernelRun0_G
  dsimp only
  rw [View.canon_unit_zero (S := S1024x1024) hz]
  simp only [View.readAt_eq_ld, (hs0_5 t).read_unread, (hs0_7 t).read_unread, View.ld_unit_zero (S := S1024x1024) hz]
  refine congrArg (fun z => k0_pay1 (F := Ideal) (X7 m c t) z (X5 m c t)) ?_
  exact Memref.IsWhole.read_unread (Memref.isWhole_whole _) _
/-- What a run's last point leaves in the result's block. -/
theorem out_9 (t : Fin cfg0.N) (ht : t.val % 11 = 10) :
    (outsAt0 m c t.val t.isLt).1 = k0_pay2 (F := Ideal) (X8 m c t) (outsAt0 m c (t.val - 1) (Nat.lt_of_le_of_lt (Nat.sub_le _ _) t.isLt)).2 (X6 m c t) := by
  rw [outsAt0_H m c t (by omega) (by omega) (by omega) (by omega) (by omega) (by omega) (by omega) (by omega) (by omega)]
  dsimp only
  unfold out0_H_9
  rw [View.read_writes_eq_canon]
  on_goal 2 => intro y; apply cover0_H_9
  unfold kernelRun0_H
  dsimp only
  rw [View.canon_unit_zero (S := S1024x1024) hz]
  unfold kernelRun0_H.sl.v41 kernelRun0_H.sl.HS0_1
  rw [View.readCov_unit_zero (S := S1024x1024) _ hz]
  simp only [View.readAt_eq_ld, (hs0_6 t).read_unread, (hs0_8 t).read_unread, View.ld_unit_zero (S := S1024x1024) hz, View.ld_unit_zero (S := S1024x128) hz, View.ld_unit_zero (S := S128x1024) hz]
  exact congrArg (fun z => k0_pay2 (F := Ideal) (X8 m c t) z (X6 m c t)) (Memref.IsWhole.read_unread (Memref.isWhole_whole _) _)
/-- The product of a block of piece 0, read in the operands. -/
theorem part_0 (t : Fin cfg0.N) (ht : 0 ≤ t.val % 11 ∧ t.val % 11 < 2) (p j : Fin 1024) (i : Fin 4096) (hi : i.val = t.val / 11 * 1024 + p.val) :
    ∑ e : Fin 1024, X0 m c t (ix2 p e) * X7 m c t (ix2 e j) = ∑ e : Fin 1024, term m c i j (t.val % 11 * 1024 + e.val) := by
  refine Finset.sum_congr rfl fun e _ => ?_
  have e0 := term_of m c i j ⟨t.val % 11 * 1024 + e.val, by omega⟩
  dsimp only at e0
  rw [e0, blk_0 m c t ht p e i ⟨(t.val % 11 - 0) * 1024 + e.val, by omega⟩ hi rfl,
    blk_7 m c t (by omega) e j ⟨t.val % 11 * 1024 + e.val, by omega⟩ j rfl rfl,
    cat_0 _ _ _ _ _ _ _ i _ ⟨(t.val % 11 - 0) * 1024 + e.val, by omega⟩ (by dsimp only; omega)]
/-- The product of a block of piece 1, read in the operands. -/
theorem part_1 (t : Fin cfg0.N) (ht : 2 ≤ t.val % 11 ∧ t.val % 11 < 3) (p j : Fin 1024) (i : Fin 4096) (hi : i.val = t.val / 11 * 1024 + p.val) :
    ∑ e : Fin 1024, X1 m c t (ix2 p e) * X7 m c t (ix2 e j) = ∑ e : Fin 1024, term m c i j (t.val % 11 * 1024 + e.val) := by
  refine Finset.sum_congr rfl fun e _ => ?_
  have e0 := term_of m c i j ⟨t.val % 11 * 1024 + e.val, by omega⟩
  dsimp only at e0
  rw [e0, blk_1 m c t ht p e i ⟨(t.val % 11 - 2) * 1024 + e.val, by omega⟩ hi rfl,
    blk_7 m c t (by omega) e j ⟨t.val % 11 * 1024 + e.val, by omega⟩ j rfl rfl,
    cat_1 _ _ _ _ _ _ _ i _ ⟨(t.val % 11 - 2) * 1024 + e.val, by omega⟩ (by dsimp only; omega)]
/-- The product of a block of piece 2, read in the operands. -/
theorem part_2 (t : Fin cfg0.N) (ht : 3 ≤ t.val % 11 ∧ t.val % 11 < 4) (p j : Fin 1024) (i : Fin 4096) (hi : i.val = t.val / 11 * 1024 + p.val) :
    ∑ e : Fin 1024, X2 m c t (ix2 p e) * X7 m c t (ix2 e j) = ∑ e : Fin 1024, term m c i j (t.val % 11 * 1024 + e.val) := by
  refine Finset.sum_congr rfl fun e _ => ?_
  have e0 := term_of m c i j ⟨t.val % 11 * 1024 + e.val, by omega⟩
  dsimp only at e0
  rw [e0, blk_2 m c t ht p e i ⟨(t.val % 11 - 3) * 1024 + e.val, by omega⟩ hi rfl,
    blk_7 m c t (by omega) e j ⟨t.val % 11 * 1024 + e.val, by omega⟩ j rfl rfl,
    cat_2 _ _ _ _ _ _ _ i _ ⟨(t.val % 11 - 3) * 1024 + e.val, by omega⟩ (by dsimp only; omega)]
/-- The product of a block of piece 3, read in the operands. -/
theorem part_3 (t : Fin cfg0.N) (ht : 4 ≤ t.val % 11 ∧ t.val % 11 < 6) (p j : Fin 1024) (i : Fin 4096) (hi : i.val = t.val / 11 * 1024 + p.val) :
    ∑ e : Fin 1024, X3 m c t (ix2 p e) * X7 m c t (ix2 e j) = ∑ e : Fin 1024, term m c i j (t.val % 11 * 1024 + e.val) := by
  refine Finset.sum_congr rfl fun e _ => ?_
  have e0 := term_of m c i j ⟨t.val % 11 * 1024 + e.val, by omega⟩
  dsimp only at e0
  rw [e0, blk_3 m c t ht p e i ⟨(t.val % 11 - 4) * 1024 + e.val, by omega⟩ hi rfl,
    blk_7 m c t (by omega) e j ⟨t.val % 11 * 1024 + e.val, by omega⟩ j rfl rfl,
    cat_3 _ _ _ _ _ _ _ i _ ⟨(t.val % 11 - 4) * 1024 + e.val, by omega⟩ (by dsimp only; omega)]
/-- The product of a block of piece 4, read in the operands. -/
theorem part_4 (t : Fin cfg0.N) (ht : 6 ≤ t.val % 11 ∧ t.val % 11 < 9) (p j : Fin 1024) (i : Fin 4096) (hi : i.val = t.val / 11 * 1024 + p.val) :
    ∑ e : Fin 1024, X4 m c t (ix2 p e) * X7 m c t (ix2 e j) = ∑ e : Fin 1024, term m c i j (t.val % 11 * 1024 + e.val) := by
  refine Finset.sum_congr rfl fun e _ => ?_
  have e0 := term_of m c i j ⟨t.val % 11 * 1024 + e.val, by omega⟩
  dsimp only at e0
  rw [e0, blk_4 m c t ht p e i ⟨(t.val % 11 - 6) * 1024 + e.val, by omega⟩ hi rfl,
    blk_7 m c t (by omega) e j ⟨t.val % 11 * 1024 + e.val, by omega⟩ j rfl rfl,
    cat_4 _ _ _ _ _ _ _ i _ ⟨(t.val % 11 - 6) * 1024 + e.val, by omega⟩ (by dsimp only; omega)]
/-- The product of a block of piece 5, read in the operands. -/
theorem part_5 (t : Fin cfg0.N) (ht : 9 ≤ t.val % 11 ∧ t.val % 11 < 10) (p j : Fin 1024) (i : Fin 4096) (hi : i.val = t.val / 11 * 1024 + p.val) :
    ∑ e : Fin 1024, X5 m c t (ix2 p e) * X7 m c t (ix2 e j) = ∑ e : Fin 1024, term m c i j (t.val % 11 * 1024 + e.val) := by
  refine Finset.sum_congr rfl fun e _ => ?_
  have e0 := term_of m c i j ⟨t.val % 11 * 1024 + e.val, by omega⟩
  dsimp only at e0
  rw [e0, blk_5 m c t ht p e i ⟨(t.val % 11 - 9) * 1024 + e.val, by omega⟩ hi rfl,
    blk_7 m c t (by omega) e j ⟨t.val % 11 * 1024 + e.val, by omega⟩ j rfl rfl,
    cat_5 _ _ _ _ _ _ _ i _ ⟨(t.val % 11 - 9) * 1024 + e.val, by omega⟩ (by dsimp only; omega)]
/-- The product of a block of piece 6, read in the operands. -/
theorem part_6 (t : Fin cfg0.N) (ht : 10 ≤ t.val % 11 ∧ t.val % 11 < 11) (p j : Fin 1024) (i : Fin 4096) (hi : i.val = t.val / 11 * 1024 + p.val) :
    ∑ e : Fin 128, X6 m c t (ix2 p e) * X8 m c t (ix2 e j) = ∑ e : Fin 128, term m c i j (10240 + e.val) := by
  refine Finset.sum_congr rfl fun e _ => ?_
  have e0 := term_of m c i j ⟨10240 + e.val, by omega⟩
  dsimp only at e0
  rw [e0, blk_6 m c t ht p e i ⟨(t.val % 11 - 10) * 128 + e.val, by omega⟩ hi rfl,
    blk_8 m c t e j ⟨10240 + e.val, by omega⟩ rfl,
    cat_6 _ _ _ _ _ _ _ i _ ⟨(t.val % 11 - 10) * 128 + e.val, by omega⟩ (by dsimp only; omega)]
/-- One step of the running sum. -/
theorem step (t : Fin cfg0.N) (h : t.val % 11 ≠ 0) (h' : t.val % 11 < 10) (p j : Fin 1024) (i : Fin 4096) (hi : i.val = t.val / 11 * 1024 + p.val) :
    (outsAt0 m c t.val t.isLt).2 (ix2 p j) = (outsAt0 m c (t.val - 1) (Nat.lt_of_le_of_lt (Nat.sub_le _ _) t.isLt)).2 (ix2 p j) + ∑ e : Fin 1024, term m c i j (t.val % 11 * 1024 + e.val) := by
  rcases (by omega : t.val % 11 = 1 ∨ t.val % 11 = 2 ∨ t.val % 11 = 3 ∨ (4 ≤ t.val % 11 ∧ t.val % 11 ≤ 5) ∨ (6 ≤ t.val % 11 ∧ t.val % 11 ≤ 8) ∨ t.val % 11 = 9)
    with ht | ht | ht | ht | ht | ht
  · rw [sc_B m c t ht, mul_4, part_0 m c t (by omega) p j i hi]
  · rw [sc_C m c t ht, mul_5, part_1 m c t (by omega) p j i hi]
  · rw [sc_D m c t ht, mul_6, part_2 m c t (by omega) p j i hi]
  · rw [sc_E m c t ht, mul_7, part_3 m c t (by omega) p j i hi]
  · rw [sc_F m c t ht, mul_8, part_4 m c t (by omega) p j i hi]
  · rw [sc_G m c t ht, mul_1, part_5 m c t (by omega) p j i hi]
/-- The running sum after a point that is not a run's last. -/
theorem inv (n : ℕ) : ∀ (t : Fin cfg0.N), t.val % 11 = n → n < 10 → ∀ (p j : Fin 1024) (i : Fin 4096), i.val = t.val / 11 * 1024 + p.val →
    (outsAt0 m c t.val t.isLt).2 (ix2 p j) = ∑ d ∈ Finset.range (n * 1024 + 1024), term m c i j d := by
  induction n with
  | zero =>
    intro t ht _ p j i hi
    rw [sc_A m c t ht, mul_4, zero_at, zero_add, part_0 m c t (by omega) p j i hi, Finset.sum_range, ht]
    exact Finset.sum_congr (by rfl) fun e _ => congrArg (term m c i j) (by omega)
  | succ n ih =>
    intro t ht hn p j i hi
    have e := ih ⟨t.val - 1, by omega⟩ (by dsimp only; omega) (by omega) p j i (by dsimp only; omega)
    dsimp only at e
    rw [step m c t (by omega) (by omega) p j i hi, e, Finset.sum_range_add _ ((n + 1) * 1024) 1024, ht, Finset.sum_range (n := 1024), Nat.succ_mul n 1024]
/-- The result as an array of the operands. -/
def res_9 (a : Vec Ideal S4096x2048 .bf16) (b : Vec Ideal S4096x1024 .bf16) (c : Vec Ideal S4096x1024 .bf16) (d : Vec Ideal S4096x2048 .bf16) (e : Vec Ideal S4096x3072 .bf16) (f : Vec Ideal S4096x1024 .bf16) (g : Vec Ideal S4096x128 .bf16) (w : Vec Ideal S10368x1024 .bf16) : Vec Ideal S4096x1024 .f32 := fun x => ∑ n : Fin 10368, cat a b c d e f g (x 0) n * w (ix2 n (x 1))
/-- A run's last point holds its block of the result. -/
theorem val_9 (t : Fin cfg0.N) (ht : t.val % 11 = 10) (p q : Fin 1024) (i : Fin 4096) (j : Fin 1024) (hi : i.val = (t.val / 11) * 1024 + p.val) (hj : j.val = (0) * 1024 + q.val) :
    (outsAt0 m c t.val t.isLt).1 (ix2 p q) = res_9 (A0 m c) (A1 m c) (A2 m c) (A3 m c) (A4 m c) (A5 m c) (A6 m c) (A7 m c) (ix2 i j) := by
  have ej : j = q := Fin.ext (by omega)
  subst ej
  have e := inv m c 9 ⟨t.val - 1, by omega⟩ (by dsimp only; omega) (by omega) p j i (by dsimp only; omega)
  dsimp only at e
  rw [out_9 m c t ht, mul_2, e, part_6 m c t (by omega) p j i hi]
  have s : (∑ n : Fin 10368, term m c i j n.val) = (∑ d ∈ Finset.range (9 * 1024 + 1024), term m c i j d) + ∑ e : Fin 128, term m c i j (10240 + e.val) := by
    rw [← Finset.sum_range (fun n => term m c i j n) (n := 10368), ← Finset.sum_range (fun n => term m c i j (10240 + n)) (n := 128)]
    exact Finset.sum_range_add _ 10240 128
  rw [← s]
  exact Finset.sum_congr rfl fun n _ => term_of m c i j n
/-- What a point writes back is what it leaves in the result's block. -/
theorem flushed9 (t : Fin cfg0.N) : (dats m 0 c).flushed 9 t = (cfg0.win 9).cut (grid0.coords t) ((outsAt0 m c t.val t.isLt).1) := by
  have e := after0_9 m c t
  exact congrArg ((cfg0.win 9).cut (grid0.coords t)) e
/-- The call's run ends with the result's array written back and the arguments as they were. -/
theorem run_blocks (ρ : Dev nD → PrngReg) : θ_run defs (onTc (τ := τ) (main (F := Ideal))) ⟨m, fun _ => 0, ρ⟩ fun r => ∀ c : Dev nD,
    r.2.mem ((c : Thread nD τ).loc main_v1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (run_main m ρ)
  have k := (h c).1
  exact ⟨k 9, (k 0).trans (((dats m 0 c).arrAt_in 0 rfl _).trans ((A_eq m c 0).trans (V_main_arg0 m c))), (k 1).trans (((dats m 0 c).arrAt_in 1 rfl _).trans ((A_eq m c 1).trans (V_main_arg1 m c))), (k 2).trans (((dats m 0 c).arrAt_in 2 rfl _).trans ((A_eq m c 2).trans (V_main_arg2 m c))), (k 3).trans (((dats m 0 c).arrAt_in 3 rfl _).trans ((A_eq m c 3).trans (V_main_arg3 m c))), (k 4).trans (((dats m 0 c).arrAt_in 4 rfl _).trans ((A_eq m c 4).trans (V_main_arg4 m c))), (k 5).trans (((dats m 0 c).arrAt_in 5 rfl _).trans ((A_eq m c 5).trans (V_main_arg5 m c))), (k 6).trans (((dats m 0 c).arrAt_in 6 rfl _).trans ((A_eq m c 6).trans (V_main_arg6 m c))), (k 7).trans (((dats m 0 c).arrAt_in 7 rfl _).trans ((A_eq m c 7).trans (V_main_arg7 m c)))⟩
theorem ix_9 : ∀ t : Fin cfg0.N, win0_9.index t 0 = t.val / 11 ∧ win0_9.index t 1 = 0 := by
  show ∀ t : Fin grid0.N, _
  decide +kernel
/-- Result 0 after the run. -/
theorem arr_9 : ((dats m 0 c).arrAt 9 cfg0.N : Vec Ideal S4096x1024 .f32) = res_9 (A0 m c) (A1 m c) (A2 m c) (A3 m c) (A4 m c) (A5 m c) (A6 m c) (A7 m c) := by
  refine (dats m 0 c).arrAt_eq_of_cover 9 (res_9 (A0 m c) (A1 m c) (A2 m c) (A3 m c) (A4 m c) (A5 m c) (A6 m c) (A7 m c)) (fun t hf => ?_) fun i => ?_
  · rw [flushed9]
    funext y
    have h := ix_9 t
    have hy0 : (y 0).val < 1024 := (y 0).isLt
    have hy1 : (y 1).val < 1024 := (y 1).isLt
    have hN : t.val < 44 := lt_of_lt_of_eq t.isLt (show cfg0.N = 44 from N_0)
    have e : ((cfg0.win 9).blk t).view.emb y = (ix2 ⟨(t.val / 11) * 1024 + (y 0).val, by omega⟩ ⟨(0) * 1024 + (y 1).val, by omega⟩ : S4096x1024.Idx) := by
      funext a
      apply Fin.ext
      match a with
      | ⟨0, _⟩ => show win0_9.index t 0 * 1024 + 1 * (y 0).val = (t.val / 11) * 1024 + (y 0).val; rw [h.1]; omega
      | ⟨1, _⟩ => show win0_9.index t 1 * 1024 + 1 * (y 1).val = (0) * 1024 + (y 1).val; rw [h.2]; omega
    have ex : (cfg0.win 9).xinj (grid0.coords t) y = (ix2 ⟨(y 0).val, hy0⟩ ⟨(y 1).val, hy1⟩ : S1024x1024.Idx) := by
      funext a
      match a with
      | ⟨0, _⟩ => rfl
      | ⟨1, _⟩ => rfl
    show (outsAt0 m c t.val t.isLt).1 ((cfg0.win 9).xinj (grid0.coords t) y) = res_9 (A0 m c) (A1 m c) (A2 m c) (A3 m c) (A4 m c) (A5 m c) (A6 m c) (A7 m c) (((cfg0.win 9).blk t).view.emb y)
    rw [e, ex]
    exact val_9 m c t ((flush0_9 t).mp hf) _ _ _ _ rfl rfl
  · have h0 : (i 0 : Nat) < 4096 := (i 0).isLt
    have h1 : (i 1 : Nat) < 1024 := (i 1).isLt
    obtain ⟨t, ht⟩ : ∃ t : Fin cfg0.N, t.val = (i 0 : Nat) / 1024 * 11 + 10 :=
      ⟨⟨(i 0 : Nat) / 1024 * 11 + 10, lt_of_lt_of_eq (by omega) (show 44 = cfg0.N from N_0.symm)⟩, rfl⟩
    have h := ix_9 t
    refine ⟨t, (flush0_9 t).mpr (by omega), ?_⟩
    show i ∈ ((View.whole main_v1).slice (win0_9.rect t)).set
    rw [View.set_slice_whole, Rect.mem_set_unit]
    intro a
    match a with
    | ⟨0, _⟩ => show win0_9.index t 0 * 1024 ≤ (i 0 : Nat) ∧ (i 0 : Nat) < win0_9.index t 0 * 1024 + 1024; rw [h.1]; omega
    | ⟨1, _⟩ => show win0_9.index t 1 * 1024 ≤ (i 1 : Nat) ∧ (i 1 : Nat) < win0_9.index t 1 * 1024 + 1024; rw [h.2]; omega

end Cert.Kernel17Ideal.Value

end
-- ==== Proof.Same17.lean ====
/- The gradient of the normalised input of the mixing part. Both programs end with the same arrays over the extended reals. -/
module

public import proofs.«01_k».proof.Defs
public import proofs.«01_k».proof.Proof.Mul17
public import proofs.«01_k».proof.Proof.Gen.Reference17Ideal
public import proofs.«01_k».proof.Proof.Gen.Reference17Ideal.Run
public import proofs.«01_k».proof.Proof.Gen.Reference17Ideal.Read
public import Idealize.ShloMosaic.Lib.Pointwise
public import Idealize.ShloMosaic.Lib.Claim
public import Idealize.ShloMosaic.Adequacy

@[expose] public section

set_option maxRecDepth 16384

noncomputable section

namespace Cert.Reference17Ideal.Value

open Cert.Reference17Ideal Cert.Reference17Ideal.Read Cert.Kernel17Ideal.Value Cert.Sums Idealize.ShloMosaic

/-- The reference's result 0. -/
theorem ref_9 (x0 : (⟨S4096x2048, .bf16⟩ : BufTy).Contents (Elt Ideal)) (x1 x2 : (⟨S4096x1024, .bf16⟩ : BufTy).Contents (Elt Ideal)) (x3 : (⟨S4096x2048, .bf16⟩ : BufTy).Contents (Elt Ideal)) (x4 : (⟨S4096x3072, .bf16⟩ : BufTy).Contents (Elt Ideal)) (x5 : (⟨S4096x1024, .bf16⟩ : BufTy).Contents (Elt Ideal)) (x6 : (⟨S4096x128, .bf16⟩ : BufTy).Contents (Elt Ideal)) (x7 : (⟨S10368x1024, .bf16⟩ : BufTy).Contents (Elt Ideal)) : val_main_v5 (F := Ideal) x0 x1 x2 x3 x4 x5 x6 x7 = Cert.Kernel17Ideal.Value.res_9 x0 x1 x2 x3 x4 x5 x6 x7 := by
  funext x
  rw [eq_ix2 x]
  pointwise [val_main_v0, val_main_v1, val_main_cst, val_main_v2, val_main_v3, val_main_v4, val_main_v5, res_9, cat]

end Cert.Reference17Ideal.Value

namespace Cert.Proof

open Idealize.ShloMosaic Idealize.ShloMosaic.StableHlo Idealize.SL.Sem

/-- The frame of this reference: its run leaves the arguments, and it declares no counter. -/
theorem d_hn_reference_frame : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

/-- The call and its reference end with the same arrays over the extended reals. -/
theorem d_hn_same : Cert.algebraic_Kernel17Ideal_Reference17Ideal (hKernel17Ideal := Cert.Kernel17Ideal.Gen.facts) (hReference17Ideal := Cert.Reference17Ideal.Gen.facts) := by
  intro m ρ m' ρ' _ hag
  refine ⟨fun c => (Cert.Kernel17Ideal.Gen.dats m 0 c).arrAt 9 Cert.Kernel17Ideal.cfg0.N,
    Cert.Kernel17Ideal.Value.run_blocks m ρ, ?_⟩
  refine (θ_run Cert.Reference17Ideal.defs _ _).mono ?_ (Cert.Reference17Ideal.Value.run (F := Ideal) m' ρ')
  intro r h c
  obtain ⟨e0, e1, e2, e3, e4, e5, e6, e7⟩ := hag c
  obtain ⟨h0, hk⟩ := h c
  refine ⟨h0.trans ?_, hk⟩
  · rw [Cert.Reference17Ideal.Read.val_main_v5_eq]
    repeat rw [launchContents_devRef]
    rw [e0, e1, e2, e3, e4, e5, e6, e7, Cert.Reference17Ideal.Value.ref_9]
    exact (Cert.Kernel17Ideal.Value.arr_9 m c).symm

end Cert.Proof

end
-- ==== Proof.Adam.lean ====
/- One step of AdamW on one number, with the constants as they are stored. -/
module

public import Idealize.ShloMosaic.Lib.Pointwise
public import Idealize.ShloMosaic.Lib.Claim

@[expose] public section

noncomputable section

namespace Cert.Adam

open Idealize.ShloMosaic

/-- The new first moment of a gradient: 0.9 of the old one and 0.1 of the gradient. -/
def newM (g m : EReal) : EReal := Ideal.ofBits .f32 0x3F666666#32 * m + Ideal.ofBits .f32 0x3DCCCCCD#32 * g
/-- The new second moment: 0.999 of the old one and 0.001 of the gradient's square. -/
def newV (g v : EReal) : EReal := Ideal.ofBits .f32 0x3F7FBE77#32 * v + Ideal.ofBits .f32 0x3A83126F#32 * (g * g)
/-- The weight's change: the corrected moments' quotient and the decay, times minus the rate. -/
def step (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

end Cert.Adam

end
-- ==== Proof.Mul19.lean ====
/- AdamW on the first weight of the feed-forward part. -/
module

public import proofs.«01_k».proof.Proof.Adam
public import proofs.«01_k».proof.Proof.Gen.Kernel19Ideal.Value
public import Idealize.ShloMosaic.Lib.Pointwise
public import Idealize.ShloMosaic.Lib.Claim
public import Idealize.ShloMosaic.Lib.Pipeline.Value

@[expose] public section

set_option maxRecDepth 16384

noncomputable section

namespace Cert.Kernel19Ideal.Value

open Cert.Kernel19Ideal Cert.Kernel19Ideal.Gen Cert.Adam Idealize.ShloMosaic Idealize.ShloMosaic.TcCoe

theorem hz : (![0, 0, 0] : Fin 3 → Nat) = fun _ => 0 := funext fun a => by fin_cases a <;> rfl

/-- A weight's gradient, from its two layers'. -/
def grad (a b : Vec Ideal S512x1024 .f32) (x : S2x1024x512.Idx) : EReal := if h : (x 0).val < 1 then a (ix2 (x 2) (x 1)) else b (ix2 (x 2) (x 1))
/-- The gradient, the weight's change and the two new moments, as arrays. -/
def resG (a b : Vec Ideal S512x1024 .f32) : Vec Ideal S2x1024x512 .f32 := fun x => grad a b x
def resD (a b : Vec Ideal S512x1024 .f32) (w m v : Vec Ideal S2x1024x512 .f32) : Vec Ideal S2x1024x512 .f32 := fun x => step (grad a b x) (w x) (m x) (v x)
def resM (a b : Vec Ideal S512x1024 .f32) (m : Vec Ideal S2x1024x512 .f32) : Vec Ideal S2x1024x512 .f32 := fun x => newM (grad a b x) (m x)
def resV (a b : Vec Ideal S512x1024 .f32) (v : Vec Ideal S2x1024x512 .f32) : Vec Ideal S2x1024x512 .f32 := fun x => newV (grad a b x) (v x)

theorem lt (t : Fin cfg0.N) : t.val < 16 := lt_of_lt_of_eq t.isLt (show cfg0.N = 16 from N_0)
/-- A grid point's block, counted along each axis. -/
def idx (t : Fin cfg0.N) : Fin 3 → Nat := ![t.val / 8, t.val % 8, 0]
/-- A block's row in the array. -/
def row (t : Fin cfg0.N) (p : Fin 128) : Fin 1024 := ⟨t.val % 8 * 128 + p.val, by have := lt t; omega⟩
/-- A block's place in the array. -/
def place (t : Fin cfg0.N) (p : Fin 128) (q : Fin 512) : S2x1024x512.Idx := ix3 ⟨t.val / 8, by have := lt t; omega⟩ (row t p) q
theorem place_eq (t : Fin cfg0.N) (p : Fin 128) (q : Fin 512) (i : S2x1024x512.Idx) (f : Fin 3 → Nat) (hf : f = idx t)
    (h0 : ∃ z, z < 1 ∧ (i 0).val = f 0 * 1 + 1 * z) (h1 : (i 1).val = f 1 * 128 + 1 * p.val) (h2 : (i 2).val = f 2 * 512 + 1 * q.val) : i = place t p q := by
  obtain ⟨z, hz, h0⟩ := h0
  subst hf
  change _ = t.val / 8 * 1 + 1 * z at h0
  change _ = t.val % 8 * 128 + 1 * p.val at h1
  change _ = 0 * 512 + 1 * q.val at h2
  funext a
  apply Fin.ext
  match a with
  | ⟨0, _⟩ => show (i 0).val = t.val / 8; omega
  | ⟨1, _⟩ => show (i 1).val = t.val % 8 * 128 + p.val; omega
  | ⟨2, _⟩ => show (i 2).val = q.val; omega
theorem blk_eq (y : S1x128x512.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
/-- Every place is in some point's block. -/
theorem covered (i : S2x1024x512.Idx) : ∃ t : Fin cfg0.N, ∀ f : Fin 3 → Nat, f = idx t → ∀ a : Fin 3, f a * (![1, 128, 512] : Fin 3 → Nat) a ≤ (i a).val
    ∧ (i a).val < f a * (![1, 128, 512] : Fin 3 → Nat) a + (![1, 128, 512] : Fin 3 → Nat) a := by
  have h0 : (i 0).val < 2 := (i 0).isLt
  have h1 : (i 1).val < 1024 := (i 1).isLt
  have h2 : (i 2).val < 512 := (i 2).isLt
  have hN : cfg0.N = 16 := N_0
  refine ⟨⟨(i 0).val * 8 + (i 1).val / 128, by omega⟩, fun f hf a => ?_⟩
  subst hf
  match a with
  | ⟨0, _⟩ => show ((i 0).val * 8 + (i 1).val / 128) / 8 * 1 ≤ (i 0).val ∧ (i 0).val < ((i 0).val * 8 + (i 1).val / 128) / 8 * 1 + 1; omega
  | ⟨1, _⟩ => show ((i 0).val * 8 + (i 1).val / 128) % 8 * 128 ≤ (i 1).val ∧ (i 1).val < ((i 0).val * 8 + (i 1).val / 128) % 8 * 128 + 128; omega
  | ⟨2, _⟩ => show 0 * 512 ≤ (i 2).val ∧ (i 2).val < 0 * 512 + 512; omega
theorem part_eq (t : Fin cfg0.N) (p : Fin 128) (q : Fin 512) (i : S1x1024x512.Idx) (f : Fin 3 → Nat) (hf : f = ![0, t.val % 8, 0])
    (h1 : (i 1).val = f 1 * 128 + 1 * p.val) (h2 : (i 2).val = f 2 * 512 + 1 * q.val) : i = ix3 0 (row t p) q := by
  subst hf
  change _ = t.val % 8 * 128 + 1 * p.val at h1
  change _ = 0 * 512 + 1 * q.val at h2
  have h0 : (i 0).val < 1 := (i 0).isLt
  funext a
  apply Fin.ext
  match a with
  | ⟨0, _⟩ => show (i 0).val = 0; omega
  | ⟨1, _⟩ => show (i 1).val = t.val % 8 * 128 + p.val; omega
  | ⟨2, _⟩ => show (i 2).val = q.val; omega
theorem grad_A (a b : Vec Ideal S512x1024 .f32) (t : Fin cfg0.N) (p : Fin 128) (q : Fin 512) (h : t.val < 8) : grad a b (place t p q) = a (ix2 q (row t p)) :=
  dif_pos (show t.val / 8 < 1 by omega)
theorem grad_B (a b : Vec Ideal S512x1024 .f32) (t : Fin cfg0.N) (p : Fin 128) (q : Fin 512) (h : 8 ≤ t.val) : grad a b (place t p q) = b (ix2 q (row t p)) :=
  dif_neg (show ¬t.val / 8 < 1 by omega)

variable (m : (ℓ : Loc nD τ sig) → Buf (Elt Ideal) ℓ) (c : Dev nD) (t : Fin cfg0.N)

/-- Argument 0 as the launch finds it. -/
def A0 : Vec Ideal S512x1024 .f32 := m ((c : Thread nD τ).loc main_arg0)
theorem V_0 : V m c main_v1 = ((broadcastInDim S1x1024x512 ![1, 2] bcast_S1024x512_S1x1024x512_1_2 ((transpose S1024x512 [1, 0] · transposes_S512x1024_S1024x512_1_0) (A0 m c))) : Vec Ideal S1x1024x512 .f32) := by
  unfold A0
  show StableHlo.after hostOps0 _ (Proc.devRef .tc main_v1) = _
  after_results
theorem ix_0 : ∀ t : Fin cfg0.N, t.val < 8 → win0_0.index t = ![0, t.val % 8, 0] := by
  show ∀ t : Fin grid0.N, _
  decide +kernel
theorem blk_0 (ht : t.val < 8) (p : Fin 128) (q : Fin 512) : iblk m c 0 t (ix3 0 p q) = A0 m c (ix2 q (row t p)) := by
  unfold iblk
  rw [View.read_apply]
  show V m c main_v1 _ = _
  rw [V_0]
  refine (congrArg ((broadcastInDim S1x1024x512 ![1, 2] bcast_S1024x512_S1x1024x512_1_2 ((transpose S1024x512 [1, 0] · transposes_S512x1024_S1024x512_1_0) (A0 m c))) : Vec Ideal S1x1024x512 .f32) (part_eq t p q _ _ (ix_0 t ht) ?_ ?_)).trans ?_
  · rfl
  · rfl
  · pointwise
/-- Argument 1 as the launch finds it. -/
def A1 : Vec Ideal S512x1024 .f32 := m ((c : Thread nD τ).loc main_arg1)
theorem V_1 : V m c main_v3 = ((broadcastInDim S1x1024x512 ![1, 2] bcast_S1024x512_S1x1024x512_1_2 ((transpose S1024x512 [1, 0] · transposes_S512x1024_S1024x512_1_0) (A1 m c))) : Vec Ideal S1x1024x512 .f32) := by
  unfold A1
  show StableHlo.after hostOps0 _ (Proc.devRef .tc main_v3) = _
  after_results
theorem ix_1 : ∀ t : Fin cfg0.N, 8 ≤ t.val → win0_1.index t = ![0, t.val % 8, 0] := by
  show ∀ t : Fin grid0.N, _
  decide +kernel
theorem blk_1 (ht : 8 ≤ t.val) (p : Fin 128) (q : Fin 512) : iblk m c 1 t (ix3 0 p q) = A1 m c (ix2 q (row t p)) := by
  unfold iblk
  rw [View.read_apply]
  show V m c main_v3 _ = _
  rw [V_1]
  refine (congrArg ((broadcastInDim S1x1024x512 ![1, 2] bcast_S1024x512_S1x1024x512_1_2 ((transpose S1024x512 [1, 0] · transposes_S512x1024_S1024x512_1_0) (A1 m c))) : Vec Ideal S1x1024x512 .f32) (part_eq t p q _ _ (ix_1 t ht) ?_ ?_)).trans ?_
  · rfl
  · rfl
  · pointwise
/-- Argument 2 as the launch finds it. -/
def A2 : Vec Ideal S2x1024x512 .f32 := m ((c : Thread nD τ).loc main_arg2)
theorem ix_2 : ∀ t : Fin grid0.N, win0_2.index t = idx t := by decide +kernel
theorem blk_2 (p : Fin 128) (q : Fin 512) : iblk m c 2 t (ix3 0 p q) = A2 m c (place t p q) := by
  unfold iblk
  rw [View.read_apply]
  show V m c main_arg2 _ = _
  rw [V_main_arg2]
  exact congrArg (A2 m c) (place_eq t p q _ _ (ix_2 t) ⟨0, by omega, rfl⟩ rfl rfl)
/-- Argument 3 as the launch finds it. -/
def A3 : Vec Ideal S2x1024x512 .f32 := m ((c : Thread nD τ).loc main_arg3)
theorem blk_3 (p : Fin 128) (q : Fin 512) : iblk m c 3 t (ix3 0 p q) = A3 m c (place t p q) := by
  unfold iblk
  rw [View.read_apply]
  show V m c main_arg3 _ = _
  rw [V_main_arg3]
  exact congrArg (A3 m c) (place_eq t p q _ _ (ix_2 t) ⟨0, by omega, rfl⟩ rfl rfl)
/-- Argument 4 as the launch finds it. -/
def A4 : Vec Ideal S2x1024x512 .f32 := m ((c : Thread nD τ).loc main_arg4)
theorem blk_4 (p : Fin 128) (q : Fin 512) : iblk m c 4 t (ix3 0 p q) = A4 m c (place t p q) := by
  unfold iblk
  rw [View.read_apply]
  show V m c main_arg4 _ = _
  rw [V_main_arg4]
  exact congrArg (A4 m c) (place_eq t p q _ _ (ix_2 t) ⟨0, by omega, rfl⟩ rfl rfl)
/-- What a point of layer 0 leaves in output 0. -/
theorem out_5_A (h0 : t.val < 8) (h1 : ¬8 ≤ t.val) (p : Fin 128) (q : Fin 512) :
    (outsAt0 m c t.val t.isLt).1 (ix3 0 p q) = iblk m c 0 t (ix3 0 p q) := by
  rw [outsAt0_A m c t h0 h1]
  dsimp only
  unfold out0_A_5
  rw [View.read_writes_eq_canon]
  on_goal 2 => intro y; apply cover0_A_5
  unfold kernelRun0_A
  dsimp only
  rw [View.canon_unit_zero (S := S1x128x512) hz]
  simp only [kernelRun0_A.sl.r, kernelRun0_A.sl.r_1, kernelRun0_A.sl.r_2, View.readAt_eq_ld, (hs0_0 t).read_unread, View.ld_unit_zero (S := S1x128x512) hz]
  pointwise [k0_pay7, k0_pay11, step, newM, newV]
/-- What a point of layer 1 leaves in output 0. -/
theorem out_5_B (h0 : ¬t.val < 8) (h1 : 8 ≤ t.val) (p : Fin 128) (q : Fin 512) :
    (outsAt0 m c t.val t.isLt).1 (ix3 0 p q) = iblk m c 1 t (ix3 0 p q) := by
  rw [outsAt0_B m c t h0 h1]
  dsimp only
  unfold out0_B_5
  rw [View.read_writes_eq_canon]
  on_goal 2 => intro y; apply cover0_B_5
  unfold kernelRun0_B
  dsimp only
  rw [View.canon_unit_zero (S := S1x128x512) hz]
  simp only [kernelRun0_B.sl.r, kernelRun0_B.sl.r_1, kernelRun0_B.sl.r_2, View.readAt_eq_ld, (hs0_1 t).read_unread, View.ld_unit_zero (S := S1x128x512) hz]
  pointwise [k0_pay12, k0_pay16, step, newM, newV]
theorem val_5 (p : Fin 128) (q : Fin 512) : (outsAt0 m c t.val t.isLt).1 (ix3 0 p q) = (resG (A0 m c) (A1 m c)) (place t p q) := by
  show _ = grad (A0 m c) (A1 m c) (place t p q)
  by_cases h : t.val < 8
  · rw [grad_A _ _ t p q h, out_5_A m c t (by omega) (by omega), blk_0 m c t (by omega)]
  · rw [grad_B _ _ t p q (by omega), out_5_B m c t (by omega) (by omega), blk_1 m c t (by omega)]
/-- Output 0 after the run. -/
theorem arr_5 : ((dats m 0 c).arrAt 5 cfg0.N : Vec Ideal S2x1024x512 .f32) = resG (A0 m c) (A1 m c) := by
  refine (dats m 0 c).arrAt_eq_of_cover 5 _ (fun t _ => ?_) fun (i : S2x1024x512.Idx) => ?_
  · rw [flushed5]
    funext y
    refine (congrArg (outsAt0 m c t.val t.isLt).1 (blk_eq ((cfg0.win 5).xinj (grid0.coords t) y))).trans ((val_5 m c t _ _).trans (congrArg (resG (A0 m c) (A1 m c)) ?_))
    exact (place_eq t _ _ (((cfg0.win 5).blk t).view.emb y) _ (ix_2 t) ⟨(y 0).val, (y 0).isLt, rfl⟩ rfl rfl).symm
  · obtain ⟨t, ht⟩ := covered i
    refine ⟨t, flush0_5 t, ?_⟩
    show i ∈ ((View.whole main_v4_0).slice (win0_5.rect t)).set
    rw [View.set_slice_whole, Rect.mem_set_unit]
    exact ht (win0_5.index t) (ix_2 t)
/-- What a point of layer 0 leaves in output 1. -/
theorem out_6_A (h0 : t.val < 8) (h1 : ¬8 ≤ t.val) (p : Fin 128) (q : Fin 512) :
    (outsAt0 m c t.val t.isLt).2.1 (ix3 0 p q) = step (iblk m c 0 t (ix3 0 p q)) (iblk m c 2 t (ix3 0 p q)) (iblk m c 3 t (ix3 0 p q)) (iblk m c 4 t (ix3 0 p q)) := by
  rw [outsAt0_A m c t h0 h1]
  dsimp only
  unfold out0_A_6
  rw [View.read_writes_eq_canon]
  on_goal 2 => intro y; apply cover0_A_6
  unfold kernelRun0_A
  dsimp only
  rw [View.canon_unit_zero (S := S1x128x512) hz]
  simp only [kernelRun0_A.sl.r, kernelRun0_A.sl.r_1, kernelRun0_A.sl.r_2, View.readAt_eq_ld, (hs0_0 t).read_unread, (hs0_2 t).read_unread, (hs0_3 t).read_unread, (hs0_4 t).read_unread, View.ld_unit_zero (S := S1x128x512) hz]
  pointwise [k0_pay1, k0_pay7, k0_pay8, k0_pay9, k0_pay10, step, newM, newV]
/-- What a point of layer 1 leaves in output 1. -/
theorem out_6_B (h0 : ¬t.val < 8) (h1 : 8 ≤ t.val) (p : Fin 128) (q : Fin 512) :
    (outsAt0 m c t.val t.isLt).2.1 (ix3 0 p q) = step (iblk m c 1 t (ix3 0 p q)) (iblk m c 2 t (ix3 0 p q)) (iblk m c 3 t (ix3 0 p q)) (iblk m c 4 t (ix3 0 p q)) := by
  rw [outsAt0_B m c t h0 h1]
  dsimp only
  unfold out0_B_6
  rw [View.read_writes_eq_canon]
  on_goal 2 => intro y; apply cover0_B_6
  unfold kernelRun0_B
  dsimp only
  rw [View.canon_unit_zero (S := S1x128x512) hz]
  simp only [kernelRun0_B.sl.r, kernelRun0_B.sl.r_1, kernelRun0_B.sl.r_2, View.readAt_eq_ld, (hs0_1 t).read_unread, (hs0_2 t).read_unread, (hs0_3 t).read_unread, (hs0_4 t).read_unread, View.ld_unit_zero (S := S1x128x512) hz]
  pointwise [k0_pay4, k0_pay12, k0_pay13, k0_pay14, k0_pay15, step, newM, newV]
theorem val_6 (p : Fin 128) (q : Fin 512) : (outsAt0 m c t.val t.isLt).2.1 (ix3 0 p q) = (resD (A0 m c) (A1 m c) (A2 m c) (A3 m c) (A4 m c)) (place t p q) := by
  show _ = step (grad (A0 m c) (A1 m c) (place t p q)) (A2 m c (place t p q)) (A3 m c (place t p q)) (A4 m c (place t p q))
  by_cases h : t.val < 8
  · rw [grad_A _ _ t p q h, out_6_A m c t (by omega) (by omega), blk_0 m c t (by omega), blk_2 m c t, blk_3 m c t, blk_4 m c t]
  · rw [grad_B _ _ t p q (by omega), out_6_B m c t (by omega) (by omega), blk_1 m c t (by omega), blk_2 m c t, blk_3 m c t, blk_4 m c t]
/-- Output 1 after the run. -/
theorem arr_6 : ((dats m 0 c).arrAt 6 cfg0.N : Vec Ideal S2x1024x512 .f32) = resD (A0 m c) (A1 m c) (A2 m c) (A3 m c) (A4 m c) := by
  refine (dats m 0 c).arrAt_eq_of_cover 6 _ (fun t _ => ?_) fun (i : S2x1024x512.Idx) => ?_
  · rw [flushed6]
    funext y
    refine (congrArg (outsAt0 m c t.val t.isLt).2.1 (blk_eq ((cfg0.win 6).xinj (grid0.coords t) y))).trans ((val_6 m c t _ _).trans (congrArg (resD (A0 m c) (A1 m c) (A2 m c) (A3 m c) (A4 m c)) ?_))
    exact (place_eq t _ _ (((cfg0.win 6).blk t).view.emb y) _ (ix_2 t) ⟨(y 0).val, (y 0).isLt, rfl⟩ rfl rfl).symm
  · obtain ⟨t, ht⟩ := covered i
    refine ⟨t, flush0_6 t, ?_⟩
    show i ∈ ((View.whole main_v4_1).slice (win0_6.rect t)).set
    rw [View.set_slice_whole, Rect.mem_set_unit]
    exact ht (win0_6.index t) (ix_2 t)
/-- What a point of layer 0 leaves in output 2. -/
theorem out_7_A (h0 : t.val < 8) (h1 : ¬8 ≤ t.val) (p : Fin 128) (q : Fin 512) :
    (outsAt0 m c t.val t.isLt).2.2.1 (ix3 0 p q) = newM (iblk m c 0 t (ix3 0 p q)) (iblk m c 3 t (ix3 0 p q)) := by
  rw [outsAt0_A m c t h0 h1]
  dsimp only
  unfold out0_A_7
  rw [View.read_writes_eq_canon]
  on_goal 2 => intro y; apply cover0_A_7
  unfold kernelRun0_A
  dsimp only
  rw [View.canon_unit_zero (S := S1x128x512) hz]
  simp only [kernelRun0_A.sl.r, kernelRun0_A.sl.r_1, kernelRun0_A.sl.r_2, View.readAt_eq_ld, (hs0_0 t).read_unread, (hs0_3 t).read_unread, View.ld_unit_zero (S := S1x128x512) hz]
  pointwise [k0_pay2, k0_pay7, k0_pay8, step, newM, newV]
/-- What a point of layer 1 leaves in output 2. -/
theorem out_7_B (h0 : ¬t.val < 8) (h1 : 8 ≤ t.val) (p : Fin 128) (q : Fin 512) :
    (outsAt0 m c t.val t.isLt).2.2.1 (ix3 0 p q) = newM (iblk m c 1 t (ix3 0 p q)) (iblk m c 3 t (ix3 0 p q)) := by
  rw [outsAt0_B m c t h0 h1]
  dsimp only
  unfold out0_B_7
  rw [View.read_writes_eq_canon]
  on_goal 2 => intro y; apply cover0_B_7
  unfold kernelRun0_B
  dsimp only
  rw [View.canon_unit_zero (S := S1x128x512) hz]
  simp only [kernelRun0_B.sl.r, kernelRun0_B.sl.r_1, kernelRun0_B.sl.r_2, View.readAt_eq_ld, (hs0_1 t).read_unread, (hs0_3 t).read_unread, View.ld_unit_zero (S := S1x128x512) hz]
  pointwise [k0_pay5, k0_pay12, k0_pay13, step, newM, newV]
theorem val_7 (p : Fin 128) (q : Fin 512) : (outsAt0 m c t.val t.isLt).2.2.1 (ix3 0 p q) = (resM (A0 m c) (A1 m c) (A3 m c)) (place t p q) := by
  show _ = newM (grad (A0 m c) (A1 m c) (place t p q)) (A3 m c (place t p q))
  by_cases h : t.val < 8
  · rw [grad_A _ _ t p q h, out_7_A m c t (by omega) (by omega), blk_0 m c t (by omega), blk_3 m c t]
  · rw [grad_B _ _ t p q (by omega), out_7_B m c t (by omega) (by omega), blk_1 m c t (by omega), blk_3 m c t]
/-- Output 2 after the run. -/
theorem arr_7 : ((dats m 0 c).arrAt 7 cfg0.N : Vec Ideal S2x1024x512 .f32) = resM (A0 m c) (A1 m c) (A3 m c) := by
  refine (dats m 0 c).arrAt_eq_of_cover 7 _ (fun t _ => ?_) fun (i : S2x1024x512.Idx) => ?_
  · rw [flushed7]
    funext y
    refine (congrArg (outsAt0 m c t.val t.isLt).2.2.1 (blk_eq ((cfg0.win 7).xinj (grid0.coords t) y))).trans ((val_7 m c t _ _).trans (congrArg (resM (A0 m c) (A1 m c) (A3 m c)) ?_))
    exact (place_eq t _ _ (((cfg0.win 7).blk t).view.emb y) _ (ix_2 t) ⟨(y 0).val, (y 0).isLt, rfl⟩ rfl rfl).symm
  · obtain ⟨t, ht⟩ := covered i
    refine ⟨t, flush0_7 t, ?_⟩
    show i ∈ ((View.whole main_v4_2).slice (win0_7.rect t)).set
    rw [View.set_slice_whole, Rect.mem_set_unit]
    exact ht (win0_7.index t) (ix_2 t)
/-- What a point of layer 0 leaves in output 3. -/
theorem out_8_A (h0 : t.val < 8) (h1 : ¬8 ≤ t.val) (p : Fin 128) (q : Fin 512) :
    (outsAt0 m c t.val t.isLt).2.2.2 (ix3 0 p q) = newV (iblk m c 0 t (ix3 0 p q)) (iblk m c 4 t (ix3 0 p q)) := by
  rw [outsAt0_A m c t h0 h1]
  dsimp only
  unfold out0_A_8
  rw [View.read_writes_eq_canon]
  on_goal 2 => intro y; apply cover0_A_8
  unfold kernelRun0_A
  dsimp only
  rw [View.canon_unit_zero (S := S1x128x512) hz]
  simp only [kernelRun0_A.sl.r, kernelRun0_A.sl.r_1, kernelRun0_A.sl.r_2, View.readAt_eq_ld, (hs0_0 t).read_unread, (hs0_4 t).read_unread, View.ld_unit_zero (S := S1x128x512) hz]
  pointwise [k0_pay3, k0_pay7, k0_pay9, step, newM, newV]
/-- What a point of layer 1 leaves in output 3. -/
theorem out_8_B (h0 : ¬t.val < 8) (h1 : 8 ≤ t.val) (p : Fin 128) (q : Fin 512) :
    (outsAt0 m c t.val t.isLt).2.2.2 (ix3 0 p q) = newV (iblk m c 1 t (ix3 0 p q)) (iblk m c 4 t (ix3 0 p q)) := by
  rw [outsAt0_B m c t h0 h1]
  dsimp only
  unfold out0_B_8
  rw [View.read_writes_eq_canon]
  on_goal 2 => intro y; apply cover0_B_8
  unfold kernelRun0_B
  dsimp only
  rw [View.canon_unit_zero (S := S1x128x512) hz]
  simp only [kernelRun0_B.sl.r, kernelRun0_B.sl.r_1, kernelRun0_B.sl.r_2, View.readAt_eq_ld, (hs0_1 t).read_unread, (hs0_4 t).read_unread, View.ld_unit_zero (S := S1x128x512) hz]
  pointwise [k0_pay6, k0_pay12, k0_pay14, step, newM, newV]
theorem val_8 (p : Fin 128) (q : Fin 512) : (outsAt0 m c t.val t.isLt).2.2.2 (ix3 0 p q) = (resV (A0 m c) (A1 m c) (A4 m c)) (place t p q) := by
  show _ = newV (grad (A0 m c) (A1 m c) (place t p q)) (A4 m c (place t p q))
  by_cases h : t.val < 8
  · rw [grad_A _ _ t p q h, out_8_A m c t (by omega) (by omega), blk_0 m c t (by omega), blk_4 m c t]
  · rw [grad_B _ _ t p q (by omega), out_8_B m c t (by omega) (by omega), blk_1 m c t (by omega), blk_4 m c t]
/-- Output 3 after the run. -/
theorem arr_8 : ((dats m 0 c).arrAt 8 cfg0.N : Vec Ideal S2x1024x512 .f32) = resV (A0 m c) (A1 m c) (A4 m c) := by
  refine (dats m 0 c).arrAt_eq_of_cover 8 _ (fun t _ => ?_) fun (i : S2x1024x512.Idx) => ?_
  · rw [flushed8]
    funext y
    refine (congrArg (outsAt0 m c t.val t.isLt).2.2.2 (blk_eq ((cfg0.win 8).xinj (grid0.coords t) y))).trans ((val_8 m c t _ _).trans (congrArg (resV (A0 m c) (A1 m c) (A4 m c)) ?_))
    exact (place_eq t _ _ (((cfg0.win 8).blk t).view.emb y) _ (ix_2 t) ⟨(y 0).val, (y 0).isLt, rfl⟩ rfl rfl).symm
  · obtain ⟨t, ht⟩ := covered i
    refine ⟨t, flush0_8 t, ?_⟩
    show i ∈ ((View.whole main_v4_3).slice (win0_8.rect t)).set
    rw [View.set_slice_whole, Rect.mem_set_unit]
    exact ht (win0_8.index t) (ix_2 t)

end Cert.Kernel19Ideal.Value

end
-- ==== Proof.Same19.lean ====
/- AdamW on the first weight of the feed-forward part. Both programs end with the same arrays over the extended reals. -/
module

public import proofs.«01_k».proof.Defs
public import proofs.«01_k».proof.Proof.Mul19
public import proofs.«01_k».proof.Proof.Gen.Reference19Ideal
public import proofs.«01_k».proof.Proof.Gen.Reference19Ideal.Run
public import proofs.«01_k».proof.Proof.Gen.Reference19Ideal.Read
public import Idealize.ShloMosaic.Lib.Pointwise
public import Idealize.ShloMosaic.Lib.Claim
public import Idealize.ShloMosaic.Adequacy

@[expose] public section

set_option maxRecDepth 16384

noncomputable section

namespace Cert.Reference19Ideal.Value

open Cert.Reference19Ideal Cert.Reference19Ideal.Read Cert.Kernel19Ideal.Value Cert.Adam Idealize.ShloMosaic

/-- The reference's result 0. -/
theorem ref_5 (x0 x1 : (⟨S512x1024, .f32⟩ : BufTy).Contents (Elt Ideal)) : val_main_v4 (F := Ideal) x0 x1 = resG x0 x1 := by
  funext x
  rw [eq_ix3 x]
  pointwise [val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 1. -/
theorem ref_6 (x0 x1 : (⟨S512x1024, .f32⟩ : BufTy).Contents (Elt Ideal)) (x2 x3 x4 : (⟨S2x1024x512, .f32⟩ : BufTy).Contents (Elt Ideal)) : val_main_v28 (F := Ideal) x0 x1 x2 x3 x4 = resD x0 x1 x2 x3 x4 := by
  funext x
  rw [eq_ix3 x]
  pointwise [val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 2. -/
theorem ref_7 (x0 x1 : (⟨S512x1024, .f32⟩ : BufTy).Contents (Elt Ideal)) (x3 : (⟨S2x1024x512, .f32⟩ : BufTy).Contents (Elt Ideal)) : val_main_v9 (F := Ideal) x0 x1 x3 = resM x0 x1 x3 := by
  funext x
  rw [eq_ix3 x]
  pointwise [val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 3. -/
theorem ref_8 (x0 x1 : (⟨S512x1024, .f32⟩ : BufTy).Contents (Elt Ideal)) (x4 : (⟨S2x1024x512, .f32⟩ : BufTy).Contents (Elt Ideal)) : val_main_v15 (F := Ideal) x0 x1 x4 = resV x0 x1 x4 := by
  funext x
  rw [eq_ix3 x]
  pointwise [val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]

end Cert.Reference19Ideal.Value

namespace Cert.Proof

open Cert.Kernel19Ideal.Value Cert.Reference19Ideal.Value Cert.Reference19Ideal.Read Idealize.ShloMosaic Idealize.ShloMosaic.StableHlo Idealize.SL.Sem

/-- The frame of this reference: its run leaves the arguments, and it declares no counter. -/
theorem adamw_mlp_up_reference_frame : Cert.quiescent_Reference19Ideal (hReference19Ideal := Cert.Reference19Ideal.Gen.facts) := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

/-- The call and its reference end with the same arrays over the extended reals. -/
theorem adamw_mlp_up_same : Cert.algebraic_Kernel19Ideal_Reference19Ideal (hKernel19Ideal := Cert.Kernel19Ideal.Gen.facts) (hReference19Ideal := Cert.Reference19Ideal.Gen.facts) := by
  intro m ρ m' ρ' _ hag
  refine ⟨_, _, _, _,
    Cert.Kernel19Ideal.Value.run_blocks m ρ, ?_⟩
  refine (θ_run Cert.Reference19Ideal.defs _ _).mono ?_ (Cert.Reference19Ideal.Value.run (F := Ideal) m' ρ')
  intro r h c
  obtain ⟨e0, e1, e2, e3, e4⟩ := hag c
  obtain ⟨h0, h1, h2, h3, hk⟩ := h c
  refine ⟨h0.trans ?_, h1.trans ?_, h2.trans ?_, h3.trans ?_, hk⟩
  · rw [val_main_v4_eq]
    repeat rw [launchContents_devRef]
    rw [e0, e1, ref_5]
    exact (arr_5 m c).symm
  · rw [val_main_v28_eq]
    repeat rw [launchContents_devRef]
    rw [e0, e1, e2, e3, e4, ref_6]
    exact (arr_6 m c).symm
  · rw [val_main_v9_eq]
    repeat rw [launchContents_devRef]
    rw [e0, e1, e3, ref_7]
    exact (arr_7 m c).symm
  · rw [val_main_v15_eq]
    repeat rw [launchContents_devRef]
    rw [e0, e1, e4, ref_8]
    exact (arr_8 m c).symm

end Cert.Proof

end
-- ==== Proof.Mul20.lean ====
/- AdamW on the second weight of the feed-forward part. -/
module

public import proofs.«01_k».proof.Proof.Adam
public import proofs.«01_k».proof.Proof.Gen.Kernel20Ideal.Value
public import Idealize.ShloMosaic.Lib.Pointwise
public import Idealize.ShloMosaic.Lib.Claim
public import Idealize.ShloMosaic.Lib.Pipeline.Value

@[expose] public section

set_option maxRecDepth 16384

noncomputable section

namespace Cert.Kernel20Ideal.Value

open Cert.Kernel20Ideal Cert.Kernel20Ideal.Gen Cert.Adam Idealize.ShloMosaic Idealize.ShloMosaic.TcCoe

theorem hz : (![0, 0, 0] : Fin 3 → Nat) = fun _ => 0 := funext fun a => by fin_cases a <;> rfl

/-- A weight's gradient, from its two layers'. -/
def grad (a b : Vec Ideal S512x1024 .f32) (x : S2x512x1024.Idx) : EReal := if h : (x 0).val < 1 then a (ix2 (x 1) (x 2)) else b (ix2 (x 1) (x 2))
/-- The gradient, the weight's change and the two new moments, as arrays. -/
def resG (a b : Vec Ideal S512x1024 .f32) : Vec Ideal S2x512x1024 .f32 := fun x => grad a b x
def resD (a b : Vec Ideal S512x1024 .f32) (w m v : Vec Ideal S2x512x1024 .f32) : Vec Ideal S2x512x1024 .f32 := fun x => step (grad a b x) (w x) (m x) (v x)
def resM (a b : Vec Ideal S512x1024 .f32) (m : Vec Ideal S2x512x1024 .f32) : Vec Ideal S2x512x1024 .f32 := fun x => newM (grad a b x) (m x)
def resV (a b : Vec Ideal S512x1024 .f32) (v : Vec Ideal S2x512x1024 .f32) : Vec Ideal S2x512x1024 .f32 := fun x => newV (grad a b x) (v x)

theorem lt (t : Fin cfg0.N) : t.val < 8 := lt_of_lt_of_eq t.isLt (show cfg0.N = 8 from N_0)
/-- A grid point's block, counted along each axis. -/
def idx (t : Fin cfg0.N) : Fin 3 → Nat := ![t.val / 4, t.val % 4, 0]
/-- A block's row in the array. -/
def row (t : Fin cfg0.N) (p : Fin 128) : Fin 512 := ⟨t.val % 4 * 128 + p.val, by have := lt t; omega⟩
/-- A block's place in the array. -/
def place (t : Fin cfg0.N) (p : Fin 128) (q : Fin 1024) : S2x512x1024.Idx := ix3 ⟨t.val / 4, by have := lt t; omega⟩ (row t p) q
theorem place_eq (t : Fin cfg0.N) (p : Fin 128) (q : Fin 1024) (i : S2x512x1024.Idx) (f : Fin 3 → Nat) (hf : f = idx t)
    (h0 : ∃ z, z < 1 ∧ (i 0).val = f 0 * 1 + 1 * z) (h1 : (i 1).val = f 1 * 128 + 1 * p.val) (h2 : (i 2).val = f 2 * 1024 + 1 * q.val) : i = place t p q := by
  obtain ⟨z, hz, h0⟩ := h0
  subst hf
  change _ = t.val / 4 * 1 + 1 * z at h0
  change _ = t.val % 4 * 128 + 1 * p.val at h1
  change _ = 0 * 1024 + 1 * q.val at h2
  funext a
  apply Fin.ext
  match a with
  | ⟨0, _⟩ => show (i 0).val = t.val / 4; omega
  | ⟨1, _⟩ => show (i 1).val = t.val % 4 * 128 + p.val; omega
  | ⟨2, _⟩ => show (i 2).val = q.val; omega
theorem blk_eq (y : S1x128x1024.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
/-- Every place is in some point's block. -/
theorem covered (i : S2x512x1024.Idx) : ∃ t : Fin cfg0.N, ∀ f : Fin 3 → Nat, f = idx t → ∀ a : Fin 3, f a * (![1, 128, 1024] : Fin 3 → Nat) a ≤ (i a).val
    ∧ (i a).val < f a * (![1, 128, 1024] : Fin 3 → Nat) a + (![1, 128, 1024] : Fin 3 → Nat) a := by
  have h0 : (i 0).val < 2 := (i 0).isLt
  have h1 : (i 1).val < 512 := (i 1).isLt
  have h2 : (i 2).val < 1024 := (i 2).isLt
  have hN : cfg0.N = 8 := N_0
  refine ⟨⟨(i 0).val * 4 + (i 1).val / 128, by omega⟩, fun f hf a => ?_⟩
  subst hf
  match a with
  | ⟨0, _⟩ => show ((i 0).val * 4 + (i 1).val / 128) / 4 * 1 ≤ (i 0).val ∧ (i 0).val < ((i 0).val * 4 + (i 1).val / 128) / 4 * 1 + 1; omega
  | ⟨1, _⟩ => show ((i 0).val * 4 + (i 1).val / 128) % 4 * 128 ≤ (i 1).val ∧ (i 1).val < ((i 0).val * 4 + (i 1).val / 128) % 4 * 128 + 128; omega
  | ⟨2, _⟩ => show 0 * 1024 ≤ (i 2).val ∧ (i 2).val < 0 * 1024 + 1024; omega
theorem part_eq (t : Fin cfg0.N) (p : Fin 128) (q : Fin 1024) (i : S1x512x1024.Idx) (f : Fin 3 → Nat) (hf : f = ![0, t.val % 4, 0])
    (h1 : (i 1).val = f 1 * 128 + 1 * p.val) (h2 : (i 2).val = f 2 * 1024 + 1 * q.val) : i = ix3 0 (row t p) q := by
  subst hf
  change _ = t.val % 4 * 128 + 1 * p.val at h1
  change _ = 0 * 1024 + 1 * q.val at h2
  have h0 : (i 0).val < 1 := (i 0).isLt
  funext a
  apply Fin.ext
  match a with
  | ⟨0, _⟩ => show (i 0).val = 0; omega
  | ⟨1, _⟩ => show (i 1).val = t.val % 4 * 128 + p.val; omega
  | ⟨2, _⟩ => show (i 2).val = q.val; omega
theorem grad_A (a b : Vec Ideal S512x1024 .f32) (t : Fin cfg0.N) (p : Fin 128) (q : Fin 1024) (h : t.val < 4) : grad a b (place t p q) = a (ix2 (row t p) q) :=
  dif_pos (show t.val / 4 < 1 by omega)
theorem grad_B (a b : Vec Ideal S512x1024 .f32) (t : Fin cfg0.N) (p : Fin 128) (q : Fin 1024) (h : 4 ≤ t.val) : grad a b (place t p q) = b (ix2 (row t p) q) :=
  dif_neg (show ¬t.val / 4 < 1 by omega)

variable (m : (ℓ : Loc nD τ sig) → Buf (Elt Ideal) ℓ) (c : Dev nD) (t : Fin cfg0.N)

/-- Argument 0 as the launch finds it. -/
def A0 : Vec Ideal S512x1024 .f32 := m ((c : Thread nD τ).loc main_arg0)
theorem V_0 : V m c main_v0 = ((broadcastInDim S1x512x1024 ![1, 2] bcast_S512x1024_S1x512x1024_1_2 (A0 m c)) : Vec Ideal S1x512x1024 .f32) := by
  unfold A0
  show StableHlo.after hostOps0 _ (Proc.devRef .tc main_v0) = _
  after_results
theorem ix_0 : ∀ t : Fin cfg0.N, t.val < 4 → win0_0.index t = ![0, t.val % 4, 0] := by
  show ∀ t : Fin grid0.N, _
  decide +kernel
theorem blk_0 (ht : t.val < 4) (p : Fin 128) (q : Fin 1024) : iblk m c 0 t (ix3 0 p q) = A0 m c (ix2 (row t p) q) := by
  unfold iblk
  rw [View.read_apply]
  show V m c main_v0 _ = _
  rw [V_0]
  refine (congrArg ((broadcastInDim S1x512x1024 ![1, 2] bcast_S512x1024_S1x512x1024_1_2 (A0 m c)) : Vec Ideal S1x512x1024 .f32) (part_eq t p q _ _ (ix_0 t ht) ?_ ?_)).trans ?_
  · rfl
  · rfl
  · pointwise
/-- Argument 1 as the launch finds it. -/
def A1 : Vec Ideal S512x1024 .f32 := m ((c : Thread nD τ).loc main_arg1)
theorem V_1 : V m c main_v1 = ((broadcastInDim S1x512x1024 ![1, 2] bcast_S512x1024_S1x512x1024_1_2 (A1 m c)) : Vec Ideal S1x512x1024 .f32) := by
  unfold A1
  show StableHlo.after hostOps0 _ (Proc.devRef .tc main_v1) = _
  after_results
theorem ix_1 : ∀ t : Fin cfg0.N, 4 ≤ t.val → win0_1.index t = ![0, t.val % 4, 0] := by
  show ∀ t : Fin grid0.N, _
  decide +kernel
theorem blk_1 (ht : 4 ≤ t.val) (p : Fin 128) (q : Fin 1024) : iblk m c 1 t (ix3 0 p q) = A1 m c (ix2 (row t p) q) := by
  unfold iblk
  rw [View.read_apply]
  show V m c main_v1 _ = _
  rw [V_1]
  refine (congrArg ((broadcastInDim S1x512x1024 ![1, 2] bcast_S512x1024_S1x512x1024_1_2 (A1 m c)) : Vec Ideal S1x512x1024 .f32) (part_eq t p q _ _ (ix_1 t ht) ?_ ?_)).trans ?_
  · rfl
  · rfl
  · pointwise
/-- Argument 2 as the launch finds it. -/
def A2 : Vec Ideal S2x512x1024 .f32 := m ((c : Thread nD τ).loc main_arg2)
theorem ix_2 : ∀ t : Fin grid0.N, win0_2.index t = idx t := by decide +kernel
theorem blk_2 (p : Fin 128) (q : Fin 1024) : iblk m c 2 t (ix3 0 p q) = A2 m c (place t p q) := by
  unfold iblk
  rw [View.read_apply]
  show V m c main_arg2 _ = _
  rw [V_main_arg2]
  exact congrArg (A2 m c) (place_eq t p q _ _ (ix_2 t) ⟨0, by omega, rfl⟩ rfl rfl)
/-- Argument 3 as the launch finds it. -/
def A3 : Vec Ideal S2x512x1024 .f32 := m ((c : Thread nD τ).loc main_arg3)
theorem blk_3 (p : Fin 128) (q : Fin 1024) : iblk m c 3 t (ix3 0 p q) = A3 m c (place t p q) := by
  unfold iblk
  rw [View.read_apply]
  show V m c main_arg3 _ = _
  rw [V_main_arg3]
  exact congrArg (A3 m c) (place_eq t p q _ _ (ix_2 t) ⟨0, by omega, rfl⟩ rfl rfl)
/-- Argument 4 as the launch finds it. -/
def A4 : Vec Ideal S2x512x1024 .f32 := m ((c : Thread nD τ).loc main_arg4)
theorem blk_4 (p : Fin 128) (q : Fin 1024) : iblk m c 4 t (ix3 0 p q) = A4 m c (place t p q) := by
  unfold iblk
  rw [View.read_apply]
  show V m c main_arg4 _ = _
  rw [V_main_arg4]
  exact congrArg (A4 m c) (place_eq t p q _ _ (ix_2 t) ⟨0, by omega, rfl⟩ rfl rfl)
/-- What a point of layer 0 leaves in output 0. -/
theorem out_5_A (h0 : t.val < 4) (h1 : ¬4 ≤ t.val) (p : Fin 128) (q : Fin 1024) :
    (outsAt0 m c t.val t.isLt).1 (ix3 0 p q) = iblk m c 0 t (ix3 0 p q) := by
  rw [outsAt0_A m c t h0 h1]
  dsimp only
  unfold out0_A_5
  rw [View.read_writes_eq_canon]
  on_goal 2 => intro y; apply cover0_A_5
  unfold kernelRun0_A
  dsimp only
  rw [View.canon_unit_zero (S := S1x128x1024) hz]
  simp only [kernelRun0_A.sl.r, kernelRun0_A.sl.r_1, kernelRun0_A.sl.r_2, View.readAt_eq_ld, (hs0_0 t).read_unread, View.ld_unit_zero (S := S1x128x1024) hz]
  pointwise [k0_pay7, k0_pay11, step, newM, newV]
/-- What a point of layer 1 leaves in output 0. -/
theorem out_5_B (h0 : ¬t.val < 4) (h1 : 4 ≤ t.val) (p : Fin 128) (q : Fin 1024) :
    (outsAt0 m c t.val t.isLt).1 (ix3 0 p q) = iblk m c 1 t (ix3 0 p q) := by
  rw [outsAt0_B m c t h0 h1]
  dsimp only
  unfold out0_B_5
  rw [View.read_writes_eq_canon]
  on_goal 2 => intro y; apply cover0_B_5
  unfold kernelRun0_B
  dsimp only
  rw [View.canon_unit_zero (S := S1x128x1024) hz]
  simp only [kernelRun0_B.sl.r, kernelRun0_B.sl.r_1, kernelRun0_B.sl.r_2, View.readAt_eq_ld, (hs0_1 t).read_unread, View.ld_unit_zero (S := S1x128x1024) hz]
  pointwise [k0_pay12, k0_pay16, step, newM, newV]
theorem val_5 (p : Fin 128) (q : Fin 1024) : (outsAt0 m c t.val t.isLt).1 (ix3 0 p q) = (resG (A0 m c) (A1 m c)) (place t p q) := by
  show _ = grad (A0 m c) (A1 m c) (place t p q)
  by_cases h : t.val < 4
  · rw [grad_A _ _ t p q h, out_5_A m c t (by omega) (by omega), blk_0 m c t (by omega)]
  · rw [grad_B _ _ t p q (by omega), out_5_B m c t (by omega) (by omega), blk_1 m c t (by omega)]
/-- Output 0 after the run. -/
theorem arr_5 : ((dats m 0 c).arrAt 5 cfg0.N : Vec Ideal S2x512x1024 .f32) = resG (A0 m c) (A1 m c) := by
  refine (dats m 0 c).arrAt_eq_of_cover 5 _ (fun t _ => ?_) fun (i : S2x512x1024.Idx) => ?_
  · rw [flushed5]
    funext y
    refine (congrArg (outsAt0 m c t.val t.isLt).1 (blk_eq ((cfg0.win 5).xinj (grid0.coords t) y))).trans ((val_5 m c t _ _).trans (congrArg (resG (A0 m c) (A1 m c)) ?_))
    exact (place_eq t _ _ (((cfg0.win 5).blk t).view.emb y) _ (ix_2 t) ⟨(y 0).val, (y 0).isLt, rfl⟩ rfl rfl).symm
  · obtain ⟨t, ht⟩ := covered i
    refine ⟨t, flush0_5 t, ?_⟩
    show i ∈ ((View.whole main_v2_0).slice (win0_5.rect t)).set
    rw [View.set_slice_whole, Rect.mem_set_unit]
    exact ht (win0_5.index t) (ix_2 t)
/-- What a point of layer 0 leaves in output 1. -/
theorem out_6_A (h0 : t.val < 4) (h1 : ¬4 ≤ t.val) (p : Fin 128) (q : Fin 1024) :
    (outsAt0 m c t.val t.isLt).2.1 (ix3 0 p q) = step (iblk m c 0 t (ix3 0 p q)) (iblk m c 2 t (ix3 0 p q)) (iblk m c 3 t (ix3 0 p q)) (iblk m c 4 t (ix3 0 p q)) := by
  rw [outsAt0_A m c t h0 h1]
  dsimp only
  unfold out0_A_6
  rw [View.read_writes_eq_canon]
  on_goal 2 => intro y; apply cover0_A_6
  unfold kernelRun0_A
  dsimp only
  rw [View.canon_unit_zero (S := S1x128x1024) hz]
  simp only [kernelRun0_A.sl.r, kernelRun0_A.sl.r_1, kernelRun0_A.sl.r_2, View.readAt_eq_ld, (hs0_0 t).read_unread, (hs0_2 t).read_unread, (hs0_3 t).read_unread, (hs0_4 t).read_unread, View.ld_unit_zero (S := S1x128x1024) hz]
  pointwise [k0_pay1, k0_pay7, k0_pay8, k0_pay9, k0_pay10, step, newM, newV]
/-- What a point of layer 1 leaves in output 1. -/
theorem out_6_B (h0 : ¬t.val < 4) (h1 : 4 ≤ t.val) (p : Fin 128) (q : Fin 1024) :
    (outsAt0 m c t.val t.isLt).2.1 (ix3 0 p q) = step (iblk m c 1 t (ix3 0 p q)) (iblk m c 2 t (ix3 0 p q)) (iblk m c 3 t (ix3 0 p q)) (iblk m c 4 t (ix3 0 p q)) := by
  rw [outsAt0_B m c t h0 h1]
  dsimp only
  unfold out0_B_6
  rw [View.read_writes_eq_canon]
  on_goal 2 => intro y; apply cover0_B_6
  unfold kernelRun0_B
  dsimp only
  rw [View.canon_unit_zero (S := S1x128x1024) hz]
  simp only [kernelRun0_B.sl.r, kernelRun0_B.sl.r_1, kernelRun0_B.sl.r_2, View.readAt_eq_ld, (hs0_1 t).read_unread, (hs0_2 t).read_unread, (hs0_3 t).read_unread, (hs0_4 t).read_unread, View.ld_unit_zero (S := S1x128x1024) hz]
  pointwise [k0_pay4, k0_pay12, k0_pay13, k0_pay14, k0_pay15, step, newM, newV]
theorem val_6 (p : Fin 128) (q : Fin 1024) : (outsAt0 m c t.val t.isLt).2.1 (ix3 0 p q) = (resD (A0 m c) (A1 m c) (A2 m c) (A3 m c) (A4 m c)) (place t p q) := by
  show _ = step (grad (A0 m c) (A1 m c) (place t p q)) (A2 m c (place t p q)) (A3 m c (place t p q)) (A4 m c (place t p q))
  by_cases h : t.val < 4
  · rw [grad_A _ _ t p q h, out_6_A m c t (by omega) (by omega), blk_0 m c t (by omega), blk_2 m c t, blk_3 m c t, blk_4 m c t]
  · rw [grad_B _ _ t p q (by omega), out_6_B m c t (by omega) (by omega), blk_1 m c t (by omega), blk_2 m c t, blk_3 m c t, blk_4 m c t]
/-- Output 1 after the run. -/
theorem arr_6 : ((dats m 0 c).arrAt 6 cfg0.N : Vec Ideal S2x512x1024 .f32) = resD (A0 m c) (A1 m c) (A2 m c) (A3 m c) (A4 m c) := by
  refine (dats m 0 c).arrAt_eq_of_cover 6 _ (fun t _ => ?_) fun (i : S2x512x1024.Idx) => ?_
  · rw [flushed6]
    funext y
    refine (congrArg (outsAt0 m c t.val t.isLt).2.1 (blk_eq ((cfg0.win 6).xinj (grid0.coords t) y))).trans ((val_6 m c t _ _).trans (congrArg (resD (A0 m c) (A1 m c) (A2 m c) (A3 m c) (A4 m c)) ?_))
    exact (place_eq t _ _ (((cfg0.win 6).blk t).view.emb y) _ (ix_2 t) ⟨(y 0).val, (y 0).isLt, rfl⟩ rfl rfl).symm
  · obtain ⟨t, ht⟩ := covered i
    refine ⟨t, flush0_6 t, ?_⟩
    show i ∈ ((View.whole main_v2_1).slice (win0_6.rect t)).set
    rw [View.set_slice_whole, Rect.mem_set_unit]
    exact ht (win0_6.index t) (ix_2 t)
/-- What a point of layer 0 leaves in output 2. -/
theorem out_7_A (h0 : t.val < 4) (h1 : ¬4 ≤ t.val) (p : Fin 128) (q : Fin 1024) :
    (outsAt0 m c t.val t.isLt).2.2.1 (ix3 0 p q) = newM (iblk m c 0 t (ix3 0 p q)) (iblk m c 3 t (ix3 0 p q)) := by
  rw [outsAt0_A m c t h0 h1]
  dsimp only
  unfold out0_A_7
  rw [View.read_writes_eq_canon]
  on_goal 2 => intro y; apply cover0_A_7
  unfold kernelRun0_A
  dsimp only
  rw [View.canon_unit_zero (S := S1x128x1024) hz]
  simp only [kernelRun0_A.sl.r, kernelRun0_A.sl.r_1, kernelRun0_A.sl.r_2, View.readAt_eq_ld, (hs0_0 t).read_unread, (hs0_3 t).read_unread, View.ld_unit_zero (S := S1x128x1024) hz]
  pointwise [k0_pay2, k0_pay7, k0_pay8, step, newM, newV]
/-- What a point of layer 1 leaves in output 2. -/
theorem out_7_B (h0 : ¬t.val < 4) (h1 : 4 ≤ t.val) (p : Fin 128) (q : Fin 1024) :
    (outsAt0 m c t.val t.isLt).2.2.1 (ix3 0 p q) = newM (iblk m c 1 t (ix3 0 p q)) (iblk m c 3 t (ix3 0 p q)) := by
  rw [outsAt0_B m c t h0 h1]
  dsimp only
  unfold out0_B_7
  rw [View.read_writes_eq_canon]
  on_goal 2 => intro y; apply cover0_B_7
  unfold kernelRun0_B
  dsimp only
  rw [View.canon_unit_zero (S := S1x128x1024) hz]
  simp only [kernelRun0_B.sl.r, kernelRun0_B.sl.r_1, kernelRun0_B.sl.r_2, View.readAt_eq_ld, (hs0_1 t).read_unread, (hs0_3 t).read_unread, View.ld_unit_zero (S := S1x128x1024) hz]
  pointwise [k0_pay5, k0_pay12, k0_pay13, step, newM, newV]
theorem val_7 (p : Fin 128) (q : Fin 1024) : (outsAt0 m c t.val t.isLt).2.2.1 (ix3 0 p q) = (resM (A0 m c) (A1 m c) (A3 m c)) (place t p q) := by
  show _ = newM (grad (A0 m c) (A1 m c) (place t p q)) (A3 m c (place t p q))
  by_cases h : t.val < 4
  · rw [grad_A _ _ t p q h, out_7_A m c t (by omega) (by omega), blk_0 m c t (by omega), blk_3 m c t]
  · rw [grad_B _ _ t p q (by omega), out_7_B m c t (by omega) (by omega), blk_1 m c t (by omega), blk_3 m c t]
/-- Output 2 after the run. -/
theorem arr_7 : ((dats m 0 c).arrAt 7 cfg0.N : Vec Ideal S2x512x1024 .f32) = resM (A0 m c) (A1 m c) (A3 m c) := by
  refine (dats m 0 c).arrAt_eq_of_cover 7 _ (fun t _ => ?_) fun (i : S2x512x1024.Idx) => ?_
  · rw [flushed7]
    funext y
    refine (congrArg (outsAt0 m c t.val t.isLt).2.2.1 (blk_eq ((cfg0.win 7).xinj (grid0.coords t) y))).trans ((val_7 m c t _ _).trans (congrArg (resM (A0 m c) (A1 m c) (A3 m c)) ?_))
    exact (place_eq t _ _ (((cfg0.win 7).blk t).view.emb y) _ (ix_2 t) ⟨(y 0).val, (y 0).isLt, rfl⟩ rfl rfl).symm
  · obtain ⟨t, ht⟩ := covered i
    refine ⟨t, flush0_7 t, ?_⟩
    show i ∈ ((View.whole main_v2_2).slice (win0_7.rect t)).set
    rw [View.set_slice_whole, Rect.mem_set_unit]
    exact ht (win0_7.index t) (ix_2 t)
/-- What a point of layer 0 leaves in output 3. -/
theorem out_8_A (h0 : t.val < 4) (h1 : ¬4 ≤ t.val) (p : Fin 128) (q : Fin 1024) :
    (outsAt0 m c t.val t.isLt).2.2.2 (ix3 0 p q) = newV (iblk m c 0 t (ix3 0 p q)) (iblk m c 4 t (ix3 0 p q)) := by
  rw [outsAt0_A m c t h0 h1]
  dsimp only
  unfold out0_A_8
  rw [View.read_writes_eq_canon]
  on_goal 2 => intro y; apply cover0_A_8
  unfold kernelRun0_A
  dsimp only
  rw [View.canon_unit_zero (S := S1x128x1024) hz]
  simp only [kernelRun0_A.sl.r, kernelRun0_A.sl.r_1, kernelRun0_A.sl.r_2, View.readAt_eq_ld, (hs0_0 t).read_unread, (hs0_4 t).read_unread, View.ld_unit_zero (S := S1x128x1024) hz]
  pointwise [k0_pay3, k0_pay7, k0_pay9, step, newM, newV]
/-- What a point of layer 1 leaves in output 3. -/
theorem out_8_B (h0 : ¬t.val < 4) (h1 : 4 ≤ t.val) (p : Fin 128) (q : Fin 1024) :
    (outsAt0 m c t.val t.isLt).2.2.2 (ix3 0 p q) = newV (iblk m c 1 t (ix3 0 p q)) (iblk m c 4 t (ix3 0 p q)) := by
  rw [outsAt0_B m c t h0 h1]
  dsimp only
  unfold out0_B_8
  rw [View.read_writes_eq_canon]
  on_goal 2 => intro y; apply cover0_B_8
  unfold kernelRun0_B
  dsimp only
  rw [View.canon_unit_zero (S := S1x128x1024) hz]
  simp only [kernelRun0_B.sl.r, kernelRun0_B.sl.r_1, kernelRun0_B.sl.r_2, View.readAt_eq_ld, (hs0_1 t).read_unread, (hs0_4 t).read_unread, View.ld_unit_zero (S := S1x128x1024) hz]
  pointwise [k0_pay6, k0_pay12, k0_pay14, step, newM, newV]
theorem val_8 (p : Fin 128) (q : Fin 1024) : (outsAt0 m c t.val t.isLt).2.2.2 (ix3 0 p q) = (resV (A0 m c) (A1 m c) (A4 m c)) (place t p q) := by
  show _ = newV (grad (A0 m c) (A1 m c) (place t p q)) (A4 m c (place t p q))
  by_cases h : t.val < 4
  · rw [grad_A _ _ t p q h, out_8_A m c t (by omega) (by omega), blk_0 m c t (by omega), blk_4 m c t]
  · rw [grad_B _ _ t p q (by omega), out_8_B m c t (by omega) (by omega), blk_1 m c t (by omega), blk_4 m c t]
/-- Output 3 after the run. -/
theorem arr_8 : ((dats m 0 c).arrAt 8 cfg0.N : Vec Ideal S2x512x1024 .f32) = resV (A0 m c) (A1 m c) (A4 m c) := by
  refine (dats m 0 c).arrAt_eq_of_cover 8 _ (fun t _ => ?_) fun (i : S2x512x1024.Idx) => ?_
  · rw [flushed8]
    funext y
    refine (congrArg (outsAt0 m c t.val t.isLt).2.2.2 (blk_eq ((cfg0.win 8).xinj (grid0.coords t) y))).trans ((val_8 m c t _ _).trans (congrArg (resV (A0 m c) (A1 m c) (A4 m c)) ?_))
    exact (place_eq t _ _ (((cfg0.win 8).blk t).view.emb y) _ (ix_2 t) ⟨(y 0).val, (y 0).isLt, rfl⟩ rfl rfl).symm
  · obtain ⟨t, ht⟩ := covered i
    refine ⟨t, flush0_8 t, ?_⟩
    show i ∈ ((View.whole main_v2_3).slice (win0_8.rect t)).set
    rw [View.set_slice_whole, Rect.mem_set_unit]
    exact ht (win0_8.index t) (ix_2 t)

end Cert.Kernel20Ideal.Value

end
-- ==== Proof.Same20.lean ====
/- AdamW on the second weight of the feed-forward part. Both programs end with the same arrays over the extended reals. -/
module

public import proofs.«01_k».proof.Defs
public import proofs.«01_k».proof.Proof.Mul20
public import proofs.«01_k».proof.Proof.Gen.Reference20Ideal
public import proofs.«01_k».proof.Proof.Gen.Reference20Ideal.Run
public import proofs.«01_k».proof.Proof.Gen.Reference20Ideal.Read
public import Idealize.ShloMosaic.Lib.Pointwise
public import Idealize.ShloMosaic.Lib.Claim
public import Idealize.ShloMosaic.Adequacy

@[expose] public section

set_option maxRecDepth 16384

noncomputable section

namespace Cert.Reference20Ideal.Value

open Cert.Reference20Ideal Cert.Reference20Ideal.Read Cert.Kernel20Ideal.Value Cert.Adam Idealize.ShloMosaic

/-- The reference's result 0. -/
theorem ref_5 (x0 x1 : (⟨S512x1024, .f32⟩ : BufTy).Contents (Elt Ideal)) : val_main_v2 (F := Ideal) x0 x1 = resG x0 x1 := by
  funext x
  rw [eq_ix3 x]
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, resG, resD, resM, resV, grad, step, newM, newV]
/-- The reference's result 1. -/
theorem ref_6 (x0 x1 : (⟨S512x1024, .f32⟩ : BufTy).Contents (Elt Ideal)) (x2 x3 x4 : (⟨S2x512x1024, .f32⟩ : BufTy).Contents (Elt Ideal)) : val_main_v26 (F := Ideal) x0 x1 x2 x3 x4 = resD x0 x1 x2 x3 x4 := by
  funext x
  rw [eq_ix3 x]
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, resG, resD, resM, resV, grad, step, newM, newV]
/-- The reference's result 2. -/
theorem ref_7 (x0 x1 : (⟨S512x1024, .f32⟩ : BufTy).Contents (Elt Ideal)) (x3 : (⟨S2x512x1024, .f32⟩ : BufTy).Contents (Elt Ideal)) : val_main_v7 (F := Ideal) x0 x1 x3 = resM x0 x1 x3 := by
  funext x
  rw [eq_ix3 x]
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, resG, resD, resM, resV, grad, step, newM, newV]
/-- The reference's result 3. -/
theorem ref_8 (x0 x1 : (⟨S512x1024, .f32⟩ : BufTy).Contents (Elt Ideal)) (x4 : (⟨S2x512x1024, .f32⟩ : BufTy).Contents (Elt Ideal)) : val_main_v13 (F := Ideal) x0 x1 x4 = resV x0 x1 x4 := by
  funext x
  rw [eq_ix3 x]
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, resG, resD, resM, resV, grad, step, newM, newV]

end Cert.Reference20Ideal.Value

namespace Cert.Proof

open Cert.Kernel20Ideal.Value Cert.Reference20Ideal.Value Cert.Reference20Ideal.Read Idealize.ShloMosaic Idealize.ShloMosaic.StableHlo Idealize.SL.Sem

/-- The frame of this reference: its run leaves the arguments, and it declares no counter. -/
theorem adamw_mlp_down_reference_frame : Cert.quiescent_Reference20Ideal (hReference20Ideal := Cert.Reference20Ideal.Gen.facts) := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- The call and its reference end with the same arrays over the extended reals. -/
theorem adamw_mlp_down_same : Cert.algebraic_Kernel20Ideal_Reference20Ideal (hKernel20Ideal := Cert.Kernel20Ideal.Gen.facts) (hReference20Ideal := Cert.Reference20Ideal.Gen.facts) := by
  intro m ρ m' ρ' _ hag
  refine ⟨_, _, _, _,
    Cert.Kernel20Ideal.Value.run_blocks m ρ, ?_⟩
  refine (θ_run Cert.Reference20Ideal.defs _ _).mono ?_ (Cert.Reference20Ideal.Value.run (F := Ideal) m' ρ')
  intro r h c
  obtain ⟨e0, e1, e2, e3, e4⟩ := hag c
  obtain ⟨h0, h1, h2, h3, hk⟩ := h c
  refine ⟨h0.trans ?_, h1.trans ?_, h2.trans ?_, h3.trans ?_, hk⟩
  · rw [val_main_v2_eq]
    repeat rw [launchContents_devRef]
    rw [e0, e1, ref_5]
    exact (arr_5 m c).symm
  · rw [val_main_v26_eq]
    repeat rw [launchContents_devRef]
    rw [e0, e1, e2, e3, e4, ref_6]
    exact (arr_6 m c).symm
  · rw [val_main_v7_eq]
    repeat rw [launchContents_devRef]
    rw [e0, e1, e3, ref_7]
    exact (arr_7 m c).symm
  · rw [val_main_v13_eq]
    repeat rw [launchContents_devRef]
    rw [e0, e1, e4, ref_8]
    exact (arr_8 m c).symm

end Cert.Proof

end
-- ==== Proof.Mul22.lean ====
/- AdamW on the gates' biases. -/
module

public import proofs.«01_k».proof.Proof.Adam
public import proofs.«01_k».proof.Proof.Gen.Kernel22Ideal.Value
public import Idealize.ShloMosaic.Lib.Pointwise
public import Idealize.ShloMosaic.Lib.Claim
public import Idealize.ShloMosaic.Lib.Pipeline.Value

@[expose] public section

set_option maxRecDepth 16384

noncomputable section

namespace Cert.Kernel22Ideal.Value

open Cert.Kernel22Ideal Cert.Kernel22Ideal.Gen kernelRun0_A Cert.Adam Idealize.ShloMosaic Idealize.ShloMosaic.TcCoe

theorem hz : (![0, 0, 0] : Fin 3 → Nat) = fun _ => 0 := funext fun a => by fin_cases a <;> rfl

/-- A weight's gradient. -/
def grad (a : Vec Ideal S1x6x128 .f32) (x : S1x6x128.Idx) : EReal := a x
/-- A gradient as rows of 128. -/
def viewG (x : Vec Ideal S6x128 .f32) : Vec Ideal S1x6x128 .f32 := (broadcastInDim S1x6x128 ![1, 2] bcast_S6x128_S1x6x128_1_2 x)
/-- A weight or a moment as rows of 128. -/
def viewW (x : Vec Ideal S2x3x128 .f32) : Vec Ideal S1x6x128 .f32 := (shapeCast S1x6x128 x shapeCasts_S2x3x128_S1x6x128)
/-- The gradient, the weight's change and the two new moments, as arrays. -/
def resG (a : Vec Ideal S1x6x128 .f32) : Vec Ideal S1x6x128 .f32 := fun x => grad a x
def resD (a : Vec Ideal S1x6x128 .f32) (w m v : Vec Ideal S1x6x128 .f32) : Vec Ideal S1x6x128 .f32 := fun x => step (grad a x) (w x) (m x) (v x)
def resM (a : Vec Ideal S1x6x128 .f32) (m : Vec Ideal S1x6x128 .f32) : Vec Ideal S1x6x128 .f32 := fun x => newM (grad a x) (m x)
def resV (a : Vec Ideal S1x6x128 .f32) (v : Vec Ideal S1x6x128 .f32) : Vec Ideal S1x6x128 .f32 := fun x => newV (grad a x) (v x)

theorem lt (t : Fin cfg0.N) : t.val < 1 := lt_of_lt_of_eq t.isLt (show cfg0.N = 1 from N_0)
/-- A grid point's block, counted along each axis. -/
def idx (t : Fin cfg0.N) : Fin 3 → Nat := ![t.val / 1, t.val % 1, 0]
/-- A block's row in the array. -/
def row (t : Fin cfg0.N) (p : Fin 6) : Fin 6 := ⟨t.val % 1 * 6 + p.val, by have := lt t; omega⟩
/-- A block's place in the array. -/
def place (t : Fin cfg0.N) (p : Fin 6) (q : Fin 128) : S1x6x128.Idx := ix3 ⟨t.val / 1, by have := lt t; omega⟩ (row t p) q
theorem place_eq (t : Fin cfg0.N) (p : Fin 6) (q : Fin 128) (i : S1x6x128.Idx) (f : Fin 3 → Nat) (hf : f = idx t)
    (h0 : ∃ z, z < 1 ∧ (i 0).val = f 0 * 1 + 1 * z) (h1 : (i 1).val = f 1 * 6 + 1 * p.val) (h2 : (i 2).val = f 2 * 128 + 1 * q.val) : i = place t p q := by
  obtain ⟨z, hz, h0⟩ := h0
  subst hf
  change _ = t.val / 1 * 1 + 1 * z at h0
  change _ = t.val % 1 * 6 + 1 * p.val at h1
  change _ = 0 * 128 + 1 * q.val at h2
  funext a
  apply Fin.ext
  match a with
  | ⟨0, _⟩ => show (i 0).val = t.val / 1; omega
  | ⟨1, _⟩ => show (i 1).val = t.val % 1 * 6 + p.val; omega
  | ⟨2, _⟩ => show (i 2).val = q.val; omega
theorem blk_eq (y : S1x6x128.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
/-- Every place is in some point's block. -/
theorem covered (i : S1x6x128.Idx) : ∃ t : Fin cfg0.N, ∀ f : Fin 3 → Nat, f = idx t → ∀ a : Fin 3, f a * (![1, 6, 128] : Fin 3 → Nat) a ≤ (i a).val
    ∧ (i a).val < f a * (![1, 6, 128] : Fin 3 → Nat) a + (![1, 6, 128] : Fin 3 → Nat) a := by
  have h0 : (i 0).val < 1 := (i 0).isLt
  have h1 : (i 1).val < 6 := (i 1).isLt
  have h2 : (i 2).val < 128 := (i 2).isLt
  have hN : cfg0.N = 1 := N_0
  refine ⟨⟨(i 0).val * 1 + (i 1).val / 6, by omega⟩, fun f hf a => ?_⟩
  subst hf
  match a with
  | ⟨0, _⟩ => show ((i 0).val * 1 + (i 1).val / 6) / 1 * 1 ≤ (i 0).val ∧ (i 0).val < ((i 0).val * 1 + (i 1).val / 6) / 1 * 1 + 1; omega
  | ⟨1, _⟩ => show ((i 0).val * 1 + (i 1).val / 6) % 1 * 6 ≤ (i 1).val ∧ (i 1).val < ((i 0).val * 1 + (i 1).val / 6) % 1 * 6 + 6; omega
  | ⟨2, _⟩ => show 0 * 128 ≤ (i 2).val ∧ (i 2).val < 0 * 128 + 128; omega

variable (m : (ℓ : Loc nD τ sig) → Buf (Elt Ideal) ℓ) (c : Dev nD) (t : Fin cfg0.N)

/-- Argument 0 as the launch finds it, as rows. -/
def A0 : Vec Ideal S1x6x128 .f32 := viewG (m ((c : Thread nD τ).loc main_arg0))
theorem V_0 : V m c main_v0 = A0 m c := by
  unfold A0 viewG
  show StableHlo.after hostOps0 _ (Proc.devRef .tc main_v0) = _
  after_results
  all_goals rfl
theorem ix_0 : ∀ t : Fin grid0.N, win0_0.index t = idx t := by decide +kernel
theorem blk_0 (p : Fin 6) (q : Fin 128) : iblk m c 0 t (ix3 0 p q) = A0 m c (place t p q) := by
  unfold iblk
  rw [View.read_apply]
  show V m c main_v0 _ = _
  rw [V_0]
  exact congrArg (A0 m c) (place_eq t p q _ _ (ix_0 t) ⟨0, by omega, rfl⟩ rfl rfl)
/-- Argument 1 as the launch finds it, as rows. -/
def A1 : Vec Ideal S1x6x128 .f32 := viewW (m ((c : Thread nD τ).loc main_arg1))
theorem V_1 : V m c main_v1 = A1 m c := by
  unfold A1 viewW
  show StableHlo.after hostOps0 _ (Proc.devRef .tc main_v1) = _
  after_results
  all_goals rfl
theorem ix_1 : ∀ t : Fin grid0.N, win0_1.index t = idx t := by decide +kernel
theorem blk_1 (p : Fin 6) (q : Fin 128) : iblk m c 1 t (ix3 0 p q) = A1 m c (place t p q) := by
  unfold iblk
  rw [View.read_apply]
  show V m c main_v1 _ = _
  rw [V_1]
  exact congrArg (A1 m c) (place_eq t p q _ _ (ix_1 t) ⟨0, by omega, rfl⟩ rfl rfl)
/-- Argument 2 as the launch finds it, as rows. -/
def A2 : Vec Ideal S1x6x128 .f32 := viewW (m ((c : Thread nD τ).loc main_arg2))
theorem V_2 : V m c main_v2 = A2 m c := by
  unfold A2 viewW
  show StableHlo.after hostOps0 _ (Proc.devRef .tc main_v2) = _
  after_results
  all_goals rfl
theorem ix_2 : ∀ t : Fin grid0.N, win0_2.index t = idx t := by decide +kernel
theorem blk_2 (p : Fin 6) (q : Fin 128) : iblk m c 2 t (ix3 0 p q) = A2 m c (place t p q) := by
  unfold iblk
  rw [View.read_apply]
  show V m c main_v2 _ = _
  rw [V_2]
  exact congrArg (A2 m c) (place_eq t p q _ _ (ix_2 t) ⟨0, by omega, rfl⟩ rfl rfl)
/-- Argument 3 as the launch finds it, as rows. -/
def A3 : Vec Ideal S1x6x128 .f32 := viewW (m ((c : Thread nD τ).loc main_arg3))
theorem V_3 : V m c main_v3 = A3 m c := by
  unfold A3 viewW
  show StableHlo.after hostOps0 _ (Proc.devRef .tc main_v3) = _
  after_results
  all_goals rfl
theorem ix_3 : ∀ t : Fin grid0.N, win0_3.index t = idx t := by decide +kernel
theorem blk_3 (p : Fin 6) (q : Fin 128) : iblk m c 3 t (ix3 0 p q) = A3 m c (place t p q) := by
  unfold iblk
  rw [View.read_apply]
  show V m c main_v3 _ = _
  rw [V_3]
  exact congrArg (A3 m c) (place_eq t p q _ _ (ix_3 t) ⟨0, by omega, rfl⟩ rfl rfl)
/-- What a point leaves in output 0. -/
theorem out_4 (p : Fin 6) (q : Fin 128) :
    (outsAt0 m c t).1 (ix3 0 p q) = iblk m c 0 t (ix3 0 p q) := by
  unfold outsAt0
  dsimp only
  unfold out0_A_4
  rw [View.read_writes_eq_canon]
  on_goal 2 => intro y; apply cover0_A_4
  unfold kernelRun0_A
  dsimp only
  rw [View.canon_unit_zero (S := S1x6x128) hz]
  simp only [sl.r, sl.r_1, sl.r_2, View.readAt_eq_ld, (hs0_0 t).read_unread, View.ld_unit_zero (S := S1x6x128) hz]
  pointwise [k0_pay4, k0_pay8, step, newM, newV]
theorem val_4 (p : Fin 6) (q : Fin 128) : (outsAt0 m c t).1 (ix3 0 p q) = (resG (A0 m c)) (place t p q) := by
  rw [out_4, blk_0]
  rfl
theorem ix_4 : ∀ t : Fin grid0.N, win0_4.index t = idx t := by decide +kernel
/-- Output 0 after the run. -/
theorem arr_4 : ((dats m 0 c).arrAt 4 cfg0.N : Vec Ideal S1x6x128 .f32) = resG (A0 m c) := by
  refine (dats m 0 c).arrAt_eq_of_cover 4 _ (fun t _ => ?_) fun (i : S1x6x128.Idx) => ?_
  · rw [flushed4]
    funext y
    refine (congrArg (outsAt0 m c t).1 (blk_eq ((cfg0.win 4).xinj (grid0.coords t) y))).trans ((val_4 m c t _ _).trans (congrArg (resG (A0 m c)) ?_))
    exact (place_eq t _ _ (((cfg0.win 4).blk t).view.emb y) _ (ix_4 t) ⟨(y 0).val, (y 0).isLt, rfl⟩ rfl rfl).symm
  · obtain ⟨t, ht⟩ := covered i
    refine ⟨t, flush0_4 t, ?_⟩
    show i ∈ ((View.whole main_v4_0).slice (win0_4.rect t)).set
    rw [View.set_slice_whole, Rect.mem_set_unit]
    exact ht (win0_4.index t) (ix_4 t)
/-- What a point leaves in output 1. -/
theorem out_5 (p : Fin 6) (q : Fin 128) :
    (outsAt0 m c t).2.1 (ix3 0 p q) = step (iblk m c 0 t (ix3 0 p q)) (iblk m c 1 t (ix3 0 p q)) (iblk m c 2 t (ix3 0 p q)) (iblk m c 3 t (ix3 0 p q)) := by
  unfold outsAt0
  dsimp only
  unfold out0_A_5
  rw [View.read_writes_eq_canon]
  on_goal 2 => intro y; apply cover0_A_5
  unfold kernelRun0_A
  dsimp only
  rw [View.canon_unit_zero (S := S1x6x128) hz]
  simp only [sl.r, sl.r_1, sl.r_2, View.readAt_eq_ld, (hs0_0 t).read_unread, (hs0_1 t).read_unread, (hs0_2 t).read_unread, (hs0_3 t).read_unread, View.ld_unit_zero (S := S1x6x128) hz]
  pointwise [k0_pay1, k0_pay4, k0_pay5, k0_pay6, k0_pay7, step, newM, newV]
theorem val_5 (p : Fin 6) (q : Fin 128) : (outsAt0 m c t).2.1 (ix3 0 p q) = (resD (A0 m c) (A1 m c) (A2 m c) (A3 m c)) (place t p q) := by
  rw [out_5, blk_0, blk_1, blk_2, blk_3]
  rfl
theorem ix_5 : ∀ t : Fin grid0.N, win0_5.index t = idx t := by decide +kernel
/-- Output 1 after the run. -/
theorem arr_5 : ((dats m 0 c).arrAt 5 cfg0.N : Vec Ideal S1x6x128 .f32) = resD (A0 m c) (A1 m c) (A2 m c) (A3 m c) := by
  refine (dats m 0 c).arrAt_eq_of_cover 5 _ (fun t _ => ?_) fun (i : S1x6x128.Idx) => ?_
  · rw [flushed5]
    funext y
    refine (congrArg (outsAt0 m c t).2.1 (blk_eq ((cfg0.win 5).xinj (grid0.coords t) y))).trans ((val_5 m c t _ _).trans (congrArg (resD (A0 m c) (A1 m c) (A2 m c) (A3 m c)) ?_))
    exact (place_eq t _ _ (((cfg0.win 5).blk t).view.emb y) _ (ix_5 t) ⟨(y 0).val, (y 0).isLt, rfl⟩ rfl rfl).symm
  · obtain ⟨t, ht⟩ := covered i
    refine ⟨t, flush0_5 t, ?_⟩
    show i ∈ ((View.whole main_v4_1).slice (win0_5.rect t)).set
    rw [View.set_slice_whole, Rect.mem_set_unit]
    exact ht (win0_5.index t) (ix_5 t)
/-- What a point leaves in output 2. -/
theorem out_6 (p : Fin 6) (q : Fin 128) :
    (outsAt0 m c t).2.2.1 (ix3 0 p q) = newM (iblk m c 0 t (ix3 0 p q)) (iblk m c 2 t (ix3 0 p q)) := by
  unfold outsAt0
  dsimp only
  unfold out0_A_6
  rw [View.read_writes_eq_canon]
  on_goal 2 => intro y; apply cover0_A_6
  unfold kernelRun0_A
  dsimp only
  rw [View.canon_unit_zero (S := S1x6x128) hz]
  simp only [sl.r, sl.r_1, sl.r_2, View.readAt_eq_ld, (hs0_0 t).read_unread, (hs0_2 t).read_unread, View.ld_unit_zero (S := S1x6x128) hz]
  pointwise [k0_pay2, k0_pay4, k0_pay5, step, newM, newV]
theorem val_6 (p : Fin 6) (q : Fin 128) : (outsAt0 m c t).2.2.1 (ix3 0 p q) = (resM (A0 m c) (A2 m c)) (place t p q) := by
  rw [out_6, blk_0, blk_2]
  rfl
theorem ix_6 : ∀ t : Fin grid0.N, win0_6.index t = idx t := by decide +kernel
/-- Output 2 after the run. -/
theorem arr_6 : ((dats m 0 c).arrAt 6 cfg0.N : Vec Ideal S1x6x128 .f32) = resM (A0 m c) (A2 m c) := by
  refine (dats m 0 c).arrAt_eq_of_cover 6 _ (fun t _ => ?_) fun (i : S1x6x128.Idx) => ?_
  · rw [flushed6]
    funext y
    refine (congrArg (outsAt0 m c t).2.2.1 (blk_eq ((cfg0.win 6).xinj (grid0.coords t) y))).trans ((val_6 m c t _ _).trans (congrArg (resM (A0 m c) (A2 m c)) ?_))
    exact (place_eq t _ _ (((cfg0.win 6).blk t).view.emb y) _ (ix_6 t) ⟨(y 0).val, (y 0).isLt, rfl⟩ rfl rfl).symm
  · obtain ⟨t, ht⟩ := covered i
    refine ⟨t, flush0_6 t, ?_⟩
    show i ∈ ((View.whole main_v4_2).slice (win0_6.rect t)).set
    rw [View.set_slice_whole, Rect.mem_set_unit]
    exact ht (win0_6.index t) (ix_6 t)
/-- What a point leaves in output 3. -/
theorem out_7 (p : Fin 6) (q : Fin 128) :
    (outsAt0 m c t).2.2.2 (ix3 0 p q) = newV (iblk m c 0 t (ix3 0 p q)) (iblk m c 3 t (ix3 0 p q)) := by
  unfold outsAt0
  dsimp only
  unfold out0_A_7
  rw [View.read_writes_eq_canon]
  on_goal 2 => intro y; apply cover0_A_7
  unfold kernelRun0_A
  dsimp only
  rw [View.canon_unit_zero (S := S1x6x128) hz]
  simp only [sl.r, sl.r_1, sl.r_2, View.readAt_eq_ld, (hs0_0 t).read_unread, (hs0_3 t).read_unread, View.ld_unit_zero (S := S1x6x128) hz]
  pointwise [k0_pay3, k0_pay4, k0_pay6, step, newM, newV]
theorem val_7 (p : Fin 6) (q : Fin 128) : (outsAt0 m c t).2.2.2 (ix3 0 p q) = (resV (A0 m c) (A3 m c)) (place t p q) := by
  rw [out_7, blk_0, blk_3]
  rfl
theorem ix_7 : ∀ t : Fin grid0.N, win0_7.index t = idx t := by decide +kernel
/-- Output 3 after the run. -/
theorem arr_7 : ((dats m 0 c).arrAt 7 cfg0.N : Vec Ideal S1x6x128 .f32) = resV (A0 m c) (A3 m c) := by
  refine (dats m 0 c).arrAt_eq_of_cover 7 _ (fun t _ => ?_) fun (i : S1x6x128.Idx) => ?_
  · rw [flushed7]
    funext y
    refine (congrArg (outsAt0 m c t).2.2.2 (blk_eq ((cfg0.win 7).xinj (grid0.coords t) y))).trans ((val_7 m c t _ _).trans (congrArg (resV (A0 m c) (A3 m c)) ?_))
    exact (place_eq t _ _ (((cfg0.win 7).blk t).view.emb y) _ (ix_7 t) ⟨(y 0).val, (y 0).isLt, rfl⟩ rfl rfl).symm
  · obtain ⟨t, ht⟩ := covered i
    refine ⟨t, flush0_7 t, ?_⟩
    show i ∈ ((View.whole main_v4_3).slice (win0_7.rect t)).set
    rw [View.set_slice_whole, Rect.mem_set_unit]
    exact ht (win0_7.index t) (ix_7 t)

end Cert.Kernel22Ideal.Value

end
-- ==== Proof.Same22.lean ====
/- AdamW on the gates' biases. Both programs end with the same arrays over the extended reals. -/
module

public import proofs.«01_k».proof.Defs
public import proofs.«01_k».proof.Proof.Mul22
public import proofs.«01_k».proof.Proof.Gen.Reference22Ideal
public import proofs.«01_k».proof.Proof.Gen.Reference22Ideal.Run
public import proofs.«01_k».proof.Proof.Gen.Reference22Ideal.Read
public import Idealize.ShloMosaic.Lib.Pointwise
public import Idealize.ShloMosaic.Lib.Claim
public import Idealize.ShloMosaic.Adequacy

@[expose] public section

set_option maxRecDepth 16384

noncomputable section

namespace Cert.Reference22Ideal.Value

open Cert.Reference22Ideal Cert.Reference22Ideal.Read Cert.Kernel22Ideal.Value Cert.Adam Idealize.ShloMosaic

/-- The reference's result 0. -/
theorem ref_4 (x0 : (⟨S6x128, .f32⟩ : BufTy).Contents (Elt Ideal)) : val_main_v3 (F := Ideal) x0 = resG (viewG x0) := by
  show _ = resG (val_main_v3 (F := Ideal) x0)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 1. -/
theorem ref_5 (x0 : (⟨S6x128, .f32⟩ : BufTy).Contents (Elt Ideal)) (x1 x2 x3 : (⟨S2x3x128, .f32⟩ : BufTy).Contents (Elt Ideal)) : val_main_v28 (F := Ideal) x0 x1 x2 x3 = resD (viewG x0) (viewW x1) (viewW x2) (viewW x3) := by
  show _ = resD (val_main_v3 (F := Ideal) x0) (val_main_v0 (F := Ideal) x1) (val_main_v1 (F := Ideal) x2) (val_main_v2 (F := Ideal) x3)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 2. -/
theorem ref_6 (x0 : (⟨S6x128, .f32⟩ : BufTy).Contents (Elt Ideal)) (x2 : (⟨S2x3x128, .f32⟩ : BufTy).Contents (Elt Ideal)) : val_main_v9 (F := Ideal) x0 x2 = resM (viewG x0) (viewW x2) := by
  show _ = resM (val_main_v3 (F := Ideal) x0) (val_main_v1 (F := Ideal) x2)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 3. -/
theorem ref_7 (x0 : (⟨S6x128, .f32⟩ : BufTy).Contents (Elt Ideal)) (x3 : (⟨S2x3x128, .f32⟩ : BufTy).Contents (Elt Ideal)) : val_main_v15 (F := Ideal) x0 x3 = resV (viewG x0) (viewW x3) := by
  show _ = resV (val_main_v3 (F := Ideal) x0) (val_main_v2 (F := Ideal) x3)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]

end Cert.Reference22Ideal.Value

namespace Cert.Proof

open Cert.Kernel22Ideal.Value Cert.Reference22Ideal.Value Cert.Reference22Ideal.Read Idealize.ShloMosaic Idealize.ShloMosaic.StableHlo Idealize.SL.Sem

/-- The frame of this reference: its run leaves the arguments, and it declares no counter. -/
theorem adamw_b_gate_reference_frame : Cert.quiescent_Reference22Ideal (hReference22Ideal := Cert.Reference22Ideal.Gen.facts) := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

/-- The call and its reference end with the same arrays over the extended reals. -/
theorem adamw_b_gate_same : Cert.algebraic_Kernel22Ideal_Reference22Ideal (hKernel22Ideal := Cert.Kernel22Ideal.Gen.facts) (hReference22Ideal := Cert.Reference22Ideal.Gen.facts) := by
  intro m ρ m' ρ' _ hag
  refine ⟨_, _, _, _,
    Cert.Kernel22Ideal.Value.run_blocks m ρ, ?_⟩
  refine (θ_run Cert.Reference22Ideal.defs _ _).mono ?_ (Cert.Reference22Ideal.Value.run (F := Ideal) m' ρ')
  intro r h c
  obtain ⟨e0, e1, e2, e3⟩ := hag c
  obtain ⟨h0, h1, h2, h3, hk⟩ := h c
  refine ⟨h0.trans ?_, h1.trans ?_, h2.trans ?_, h3.trans ?_, hk⟩
  · rw [val_main_v3_eq]
    repeat rw [launchContents_devRef]
    rw [e0, ref_4]
    exact (arr_4 m c).symm
  · rw [val_main_v28_eq]
    repeat rw [launchContents_devRef]
    rw [e0, e1, e2, e3, ref_5]
    exact (arr_5 m c).symm
  · rw [val_main_v9_eq]
    repeat rw [launchContents_devRef]
    rw [e0, e2, ref_6]
    exact (arr_6 m c).symm
  · rw [val_main_v15_eq]
    repeat rw [launchContents_devRef]
    rw [e0, e3, ref_7]
    exact (arr_7 m c).symm

end Cert.Proof

end
-- ==== Proof.Mul23.lean ====
/- AdamW on the first convolution's weights. -/
module

public import proofs.«01_k».proof.Proof.Adam
public import proofs.«01_k».proof.Proof.Gen.Kernel23Ideal.Value
public import Idealize.ShloMosaic.Lib.Pointwise
public import Idealize.ShloMosaic.Lib.Claim
public import Idealize.ShloMosaic.Lib.Pipeline.Value

@[expose] public section

set_option maxRecDepth 16384

noncomputable section

namespace Cert.Kernel23Ideal.Value

open Cert.Kernel23Ideal Cert.Kernel23Ideal.Gen kernelRun0_A Cert.Adam Idealize.ShloMosaic Idealize.ShloMosaic.TcCoe

theorem hz : (![0, 0, 0] : Fin 3 → Nat) = fun _ => 0 := funext fun a => by fin_cases a <;> rfl

/-- A weight's gradient. -/
def grad (a : Vec Ideal S1x8x128 .f32) (x : S1x8x128.Idx) : EReal := a x
/-- A gradient as rows of 128. -/
def viewG (x : Vec Ideal S8x128 .f32) : Vec Ideal S1x8x128 .f32 := (broadcastInDim S1x8x128 ![1, 2] bcast_S8x128_S1x8x128_1_2 x)
/-- A weight or a moment as rows of 128. -/
def viewW (x : Vec Ideal S2x4x128 .f32) : Vec Ideal S1x8x128 .f32 := (shapeCast S1x8x128 x shapeCasts_S2x4x128_S1x8x128)
/-- The gradient, the weight's change and the two new moments, as arrays. -/
def resG (a : Vec Ideal S1x8x128 .f32) : Vec Ideal S1x8x128 .f32 := fun x => grad a x
def resD (a : Vec Ideal S1x8x128 .f32) (w m v : Vec Ideal S1x8x128 .f32) : Vec Ideal S1x8x128 .f32 := fun x => step (grad a x) (w x) (m x) (v x)
def resM (a : Vec Ideal S1x8x128 .f32) (m : Vec Ideal S1x8x128 .f32) : Vec Ideal S1x8x128 .f32 := fun x => newM (grad a x) (m x)
def resV (a : Vec Ideal S1x8x128 .f32) (v : Vec Ideal S1x8x128 .f32) : Vec Ideal S1x8x128 .f32 := fun x => newV (grad a x) (v x)

theorem lt (t : Fin cfg0.N) : t.val < 1 := lt_of_lt_of_eq t.isLt (show cfg0.N = 1 from N_0)
/-- A grid point's block, counted along each axis. -/
def idx (t : Fin cfg0.N) : Fin 3 → Nat := ![t.val / 1, t.val % 1, 0]
/-- A block's row in the array. -/
def row (t : Fin cfg0.N) (p : Fin 8) : Fin 8 := ⟨t.val % 1 * 8 + p.val, by have := lt t; omega⟩
/-- A block's place in the array. -/
def place (t : Fin cfg0.N) (p : Fin 8) (q : Fin 128) : S1x8x128.Idx := ix3 ⟨t.val / 1, by have := lt t; omega⟩ (row t p) q
theorem place_eq (t : Fin cfg0.N) (p : Fin 8) (q : Fin 128) (i : S1x8x128.Idx) (f : Fin 3 → Nat) (hf : f = idx t)
    (h0 : ∃ z, z < 1 ∧ (i 0).val = f 0 * 1 + 1 * z) (h1 : (i 1).val = f 1 * 8 + 1 * p.val) (h2 : (i 2).val = f 2 * 128 + 1 * q.val) : i = place t p q := by
  obtain ⟨z, hz, h0⟩ := h0
  subst hf
  change _ = t.val / 1 * 1 + 1 * z at h0
  change _ = t.val % 1 * 8 + 1 * p.val at h1
  change _ = 0 * 128 + 1 * q.val at h2
  funext a
  apply Fin.ext
  match a with
  | ⟨0, _⟩ => show (i 0).val = t.val / 1; omega
  | ⟨1, _⟩ => show (i 1).val = t.val % 1 * 8 + p.val; omega
  | ⟨2, _⟩ => show (i 2).val = q.val; omega
theorem blk_eq (y : S1x8x128.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
/-- Every place is in some point's block. -/
theorem covered (i : S1x8x128.Idx) : ∃ t : Fin cfg0.N, ∀ f : Fin 3 → Nat, f = idx t → ∀ a : Fin 3, f a * (![1, 8, 128] : Fin 3 → Nat) a ≤ (i a).val
    ∧ (i a).val < f a * (![1, 8, 128] : Fin 3 → Nat) a + (![1, 8, 128] : Fin 3 → Nat) a := by
  have h0 : (i 0).val < 1 := (i 0).isLt
  have h1 : (i 1).val < 8 := (i 1).isLt
  have h2 : (i 2).val < 128 := (i 2).isLt
  have hN : cfg0.N = 1 := N_0
  refine ⟨⟨(i 0).val * 1 + (i 1).val / 8, by omega⟩, fun f hf a => ?_⟩
  subst hf
  match a with
  | ⟨0, _⟩ => show ((i 0).val * 1 + (i 1).val / 8) / 1 * 1 ≤ (i 0).val ∧ (i 0).val < ((i 0).val * 1 + (i 1).val / 8) / 1 * 1 + 1; omega
  | ⟨1, _⟩ => show ((i 0).val * 1 + (i 1).val / 8) % 1 * 8 ≤ (i 1).val ∧ (i 1).val < ((i 0).val * 1 + (i 1).val / 8) % 1 * 8 + 8; omega
  | ⟨2, _⟩ => show 0 * 128 ≤ (i 2).val ∧ (i 2).val < 0 * 128 + 128; omega

variable (m : (ℓ : Loc nD τ sig) → Buf (Elt Ideal) ℓ) (c : Dev nD) (t : Fin cfg0.N)

/-- Argument 0 as the launch finds it, as rows. -/
def A0 : Vec Ideal S1x8x128 .f32 := viewG (m ((c : Thread nD τ).loc main_arg0))
theorem V_0 : V m c main_v0 = A0 m c := by
  unfold A0 viewG
  show StableHlo.after hostOps0 _ (Proc.devRef .tc main_v0) = _
  after_results
  all_goals rfl
theorem ix_0 : ∀ t : Fin grid0.N, win0_0.index t = idx t := by decide +kernel
theorem blk_0 (p : Fin 8) (q : Fin 128) : iblk m c 0 t (ix3 0 p q) = A0 m c (place t p q) := by
  unfold iblk
  rw [View.read_apply]
  show V m c main_v0 _ = _
  rw [V_0]
  exact congrArg (A0 m c) (place_eq t p q _ _ (ix_0 t) ⟨0, by omega, rfl⟩ rfl rfl)
/-- Argument 1 as the launch finds it, as rows. -/
def A1 : Vec Ideal S1x8x128 .f32 := viewW (m ((c : Thread nD τ).loc main_arg1))
theorem V_1 : V m c main_v1 = A1 m c := by
  unfold A1 viewW
  show StableHlo.after hostOps0 _ (Proc.devRef .tc main_v1) = _
  after_results
  all_goals rfl
theorem ix_1 : ∀ t : Fin grid0.N, win0_1.index t = idx t := by decide +kernel
theorem blk_1 (p : Fin 8) (q : Fin 128) : iblk m c 1 t (ix3 0 p q) = A1 m c (place t p q) := by
  unfold iblk
  rw [View.read_apply]
  show V m c main_v1 _ = _
  rw [V_1]
  exact congrArg (A1 m c) (place_eq t p q _ _ (ix_1 t) ⟨0, by omega, rfl⟩ rfl rfl)
/-- Argument 2 as the launch finds it, as rows. -/
def A2 : Vec Ideal S1x8x128 .f32 := viewW (m ((c : Thread nD τ).loc main_arg2))
theorem V_2 : V m c main_v2 = A2 m c := by
  unfold A2 viewW
  show StableHlo.after hostOps0 _ (Proc.devRef .tc main_v2) = _
  after_results
  all_goals rfl
theorem ix_2 : ∀ t : Fin grid0.N, win0_2.index t = idx t := by decide +kernel
theorem blk_2 (p : Fin 8) (q : Fin 128) : iblk m c 2 t (ix3 0 p q) = A2 m c (place t p q) := by
  unfold iblk
  rw [View.read_apply]
  show V m c main_v2 _ = _
  rw [V_2]
  exact congrArg (A2 m c) (place_eq t p q _ _ (ix_2 t) ⟨0, by omega, rfl⟩ rfl rfl)
/-- Argument 3 as the launch finds it, as rows. -/
def A3 : Vec Ideal S1x8x128 .f32 := viewW (m ((c : Thread nD τ).loc main_arg3))
theorem V_3 : V m c main_v3 = A3 m c := by
  unfold A3 viewW
  show StableHlo.after hostOps0 _ (Proc.devRef .tc main_v3) = _
  after_results
  all_goals rfl
theorem ix_3 : ∀ t : Fin grid0.N, win0_3.index t = idx t := by decide +kernel
theorem blk_3 (p : Fin 8) (q : Fin 128) : iblk m c 3 t (ix3 0 p q) = A3 m c (place t p q) := by
  unfold iblk
  rw [View.read_apply]
  show V m c main_v3 _ = _
  rw [V_3]
  exact congrArg (A3 m c) (place_eq t p q _ _ (ix_3 t) ⟨0, by omega, rfl⟩ rfl rfl)
/-- What a point leaves in output 0. -/
theorem out_4 (p : Fin 8) (q : Fin 128) :
    (outsAt0 m c t).1 (ix3 0 p q) = iblk m c 0 t (ix3 0 p q) := by
  unfold outsAt0
  dsimp only
  unfold out0_A_4
  rw [View.read_writes_eq_canon]
  on_goal 2 => intro y; apply cover0_A_4
  unfold kernelRun0_A
  dsimp only
  rw [View.canon_unit_zero (S := S1x8x128) hz]
  simp only [sl.r, sl.r_1, sl.r_2, View.readAt_eq_ld, (hs0_0 t).read_unread, View.ld_unit_zero (S := S1x8x128) hz]
  pointwise [k0_pay4, k0_pay8, step, newM, newV]
theorem val_4 (p : Fin 8) (q : Fin 128) : (outsAt0 m c t).1 (ix3 0 p q) = (resG (A0 m c)) (place t p q) := by
  rw [out_4, blk_0]
  rfl
theorem ix_4 : ∀ t : Fin grid0.N, win0_4.index t = idx t := by decide +kernel
/-- Output 0 after the run. -/
theorem arr_4 : ((dats m 0 c).arrAt 4 cfg0.N : Vec Ideal S1x8x128 .f32) = resG (A0 m c) := by
  refine (dats m 0 c).arrAt_eq_of_cover 4 _ (fun t _ => ?_) fun (i : S1x8x128.Idx) => ?_
  · rw [flushed4]
    funext y
    refine (congrArg (outsAt0 m c t).1 (blk_eq ((cfg0.win 4).xinj (grid0.coords t) y))).trans ((val_4 m c t _ _).trans (congrArg (resG (A0 m c)) ?_))
    exact (place_eq t _ _ (((cfg0.win 4).blk t).view.emb y) _ (ix_4 t) ⟨(y 0).val, (y 0).isLt, rfl⟩ rfl rfl).symm
  · obtain ⟨t, ht⟩ := covered i
    refine ⟨t, flush0_4 t, ?_⟩
    show i ∈ ((View.whole main_v4_0).slice (win0_4.rect t)).set
    rw [View.set_slice_whole, Rect.mem_set_unit]
    exact ht (win0_4.index t) (ix_4 t)
/-- What a point leaves in output 1. -/
theorem out_5 (p : Fin 8) (q : Fin 128) :
    (outsAt0 m c t).2.1 (ix3 0 p q) = step (iblk m c 0 t (ix3 0 p q)) (iblk m c 1 t (ix3 0 p q)) (iblk m c 2 t (ix3 0 p q)) (iblk m c 3 t (ix3 0 p q)) := by
  unfold outsAt0
  dsimp only
  unfold out0_A_5
  rw [View.read_writes_eq_canon]
  on_goal 2 => intro y; apply cover0_A_5
  unfold kernelRun0_A
  dsimp only
  rw [View.canon_unit_zero (S := S1x8x128) hz]
  simp only [sl.r, sl.r_1, sl.r_2, View.readAt_eq_ld, (hs0_0 t).read_unread, (hs0_1 t).read_unread, (hs0_2 t).read_unread, (hs0_3 t).read_unread, View.ld_unit_zero (S := S1x8x128) hz]
  pointwise [k0_pay1, k0_pay4, k0_pay5, k0_pay6, k0_pay7, step, newM, newV]
theorem val_5 (p : Fin 8) (q : Fin 128) : (outsAt0 m c t).2.1 (ix3 0 p q) = (resD (A0 m c) (A1 m c) (A2 m c) (A3 m c)) (place t p q) := by
  rw [out_5, blk_0, blk_1, blk_2, blk_3]
  rfl
theorem ix_5 : ∀ t : Fin grid0.N, win0_5.index t = idx t := by decide +kernel
/-- Output 1 after the run. -/
theorem arr_5 : ((dats m 0 c).arrAt 5 cfg0.N : Vec Ideal S1x8x128 .f32) = resD (A0 m c) (A1 m c) (A2 m c) (A3 m c) := by
  refine (dats m 0 c).arrAt_eq_of_cover 5 _ (fun t _ => ?_) fun (i : S1x8x128.Idx) => ?_
  · rw [flushed5]
    funext y
    refine (congrArg (outsAt0 m c t).2.1 (blk_eq ((cfg0.win 5).xinj (grid0.coords t) y))).trans ((val_5 m c t _ _).trans (congrArg (resD (A0 m c) (A1 m c) (A2 m c) (A3 m c)) ?_))
    exact (place_eq t _ _ (((cfg0.win 5).blk t).view.emb y) _ (ix_5 t) ⟨(y 0).val, (y 0).isLt, rfl⟩ rfl rfl).symm
  · obtain ⟨t, ht⟩ := covered i
    refine ⟨t, flush0_5 t, ?_⟩
    show i ∈ ((View.whole main_v4_1).slice (win0_5.rect t)).set
    rw [View.set_slice_whole, Rect.mem_set_unit]
    exact ht (win0_5.index t) (ix_5 t)
/-- What a point leaves in output 2. -/
theorem out_6 (p : Fin 8) (q : Fin 128) :
    (outsAt0 m c t).2.2.1 (ix3 0 p q) = newM (iblk m c 0 t (ix3 0 p q)) (iblk m c 2 t (ix3 0 p q)) := by
  unfold outsAt0
  dsimp only
  unfold out0_A_6
  rw [View.read_writes_eq_canon]
  on_goal 2 => intro y; apply cover0_A_6
  unfold kernelRun0_A
  dsimp only
  rw [View.canon_unit_zero (S := S1x8x128) hz]
  simp only [sl.r, sl.r_1, sl.r_2, View.readAt_eq_ld, (hs0_0 t).read_unread, (hs0_2 t).read_unread, View.ld_unit_zero (S := S1x8x128) hz]
  pointwise [k0_pay2, k0_pay4, k0_pay5, step, newM, newV]
theorem val_6 (p : Fin 8) (q : Fin 128) : (outsAt0 m c t).2.2.1 (ix3 0 p q) = (resM (A0 m c) (A2 m c)) (place t p q) := by
  rw [out_6, blk_0, blk_2]
  rfl
theorem ix_6 : ∀ t : Fin grid0.N, win0_6.index t = idx t := by decide +kernel
/-- Output 2 after the run. -/
theorem arr_6 : ((dats m 0 c).arrAt 6 cfg0.N : Vec Ideal S1x8x128 .f32) = resM (A0 m c) (A2 m c) := by
  refine (dats m 0 c).arrAt_eq_of_cover 6 _ (fun t _ => ?_) fun (i : S1x8x128.Idx) => ?_
  · rw [flushed6]
    funext y
    refine (congrArg (outsAt0 m c t).2.2.1 (blk_eq ((cfg0.win 6).xinj (grid0.coords t) y))).trans ((val_6 m c t _ _).trans (congrArg (resM (A0 m c) (A2 m c)) ?_))
    exact (place_eq t _ _ (((cfg0.win 6).blk t).view.emb y) _ (ix_6 t) ⟨(y 0).val, (y 0).isLt, rfl⟩ rfl rfl).symm
  · obtain ⟨t, ht⟩ := covered i
    refine ⟨t, flush0_6 t, ?_⟩
    show i ∈ ((View.whole main_v4_2).slice (win0_6.rect t)).set
    rw [View.set_slice_whole, Rect.mem_set_unit]
    exact ht (win0_6.index t) (ix_6 t)
/-- What a point leaves in output 3. -/
theorem out_7 (p : Fin 8) (q : Fin 128) :
    (outsAt0 m c t).2.2.2 (ix3 0 p q) = newV (iblk m c 0 t (ix3 0 p q)) (iblk m c 3 t (ix3 0 p q)) := by
  unfold outsAt0
  dsimp only
  unfold out0_A_7
  rw [View.read_writes_eq_canon]
  on_goal 2 => intro y; apply cover0_A_7
  unfold kernelRun0_A
  dsimp only
  rw [View.canon_unit_zero (S := S1x8x128) hz]
  simp only [sl.r, sl.r_1, sl.r_2, View.readAt_eq_ld, (hs0_0 t).read_unread, (hs0_3 t).read_unread, View.ld_unit_zero (S := S1x8x128) hz]
  pointwise [k0_pay3, k0_pay4, k0_pay6, step, newM, newV]
theorem val_7 (p : Fin 8) (q : Fin 128) : (outsAt0 m c t).2.2.2 (ix3 0 p q) = (resV (A0 m c) (A3 m c)) (place t p q) := by
  rw [out_7, blk_0, blk_3]
  rfl
theorem ix_7 : ∀ t : Fin grid0.N, win0_7.index t = idx t := by decide +kernel
/-- Output 3 after the run. -/
theorem arr_7 : ((dats m 0 c).arrAt 7 cfg0.N : Vec Ideal S1x8x128 .f32) = resV (A0 m c) (A3 m c) := by
  refine (dats m 0 c).arrAt_eq_of_cover 7 _ (fun t _ => ?_) fun (i : S1x8x128.Idx) => ?_
  · rw [flushed7]
    funext y
    refine (congrArg (outsAt0 m c t).2.2.2 (blk_eq ((cfg0.win 7).xinj (grid0.coords t) y))).trans ((val_7 m c t _ _).trans (congrArg (resV (A0 m c) (A3 m c)) ?_))
    exact (place_eq t _ _ (((cfg0.win 7).blk t).view.emb y) _ (ix_7 t) ⟨(y 0).val, (y 0).isLt, rfl⟩ rfl rfl).symm
  · obtain ⟨t, ht⟩ := covered i
    refine ⟨t, flush0_7 t, ?_⟩
    show i ∈ ((View.whole main_v4_3).slice (win0_7.rect t)).set
    rw [View.set_slice_whole, Rect.mem_set_unit]
    exact ht (win0_7.index t) (ix_7 t)

end Cert.Kernel23Ideal.Value

end
-- ==== Proof.Same23.lean ====
/- AdamW on the first convolution's weights. Both programs end with the same arrays over the extended reals. -/
module

public import proofs.«01_k».proof.Defs
public import proofs.«01_k».proof.Proof.Mul23
public import proofs.«01_k».proof.Proof.Gen.Reference23Ideal
public import proofs.«01_k».proof.Proof.Gen.Reference23Ideal.Run
public import proofs.«01_k».proof.Proof.Gen.Reference23Ideal.Read
public import Idealize.ShloMosaic.Lib.Pointwise
public import Idealize.ShloMosaic.Lib.Claim
public import Idealize.ShloMosaic.Adequacy

@[expose] public section

set_option maxRecDepth 16384

noncomputable section

namespace Cert.Reference23Ideal.Value

open Cert.Reference23Ideal Cert.Reference23Ideal.Read Cert.Kernel23Ideal.Value Cert.Adam Idealize.ShloMosaic

/-- The reference's result 0. -/
theorem ref_4 (x0 : (⟨S8x128, .f32⟩ : BufTy).Contents (Elt Ideal)) : val_main_v3 (F := Ideal) x0 = resG (viewG x0) := by
  show _ = resG (val_main_v3 (F := Ideal) x0)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 1. -/
theorem ref_5 (x0 : (⟨S8x128, .f32⟩ : BufTy).Contents (Elt Ideal)) (x1 x2 x3 : (⟨S2x4x128, .f32⟩ : BufTy).Contents (Elt Ideal)) : val_main_v28 (F := Ideal) x0 x1 x2 x3 = resD (viewG x0) (viewW x1) (viewW x2) (viewW x3) := by
  show _ = resD (val_main_v3 (F := Ideal) x0) (val_main_v0 (F := Ideal) x1) (val_main_v1 (F := Ideal) x2) (val_main_v2 (F := Ideal) x3)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 2. -/
theorem ref_6 (x0 : (⟨S8x128, .f32⟩ : BufTy).Contents (Elt Ideal)) (x2 : (⟨S2x4x128, .f32⟩ : BufTy).Contents (Elt Ideal)) : val_main_v9 (F := Ideal) x0 x2 = resM (viewG x0) (viewW x2) := by
  show _ = resM (val_main_v3 (F := Ideal) x0) (val_main_v1 (F := Ideal) x2)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 3. -/
theorem ref_7 (x0 : (⟨S8x128, .f32⟩ : BufTy).Contents (Elt Ideal)) (x3 : (⟨S2x4x128, .f32⟩ : BufTy).Contents (Elt Ideal)) : val_main_v15 (F := Ideal) x0 x3 = resV (viewG x0) (viewW x3) := by
  show _ = resV (val_main_v3 (F := Ideal) x0) (val_main_v2 (F := Ideal) x3)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]

end Cert.Reference23Ideal.Value

namespace Cert.Proof

open Cert.Kernel23Ideal.Value Cert.Reference23Ideal.Value Cert.Reference23Ideal.Read Idealize.ShloMosaic Idealize.ShloMosaic.StableHlo Idealize.SL.Sem

/-- The frame of this reference: its run leaves the arguments, and it declares no counter. -/
theorem adamw_lru_conv_w_reference_frame : Cert.quiescent_Reference23Ideal (hReference23Ideal := Cert.Reference23Ideal.Gen.facts) := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

/-- The call and its reference end with the same arrays over the extended reals. -/
theorem adamw_lru_conv_w_same : Cert.algebraic_Kernel23Ideal_Reference23Ideal (hKernel23Ideal := Cert.Kernel23Ideal.Gen.facts) (hReference23Ideal := Cert.Reference23Ideal.Gen.facts) := by
  intro m ρ m' ρ' _ hag
  refine ⟨_, _, _, _,
    Cert.Kernel23Ideal.Value.run_blocks m ρ, ?_⟩
  refine (θ_run Cert.Reference23Ideal.defs _ _).mono ?_ (Cert.Reference23Ideal.Value.run (F := Ideal) m' ρ')
  intro r h c
  obtain ⟨e0, e1, e2, e3⟩ := hag c
  obtain ⟨h0, h1, h2, h3, hk⟩ := h c
  refine ⟨h0.trans ?_, h1.trans ?_, h2.trans ?_, h3.trans ?_, hk⟩
  · rw [val_main_v3_eq]
    repeat rw [launchContents_devRef]
    rw [e0, ref_4]
    exact (arr_4 m c).symm
  · rw [val_main_v28_eq]
    repeat rw [launchContents_devRef]
    rw [e0, e1, e2, e3, ref_5]
    exact (arr_5 m c).symm
  · rw [val_main_v9_eq]
    repeat rw [launchContents_devRef]
    rw [e0, e2, ref_6]
    exact (arr_6 m c).symm
  · rw [val_main_v15_eq]
    repeat rw [launchContents_devRef]
    rw [e0, e3, ref_7]
    exact (arr_7 m c).symm

end Cert.Proof

end
-- ==== Proof.Mul24.lean ====
/- AdamW on the second convolution's weights. -/
module

public import proofs.«01_k».proof.Proof.Adam
public import proofs.«01_k».proof.Proof.Gen.Kernel24Ideal.Value
public import Idealize.ShloMosaic.Lib.Pointwise
public import Idealize.ShloMosaic.Lib.Claim
public import Idealize.ShloMosaic.Lib.Pipeline.Value

@[expose] public section

set_option maxRecDepth 16384

noncomputable section

namespace Cert.Kernel24Ideal.Value

open Cert.Kernel24Ideal Cert.Kernel24Ideal.Gen kernelRun0_A Cert.Adam Idealize.ShloMosaic Idealize.ShloMosaic.TcCoe

theorem hz : (![0, 0, 0] : Fin 3 → Nat) = fun _ => 0 := funext fun a => by fin_cases a <;> rfl

/-- A weight's gradient. -/
def grad (a : Vec Ideal S1x8x256 .f32) (x : S1x8x256.Idx) : EReal := a x
/-- A gradient as rows of 256. -/
def viewG (x : Vec Ideal S8x256 .f32) : Vec Ideal S1x8x256 .f32 := (broadcastInDim S1x8x256 ![1, 2] bcast_S8x256_S1x8x256_1_2 x)
/-- A weight or a moment as rows of 256. -/
def viewW (x : Vec Ideal S2x4x256 .f32) : Vec Ideal S1x8x256 .f32 := (shapeCast S1x8x256 x shapeCasts_S2x4x256_S1x8x256)
/-- The gradient, the weight's change and the two new moments, as arrays. -/
def resG (a : Vec Ideal S1x8x256 .f32) : Vec Ideal S1x8x256 .f32 := fun x => grad a x
def resD (a : Vec Ideal S1x8x256 .f32) (w m v : Vec Ideal S1x8x256 .f32) : Vec Ideal S1x8x256 .f32 := fun x => step (grad a x) (w x) (m x) (v x)
def resM (a : Vec Ideal S1x8x256 .f32) (m : Vec Ideal S1x8x256 .f32) : Vec Ideal S1x8x256 .f32 := fun x => newM (grad a x) (m x)
def resV (a : Vec Ideal S1x8x256 .f32) (v : Vec Ideal S1x8x256 .f32) : Vec Ideal S1x8x256 .f32 := fun x => newV (grad a x) (v x)

theorem lt (t : Fin cfg0.N) : t.val < 1 := lt_of_lt_of_eq t.isLt (show cfg0.N = 1 from N_0)
/-- A grid point's block, counted along each axis. -/
def idx (t : Fin cfg0.N) : Fin 3 → Nat := ![t.val / 1, t.val % 1, 0]
/-- A block's row in the array. -/
def row (t : Fin cfg0.N) (p : Fin 8) : Fin 8 := ⟨t.val % 1 * 8 + p.val, by have := lt t; omega⟩
/-- A block's place in the array. -/
def place (t : Fin cfg0.N) (p : Fin 8) (q : Fin 256) : S1x8x256.Idx := ix3 ⟨t.val / 1, by have := lt t; omega⟩ (row t p) q
theorem place_eq (t : Fin cfg0.N) (p : Fin 8) (q : Fin 256) (i : S1x8x256.Idx) (f : Fin 3 → Nat) (hf : f = idx t)
    (h0 : ∃ z, z < 1 ∧ (i 0).val = f 0 * 1 + 1 * z) (h1 : (i 1).val = f 1 * 8 + 1 * p.val) (h2 : (i 2).val = f 2 * 256 + 1 * q.val) : i = place t p q := by
  obtain ⟨z, hz, h0⟩ := h0
  subst hf
  change _ = t.val / 1 * 1 + 1 * z at h0
  change _ = t.val % 1 * 8 + 1 * p.val at h1
  change _ = 0 * 256 + 1 * q.val at h2
  funext a
  apply Fin.ext
  match a with
  | ⟨0, _⟩ => show (i 0).val = t.val / 1; omega
  | ⟨1, _⟩ => show (i 1).val = t.val % 1 * 8 + p.val; omega
  | ⟨2, _⟩ => show (i 2).val = q.val; omega
theorem blk_eq (y : S1x8x256.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
/-- Every place is in some point's block. -/
theorem covered (i : S1x8x256.Idx) : ∃ t : Fin cfg0.N, ∀ f : Fin 3 → Nat, f = idx t → ∀ a : Fin 3, f a * (![1, 8, 256] : Fin 3 → Nat) a ≤ (i a).val
    ∧ (i a).val < f a * (![1, 8, 256] : Fin 3 → Nat) a + (![1, 8, 256] : Fin 3 → Nat) a := by
  have h0 : (i 0).val < 1 := (i 0).isLt
  have h1 : (i 1).val < 8 := (i 1).isLt
  have h2 : (i 2).val < 256 := (i 2).isLt
  have hN : cfg0.N = 1 := N_0
  refine ⟨⟨(i 0).val * 1 + (i 1).val / 8, by omega⟩, fun f hf a => ?_⟩
  subst hf
  match a with
  | ⟨0, _⟩ => show ((i 0).val * 1 + (i 1).val / 8) / 1 * 1 ≤ (i 0).val ∧ (i 0).val < ((i 0).val * 1 + (i 1).val / 8) / 1 * 1 + 1; omega
  | ⟨1, _⟩ => show ((i 0).val * 1 + (i 1).val / 8) % 1 * 8 ≤ (i 1).val ∧ (i 1).val < ((i 0).val * 1 + (i 1).val / 8) % 1 * 8 + 8; omega
  | ⟨2, _⟩ => show 0 * 256 ≤ (i 2).val ∧ (i 2).val < 0 * 256 + 256; omega

variable (m : (ℓ : Loc nD τ sig) → Buf (Elt Ideal) ℓ) (c : Dev nD) (t : Fin cfg0.N)

/-- Argument 0 as the launch finds it, as rows. -/
def A0 : Vec Ideal S1x8x256 .f32 := viewG (m ((c : Thread nD τ).loc main_arg0))
theorem V_0 : V m c main_v0 = A0 m c := by
  unfold A0 viewG
  show StableHlo.after hostOps0 _ (Proc.devRef .tc main_v0) = _
  after_results
  all_goals rfl
theorem ix_0 : ∀ t : Fin grid0.N, win0_0.index t = idx t := by decide +kernel
theorem blk_0 (p : Fin 8) (q : Fin 256) : iblk m c 0 t (ix3 0 p q) = A0 m c (place t p q) := by
  unfold iblk
  rw [View.read_apply]
  show V m c main_v0 _ = _
  rw [V_0]
  exact congrArg (A0 m c) (place_eq t p q _ _ (ix_0 t) ⟨0, by omega, rfl⟩ rfl rfl)
/-- Argument 1 as the launch finds it, as rows. -/
def A1 : Vec Ideal S1x8x256 .f32 := viewW (m ((c : Thread nD τ).loc main_arg1))
theorem V_1 : V m c main_v1 = A1 m c := by
  unfold A1 viewW
  show StableHlo.after hostOps0 _ (Proc.devRef .tc main_v1) = _
  after_results
  all_goals rfl
theorem ix_1 : ∀ t : Fin grid0.N, win0_1.index t = idx t := by decide +kernel
theorem blk_1 (p : Fin 8) (q : Fin 256) : iblk m c 1 t (ix3 0 p q) = A1 m c (place t p q) := by
  unfold iblk
  rw [View.read_apply]
  show V m c main_v1 _ = _
  rw [V_1]
  exact congrArg (A1 m c) (place_eq t p q _ _ (ix_1 t) ⟨0, by omega, rfl⟩ rfl rfl)
/-- Argument 2 as the launch finds it, as rows. -/
def A2 : Vec Ideal S1x8x256 .f32 := viewW (m ((c : Thread nD τ).loc main_arg2))
theorem V_2 : V m c main_v2 = A2 m c := by
  unfold A2 viewW
  show StableHlo.after hostOps0 _ (Proc.devRef .tc main_v2) = _
  after_results
  all_goals rfl
theorem ix_2 : ∀ t : Fin grid0.N, win0_2.index t = idx t := by decide +kernel
theorem blk_2 (p : Fin 8) (q : Fin 256) : iblk m c 2 t (ix3 0 p q) = A2 m c (place t p q) := by
  unfold iblk
  rw [View.read_apply]
  show V m c main_v2 _ = _
  rw [V_2]
  exact congrArg (A2 m c) (place_eq t p q _ _ (ix_2 t) ⟨0, by omega, rfl⟩ rfl rfl)
/-- Argument 3 as the launch finds it, as rows. -/
def A3 : Vec Ideal S1x8x256 .f32 := viewW (m ((c : Thread nD τ).loc main_arg3))
theorem V_3 : V m c main_v3 = A3 m c := by
  unfold A3 viewW
  show StableHlo.after hostOps0 _ (Proc.devRef .tc main_v3) = _
  after_results
  all_goals rfl
theorem ix_3 : ∀ t : Fin grid0.N, win0_3.index t = idx t := by decide +kernel
theorem blk_3 (p : Fin 8) (q : Fin 256) : iblk m c 3 t (ix3 0 p q) = A3 m c (place t p q) := by
  unfold iblk
  rw [View.read_apply]
  show V m c main_v3 _ = _
  rw [V_3]
  exact congrArg (A3 m c) (place_eq t p q _ _ (ix_3 t) ⟨0, by omega, rfl⟩ rfl rfl)
/-- What a point leaves in output 0. -/
theorem out_4 (p : Fin 8) (q : Fin 256) :
    (outsAt0 m c t).1 (ix3 0 p q) = iblk m c 0 t (ix3 0 p q) := by
  unfold outsAt0
  dsimp only
  unfold out0_A_4
  rw [View.read_writes_eq_canon]
  on_goal 2 => intro y; apply cover0_A_4
  unfold kernelRun0_A
  dsimp only
  rw [View.canon_unit_zero (S := S1x8x256) hz]
  simp only [sl.r, sl.r_1, sl.r_2, View.readAt_eq_ld, (hs0_0 t).read_unread, View.ld_unit_zero (S := S1x8x256) hz]
  pointwise [k0_pay4, k0_pay8, step, newM, newV]
theorem val_4 (p : Fin 8) (q : Fin 256) : (outsAt0 m c t).1 (ix3 0 p q) = (resG (A0 m c)) (place t p q) := by
  rw [out_4, blk_0]
  rfl
theorem ix_4 : ∀ t : Fin grid0.N, win0_4.index t = idx t := by decide +kernel
/-- Output 0 after the run. -/
theorem arr_4 : ((dats m 0 c).arrAt 4 cfg0.N : Vec Ideal S1x8x256 .f32) = resG (A0 m c) := by
  refine (dats m 0 c).arrAt_eq_of_cover 4 _ (fun t _ => ?_) fun (i : S1x8x256.Idx) => ?_
  · rw [flushed4]
    funext y
    refine (congrArg (outsAt0 m c t).1 (blk_eq ((cfg0.win 4).xinj (grid0.coords t) y))).trans ((val_4 m c t _ _).trans (congrArg (resG (A0 m c)) ?_))
    exact (place_eq t _ _ (((cfg0.win 4).blk t).view.emb y) _ (ix_4 t) ⟨(y 0).val, (y 0).isLt, rfl⟩ rfl rfl).symm
  · obtain ⟨t, ht⟩ := covered i
    refine ⟨t, flush0_4 t, ?_⟩
    show i ∈ ((View.whole main_v4_0).slice (win0_4.rect t)).set
    rw [View.set_slice_whole, Rect.mem_set_unit]
    exact ht (win0_4.index t) (ix_4 t)
/-- What a point leaves in output 1. -/
theorem out_5 (p : Fin 8) (q : Fin 256) :
    (outsAt0 m c t).2.1 (ix3 0 p q) = step (iblk m c 0 t (ix3 0 p q)) (iblk m c 1 t (ix3 0 p q)) (iblk m c 2 t (ix3 0 p q)) (iblk m c 3 t (ix3 0 p q)) := by
  unfold outsAt0
  dsimp only
  unfold out0_A_5
  rw [View.read_writes_eq_canon]
  on_goal 2 => intro y; apply cover0_A_5
  unfold kernelRun0_A
  dsimp only
  rw [View.canon_unit_zero (S := S1x8x256) hz]
  simp only [sl.r, sl.r_1, sl.r_2, View.readAt_eq_ld, (hs0_0 t).read_unread, (hs0_1 t).read_unread, (hs0_2 t).read_unread, (hs0_3 t).read_unread, View.ld_unit_zero (S := S1x8x256) hz]
  pointwise [k0_pay1, k0_pay4, k0_pay5, k0_pay6, k0_pay7, step, newM, newV]
theorem val_5 (p : Fin 8) (q : Fin 256) : (outsAt0 m c t).2.1 (ix3 0 p q) = (resD (A0 m c) (A1 m c) (A2 m c) (A3 m c)) (place t p q) := by
  rw [out_5, blk_0, blk_1, blk_2, blk_3]
  rfl
theorem ix_5 : ∀ t : Fin grid0.N, win0_5.index t = idx t := by decide +kernel
/-- Output 1 after the run. -/
theorem arr_5 : ((dats m 0 c).arrAt 5 cfg0.N : Vec Ideal S1x8x256 .f32) = resD (A0 m c) (A1 m c) (A2 m c) (A3 m c) := by
  refine (dats m 0 c).arrAt_eq_of_cover 5 _ (fun t _ => ?_) fun (i : S1x8x256.Idx) => ?_
  · rw [flushed5]
    funext y
    refine (congrArg (outsAt0 m c t).2.1 (blk_eq ((cfg0.win 5).xinj (grid0.coords t) y))).trans ((val_5 m c t _ _).trans (congrArg (resD (A0 m c) (A1 m c) (A2 m c) (A3 m c)) ?_))
    exact (place_eq t _ _ (((cfg0.win 5).blk t).view.emb y) _ (ix_5 t) ⟨(y 0).val, (y 0).isLt, rfl⟩ rfl rfl).symm
  · obtain ⟨t, ht⟩ := covered i
    refine ⟨t, flush0_5 t, ?_⟩
    show i ∈ ((View.whole main_v4_1).slice (win0_5.rect t)).set
    rw [View.set_slice_whole, Rect.mem_set_unit]
    exact ht (win0_5.index t) (ix_5 t)
/-- What a point leaves in output 2. -/
theorem out_6 (p : Fin 8) (q : Fin 256) :
    (outsAt0 m c t).2.2.1 (ix3 0 p q) = newM (iblk m c 0 t (ix3 0 p q)) (iblk m c 2 t (ix3 0 p q)) := by
  unfold outsAt0
  dsimp only
  unfold out0_A_6
  rw [View.read_writes_eq_canon]
  on_goal 2 => intro y; apply cover0_A_6
  unfold kernelRun0_A
  dsimp only
  rw [View.canon_unit_zero (S := S1x8x256) hz]
  simp only [sl.r, sl.r_1, sl.r_2, View.readAt_eq_ld, (hs0_0 t).read_unread, (hs0_2 t).read_unread, View.ld_unit_zero (S := S1x8x256) hz]
  pointwise [k0_pay2, k0_pay4, k0_pay5, step, newM, newV]
theorem val_6 (p : Fin 8) (q : Fin 256) : (outsAt0 m c t).2.2.1 (ix3 0 p q) = (resM (A0 m c) (A2 m c)) (place t p q) := by
  rw [out_6, blk_0, blk_2]
  rfl
theorem ix_6 : ∀ t : Fin grid0.N, win0_6.index t = idx t := by decide +kernel
/-- Output 2 after the run. -/
theorem arr_6 : ((dats m 0 c).arrAt 6 cfg0.N : Vec Ideal S1x8x256 .f32) = resM (A0 m c) (A2 m c) := by
  refine (dats m 0 c).arrAt_eq_of_cover 6 _ (fun t _ => ?_) fun (i : S1x8x256.Idx) => ?_
  · rw [flushed6]
    funext y
    refine (congrArg (outsAt0 m c t).2.2.1 (blk_eq ((cfg0.win 6).xinj (grid0.coords t) y))).trans ((val_6 m c t _ _).trans (congrArg (resM (A0 m c) (A2 m c)) ?_))
    exact (place_eq t _ _ (((cfg0.win 6).blk t).view.emb y) _ (ix_6 t) ⟨(y 0).val, (y 0).isLt, rfl⟩ rfl rfl).symm
  · obtain ⟨t, ht⟩ := covered i
    refine ⟨t, flush0_6 t, ?_⟩
    show i ∈ ((View.whole main_v4_2).slice (win0_6.rect t)).set
    rw [View.set_slice_whole, Rect.mem_set_unit]
    exact ht (win0_6.index t) (ix_6 t)
/-- What a point leaves in output 3. -/
theorem out_7 (p : Fin 8) (q : Fin 256) :
    (outsAt0 m c t).2.2.2 (ix3 0 p q) = newV (iblk m c 0 t (ix3 0 p q)) (iblk m c 3 t (ix3 0 p q)) := by
  unfold outsAt0
  dsimp only
  unfold out0_A_7
  rw [View.read_writes_eq_canon]
  on_goal 2 => intro y; apply cover0_A_7
  unfold kernelRun0_A
  dsimp only
  rw [View.canon_unit_zero (S := S1x8x256) hz]
  simp only [sl.r, sl.r_1, sl.r_2, View.readAt_eq_ld, (hs0_0 t).read_unread, (hs0_3 t).read_unread, View.ld_unit_zero (S := S1x8x256) hz]
  pointwise [k0_pay3, k0_pay4, k0_pay6, step, newM, newV]
theorem val_7 (p : Fin 8) (q : Fin 256) : (outsAt0 m c t).2.2.2 (ix3 0 p q) = (resV (A0 m c) (A3 m c)) (place t p q) := by
  rw [out_7, blk_0, blk_3]
  rfl
theorem ix_7 : ∀ t : Fin grid0.N, win0_7.index t = idx t := by decide +kernel
/-- Output 3 after the run. -/
theorem arr_7 : ((dats m 0 c).arrAt 7 cfg0.N : Vec Ideal S1x8x256 .f32) = resV (A0 m c) (A3 m c) := by
  refine (dats m 0 c).arrAt_eq_of_cover 7 _ (fun t _ => ?_) fun (i : S1x8x256.Idx) => ?_
  · rw [flushed7]
    funext y
    refine (congrArg (outsAt0 m c t).2.2.2 (blk_eq ((cfg0.win 7).xinj (grid0.coords t) y))).trans ((val_7 m c t _ _).trans (congrArg (resV (A0 m c) (A3 m c)) ?_))
    exact (place_eq t _ _ (((cfg0.win 7).blk t).view.emb y) _ (ix_7 t) ⟨(y 0).val, (y 0).isLt, rfl⟩ rfl rfl).symm
  · obtain ⟨t, ht⟩ := covered i
    refine ⟨t, flush0_7 t, ?_⟩
    show i ∈ ((View.whole main_v4_3).slice (win0_7.rect t)).set
    rw [View.set_slice_whole, Rect.mem_set_unit]
    exact ht (win0_7.index t) (ix_7 t)

end Cert.Kernel24Ideal.Value

end
-- ==== Proof.Same24.lean ====
/- AdamW on the second convolution's weights. Both programs end with the same arrays over the extended reals. -/
module

public import proofs.«01_k».proof.Defs
public import proofs.«01_k».proof.Proof.Mul24
public import proofs.«01_k».proof.Proof.Gen.Reference24Ideal
public import proofs.«01_k».proof.Proof.Gen.Reference24Ideal.Run
public import proofs.«01_k».proof.Proof.Gen.Reference24Ideal.Read
public import Idealize.ShloMosaic.Lib.Pointwise
public import Idealize.ShloMosaic.Lib.Claim
public import Idealize.ShloMosaic.Adequacy

@[expose] public section

set_option maxRecDepth 16384

noncomputable section

namespace Cert.Reference24Ideal.Value

open Cert.Reference24Ideal Cert.Reference24Ideal.Read Cert.Kernel24Ideal.Value Cert.Adam Idealize.ShloMosaic

/-- The reference's result 0. -/
theorem ref_4 (x0 : (⟨S8x256, .f32⟩ : BufTy).Contents (Elt Ideal)) : val_main_v3 (F := Ideal) x0 = resG (viewG x0) := by
  show _ = resG (val_main_v3 (F := Ideal) x0)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 1. -/
theorem ref_5 (x0 : (⟨S8x256, .f32⟩ : BufTy).Contents (Elt Ideal)) (x1 x2 x3 : (⟨S2x4x256, .f32⟩ : BufTy).Contents (Elt Ideal)) : val_main_v28 (F := Ideal) x0 x1 x2 x3 = resD (viewG x0) (viewW x1) (viewW x2) (viewW x3) := by
  show _ = resD (val_main_v3 (F := Ideal) x0) (val_main_v0 (F := Ideal) x1) (val_main_v1 (F := Ideal) x2) (val_main_v2 (F := Ideal) x3)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 2. -/
theorem ref_6 (x0 : (⟨S8x256, .f32⟩ : BufTy).Contents (Elt Ideal)) (x2 : (⟨S2x4x256, .f32⟩ : BufTy).Contents (Elt Ideal)) : val_main_v9 (F := Ideal) x0 x2 = resM (viewG x0) (viewW x2) := by
  show _ = resM (val_main_v3 (F := Ideal) x0) (val_main_v1 (F := Ideal) x2)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]
/-- The reference's result 3. -/
theorem ref_7 (x0 : (⟨S8x256, .f32⟩ : BufTy).Contents (Elt Ideal)) (x3 : (⟨S2x4x256, .f32⟩ : BufTy).Contents (Elt Ideal)) : val_main_v15 (F := Ideal) x0 x3 = resV (viewG x0) (viewW x3) := by
  show _ = resV (val_main_v3 (F := Ideal) x0) (val_main_v2 (F := Ideal) x3)
  funext x
  rw [eq_ix3 x]
  pointwise [val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, resG, resD, resM, resV, grad, step, newM, newV]

end Cert.Reference24Ideal.Value

namespace Cert.Proof

open Cert.Kernel24Ideal.Value Cert.Reference24Ideal.Value Cert.Reference24Ideal.Read Idealize.ShloMosaic Idealize.ShloMosaic.StableHlo Idealize.SL.Sem

/-- The frame of this reference: its run leaves the arguments, and it declares no counter. -/
theorem adamw_ssd_conv_w_reference_frame : Cert.quiescent_Reference24Ideal (hReference24Ideal := Cert.Reference24Ideal.Gen.facts) := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

/-- The call and its reference end with the same arrays over the extended reals. -/
theorem adamw_ssd_conv_w_same : Cert.algebraic_Kernel24Ideal_Reference24Ideal (hKernel24Ideal := Cert.Kernel24Ideal.Gen.facts) (hReference24Ideal := Cert.Reference24Ideal.Gen.facts) := by
  intro m ρ m' ρ' _ hag
  refine ⟨_, _, _, _,
    Cert.Kernel24Ideal.Value.run_blocks m ρ, ?_⟩
  refine (θ_run Cert.Reference24Ideal.defs _ _).mono ?_ (Cert.Reference24Ideal.Value.run (F := Ideal) m' ρ')
  intro r h c
  obtain ⟨e0, e1, e2, e3⟩ := hag c
  obtain ⟨h0, h1, h2, h3, hk⟩ := h c
  refine ⟨h0.trans ?_, h1.trans ?_, h2.trans ?_, h3.trans ?_, hk⟩
  · rw [val_main_v3_eq]
    repeat rw [launchContents_devRef]
    rw [e0, ref_4]
    exact (arr_4 m c).symm
  · rw [val_main_v28_eq]
    repeat rw [launchContents_devRef]
    rw [e0, e1, e2, e3, ref_5]
    exact (arr_5 m c).symm
  · rw [val_main_v9_eq]
    repeat rw [launchContents_devRef]
    rw [e0, e2, ref_6]
    exact (arr_6 m c).symm
  · rw [val_main_v15_eq]
    repeat rw [launchContents_devRef]
    rw [e0, e3, ref_7]
    exact (arr_7 m c).symm

end Cert.Proof

end
-- ==== Proof.Run26.lean ====
/- AdamW on the three small matrices: the call runs to its end, leaves its arguments, and each of its arrays ends as its blocks say. -/
module

public import proofs.«01_k».proof.Proof.Gen.Kernel26Ideal.Frame.RunA
public import Idealize.ShloMosaic.Lib.Claim
public import Idealize.ShloMosaic.Lib.Pointwise
public import Idealize.ShloMosaic.Lib.Claim
public import Idealize.ShloMosaic.Lib.Pipeline.Value

@[expose] public section

set_option maxRecDepth 16384

noncomputable section

set_option maxRecDepth 16384

namespace Cert.Kernel26Ideal.Whole

open Cert.Kernel26Ideal Cert.Kernel26Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a grid point, on that point's buffers and blocks. -/
def run (c : Dev nD) (t : Fin cfg0.N) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem cover_12 (c : Dev nD) (t : Fin cfg0.N) (y : S1x128x128.Idx) : ∃ pc ∈ (run m c t).1, y ∈ pc.1.set :=
  View.cover_of_tiledL (run m c t).1 S1x128x128.size (by sl_kernel_rfl) y
/-- What a point leaves in output 0's buffer. -/
def out_12 (c : Dev nD) (t : Fin cfg0.N) : Vec F S1x128x128 .f32 := VO0_12.read (Elt F) (VO0_12.writes (Elt F) VO0_12.junk (run m c t).1)
theorem cover_13 (c : Dev nD) (t : Fin cfg0.N) (y : S1x128x128.Idx) : ∃ pc ∈ (run m c t).2.1, y ∈ pc.1.set :=
  View.cover_of_tiledL (run m c t).2.1 S1x128x128.size (by sl_kernel_rfl) y
/-- What a point leaves in output 1's buffer. -/
def out_13 (c : Dev nD) (t : Fin cfg0.N) : Vec F S1x128x128 .f32 := VO0_13.read (Elt F) (VO0_13.writes (Elt F) VO0_13.junk (run m c t).2.1)
theorem cover_14 (c : Dev nD) (t : Fin cfg0.N) (y : S1x128x128.Idx) : ∃ pc ∈ (run m c t).2.2.1, y ∈ pc.1.set :=
  View.cover_of_tiledL (run m c t).2.2.1 S1x128x128.size (by sl_kernel_rfl) y
/-- What a point leaves in output 2's buffer. -/
def out_14 (c : Dev nD) (t : Fin cfg0.N) : Vec F S1x128x128 .f32 := VO0_14.read (Elt F) (VO0_14.writes (Elt F) VO0_14.junk (run m c t).2.2.1)
theorem cover_15 (c : Dev nD) (t : Fin cfg0.N) (y : S1x128x128.Idx) : ∃ pc ∈ (run m c t).2.2.2.1, y ∈ pc.1.set :=
  View.cover_of_tiledL (run m c t).2.2.2.1 S1x128x128.size (by sl_kernel_rfl) y
/-- What a point leaves in output 3's buffer. -/
def out_15 (c : Dev nD) (t : Fin cfg0.N) : Vec F S1x128x128 .f32 := VO0_15.read (Elt F) (VO0_15.writes (Elt F) VO0_15.junk (run m c t).2.2.2.1)
theorem cover_16 (c : Dev nD) (t : Fin cfg0.N) (y : S1x128x128.Idx) : ∃ pc ∈ (run m c t).2.2.2.2.1, y ∈ pc.1.set :=
  View.cover_of_tiledL (run m c t).2.2.2.2.1 S1x128x128.size (by sl_kernel_rfl) y
/-- What a point leaves in output 4's buffer. -/
def out_16 (c : Dev nD) (t : Fin cfg0.N) : Vec F S1x128x128 .f32 := VO0_16.read (Elt F) (VO0_16.writes (Elt F) VO0_16.junk (run m c t).2.2.2.2.1)
theorem cover_17 (c : Dev nD) (t : Fin cfg0.N) (y : S1x128x128.Idx) : ∃ pc ∈ (run m c t).2.2.2.2.2.1, y ∈ pc.1.set :=
  View.cover_of_tiledL (run m c t).2.2.2.2.2.1 S1x128x128.size (by sl_kernel_rfl) y
/-- What a point leaves in output 5's buffer. -/
def out_17 (c : Dev nD) (t : Fin cfg0.N) : Vec F S1x128x128 .f32 := VO0_17.read (Elt F) (VO0_17.writes (Elt F) VO0_17.junk (run m c t).2.2.2.2.2.1)
theorem cover_18 (c : Dev nD) (t : Fin cfg0.N) (y : S1x128x128.Idx) : ∃ pc ∈ (run m c t).2.2.2.2.2.2.1, y ∈ pc.1.set :=
  View.cover_of_tiledL (run m c t).2.2.2.2.2.2.1 S1x128x128.size (by sl_kernel_rfl) y
/-- What a point leaves in output 6's buffer. -/
def out_18 (c : Dev nD) (t : Fin cfg0.N) : Vec F S1x128x128 .f32 := VO0_18.read (Elt F) (VO0_18.writes (Elt F) VO0_18.junk (run m c t).2.2.2.2.2.2.1)
theorem cover_19 (c : Dev nD) (t : Fin cfg0.N) (y : S1x128x128.Idx) : ∃ pc ∈ (run m c t).2.2.2.2.2.2.2.1, y ∈ pc.1.set :=
  View.cover_of_tiledL (run m c t).2.2.2.2.2.2.2.1 S1x128x128.size (by sl_kernel_rfl) y
/-- What a point leaves in output 7's buffer. -/
def out_19 (c : Dev nD) (t : Fin cfg0.N) : Vec F S1x128x128 .f32 := VO0_19.read (Elt F) (VO0_19.writes (Elt F) VO0_19.junk (run m c t).2.2.2.2.2.2.2.1)
theorem cover_20 (c : Dev nD) (t : Fin cfg0.N) (y : S1x128x128.Idx) : ∃ pc ∈ (run m c t).2.2.2.2.2.2.2.2.1, y ∈ pc.1.set :=
  View.cover_of_tiledL (run m c t).2.2.2.2.2.2.2.2.1 S1x128x128.size (by sl_kernel_rfl) y
/-- What a point leaves in output 8's buffer. -/
def out_20 (c : Dev nD) (t : Fin cfg0.N) : Vec F S1x128x128 .f32 := VO0_20.read (Elt F) (VO0_20.writes (Elt F) VO0_20.junk (run m c t).2.2.2.2.2.2.2.2.1)
theorem cover_21 (c : Dev nD) (t : Fin cfg0.N) (y : S1x128x128.Idx) : ∃ pc ∈ (run m c t).2.2.2.2.2.2.2.2.2.1, y ∈ pc.1.set :=
  View.cover_of_tiledL (run m c t).2.2.2.2.2.2.2.2.2.1 S1x128x128.size (by sl_kernel_rfl) y
/-- What a point leaves in output 9's buffer. -/
def out_21 (c : Dev nD) (t : Fin cfg0.N) : Vec F S1x128x128 .f32 := VO0_21.read (Elt F) (VO0_21.writes (Elt F) VO0_21.junk (run m c t).2.2.2.2.2.2.2.2.2.1)
theorem cover_22 (c : Dev nD) (t : Fin cfg0.N) (y : S1x128x128.Idx) : ∃ pc ∈ (run m c t).2.2.2.2.2.2.2.2.2.2.1, y ∈ pc.1.set :=
  View.cover_of_tiledL (run m c t).2.2.2.2.2.2.2.2.2.2.1 S1x128x128.size (by sl_kernel_rfl) y
/-- What a point leaves in output 10's buffer. -/
def out_22 (c : Dev nD) (t : Fin cfg0.N) : Vec F S1x128x128 .f32 := VO0_22.read (Elt F) (VO0_22.writes (Elt F) VO0_22.junk (run m c t).2.2.2.2.2.2.2.2.2.2.1)
theorem cover_23 (c : Dev nD) (t : Fin cfg0.N) (y : S1x128x128.Idx) : ∃ pc ∈ (run m c t).2.2.2.2.2.2.2.2.2.2.2.1, y ∈ pc.1.set :=
  View.cover_of_tiledL (run m c t).2.2.2.2.2.2.2.2.2.2.2.1 S1x128x128.size (by sl_kernel_rfl) y
/-- What a point leaves in output 11's buffer. -/
def out_23 (c : Dev nD) (t : Fin cfg0.N) : Vec F S1x128x128 .f32 := VO0_23.read (Elt F) (VO0_23.writes (Elt F) VO0_23.junk (run m c t).2.2.2.2.2.2.2.2.2.2.2.1)
/-- The arrays at the start, and each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out_12 m c t
    | ⟨13, _⟩ => out_13 m c t
    | ⟨14, _⟩ => out_14 m c t
    | ⟨15, _⟩ => out_15 m c t
    | ⟨16, _⟩ => out_16 m c t
    | ⟨17, _⟩ => out_17 m c t
    | ⟨18, _⟩ => out_18 m c t
    | ⟨19, _⟩ => out_19 m c t
    | ⟨20, _⟩ => out_20 m c t
    | ⟨21, _⟩ => out_21 m c t
    | ⟨22, _⟩ => out_22 m c t
    | ⟨23, _⟩ => out_23 m c t
    | ⟨_ + 24, h⟩ => absurd h (Nat.not_lt.2 (Nat.le_add_left _ _))
  Φ _ := Pipeline.ΦA spec0 c
  q _ := fullShare
  owed _ := 0
theorem A_eq (c : Dev nD) (w : Fin cfg0.W) : (dats m 0 c).A w = V m c (Pipeline.arrRef spec0 w) := by dsimp only [dats]
theorem after_12 (c : Dev nD) (t : Fin cfg0.N) : (dats m 0 c).after 12 t = out_12 m c t := by dsimp only [dats]
theorem after_13 (c : Dev nD) (t : Fin cfg0.N) : (dats m 0 c).after 13 t = out_13 m c t := by dsimp only [dats]
theorem after_14 (c : Dev nD) (t : Fin cfg0.N) : (dats m 0 c).after 14 t = out_14 m c t := by dsimp only [dats]
theorem after_15 (c : Dev nD) (t : Fin cfg0.N) : (dats m 0 c).after 15 t = out_15 m c t := by dsimp only [dats]
theorem after_16 (c : Dev nD) (t : Fin cfg0.N) : (dats m 0 c).after 16 t = out_16 m c t := by dsimp only [dats]
theorem after_17 (c : Dev nD) (t : Fin cfg0.N) : (dats m 0 c).after 17 t = out_17 m c t := by dsimp only [dats]
theorem after_18 (c : Dev nD) (t : Fin cfg0.N) : (dats m 0 c).after 18 t = out_18 m c t := by dsimp only [dats]
theorem after_19 (c : Dev nD) (t : Fin cfg0.N) : (dats m 0 c).after 19 t = out_19 m c t := by dsimp only [dats]
theorem after_20 (c : Dev nD) (t : Fin cfg0.N) : (dats m 0 c).after 20 t = out_20 m c t := by dsimp only [dats]
theorem after_21 (c : Dev nD) (t : Fin cfg0.N) : (dats m 0 c).after 21 t = out_21 m c t := by dsimp only [dats]
theorem after_22 (c : Dev nD) (t : Fin cfg0.N) : (dats m 0 c).after 22 t = out_22 m c t := by dsimp only [dats]
theorem after_23 (c : Dev nD) (t : Fin cfg0.N) : (dats m 0 c).after 23 t = out_23 m c t := by dsimp only [dats]
/-- At a point where a window is live, the window leaves what the table says. -/
theorem leaves (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))
/-- and what it leaves. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

set_option maxHeartbeats 4000000 in
/-- The body's run at a point, between the two. -/
theorem sound (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (fun _ => by dsimp only [dats]) t, before0_1_of m (dats m 0 c) (A_eq m c 1) (fun _ => by dsimp only [dats]) t, before0_2_of m (dats m 0 c) (A_eq m c 2) (fun _ => by dsimp only [dats]) t, before0_3_of m (dats m 0 c) (A_eq m c 3) (fun _ => by dsimp only [dats]) t, before0_4_of m (dats m 0 c) (A_eq m c 4) (fun _ => by dsimp only [dats]) t, before0_5_of m (dats m 0 c) (A_eq m c 5) (fun _ => by dsimp only [dats]) t, before0_6_of m (dats m 0 c) (A_eq m c 6) (fun _ => by dsimp only [dats]) t, before0_7_of m (dats m 0 c) (A_eq m c 7) (fun _ => by dsimp only [dats]) t, before0_8_of m (dats m 0 c) (A_eq m c 8) (fun _ => by dsimp only [dats]) t, before0_9_of m (dats m 0 c) (A_eq m c 9) (fun _ => by dsimp only [dats]) t, before0_10_of m (dats m 0 c) (A_eq m c 10) (fun _ => by dsimp only [dats]) t, before0_11_of m (dats m 0 c) (A_eq m c 11) (fun _ => by dsimp only [dats]) t]
  rw [show (dats m 0 c).Φ t.succ = (dats m 0 c).Φ t.castSucc from rfl, show (dats m 0 c).owesAt () t.succ = (dats m 0 c).owesAt () t.castSucc from rfl]
  rw [leaves m c 0 t (liveAt0_0 t), show (dats m 0 c).after 0 t = iblk m c 0 t from by dsimp only [dats]]
  rw [leaves m c 1 t (liveAt0_1 t), show (dats m 0 c).after 1 t = iblk m c 1 t from by dsimp only [dats]]
  rw [leaves m c 2 t (liveAt0_2 t), show (dats m 0 c).after 2 t = iblk m c 2 t from by dsimp only [dats]]
  rw [leaves m c 3 t (liveAt0_3 t), show (dats m 0 c).after 3 t = iblk m c 3 t from by dsimp only [dats]]
  rw [leaves m c 4 t (liveAt0_4 t), show (dats m 0 c).after 4 t = iblk m c 4 t from by dsimp only [dats]]
  rw [leaves m c 5 t (liveAt0_5 t), show (dats m 0 c).after 5 t = iblk m c 5 t from by dsimp only [dats]]
  rw [leaves m c 6 t (liveAt0_6 t), show (dats m 0 c).after 6 t = iblk m c 6 t from by dsimp only [dats]]
  rw [leaves m c 7 t (liveAt0_7 t), show (dats m 0 c).after 7 t = iblk m c 7 t from by dsimp only [dats]]
  rw [leaves m c 8 t (liveAt0_8 t), show (dats m 0 c).after 8 t = iblk m c 8 t from by dsimp only [dats]]
  rw [leaves m c 9 t (liveAt0_9 t), show (dats m 0 c).after 9 t = iblk m c 9 t from by dsimp only [dats]]
  rw [leaves m c 10 t (liveAt0_10 t), show (dats m 0 c).after 10 t = iblk m c 10 t from by dsimp only [dats]]
  rw [leaves m c 11 t (liveAt0_11 t), show (dats m 0 c).after 11 t = iblk m c 11 t from by dsimp only [dats]]
  rw [leaves m c 12 t (liveAt0_12_A t (hcond0_0 t)), after_12]
  rw [leaves m c 13 t (liveAt0_13_A t (hcond0_0 t)), after_13]
  rw [leaves m c 14 t (liveAt0_14_A t (hcond0_0 t)), after_14]
  rw [leaves m c 15 t (liveAt0_15_A t (hcond0_0 t)), after_15]
  rw [leaves m c 16 t (liveAt0_16_A t (hcond0_0 t)), after_16]
  rw [leaves m c 17 t (liveAt0_17_A t (hcond0_0 t)), after_17]
  rw [leaves m c 18 t (liveAt0_18_A t (hcond0_0 t)), after_18]
  rw [leaves m c 19 t (liveAt0_19_A t (hcond0_0 t)), after_19]
  rw [leaves m c 20 t (liveAt0_20_A t (hcond0_0 t)), after_20]
  rw [leaves m c 21 t (liveAt0_21_A t (hcond0_0 t)), after_21]
  rw [leaves m c 22 t (liveAt0_22_A t (hcond0_0 t)), after_22]
  rw [leaves m c 23 t (liveAt0_23_A t (hcond0_0 t)), after_23]
  unfold out_12 out_13 out_14 out_15 out_16 out_17 out_18 out_19 out_20 out_21 out_22 out_23
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((run m c t).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover_12 m c t)
  isplitl [H13]
  · unfold owns; iexists _; isplitr
    swap; · iexact H13
    ipureintro; exact View.read_writes_of_cover _ _ _ _ _ (cover_13 m c t)
  isplitl [H14]
  · unfold owns; iexists _; isplitr
    swap; · iexact H14
    ipureintro; exact View.read_writes_of_cover _ _ _ _ _ (cover_14 m c t)
  isplitl [H15]
  · unfold owns; iexists _; isplitr
    swap; · iexact H15
    ipureintro; exact View.read_writes_of_cover _ _ _ _ _ (cover_15 m c t)
  isplitl [H16]
  · unfold owns; iexists _; isplitr
    swap; · iexact H16
    ipureintro; exact View.read_writes_of_cover _ _ _ _ _ (cover_16 m c t)
  isplitl [H17]
  · unfold owns; iexists _; isplitr
    swap; · iexact H17
    ipureintro; exact View.read_writes_of_cover _ _ _ _ _ (cover_17 m c t)
  isplitl [H18]
  · unfold owns; iexists _; isplitr
    swap; · iexact H18
    ipureintro; exact View.read_writes_of_cover _ _ _ _ _ (cover_18 m c t)
  isplitl [H19]
  · unfold owns; iexists _; isplitr
    swap; · iexact H19
    ipureintro; exact View.read_writes_of_cover _ _ _ _ _ (cover_19 m c t)
  isplitl [H20]
  · unfold owns; iexists _; isplitr
    swap; · iexact H20
    ipureintro; exact View.read_writes_of_cover _ _ _ _ _ (cover_20 m c t)
  isplitl [H21]
  · unfold owns; iexists _; isplitr
    swap; · iexact H21
    ipureintro; exact View.read_writes_of_cover _ _ _ _ _ (cover_21 m c t)
  isplitl [H22]
  · unfold owns; iexists _; isplitr
    swap; · iexact H22
    ipureintro; exact View.read_writes_of_cover _ _ _ _ _ (cover_22 m c t)
  unfold owns; iexists _; isplitr
  swap; · iexact H23
  ipureintro; exact View.read_writes_of_cover _ _ _ _ _ (cover_23 m c t)

theorem row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
set_option maxHeartbeats 4000000 in
theorem ends : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem ends_arrays : θ_run defs (onTc (τ := τ) (main (F := F))) (s₀ m ρ) (Pipeline.FramePost cfgs (dats m) 0 (V m)) :=
  (θ_run defs _ _).mono (fun _ h => h.1) (ends m ρ)

/-- The arguments end as they began. -/
theorem kept : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) :=
  frame_of m ρ (dats m) (A_eq m) (ends_arrays m ρ)

/-- The arguments and the counters end as they began. -/
theorem quiet : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11))
    ∧ r.2.sem = fun _ => 0) :=
  θ_run_and (kept m ρ) ((θ_run defs _ _).mono (fun _ h => h.2) (ends m ρ))

/-- The call's arrays at its end, and the arguments as they began. -/
theorem arrays : θ_run defs (onTc (τ := τ) (main (F := F))) ⟨m, fun _ => 0, ρ⟩ (fun r => ∀ c : Dev nD,
    r.2.mem ((c : Thread nD τ).loc main_v21_0) = (dats m 0 c).arrAt 12 cfg0.N
    ∧ r.2.mem ((c : Thread nD τ).loc main_v21_1) = (dats m 0 c).arrAt 13 cfg0.N
    ∧ r.2.mem ((c : Thread nD τ).loc main_v21_2) = (dats m 0 c).arrAt 14 cfg0.N
    ∧ r.2.mem ((c : Thread nD τ).loc main_v21_3) = (dats m 0 c).arrAt 15 cfg0.N
    ∧ r.2.mem ((c : Thread nD τ).loc main_v21_4) = (dats m 0 c).arrAt 16 cfg0.N
    ∧ r.2.mem ((c : Thread nD τ).loc main_v21_5) = (dats m 0 c).arrAt 17 cfg0.N
    ∧ r.2.mem ((c : Thread nD τ).loc main_v21_6) = (dats m 0 c).arrAt 18 cfg0.N
    ∧ r.2.mem ((c : Thread nD τ).loc main_v21_7) = (dats m 0 c).arrAt 19 cfg0.N
    ∧ r.2.mem ((c : Thread nD τ).loc main_v21_8) = (dats m 0 c).arrAt 20 cfg0.N
    ∧ r.2.mem ((c : Thread nD τ).loc main_v21_9) = (dats m 0 c).arrAt 21 cfg0.N
    ∧ r.2.mem ((c : Thread nD τ).loc main_v21_10) = (dats m 0 c).arrAt 22 cfg0.N
    ∧ r.2.mem ((c : Thread nD τ).loc main_v21_11) = (dats m 0 c).arrAt 23 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)) :=
  (θ_run defs _ _).mono (fun _ h c => ⟨(h.2 c).1 12, (h.2 c).1 13, (h.2 c).1 14, (h.2 c).1 15, (h.2 c).1 16, (h.2 c).1 17, (h.2 c).1 18, (h.2 c).1 19, (h.2 c).1 20, (h.2 c).1 21, (h.2 c).1 22, (h.2 c).1 23, h.1 c⟩) (θ_run_and (kept m ρ) (ends_arrays m ρ))

end Cert.Kernel26Ideal.Whole

end
-- ==== Proof.Mul26.lean ====
/- AdamW on the three small matrices. -/
module

public import proofs.«01_k».proof.Proof.Adam
public import proofs.«01_k».proof.Proof.Run26
public import Idealize.ShloMosaic.Lib.Pointwise
public import Idealize.ShloMosaic.Lib.Claim
public import Idealize.ShloMosaic.Lib.Pipeline.Value

@[expose] public section

set_option maxRecDepth 16384

noncomputable section

namespace Cert.Kernel26Ideal.Value

open Cert.Kernel26Ideal Cert.Kernel26Ideal.Gen Cert.Kernel26Ideal.Whole kernelRun0_A Cert.Adam Idealize.ShloMosaic Idealize.ShloMosaic.TcCoe

theorem hz : (![0, 0, 0] : Fin 3 → Nat) = fun _ => 0 := funext fun a => by fin_cases a <;> rfl

/-- A weight's gradient. -/
def grad (a : Vec Ideal S1x2048x128 .f32) (x : S1x2048x128.Idx) : EReal := a x
/-- A gradient as rows of 128. -/
def viewG (x : Vec Ideal S8x256x128 .f32) : Vec Ideal S1x2048x128 .f32 := (shapeCast S1x2048x128 x shapeCasts_S8x256x128_S1x2048x128)
/-- A weight or a moment as rows of 128. -/
def viewW (x : Vec Ideal S2x8x128x128 .f32) : Vec Ideal S1x2048x128 .f32 := (broadcastInDim S1x2048x128 ![1, 2] bcast_S2048x128_S1x2048x128_1_2 (shapeCast S2048x128 x shapeCasts_S2x8x128x128_S2048x128))
/-- The gradient, the weight's change and the two new moments, as arrays. -/
def resG (a : Vec Ideal S1x2048x128 .f32) : Vec Ideal S1x2048x128 .f32 := fun x => grad a x
def resD (a : Vec Ideal S1x2048x128 .f32) (w m v : Vec Ideal S1x2048x128 .f32) : Vec Ideal S1x2048x128 .f32 := fun x => step (grad a x) (w x) (m x) (v x)
def resM (a : Vec Ideal S1x2048x128 .f32) (m : Vec Ideal S1x2048x128 .f32) : Vec Ideal S1x2048x128 .f32 := fun x => newM (grad a x) (m x)
def resV (a : Vec Ideal S1x2048x128 .f32) (v : Vec Ideal S1x2048x128 .f32) : Vec Ideal S1x2048x128 .f32 := fun x => newV (grad a x) (v x)

theorem lt (t : Fin cfg0.N) : t.val < 16 := lt_of_lt_of_eq t.isLt (show cfg0.N = 16 from N_0)
/-- A grid point's block, counted along each axis. -/
def idx (t : Fin cfg0.N) : Fin 3 → Nat := ![t.val / 16, t.val % 16, 0]
/-- A block's row in the array. -/
def row (t : Fin cfg0.N) (p : Fin 128) : Fin 2048 := ⟨t.val % 16 * 128 + p.val, by have := lt t; omega⟩
/-- A block's place in the array. -/
def place (t : Fin cfg0.N) (p : Fin 128) (q : Fin 128) : S1x2048x128.Idx := ix3 ⟨t.val / 16, by have := lt t; omega⟩ (row t p) q
theorem place_eq (t : Fin cfg0.N) (p : Fin 128) (q : Fin 128) (i : S1x2048x128.Idx) (f : Fin 3 → Nat) (hf : f = idx t)
    (h0 : ∃ z, z < 1 ∧ (i 0).val = f 0 * 1 + 1 * z) (h1 : (i 1).val = f 1 * 128 + 1 * p.val) (h2 : (i 2).val = f 2 * 128 + 1 * q.val) : i = place t p q := by
  obtain ⟨z, hz, h0⟩ := h0
  subst hf
  change _ = t.val / 16 * 1 + 1 * z at h0
  change _ = t.val % 16 * 128 + 1 * p.val at h1
  change _ = 0 * 128 + 1 * q.val at h2
  funext a
  apply Fin.ext
  match a with
  | ⟨0, _⟩ => show (i 0).val = t.val / 16; omega
  | ⟨1, _⟩ => show (i 1).val = t.val % 16 * 128 + p.val; omega
  | ⟨2, _⟩ => show (i 2).val = q.val; omega
theorem blk_eq (y : S1x128x128.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
/-- Every place is in some point's block. -/
theorem covered (i : S1x2048x128.Idx) : ∃ t : Fin cfg0.N, ∀ f : Fin 3 → Nat, f = idx t → ∀ a : Fin 3, f a * (![1, 128, 128] : Fin 3 → Nat) a ≤ (i a).val
    ∧ (i a).val < f a * (![1, 128, 128] : Fin 3 → Nat) a + (![1, 128, 128] : Fin 3 → Nat) a := by
  have h0 : (i 0).val < 1 := (i 0).isLt
  have h1 : (i 1).val < 2048 := (i 1).isLt
  have h2 : (i 2).val < 128 := (i 2).isLt
  have hN : cfg0.N = 16 := N_0
  refine ⟨⟨(i 0).val * 16 + (i 1).val / 128, by omega⟩, fun f hf a => ?_⟩
  subst hf
  match a with
  | ⟨0, _⟩ => show ((i 0).val * 16 + (i 1).val / 128) / 16 * 1 ≤ (i 0).val ∧ (i 0).val < ((i 0).val * 16 + (i 1).val / 128) / 16 * 1 + 1; omega
  | ⟨1, _⟩ => show ((i 0).val * 16 + (i 1).val / 128) % 16 * 128 ≤ (i 1).val ∧ (i 1).val < ((i 0).val * 16 + (i 1).val / 128) % 16 * 128 + 128; omega
  | ⟨2, _⟩ => show 0 * 128 ≤ (i 2).val ∧ (i 2).val < 0 * 128 + 128; omega

variable (m : (ℓ : Loc nD τ sig) → Buf (Elt Ideal) ℓ) (c : Dev nD) (t : Fin cfg0.N)

/-- Argument 0 as the launch finds it, as rows. -/
def A0 : Vec Ideal S1x2048x128 .f32 := viewG (m ((c : Thread nD τ).loc main_arg0))
theorem ix_0 : ∀ t : Fin grid0.N, win0_0.index t = idx t := by decide +kernel
theorem blk_0 (p : Fin 128) (q : Fin 128) : iblk m c 0 t (ix3 0 p q) = A0 m c (place t p q) := by
  unfold iblk
  rw [View.read_apply]
  show V m c main_v9 _ = _
  rw [show V m c main_v9 = A0 m c by
    unfold A0 viewG
    show StableHlo.after hostOps0 _ (Proc.devRef .tc main_v9) = _
    after_results
    all_goals rfl]
  exact congrArg (A0 m c) (place_eq t p q _ _ (ix_0 t) ⟨0, by omega, rfl⟩ rfl rfl)
/-- Argument 1 as the launch finds it, as rows. -/
def A1 : Vec Ideal S1x2048x128 .f32 := viewG (m ((c : Thread nD τ).loc main_arg1))
theorem ix_1 : ∀ t : Fin grid0.N, win0_1.index t = idx t := by decide +kernel
theorem blk_1 (p : Fin 128) (q : Fin 128) : iblk m c 1 t (ix3 0 p q) = A1 m c (place t p q) := by
  unfold iblk
  rw [View.read_apply]
  show V m c main_v10 _ = _
  rw [show V m c main_v10 = A1 m c by
    unfold A1 viewG
    show StableHlo.after hostOps0 _ (Proc.devRef .tc main_v10) = _
    after_results
    all_goals rfl]
  exact congrArg (A1 m c) (place_eq t p q _ _ (ix_1 t) ⟨0, by omega, rfl⟩ rfl rfl)
/-- Argument 2 as the launch finds it, as rows. -/
def A2 : Vec Ideal S1x2048x128 .f32 := viewG (m ((c : Thread nD τ).loc main_arg2))
theorem ix_2 : ∀ t : Fin grid0.N, win0_2.index t = idx t := by decide +kernel
theorem blk_2 (p : Fin 128) (q : Fin 128) : iblk m c 2 t (ix3 0 p q) = A2 m c (place t p q) := by
  unfold iblk
  rw [View.read_apply]
  show V m c main_v11 _ = _
  rw [show V m c main_v11 = A2 m c by
    unfold A2 viewG
    show StableHlo.after hostOps0 _ (Proc.devRef .tc main_v11) = _
    after_results
    all_goals rfl]
  exact congrArg (A2 m c) (place_eq t p q _ _ (ix_2 t) ⟨0, by omega, rfl⟩ rfl rfl)
/-- Argument 3 as the launch finds it, as rows. -/
def A3 : Vec Ideal S1x2048x128 .f32 := viewW (m ((c : Thread nD τ).loc main_arg3))
theorem ix_3 : ∀ t : Fin grid0.N, win0_3.index t = idx t := by decide +kernel
theorem blk_3 (p : Fin 128) (q : Fin 128) : iblk m c 3 t (ix3 0 p q) = A3 m c (place t p q) := by
  unfold iblk
  rw [View.read_apply]
  show V m c main_v12 _ = _
  rw [show V m c main_v12 = A3 m c by
    unfold A3 viewW
    show StableHlo.after hostOps0 _ (Proc.devRef .tc main_v12) = _
    after_results
    all_goals rfl]
  exact congrArg (A3 m c) (place_eq t p q _ _ (ix_3 t) ⟨0, by omega, rfl⟩ rfl rfl)
/-- Argument 4 as the launch finds it, as rows. -/
def A4 : Vec Ideal S1x2048x128 .f32 := viewW (m ((c : Thread nD τ).loc main_arg4))
theorem ix_4 : ∀ t : Fin grid0.N, win0_4.index t = idx t := by decide +kernel
theorem blk_4 (p : Fin 128) (q : Fin 128) : iblk m c 4 t (ix3 0 p q) = A4 m c (place t p q) := by
  unfold iblk
  rw [View.read_apply]
  show V m c main_v13 _ = _
  rw [show V m c main_v13 = A4 m c by
    unfold A4 viewW
    show StableHlo.after hostOps0 _ (Proc.devRef .tc main_v13) = _
    after_results
    all_goals rfl]
  exact congrArg (A4 m c) (place_eq t p q _ _ (ix_4 t) ⟨0, by omega, rfl⟩ rfl rfl)
/-- Argument 5 as the launch finds it, as rows. -/
def A5 : Vec Ideal S1x2048x128 .f32 := viewW (m ((c : Thread nD τ).loc main_arg5))
theorem ix_5 : ∀ t : Fin grid0.N, win0_5.index t = idx t := by decide +kernel
theorem blk_5 (p : Fin 128) (q : Fin 128) : iblk m c 5 t (ix3 0 p q) = A5 m c (place t p q) := by
  unfold iblk
  rw [View.read_apply]
  show V m c main_v14 _ = _
  rw [show V m c main_v14 = A5 m c by
    unfold A5 viewW
    show StableHlo.after hostOps0 _ (Proc.devRef .tc main_v14) = _
    after_results
    all_goals rfl]
  exact congrArg (A5 m c) (place_eq t p q _ _ (ix_5 t) ⟨0, by omega, rfl⟩ rfl rfl)
/-- Argument 6 as the launch finds it, as rows. -/
def A6 : Vec Ideal S1x2048x128 .f32 := viewW (m ((c : Thread nD τ).loc main_arg6))
theorem ix_6 : ∀ t : Fin grid0.N, win0_6.index t = idx t := by decide +kernel
theorem blk_6 (p : Fin 128) (q : Fin 128) : iblk m c 6 t (ix3 0 p q) = A6 m c (place t p q) := by
  unfold iblk
  rw [View.read_apply]
  show V m c main_v15 _ = _
  rw [show V m c main_v15 = A6 m c by
    unfold A6 viewW
    show StableHlo.after hostOps0 _ (Proc.devRef .tc main_v15) = _
    after_results
    all_goals rfl]
  exact congrArg (A6 m c) (place_eq t p q _ _ (ix_6 t) ⟨0, by omega, rfl⟩ rfl rfl)
/-- Argument 7 as the launch finds it, as rows. -/
def A7 : Vec Ideal S1x2048x128 .f32 := viewW (m ((c : Thread nD τ).loc main_arg7))
theorem ix_7 : ∀ t : Fin grid0.N, win0_7.index t = idx t := by decide +kernel
theorem blk_7 (p : Fin 128) (q : Fin 128) : iblk m c 7 t (ix3 0 p q) = A7 m c (place t p q) := by
  unfold iblk
  rw [View.read_apply]
  show V m c main_v16 _ = _
  rw [show V m c main_v16 = A7 m c by
    unfold A7 viewW
    show StableHlo.after hostOps0 _ (Proc.devRef .tc main_v16) = _
    after_results
    all_goals rfl]
  exact congrArg (A7 m c) (place_eq t p q _ _ (ix_7 t) ⟨0, by omega, rfl⟩ rfl rfl)
/-- Argument 8 as the launch finds it, as rows. -/
def A8 : Vec Ideal S1x2048x128 .f32 := viewW (m ((c : Thread nD τ).loc main_arg8))
theorem ix_8 : ∀ t : Fin grid0.N, win0_8.index t = idx t := by decide +kernel
theorem blk_8 (p : Fin 128) (q : Fin 128) : iblk m c 8 t (ix3 0 p q) = A8 m c (place t p q) := by
  unfold iblk
  rw [View.read_apply]
  show V m c main_v17 _ = _
  rw [show V m c main_v17 = A8 m c by
    unfold A8 viewW
    show StableHlo.after hostOps0 _ (Proc.devRef .tc main_v17) = _
    after_results
    all_goals rfl]
  exact congrArg (A8 m c) (place_eq t p q _ _ (ix_8 t) ⟨0, by omega, rfl⟩ rfl rfl)
/-- Argument 9 as the launch finds it, as rows. -/
def A9 : Vec Ideal S1x2048x128 .f32 := viewW (m ((c : Thread nD τ).loc main_arg9))
theorem ix_9 : ∀ t : Fin grid0.N, win0_9.index t = idx t := by decide +kernel
theorem blk_9 (p : Fin 128) (q : Fin 128) : iblk m c 9 t (ix3 0 p q) = A9 m c (place t p q) := by
  unfold iblk
  rw [View.read_apply]
  show V m c main_v18 _ = _
  rw [show V m c main_v18 = A9 m c by
    unfold A9 viewW
    show StableHlo.after hostOps0 _ (Proc.devRef .tc main_v18) = _
    after_results
    all_goals rfl]
  exact congrArg (A9 m c) (place_eq t p q _ _ (ix_9 t) ⟨0, by omega, rfl⟩ rfl rfl)
/-- Argument 10 as the launch finds it, as rows. -/
def A10 : Vec Ideal S1x2048x128 .f32 := viewW (m ((c : Thread nD τ).loc main_arg10))
theorem ix_10 : ∀ t : Fin grid0.N, win0_10.index t = idx t := by decide +kernel
theorem blk_10 (p : Fin 128) (q : Fin 128) : iblk m c 10 t (ix3 0 p q) = A10 m c (place t p q) := by
  unfold iblk
  rw [View.read_apply]
  show V m c main_v19 _ = _
  rw [show V m c main_v19 = A10 m c by
    unfold A10 viewW
    show StableHlo.after hostOps0 _ (Proc.devRef .tc main_v19) = _
    after_results
    all_goals rfl]
  exact congrArg (A10 m c) (place_eq t p q _ _ (ix_10 t) ⟨0, by omega, rfl⟩ rfl rfl)
/-- Argument 11 as the launch finds it, as rows. -/
def A11 : Vec Ideal S1x2048x128 .f32 := viewW (m ((c : Thread nD τ).loc main_arg11))
theorem ix_11 : ∀ t : Fin grid0.N, win0_11.index t = idx t := by decide +kernel
theorem blk_11 (p : Fin 128) (q : Fin 128) : iblk m c 11 t (ix3 0 p q) = A11 m c (place t p q) := by
  unfold iblk
  rw [View.read_apply]
  show V m c main_v20 _ = _
  rw [show V m c main_v20 = A11 m c by
    unfold A11 viewW
    show StableHlo.after hostOps0 _ (Proc.devRef .tc main_v20) = _
    after_results
    all_goals rfl]
  exact congrArg (A11 m c) (place_eq t p q _ _ (ix_11 t) ⟨0, by omega, rfl⟩ rfl rfl)
/-- What a point leaves in output 0. -/
theorem pt_12 (p : Fin 128) (q : Fin 128) :
    (out_12 m c t) (ix3 0 p q) = iblk m c 0 t (ix3 0 p q) := by
  unfold out_12
  rw [View.read_writes_eq_canon _ _ _ (cover_12 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_0 t).read_unread, View.ld_unit_zero (S := S1x128x128) hz]
  pointwise [k0_pay2, k0_pay6, step, newM, newV]
theorem val_12 (p : Fin 128) (q : Fin 128) : (out_12 m c t) (ix3 0 p q) = (resG (A0 m c)) (place t p q) := by
  rw [pt_12, blk_0]
  rfl
theorem ix_12 : ∀ t : Fin grid0.N, win0_12.index t = idx t := by decide +kernel
/-- Output 0 after the run. -/
theorem arr_12 : ((dats m 0 c).arrAt 12 cfg0.N : Vec Ideal S1x2048x128 .f32) = resG (A0 m c) := by
  refine (dats m 0 c).arrAt_eq_of_cover 12 _ (fun t _ => ?_) fun (i : S1x2048x128.Idx) => ?_
  · show (cfg0.win 12).cut (grid0.coords t) ((dats m 0 c).after 12 t) = _
    rw [after_12]
    funext y
    refine (congrArg (out_12 m c t) (blk_eq ((cfg0.win 12).xinj (grid0.coords t) y))).trans ((val_12 m c t _ _).trans (congrArg (resG (A0 m c)) ?_))
    exact (place_eq t _ _ (((cfg0.win 12).blk t).view.emb y) _ (ix_12 t) ⟨(y 0).val, (y 0).isLt, rfl⟩ rfl rfl).symm
  · obtain ⟨t, ht⟩ := covered i
    refine ⟨t, flush0_12 t, ?_⟩
    show i ∈ ((View.whole main_v21_0).slice (win0_12.rect t)).set
    rw [View.set_slice_whole, Rect.mem_set_unit]
    exact ht (win0_12.index t) (ix_12 t)
/-- What a point leaves in output 1. -/
theorem pt_13 (p : Fin 128) (q : Fin 128) :
    (out_13 m c t) (ix3 0 p q) = step (iblk m c 0 t (ix3 0 p q)) (iblk m c 3 t (ix3 0 p q)) (iblk m c 6 t (ix3 0 p q)) (iblk m c 9 t (ix3 0 p q)) := by
  unfold out_13
  rw [View.read_writes_eq_canon _ _ _ (cover_13 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_0 t).read_unread, (hs0_3 t).read_unread, (hs0_6 t).read_unread, (hs0_9 t).read_unread, View.ld_unit_zero (S := S1x128x128) hz]
  pointwise [k0_pay2, k0_pay3, k0_pay4, k0_pay5, k0_pay7, step, newM, newV]
theorem val_13 (p : Fin 128) (q : Fin 128) : (out_13 m c t) (ix3 0 p q) = (resD (A0 m c) (A3 m c) (A6 m c) (A9 m c)) (place t p q) := by
  rw [pt_13, blk_0, blk_3, blk_6, blk_9]
  rfl
theorem ix_13 : ∀ t : Fin grid0.N, win0_13.index t = idx t := by decide +kernel
/-- Output 1 after the run. -/
theorem arr_13 : ((dats m 0 c).arrAt 13 cfg0.N : Vec Ideal S1x2048x128 .f32) = resD (A0 m c) (A3 m c) (A6 m c) (A9 m c) := by
  refine (dats m 0 c).arrAt_eq_of_cover 13 _ (fun t _ => ?_) fun (i : S1x2048x128.Idx) => ?_
  · show (cfg0.win 13).cut (grid0.coords t) ((dats m 0 c).after 13 t) = _
    rw [after_13]
    funext y
    refine (congrArg (out_13 m c t) (blk_eq ((cfg0.win 13).xinj (grid0.coords t) y))).trans ((val_13 m c t _ _).trans (congrArg (resD (A0 m c) (A3 m c) (A6 m c) (A9 m c)) ?_))
    exact (place_eq t _ _ (((cfg0.win 13).blk t).view.emb y) _ (ix_13 t) ⟨(y 0).val, (y 0).isLt, rfl⟩ rfl rfl).symm
  · obtain ⟨t, ht⟩ := covered i
    refine ⟨t, flush0_13 t, ?_⟩
    show i ∈ ((View.whole main_v21_1).slice (win0_13.rect t)).set
    rw [View.set_slice_whole, Rect.mem_set_unit]
    exact ht (win0_13.index t) (ix_13 t)
/-- What a point leaves in output 2. -/
theorem pt_14 (p : Fin 128) (q : Fin 128) :
    (out_14 m c t) (ix3 0 p q) = newM (iblk m c 0 t (ix3 0 p q)) (iblk m c 6 t (ix3 0 p q)) := by
  unfold out_14
  rw [View.read_writes_eq_canon _ _ _ (cover_14 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_0 t).read_unread, (hs0_6 t).read_unread, View.ld_unit_zero (S := S1x128x128) hz]
  pointwise [k0_pay2, k0_pay3, k0_pay8, step, newM, newV]
theorem val_14 (p : Fin 128) (q : Fin 128) : (out_14 m c t) (ix3 0 p q) = (resM (A0 m c) (A6 m c)) (place t p q) := by
  rw [pt_14, blk_0, blk_6]
  rfl
theorem ix_14 : ∀ t : Fin grid0.N, win0_14.index t = idx t := by decide +kernel
/-- Output 2 after the run. -/
theorem arr_14 : ((dats m 0 c).arrAt 14 cfg0.N : Vec Ideal S1x2048x128 .f32) = resM (A0 m c) (A6 m c) := by
  refine (dats m 0 c).arrAt_eq_of_cover 14 _ (fun t _ => ?_) fun (i : S1x2048x128.Idx) => ?_
  · show (cfg0.win 14).cut (grid0.coords t) ((dats m 0 c).after 14 t) = _
    rw [after_14]
    funext y
    refine (congrArg (out_14 m c t) (blk_eq ((cfg0.win 14).xinj (grid0.coords t) y))).trans ((val_14 m c t _ _).trans (congrArg (resM (A0 m c) (A6 m c)) ?_))
    exact (place_eq t _ _ (((cfg0.win 14).blk t).view.emb y) _ (ix_14 t) ⟨(y 0).val, (y 0).isLt, rfl⟩ rfl rfl).symm
  · obtain ⟨t, ht⟩ := covered i
    refine ⟨t, flush0_14 t, ?_⟩
    show i ∈ ((View.whole main_v21_2).slice (win0_14.rect t)).set
    rw [View.set_slice_whole, Rect.mem_set_unit]
    exact ht (win0_14.index t) (ix_14 t)
/-- What a point leaves in output 3. -/
theorem pt_15 (p : Fin 128) (q : Fin 128) :
    (out_15 m c t) (ix3 0 p q) = newV (iblk m c 0 t (ix3 0 p q)) (iblk m c 9 t (ix3 0 p q)) := by
  unfold out_15
  rw [View.read_writes_eq_canon _ _ _ (cover_15 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_0 t).read_unread, (hs0_9 t).read_unread, View.ld_unit_zero (S := S1x128x128) hz]
  pointwise [k0_pay2, k0_pay4, k0_pay9, step, newM, newV]
theorem val_15 (p : Fin 128) (q : Fin 128) : (out_15 m c t) (ix3 0 p q) = (resV (A0 m c) (A9 m c)) (place t p q) := by
  rw [pt_15, blk_0, blk_9]
  rfl
theorem ix_15 : ∀ t : Fin grid0.N, win0_15.index t = idx t := by decide +kernel
/-- Output 3 after the run. -/
theorem arr_15 : ((dats m 0 c).arrAt 15 cfg0.N : Vec Ideal S1x2048x128 .f32) = resV (A0 m c) (A9 m c) := by
  refine (dats m 0 c).arrAt_eq_of_cover 15 _ (fun t _ => ?_) fun (i : S1x2048x128.Idx) => ?_
  · show (cfg0.win 15).cut (grid0.coords t) ((dats m 0 c).after 15 t) = _
    rw [after_15]
    funext y
    refine (congrArg (out_15 m c t) (blk_eq ((cfg0.win 15).xinj (grid0.coords t) y))).trans ((val_15 m c t _ _).trans (congrArg (resV (A0 m c) (A9 m c)) ?_))
    exact (place_eq t _ _ (((cfg0.win 15).blk t).view.emb y) _ (ix_15 t) ⟨(y 0).val, (y 0).isLt, rfl⟩ rfl rfl).symm
  · obtain ⟨t, ht⟩ := covered i
    refine ⟨t, flush0_15 t, ?_⟩
    show i ∈ ((View.whole main_v21_3).slice (win0_15.rect t)).set
    rw [View.set_slice_whole, Rect.mem_set_unit]
    exact ht (win0_15.index t) (ix_15 t)
/-- What a point leaves in output 4. -/
theorem pt_16 (p : Fin 128) (q : Fin 128) :
    (out_16 m c t) (ix3 0 p q) = iblk m c 1 t (ix3 0 p q) := by
  unfold out_16
  rw [View.read_writes_eq_canon _ _ _ (cover_16 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_1 t).read_unread, View.ld_unit_zero (S := S1x128x128) hz]
  pointwise [k0_pay10, k0_pay15, step, newM, newV]
theorem val_16 (p : Fin 128) (q : Fin 128) : (out_16 m c t) (ix3 0 p q) = (resG (A1 m c)) (place t p q) := by
  rw [pt_16, blk_1]
  rfl
theorem ix_16 : ∀ t : Fin grid0.N, win0_16.index t = idx t := by decide +kernel
/-- Output 4 after the run. -/
theorem arr_16 : ((dats m 0 c).arrAt 16 cfg0.N : Vec Ideal S1x2048x128 .f32) = resG (A1 m c) := by
  refine (dats m 0 c).arrAt_eq_of_cover 16 _ (fun t _ => ?_) fun (i : S1x2048x128.Idx) => ?_
  · show (cfg0.win 16).cut (grid0.coords t) ((dats m 0 c).after 16 t) = _
    rw [after_16]
    funext y
    refine (congrArg (out_16 m c t) (blk_eq ((cfg0.win 16).xinj (grid0.coords t) y))).trans ((val_16 m c t _ _).trans (congrArg (resG (A1 m c)) ?_))
    exact (place_eq t _ _ (((cfg0.win 16).blk t).view.emb y) _ (ix_16 t) ⟨(y 0).val, (y 0).isLt, rfl⟩ rfl rfl).symm
  · obtain ⟨t, ht⟩ := covered i
    refine ⟨t, flush0_16 t, ?_⟩
    show i ∈ ((View.whole main_v21_4).slice (win0_16.rect t)).set
    rw [View.set_slice_whole, Rect.mem_set_unit]
    exact ht (win0_16.index t) (ix_16 t)
/-- What a point leaves in output 5. -/
theorem pt_17 (p : Fin 128) (q : Fin 128) :
    (out_17 m c t) (ix3 0 p q) = step (iblk m c 1 t (ix3 0 p q)) (iblk m c 4 t (ix3 0 p q)) (iblk m c 7 t (ix3 0 p q)) (iblk m c 10 t (ix3 0 p q)) := by
  unfold out_17
  rw [View.read_writes_eq_canon _ _ _ (cover_17 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_1 t).read_unread, (hs0_4 t).read_unread, (hs0_7 t).read_unread, (hs0_10 t).read_unread, View.ld_unit_zero (S := S1x128x128) hz]
  pointwise [k0_pay10, k0_pay11, k0_pay12, k0_pay13, k0_pay14, k0_pay16, step, newM, newV]
theorem val_17 (p : Fin 128) (q : Fin 128) : (out_17 m c t) (ix3 0 p q) = (resD (A1 m c) (A4 m c) (A7 m c) (A10 m c)) (place t p q) := by
  rw [pt_17, blk_1, blk_4, blk_7, blk_10]
  rfl
theorem ix_17 : ∀ t : Fin grid0.N, win0_17.index t = idx t := by decide +kernel
/-- Output 5 after the run. -/
theorem arr_17 : ((dats m 0 c).arrAt 17 cfg0.N : Vec Ideal S1x2048x128 .f32) = resD (A1 m c) (A4 m c) (A7 m c) (A10 m c) := by
  refine (dats m 0 c).arrAt_eq_of_cover 17 _ (fun t _ => ?_) fun (i : S1x2048x128.Idx) => ?_
  · show (cfg0.win 17).cut (grid0.coords t) ((dats m 0 c).after 17 t) = _
    rw [after_17]
    funext y
    refine (congrArg (out_17 m c t) (blk_eq ((cfg0.win 17).xinj (grid0.coords t) y))).trans ((val_17 m c t _ _).trans (congrArg (resD (A1 m c) (A4 m c) (A7 m c) (A10 m c)) ?_))
    exact (place_eq t _ _ (((cfg0.win 17).blk t).view.emb y) _ (ix_17 t) ⟨(y 0).val, (y 0).isLt, rfl⟩ rfl rfl).symm
  · obtain ⟨t, ht⟩ := covered i
    refine ⟨t, flush0_17 t, ?_⟩
    show i ∈ ((View.whole main_v21_5).slice (win0_17.rect t)).set
    rw [View.set_slice_whole, Rect.mem_set_unit]
    exact ht (win0_17.index t) (ix_17 t)
/-- What a point leaves in output 6. -/
theorem pt_18 (p : Fin 128) (q : Fin 128) :
    (out_18 m c t) (ix3 0 p q) = newM (iblk m c 1 t (ix3 0 p q)) (iblk m c 7 t (ix3 0 p q)) := by
  unfold out_18
  rw [View.read_writes_eq_canon _ _ _ (cover_18 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_1 t).read_unread, (hs0_7 t).read_unread, View.ld_unit_zero (S := S1x128x128) hz]
  pointwise [k0_pay10, k0_pay12, k0_pay17, step, newM, newV]
theorem val_18 (p : Fin 128) (q : Fin 128) : (out_18 m c t) (ix3 0 p q) = (resM (A1 m c) (A7 m c)) (place t p q) := by
  rw [pt_18, blk_1, blk_7]
  rfl
theorem ix_18 : ∀ t : Fin grid0.N, win0_18.index t = idx t := by decide +kernel
/-- Output 6 after the run. -/
theorem arr_18 : ((dats m 0 c).arrAt 18 cfg0.N : Vec Ideal S1x2048x128 .f32) = resM (A1 m c) (A7 m c) := by
  refine (dats m 0 c).arrAt_eq_of_cover 18 _ (fun t _ => ?_) fun (i : S1x2048x128.Idx) => ?_
  · show (cfg0.win 18).cut (grid0.coords t) ((dats m 0 c).after 18 t) = _
    rw [after_18]
    funext y
    refine (congrArg (out_18 m c t) (blk_eq ((cfg0.win 18).xinj (grid0.coords t) y))).trans ((val_18 m c t _ _).trans (congrArg (resM (A1 m c) (A7 m c)) ?_))
    exact (place_eq t _ _ (((cfg0.win 18).blk t).view.emb y) _ (ix_18 t) ⟨(y 0).val, (y 0).isLt, rfl⟩ rfl rfl).symm
  · obtain ⟨t, ht⟩ := covered i
    refine ⟨t, flush0_18 t, ?_⟩
    show i ∈ ((View.whole main_v21_6).slice (win0_18.rect t)).set
    rw [View.set_slice_whole, Rect.mem_set_unit]
    exact ht (win0_18.index t) (ix_18 t)
/-- What a point leaves in output 7. -/
theorem pt_19 (p : Fin 128) (q : Fin 128) :
    (out_19 m c t) (ix3 0 p q) = newV (iblk m c 1 t (ix3 0 p q)) (iblk m c 10 t (ix3 0 p q)) := by
  unfold out_19
  rw [View.read_writes_eq_canon _ _ _ (cover_19 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_1 t).read_unread, (hs0_10 t).read_unread, View.ld_unit_zero (S := S1x128x128) hz]
  pointwise [k0_pay10, k0_pay13, k0_pay18, step, newM, newV]
theorem val_19 (p : Fin 128) (q : Fin 128) : (out_19 m c t) (ix3 0 p q) = (resV (A1 m c) (A10 m c)) (place t p q) := by
  rw [pt_19, blk_1, blk_10]
  rfl
theorem ix_19 : ∀ t : Fin grid0.N, win0_19.index t = idx t := by decide +kernel
/-- Output 7 after the run. -/
theorem arr_19 : ((dats m 0 c).arrAt 19 cfg0.N : Vec Ideal S1x2048x128 .f32) = resV (A1 m c) (A10 m c) := by
  refine (dats m 0 c).arrAt_eq_of_cover 19 _ (fun t _ => ?_) fun (i : S1x2048x128.Idx) => ?_
  · show (cfg0.win 19).cut (grid0.coords t) ((dats m 0 c).after 19 t) = _
    rw [after_19]
    funext y
    refine (congrArg (out_19 m c t) (blk_eq ((cfg0.win 19).xinj (grid0.coords t) y))).trans ((val_19 m c t _ _).trans (congrArg (resV (A1 m c) (A10 m c)) ?_))
    exact (place_eq t _ _ (((cfg0.win 19).blk t).view.emb y) _ (ix_19 t) ⟨(y 0).val, (y 0).isLt, rfl⟩ rfl rfl).symm
  · obtain ⟨t, ht⟩ := covered i
    refine ⟨t, flush0_19 t, ?_⟩
    show i ∈ ((View.whole main_v21_7).slice (win0_19.rect t)).set
    rw [View.set_slice_whole, Rect.mem_set_unit]
    exact ht (win0_19.index t) (ix_19 t)
/-- What a point leaves in output 8. -/
theorem pt_20 (p : Fin 128) (q : Fin 128) :
    (out_20 m c t) (ix3 0 p q) = iblk m c 2 t (ix3 0 p q) := by
  unfold out_20
  rw [View.read_writes_eq_canon _ _ _ (cover_20 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_2 t).read_unread, View.ld_unit_zero (S := S1x128x128) hz]
  pointwise [k0_pay19, k0_pay24, step, newM, newV]
theorem val_20 (p : Fin 128) (q : Fin 128) : (out_20 m c t) (ix3 0 p q) = (resG (A2 m c)) (place t p q) := by
  rw [pt_20, blk_2]
  rfl
theorem ix_20 : ∀ t : Fin grid0.N, win0_20.index t = idx t := by decide +kernel
/-- Output 8 after the run. -/
theorem arr_20 : ((dats m 0 c).arrAt 20 cfg0.N : Vec Ideal S1x2048x128 .f32) = resG (A2 m c) := by
  refine (dats m 0 c).arrAt_eq_of_cover 20 _ (fun t _ => ?_) fun (i : S1x2048x128.Idx) => ?_
  · show (cfg0.win 20).cut (grid0.coords t) ((dats m 0 c).after 20 t) = _
    rw [after_20]
    funext y
    refine (congrArg (out_20 m c t) (blk_eq ((cfg0.win 20).xinj (grid0.coords t) y))).trans ((val_20 m c t _ _).trans (congrArg (resG (A2 m c)) ?_))
    exact (place_eq t _ _ (((cfg0.win 20).blk t).view.emb y) _ (ix_20 t) ⟨(y 0).val, (y 0).isLt, rfl⟩ rfl rfl).symm
  · obtain ⟨t, ht⟩ := covered i
    refine ⟨t, flush0_20 t, ?_⟩
    show i ∈ ((View.whole main_v21_8).slice (win0_20.rect t)).set
    rw [View.set_slice_whole, Rect.mem_set_unit]
    exact ht (win0_20.index t) (ix_20 t)
/-- What a point leaves in output 9. -/
theorem pt_21 (p : Fin 128) (q : Fin 128) :
    (out_21 m c t) (ix3 0 p q) = step (iblk m c 2 t (ix3 0 p q)) (iblk m c 5 t (ix3 0 p q)) (iblk m c 8 t (ix3 0 p q)) (iblk m c 11 t (ix3 0 p q)) := by
  unfold out_21
  rw [View.read_writes_eq_canon _ _ _ (cover_21 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_2 t).read_unread, (hs0_5 t).read_unread, (hs0_8 t).read_unread, (hs0_11 t).read_unread, View.ld_unit_zero (S := S1x128x128) hz]
  pointwise [k0_pay19, k0_pay20, k0_pay21, k0_pay22, k0_pay23, k0_pay25, step, newM, newV]
theorem val_21 (p : Fin 128) (q : Fin 128) : (out_21 m c t) (ix3 0 p q) = (resD (A2 m c) (A5 m c) (A8 m c) (A11 m c)) (place t p q) := by
  rw [pt_21, blk_2, blk_5, blk_8, blk_11]
  rfl
theorem ix_21 : ∀ t : Fin grid0.N, win0_21.index t = idx t := by decide +kernel
/-- Output 9 after the run. -/
theorem arr_21 : ((dats m 0 c).arrAt 21 cfg0.N : Vec Ideal S1x2048x128 .f32) = resD (A2 m c) (A5 m c) (A8 m c) (A11 m c) := by
  refine (dats m 0 c).arrAt_eq_of_cover 21 _ (fun t _ => ?_) fun (i : S1x2048x128.Idx) => ?_
  · show (cfg0.win 21).cut (grid0.coords t) ((dats m 0 c).after 21 t) = _
    rw [after_21]
    funext y
    refine (congrArg (out_21 m c t) (blk_eq ((cfg0.win 21).xinj (grid0.coords t) y))).trans ((val_21 m c t _ _).trans (congrArg (resD (A2 m c) (A5 m c) (A8 m c) (A11 m c)) ?_))
    exact (place_eq t _ _ (((cfg0.win 21).blk t).view.emb y) _ (ix_21 t) ⟨(y 0).val, (y 0).isLt, rfl⟩ rfl rfl).symm
  · obtain ⟨t, ht⟩ := covered i
    refine ⟨t, flush0_21 t, ?_⟩
    show i ∈ ((View.whole main_v21_9).slice (win0_21.rect t)).set
    rw [View.set_slice_whole, Rect.mem_set_unit]
    exact ht (win0_21.index t) (ix_21 t)
/-- What a point leaves in output 10. -/
theorem pt_22 (p : Fin 128) (q : Fin 128) :
    (out_22 m c t) (ix3 0 p q) = newM (iblk m c 2 t (ix3 0 p q)) (iblk m c 8 t (ix3 0 p q)) := by
  unfold out_22
  rw [View.read_writes_eq_canon _ _ _ (cover_22 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_2 t).read_unread, (hs0_8 t).read_unread, View.ld_unit_zero (S := S1x128x128) hz]
  pointwise [k0_pay19, k0_pay21, k0_pay22, k0_pay26, step, newM, newV]
theorem val_22 (p : Fin 128) (q : Fin 128) : (out_22 m c t) (ix3 0 p q) = (resM (A2 m c) (A8 m c)) (place t p q) := by
  rw [pt_22, blk_2, blk_8]
  rfl
theorem ix_22 : ∀ t : Fin grid0.N, win0_22.index t = idx t := by decide +kernel
/-- Output 10 after the run. -/
theorem arr_22 : ((dats m 0 c).arrAt 22 cfg0.N : Vec Ideal S1x2048x128 .f32) = resM (A2 m c) (A8 m c) := by
  refine (dats m 0 c).arrAt_eq_of_cover 22 _ (fun t _ => ?_) fun (i : S1x2048x128.Idx) => ?_
  · show (cfg0.win 22).cut (grid0.coords t) ((dats m 0 c).after 22 t) = _
    rw [after_22]
    funext y
    refine (congrArg (out_22 m c t) (blk_eq ((cfg0.win 22).xinj (grid0.coords t) y))).trans ((val_22 m c t _ _).trans (congrArg (resM (A2 m c) (A8 m c)) ?_))
    exact (place_eq t _ _ (((cfg0.win 22).blk t).view.emb y) _ (ix_22 t) ⟨(y 0).val, (y 0).isLt, rfl⟩ rfl rfl).symm
  · obtain ⟨t, ht⟩ := covered i
    refine ⟨t, flush0_22 t, ?_⟩
    show i ∈ ((View.whole main_v21_10).slice (win0_22.rect t)).set
    rw [View.set_slice_whole, Rect.mem_set_unit]
    exact ht (win0_22.index t) (ix_22 t)
/-- What a point leaves in output 11. -/
theorem pt_23 (p : Fin 128) (q : Fin 128) :
    (out_23 m c t) (ix3 0 p q) = newV (iblk m c 2 t (ix3 0 p q)) (iblk m c 11 t (ix3 0 p q)) := by
  unfold out_23
  rw [View.read_writes_eq_canon _ _ _ (cover_23 m c t)]
  unfold run kernelRun0_A
  dsimp only
  rw [View.canon_unit_zero (S := S1x128x128) hz]
  simp only [sl.r, sl.r_1, sl.r_10, sl.r_11, sl.r_12, sl.r_2, sl.r_3, sl.r_4, sl.r_5, sl.r_6, sl.r_7, sl.r_8, sl.r_9, sl.cst_49, View.readAt_eq_ld, (hs0_2 t).read_unread, (hs0_11 t).read_unread, View.ld_unit_zero (S := S1x128x128) hz]
  pointwise [k0_pay1, k0_pay19, k0_pay23, step, newM, newV]
theorem val_23 (p : Fin 128) (q : Fin 128) : (out_23 m c t) (ix3 0 p q) = (resV (A2 m c) (A11 m c)) (place t p q) := by
  rw [pt_23, blk_2, blk_11]
  rfl
theorem ix_23 : ∀ t : Fin grid0.N, win0_23.index t = idx t := by decide +kernel
/-- Output 11 after the run. -/
theorem arr_23 : ((dats m 0 c).arrAt 23 cfg0.N : Vec Ideal S1x2048x128 .f32) = resV (A2 m c) (A11 m c) := by
  refine (dats m 0 c).arrAt_eq_of_cover 23 _ (fun t _ => ?_) fun (i : S1x2048x128.Idx) => ?_
  · show (cfg0.win 23).cut (grid0.coords t) ((dats m 0 c).after 23 t) = _
    rw [after_23]
    funext y
    refine (congrArg (out_23 m c t) (blk_eq ((cfg0.win 23).xinj (grid0.coords t) y))).trans ((val_23 m c t _ _).trans (congrArg (resV (A2 m c) (A11 m c)) ?_))
    exact (place_eq t _ _ (((cfg0.win 23).blk t).view.emb y) _ (ix_23 t) ⟨(y 0).val, (y 0).isLt, rfl⟩ rfl rfl).symm
  · obtain ⟨t, ht⟩ := covered i
    refine ⟨t, flush0_23 t, ?_⟩
    show i ∈ ((View.whole main_v21_11).slice (win0_23.rect t)).set
    rw [View.set_slice_whole, Rect.mem_set_unit]
    exact ht (win0_23.index t) (ix_23 t)

end Cert.Kernel26Ideal.Value

end
-- ==== Proof.Same26.lean ====
/- AdamW on the three small matrices. Both programs end with the same arrays over the extended reals. -/
module

public import proofs.«01_k».proof.Defs
public import proofs.«01_k».proof.Proof.Mul26
public import proofs.«01_k».proof.Proof.Gen.Reference26Ideal
public import proofs.«01_k».proof.Proof.Gen.Reference26Ideal.Run
public import proofs.«01_k».proof.Proof.Gen.Reference26Ideal.Read
public import Idealize.ShloMosaic.Lib.Pointwise
public import Idealize.ShloMosaic.Lib.Claim
public import Idealize.ShloMosaic.Adequacy

@[expose] public section

set_option maxRecDepth 16384

noncomputable section

namespace Cert.Reference26Ideal.Value

open Cert.Reference26Ideal Cert.Reference26Ideal.Read Cert.Kernel26Ideal.Value Cert.Adam Idealize.ShloMosaic

/-- The reference's result 0. -/
theorem ref_12 (x0 : (⟨S8x256x128, .f32⟩ : BufTy).Contents (Elt Ideal)) : val_main_v0 (F := Ideal) x0 = resG (viewG x0) := by
  show _ = resG (val_main_v0 (F := Ideal) x0)
  funext x
  rw [eq_ix3 x]
  pointwise [resG, resD, resM, resV, grad, step, newM, newV]
/-- The reference's result 1. -/
theorem ref_13 (x0 : (⟨S8x256x128, .f32⟩ : BufTy).Contents (Elt Ideal)) (x3 x6 x9 : (⟨S2x8x128x128, .f32⟩ : BufTy).Contents (Elt Ideal)) : val_main_v30 (F := Ideal) x0 x3 x6 x9 = resD (viewG x0) (viewW x3) (viewW x6) (viewW x9) := by
  show _ = resD (val_main_v0 (F := Ideal) x0) (val_main_v2 (F := Ideal) x3) (val_main_v4 (F := Ideal) x6) (val_main_v6 (F := Ideal) x9)
  funext x
  rw [eq_ix3 x]
  pointwise [val_main_v30, val_main_v29, val_main_cst_7, val_main_v28, val_main_v25, val_main_v19, val_main_v11, val_main_v8, val_main_v7, val_main_cst, val_main_v10, val_main_v9, val_main_cst_0, val_main_v18, val_main_cst_3, val_main_v24, val_main_v22, val_main_v21, val_main_v17, val_main_v13, val_main_v12, val_main_cst_1, val_main_v16, val_main_v15, val_main_cst_2, val_main_v14, val_main_v20, val_main_cst_4, val_main_v23, val_main_cst_5, val_main_v27, val_main_v26, val_main_cst_6, resG, resD, resM, resV, grad, step, newM, newV]
/-- The reference's result 2. -/
theorem ref_14 (x0 : (⟨S8x256x128, .f32⟩ : BufTy).Contents (Elt Ideal)) (x6 : (⟨S2x8x128x128, .f32⟩ : BufTy).Contents (Elt Ideal)) : val_main_v11 (F := Ideal) x0 x6 = resM (viewG x0) (viewW x6) := by
  show _ = resM (val_main_v0 (F := Ideal) x0) (val_main_v4 (F := Ideal) x6)
  funext x
  rw [eq_ix3 x]
  pointwise [val_main_v11, val_main_v8, val_main_v7, val_main_cst, val_main_v10, val_main_v9, val_main_cst_0, resG, resD, resM, resV, grad, step, newM, newV]
/-- The reference's result 3. -/
theorem ref_15 (x0 : (⟨S8x256x128, .f32⟩ : BufTy).Contents (Elt Ideal)) (x9 : (⟨S2x8x128x128, .f32⟩ : BufTy).Contents (Elt Ideal)) : val_main_v17 (F := Ideal) x0 x9 = resV (viewG x0) (viewW x9) := by
  show _ = resV (val_main_v0 (F := Ideal) x0) (val_main_v6 (F := Ideal) x9)
  funext x
  rw [eq_ix3 x]
  pointwise [val_main_v17, val_main_v13, val_main_v12, val_main_cst_1, val_main_v16, val_main_v15, val_main_cst_2, val_main_v14, resG, resD, resM, resV, grad, step, newM, newV]
/-- The reference's result 4. -/
theorem ref_16 (x1 : (⟨S8x256x128, .f32⟩ : BufTy).Contents (Elt Ideal)) : val_main_v31 (F := Ideal) x1 = resG (viewG x1) := by
  show _ = resG (val_main_v31 (F := Ideal) x1)
  funext x
  rw [eq_ix3 x]
  pointwise [resG, resD, resM, resV, grad, step, newM, newV]
/-- The reference's result 5. -/
theorem ref_17 (x1 : (⟨S8x256x128, .f32⟩ : BufTy).Contents (Elt Ideal)) (x4 x7 x10 : (⟨S2x8x128x128, .f32⟩ : BufTy).Contents (Elt Ideal)) : val_main_v61 (F := Ideal) x1 x4 x7 x10 = resD (viewG x1) (viewW x4) (viewW x7) (viewW x10) := by
  show _ = resD (val_main_v31 (F := Ideal) x1) (val_main_v33 (F := Ideal) x4) (val_main_v35 (F := Ideal) x7) (val_main_v37 (F := Ideal) x10)
  funext x
  rw [eq_ix3 x]
  pointwise [val_main_v61, val_main_v60, val_main_cst_16, val_main_v59, val_main_v56, val_main_v50, val_main_v42, val_main_v39, val_main_v38, val_main_cst_8, val_main_v41, val_main_v40, val_main_cst_9, val_main_v49, val_main_cst_12, val_main_v55, val_main_v53, val_main_v52, val_main_v48, val_main_v44, val_main_v43, val_main_cst_10, val_main_v47, val_main_v46, val_main_cst_11, val_main_v45, val_main_v51, val_main_cst_13, val_main_v54, val_main_cst_14, val_main_v58, val_main_v57, val_main_cst_15, resG, resD, resM, resV, grad, step, newM, newV]
/-- The reference's result 6. -/
theorem ref_18 (x1 : (⟨S8x256x128, .f32⟩ : BufTy).Contents (Elt Ideal)) (x7 : (⟨S2x8x128x128, .f32⟩ : BufTy).Contents (Elt Ideal)) : val_main_v42 (F := Ideal) x1 x7 = resM (viewG x1) (viewW x7) := by
  show _ = resM (val_main_v31 (F := Ideal) x1) (val_main_v35 (F := Ideal) x7)
  funext x
  rw [eq_ix3 x]
  pointwise [val_main_v42, val_main_v39, val_main_v38, val_main_cst_8, val_main_v41, val_main_v40, val_main_cst_9, resG, resD, resM, resV, grad, step, newM, newV]
/-- The reference's result 7. -/
theorem ref_19 (x1 : (⟨S8x256x128, .f32⟩ : BufTy).Contents (Elt Ideal)) (x10 : (⟨S2x8x128x128, .f32⟩ : BufTy).Contents (Elt Ideal)) : val_main_v48 (F := Ideal) x1 x10 = resV (viewG x1) (viewW x10) := by
  show _ = resV (val_main_v31 (F := Ideal) x1) (val_main_v37 (F := Ideal) x10)
  funext x
  rw [eq_ix3 x]
  pointwise [val_main_v48, val_main_v44, val_main_v43, val_main_cst_10, val_main_v47, val_main_v46, val_main_cst_11, val_main_v45, resG, resD, resM, resV, grad, step, newM, newV]
/-- The reference's result 8. -/
theorem ref_20 (x2 : (⟨S8x256x128, .f32⟩ : BufTy).Contents (Elt Ideal)) : val_main_v62 (F := Ideal) x2 = resG (viewG x2) := by
  show _ = resG (val_main_v62 (F := Ideal) x2)
  funext x
  rw [eq_ix3 x]
  pointwise [resG, resD, resM, resV, grad, step, newM, newV]
/-- The reference's result 9. -/
theorem ref_21 (x2 : (⟨S8x256x128, .f32⟩ : BufTy).Contents (Elt Ideal)) (x5 x8 x11 : (⟨S2x8x128x128, .f32⟩ : BufTy).Contents (Elt Ideal)) : val_main_v92 (F := Ideal) x2 x5 x8 x11 = resD (viewG x2) (viewW x5) (viewW x8) (viewW x11) := by
  show _ = resD (val_main_v62 (F := Ideal) x2) (val_main_v64 (F := Ideal) x5) (val_main_v66 (F := Ideal) x8) (val_main_v68 (F := Ideal) x11)
  funext x
  rw [eq_ix3 x]
  pointwise [val_main_v92, val_main_v91, val_main_cst_25, val_main_v90, val_main_v87, val_main_v81, val_main_v73, val_main_v70, val_main_v69, val_main_cst_17, val_main_v72, val_main_v71, val_main_cst_18, val_main_v80, val_main_cst_21, val_main_v86, val_main_v84, val_main_v83, val_main_v79, val_main_v75, val_main_v74, val_main_cst_19, val_main_v78, val_main_v77, val_main_cst_20, val_main_v76, val_main_v82, val_main_cst_22, val_main_v85, val_main_cst_23, val_main_v89, val_main_v88, val_main_cst_24, resG, resD, resM, resV, grad, step, newM, newV]
/-- The reference's result 10. -/
theorem ref_22 (x2 : (⟨S8x256x128, .f32⟩ : BufTy).Contents (Elt Ideal)) (x8 : (⟨S2x8x128x128, .f32⟩ : BufTy).Contents (Elt Ideal)) : val_main_v73 (F := Ideal) x2 x8 = resM (viewG x2) (viewW x8) := by
  show _ = resM (val_main_v62 (F := Ideal) x2) (val_main_v66 (F := Ideal) x8)
  funext x
  rw [eq_ix3 x]
  pointwise [val_main_v73, val_main_v70, val_main_v69, val_main_cst_17, val_main_v72, val_main_v71, val_main_cst_18, resG, resD, resM, resV, grad, step, newM, newV]
/-- The reference's result 11. -/
theorem ref_23 (x2 : (⟨S8x256x128, .f32⟩ : BufTy).Contents (Elt Ideal)) (x11 : (⟨S2x8x128x128, .f32⟩ : BufTy).Contents (Elt Ideal)) : val_main_v79 (F := Ideal) x2 x11 = resV (viewG x2) (viewW x11) := by
  show _ = resV (val_main_v62 (F := Ideal) x2) (val_main_v68 (F := Ideal) x11)
  funext x
  rw [eq_ix3 x]
  pointwise [val_main_v79, val_main_v75, val_main_v74, val_main_cst_19, val_main_v78, val_main_v77, val_main_cst_20, val_main_v76, resG, resD, resM, resV, grad, step, newM, newV]

end Cert.Reference26Ideal.Value

namespace Cert.Proof

open Cert.Kernel26Ideal.Value Cert.Reference26Ideal.Value Cert.Reference26Ideal.Read Idealize.ShloMosaic Idealize.ShloMosaic.StableHlo Idealize.SL.Sem

/-- The frame of this reference: its run leaves the arguments, and it declares no counter. -/
theorem adamw_small_matrices_reference_frame : Cert.quiescent_Reference26Ideal (hReference26Ideal := Cert.Reference26Ideal.Gen.facts) := fun m ρ _ =>
  (θ_run Cert.Reference26Ideal.defs _ _).mono (fun r h => ⟨fun c => (h c).2.2.2.2.2.2.2.2.2.2.2.2, sem_eq_zero_of_no_sems (by decide) r.2⟩)
    (Cert.Reference26Ideal.Value.run (F := Ideal) m ρ)

set_option maxHeartbeats 4000000 in
/-- The call and its reference end with the same arrays over the extended reals. -/
theorem adamw_small_matrices_same : Cert.algebraic_Kernel26Ideal_Reference26Ideal (hKernel26Ideal := Cert.Kernel26Ideal.Gen.facts) (hReference26Ideal := Cert.Reference26Ideal.Gen.facts) := by
  intro m ρ m' ρ' _ hag
  refine ⟨_, _, _, _, _, _, _, _, _, _, _, _,
    Cert.Kernel26Ideal.Whole.arrays m ρ, ?_⟩
  refine (θ_run Cert.Reference26Ideal.defs _ _).mono ?_ (Cert.Reference26Ideal.Value.run (F := Ideal) m' ρ')
  intro r h c
  obtain ⟨e0, e1, e2, e3, e4, e5, e6, e7, e8, e9, e10, e11⟩ := hag c
  obtain ⟨h0, h1, h2, h3, h4, h5, h6, h7, h8, h9, h10, h11, hk⟩ := h c
  refine ⟨h0.trans ?_, h1.trans ?_, h2.trans ?_, h3.trans ?_, h4.trans ?_, h5.trans ?_, h6.trans ?_, h7.trans ?_, h8.trans ?_, h9.trans ?_, h10.trans ?_, h11.trans ?_, hk⟩
  · rw [val_main_v0_eq]
    repeat rw [launchContents_devRef]
    rw [e0, ref_12]
    exact (arr_12 m c).symm
  · rw [val_main_v30_eq]
    repeat rw [launchContents_devRef]
    rw [e0, e3, e6, e9, ref_13]
    exact (arr_13 m c).symm
  · rw [val_main_v11_eq]
    repeat rw [launchContents_devRef]
    rw [e0, e6, ref_14]
    exact (arr_14 m c).symm
  · rw [val_main_v17_eq]
    repeat rw [launchContents_devRef]
    rw [e0, e9, ref_15]
    exact (arr_15 m c).symm
  · rw [val_main_v31_eq]
    repeat rw [launchContents_devRef]
    rw [e1, ref_16]
    exact (arr_16 m c).symm
  · rw [val_main_v61_eq]
    repeat rw [launchContents_devRef]
    rw [e1, e4, e7, e10, ref_17]
    exact (arr_17 m c).symm
  · rw [val_main_v42_eq]
    repeat rw [launchContents_devRef]
    rw [e1, e7, ref_18]
    exact (arr_18 m c).symm
  · rw [val_main_v48_eq]
    repeat rw [launchContents_devRef]
    rw [e1, e10, ref_19]
    exact (arr_19 m c).symm
  · rw [val_main_v62_eq]
    repeat rw [launchContents_devRef]
    rw [e2, ref_20]
    exact (arr_20 m c).symm
  · rw [val_main_v92_eq]
    repeat rw [launchContents_devRef]
    rw [e2, e5, e8, e11, ref_21]
    exact (arr_21 m c).symm
  · rw [val_main_v73_eq]
    repeat rw [launchContents_devRef]
    rw [e2, e8, ref_22]
    exact (arr_22 m c).symm
  · rw [val_main_v79_eq]
    repeat rw [launchContents_devRef]
    rw [e2, e11, ref_23]
    exact (arr_23 m c).symm

end Cert.Proof

end
-- ==== Proof.Same27.lean ====
/- The norm before the first layer's mixers. Both programs end with the same array over the extended reals. -/
module

public import proofs.«01_k».proof.Defs
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import Idealize.ShloMosaic.Lib.Pointwise
public import Idealize.ShloMosaic.Lib.Claim
public import Idealize.ShloMosaic.Lib.Pipeline.Value
public import Idealize.ShloMosaic.Adequacy

@[expose] public section

set_option maxRecDepth 16384

noncomputable section

namespace Cert.Kernel27Ideal.Value

open Cert.Kernel27Ideal Cert.Kernel27Ideal.Gen Idealize.ShloMosaic Idealize.ShloMosaic.TcCoe

theorem hz : (![0, 0] : Fin 2 → Nat) = fun _ => 0 := funext fun a => by fin_cases a <;> rfl

/-- A row over its root mean square, each entry times a gain. -/
def rmsn (s g : Fin 1024 → EReal) (j : Fin 1024) : EReal :=
  s j * Ideal.rsqrt (Ideal.div (∑ k, s k * s k) (Ideal.ofBits .f32 0x44800000#32) + Ideal.ofBits .f32 0x358637BD#32) * g j
/-- All rows of an array, each normalised. -/
def normed (a : Vec Ideal S4096x1024 .f32) (g : Vec Ideal S1024 .f32) : Vec Ideal S4096x1024 .bf16 :=
  fun x => rmsn (fun k => a (ix2 (x 0) k)) (fun k => g (ix1 k)) (x 1)

variable (m : (ℓ : Loc nD τ sig) → Buf (Elt Ideal) ℓ) (c : Dev nD) (t : Fin cfg0.N)

/-- The two arguments as the launch finds them. -/
def A0 : Vec Ideal S4096x1024 .f32 := m ((c : Thread nD τ).loc main_arg0)
def A1 : Vec Ideal S1024 .f32 := m ((c : Thread nD τ).loc main_arg1)

theorem ix_0 : ∀ t : Fin grid0.N, win0_0.index t 0 = t.val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val ∧ win0_2.index t 1 = 0 := by decide +kernel

theorem lt : t.val < 8 := lt_of_lt_of_eq t.isLt (show cfg0.N = 8 from N_0)
/-- A block's row in the array. -/
def row (p : Fin 512) : Fin 4096 := ⟨t.val * 512 + p.val, by have := lt t; omega⟩

/-- A block of rows, read in the array. -/
theorem blk_0 (p : Fin 512) (q : Fin 1024) : iblk m c 0 t (ix2 p q) = A0 m c (ix2 (row t p) q) := by
  unfold iblk
  rw [View.read_apply]
  show V m c main_arg0 _ = _
  rw [V_main_arg0]
  refine congrArg (A0 m c) (funext fun a => Fin.ext ?_)
  match a with
  | ⟨0, _⟩ => show win0_0.index t 0 * 512 + 1 * p.val = t.val * 512 + p.val; rw [(ix_0 t).1]; omega
  | ⟨1, _⟩ => show win0_0.index t 1 * 1024 + 1 * q.val = q.val; rw [(ix_0 t).2]; omega
/-- The launch's row of gains is the argument laid out. -/
theorem V_1 : V m c main_v0 = (shapeCast S1x1024 (A1 m c) shapeCasts_S1024_S1x1024 : Vec Ideal S1x1024 .f32) := by
  unfold A1
  show StableHlo.after hostOps0 _ (Proc.devRef .tc main_v0) = _
  after_results
  rfl
theorem blk_1 (q : Fin 1024) : iblk m c 1 t (ix2 0 q) = A1 m c (ix1 q) := by
  unfold iblk
  rw [View.read_apply]
  show V m c main_v0 _ = _
  rw [V_1]
  refine (congrArg (shapeCast S1x1024 (A1 m c) shapeCasts_S1024_S1x1024 : Vec Ideal S1x1024 .f32) (?_ : _ = ix2 0 q)).trans ?_
  · funext a
    apply Fin.ext
    match a with
    | ⟨0, _⟩ => show win0_1.index t 0 * 1 + 1 * 0 = 0; rw [(ix_1 t).1]
    | ⟨1, _⟩ => show win0_1.index t 1 * 1024 + 1 * q.val = q.val; rw [(ix_1 t).2]; omega
  pointwise

/-- What the body makes of a block of rows and the gains. -/
theorem pay_at (x : Vec Ideal S512x1024 .f32) (g : Vec Ideal S1x1024 .f32) (p : Fin 512) (q : Fin 1024) :
    k0_pay1 (F := Ideal) x g (ix2 p q) = rmsn (fun k => x (ix2 p k)) (fun k => g (ix2 0 k)) q := by
  pointwise [k0_pay1, rmsn]
/-- A grid point's block of the result. -/
theorem val (p : Fin 512) (q : Fin 1024) :
    out0_2 (F := Ideal) (iblk m c 0 t) (iblk m c 1 t) (ix2 p q) = normed (A0 m c) (A1 m c) (ix2 (row t p) q) := by
  unfold out0_2
  rw [View.canon_unit_zero (S := S512x1024) hz, View.ld_unit_zero (S := S512x1024) hz, View.ld_unit_zero (S := S1x1024) hz, pay_at]
  exact congrArg₂ (fun s g => rmsn s g q) (funext fun k => blk_0 m c t p k) (funext fun k => blk_1 m c t k)
/-- The result after the run. -/
theorem arr : ((dats m 0 c).arrAt 2 cfg0.N : Vec Ideal S4096x1024 .bf16) = normed (A0 m c) (A1 m c) := by
  refine (dats m 0 c).arrAt_eq_of_cover 2 _ (fun t _ => ?_) fun (i : S4096x1024.Idx) => ?_
  · rw [flushed2]
    funext y
    have ex : (cfg0.win 2).xinj (grid0.coords t) y = (ix2 ⟨(y 0).val, (y 0).isLt⟩ ⟨(y 1).val, (y 1).isLt⟩ : S512x1024.Idx) := by
      funext a
      match a with
      | ⟨0, _⟩ => rfl
      | ⟨1, _⟩ => rfl
    refine (congrArg (out0_2 (F := Ideal) (iblk m c 0 t) (iblk m c 1 t)) ex).trans ((val m c t _ _).trans (congrArg (normed (A0 m c) (A1 m c)) ?_))
    funext a
    apply Fin.ext
    match a with
    | ⟨0, _⟩ => show t.val * 512 + (y 0).val = win0_2.index t 0 * 512 + 1 * (y 0).val; rw [(ix_2 t).1]; omega
    | ⟨1, _⟩ => show (y 1).val = win0_2.index t 1 * 1024 + 1 * (y 1).val; rw [(ix_2 t).2]; omega
  · have h0 : (i 0).val < 4096 := (i 0).isLt
    have h1 : (i 1).val < 1024 := (i 1).isLt
    obtain ⟨t, ht⟩ : ∃ t : Fin cfg0.N, t.val = (i 0).val / 512 := ⟨⟨(i 0).val / 512, lt_of_lt_of_eq (by omega) (show 8 = cfg0.N from N_0.symm)⟩, rfl⟩
    refine ⟨t, flush0_2 t, ?_⟩
    show i ∈ ((View.whole main_v1).slice (win0_2.rect t)).set
    rw [View.set_slice_whole, Rect.mem_set_unit]
    intro a
    match a with
    | ⟨0, _⟩ => show win0_2.index t 0 * 512 ≤ (i 0).val ∧ (i 0).val < win0_2.index t 0 * 512 + 512; rw [(ix_2 t).1]; omega
    | ⟨1, _⟩ => show win0_2.index t 1 * 1024 ≤ (i 1).val ∧ (i 1).val < win0_2.index t 1 * 1024 + 1024; rw [(ix_2 t).2]; omega

end Cert.Kernel27Ideal.Value

namespace Cert.Reference27Ideal.Value

open Cert.Reference27Ideal Cert.Reference27Ideal.Read Cert.Kernel27Ideal.Value Idealize.ShloMosaic

/-- The reference's result. -/
theorem ref (x0 : (⟨S4096x1024, .f32⟩ : BufTy).Contents (Elt Ideal)) (x1 : (⟨S1024, .f32⟩ : BufTy).Contents (Elt Ideal)) :
    val_main_v13 (F := Ideal) x0 x1 = normed x0 x1 := by
  funext x
  rw [eq_ix2 x]
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, normed, rmsn]

end Cert.Reference27Ideal.Value

namespace Cert.Proof

open Idealize.ShloMosaic Idealize.ShloMosaic.StableHlo Idealize.SL.Sem

/-- The frame of this reference: its run leaves the arguments, and it declares no counter. -/
theorem norm_mix_reference_frame : Cert.quiescent_Reference27Ideal (hReference27Ideal := Cert.Reference27Ideal.Gen.facts) := fun m ρ _ =>
  (θ_run Cert.Reference27Ideal.defs _ _).mono (fun r h => ⟨fun c => (h c).2, sem_eq_zero_of_no_sems (by decide) r.2⟩)
    (Cert.Reference27Ideal.Value.run (F := Ideal) m ρ)

/-- The call and its reference end with the same array over the extended reals. -/
theorem norm_mix_same : Cert.algebraic_Kernel27Ideal_Reference27Ideal (hKernel27Ideal := Cert.Kernel27Ideal.Gen.facts) (hReference27Ideal := Cert.Reference27Ideal.Gen.facts) := by
  intro m ρ m' ρ' _ hag
  refine ⟨fun c => (Cert.Kernel27Ideal.Gen.dats m 0 c).arrAt 2 Cert.Kernel27Ideal.cfg0.N, Cert.Kernel27Ideal.Value.run_blocks m ρ, ?_⟩
  refine (θ_run Cert.Reference27Ideal.defs _ _).mono ?_ (Cert.Reference27Ideal.Value.run (F := Ideal) m' ρ')
  intro r h c
  obtain ⟨e0, e1⟩ := hag c
  obtain ⟨h0, hk⟩ := h c
  refine ⟨h0.trans ?_, hk⟩
  rw [Cert.Reference27Ideal.Read.val_main_v13_eq]
  repeat rw [launchContents_devRef]
  rw [e0, e1, Cert.Reference27Ideal.Value.ref]
  exact (Cert.Kernel27Ideal.Value.arr m c).symm

end Cert.Proof

end
-- ==== Proof.Same28.lean ====
/- The gates and the merge of the three branches. Both programs end with the same array over the extended reals. -/
module

public import proofs.«01_k».proof.Defs
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import Idealize.ShloMosaic.Lib.IdealHost
public import Idealize.ShloMosaic.Lib.Pointwise
public import Idealize.ShloMosaic.Lib.Claim
public import Idealize.ShloMosaic.Lib.Pipeline.Value
public import Idealize.ShloMosaic.Adequacy

@[expose] public section

set_option maxRecDepth 16384

noncomputable section

namespace Cert.Kernel28Ideal.Value

open Cert.Kernel28Ideal Cert.Kernel28Ideal.Gen kernelRun0_A Idealize.ShloMosaic Idealize.ShloMosaic.TcCoe

theorem hz : (![0, 0] : Fin 2 → Nat) = fun _ => 0 := funext fun a => by fin_cases a <;> rfl

/-- A column of the gates' part of the projection: branch, then feature. -/
def gcol (k : Fin 3) (q : Fin 1024) : Fin 3072 := ⟨k.val * 1024 + q.val, by omega⟩
def pcol (j : Fin 3072) : Fin 10368 := ⟨6144 + j.val, by omega⟩
/-- A branch's entry times its gate. -/
def gated (s : Fin 3072 → EReal) (g : Fin 3 → EReal) (a : EReal) (k : Fin 3) (q : Fin 1024) : EReal := Ideal.logistic (s (gcol k q) + g k) * a
/-- The three branches' entries, each through its gate, added. -/
def mix (s : Fin 3072 → EReal) (g : Fin 3 → EReal) (a b c : EReal) (q : Fin 1024) : EReal := gated s g a 0 q + gated s g b 1 q + gated s g c 2 q
def merged (a b c : Vec Ideal S4096x1024 .f32) (s : Vec Ideal S4096x10368 .f32) (g : Vec Ideal S3x1024 .f32) : Vec Ideal S4096x1024 .bf16 :=
  fun x => mix (fun j => s (ix2 (x 0) (pcol j))) (fun k => g (ix2 k (x 1))) (a x) (b x) (c x) (x 1)

/-- Of three summands, the chosen one. -/
theorem sum_sel (k : Fin 3) (c : BitVec 32) (hc : c = BitVec.ofNat 32 k.val) (f : Fin 3 → EReal) :
    (∑ x : Fin 3, Scalar.select (IntOp.cmpi .eq (BitVec.ofNat 32 x.val) c) (f x) 0) = f k := by
  have h : ∀ x k : Fin 3, IntOp.cmpi .eq (BitVec.ofNat 32 x.val) (BitVec.ofNat 32 k.val) = if x = k then 1#1 else 0#1 := by decide +kernel
  subst hc
  rw [Finset.sum_eq_single k (fun x _ hx => by rw [h, if_neg hx]; rfl) (fun hk => absurd (Finset.mem_univ k) hk), h, if_pos rfl]
  rfl

variable (m : (ℓ : Loc nD τ sig) → Buf (Elt Ideal) ℓ) (c : Dev nD) (t : Fin cfg0.N)

/-- The arguments as the launch finds them. -/
def A0 : Vec Ideal S4096x1024 .f32 := m ((c : Thread nD τ).loc main_arg0)
def A1 : Vec Ideal S4096x1024 .f32 := m ((c : Thread nD τ).loc main_arg1)
def A2 : Vec Ideal S4096x1024 .f32 := m ((c : Thread nD τ).loc main_arg2)
def A3 : Vec Ideal S4096x10368 .f32 := m ((c : Thread nD τ).loc main_arg3)
def A4 : Vec Ideal S3x1024 .f32 := m ((c : Thread nD τ).loc main_arg4)

theorem ix_0 : ∀ t : Fin grid0.N, win0_0.index t = ![t.val, 0] ∧ win0_1.index t = ![t.val, 0] ∧ win0_2.index t = ![t.val, 0]
    ∧ win0_3.index t = ![t.val, 2] ∧ win0_4.index t = ![0, 0] ∧ win0_5.index t = ![t.val, 0] := by decide +kernel

theorem lt : t.val < 8 := lt_of_lt_of_eq t.isLt (show cfg0.N = 8 from N_0)
/-- A block's row in the array. -/
def row (p : Fin 512) : Fin 4096 := ⟨t.val * 512 + p.val, by have := lt t; omega⟩
/-- A block's place in a branch's array. -/
theorem place (p : Fin 512) (q : Fin 1024) (f : Fin 2 → Nat) (hf : f = ![t.val, 0]) (i : S4096x1024.Idx) (h0 : (i 0).val = f 0 * 512 + 1 * p.val) (h1 : (i 1).val = f 1 * 1024 + 1 * q.val) :
    i = ix2 (row t p) q := by
  subst hf
  change _ = t.val * 512 + 1 * p.val at h0
  change _ = 0 * 1024 + 1 * q.val at h1
  funext a
  apply Fin.ext
  match a with
  | ⟨0, _⟩ => show (i 0).val = t.val * 512 + p.val; omega
  | ⟨1, _⟩ => show (i 1).val = q.val; omega
theorem blk_0 (p : Fin 512) (q : Fin 1024) : iblk m c 0 t (ix2 p q) = A0 m c (ix2 (row t p) q) := by
  unfold iblk
  rw [View.read_apply]
  show V m c main_arg0 _ = _
  rw [V_main_arg0]
  exact congrArg (A0 m c) (place t p q _ (ix_0 t).1 _ rfl rfl)
theorem blk_1 (p : Fin 512) (q : Fin 1024) : iblk m c 1 t (ix2 p q) = A1 m c (ix2 (row t p) q) := by
  unfold iblk
  rw [View.read_apply]
  show V m c main_arg1 _ = _
  rw [V_main_arg1]
  exact congrArg (A1 m c) (place t p q _ (ix_0 t).2.1 _ rfl rfl)
theorem blk_2 (p : Fin 512) (q : Fin 1024) : iblk m c 2 t (ix2 p q) = A2 m c (ix2 (row t p) q) := by
  unfold iblk
  rw [View.read_apply]
  show V m c main_arg2 _ = _
  rw [V_main_arg2]
  exact congrArg (A2 m c) (place t p q _ (ix_0 t).2.2.1 _ rfl rfl)
theorem blk_3 (p : Fin 512) (j : Fin 3072) : (X0_3 m c t : Vec Ideal S512x3072 .f32) (ix2 p j) = A3 m c (ix2 (row t p) (pcol j)) := by
  unfold X0_3 Pipeline.Window.fill
  rw [dif_pos (moved0_3 t _)]
  unfold iblk
  rw [View.read_apply]
  show V m c main_arg3 _ = _
  rw [V_main_arg3]
  refine congrArg (A3 m c) (funext fun a => Fin.ext ?_)
  match a with
  | ⟨0, _⟩ => show win0_3.index t 0 * 512 + 1 * p.val = t.val * 512 + p.val; rw [(ix_0 t).2.2.2.1]; show t.val * 512 + 1 * p.val = _; omega
  | ⟨1, _⟩ => show win0_3.index t 1 * 3072 + 1 * j.val = 6144 + j.val; rw [(ix_0 t).2.2.2.1]; show 2 * 3072 + 1 * j.val = _; omega
theorem blk_4 (k : Fin 3) (q : Fin 1024) : iblk m c 4 t (ix2 k q) = A4 m c (ix2 k q) := by
  unfold iblk
  rw [View.read_apply]
  show V m c main_arg4 _ = _
  rw [V_main_arg4]
  refine congrArg (A4 m c) (funext fun a => Fin.ext ?_)
  match a with
  | ⟨0, _⟩ => show win0_4.index t 0 * 3 + 1 * k.val = k.val; rw [(ix_0 t).2.2.2.2.1]; show 0 * 3 + 1 * k.val = _; omega
  | ⟨1, _⟩ => show win0_4.index t 1 * 1024 + 1 * q.val = q.val; rw [(ix_0 t).2.2.2.2.1]; show 0 * 1024 + 1 * q.val = _; omega

/-- What the body makes of its blocks. -/
theorem pay_at (a b d : Vec Ideal S512x1024 .f32) (s : Vec Ideal S512x3072 .f32) (g : Vec Ideal S3x1024 .f32) (p : Fin 512) (q : Fin 1024) :
    k0_pay1 (F := Ideal) d (k0_pay2 a b s g) (k0_pay3 s g) (ix2 p q) = mix (fun j => s (ix2 p j)) (fun k => g (ix2 k q)) (a (ix2 p q)) (b (ix2 p q)) (d (ix2 p q)) q := by
  pointwise [k0_pay1, k0_pay2, k0_pay3, mix, gated, gcol, sum_sel 0 0#32 rfl, sum_sel 1 1#32 rfl, sum_sel 2 2#32 rfl]
/-- A grid point's block of the result. -/
theorem val (p : Fin 512) (q : Fin 1024) :
    outsAt0 m c t (ix2 p q) = merged (A0 m c) (A1 m c) (A2 m c) (A3 m c) (A4 m c) (ix2 (row t p) q) := by
  unfold outsAt0 out0_A_5
  rw [View.read_writes_eq_canon]
  on_goal 2 => intro y; apply cover0_A_5
  unfold kernelRun0_A
  dsimp only
  rw [View.canon_unit_zero (S := S512x1024) hz]
  simp only [sl.r, sl.r_1, sl.r_2, View.readAt_eq_ld, (hs0_0 t).read_unread, (hs0_1 t).read_unread, (hs0_2 t).read_unread, (hs0_3 t).read_unread, (hs0_4 t).read_unread, View.ld_unit_zero (S := S512x1024) hz, View.ld_unit_zero (S := S512x3072) hz, View.ld_unit_zero (S := S3x1024) hz]
  rw [pay_at, blk_0, blk_1, blk_2]
  exact congrArg₂ (fun s g => mix s g _ _ _ q) (funext fun j => blk_3 m c t p j) (funext fun k => blk_4 m c t k q)
/-- The result after the run. -/
theorem arr : ((dats m 0 c).arrAt 5 cfg0.N : Vec Ideal S4096x1024 .bf16) = merged (A0 m c) (A1 m c) (A2 m c) (A3 m c) (A4 m c) := by
  refine (dats m 0 c).arrAt_eq_of_cover 5 _ (fun t _ => ?_) fun (i : S4096x1024.Idx) => ?_
  · rw [flushed5]
    funext y
    have ex : (cfg0.win 5).xinj (grid0.coords t) y = (ix2 ⟨(y 0).val, (y 0).isLt⟩ ⟨(y 1).val, (y 1).isLt⟩ : S512x1024.Idx) := by
      funext a
      match a with
      | ⟨0, _⟩ => rfl
      | ⟨1, _⟩ => rfl
    refine (congrArg (outsAt0 m c t) ex).trans ((val m c t _ _).trans (congrArg (merged (A0 m c) (A1 m c) (A2 m c) (A3 m c) (A4 m c)) ?_))
    exact (place t _ _ _ (ix_0 t).2.2.2.2.2 (((cfg0.win 5).blk t).view.emb y) rfl rfl).symm
  · have h0 : (i 0).val < 4096 := (i 0).isLt
    have h1 : (i 1).val < 1024 := (i 1).isLt
    obtain ⟨t, ht⟩ : ∃ t : Fin cfg0.N, t.val = (i 0).val / 512 := ⟨⟨(i 0).val / 512, lt_of_lt_of_eq (by omega) (show 8 = cfg0.N from N_0.symm)⟩, rfl⟩
    refine ⟨t, flush0_5 t, ?_⟩
    show i ∈ ((View.whole main_v0).slice (win0_5.rect t)).set
    rw [View.set_slice_whole, Rect.mem_set_unit]
    intro a
    have e := (ix_0 t).2.2.2.2.2
    match a with
    | ⟨0, _⟩ => show win0_5.index t 0 * 512 ≤ (i 0).val ∧ (i 0).val < win0_5.index t 0 * 512 + 512; rw [e]; show t.val * 512 ≤ (i 0).val ∧ (i 0).val < t.val * 512 + 512; omega
    | ⟨1, _⟩ => show win0_5.index t 1 * 1024 ≤ (i 1).val ∧ (i 1).val < win0_5.index t 1 * 1024 + 1024; rw [e]; show 0 * 1024 ≤ (i 1).val ∧ (i 1).val < 0 * 1024 + 1024; omega

end Cert.Kernel28Ideal.Value

namespace Cert.Reference28Ideal.Value

open Cert.Reference28Ideal Cert.Reference28Ideal.Read Cert.Kernel28Ideal.Value Idealize.ShloMosaic

/-- The reference's result. -/
theorem ref (x0 x1 x2 : (⟨S4096x1024, .f32⟩ : BufTy).Contents (Elt Ideal)) (x3 : (⟨S4096x10368, .f32⟩ : BufTy).Contents (Elt Ideal)) (x4 : (⟨S3x1024, .f32⟩ : BufTy).Contents (Elt Ideal)) :
    val_main_v22 (F := Ideal) x0 x1 x2 x3 x4 = merged x0 x1 x2 x3 x4 := by
  funext x
  rw [eq_ix2 x]
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_v15, val_main_v16, val_main_v17, val_main_v18, val_main_v19, val_main_v20, val_main_v21, val_main_v22, merged, mix, gated, gcol, pcol, Ideal.logistic, Ideal.ofBits_one_f32]

end Cert.Reference28Ideal.Value

namespace Cert.Proof

open Idealize.ShloMosaic Idealize.ShloMosaic.StableHlo Idealize.SL.Sem

/-- The frame of this reference: its run leaves the arguments, and it declares no counter. -/
theorem merge_reference_frame : Cert.quiescent_Reference28Ideal (hReference28Ideal := Cert.Reference28Ideal.Gen.facts) := fun m ρ _ =>
  (θ_run Cert.Reference28Ideal.defs _ _).mono (fun r h => ⟨fun c => (h c).2, sem_eq_zero_of_no_sems (by decide) r.2⟩)
    (Cert.Reference28Ideal.Value.run (F := Ideal) m ρ)

/-- The call and its reference end with the same array over the extended reals. -/
theorem merge_same : Cert.algebraic_Kernel28Ideal_Reference28Ideal (hKernel28Ideal := Cert.Kernel28Ideal.Gen.facts) (hReference28Ideal := Cert.Reference28Ideal.Gen.facts) := by
  intro m ρ m' ρ' _ hag
  refine ⟨fun c => (Cert.Kernel28Ideal.Gen.dats m 0 c).arrAt 5 Cert.Kernel28Ideal.cfg0.N, Cert.Kernel28Ideal.Value.run_blocks m ρ, ?_⟩
  refine (θ_run Cert.Reference28Ideal.defs _ _).mono ?_ (Cert.Reference28Ideal.Value.run (F := Ideal) m' ρ')
  intro r h c
  obtain ⟨e0, e1, e2, e3, e4⟩ := hag c
  obtain ⟨h0, hk⟩ := h c
  refine ⟨h0.trans ?_, hk⟩
  rw [Cert.Reference28Ideal.Read.val_main_v22_eq]
  repeat rw [launchContents_devRef]
  rw [e0, e1, e2, e3, e4, Cert.Reference28Ideal.Value.ref]
  exact (Cert.Kernel28Ideal.Value.arr m c).symm

end Cert.Proof

end
-- ==== Proof.Same29.lean ====
/- The gated mixer's forward call. Both programs end with the same array over the extended reals: at each chunk of 128 tokens,
   the gate times the causal mixture of the normalised half. -/
module

public import proofs.«01_k».proof.Defs
public import proofs.«01_k».proof.Proof.Inputs
public import proofs.«01_k».proof.Proof.BodyCat
public import proofs.«01_k».proof.Proof.RefMix
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import Idealize.ShloMosaic.Lib.IdealHost
public import Idealize.ShloMosaic.Lib.Pointwise
public import Idealize.ShloMosaic.Lib.Claim
public import Idealize.ShloMosaic.Lib.Pipeline.Value
public import Idealize.ShloMosaic.Adequacy

@[expose] public section

set_option maxRecDepth 16384

noncomputable section

namespace Cert.Kernel29Ideal.Value

open Cert.KernelIdeal.Value (cur sel_ge sum_sel)
open Cert.Kernel29Ideal Cert.Kernel29Ideal.Gen kernelRun0_A Cert.Gmlp Idealize.ShloMosaic Idealize.ShloMosaic.TcCoe

/-! ## One block -/

section

/-- The mixing matrices stacked by rows, as a function of the group. -/
abbrev wf (x : Vec Ideal S1024x128 .f32) : Fin 8 → Fin 128 → Fin 128 → EReal := fun k t s => x (ix2 (col k t) s)
/-- The mixing offsets, tokens by groups, as a function of the group. -/
abbrev bf (x : Vec Ideal S128x8 .f32) : Fin 8 → Fin 128 → EReal := fun k t => x (ix2 t k)

variable (x0 : Vec Ideal S128x2048 .f32) (x1 x2 : Vec Ideal S1x1024 .f32) (x3 : Vec Ideal S1024x128 .f32)
  (x4 : Vec Ideal S128x8 .f32) (t s e : Fin 128) (d : Fin 1024) (k : Fin 8)

theorem pay5_at (j : Fin 2048) : k0_pay5 (F := Ideal) x0 (ix2 t j) = gel (x0 (ix2 t j)) := by
  pointwise [k0_pay5, gel, ghf, gth, cst]
theorem pay6_at : k0_pay6 (F := Ideal) x0 (ix2 t d) = gu (cur x0) t d := by
  pointwise [k0_pay6, gu, pay5_at, lo]
theorem pay7_at : k0_pay7 (F := Ideal) x0 (ix2 t d) = nrm (gv (cur x0) t) d := by
  pointwise [k0_pay7, pay5_at, nrm, cen, rsd, vare, mean, gv, hi, cst]
theorem pay8_at : k0_pay8 (F := Ideal) x1 x2 (k0_pay7 x0) (ix2 t d) = vn (cur x0) (cur x1 0) (cur x2 0) t d := by
  pointwise [k0_pay8, pay7_at, vn, aff]

/-- What the body does for one group: the causal product of the group's matrix and columns, and the group's offset. -/
def grpv (w v : FVec Ideal S128x128 .f32) (n : BitVec 32) : FVec Ideal S128x128 .f32 :=
  addf (matmul dot_S128x128_S128x128_S128x128_1_0_0_1_n_n none
      (truncf .bf16 (select k0_pay9 w (broadcast S128x128 (Scalar.ofBits .f32 0x00000000#32))) bitsLt_bf16_f32) (truncf .bf16 v bitsLt_bf16_f32)
      (constant S128x128 .f32 0x00000000#32))
    (broadcastTo S128x128 (shapeCast S128x1 (multiReduction .add [1] S128
      (select (cmpi .eq (iota .tc S128x8 32 [1] iota_S128x8_d1_w32) (broadcast S128x8 n)) x4 (broadcast S128x8 (Scalar.ofBits .f32 0x00000000#32)))
      0x00000000#32 reduces_S128x8_S128 (.inl rfl) rfl) shapeCasts_S128_S128x1) broadcasts_S128x1_S128x128)
/-- A group's mixture. -/
theorem grpv_at (w v : FVec Ideal S128x128 .f32) (n : BitVec 32) (hn : n = BitVec.ofNat 32 k.val) (hw : ∀ t s, w (ix2 t s) = wf x3 k t s)
    (hv : ∀ s e, v (ix2 s e) = vn (cur x0) (cur x1 0) (cur x2 0) s (col k e)) :
    grpv x4 w v n (ix2 t e) = mix (cur x0) (cur x1 0) (cur x2 0) (wf x3) (bf x4) k t e := by
  pointwise [grpv, k0_pay9, hw, hv, sel_ge, mix, wm]
  exact congrArg₂ (· + ·) rfl (sum_sel k n hn _)

/-- Eight groups side by side, read at a column. -/
theorem cat (p0 p1 p2 p3 p4 p5 p6 p7 : FVec Ideal S128x128 .f32) :
    concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S128x1024_d1 (ix2 t (col k e))
      = (![p0, p1, p2, p3, p4, p5, p6, p7] k : FVec Ideal S128x128 .f32) (ix2 t e) := by
  match k with
  | 0 => exact Cert.KernelIdeal.Value.catc0 p0 p1 p2 p3 p4 p5 p6 p7 t e
  | 1 => exact Cert.KernelIdeal.Value.catc1 p0 p1 p2 p3 p4 p5 p6 p7 t e
  | 2 => exact Cert.KernelIdeal.Value.catc2 p0 p1 p2 p3 p4 p5 p6 p7 t e
  | 3 => exact Cert.KernelIdeal.Value.catc3 p0 p1 p2 p3 p4 p5 p6 p7 t e
  | 4 => exact Cert.KernelIdeal.Value.catc4 p0 p1 p2 p3 p4 p5 p6 p7 t e
  | 5 => exact Cert.KernelIdeal.Value.catc5 p0 p1 p2 p3 p4 p5 p6 p7 t e
  | 6 => exact Cert.KernelIdeal.Value.catc6 p0 p1 p2 p3 p4 p5 p6 p7 t e
  | 7 => exact Cert.KernelIdeal.Value.catc7 p0 p1 p2 p3 p4 p5 p6 p7 t e

/-- What the body makes of its blocks. -/
def body : Vec Ideal S128x1024 .bf16 :=
  k0_pay30 (F := Ideal) x4 (k0_pay6 x0) k0_pay9 (k0_pay13 x3) (k0_pay14 x3) (k0_pay15 x3) (k0_pay19 x1 x2 (k0_pay7 x0)) (k0_pay20 x1 x2 (k0_pay7 x0)) (k0_pay21 x1 x2 (k0_pay7 x0))
    (k0_pay22 x1 x2 x3 x4 (k0_pay7 x0)) (k0_pay25 (k0_pay23 x1 x2 x3 (k0_pay7 x0)) (k0_pay24 x4)) (k0_pay26 x4 k0_pay9 (k0_pay10 x3) (k0_pay16 x1 x2 (k0_pay7 x0)))
    (k0_pay27 x4 k0_pay9 (k0_pay11 x3) (k0_pay17 x1 x2 (k0_pay7 x0))) (k0_pay28 x4 k0_pay9 (k0_pay12 x3) (k0_pay18 x1 x2 (k0_pay7 x0))) k0_pay29
/-- The block, group by group. -/
theorem groups : body x0 x1 x2 x3 x4 = truncf .bf16 (mulf (k0_pay6 x0) (concatenate S128x1024 1 [⟨S128x128, grpv x4 (extractStridedSlice S128x128 ![0, 0] x3 slices_S1024x128_o0_0_S128x128) (extractStridedSlice S128x128 ![0, 0] (k0_pay8 x1 x2 (k0_pay7 x0)) slices_S128x1024_o0_0_S128x128) 0#32⟩,
    ⟨S128x128, grpv x4 (extractStridedSlice S128x128 ![128, 0] x3 slices_S1024x128_o128_0_S128x128) (extractStridedSlice S128x128 ![0, 128] (k0_pay8 x1 x2 (k0_pay7 x0)) slices_S128x1024_o0_128_S128x128) 1#32⟩,
    ⟨S128x128, grpv x4 (k0_pay10 x3) (k0_pay16 x1 x2 (k0_pay7 x0)) 2#32⟩,
    ⟨S128x128, grpv x4 (k0_pay11 x3) (k0_pay17 x1 x2 (k0_pay7 x0)) 3#32⟩,
    ⟨S128x128, grpv x4 (k0_pay12 x3) (k0_pay18 x1 x2 (k0_pay7 x0)) 4#32⟩,
    ⟨S128x128, grpv x4 (k0_pay13 x3) (k0_pay19 x1 x2 (k0_pay7 x0)) 5#32⟩,
    ⟨S128x128, grpv x4 (k0_pay14 x3) (k0_pay20 x1 x2 (k0_pay7 x0)) 6#32⟩,
    ⟨S128x128, grpv x4 (k0_pay15 x3) (k0_pay21 x1 x2 (k0_pay7 x0)) 7#32⟩]
    concatenates_S128x128_S128x128_S128x128_S128x128_S128x128_S128x128_S128x128_S128x128_S128x1024_d1)) bitsLt_bf16_f32 := rfl
/-- A group's columns of the block. -/
theorem cols (o : Fin 2 → ℕ) (ho : o = ![0, k.val * 128]) (h : S128x1024.Slices o S128x128) :
    extractStridedSlice S128x128 o (k0_pay8 (F := Ideal) x1 x2 (k0_pay7 x0)) h (ix2 s e) = vn (cur x0) (cur x1 0) (cur x2 0) s (col k e) := by
  subst ho
  rw [← pay8_at]
  pointwise [col]
/-- A group's rows of the weights. -/
theorem rows (o : Fin 2 → ℕ) (ho : o = ![k.val * 128, 0]) (h : S1024x128.Slices o S128x128) : extractStridedSlice S128x128 o x3 h (ix2 t s) = wf x3 k t s := by
  subst ho
  pointwise [wf, col]
theorem body_at : body x0 x1 x2 x3 x4 (ix2 t d) = gu (cur x0) t d * mix (cur x0) (cur x1 0) (cur x2 0) (wf x3) (bf x4) (grp d) t (lane d) := by
  obtain ⟨k, e, rfl⟩ := exists_col d
  rw [grp_col, lane_col]
  rw [groups]
  refine congrArg₂ (· * ·) (pay6_at x0 t (col k e)) ((cat ..).trans ?_)
  match k with
  | 0 => exact grpv_at x0 x1 x2 x3 x4 t e 0 _ _ _ rfl (fun t s => rows x3 t s 0 _ (by rfl) slices_S1024x128_o0_0_S128x128) (fun s e => cols x0 x1 x2 s e 0 _ (by rfl) slices_S128x1024_o0_0_S128x128)
  | 1 => exact grpv_at x0 x1 x2 x3 x4 t e 1 _ _ _ rfl (fun t s => rows x3 t s 1 _ (by rfl) slices_S1024x128_o128_0_S128x128) (fun s e => cols x0 x1 x2 s e 1 _ (by rfl) slices_S128x1024_o0_128_S128x128)
  | 2 => exact grpv_at x0 x1 x2 x3 x4 t e 2 _ _ _ rfl (fun t s => rows x3 t s 2 _ (by rfl) slices_S1024x128_o256_0_S128x128) (fun s e => cols x0 x1 x2 s e 2 _ (by rfl) slices_S128x1024_o0_256_S128x128)
  | 3 => exact grpv_at x0 x1 x2 x3 x4 t e 3 _ _ _ rfl (fun t s => rows x3 t s 3 _ (by rfl) slices_S1024x128_o384_0_S128x128) (fun s e => cols x0 x1 x2 s e 3 _ (by rfl) slices_S128x1024_o0_384_S128x128)
  | 4 => exact grpv_at x0 x1 x2 x3 x4 t e 4 _ _ _ rfl (fun t s => rows x3 t s 4 _ (by rfl) slices_S1024x128_o512_0_S128x128) (fun s e => cols x0 x1 x2 s e 4 _ (by rfl) slices_S128x1024_o0_512_S128x128)
  | 5 => exact grpv_at x0 x1 x2 x3 x4 t e 5 _ _ _ rfl (fun t s => rows x3 t s 5 _ (by rfl) slices_S1024x128_o640_0_S128x128) (fun s e => cols x0 x1 x2 s e 5 _ (by rfl) slices_S128x1024_o0_640_S128x128)
  | 6 => exact grpv_at x0 x1 x2 x3 x4 t e 6 _ _ _ rfl (fun t s => rows x3 t s 6 _ (by rfl) slices_S1024x128_o768_0_S128x128) (fun s e => cols x0 x1 x2 s e 6 _ (by rfl) slices_S128x1024_o0_768_S128x128)
  | 7 => exact grpv_at x0 x1 x2 x3 x4 t e 7 _ _ _ rfl (fun t s => rows x3 t s 7 _ (by rfl) slices_S1024x128_o896_0_S128x128) (fun s e => cols x0 x1 x2 s e 7 _ (by rfl) slices_S128x1024_o0_896_S128x128)

end

/-! ## The array -/

/-- A chunk's token and column of the result. -/
def mixed (a0 : Vec Ideal S4096x10368 .f32) (a1 a2 : Vec Ideal S1024 .f32) (a3 : Vec Ideal S8x128x128 .f32) (a4 : Vec Ideal S8x128 .f32) (p : Fin 32) (t : Fin 128) (d : Fin 1024) : EReal :=
  gu (zin a0 p) t d * mix (zin a0 p) (vin a1) (vin a2) (win a3) (bin a4) (grp d) t (lane d)
/-- The result. -/
def whole (a0 : Vec Ideal S4096x10368 .f32) (a1 a2 : Vec Ideal S1024 .f32) (a3 : Vec Ideal S8x128x128 .f32) (a4 : Vec Ideal S8x128 .f32) : Vec Ideal S4096x1024 .bf16 :=
  fun x => mixed a0 a1 a2 a3 a4 ⟨(x 0).val / 128, Nat.div_lt_of_lt_mul (x 0).isLt⟩ ⟨(x 0).val % 128, Nat.mod_lt _ (by decide)⟩ (x 1)
theorem whole_at (a0 : Vec Ideal S4096x10368 .f32) (a1 a2 : Vec Ideal S1024 .f32) (a3 : Vec Ideal S8x128x128 .f32) (a4 : Vec Ideal S8x128 .f32) (p : Fin 32) (t : Fin 128) (d : Fin 1024) :
    whole a0 a1 a2 a3 a4 (ix2 (tok p t) d) = mixed a0 a1 a2 a3 a4 p t d :=
  congrArg₂ (fun p t => mixed a0 a1 a2 a3 a4 p t d) (Fin.ext (by show (128 * p.val + t.val) / 128 = p.val; omega)) (Fin.ext (by show (128 * p.val + t.val) % 128 = t.val; omega))

variable (m : (ℓ : Loc nD τ sig) → Buf (Elt Ideal) ℓ) (c : Dev nD) (t : Fin cfg0.N)

/-- The arguments as the launch finds them. -/
def A0 : Vec Ideal S4096x10368 .f32 := m ((c : Thread nD τ).loc main_arg0)
def A1 : Vec Ideal S1024 .f32 := m ((c : Thread nD τ).loc main_arg1)
def A2 : Vec Ideal S1024 .f32 := m ((c : Thread nD τ).loc main_arg2)
def A3 : Vec Ideal S8x128x128 .f32 := m ((c : Thread nD τ).loc main_arg3)
def A4 : Vec Ideal S8x128 .f32 := m ((c : Thread nD τ).loc main_arg4)

theorem ix_0 : ∀ t : Fin grid0.N, win0_0.index t = ![t.val, 0] ∧ win0_5.index t = ![t.val, 0] := by decide +kernel
/-- The chunk a grid point works on. -/
def chk : Fin 32 := ⟨t.val, lt_of_lt_of_eq t.isLt (show cfg0.N = 32 from N_0)⟩

theorem blk0 : cur (X0_0 m c t) = zin (A0 m c) (chk t) := by
  funext i j
  show X0_0 m c t (ix2 i j) = _
  unfold X0_0 Pipeline.Window.fill
  rw [dif_pos (moved0_0 t (ix2 i j))]
  unfold iblk
  rw [View.read_apply]
  show V m c main_arg0 _ = _
  rw [V_main_arg0]
  refine congrArg (A0 m c) (funext fun a => Fin.ext ?_)
  match a with
  | ⟨0, _⟩ => show win0_0.index t 0 * 128 + 1 * i.val = 128 * t.val + i.val; rw [(ix_0 t).1]; show t.val * 128 + 1 * i.val = _; omega
  | ⟨1, _⟩ => show win0_0.index t 1 * 2048 + 1 * j.val = j.val; rw [(ix_0 t).1]; show 0 * 2048 + 1 * j.val = _; omega
theorem V0 : V m c main_v0 = (shapeCast S1x1024 (A1 m c) shapeCasts_S1024_S1x1024 : Vec Ideal S1x1024 .f32) := by
  show StableHlo.after hostOps0 _ (Proc.devRef .tc main_v0) = _
  after_results
  rfl
theorem V1 : V m c main_v1 = (shapeCast S1x1024 (A2 m c) shapeCasts_S1024_S1x1024 : Vec Ideal S1x1024 .f32) := by
  show StableHlo.after hostOps0 _ (Proc.devRef .tc main_v1) = _
  after_results
  rfl
theorem V2 : V m c main_v2 = (shapeCast S1024x128 (A3 m c) shapeCasts_S8x128x128_S1024x128 : Vec Ideal S1024x128 .f32) := by
  show StableHlo.after hostOps0 _ (Proc.devRef .tc main_v2) = _
  after_results
  rfl
theorem V3 : V m c main_v3 = (transpose S128x8 [1, 0] (A4 m c) transposes_S8x128_S128x8_1_0 : Vec Ideal S128x8 .f32) := by
  show StableHlo.after hostOps0 _ (Proc.devRef .tc main_v3) = _
  after_results
  rfl
theorem blk1 : cur (iblk m c 1 t : Vec Ideal S1x1024 .f32) 0 = vin (A1 m c) := by
  have hz' : (fun a => win0_1.index t a * main_v0.ty.shape.size a) = fun _ => 0 := funext fun a => by fin_cases a <;> rfl
  have h : (iblk m c 1 t : Vec Ideal S1x1024 .f32) = V m c main_v0 := Memref.read_access_unit_zero (Elt Ideal) main_v0 hz' (fun a => by rw [congrFun hz' a]; simp) (V m c main_v0)
  rw [h, V0]
  funext d
  show (shapeCast S1x1024 (A1 m c) shapeCasts_S1024_S1x1024 : Vec Ideal S1x1024 .f32) (ix2 0 d) = A1 m c (ix1 d)
  pointwise
theorem blk2 : cur (iblk m c 2 t : Vec Ideal S1x1024 .f32) 0 = vin (A2 m c) := by
  have hz' : (fun a => win0_2.index t a * main_v1.ty.shape.size a) = fun _ => 0 := funext fun a => by fin_cases a <;> rfl
  have h : (iblk m c 2 t : Vec Ideal S1x1024 .f32) = V m c main_v1 := Memref.read_access_unit_zero (Elt Ideal) main_v1 hz' (fun a => by rw [congrFun hz' a]; simp) (V m c main_v1)
  rw [h, V1]
  funext d
  show (shapeCast S1x1024 (A2 m c) shapeCasts_S1024_S1x1024 : Vec Ideal S1x1024 .f32) (ix2 0 d) = A2 m c (ix1 d)
  pointwise
theorem blk3 : wf (iblk m c 3 t : Vec Ideal S1024x128 .f32) = win (A3 m c) := by
  have hz' : (fun a => win0_3.index t a * main_v2.ty.shape.size a) = fun _ => 0 := funext fun a => by fin_cases a <;> rfl
  have h : (iblk m c 3 t : Vec Ideal S1024x128 .f32) = V m c main_v2 := Memref.read_access_unit_zero (Elt Ideal) main_v2 hz' (fun a => by rw [congrFun hz' a]; simp) (V m c main_v2)
  rw [h, V2]
  funext k t s
  show (shapeCast S1024x128 (A3 m c) shapeCasts_S8x128x128_S1024x128 : Vec Ideal S1024x128 .f32) (ix2 (col k t) s) = A3 m c (ix3 k t s)
  refine shapeCast_apply _ _ _ _ (by rw [Shape.rowMajor_val_three, Shape.rowMajor_val_two]; dsimp [col]; try omega)
theorem blk4 : bf (iblk m c 4 t : Vec Ideal S128x8 .f32) = bin (A4 m c) := by
  have hz' : (fun a => win0_4.index t a * main_v3.ty.shape.size a) = fun _ => 0 := funext fun a => by fin_cases a <;> rfl
  have h : (iblk m c 4 t : Vec Ideal S128x8 .f32) = V m c main_v3 := Memref.read_access_unit_zero (Elt Ideal) main_v3 hz' (fun a => by rw [congrFun hz' a]; simp) (V m c main_v3)
  rw [h, V3]
  funext k t
  show (transpose S128x8 [1, 0] (A4 m c) transposes_S8x128_S128x8_1_0 : Vec Ideal S128x8 .f32) (ix2 t k) = A4 m c (ix2 k t)
  pointwise

theorem hz : (![0, 0] : Fin 2 → Nat) = fun _ => 0 := funext fun a => by fin_cases a <;> rfl
/-- A grid point's block of the result. -/
theorem out : outsAt0 m c t = body (X0_0 m c t) (iblk m c 1 t) (iblk m c 2 t) (iblk m c 3 t) (iblk m c 4 t) := by
  unfold outsAt0 out0_A_5
  rw [View.read_writes_eq_canon]
  on_goal 2 => intro y; apply cover0_A_5
  unfold kernelRun0_A
  dsimp only
  rw [View.canon_unit_zero hz]
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, View.readAt_eq_ld, (hs0_0 t).read_unread, (hs0_1 t).read_unread, (hs0_2 t).read_unread, (hs0_3 t).read_unread, (hs0_4 t).read_unread, View.ld_unit_zero (S := S128x2048) hz, View.ld_unit_zero (S := S1x1024) hz, View.ld_unit_zero (S := S1024x128) hz, View.ld_unit_zero (S := S128x8) hz, k0_pay1, k0_pay2, k0_pay3, k0_pay4, shapeCast_self]
  rfl
theorem val (i : Fin 128) (d : Fin 1024) : outsAt0 m c t (ix2 i d) = whole (A0 m c) (A1 m c) (A2 m c) (A3 m c) (A4 m c) (ix2 (tok (chk t) i) d) := by
  rw [out, body_at, blk0, blk1, blk2, blk3, blk4, whole_at, mixed]
/-- The result after the run. -/
theorem arr : ((dats m 0 c).arrAt 5 cfg0.N : Vec Ideal S4096x1024 .bf16) = whole (A0 m c) (A1 m c) (A2 m c) (A3 m c) (A4 m c) := by
  refine (dats m 0 c).arrAt_eq_of_cover 5 _ (fun t _ => ?_) fun (i : S4096x1024.Idx) => ?_
  · rw [flushed5]
    funext y
    have ex : (cfg0.win 5).xinj (grid0.coords t) y = (ix2 ⟨(y 0).val, (y 0).isLt⟩ ⟨(y 1).val, (y 1).isLt⟩ : S128x1024.Idx) := by
      funext a
      match a with
      | ⟨0, _⟩ => rfl
      | ⟨1, _⟩ => rfl
    refine (congrArg (outsAt0 m c t) ex).trans ((val m c t _ _).trans (congrArg (whole (A0 m c) (A1 m c) (A2 m c) (A3 m c) (A4 m c)) (funext fun a => Fin.ext ?_)))
    match a with
    | ⟨0, _⟩ => show 128 * t.val + (y 0).val = win0_5.index t 0 * 128 + 1 * (y 0).val; rw [(ix_0 t).2]; show _ = t.val * 128 + 1 * (y 0).val; omega
    | ⟨1, _⟩ => show (y 1).val = win0_5.index t 1 * 1024 + 1 * (y 1).val; rw [(ix_0 t).2]; show _ = 0 * 1024 + 1 * (y 1).val; omega
  · have h0 : (i 0).val < 4096 := (i 0).isLt
    have h1 : (i 1).val < 1024 := (i 1).isLt
    obtain ⟨t, ht⟩ : ∃ t : Fin cfg0.N, t.val = (i 0).val / 128 := ⟨⟨(i 0).val / 128, lt_of_lt_of_eq (by omega) (show 32 = cfg0.N from N_0.symm)⟩, rfl⟩
    refine ⟨t, flush0_5 t, ?_⟩
    show i ∈ ((View.whole main_v4).slice (win0_5.rect t)).set
    rw [View.set_slice_whole, Rect.mem_set_unit]
    intro a
    have e := (ix_0 t).2
    match a with
    | ⟨0, _⟩ => show win0_5.index t 0 * 128 ≤ (i 0).val ∧ (i 0).val < win0_5.index t 0 * 128 + 128; rw [e]; show t.val * 128 ≤ (i 0).val ∧ (i 0).val < t.val * 128 + 128; omega
    | ⟨1, _⟩ => show win0_5.index t 1 * 1024 ≤ (i 1).val ∧ (i 1).val < win0_5.index t 1 * 1024 + 1024; rw [e]; show 0 * 1024 ≤ (i 1).val ∧ (i 1).val < 0 * 1024 + 1024; omega

end Cert.Kernel29Ideal.Value

namespace Cert.Reference29Ideal.Value

open Cert.Reference29Ideal Cert.Reference29Ideal.Read Cert.Kernel29Ideal.Value Cert.Gmlp Idealize.ShloMosaic

variable (x0 : Vec Ideal S4096x10368 .f32) (x1 x2 : Vec Ideal S1024 .f32) (x3 : Vec Ideal S8x128x128 .f32) (x4 : Vec Ideal S8x128 .f32)
  (p : Fin 32) (t s e : Fin 128) (k : Fin 8) (d : Fin 1024)

theorem r14 (j : Fin 2048) : val_main_v14 (F := Ideal) x0 (ix3 0 (tok p t) j) = gel (zin x0 p t j) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, val_main_cst_2, gel, ghf, gth, zin, cst]
  try rw [mul_comm (x0 _ * x0 _)]
theorem r15 : val_main_v15 (F := Ideal) x0 (ix3 0 (tok p t) d) = gu (zin x0 p) t d := by
  pointwise [val_main_v15]
  exact r14 x0 p t (lo d)
theorem r16 : val_main_v16 (F := Ideal) x0 (ix3 0 (tok p t) d) = gv (zin x0 p) t d := by
  pointwise [val_main_v16]
  exact r14 x0 p t (hi d)
theorem r32 : val_main_v32 (F := Ideal) x0 (ix3 0 (tok p t) d) = nrm (gv (zin x0 p) t) d := by
  pointwise [val_main_v17, val_main_v18, val_main_v19, val_main_v20, val_main_v21, val_main_v22, val_main_v23, val_main_v24, val_main_v25, val_main_v26, val_main_v27, val_main_v28, val_main_v29, val_main_v30, val_main_v31, val_main_v32, val_main_cst_3, val_main_cst_4, val_main_cst_5, val_main_cst_6, val_main_cst_7, r16, nrm, cen, rsd, vare, mean, cst]
theorem r38 : val_main_v38 (F := Ideal) x0 x1 x2 (ix3 0 (tok p t) d) = vn (zin x0 p) (vin x1) (vin x2) t d := by
  pointwise [val_main_v33, val_main_v34, val_main_v35, val_main_v36, val_main_v37, val_main_v38, r32, vn, aff, vin]
theorem r39 : val_main_v39 (F := Ideal) x0 x1 x2 (ix5 0 p s k e) = vn (zin x0 p) (vin x1) (vin x2) s (col k e) := by
  unfold val_main_v39
  refine (shapeCast_apply _ _ _ (ix3 0 (tok p s) (col k e)) ?_).trans (r38 ..)
  rw [Shape.rowMajor_val_three, Shape.rowMajor_val_five]
  dsimp [tok, col]
  omega
theorem r42 : val_main_v42 (F := Ideal) x3 (ix3 k t s) = wm (win x3) k t s := by
  have h0 : (FloatOps.sitofp FTy.f32 0#32 : Ideal FTy.f32) = 0 := by show (((0#32 : BitVec 32).toInt : ℝ) : EReal) = 0; simp
  pointwise [val_main_v40, val_main_v41, val_main_v42, val_main_c, val_main_c_8, val_main_call0_v0, val_main_call0_v1, val_main_call0_v2, val_main_call0_v3, val_main_call0_v4, val_main_call0_v5, val_main_call0_c, val_main_call0_c_0, val_main_call1_v0, val_main_call1_v1, val_main_call1_v2]
  rw [Cert.ReferenceIdeal.Value.cmp_low, h0]
  unfold wm win
  by_cases h : s.val ≤ t.val <;> simp [h, Scalar.select]
theorem r50 : val_main_v50 (F := Ideal) x0 x1 x2 x3 x4 (ix3 0 (tok p t) (col k e)) = mix (zin x0 p) (vin x1) (vin x2) (win x3) (bin x4) k t e := by
  unfold val_main_v50
  refine (shapeCast_apply _ _ _ (ix5 0 p t k e) ?_).trans ?_
  · rw [Shape.rowMajor_val_three, Shape.rowMajor_val_five]
    dsimp [tok, col]
    omega
  · pointwise [val_main_v43, val_main_v44, val_main_v45, val_main_v46, val_main_v47, val_main_v48, val_main_v49, r39, r42, mix, bin]
    exact congrArg₂ (· + ·) (Finset.sum_congr rfl fun s _ => mul_comm _ _) rfl
/-- The reference's result. -/
theorem ref : val_main_v53 (F := Ideal) x0 x1 x2 x3 x4 = whole x0 x1 x2 x3 x4 := by
  funext x
  rw [eq_ix2 x]
  obtain ⟨p, t, hp⟩ := exists_tok (x 0)
  obtain ⟨k, e, hk⟩ := exists_col (x 1)
  rw [hp, hk, whole_at, mixed, grp_col, lane_col]
  pointwise [val_main_v51, val_main_v52, val_main_v53, r15, r50]

end Cert.Reference29Ideal.Value

namespace Cert.Proof

open Idealize.ShloMosaic Idealize.ShloMosaic.StableHlo Idealize.SL.Sem

/-- The frame of this reference: its run leaves the arguments, and it declares no counter. -/
theorem gmlp_forward_reference_frame : Cert.quiescent_Reference29Ideal (hReference29Ideal := Cert.Reference29Ideal.Gen.facts) := fun m ρ _ =>
  (θ_run Cert.Reference29Ideal.defs _ _).mono (fun r h => ⟨fun c => (h c).2, sem_eq_zero_of_no_sems (by decide) r.2⟩)
    (Cert.Reference29Ideal.Value.run (F := Ideal) m ρ)

/-- The call and its reference end with the same array over the extended reals. -/
theorem gmlp_forward_same : Cert.algebraic_Kernel29Ideal_Reference29Ideal (hKernel29Ideal := Cert.Kernel29Ideal.Gen.facts) (hReference29Ideal := Cert.Reference29Ideal.Gen.facts) := by
  intro m ρ m' ρ' _ hag
  refine ⟨fun c => (Cert.Kernel29Ideal.Gen.dats m 0 c).arrAt 5 Cert.Kernel29Ideal.cfg0.N, Cert.Kernel29Ideal.Value.run_blocks m ρ, ?_⟩
  refine (θ_run Cert.Reference29Ideal.defs _ _).mono ?_ (Cert.Reference29Ideal.Value.run (F := Ideal) m' ρ')
  intro r h c
  obtain ⟨e0, e1, e2, e3, e4⟩ := hag c
  obtain ⟨h0, hk⟩ := h c
  refine ⟨h0.trans ?_, hk⟩
  rw [Cert.Reference29Ideal.Read.val_main_v53_eq]
  repeat rw [launchContents_devRef]
  rw [e0, e1, e2, e3, e4, Cert.Reference29Ideal.Value.ref]
  exact (Cert.Kernel29Ideal.Value.arr m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel17.Frame
public import proofs.«01_k».proof.Proof.Gen.Kernel17Ideal.Frame
public import proofs.«01_k».proof.Proof.Gen.Kernel19Ideal.Value
public import proofs.«01_k».proof.Proof.Gen.Kernel20Ideal.Value
public import proofs.«01_k».proof.Proof.Gen.Kernel22Ideal.Value
public import proofs.«01_k».proof.Proof.Gen.Kernel23Ideal.Value
public import proofs.«01_k».proof.Proof.Gen.Kernel24Ideal.Value
public import proofs.«01_k».proof.Proof.Gen.Kernel19.Frame
public import proofs.«01_k».proof.Proof.Gen.Kernel20.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel26
public import proofs.«01_k».proof.Proof.Gmlp
public import proofs.«01_k».proof.Proof.Same2
public import proofs.«01_k».proof.Proof.Same3
public import proofs.«01_k».proof.Proof.Same4
public import proofs.«01_k».proof.Proof.Same5
public import proofs.«01_k».proof.Proof.Same6
public import proofs.«01_k».proof.Proof.Same7
public import proofs.«01_k».proof.Proof.Same8
public import proofs.«01_k».proof.Proof.Same9
public import proofs.«01_k».proof.Proof.Same10
public import proofs.«01_k».proof.Proof.Same11
public import proofs.«01_k».proof.Proof.Same12
public import proofs.«01_k».proof.Proof.Same13
public import proofs.«01_k».proof.Proof.Same14
public import proofs.«01_k».proof.Proof.Same15
public import proofs.«01_k».proof.Proof.Same17
public import proofs.«01_k».proof.Proof.Same19
public import proofs.«01_k».proof.Proof.Same20
public import proofs.«01_k».proof.Proof.Same22
public import proofs.«01_k».proof.Proof.Same23
public import proofs.«01_k».proof.Proof.Same24
public import proofs.«01_k».proof.Proof.Same26
public import proofs.«01_k».proof.Proof.Same27
public import proofs.«01_k».proof.Proof.Same28
public import proofs.«01_k».proof.Proof.Same29
public import Idealize.ShloMosaic.Adequacy
public import Idealize.ShloMosaic.Init

@[expose] public section

noncomputable section

namespace Cert.Proof

open Idealize.ShloMosaic Idealize.SL.Sem Cert.Kernel

/-- The two programs of the small matrices have one text, so the frame of the one is the frame of the other. -/
theorem adamw_small_matrices_frame : Cert.quiescent_Kernel26 (hKernel26 := Cert.Kernel26.Gen.facts) := by
  intro m ρ _
  refine Eq.mp ?_ (Cert.Kernel26Ideal.Whole.quiet (F := Bits) m ρ)
  sl_kernel_rfl

/-- The claims of the certificate, for each call: the three frames, that idealizing changes nothing, and that the call
    and its reference end with the same arrays over the extended reals. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel17.Gen.facts, Cert.Kernel17Ideal.Gen.facts, Cert.Reference17Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    fun m ρ _ => Cert.Kernel.Gen.frame m ρ, fun m ρ _ => Cert.KernelIdeal.Gen.frame m ρ, gmlp_reference_frame,
    fun m ρ _ => Cert.Kernel2.Gen.frame m ρ, fun m ρ _ => Cert.Kernel2Ideal.Gen.frame m ρ, d_act_reference_frame,
    fun m ρ _ => Cert.Kernel3.Gen.frame m ρ, fun m ρ _ => Cert.Kernel3Ideal.Gen.frame m ρ, dw_mlp_down_reference_frame,
    fun m ρ _ => Cert.Kernel4.Gen.frame m ρ, fun m ρ _ => Cert.Kernel4Ideal.Gen.frame m ρ, dw_mlp_up_reference_frame,
    fun m ρ _ => Cert.Kernel5.Gen.frame m ρ, fun m ρ _ => Cert.Kernel5Ideal.Gen.frame m ρ, d_hn2_reference_frame,
    fun m ρ _ => Cert.Kernel6.Gen.frame m ρ, fun m ρ _ => Cert.Kernel6Ideal.Gen.frame m ρ, in_proj_reference_frame,
    fun m ρ _ => Cert.Kernel7.Gen.frame m ρ, fun m ρ _ => Cert.Kernel7Ideal.Gen.frame m ρ, mlp_up_reference_frame,
    fun m ρ _ => Cert.Kernel8.Gen.frame m ρ, fun m ρ _ => Cert.Kernel8Ideal.Gen.frame m ρ, mlp_down_reference_frame,
    fun m ρ _ => Cert.Kernel9.Gen.frame m ρ, fun m ρ _ => Cert.Kernel9Ideal.Gen.frame m ρ, mlp_down_last_reference_frame,
    fun m ρ _ => Cert.Kernel10.Gen.frame m ρ, fun m ρ _ => Cert.Kernel10Ideal.Gen.frame m ρ, branch_reference_frame,
    fun m ρ _ => Cert.Kernel11.Gen.frame m ρ, fun m ρ _ => Cert.Kernel11Ideal.Gen.frame m ρ, dw_branch_reference_frame,
    fun m ρ _ => Cert.Kernel12.Gen.frame m ρ, fun m ρ _ => Cert.Kernel12Ideal.Gen.frame m ρ, d_y_reference_frame,
    fun m ρ _ => Cert.Kernel13.Gen.frame m ρ, fun m ρ _ => Cert.Kernel13Ideal.Gen.frame m ρ, d_merged_reference_frame,
    fun m ρ _ => Cert.Kernel14.Gen.frame m ρ, fun m ρ _ => Cert.Kernel14Ideal.Gen.frame m ρ, dw_out_reference_frame,
    fun m ρ _ => Cert.Kernel15.Gen.frame m ρ, fun m ρ _ => Cert.Kernel15Ideal.Gen.frame m ρ, out_proj_reference_frame,
    fun m ρ _ => Cert.Kernel17.Gen.frame m ρ, fun m ρ _ => Cert.Kernel17Ideal.Gen.frame m ρ, d_hn_reference_frame,
    fun m ρ _ => Cert.Kernel19.Gen.frame m ρ, fun m ρ _ => Cert.Kernel19Ideal.Gen.frame m ρ, adamw_mlp_up_reference_frame,
    fun m ρ _ => Cert.Kernel20.Gen.frame m ρ, fun m ρ _ => Cert.Kernel20Ideal.Gen.frame m ρ, adamw_mlp_down_reference_frame,
    fun m ρ _ => Cert.Kernel22.Gen.frame m ρ, fun m ρ _ => Cert.Kernel22Ideal.Gen.frame m ρ, adamw_b_gate_reference_frame,
    fun m ρ _ => Cert.Kernel23.Gen.frame m ρ, fun m ρ _ => Cert.Kernel23Ideal.Gen.frame m ρ, adamw_lru_conv_w_reference_frame,
    fun m ρ _ => Cert.Kernel24.Gen.frame m ρ, fun m ρ _ => Cert.Kernel24Ideal.Gen.frame m ρ, adamw_ssd_conv_w_reference_frame,
    adamw_small_matrices_frame, fun m ρ _ => Cert.Kernel26Ideal.Whole.quiet m ρ, adamw_small_matrices_reference_frame,
    fun m ρ _ => Cert.Kernel27.Gen.frame m ρ, fun m ρ _ => Cert.Kernel27Ideal.Gen.frame m ρ, norm_mix_reference_frame,
    fun m ρ _ => Cert.Kernel28.Gen.frame m ρ, fun m ρ _ => Cert.Kernel28Ideal.Gen.frame m ρ, merge_reference_frame,
    fun m ρ _ => Cert.Kernel29.Gen.frame m ρ, fun m ρ _ => Cert.Kernel29Ideal.Gen.frame m ρ, gmlp_forward_reference_frame,
    trivial, gmlp_same,
    trivial, d_act_same,
    trivial, dw_mlp_down_same,
    trivial, dw_mlp_up_same,
    trivial, d_hn2_same,
    trivial, in_proj_same,
    trivial, mlp_up_same,
    trivial, mlp_down_same,
    trivial, mlp_down_last_same,
    trivial, branch_same,
    trivial, dw_branch_same,
    trivial, d_y_same,
    trivial, d_merged_same,
    trivial, dw_out_same,
    trivial, out_proj_same,
    trivial, d_hn_same,
    trivial, adamw_mlp_up_same,
    trivial, adamw_mlp_down_same,
    trivial, adamw_b_gate_same,
    trivial, adamw_lru_conv_w_same,
    trivial, adamw_ssd_conv_w_same,
    trivial, adamw_small_matrices_same,
    trivial, norm_mix_same,
    trivial, merge_same,
    trivial, gmlp_forward_same⟩

end Cert.Proof

end
